-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_gates [hPre_gates : Cert.Pre_gates.Facts] (m : (ℓ : Loc Cert.SampleIdeal.nD Cert.SampleIdeal.τ Cert.SampleIdeal.sig) → Buf (Elt Ideal) ℓ) : Prop :=
  ∀ c : Dev Cert.SampleIdeal.nD,
    (Cert.Pre_gates.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_gates [hPre_gates : Cert.Pre_gates.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_gates.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleReferenceIdeal (m : (ℓ : Loc Cert.ProjectSampleReferenceIdeal.nD Cert.ProjectSampleReferenceIdeal.τ Cert.ProjectSampleReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite [hPre_finite : Cert.Pre_finite.Facts] (m : (ℓ : Loc Cert.AttendIdeal.nD Cert.AttendIdeal.τ Cert.AttendIdeal.sig) → Buf (Elt Ideal) ℓ) : Prop :=
  ∀ c : Dev Cert.AttendIdeal.nD,
    (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_finite [hPre_finite : Cert.Pre_finite.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_finite.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleIdeal_pre_gates [hSampleIdeal : Cert.SampleIdeal.Facts] [hPre_gates : Cert.Pre_gates.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_gates m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4))
      ∧ r.2.sem = fun _ => 0)

def quiescent_SampleReferenceIdeal_pre_gates [hSampleReferenceIdeal : Cert.SampleReferenceIdeal.Facts] [hPre_gates : Cert.Pre_gates.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_gates m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2)
      ∧ r.2.mem ((c.tc : Thread Cert.ProjectSample.nD Cert.ProjectSample.τ).loc Cert.ProjectSample.main_arg3) = m ((c.tc : Thread Cert.ProjectSample.nD Cert.ProjectSample.τ).loc Cert.ProjectSample.main_arg3))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
      ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3))
      ∧ r.2.sem = fun _ => 0)

def quiescent_ProjectSampleReferenceIdeal [hProjectSampleReferenceIdeal : Cert.ProjectSampleReferenceIdeal.Facts] : Prop :=
  ∀ (m : (ℓ : Loc Cert.ProjectSampleReferenceIdeal.nD Cert.ProjectSampleReferenceIdeal.τ Cert.ProjectSampleReferenceIdeal.sig) → Buf (Elt Ideal) ℓ) (g : Dev Cert.ProjectSampleReferenceIdeal.nD → PrngReg), Pre_ProjectSampleReferenceIdeal m →
    θ_run (Cert.ProjectSampleReferenceIdeal.defs (F := Ideal)) (onTc (τ := Cert.ProjectSampleReferenceIdeal.τ) (Cert.ProjectSampleReferenceIdeal.main (F := Ideal))) ⟨m, fun _ => 0, g⟩ (fun r => (∀ c : Dev Cert.ProjectSampleReferenceIdeal.nD,
      r.2.mem ((c.tc : Thread Cert.ProjectSampleReferenceIdeal.nD Cert.ProjectSampleReferenceIdeal.τ).loc Cert.ProjectSampleReferenceIdeal.main_arg0) = m ((c.tc : Thread Cert.ProjectSampleReferenceIdeal.nD Cert.ProjectSampleReferenceIdeal.τ).loc Cert.ProjectSampleReferenceIdeal.main_arg0)
      ∧ r.2.mem ((c.tc : Thread Cert.ProjectSampleReferenceIdeal.nD Cert.ProjectSampleReferenceIdeal.τ).loc Cert.ProjectSampleReferenceIdeal.main_arg1) = m ((c.tc : Thread Cert.ProjectSampleReferenceIdeal.nD Cert.ProjectSampleReferenceIdeal.τ).loc Cert.ProjectSampleReferenceIdeal.main_arg1)
      ∧ r.2.mem ((c.tc : Thread Cert.ProjectSampleReferenceIdeal.nD Cert.ProjectSampleReferenceIdeal.τ).loc Cert.ProjectSampleReferenceIdeal.main_arg2) = m ((c.tc : Thread Cert.ProjectSampleReferenceIdeal.nD Cert.ProjectSampleReferenceIdeal.τ).loc Cert.ProjectSampleReferenceIdeal.main_arg2)
      ∧ r.2.mem ((c.tc : Thread Cert.ProjectSampleReferenceIdeal.nD Cert.ProjectSampleReferenceIdeal.τ).loc Cert.ProjectSampleReferenceIdeal.main_arg3) = m ((c.tc : Thread Cert.ProjectSampleReferenceIdeal.nD Cert.ProjectSampleReferenceIdeal.τ).loc Cert.ProjectSampleReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendIdeal_pre_finite [hAttendIdeal : Cert.AttendIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2))
      ∧ r.2.sem = fun _ => 0)

def quiescent_AttendReferenceIdeal_pre_finite [hAttendReferenceIdeal : Cert.AttendReferenceIdeal.Facts] [hPre_finite : Cert.Pre_finite.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_finite m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sample_SampleIdeal : Prop :=
  True

def algebraic_SampleIdeal_SampleReferenceIdeal_pre_gates [hSampleIdeal : Cert.SampleIdeal.Facts] [hSampleReferenceIdeal : Cert.SampleReferenceIdeal.Facts] [hPre_gates : Cert.Pre_gates.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal_gates m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v10_0)) (v1 : (c : Dev Cert.SampleIdeal.nD) → Buf (Elt Ideal) ((c.tc : Thread Cert.SampleIdeal.nD Cert.SampleIdeal.τ).loc Cert.SampleIdeal.main_v10_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v10_0) = v0 c
          ∧ r.2.mem ((c.tc : Thread Cert.SampleIdeal.nD Cert.SampleIdeal.τ).loc Cert.SampleIdeal.main_v10_1) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v21) = v0 c
          ∧ r.2.mem ((c.tc : Thread Cert.SampleReferenceIdeal.nD Cert.SampleReferenceIdeal.τ).loc Cert.SampleReferenceIdeal.main_v22) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v11_0)) (v1 : (c : Dev Cert.ProjectIdeal.nD) → Buf (Elt Ideal) ((c.tc : Thread Cert.ProjectIdeal.nD Cert.ProjectIdeal.τ).loc Cert.ProjectIdeal.main_v11_1)) (v2 : (c : Dev Cert.ProjectIdeal.nD) → Buf (Elt Ideal) ((c.tc : Thread Cert.ProjectIdeal.nD Cert.ProjectIdeal.τ).loc Cert.ProjectIdeal.main_v11_2)) (v3 : (c : Dev Cert.ProjectIdeal.nD) → Buf (Elt Ideal) ((c.tc : Thread Cert.ProjectIdeal.nD Cert.ProjectIdeal.τ).loc Cert.ProjectIdeal.main_v11_3)) (v4 : (c : Dev Cert.ProjectIdeal.nD) → Buf (Elt Ideal) ((c.tc : Thread Cert.ProjectIdeal.nD Cert.ProjectIdeal.τ).loc Cert.ProjectIdeal.main_v11_4)) (v5 : (c : Dev Cert.ProjectIdeal.nD) → Buf (Elt Ideal) ((c.tc : Thread Cert.ProjectIdeal.nD Cert.ProjectIdeal.τ).loc Cert.ProjectIdeal.main_v11_5)) (v6 : (c : Dev Cert.ProjectIdeal.nD) → Buf (Elt Ideal) ((c.tc : Thread Cert.ProjectIdeal.nD Cert.ProjectIdeal.τ).loc Cert.ProjectIdeal.main_v11_6)) (v7 : (c : Dev Cert.ProjectIdeal.nD) → Buf (Elt Ideal) ((c.tc : Thread Cert.ProjectIdeal.nD Cert.ProjectIdeal.τ).loc Cert.ProjectIdeal.main_v11_7)) (v8 : (c : Dev Cert.ProjectIdeal.nD) → Buf (Elt Ideal) ((c.tc : Thread Cert.ProjectIdeal.nD Cert.ProjectIdeal.τ).loc Cert.ProjectIdeal.main_v11_8)) (v9 : (c : Dev Cert.ProjectIdeal.nD) → Buf (Elt Ideal) ((c.tc : Thread Cert.ProjectIdeal.nD Cert.ProjectIdeal.τ).loc Cert.ProjectIdeal.main_v11_9)) (v10 : (c : Dev Cert.ProjectIdeal.nD) → Buf (Elt Ideal) ((c.tc : Thread Cert.ProjectIdeal.nD Cert.ProjectIdeal.τ).loc Cert.ProjectIdeal.main_v11_10)) (v11 : (c : Dev Cert.ProjectIdeal.nD) → Buf (Elt Ideal) ((c.tc : Thread Cert.ProjectIdeal.nD Cert.ProjectIdeal.τ).loc Cert.ProjectIdeal.main_v11_11)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v11_0) = v0 c
          ∧ r.2.mem ((c.tc : Thread Cert.ProjectIdeal.nD Cert.ProjectIdeal.τ).loc Cert.ProjectIdeal.main_v11_1) = v1 c
          ∧ r.2.mem ((c.tc : Thread Cert.ProjectIdeal.nD Cert.ProjectIdeal.τ).loc Cert.ProjectIdeal.main_v11_2) = v2 c
          ∧ r.2.mem ((c.tc : Thread Cert.ProjectIdeal.nD Cert.ProjectIdeal.τ).loc Cert.ProjectIdeal.main_v11_3) = v3 c
          ∧ r.2.mem ((c.tc : Thread Cert.ProjectIdeal.nD Cert.ProjectIdeal.τ).loc Cert.ProjectIdeal.main_v11_4) = v4 c
          ∧ r.2.mem ((c.tc : Thread Cert.ProjectIdeal.nD Cert.ProjectIdeal.τ).loc Cert.ProjectIdeal.main_v11_5) = v5 c
          ∧ r.2.mem ((c.tc : Thread Cert.ProjectIdeal.nD Cert.ProjectIdeal.τ).loc Cert.ProjectIdeal.main_v11_6) = v6 c
          ∧ r.2.mem ((c.tc : Thread Cert.ProjectIdeal.nD Cert.ProjectIdeal.τ).loc Cert.ProjectIdeal.main_v11_7) = v7 c
          ∧ r.2.mem ((c.tc : Thread Cert.ProjectIdeal.nD Cert.ProjectIdeal.τ).loc Cert.ProjectIdeal.main_v11_8) = v8 c
          ∧ r.2.mem ((c.tc : Thread Cert.ProjectIdeal.nD Cert.ProjectIdeal.τ).loc Cert.ProjectIdeal.main_v11_9) = v9 c
          ∧ r.2.mem ((c.tc : Thread Cert.ProjectIdeal.nD Cert.ProjectIdeal.τ).loc Cert.ProjectIdeal.main_v11_10) = v10 c
          ∧ r.2.mem ((c.tc : Thread Cert.ProjectIdeal.nD Cert.ProjectIdeal.τ).loc Cert.ProjectIdeal.main_v11_11) = v11 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v22) = v0 c
          ∧ r.2.mem ((c.tc : Thread Cert.ProjectReferenceIdeal.nD Cert.ProjectReferenceIdeal.τ).loc Cert.ProjectReferenceIdeal.main_v24) = v1 c
          ∧ r.2.mem ((c.tc : Thread Cert.ProjectReferenceIdeal.nD Cert.ProjectReferenceIdeal.τ).loc Cert.ProjectReferenceIdeal.main_v26) = v2 c
          ∧ r.2.mem ((c.tc : Thread Cert.ProjectReferenceIdeal.nD Cert.ProjectReferenceIdeal.τ).loc Cert.ProjectReferenceIdeal.main_v27) = v3 c
          ∧ r.2.mem ((c.tc : Thread Cert.ProjectReferenceIdeal.nD Cert.ProjectReferenceIdeal.τ).loc Cert.ProjectReferenceIdeal.main_v28) = v4 c
          ∧ r.2.mem ((c.tc : Thread Cert.ProjectReferenceIdeal.nD Cert.ProjectReferenceIdeal.τ).loc Cert.ProjectReferenceIdeal.main_v31) = v5 c
          ∧ r.2.mem ((c.tc : Thread Cert.ProjectReferenceIdeal.nD Cert.ProjectReferenceIdeal.τ).loc Cert.ProjectReferenceIdeal.main_v32) = v6 c
          ∧ r.2.mem ((c.tc : Thread Cert.ProjectReferenceIdeal.nD Cert.ProjectReferenceIdeal.τ).loc Cert.ProjectReferenceIdeal.main_v34) = v7 c
          ∧ r.2.mem ((c.tc : Thread Cert.ProjectReferenceIdeal.nD Cert.ProjectReferenceIdeal.τ).loc Cert.ProjectReferenceIdeal.main_v35) = v8 c
          ∧ r.2.mem ((c.tc : Thread Cert.ProjectReferenceIdeal.nD Cert.ProjectReferenceIdeal.τ).loc Cert.ProjectReferenceIdeal.main_v38) = v9 c
          ∧ r.2.mem ((c.tc : Thread Cert.ProjectReferenceIdeal.nD Cert.ProjectReferenceIdeal.τ).loc Cert.ProjectReferenceIdeal.main_v46) = v10 c
          ∧ r.2.mem ((c.tc : Thread Cert.ProjectReferenceIdeal.nD Cert.ProjectReferenceIdeal.τ).loc Cert.ProjectReferenceIdeal.main_v54) = v11 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_ProjectSample_ProjectSampleIdeal : Prop :=
  True

def algebraic_ProjectSampleIdeal_ProjectSampleReferenceIdeal [hProjectSampleIdeal : Cert.ProjectSampleIdeal.Facts] [hProjectSampleReferenceIdeal : Cert.ProjectSampleReferenceIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleReferenceIdeal.nD Cert.ProjectSampleReferenceIdeal.τ Cert.ProjectSampleReferenceIdeal.sig) → Buf (Elt Ideal) ℓ) (g' : Dev Cert.ProjectSampleReferenceIdeal.nD → PrngReg), Pre_ProjectSampleIdeal m →
    (∀ c : Dev Cert.ProjectSampleIdeal.nD,
      m' ((c.tc : Thread Cert.ProjectSampleReferenceIdeal.nD Cert.ProjectSampleReferenceIdeal.τ).loc Cert.ProjectSampleReferenceIdeal.main_arg0) = m ((c.tc : Thread Cert.ProjectSampleIdeal.nD Cert.ProjectSampleIdeal.τ).loc Cert.ProjectSampleIdeal.main_arg0)
      ∧ m' ((c.tc : Thread Cert.ProjectSampleReferenceIdeal.nD Cert.ProjectSampleReferenceIdeal.τ).loc Cert.ProjectSampleReferenceIdeal.main_arg1) = m ((c.tc : Thread Cert.ProjectSampleIdeal.nD Cert.ProjectSampleIdeal.τ).loc Cert.ProjectSampleIdeal.main_arg1)
      ∧ m' ((c.tc : Thread Cert.ProjectSampleReferenceIdeal.nD Cert.ProjectSampleReferenceIdeal.τ).loc Cert.ProjectSampleReferenceIdeal.main_arg2) = m ((c.tc : Thread Cert.ProjectSampleIdeal.nD Cert.ProjectSampleIdeal.τ).loc Cert.ProjectSampleIdeal.main_arg2)
      ∧ m' ((c.tc : Thread Cert.ProjectSampleReferenceIdeal.nD Cert.ProjectSampleReferenceIdeal.τ).loc Cert.ProjectSampleReferenceIdeal.main_arg3) = m ((c.tc : Thread Cert.ProjectSampleIdeal.nD Cert.ProjectSampleIdeal.τ).loc Cert.ProjectSampleIdeal.main_arg3)) →
    ∃ (v0 : (c : Dev Cert.ProjectSampleIdeal.nD) → Buf (Elt Ideal) ((c.tc : Thread Cert.ProjectSampleIdeal.nD Cert.ProjectSampleIdeal.τ).loc Cert.ProjectSampleIdeal.main_v10_0)) (v1 : (c : Dev Cert.ProjectSampleIdeal.nD) → Buf (Elt Ideal) ((c.tc : Thread Cert.ProjectSampleIdeal.nD Cert.ProjectSampleIdeal.τ).loc Cert.ProjectSampleIdeal.main_v10_1)) (v2 : (c : Dev Cert.ProjectSampleIdeal.nD) → Buf (Elt Ideal) ((c.tc : Thread Cert.ProjectSampleIdeal.nD Cert.ProjectSampleIdeal.τ).loc Cert.ProjectSampleIdeal.main_v10_2)) (v3 : (c : Dev Cert.ProjectSampleIdeal.nD) → Buf (Elt Ideal) ((c.tc : Thread Cert.ProjectSampleIdeal.nD Cert.ProjectSampleIdeal.τ).loc Cert.ProjectSampleIdeal.main_v10_3)) (v4 : (c : Dev Cert.ProjectSampleIdeal.nD) → Buf (Elt Ideal) ((c.tc : Thread Cert.ProjectSampleIdeal.nD Cert.ProjectSampleIdeal.τ).loc Cert.ProjectSampleIdeal.main_v10_4)) (v5 : (c : Dev Cert.ProjectSampleIdeal.nD) → Buf (Elt Ideal) ((c.tc : Thread Cert.ProjectSampleIdeal.nD Cert.ProjectSampleIdeal.τ).loc Cert.ProjectSampleIdeal.main_v10_5)) (v6 : (c : Dev Cert.ProjectSampleIdeal.nD) → Buf (Elt Ideal) ((c.tc : Thread Cert.ProjectSampleIdeal.nD Cert.ProjectSampleIdeal.τ).loc Cert.ProjectSampleIdeal.main_v10_6)) (v7 : (c : Dev Cert.ProjectSampleIdeal.nD) → Buf (Elt Ideal) ((c.tc : Thread Cert.ProjectSampleIdeal.nD Cert.ProjectSampleIdeal.τ).loc Cert.ProjectSampleIdeal.main_v10_7)) (v8 : (c : Dev Cert.ProjectSampleIdeal.nD) → Buf (Elt Ideal) ((c.tc : Thread Cert.ProjectSampleIdeal.nD Cert.ProjectSampleIdeal.τ).loc Cert.ProjectSampleIdeal.main_v10_8)) (v9 : (c : Dev Cert.ProjectSampleIdeal.nD) → Buf (Elt Ideal) ((c.tc : Thread Cert.ProjectSampleIdeal.nD Cert.ProjectSampleIdeal.τ).loc Cert.ProjectSampleIdeal.main_v10_9)) (v10 : (c : Dev Cert.ProjectSampleIdeal.nD) → Buf (Elt Ideal) ((c.tc : Thread Cert.ProjectSampleIdeal.nD Cert.ProjectSampleIdeal.τ).loc Cert.ProjectSampleIdeal.main_v10_10)) (v11 : (c : Dev Cert.ProjectSampleIdeal.nD) → Buf (Elt Ideal) ((c.tc : Thread Cert.ProjectSampleIdeal.nD Cert.ProjectSampleIdeal.τ).loc Cert.ProjectSampleIdeal.main_v10_11)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v10_0) = v0 c
          ∧ r.2.mem ((c.tc : Thread Cert.ProjectSampleIdeal.nD Cert.ProjectSampleIdeal.τ).loc Cert.ProjectSampleIdeal.main_v10_1) = v1 c
          ∧ r.2.mem ((c.tc : Thread Cert.ProjectSampleIdeal.nD Cert.ProjectSampleIdeal.τ).loc Cert.ProjectSampleIdeal.main_v10_2) = v2 c
          ∧ r.2.mem ((c.tc : Thread Cert.ProjectSampleIdeal.nD Cert.ProjectSampleIdeal.τ).loc Cert.ProjectSampleIdeal.main_v10_3) = v3 c
          ∧ r.2.mem ((c.tc : Thread Cert.ProjectSampleIdeal.nD Cert.ProjectSampleIdeal.τ).loc Cert.ProjectSampleIdeal.main_v10_4) = v4 c
          ∧ r.2.mem ((c.tc : Thread Cert.ProjectSampleIdeal.nD Cert.ProjectSampleIdeal.τ).loc Cert.ProjectSampleIdeal.main_v10_5) = v5 c
          ∧ r.2.mem ((c.tc : Thread Cert.ProjectSampleIdeal.nD Cert.ProjectSampleIdeal.τ).loc Cert.ProjectSampleIdeal.main_v10_6) = v6 c
          ∧ r.2.mem ((c.tc : Thread Cert.ProjectSampleIdeal.nD Cert.ProjectSampleIdeal.τ).loc Cert.ProjectSampleIdeal.main_v10_7) = v7 c
          ∧ r.2.mem ((c.tc : Thread Cert.ProjectSampleIdeal.nD Cert.ProjectSampleIdeal.τ).loc Cert.ProjectSampleIdeal.main_v10_8) = v8 c
          ∧ r.2.mem ((c.tc : Thread Cert.ProjectSampleIdeal.nD Cert.ProjectSampleIdeal.τ).loc Cert.ProjectSampleIdeal.main_v10_9) = v9 c
          ∧ r.2.mem ((c.tc : Thread Cert.ProjectSampleIdeal.nD Cert.ProjectSampleIdeal.τ).loc Cert.ProjectSampleIdeal.main_v10_10) = v10 c
          ∧ r.2.mem ((c.tc : Thread Cert.ProjectSampleIdeal.nD Cert.ProjectSampleIdeal.τ).loc Cert.ProjectSampleIdeal.main_v10_11) = v11 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
          ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3))
      ∧ θ_run (Cert.ProjectSampleReferenceIdeal.defs (F := Ideal)) (onTc (τ := Cert.ProjectSampleReferenceIdeal.τ) (Cert.ProjectSampleReferenceIdeal.main (F := Ideal))) ⟨m', fun _ => 0, g'⟩ (fun r => ∀ c : Dev Cert.ProjectSampleReferenceIdeal.nD,
          r.2.mem ((c.tc : Thread Cert.ProjectSampleReferenceIdeal.nD Cert.ProjectSampleReferenceIdeal.τ).loc Cert.ProjectSampleReferenceIdeal.main_v21) = v0 c
          ∧ r.2.mem ((c.tc : Thread Cert.ProjectSampleReferenceIdeal.nD Cert.ProjectSampleReferenceIdeal.τ).loc Cert.ProjectSampleReferenceIdeal.main_v23) = v1 c
          ∧ r.2.mem ((c.tc : Thread Cert.ProjectSampleReferenceIdeal.nD Cert.ProjectSampleReferenceIdeal.τ).loc Cert.ProjectSampleReferenceIdeal.main_v25) = v2 c
          ∧ r.2.mem ((c.tc : Thread Cert.ProjectSampleReferenceIdeal.nD Cert.ProjectSampleReferenceIdeal.τ).loc Cert.ProjectSampleReferenceIdeal.main_v26) = v3 c
          ∧ r.2.mem ((c.tc : Thread Cert.ProjectSampleReferenceIdeal.nD Cert.ProjectSampleReferenceIdeal.τ).loc Cert.ProjectSampleReferenceIdeal.main_v27) = v4 c
          ∧ r.2.mem ((c.tc : Thread Cert.ProjectSampleReferenceIdeal.nD Cert.ProjectSampleReferenceIdeal.τ).loc Cert.ProjectSampleReferenceIdeal.main_v30) = v5 c
          ∧ r.2.mem ((c.tc : Thread Cert.ProjectSampleReferenceIdeal.nD Cert.ProjectSampleReferenceIdeal.τ).loc Cert.ProjectSampleReferenceIdeal.main_v31) = v6 c
          ∧ r.2.mem ((c.tc : Thread Cert.ProjectSampleReferenceIdeal.nD Cert.ProjectSampleReferenceIdeal.τ).loc Cert.ProjectSampleReferenceIdeal.main_v33) = v7 c
          ∧ r.2.mem ((c.tc : Thread Cert.ProjectSampleReferenceIdeal.nD Cert.ProjectSampleReferenceIdeal.τ).loc Cert.ProjectSampleReferenceIdeal.main_v34) = v8 c
          ∧ r.2.mem ((c.tc : Thread Cert.ProjectSampleReferenceIdeal.nD Cert.ProjectSampleReferenceIdeal.τ).loc Cert.ProjectSampleReferenceIdeal.main_v37) = v9 c
          ∧ r.2.mem ((c.tc : Thread Cert.ProjectSampleReferenceIdeal.nD Cert.ProjectSampleReferenceIdeal.τ).loc Cert.ProjectSampleReferenceIdeal.main_v45) = v10 c
          ∧ r.2.mem ((c.tc : Thread Cert.ProjectSampleReferenceIdeal.nD Cert.ProjectSampleReferenceIdeal.τ).loc Cert.ProjectSampleReferenceIdeal.main_v53) = v11 c
          ∧ r.2.mem ((c.tc : Thread Cert.ProjectSampleReferenceIdeal.nD Cert.ProjectSampleReferenceIdeal.τ).loc Cert.ProjectSampleReferenceIdeal.main_arg0) = m' ((c.tc : Thread Cert.ProjectSampleReferenceIdeal.nD Cert.ProjectSampleReferenceIdeal.τ).loc Cert.ProjectSampleReferenceIdeal.main_arg0)
          ∧ r.2.mem ((c.tc : Thread Cert.ProjectSampleReferenceIdeal.nD Cert.ProjectSampleReferenceIdeal.τ).loc Cert.ProjectSampleReferenceIdeal.main_arg1) = m' ((c.tc : Thread Cert.ProjectSampleReferenceIdeal.nD Cert.ProjectSampleReferenceIdeal.τ).loc Cert.ProjectSampleReferenceIdeal.main_arg1)
          ∧ r.2.mem ((c.tc : Thread Cert.ProjectSampleReferenceIdeal.nD Cert.ProjectSampleReferenceIdeal.τ).loc Cert.ProjectSampleReferenceIdeal.main_arg2) = m' ((c.tc : Thread Cert.ProjectSampleReferenceIdeal.nD Cert.ProjectSampleReferenceIdeal.τ).loc Cert.ProjectSampleReferenceIdeal.main_arg2)
          ∧ r.2.mem ((c.tc : Thread Cert.ProjectSampleReferenceIdeal.nD Cert.ProjectSampleReferenceIdeal.τ).loc Cert.ProjectSampleReferenceIdeal.main_arg3) = m' ((c.tc : Thread Cert.ProjectSampleReferenceIdeal.nD Cert.ProjectSampleReferenceIdeal.τ).loc Cert.ProjectSampleReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v41)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v41) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v68) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Attend_AttendIdeal : Prop :=
  IdealRules.named_const.Statement Cert.AttendIdeal.κ "zero_below" .f32 0xC2D00000#32 ⊥

def algebraic_AttendIdeal_AttendReferenceIdeal_pre_finite [hAttendIdeal : Cert.AttendIdeal.Facts] [hAttendReferenceIdeal : Cert.AttendReferenceIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_finite m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v11)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v11) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v24) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleReferenceIdeal : Cert.SampleReferenceIdeal.Facts) (hProject : Cert.Project.Facts) (hProjectIdeal : Cert.ProjectIdeal.Facts) (hProjectReferenceIdeal : Cert.ProjectReferenceIdeal.Facts) (hProjectSample : Cert.ProjectSample.Facts) (hProjectSampleIdeal : Cert.ProjectSampleIdeal.Facts) (hProjectSampleReferenceIdeal : Cert.ProjectSampleReferenceIdeal.Facts) (hMerge : Cert.Merge.Facts) (hMergeIdeal : Cert.MergeIdeal.Facts) (hMergeReferenceIdeal : Cert.MergeReferenceIdeal.Facts) (hAttend : Cert.Attend.Facts) (hAttendIdeal : Cert.AttendIdeal.Facts) (hAttendReferenceIdeal : Cert.AttendReferenceIdeal.Facts) (hPre_finite_gates : Cert.Pre_finite_gates.Facts) (hPre_gates : Cert.Pre_gates.Facts) (hPre_finite : Cert.Pre_finite.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Sample (hSample := hSample)
    ∧ quiescent_SampleIdeal (hSampleIdeal := hSampleIdeal)
    ∧ quiescent_SampleIdeal_pre_gates (hSampleIdeal := hSampleIdeal) (hPre_gates := hPre_gates)
    ∧ quiescent_SampleReferenceIdeal (hSampleReferenceIdeal := hSampleReferenceIdeal)
    ∧ quiescent_SampleReferenceIdeal_pre_gates (hSampleReferenceIdeal := hSampleReferenceIdeal) (hPre_gates := hPre_gates)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectSample (hProjectSample := hProjectSample)
    ∧ quiescent_ProjectSampleIdeal (hProjectSampleIdeal := hProjectSampleIdeal)
    ∧ quiescent_ProjectSampleReferenceIdeal (hProjectSampleReferenceIdeal := hProjectSampleReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Attend (hAttend := hAttend)
    ∧ quiescent_AttendIdeal (hAttendIdeal := hAttendIdeal)
    ∧ quiescent_AttendIdeal_pre_finite (hAttendIdeal := hAttendIdeal) (hPre_finite := hPre_finite)
    ∧ quiescent_AttendReferenceIdeal (hAttendReferenceIdeal := hAttendReferenceIdeal)
    ∧ quiescent_AttendReferenceIdeal_pre_finite (hAttendReferenceIdeal := hAttendReferenceIdeal) (hPre_finite := hPre_finite)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Sample_SampleIdeal
    ∧ algebraic_SampleIdeal_SampleReferenceIdeal_pre_gates (hSampleIdeal := hSampleIdeal) (hSampleReferenceIdeal := hSampleReferenceIdeal) (hPre_gates := hPre_gates)
    ∧ preserves_Project_ProjectIdeal
    ∧ algebraic_ProjectIdeal_ProjectReferenceIdeal (hProjectIdeal := hProjectIdeal) (hProjectReferenceIdeal := hProjectReferenceIdeal)
    ∧ preserves_ProjectSample_ProjectSampleIdeal
    ∧ algebraic_ProjectSampleIdeal_ProjectSampleReferenceIdeal (hProjectSampleIdeal := hProjectSampleIdeal) (hProjectSampleReferenceIdeal := hProjectSampleReferenceIdeal)
    ∧ preserves_Merge_MergeIdeal
    ∧ algebraic_MergeIdeal_MergeReferenceIdeal (hMergeIdeal := hMergeIdeal) (hMergeReferenceIdeal := hMergeReferenceIdeal)
    ∧ preserves_Attend_AttendIdeal
    ∧ algebraic_AttendIdeal_AttendReferenceIdeal_pre_finite (hAttendIdeal := hAttendIdeal) (hAttendReferenceIdeal := hAttendReferenceIdeal) (hPre_finite := hPre_finite)
-- ==== Pre_finite.lean ====
abbrev S8x8208x8x64 : Shape := ⟨4, ![8, 8208, 8, 64]⟩
abbrev S_ : Shape := ⟨0, ![]⟩

class Facts : Prop where
  bcast_S_S8x8208x8x64 : S_.BroadcastsInDim S8x8208x8x64 (![] : Fin 0 → Fin S8x8208x8x64.rank)

variable [Facts]

def fn {F : FTy → Type} [FloatOps F] (main_arg0 : FVec F S8x8208x8x64 .f32) (main_arg1 : FVec F S8x8208x8x64 .f32) (main_arg2 : FVec F S8x8208x8x64 .f32) : IVec S8x8208x8x64 1 :=
  let main_v0 : FVec F S8x8208x8x64 .f32 := Host.absf main_arg0
  let main_cst : FVec F S_ .f32 := constant S_ .f32 0x7F800000#32
  let main_v1 : FVec F S8x8208x8x64 .f32 := broadcastInDim S8x8208x8x64 ![] bcast_S_S8x8208x8x64 main_cst
  let main_v2 : IVec S8x8208x8x64 1 := cmpf .olt main_v0 main_v1
  let main_v3 : FVec F S8x8208x8x64 .f32 := Host.absf main_arg1
  let main_cst_0 : FVec F S_ .f32 := constant S_ .f32 0x7F800000#32
  let main_v4 : FVec F S8x8208x8x64 .f32 := broadcastInDim S8x8208x8x64 ![] bcast_S_S8x8208x8x64 main_cst_0
  let main_v5 : IVec S8x8208x8x64 1 := cmpf .olt main_v3 main_v4
  let main_v6 : IVec S8x8208x8x64 1 := andi main_v2 main_v5
  main_v6
-- ==== Pre_finite_gates.lean ====
abbrev S8x8208x4x128 : Shape := ⟨4, ![8, 8208, 4, 128]⟩
abbrev S8x8208x4x256 : Shape := ⟨4, ![8, 8208, 4, 256]⟩
abbrev S_ : Shape := ⟨0, ![]⟩

class Facts : Prop where
  slices_S8x8208x4x256_S8x8208x4x128_0_0_0_0 : S8x8208x4x256.Slices ![0, 0, 0, 0] S8x8208x4x128
  bcast_S_S8x8208x4x128 : S_.BroadcastsInDim S8x8208x4x128 (![] : Fin 0 → Fin S8x8208x4x128.rank)
  slices_S8x8208x4x256_S8x8208x4x128_0_0_0_128 : S8x8208x4x256.Slices ![0, 0, 0, 128] S8x8208x4x128

variable [Facts]

def fn_part1 {F : FTy → Type} [FloatOps F] (main_arg3 : FVec F S8x8208x4x128 .f32) (main_v16 : IVec S8x8208x4x128 1) (main_v17 : FVec F S8x8208x4x128 .f32) (main_v18 : FVec F S8x8208x4x128 .f32) : IVec S8x8208x4x128 1 :=
  let main_v19 : IVec S8x8208x4x128 1 := cmpf .olt main_v17 main_v18
  let main_v20 : IVec S8x8208x4x128 1 := andi main_v16 main_v19
  let main_cst_4 : FVec F S_ .f32 := constant S_ .f32 0x00000000#32
  let main_v21 : FVec F S8x8208x4x128 .f32 := broadcastInDim S8x8208x4x128 ![] bcast_S_S8x8208x4x128 main_cst_4
  let main_v22 : IVec S8x8208x4x128 1 := cmpf .ole main_arg3 main_v21
  let main_v23 : IVec S8x8208x4x128 1 := andi main_v20 main_v22
  main_v23

def fn {F : FTy → Type} [FloatOps F] (main_arg0 : FVec F S8x8208x4x128 .f32) (main_arg1 : FVec F S8x8208x4x128 .f32) (main_arg2 : FVec F S8x8208x4x256 .f32) (main_arg3 : FVec F S8x8208x4x128 .f32) : IVec S8x8208x4x128 1 :=
  let main_v0 : FVec F S8x8208x4x128 .f32 := (extractStridedSlice S8x8208x4x128 ![0, 0, 0, 0] · slices_S8x8208x4x256_S8x8208x4x128_0_0_0_0) main_arg2
  let main_v1 : FVec F S8x8208x4x128 .f32 := Host.absf main_v0
  let main_cst : FVec F S_ .f32 := constant S_ .f32 0x7F800000#32
  let main_v2 : FVec F S8x8208x4x128 .f32 := broadcastInDim S8x8208x4x128 ![] bcast_S_S8x8208x4x128 main_cst
  let main_v3 : IVec S8x8208x4x128 1 := cmpf .olt main_v1 main_v2
  let main_v4 : FVec F S8x8208x4x128 .f32 := (extractStridedSlice S8x8208x4x128 ![0, 0, 0, 128] · slices_S8x8208x4x256_S8x8208x4x128_0_0_0_128) main_arg2
  let main_v5 : FVec F S8x8208x4x128 .f32 := Host.absf main_v4
  let main_cst_0 : FVec F S_ .f32 := constant S_ .f32 0x7F800000#32
  let main_v6 : FVec F S8x8208x4x128 .f32 := broadcastInDim S8x8208x4x128 ![] bcast_S_S8x8208x4x128 main_cst_0
  let main_v7 : IVec S8x8208x4x128 1 := cmpf .olt main_v5 main_v6
  let main_v8 : IVec S8x8208x4x128 1 := andi main_v3 main_v7
  let main_v9 : FVec F S8x8208x4x128 .f32 := Host.absf main_arg0
  let main_cst_1 : FVec F S_ .f32 := constant S_ .f32 0x7F800000#32
  let main_v10 : FVec F S8x8208x4x128 .f32 := broadcastInDim S8x8208x4x128 ![] bcast_S_S8x8208x4x128 main_cst_1
  let main_v11 : IVec S8x8208x4x128 1 := cmpf .olt main_v9 main_v10
  let main_v12 : FVec F S8x8208x4x128 .f32 := Host.absf main_arg1
  let main_cst_2 : FVec F S_ .f32 := constant S_ .f32 0x7F800000#32
  let main_v13 : FVec F S8x8208x4x128 .f32 := broadcastInDim S8x8208x4x128 ![] bcast_S_S8x8208x4x128 main_cst_2
  let main_v14 : IVec S8x8208x4x128 1 := cmpf .olt main_v12 main_v13
  let main_v15 : IVec S8x8208x4x128 1 := andi main_v11 main_v14
  let main_v16 : IVec S8x8208x4x128 1 := andi main_v15 main_v8
  let main_v17 : FVec F S8x8208x4x128 .f32 := Host.absf main_arg3
  let main_cst_3 : FVec F S_ .f32 := constant S_ .f32 0x7F800000#32
  let main_v18 : FVec F S8x8208x4x128 .f32 := broadcastInDim S8x8208x4x128 ![] bcast_S_S8x8208x4x128 main_cst_3
  fn_part1 (F := F) main_arg3 main_v16 main_v17 main_v18
-- ==== Pre_gates.lean ====
abbrev S8x16x4x128 : Shape := ⟨4, ![8, 16, 4, 128]⟩
abbrev S8x16x4x256 : Shape := ⟨4, ![8, 16, 4, 256]⟩
abbrev S8x4x128x256 : Shape := ⟨4, ![8, 4, 128, 256]⟩
abbrev S_ : Shape := ⟨0, ![]⟩

class Facts : Prop where
  bcast_S_S8x16x4x128 : S_.BroadcastsInDim S8x16x4x128 (![] : Fin 0 → Fin S8x16x4x128.rank)

variable [Facts]

def fn {F : FTy → Type} [FloatOps F] (main_arg0 : FVec F S8x16x4x128 .f32) (main_arg1 : FVec F S8x16x4x128 .f32) (main_arg2 : FVec F S8x16x4x256 .f32) (main_arg3 : FVec F S8x16x4x128 .f32) (main_arg4 : FVec F S8x4x128x256 .f32) : IVec S8x16x4x128 1 :=
  let main_cst : FVec F S_ .f32 := constant S_ .f32 0xFF800000#32
  let main_v0 : FVec F S8x16x4x128 .f32 := broadcastInDim S8x16x4x128 ![] bcast_S_S8x16x4x128 main_cst
  let main_v1 : IVec S8x16x4x128 1 := cmpf .ogt main_arg3 main_v0
  let main_cst_0 : FVec F S_ .f32 := constant S_ .f32 0x00000000#32
  let main_v2 : FVec F S8x16x4x128 .f32 := broadcastInDim S8x16x4x128 ![] bcast_S_S8x16x4x128 main_cst_0
  let main_v3 : IVec S8x16x4x128 1 := cmpf .ole main_arg3 main_v2
  let main_v4 : IVec S8x16x4x128 1 := andi main_v1 main_v3
  main_v4
-- ==== Kernel.lean ====
abbrev S8x8208x4x128 : Shape := ⟨4, ![8, 8208, 4, 128]⟩
abbrev S8x8208x4x256 : Shape := ⟨4, ![8, 8208, 4, 256]⟩
abbrev S_ : Shape := ⟨0, ![]⟩
abbrev S8x4x256x128 : Shape := ⟨4, ![8, 4, 256, 128]⟩
abbrev S8x8208x512 : Shape := ⟨3, ![8, 8208, 512]⟩
abbrev S8x8320x512 : Shape := ⟨3, ![8, 8320, 512]⟩
abbrev S8x8208x1024 : Shape := ⟨3, ![8, 8208, 1024]⟩
abbrev S8x8320x1024 : Shape := ⟨3, ![8, 8320, 1024]⟩
abbrev S1x128x512 : Shape := ⟨3, ![1, 128, 512]⟩
abbrev S1x128x1024 : Shape := ⟨3, ![1, 128, 1024]⟩
abbrev S1x4x256x128 : Shape := ⟨4, ![1, 4, 256, 128]⟩
abbrev S128x128 : Shape := ⟨2, ![128, 128]⟩
abbrev S1x128x128 : Shape := ⟨3, ![1, 128, 128]⟩
abbrev S1x1x256x128 : Shape := ⟨4, ![1, 1, 256, 128]⟩
abbrev S256x128 : Shape := ⟨2, ![256, 128]⟩
abbrev S128x256 : Shape := ⟨2, ![128, 256]⟩
abbrev S1x128 : Shape := ⟨2, ![1, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S1x128x256 : Shape := ⟨3, ![1, 128, 256]⟩

abbrev nBuf : Space → Nat
  | .hbm => 25
  | .vmem => 14
  | .smem => 0
  | _ => 0

abbrev bufTy : (tb : Table) → Fin (tcTables nBuf tb) → BufTy
  | .hbm, ⟨0, _⟩ => ⟨S8x8208x4x128, .f32⟩
  | .hbm, ⟨1, _⟩ => ⟨S8x8208x4x128, .f32⟩
  | .hbm, ⟨2, _⟩ => ⟨S8x8208x4x256, .f32⟩
  | .hbm, ⟨3, _⟩ => ⟨S8x8208x4x128, .f32⟩
  | .hbm, ⟨4, _⟩ => ⟨S_, .f32⟩
  | .hbm, ⟨5, _⟩ => ⟨S8x4x256x128, .f32⟩
  | .hbm, ⟨6, _⟩ => ⟨S8x8208x512, .f32⟩
  | .hbm, ⟨7, _⟩ => ⟨S_, .i32⟩
  | .hbm, ⟨8, _⟩ => ⟨S_, .f32⟩
  | .hbm, ⟨9, _⟩ => ⟨S8x8320x512, .f32⟩
  | .hbm, ⟨10, _⟩ => ⟨S8x8208x512, .f32⟩
  | .hbm, ⟨11, _⟩ => ⟨S_, .i32⟩
  | .hbm, ⟨12, _⟩ => ⟨S_, .f32⟩
  | .hbm, ⟨13, _⟩ => ⟨S8x8320x512, .f32⟩
  | .hbm, ⟨14, _⟩ => ⟨S8x8208x512, .f32⟩
  | .hbm, ⟨15, _⟩ => ⟨S_, .i32⟩
  | .hbm, ⟨16, _⟩ => ⟨S_, .f32⟩
  | .hbm, ⟨17, _⟩ => ⟨S8x8320x512, .f32⟩
  | .hbm, ⟨18, _⟩ => ⟨S8x8208x1024, .f32⟩
  | .hbm, ⟨19, _⟩ => ⟨S_, .i32⟩
  | .hbm, ⟨20, _⟩ => ⟨S_, .f32⟩
  | .hbm, ⟨21, _⟩ => ⟨S8x8320x1024, .f32⟩
  | .hbm, ⟨22, _⟩ => ⟨S8x8320x1024, .bf16⟩
  | .hbm, ⟨23, _⟩ => ⟨S8x8320x1024, .f32⟩
  | .hbm, ⟨24, _⟩ => ⟨S8x4x256x128, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x1024, .bf16⟩
  | .local _ .vmem, ⟨7, _⟩ => ⟨S1x128x1024, .bf16⟩
  | .local _ .vmem, ⟨8, _⟩ => ⟨S1x4x256x128, .f32⟩
  | .local _ .vmem, ⟨9, _⟩ => ⟨S1x4x256x128, .f32⟩
  | .local _ .vmem, ⟨10, _⟩ => ⟨S1x128x1024, .f32⟩
  | .local _ .vmem, ⟨11, _⟩ => ⟨S1x128x1024, .f32⟩
  | .local _ .vmem, ⟨12, _⟩ => ⟨S1x4x256x128, .f32⟩
  | .local _ .vmem, ⟨13, _⟩ => ⟨S1x4x256x128, .f32⟩
  | _, _ => ⟨S8x8208x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_call3_v0 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x8208x4x128 : Shape := ⟨4, ![8, 8208, 4, 128]⟩
abbrev S8x8208x4x256 : Shape := ⟨4, ![8, 8208, 4, 256]⟩
abbrev S_ : Shape := ⟨0, ![]⟩
abbrev S8x4x128x256 : Shape := ⟨4, ![8, 4, 128, 256]⟩
abbrev S8x8256x4x128 : Shape := ⟨4, ![8, 8256, 4, 128]⟩
abbrev S8x8256x4x256 : Shape := ⟨4, ![8, 8256, 4, 256]⟩
abbrev S64x64 : Shape := ⟨2, ![64, 64]⟩
abbrev S1x64x64x1x1 : Shape := ⟨5, ![1, 64, 64, 1, 1]⟩
abbrev S8x129x64x4x128 : Shape := ⟨5, ![8, 129, 64, 4, 128]⟩
abbrev S129x8x64x4x128 : Shape := ⟨5, ![129, 8, 64, 4, 128]⟩
abbrev S8x129x64x4x256 : Shape := ⟨5, ![8, 129, 64, 4, 256]⟩
abbrev S129x8x64x4x256 : Shape := ⟨5, ![129, 8, 64, 4, 256]⟩
abbrev S1x8x64x4x128 : Shape := ⟨5, ![1, 8, 64, 4, 128]⟩
abbrev S8x64x4x128 : Shape := ⟨4, ![8, 64, 4, 128]⟩
abbrev S1x8x64x4x256 : Shape := ⟨5, ![1, 8, 64, 4, 256]⟩
abbrev S8x64x4x256 : Shape := ⟨4, ![8, 64, 4, 256]⟩
abbrev S8x4x256x64 : Shape := ⟨4, ![8, 4, 256, 64]⟩
abbrev S8x64x1x4x128 : Shape := ⟨5, ![8, 64, 1, 4, 128]⟩
abbrev S8x1x64x4x128 : Shape := ⟨5, ![8, 1, 64, 4, 128]⟩
abbrev S8x64x64x4x128 : Shape := ⟨5, ![8, 64, 64, 4, 128]⟩
abbrev S8x4x64x64 : Shape := ⟨4, ![8, 4, 64, 64]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x8208x1024 : Shape := ⟨3, ![8, 8208, 1024]⟩
abbrev S8x8320x1024 : Shape := ⟨3, ![8, 8320, 1024]⟩
abbrev S8x4x256x128 : Shape := ⟨4, ![8, 4, 256, 128]⟩

abbrev nBuf : Space → Nat
  | .hbm => 135
  | .vmem => 0
  | .smem => 0
  | _ => 0

abbrev hbmTy0_0 (i : Nat) : BufTy := match i % 128 with
  | 0 => ⟨S8x8208x4x128, .f32⟩
  | 1 => ⟨S8x8208x4x128, .f32⟩
  | 2 => ⟨S8x8208x4x256, .f32⟩
  | 3 => ⟨S8x8208x4x128, .f32⟩
  | 4 => ⟨S_, .f32⟩
  | 5 => ⟨S8x4x128x256, .f32⟩
  | 6 => ⟨S_, .i32⟩
  | 7 => ⟨S_, .f32⟩
  | 8 => ⟨S8x8256x4x128, .f32⟩
  | 9 => ⟨S_, .i32⟩
  | 10 => ⟨S_, .f32⟩
  | 11 => ⟨S8x8256x4x128, .f32⟩
  | 12 => ⟨S_, .i32⟩
  | 13 => ⟨S_, .f32⟩
  | 14 => ⟨S8x8256x4x256, .f32⟩
  | 15 => ⟨S_, .i32⟩
  | 16 => ⟨S_, .f32⟩
  | 17 => ⟨S8x8256x4x128, .f32⟩
  | 18 => ⟨S_, .i1⟩
  | 19 => ⟨S64x64, .i1⟩
  | 20 => ⟨S64x64, .i32⟩
  | 21 => ⟨S_, .i32⟩
  | 22 => ⟨S64x64, .i32⟩
  | 23 => ⟨S64x64, .i32⟩
  | 24 => ⟨S64x64, .i32⟩
  | 25 => ⟨S64x64, .i1⟩
  | 26 => ⟨S_, .i1⟩
  | 27 => ⟨S64x64, .i1⟩
  | 28 => ⟨S64x64, .i1⟩
  | 29 => ⟨S1x64x64x1x1, .i1⟩
  | 30 => ⟨S8x129x64x4x128, .f32⟩
  | 31 => ⟨S129x8x64x4x128, .f32⟩
  | 32 => ⟨S8x129x64x4x128, .f32⟩
  | 33 => ⟨S129x8x64x4x128, .f32⟩
  | 34 => ⟨S8x129x64x4x256, .f32⟩
  | 35 => ⟨S129x8x64x4x256, .f32⟩
  | 36 => ⟨S8x129x64x4x128, .f32⟩
  | 37 => ⟨S129x8x64x4x128, .f32⟩
  | 38 => ⟨S_, .f32⟩
  | 39 => ⟨S129x8x64x4x256, .f32⟩
  | 40 => ⟨S_, .i32⟩
  | 41 => ⟨S129x8x64x4x128, .f32⟩
  | 42 => ⟨S129x8x64x4x128, .f32⟩
  | 43 => ⟨S129x8x64x4x256, .f32⟩
  | 44 => ⟨S129x8x64x4x128, .f32⟩
  | 45 => ⟨S1x64x64x1x1, .i1⟩
  | 46 => ⟨S_, .i32⟩
  | 47 => ⟨S8x4x128x256, .f32⟩
  | 48 => ⟨S129x8x64x4x256, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S1x8x64x4x128, .f32⟩
  | 56 => ⟨S8x64x4x128, .f32⟩
  | 57 => ⟨S_, .i32⟩
  | 58 => ⟨S_, .i32⟩
  | 59 => ⟨S_, .i32⟩
  | 60 => ⟨S_, .i32⟩
  | 61 => ⟨S1x8x64x4x128, .f32⟩
  | 62 => ⟨S8x64x4x128, .f32⟩
  | 63 => ⟨S_, .i32⟩
  | 64 => ⟨S_, .i32⟩
  | 65 => ⟨S_, .i32⟩
  | 66 => ⟨S_, .i32⟩
  | 67 => ⟨S1x8x64x4x256, .f32⟩
  | 68 => ⟨S8x64x4x256, .f32⟩
  | 69 => ⟨S_, .i32⟩
  | 70 => ⟨S_, .i32⟩
  | 71 => ⟨S_, .i32⟩
  | 72 => ⟨S_, .i32⟩
  | 73 => ⟨S1x8x64x4x128, .f32⟩
  | 74 => ⟨S8x64x4x128, .f32⟩
  | 75 => ⟨S_, .f32⟩
  | 76 => ⟨S_, .f32⟩
  | 77 => ⟨S8x64x4x128, .f32⟩
  | 78 => ⟨S8x64x4x128, .f32⟩
  | 79 => ⟨S8x64x4x128, .f32⟩
  | 80 => ⟨S8x4x256x64, .f32⟩
  | 81 => ⟨S8x64x4x256, .f32⟩
  | 82 => ⟨S8x64x1x4x128, .f32⟩
  | 83 => ⟨S8x1x64x4x128, .f32⟩
  | 84 => ⟨S8x64x64x4x128, .f32⟩
  | 85 => ⟨S8x64x64x4x128, .f32⟩
  | 86 => ⟨S8x64x64x4x128, .f32⟩
  | 87 => ⟨S_, .f32⟩
  | 88 => ⟨S_, .f32⟩
  | 89 => ⟨S8x64x64x4x128, .i1⟩
  | 90 => ⟨S8x64x64x4x128, .f32⟩
  | 91 => ⟨S8x64x64x4x128, .f32⟩
  | 92 => ⟨S8x64x64x4x128, .f32⟩
  | 93 => ⟨S_, .f32⟩
  | 94 => ⟨S_, .f32⟩
  | 95 => ⟨S8x64x64x4x128, .i1⟩
  | 96 => ⟨S8x64x64x4x128, .f32⟩
  | 97 => ⟨S8x64x64x4x128, .f32⟩
  | 98 => ⟨S8x64x1x4x128, .f32⟩
  | 99 => ⟨S8x64x64x4x128, .f32⟩
  | 100 => ⟨S8x64x64x4x128, .f32⟩
  | 101 => ⟨S8x4x64x64, .f32⟩
  | 102 => ⟨S8x4x64x64, .f32⟩
  | 103 => ⟨S8x4x256x64, .f32⟩
  | 104 => ⟨S8x64x4x256, .f32⟩
  | 105 => ⟨S8x1x4x128, .f32⟩
  | 106 => ⟨S8x4x128, .f32⟩
  | 107 => ⟨S8x4x128, .f32⟩
  | 108 => ⟨S8x4x128x1, .f32⟩
  | 109 => ⟨S8x4x128x256, .f32⟩
  | 110 => ⟨S8x4x128x256, .f32⟩
  | 111 => ⟨S8x1x4x128, .f32⟩
  | 112 => ⟨S8x64x4x128, .f32⟩
  | 113 => ⟨S8x64x4x128, .f32⟩
  | 114 => ⟨S8x64x4x128, .f32⟩
  | 115 => ⟨S8x64x4x128, .f32⟩
  | 116 => ⟨S8x4x128x256, .f32⟩
  | 117 => ⟨S8x4x128x256, .f32⟩
  | 118 => ⟨S8x64x4x256, .f32⟩
  | 119 => ⟨S1x8x64x4x256, .f32⟩
  | 120 => ⟨S_, .i32⟩
  | 121 => ⟨S_, .i32⟩
  | 122 => ⟨S_, .i32⟩
  | 123 => ⟨S_, .i32⟩
  | 124 => ⟨S129x8x64x4x256, .f32⟩
  | 125 => ⟨S_, .i32⟩
  | 126 => ⟨S_, .i32⟩
  | 127 => ⟨S8x129x64x4x256, .f32⟩
  | _ => ⟨S8x8208x4x128, .f32⟩

abbrev hbmTy0_1 (i : Nat) : BufTy := match i % 128 with
  | 0 => ⟨S8x8256x4x256, .f32⟩
  | 1 => ⟨S8x8208x4x256, .f32⟩
  | 2 => ⟨S8x8208x1024, .f32⟩
  | 3 => ⟨S_, .i32⟩
  | 4 => ⟨S_, .f32⟩
  | 5 => ⟨S8x8320x1024, .f32⟩
  | 6 => ⟨S8x4x256x128, .f32⟩
  | _ => ⟨S8x8208x4x128, .f32⟩

abbrev hbmTy (i : Nat) : BufTy := match i / 128 with
  | 0 => hbmTy0_0 i
  | 1 => hbmTy0_1 i
  | _ => ⟨S8x8208x4x128, .f32⟩

abbrev bufTy : (tb : Table) → Fin (tcTables nBuf tb) → BufTy
  | .hbm, ⟨i, _⟩ => hbmTy i
  | _, _ => ⟨S8x8208x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_c_2 : Ref sig .tc := ⟨.hbm, 15, rfl⟩
abbrev main_call3_v0 : Ref sig .tc := ⟨.hbm, 16, rfl⟩
abbrev main_v4 : Ref sig .tc := ⟨.hbm, 17, rfl⟩
abbrev main_c_3 : Ref sig .tc := ⟨.hbm, 18, rfl⟩
abbrev main_v5 : Ref sig .tc := ⟨.hbm, 19, rfl⟩
abbrev main_call4_v0 : Ref sig .tc := ⟨.hbm, 20, rfl⟩
abbrev main_call4_c : Ref sig .tc := ⟨.hbm, 21, rfl⟩
abbrev main_call4_v1 : Ref sig .tc := ⟨.hbm, 22, rfl⟩
abbrev main_call4_v2 : Ref sig .tc := ⟨.hbm, 23, rfl⟩
abbrev main_call4_v3 : Ref sig .tc := ⟨.hbm, 24, rfl⟩
abbrev main_call4_v4 : Ref sig .tc := ⟨.hbm, 25, rfl⟩
abbrev main_call4_c_0 : Ref sig .tc := ⟨.hbm, 26, rfl⟩
abbrev main_call4_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_c_5 : Ref sig .tc := ⟨.hbm, 40, rfl⟩
abbrev main_v17_0 : Ref sig .tc := ⟨.hbm, 41, rfl⟩
abbrev main_v17_1 : Ref sig .tc := ⟨.hbm, 42, rfl⟩
abbrev main_v17_2 : Ref sig .tc := ⟨.hbm, 43, rfl⟩
abbrev main_v17_3 : Ref sig .tc := ⟨.hbm, 44, rfl⟩
abbrev main_v17_4 : Ref sig .tc := ⟨.hbm, 45, rfl⟩
abbrev main_v17_5 : Ref sig .tc := ⟨.hbm, 46, rfl⟩
abbrev main_v17_6 : Ref sig .tc := ⟨.hbm, 47, rfl⟩
abbrev main_v17_7 : Ref sig .tc := ⟨.hbm, 48, rfl⟩
abbrev main_while0c_c_14 : Ref sig .tc := ⟨.hbm, 49, rfl⟩
abbrev main_while0c_v24 : Ref sig .tc := ⟨.hbm, 50, rfl⟩
abbrev main_while0b_call5_c : Ref sig .tc := ⟨.hbm, 51, rfl⟩
abbrev main_while0b_call5_c_0 : Ref sig .tc := ⟨.hbm, 52, rfl⟩
abbrev main_while0b_call5_c_1 : Ref sig .tc := ⟨.hbm, 53, rfl⟩
abbrev main_while0b_call5_c_2 : Ref sig .tc := ⟨.hbm, 54, rfl⟩
abbrev main_while0b_call5_v0 : Ref sig .tc := ⟨.hbm, 55, rfl⟩
abbrev main_while0b_v24 : Ref sig .tc := ⟨.hbm, 56, rfl⟩
abbrev main_while0b_call6_c : Ref sig .tc := ⟨.hbm, 57, rfl⟩
abbrev main_while0b_call6_c_0 : Ref sig .tc := ⟨.hbm, 58, rfl⟩
abbrev main_while0b_call6_c_1 : Ref sig .tc := ⟨.hbm, 59, rfl⟩
abbrev main_while0b_call6_c_2 : Ref sig .tc := ⟨.hbm, 60, rfl⟩
abbrev main_while0b_call6_v0 : Ref sig .tc := ⟨.hbm, 61, rfl⟩
abbrev main_while0b_v25 : Ref sig .tc := ⟨.hbm, 62, rfl⟩
abbrev main_while0b_call7_c : Ref sig .tc := ⟨.hbm, 63, rfl⟩
abbrev main_while0b_call7_c_0 : Ref sig .tc := ⟨.hbm, 64, rfl⟩
abbrev main_while0b_call7_c_1 : Ref sig .tc := ⟨.hbm, 65, rfl⟩
abbrev main_while0b_call7_c_2 : Ref sig .tc := ⟨.hbm, 66, rfl⟩
abbrev main_while0b_call7_v0 : Ref sig .tc := ⟨.hbm, 67, rfl⟩
abbrev main_while0b_v26 : Ref sig .tc := ⟨.hbm, 68, rfl⟩
abbrev main_while0b_call8_c : Ref sig .tc := ⟨.hbm, 69, rfl⟩
abbrev main_while0b_call8_c_0 : Ref sig .tc := ⟨.hbm, 70, rfl⟩
abbrev main_while0b_call8_c_1 : Ref sig .tc := ⟨.hbm, 71, rfl⟩
abbrev main_while0b_call8_c_2 : Ref sig .tc := ⟨.hbm, 72, rfl⟩
abbrev main_while0b_call8_v0 : Ref sig .tc := ⟨.hbm, 73, rfl⟩
abbrev main_while0b_v27 : Ref sig .tc := ⟨.hbm, 74, rfl⟩
abbrev main_while0b_call9_call0_cst : Ref sig .tc := ⟨.hbm, 75, rfl⟩
abbrev main_while0b_call9_call0_v0 : Ref sig .tc := ⟨.hbm, 76, rfl⟩
abbrev main_while0b_v28 : Ref sig .tc := ⟨.hbm, 77, rfl⟩
abbrev main_while0b_v29 : Ref sig .tc := ⟨.hbm, 78, rfl⟩
abbrev main_while0b_v30 : Ref sig .tc := ⟨.hbm, 79, rfl⟩
abbrev main_while0b_v31 : Ref sig .tc := ⟨.hbm, 80, rfl⟩
abbrev main_while0b_v32 : Ref sig .tc := ⟨.hbm, 81, rfl⟩
abbrev main_while0b_v33 : Ref sig .tc := ⟨.hbm, 82, rfl⟩
abbrev main_while0b_v34 : Ref sig .tc := ⟨.hbm, 83, rfl⟩
abbrev main_while0b_v35 : Ref sig .tc := ⟨.hbm, 84, rfl⟩
abbrev main_while0b_v36 : Ref sig .tc := ⟨.hbm, 85, rfl⟩
abbrev main_while0b_v37 : Ref sig .tc := ⟨.hbm, 86, rfl⟩
abbrev main_while0b_cst_14 : Ref sig .tc := ⟨.hbm, 87, rfl⟩
abbrev main_while0b_call10_v0 : Ref sig .tc := ⟨.hbm, 88, rfl⟩
abbrev main_while0b_call10_v1 : Ref sig .tc := ⟨.hbm, 89, rfl⟩
abbrev main_while0b_call10_v2 : Ref sig .tc := ⟨.hbm, 90, rfl⟩
abbrev main_while0b_v38 : Ref sig .tc := ⟨.hbm, 91, rfl⟩
abbrev main_while0b_v39 : Ref sig .tc := ⟨.hbm, 92, rfl⟩
abbrev main_while0b_cst_15 : Ref sig .tc := ⟨.hbm, 93, rfl⟩
abbrev main_while0b_call11_v0 : Ref sig .tc := ⟨.hbm, 94, rfl⟩
abbrev main_while0b_call11_v1 : Ref sig .tc := ⟨.hbm, 95, rfl⟩
abbrev main_while0b_call11_v2 : Ref sig .tc := ⟨.hbm, 96, rfl⟩
abbrev main_while0b_v40 : Ref sig .tc := ⟨.hbm, 97, rfl⟩
abbrev main_while0b_v41 : Ref sig .tc := ⟨.hbm, 98, rfl⟩
abbrev main_while0b_v42 : Ref sig .tc := ⟨.hbm, 99, rfl⟩
abbrev main_while0b_v43 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_v50 : Ref sig .tc := ⟨.hbm, 107, rfl⟩
abbrev main_while0b_v51 : Ref sig .tc := ⟨.hbm, 108, rfl⟩
abbrev main_while0b_v52 : Ref sig .tc := ⟨.hbm, 109, rfl⟩
abbrev main_while0b_v53 : Ref sig .tc := ⟨.hbm, 110, rfl⟩
abbrev main_while0b_v54 : Ref sig .tc := ⟨.hbm, 111, rfl⟩
abbrev main_while0b_v55 : Ref sig .tc := ⟨.hbm, 112, rfl⟩
abbrev main_while0b_v56 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_call12_v0 : Ref sig .tc := ⟨.hbm, 119, rfl⟩
abbrev main_while0b_call12_c : Ref sig .tc := ⟨.hbm, 120, rfl⟩
abbrev main_while0b_call12_c_0 : Ref sig .tc := ⟨.hbm, 121, rfl⟩
abbrev main_while0b_call12_c_1 : Ref sig .tc := ⟨.hbm, 122, rfl⟩
abbrev main_while0b_call12_c_2 : Ref sig .tc := ⟨.hbm, 123, rfl⟩
abbrev main_while0b_v62 : Ref sig .tc := ⟨.hbm, 124, rfl⟩
abbrev main_while0b_c_16 : Ref sig .tc := ⟨.hbm, 125, rfl⟩
abbrev main_while0b_v63 : Ref sig .tc := ⟨.hbm, 126, rfl⟩
abbrev main_v18 : Ref sig .tc := ⟨.hbm, 127, rfl⟩
abbrev main_v19 : Ref sig .tc := ⟨.hbm, 128, rfl⟩
abbrev main_v20 : Ref sig .tc := ⟨.hbm, 129, rfl⟩
abbrev main_v21 : Ref sig .tc := ⟨.hbm, 130, rfl⟩
abbrev main_c_6 : Ref sig .tc := ⟨.hbm, 131, rfl⟩
abbrev main_call13_v0 : Ref sig .tc := ⟨.hbm, 132, rfl⟩
abbrev main_v22 : Ref sig .tc := ⟨.hbm, 133, rfl⟩
abbrev main_v23 : Ref sig .tc := ⟨.hbm, 134, rfl⟩

abbrev nD : Nat := 1
abbrev τ : Topo := Topo.v7x

variable {F : FTy → Type} [FloatOps F]

abbrev main_while0_count : Scf.Loop 32 := ⟨0#32, 129#32, 1#32⟩
-- ==== Sample.lean ====
abbrev S8x16x4x128 : Shape := ⟨4, ![8, 16, 4, 128]⟩
abbrev S8x16x4x256 : Shape := ⟨4, ![8, 16, 4, 256]⟩
abbrev S8x4x128x256 : Shape := ⟨4, ![8, 4, 128, 256]⟩
abbrev S8x16x512 : Shape := ⟨3, ![8, 16, 512]⟩
abbrev S_ : Shape := ⟨0, ![]⟩
abbrev S8x128x512 : Shape := ⟨3, ![8, 128, 512]⟩
abbrev S8x16x1024 : Shape := ⟨3, ![8, 16, 1024]⟩
abbrev S8x128x1024 : Shape := ⟨3, ![8, 128, 1024]⟩
abbrev S8x4x256x128 : Shape := ⟨4, ![8, 4, 256, 128]⟩
abbrev S1x128x512 : Shape := ⟨3, ![1, 128, 512]⟩
abbrev S1x128x1024 : Shape := ⟨3, ![1, 128, 1024]⟩
abbrev S1x4x256x128 : Shape := ⟨4, ![1, 4, 256, 128]⟩
abbrev S128x128 : Shape := ⟨2, ![128, 128]⟩
abbrev S1x128x128 : Shape := ⟨3, ![1, 128, 128]⟩
abbrev S1x1x256x128 : Shape := ⟨4, ![1, 1, 256, 128]⟩
abbrev S256x128 : Shape := ⟨2, ![256, 128]⟩
abbrev S128x256 : Shape := ⟨2, ![128, 256]⟩
abbrev S1x128 : Shape := ⟨2, ![1, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S1x128x256 : Shape := ⟨3, ![1, 128, 256]⟩

abbrev nBuf : Space → Nat
  | .hbm => 25
  | .vmem => 14
  | .smem => 0
  | _ => 0

abbrev bufTy : (tb : Table) → Fin (tcTables nBuf tb) → BufTy
  | .hbm, ⟨0, _⟩ => ⟨S8x16x4x128, .f32⟩
  | .hbm, ⟨1, _⟩ => ⟨S8x16x4x128, .f32⟩
  | .hbm, ⟨2, _⟩ => ⟨S8x16x4x256, .f32⟩
  | .hbm, ⟨3, _⟩ => ⟨S8x16x4x128, .f32⟩
  | .hbm, ⟨4, _⟩ => ⟨S8x4x128x256, .f32⟩
  | .hbm, ⟨5, _⟩ => ⟨S8x16x512, .f32⟩
  | .hbm, ⟨6, _⟩ => ⟨S_, .i32⟩
  | .hbm, ⟨7, _⟩ => ⟨S_, .f32⟩
  | .hbm, ⟨8, _⟩ => ⟨S8x128x512, .f32⟩
  | .hbm, ⟨9, _⟩ => ⟨S8x16x512, .f32⟩
  | .hbm, ⟨10, _⟩ => ⟨S_, .i32⟩
  | .hbm, ⟨11, _⟩ => ⟨S_, .f32⟩
  | .hbm, ⟨12, _⟩ => ⟨S8x128x512, .f32⟩
  | .hbm, ⟨13, _⟩ => ⟨S8x16x512, .f32⟩
  | .hbm, ⟨14, _⟩ => ⟨S_, .i32⟩
  | .hbm, ⟨15, _⟩ => ⟨S_, .f32⟩
  | .hbm, ⟨16, _⟩ => ⟨S8x128x512, .f32⟩
  | .hbm, ⟨17, _⟩ => ⟨S8x16x1024, .f32⟩
  | .hbm, ⟨18, _⟩ => ⟨S_, .i32⟩
  | .hbm, ⟨19, _⟩ => ⟨S_, .f32⟩
  | .hbm, ⟨20, _⟩ => ⟨S8x128x1024, .f32⟩
  | .hbm, ⟨21, _⟩ => ⟨S8x128x1024, .bf16⟩
  | .hbm, ⟨22, _⟩ => ⟨S8x4x256x128, .f32⟩
  | .hbm, ⟨23, _⟩ => ⟨S8x128x1024, .f32⟩
  | .hbm, ⟨24, _⟩ => ⟨S8x4x256x128, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x1024, .bf16⟩
  | .local _ .vmem, ⟨7, _⟩ => ⟨S1x128x1024, .bf16⟩
  | .local _ .vmem, ⟨8, _⟩ => ⟨S1x4x256x128, .f32⟩
  | .local _ .vmem, ⟨9, _⟩ => ⟨S1x4x256x128, .f32⟩
  | .local _ .vmem, ⟨10, _⟩ => ⟨S1x128x1024, .f32⟩
  | .local _ .vmem, ⟨11, _⟩ => ⟨S1x128x1024, .f32⟩
  | .local _ .vmem, ⟨12, _⟩ => ⟨S1x4x256x128, .f32⟩
  | .local _ .vmem, ⟨13, _⟩ => ⟨S1x4x256x128, .f32⟩
  | _, _ => ⟨S8x16x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SampleReferenceIdeal.lean ====
abbrev S8x16x4x128 : Shape := ⟨4, ![8, 16, 4, 128]⟩
abbrev S8x16x4x256 : Shape := ⟨4, ![8, 16, 4, 256]⟩
abbrev S8x4x128x256 : Shape := ⟨4, ![8, 4, 128, 256]⟩
abbrev S_ : Shape := ⟨0, ![]⟩
abbrev S8x64x4x128 : Shape := ⟨4, ![8, 64, 4, 128]⟩
abbrev S8x64x4x256 : Shape := ⟨4, ![8, 64, 4, 256]⟩
abbrev S64x64 : Shape := ⟨2, ![64, 64]⟩
abbrev S1x64x64x1x1 : Shape := ⟨5, ![1, 64, 64, 1, 1]⟩
abbrev S8x1x64x4x128 : Shape := ⟨5, ![8, 1, 64, 4, 128]⟩
abbrev S1x8x64x4x128 : Shape := ⟨5, ![1, 8, 64, 4, 128]⟩
abbrev S8x1x64x4x256 : Shape := ⟨5, ![8, 1, 64, 4, 256]⟩
abbrev S1x8x64x4x256 : Shape := ⟨5, ![1, 8, 64, 4, 256]⟩
abbrev S8x4x256x64 : Shape := ⟨4, ![8, 4, 256, 64]⟩
abbrev S8x64x1x4x128 : Shape := ⟨5, ![8, 64, 1, 4, 128]⟩
abbrev S8x64x64x4x128 : Shape := ⟨5, ![8, 64, 64, 4, 128]⟩
abbrev S8x4x64x64 : Shape := ⟨4, ![8, 4, 64, 64]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x16x1024 : Shape := ⟨3, ![8, 16, 1024]⟩
abbrev S8x128x1024 : Shape := ⟨3, ![8, 128, 1024]⟩
abbrev S8x4x256x128 : Shape := ⟨4, ![8, 4, 256, 128]⟩

abbrev nBuf : Space → Nat
  | .hbm => 134
  | .vmem => 0
  | .smem => 0
  | _ => 0

abbrev hbmTy0_0 (i : Nat) : BufTy := match i % 128 with
  | 0 => ⟨S8x16x4x128, .f32⟩
  | 1 => ⟨S8x16x4x128, .f32⟩
  | 2 => ⟨S8x16x4x256, .f32⟩
  | 3 => ⟨S8x16x4x128, .f32⟩
  | 4 => ⟨S8x4x128x256, .f32⟩
  | 5 => ⟨S_, .i32⟩
  | 6 => ⟨S_, .f32⟩
  | 7 => ⟨S8x64x4x128, .f32⟩
  | 8 => ⟨S_, .i32⟩
  | 9 => ⟨S_, .f32⟩
  | 10 => ⟨S8x64x4x128, .f32⟩
  | 11 => ⟨S_, .i32⟩
  | 12 => ⟨S_, .f32⟩
  | 13 => ⟨S8x64x4x256, .f32⟩
  | 14 => ⟨S_, .i32⟩
  | 15 => ⟨S_, .f32⟩
  | 16 => ⟨S8x64x4x128, .f32⟩
  | 17 => ⟨S_, .i1⟩
  | 18 => ⟨S64x64, .i1⟩
  | 19 => ⟨S64x64, .i32⟩
  | 20 => ⟨S_, .i32⟩
  | 21 => ⟨S64x64, .i32⟩
  | 22 => ⟨S64x64, .i32⟩
  | 23 => ⟨S64x64, .i32⟩
  | 24 => ⟨S64x64, .i1⟩
  | 25 => ⟨S_, .i1⟩
  | 26 => ⟨S64x64, .i1⟩
  | 27 => ⟨S64x64, .i1⟩
  | 28 => ⟨S1x64x64x1x1, .i1⟩
  | 29 => ⟨S8x1x64x4x128, .f32⟩
  | 30 => ⟨S1x8x64x4x128, .f32⟩
  | 31 => ⟨S8x1x64x4x128, .f32⟩
  | 32 => ⟨S1x8x64x4x128, .f32⟩
  | 33 => ⟨S8x1x64x4x256, .f32⟩
  | 34 => ⟨S1x8x64x4x256, .f32⟩
  | 35 => ⟨S8x1x64x4x128, .f32⟩
  | 36 => ⟨S1x8x64x4x128, .f32⟩
  | 37 => ⟨S_, .f32⟩
  | 38 => ⟨S1x8x64x4x256, .f32⟩
  | 39 => ⟨S_, .i32⟩
  | 40 => ⟨S1x8x64x4x128, .f32⟩
  | 41 => ⟨S1x8x64x4x128, .f32⟩
  | 42 => ⟨S1x8x64x4x256, .f32⟩
  | 43 => ⟨S1x8x64x4x128, .f32⟩
  | 44 => ⟨S1x64x64x1x1, .i1⟩
  | 45 => ⟨S_, .i32⟩
  | 46 => ⟨S8x4x128x256, .f32⟩
  | 47 => ⟨S1x8x64x4x256, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S1x8x64x4x128, .f32⟩
  | 55 => ⟨S8x64x4x128, .f32⟩
  | 56 => ⟨S_, .i32⟩
  | 57 => ⟨S_, .i32⟩
  | 58 => ⟨S_, .i32⟩
  | 59 => ⟨S_, .i32⟩
  | 60 => ⟨S1x8x64x4x128, .f32⟩
  | 61 => ⟨S8x64x4x128, .f32⟩
  | 62 => ⟨S_, .i32⟩
  | 63 => ⟨S_, .i32⟩
  | 64 => ⟨S_, .i32⟩
  | 65 => ⟨S_, .i32⟩
  | 66 => ⟨S1x8x64x4x256, .f32⟩
  | 67 => ⟨S8x64x4x256, .f32⟩
  | 68 => ⟨S_, .i32⟩
  | 69 => ⟨S_, .i32⟩
  | 70 => ⟨S_, .i32⟩
  | 71 => ⟨S_, .i32⟩
  | 72 => ⟨S1x8x64x4x128, .f32⟩
  | 73 => ⟨S8x64x4x128, .f32⟩
  | 74 => ⟨S_, .f32⟩
  | 75 => ⟨S_, .f32⟩
  | 76 => ⟨S8x64x4x128, .f32⟩
  | 77 => ⟨S8x64x4x128, .f32⟩
  | 78 => ⟨S8x64x4x128, .f32⟩
  | 79 => ⟨S8x4x256x64, .f32⟩
  | 80 => ⟨S8x64x4x256, .f32⟩
  | 81 => ⟨S8x64x1x4x128, .f32⟩
  | 82 => ⟨S8x1x64x4x128, .f32⟩
  | 83 => ⟨S8x64x64x4x128, .f32⟩
  | 84 => ⟨S8x64x64x4x128, .f32⟩
  | 85 => ⟨S8x64x64x4x128, .f32⟩
  | 86 => ⟨S_, .f32⟩
  | 87 => ⟨S_, .f32⟩
  | 88 => ⟨S8x64x64x4x128, .i1⟩
  | 89 => ⟨S8x64x64x4x128, .f32⟩
  | 90 => ⟨S8x64x64x4x128, .f32⟩
  | 91 => ⟨S8x64x64x4x128, .f32⟩
  | 92 => ⟨S_, .f32⟩
  | 93 => ⟨S_, .f32⟩
  | 94 => ⟨S8x64x64x4x128, .i1⟩
  | 95 => ⟨S8x64x64x4x128, .f32⟩
  | 96 => ⟨S8x64x64x4x128, .f32⟩
  | 97 => ⟨S8x64x1x4x128, .f32⟩
  | 98 => ⟨S8x64x64x4x128, .f32⟩
  | 99 => ⟨S8x64x64x4x128, .f32⟩
  | 100 => ⟨S8x4x64x64, .f32⟩
  | 101 => ⟨S8x4x64x64, .f32⟩
  | 102 => ⟨S8x4x256x64, .f32⟩
  | 103 => ⟨S8x64x4x256, .f32⟩
  | 104 => ⟨S8x1x4x128, .f32⟩
  | 105 => ⟨S8x4x128, .f32⟩
  | 106 => ⟨S8x4x128, .f32⟩
  | 107 => ⟨S8x4x128x1, .f32⟩
  | 108 => ⟨S8x4x128x256, .f32⟩
  | 109 => ⟨S8x4x128x256, .f32⟩
  | 110 => ⟨S8x1x4x128, .f32⟩
  | 111 => ⟨S8x64x4x128, .f32⟩
  | 112 => ⟨S8x64x4x128, .f32⟩
  | 113 => ⟨S8x64x4x128, .f32⟩
  | 114 => ⟨S8x64x4x128, .f32⟩
  | 115 => ⟨S8x4x128x256, .f32⟩
  | 116 => ⟨S8x4x128x256, .f32⟩
  | 117 => ⟨S8x64x4x256, .f32⟩
  | 118 => ⟨S1x8x64x4x256, .f32⟩
  | 119 => ⟨S_, .i32⟩
  | 120 => ⟨S_, .i32⟩
  | 121 => ⟨S_, .i32⟩
  | 122 => ⟨S_, .i32⟩
  | 123 => ⟨S1x8x64x4x256, .f32⟩
  | 124 => ⟨S_, .i32⟩
  | 125 => ⟨S_, .i32⟩
  | 126 => ⟨S8x1x64x4x256, .f32⟩
  | 127 => ⟨S8x64x4x256, .f32⟩
  | _ => ⟨S8x16x4x128, .f32⟩

abbrev hbmTy0_1 (i : Nat) : BufTy := match i % 128 with
  | 0 => ⟨S8x16x4x256, .f32⟩
  | 1 => ⟨S8x16x1024, .f32⟩
  | 2 => ⟨S_, .i32⟩
  | 3 => ⟨S_, .f32⟩
  | 4 => ⟨S8x128x1024, .f32⟩
  | 5 => ⟨S8x4x256x128, .f32⟩
  | _ => ⟨S8x16x4x128, .f32⟩

abbrev hbmTy (i : Nat) : BufTy := match i / 128 with
  | 0 => hbmTy0_0 i
  | 1 => hbmTy0_1 i
  | _ => ⟨S8x16x4x128, .f32⟩

abbrev bufTy : (tb : Table) → Fin (tcTables nBuf tb) → BufTy
  | .hbm, ⟨i, _⟩ => hbmTy i
  | _, _ => ⟨S8x16x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_c_3 : Ref sig .tc := ⟨.hbm, 17, rfl⟩
abbrev main_v4 : Ref sig .tc := ⟨.hbm, 18, rfl⟩
abbrev main_call4_v0 : Ref sig .tc := ⟨.hbm, 19, rfl⟩
abbrev main_call4_c : Ref sig .tc := ⟨.hbm, 20, rfl⟩
abbrev main_call4_v1 : Ref sig .tc := ⟨.hbm, 21, rfl⟩
abbrev main_call4_v2 : Ref sig .tc := ⟨.hbm, 22, rfl⟩
abbrev main_call4_v3 : Ref sig .tc := ⟨.hbm, 23, rfl⟩
abbrev main_call4_v4 : Ref sig .tc := ⟨.hbm, 24, rfl⟩
abbrev main_call4_c_0 : Ref sig .tc := ⟨.hbm, 25, rfl⟩
abbrev main_call4_v5 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_c_4 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev main_v16_3 : Ref sig .tc := ⟨.hbm, 43, rfl⟩
abbrev main_v16_4 : Ref sig .tc := ⟨.hbm, 44, rfl⟩
abbrev main_v16_5 : Ref sig .tc := ⟨.hbm, 45, rfl⟩
abbrev main_v16_6 : Ref sig .tc := ⟨.hbm, 46, rfl⟩
abbrev main_v16_7 : Ref sig .tc := ⟨.hbm, 47, rfl⟩
abbrev main_while0c_c_13 : Ref sig .tc := ⟨.hbm, 48, rfl⟩
abbrev main_while0c_v23 : Ref sig .tc := ⟨.hbm, 49, rfl⟩
abbrev main_while0b_call5_c : Ref sig .tc := ⟨.hbm, 50, rfl⟩
abbrev main_while0b_call5_c_0 : Ref sig .tc := ⟨.hbm, 51, rfl⟩
abbrev main_while0b_call5_c_1 : Ref sig .tc := ⟨.hbm, 52, rfl⟩
abbrev main_while0b_call5_c_2 : Ref sig .tc := ⟨.hbm, 53, rfl⟩
abbrev main_while0b_call5_v0 : Ref sig .tc := ⟨.hbm, 54, rfl⟩
abbrev main_while0b_v23 : Ref sig .tc := ⟨.hbm, 55, rfl⟩
abbrev main_while0b_call6_c : Ref sig .tc := ⟨.hbm, 56, rfl⟩
abbrev main_while0b_call6_c_0 : Ref sig .tc := ⟨.hbm, 57, rfl⟩
abbrev main_while0b_call6_c_1 : Ref sig .tc := ⟨.hbm, 58, rfl⟩
abbrev main_while0b_call6_c_2 : Ref sig .tc := ⟨.hbm, 59, rfl⟩
abbrev main_while0b_call6_v0 : Ref sig .tc := ⟨.hbm, 60, rfl⟩
abbrev main_while0b_v24 : Ref sig .tc := ⟨.hbm, 61, rfl⟩
abbrev main_while0b_call7_c : Ref sig .tc := ⟨.hbm, 62, rfl⟩
abbrev main_while0b_call7_c_0 : Ref sig .tc := ⟨.hbm, 63, rfl⟩
abbrev main_while0b_call7_c_1 : Ref sig .tc := ⟨.hbm, 64, rfl⟩
abbrev main_while0b_call7_c_2 : Ref sig .tc := ⟨.hbm, 65, rfl⟩
abbrev main_while0b_call7_v0 : Ref sig .tc := ⟨.hbm, 66, rfl⟩
abbrev main_while0b_v25 : Ref sig .tc := ⟨.hbm, 67, rfl⟩
abbrev main_while0b_call8_c : Ref sig .tc := ⟨.hbm, 68, rfl⟩
abbrev main_while0b_call8_c_0 : Ref sig .tc := ⟨.hbm, 69, rfl⟩
abbrev main_while0b_call8_c_1 : Ref sig .tc := ⟨.hbm, 70, rfl⟩
abbrev main_while0b_call8_c_2 : Ref sig .tc := ⟨.hbm, 71, rfl⟩
abbrev main_while0b_call8_v0 : Ref sig .tc := ⟨.hbm, 72, rfl⟩
abbrev main_while0b_v26 : Ref sig .tc := ⟨.hbm, 73, rfl⟩
abbrev main_while0b_call9_call0_cst : Ref sig .tc := ⟨.hbm, 74, rfl⟩
abbrev main_while0b_call9_call0_v0 : Ref sig .tc := ⟨.hbm, 75, rfl⟩
abbrev main_while0b_v27 : Ref sig .tc := ⟨.hbm, 76, rfl⟩
abbrev main_while0b_v28 : Ref sig .tc := ⟨.hbm, 77, rfl⟩
abbrev main_while0b_v29 : Ref sig .tc := ⟨.hbm, 78, rfl⟩
abbrev main_while0b_v30 : Ref sig .tc := ⟨.hbm, 79, rfl⟩
abbrev main_while0b_v31 : Ref sig .tc := ⟨.hbm, 80, rfl⟩
abbrev main_while0b_v32 : Ref sig .tc := ⟨.hbm, 81, rfl⟩
abbrev main_while0b_v33 : Ref sig .tc := ⟨.hbm, 82, rfl⟩
abbrev main_while0b_v34 : Ref sig .tc := ⟨.hbm, 83, rfl⟩
abbrev main_while0b_v35 : Ref sig .tc := ⟨.hbm, 84, rfl⟩
abbrev main_while0b_v36 : Ref sig .tc := ⟨.hbm, 85, rfl⟩
abbrev main_while0b_cst_13 : Ref sig .tc := ⟨.hbm, 86, rfl⟩
abbrev main_while0b_call10_v0 : Ref sig .tc := ⟨.hbm, 87, rfl⟩
abbrev main_while0b_call10_v1 : Ref sig .tc := ⟨.hbm, 88, rfl⟩
abbrev main_while0b_call10_v2 : Ref sig .tc := ⟨.hbm, 89, rfl⟩
abbrev main_while0b_v37 : Ref sig .tc := ⟨.hbm, 90, rfl⟩
abbrev main_while0b_v38 : Ref sig .tc := ⟨.hbm, 91, rfl⟩
abbrev main_while0b_cst_14 : Ref sig .tc := ⟨.hbm, 92, rfl⟩
abbrev main_while0b_call11_v0 : Ref sig .tc := ⟨.hbm, 93, rfl⟩
abbrev main_while0b_call11_v1 : Ref sig .tc := ⟨.hbm, 94, rfl⟩
abbrev main_while0b_call11_v2 : Ref sig .tc := ⟨.hbm, 95, rfl⟩
abbrev main_while0b_v39 : Ref sig .tc := ⟨.hbm, 96, rfl⟩
abbrev main_while0b_v40 : Ref sig .tc := ⟨.hbm, 97, rfl⟩
abbrev main_while0b_v41 : Ref sig .tc := ⟨.hbm, 98, rfl⟩
abbrev main_while0b_v42 : Ref sig .tc := ⟨.hbm, 99, rfl⟩
abbrev main_while0b_v43 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_v50 : Ref sig .tc := ⟨.hbm, 107, rfl⟩
abbrev main_while0b_v51 : Ref sig .tc := ⟨.hbm, 108, rfl⟩
abbrev main_while0b_v52 : Ref sig .tc := ⟨.hbm, 109, rfl⟩
abbrev main_while0b_v53 : Ref sig .tc := ⟨.hbm, 110, rfl⟩
abbrev main_while0b_v54 : Ref sig .tc := ⟨.hbm, 111, rfl⟩
abbrev main_while0b_v55 : Ref sig .tc := ⟨.hbm, 112, rfl⟩
abbrev main_while0b_v56 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_call12_v0 : Ref sig .tc := ⟨.hbm, 118, rfl⟩
abbrev main_while0b_call12_c : Ref sig .tc := ⟨.hbm, 119, rfl⟩
abbrev main_while0b_call12_c_0 : Ref sig .tc := ⟨.hbm, 120, rfl⟩
abbrev main_while0b_call12_c_1 : Ref sig .tc := ⟨.hbm, 121, rfl⟩
abbrev main_while0b_call12_c_2 : Ref sig .tc := ⟨.hbm, 122, rfl⟩
abbrev main_while0b_v61 : Ref sig .tc := ⟨.hbm, 123, rfl⟩
abbrev main_while0b_c_15 : Ref sig .tc := ⟨.hbm, 124, rfl⟩
abbrev main_while0b_v62 : Ref sig .tc := ⟨.hbm, 125, rfl⟩
abbrev main_v17 : Ref sig .tc := ⟨.hbm, 126, rfl⟩
abbrev main_v18 : Ref sig .tc := ⟨.hbm, 127, rfl⟩
abbrev main_v19 : Ref sig .tc := ⟨.hbm, 128, rfl⟩
abbrev main_v20 : Ref sig .tc := ⟨.hbm, 129, rfl⟩
abbrev main_c_5 : Ref sig .tc := ⟨.hbm, 130, rfl⟩
abbrev main_call13_v0 : Ref sig .tc := ⟨.hbm, 131, rfl⟩
abbrev main_v21 : Ref sig .tc := ⟨.hbm, 132, rfl⟩
abbrev main_v22 : Ref sig .tc := ⟨.hbm, 133, rfl⟩

abbrev nD : Nat := 1
abbrev τ : Topo := Topo.v7x

variable {F : FTy → Type} [FloatOps F]

abbrev main_while0_count : Scf.Loop 32 := ⟨0#32, 1#32, 1#32⟩
-- ==== Project.lean ====
abbrev S8x8208x1024 : Shape := ⟨3, ![8, 8208, 1024]⟩
abbrev S1024x6672 : Shape := ⟨2, ![1024, 6672]⟩
abbrev S16x512 : Shape := ⟨2, ![16, 512]⟩
abbrev S512 : Shape := ⟨1, ![512]⟩
abbrev S_ : Shape := ⟨0, ![]⟩
abbrev S8x8320x1024 : Shape := ⟨3, ![8, 8320, 1024]⟩
abbrev S66560x1024 : Shape := ⟨2, ![66560, 1024]⟩
abbrev S1024x4608 : Shape := ⟨2, ![1024, 4608]⟩
abbrev S1024x2048 : Shape := ⟨2, ![1024, 2048]⟩
abbrev S1024x6656 : Shape := ⟨2, ![1024, 6656]⟩
abbrev S1024x16 : Shape := ⟨2, ![1024, 16]⟩
abbrev S1024x128 : Shape := ⟨2, ![1024, 128]⟩
abbrev S128x512 : Shape := ⟨2, ![128, 512]⟩
abbrev S1x512 : Shape := ⟨2, ![1, 512]⟩
abbrev S66560x512 : Shape := ⟨2, ![66560, 512]⟩
abbrev S256x1024 : Shape := ⟨2, ![256, 1024]⟩
abbrev S256x512 : Shape := ⟨2, ![256, 512]⟩
abbrev S1024x512 : Shape := ⟨2, ![1024, 512]⟩
abbrev S1024x1024 : Shape := ⟨2, ![1024, 1024]⟩
abbrev S256x128 : Shape := ⟨2, ![256, 128]⟩

abbrev nBuf : Space → Nat
  | .hbm => 33
  | .vmem => 30
  | .smem => 0
  | _ => 0

abbrev bufTy : (tb : Table) → Fin (tcTables nBuf tb) → BufTy
  | .hbm, ⟨0, _⟩ => ⟨S8x8208x1024, .f32⟩
  | .hbm, ⟨1, _⟩ => ⟨S1024x6672, .f32⟩
  | .hbm, ⟨2, _⟩ => ⟨S16x512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S8x8320x1024, .f32⟩
  | .hbm, ⟨7, _⟩ => ⟨S66560x1024, .f32⟩
  | .hbm, ⟨8, _⟩ => ⟨S1024x4608, .f32⟩
  | .hbm, ⟨9, _⟩ => ⟨S1024x2048, .f32⟩
  | .hbm, ⟨10, _⟩ => ⟨S1024x6656, .f32⟩
  | .hbm, ⟨11, _⟩ => ⟨S1024x6656, .bf16⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S_, .i32⟩
  | .hbm, ⟨18, _⟩ => ⟨S_, .f32⟩
  | .hbm, ⟨19, _⟩ => ⟨S128x512, .f32⟩
  | .hbm, ⟨20, _⟩ => ⟨S1x512, .f32⟩
  | .hbm, ⟨21, _⟩ => ⟨S66560x512, .bf16⟩
  | .hbm, ⟨22, _⟩ => ⟨S66560x512, .bf16⟩
  | .hbm, ⟨23, _⟩ => ⟨S66560x512, .bf16⟩
  | .hbm, ⟨24, _⟩ => ⟨S66560x512, .f32⟩
  | .hbm, ⟨25, _⟩ => ⟨S66560x512, .f32⟩
  | .hbm, ⟨26, _⟩ => ⟨S66560x512, .f32⟩
  | .hbm, ⟨27, _⟩ => ⟨S66560x512, .f32⟩
  | .hbm, ⟨28, _⟩ => ⟨S66560x1024, .bf16⟩
  | .hbm, ⟨29, _⟩ => ⟨S66560x512, .f32⟩
  | .hbm, ⟨30, _⟩ => ⟨S66560x1024, .bf16⟩
  | .hbm, ⟨31, _⟩ => ⟨S66560x1024, .bf16⟩
  | .hbm, ⟨32, _⟩ => ⟨S66560x1024, .bf16⟩
  | .local _ .vmem, ⟨0, _⟩ => ⟨S256x1024, .f32⟩
  | .local _ .vmem, ⟨1, _⟩ => ⟨S256x1024, .f32⟩
  | .local _ .vmem, ⟨2, _⟩ => ⟨S1024x6656, .bf16⟩
  | .local _ .vmem, ⟨3, _⟩ => ⟨S1024x128, .bf16⟩
  | .local _ .vmem, ⟨4, _⟩ => ⟨S128x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x1024, .bf16⟩
  | .local _ .vmem, ⟨21, _⟩ => ⟨S256x1024, .bf16⟩
  | .local _ .vmem, ⟨22, _⟩ => ⟨S256x512, .f32⟩
  | .local _ .vmem, ⟨23, _⟩ => ⟨S256x512, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_v11_8 : Ref sig .tc := ⟨.hbm, 29, rfl⟩
abbrev main_v11_9 : Ref sig .tc := ⟨.hbm, 30, rfl⟩
abbrev main_v11_10 : Ref sig .tc := ⟨.hbm, 31, rfl⟩
abbrev main_v11_11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![260], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6656 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjectReferenceIdeal.lean ====
abbrev S8x8208x1024 : Shape := ⟨3, ![8, 8208, 1024]⟩
abbrev S1024x6672 : Shape := ⟨2, ![1024, 6672]⟩
abbrev S16x512 : Shape := ⟨2, ![16, 512]⟩
abbrev S512 : Shape := ⟨1, ![512]⟩
abbrev S_ : Shape := ⟨0, ![]⟩
abbrev S8x8320x1024 : Shape := ⟨3, ![8, 8320, 1024]⟩
abbrev S8x8320x6672 : Shape := ⟨3, ![8, 8320, 6672]⟩
abbrev S8x8320x512 : Shape := ⟨3, ![8, 8320, 512]⟩
abbrev S8x8320x16 : Shape := ⟨3, ![8, 8320, 16]⟩
abbrev S1x1x512 : Shape := ⟨3, ![1, 1, 512]⟩
abbrev S66560x512 : Shape := ⟨2, ![66560, 512]⟩
abbrev S66560x1024 : Shape := ⟨2, ![66560, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x8208x1024, .f32⟩
  | .hbm, ⟨1, _⟩ => ⟨S1024x6672, .f32⟩
  | .hbm, ⟨2, _⟩ => ⟨S16x512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S8x8320x1024, .f32⟩
  | .hbm, ⟨7, _⟩ => ⟨S8x8320x6672, .f32⟩
  | .hbm, ⟨8, _⟩ => ⟨S8x8320x512, .f32⟩
  | .hbm, ⟨9, _⟩ => ⟨S8x8320x512, .f32⟩
  | .hbm, ⟨10, _⟩ => ⟨S8x8320x512, .f32⟩
  | .hbm, ⟨11, _⟩ => ⟨S8x8320x512, .f32⟩
  | .hbm, ⟨12, _⟩ => ⟨S8x8320x512, .f32⟩
  | .hbm, ⟨13, _⟩ => ⟨S8x8320x1024, .f32⟩
  | .hbm, ⟨14, _⟩ => ⟨S8x8320x1024, .f32⟩
  | .hbm, ⟨15, _⟩ => ⟨S8x8320x16, .f32⟩
  | .hbm, ⟨16, _⟩ => ⟨S8x8320x1024, .f32⟩
  | .hbm, ⟨17, _⟩ => ⟨S8x8320x1024, .f32⟩
  | .hbm, ⟨18, _⟩ => ⟨S8x8320x512, .f32⟩
  | .hbm, ⟨19, _⟩ => ⟨S1x1x512, .f32⟩
  | .hbm, ⟨20, _⟩ => ⟨S8x8320x512, .f32⟩
  | .hbm, ⟨21, _⟩ => ⟨S8x8320x512, .f32⟩
  | .hbm, ⟨22, _⟩ => ⟨S8x8320x512, .f32⟩
  | .hbm, ⟨23, _⟩ => ⟨S_, .f32⟩
  | .hbm, ⟨24, _⟩ => ⟨S8x8320x512, .f32⟩
  | .hbm, ⟨25, _⟩ => ⟨S8x8320x512, .f32⟩
  | .hbm, ⟨26, _⟩ => ⟨S8x8320x512, .f32⟩
  | .hbm, ⟨27, _⟩ => ⟨S8x8320x512, .f32⟩
  | .hbm, ⟨28, _⟩ => ⟨S8x8320x512, .i1⟩
  | .hbm, ⟨29, _⟩ => ⟨S8x8320x512, .f32⟩
  | .hbm, ⟨30, _⟩ => ⟨S8x8320x512, .f32⟩
  | .hbm, ⟨31, _⟩ => ⟨S8x8320x512, .f32⟩
  | .hbm, ⟨32, _⟩ => ⟨S8x8320x512, .f32⟩
  | .hbm, ⟨33, _⟩ => ⟨S8x8320x512, .f32⟩
  | .hbm, ⟨34, _⟩ => ⟨S8x8320x512, .f32⟩
  | .hbm, ⟨35, _⟩ => ⟨S8x8320x512, .f32⟩
  | .hbm, ⟨36, _⟩ => ⟨S8x8320x512, .f32⟩
  | .hbm, ⟨37, _⟩ => ⟨S8x8320x512, .f32⟩
  | .hbm, ⟨38, _⟩ => ⟨S_, .f32⟩
  | .hbm, ⟨39, _⟩ => ⟨S8x8320x512, .f32⟩
  | .hbm, ⟨40, _⟩ => ⟨S8x8320x512, .f32⟩
  | .hbm, ⟨41, _⟩ => ⟨S_, .f32⟩
  | .hbm, ⟨42, _⟩ => ⟨S8x8320x512, .f32⟩
  | .hbm, ⟨43, _⟩ => ⟨S8x8320x512, .f32⟩
  | .hbm, ⟨44, _⟩ => ⟨S66560x512, .f32⟩
  | .hbm, ⟨45, _⟩ => ⟨S66560x512, .bf16⟩
  | .hbm, ⟨46, _⟩ => ⟨S66560x512, .f32⟩
  | .hbm, ⟨47, _⟩ => ⟨S66560x512, .bf16⟩
  | .hbm, ⟨48, _⟩ => ⟨S66560x512, .f32⟩
  | .hbm, ⟨49, _⟩ => ⟨S66560x512, .bf16⟩
  | .hbm, ⟨50, _⟩ => ⟨S66560x512, .f32⟩
  | .hbm, ⟨51, _⟩ => ⟨S66560x512, .f32⟩
  | .hbm, ⟨52, _⟩ => ⟨S_, .f32⟩
  | .hbm, ⟨53, _⟩ => ⟨S8x8320x512, .f32⟩
  | .hbm, ⟨54, _⟩ => ⟨S8x8320x512, .f32⟩
  | .hbm, ⟨55, _⟩ => ⟨S66560x512, .f32⟩
  | .hbm, ⟨56, _⟩ => ⟨S66560x512, .f32⟩
  | .hbm, ⟨57, _⟩ => ⟨S66560x1024, .f32⟩
  | .hbm, ⟨58, _⟩ => ⟨S66560x1024, .bf16⟩
  | .hbm, ⟨59, _⟩ => ⟨S66560x512, .f32⟩
  | .hbm, ⟨60, _⟩ => ⟨S8x8320x1024, .f32⟩
  | .hbm, ⟨61, _⟩ => ⟨S8x8320x1024, .f32⟩
  | .hbm, ⟨62, _⟩ => ⟨S_, .f32⟩
  | .hbm, ⟨63, _⟩ => ⟨S8x8320x1024, .f32⟩
  | .hbm, ⟨64, _⟩ => ⟨S8x8320x1024, .f32⟩
  | .hbm, ⟨65, _⟩ => ⟨S_, .f32⟩
  | .hbm, ⟨66, _⟩ => ⟨S8x8320x1024, .f32⟩
  | .hbm, ⟨67, _⟩ => ⟨S8x8320x1024, .f32⟩
  | .hbm, ⟨68, _⟩ => ⟨S8x8320x1024, .f32⟩
  | .hbm, ⟨69, _⟩ => ⟨S66560x1024, .f32⟩
  | .hbm, ⟨70, _⟩ => ⟨S66560x1024, .bf16⟩
  | .hbm, ⟨71, _⟩ => ⟨S8x8320x1024, .f32⟩
  | .hbm, ⟨72, _⟩ => ⟨S8x8320x1024, .f32⟩
  | .hbm, ⟨73, _⟩ => ⟨S_, .f32⟩
  | .hbm, ⟨74, _⟩ => ⟨S8x8320x1024, .f32⟩
  | .hbm, ⟨75, _⟩ => ⟨S8x8320x1024, .f32⟩
  | .hbm, ⟨76, _⟩ => ⟨S_, .f32⟩
  | .hbm, ⟨77, _⟩ => ⟨S8x8320x1024, .f32⟩
  | .hbm, ⟨78, _⟩ => ⟨S8x8320x1024, .f32⟩
  | .hbm, ⟨79, _⟩ => ⟨S66560x1024, .f32⟩
  | .hbm, ⟨80, _⟩ => ⟨S66560x1024, .bf16⟩
  | .hbm, ⟨81, _⟩ => ⟨S8x8320x1024, .f32⟩
  | .hbm, ⟨82, _⟩ => ⟨S8x8320x1024, .f32⟩
  | .hbm, ⟨83, _⟩ => ⟨S_, .f32⟩
  | .hbm, ⟨84, _⟩ => ⟨S8x8320x1024, .f32⟩
  | .hbm, ⟨85, _⟩ => ⟨S8x8320x1024, .f32⟩
  | .hbm, ⟨86, _⟩ => ⟨S_, .f32⟩
  | .hbm, ⟨87, _⟩ => ⟨S8x8320x1024, .f32⟩
  | .hbm, ⟨88, _⟩ => ⟨S8x8320x1024, .f32⟩
  | .hbm, ⟨89, _⟩ => ⟨S66560x1024, .f32⟩
  | .hbm, ⟨90, _⟩ => ⟨S66560x1024, .bf16⟩
  | _, _ => ⟨S8x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call1_v0 : Ref sig .tc := ⟨.hbm, 22, rfl⟩
abbrev main_call1_call0_cst : Ref sig .tc := ⟨.hbm, 23, rfl⟩
abbrev main_call1_call0_v0 : Ref sig .tc := ⟨.hbm, 24, rfl⟩
abbrev main_call1_call0_v1 : Ref sig .tc := ⟨.hbm, 25, rfl⟩
abbrev main_call1_call0_v2 : Ref sig .tc := ⟨.hbm, 26, rfl⟩
abbrev main_call1_call0_v3 : Ref sig .tc := ⟨.hbm, 27, rfl⟩
abbrev main_call1_call0_v4 : Ref sig .tc := ⟨.hbm, 28, rfl⟩
abbrev main_call1_call0_v5 : Ref sig .tc := ⟨.hbm, 29, rfl⟩
abbrev main_call1_call0_v6 : Ref sig .tc := ⟨.hbm, 30, rfl⟩
abbrev main_call1_call0_v7 : Ref sig .tc := ⟨.hbm, 31, rfl⟩
abbrev main_call1_call0_v8 : Ref sig .tc := ⟨.hbm, 32, rfl⟩
abbrev main_call1_call0_v9 : Ref sig .tc := ⟨.hbm, 33, rfl⟩
abbrev main_call1_call0_v10 : Ref sig .tc := ⟨.hbm, 34, rfl⟩
abbrev main_call1_call0_v11 : Ref sig .tc := ⟨.hbm, 35, rfl⟩
abbrev main_call1_v1 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_2 : Ref sig .tc := ⟨.hbm, 73, rfl⟩
abbrev main_v41 : Ref sig .tc := ⟨.hbm, 74, rfl⟩
abbrev main_v42 : Ref sig .tc := ⟨.hbm, 75, rfl⟩
abbrev main_cst_3 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_4 : Ref sig .tc := ⟨.hbm, 83, rfl⟩
abbrev main_v49 : Ref sig .tc := ⟨.hbm, 84, rfl⟩
abbrev main_v50 : Ref sig .tc := ⟨.hbm, 85, rfl⟩
abbrev main_cst_5 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩

abbrev nD : Nat := 1
abbrev τ : Topo := Topo.v7x

variable {F : FTy → Type} [FloatOps F]
-- ==== ProjectSample.lean ====
abbrev S8x16x1024 : Shape := ⟨3, ![8, 16, 1024]⟩
abbrev S1024x6672 : Shape := ⟨2, ![1024, 6672]⟩
abbrev S16x512 : Shape := ⟨2, ![16, 512]⟩
abbrev S512 : Shape := ⟨1, ![512]⟩
abbrev S128x1024 : Shape := ⟨2, ![128, 1024]⟩
abbrev S1024x4608 : Shape := ⟨2, ![1024, 4608]⟩
abbrev S1024x2048 : Shape := ⟨2, ![1024, 2048]⟩
abbrev S1024x6656 : Shape := ⟨2, ![1024, 6656]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S1x512 : Shape := ⟨2, ![1, 512]⟩
abbrev S1024x512 : Shape := ⟨2, ![1024, 512]⟩
abbrev S1024x1024 : Shape := ⟨2, ![1024, 1024]⟩
abbrev S128x128 : Shape := ⟨2, ![128, 128]⟩

abbrev nBuf : Space → Nat
  | .hbm => 30
  | .vmem => 17
  | .smem => 0
  | _ => 0

abbrev bufTy : (tb : Table) → Fin (tcTables nBuf tb) → BufTy
  | .hbm, ⟨0, _⟩ => ⟨S8x16x1024, .f32⟩
  | .hbm, ⟨1, _⟩ => ⟨S1024x6672, .f32⟩
  | .hbm, ⟨2, _⟩ => ⟨S16x512, .f32⟩
  | .hbm, ⟨3, _⟩ => ⟨S512, .f32⟩
  | .hbm, ⟨4, _⟩ => ⟨S128x1024, .f32⟩
  | .hbm, ⟨5, _⟩ => ⟨S1024x4608, .f32⟩
  | .hbm, ⟨6, _⟩ => ⟨S1024x2048, .f32⟩
  | .hbm, ⟨7, _⟩ => ⟨S1024x6656, .f32⟩
  | .hbm, ⟨8, _⟩ => ⟨S1024x6656, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .i32⟩
  | .hbm, ⟨15, _⟩ => ⟨S_, .f32⟩
  | .hbm, ⟨16, _⟩ => ⟨S128x512, .f32⟩
  | .hbm, ⟨17, _⟩ => ⟨S1x512, .f32⟩
  | .hbm, ⟨18, _⟩ => ⟨S128x512, .bf16⟩
  | .hbm, ⟨19, _⟩ => ⟨S128x512, .bf16⟩
  | .hbm, ⟨20, _⟩ => ⟨S128x512, .bf16⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x1024, .bf16⟩
  | .hbm, ⟨26, _⟩ => ⟨S128x512, .f32⟩
  | .hbm, ⟨27, _⟩ => ⟨S128x1024, .bf16⟩
  | .hbm, ⟨28, _⟩ => ⟨S128x1024, .bf16⟩
  | .hbm, ⟨29, _⟩ => ⟨S128x1024, .bf16⟩
  | .local _ .vmem, ⟨0, _⟩ => ⟨S128x1024, .f32⟩
  | .local _ .vmem, ⟨1, _⟩ => ⟨S1024x6656, .bf16⟩
  | .local _ .vmem, ⟨2, _⟩ => ⟨S1024x128, .bf16⟩
  | .local _ .vmem, ⟨3, _⟩ => ⟨S128x512, .f32⟩
  | .local _ .vmem, ⟨4, _⟩ => ⟨S1x512, .f32⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x1024, .bf16⟩
  | .local _ .vmem, ⟨13, _⟩ => ⟨S128x512, .f32⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_v10_7 : Ref sig .tc := ⟨.hbm, 25, rfl⟩
abbrev main_v10_8 : Ref sig .tc := ⟨.hbm, 26, rfl⟩
abbrev main_v10_9 : Ref sig .tc := ⟨.hbm, 27, rfl⟩
abbrev main_v10_10 : Ref sig .tc := ⟨.hbm, 28, rfl⟩
abbrev main_v10_11 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x6656 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== ProjectSampleReferenceIdeal.lean ====
abbrev S8x16x1024 : Shape := ⟨3, ![8, 16, 1024]⟩
abbrev S1024x6672 : Shape := ⟨2, ![1024, 6672]⟩
abbrev S16x512 : Shape := ⟨2, ![16, 512]⟩
abbrev S512 : Shape := ⟨1, ![512]⟩
abbrev S8x16x6672 : Shape := ⟨3, ![8, 16, 6672]⟩
abbrev S8x16x512 : Shape := ⟨3, ![8, 16, 512]⟩
abbrev S8x16x16 : Shape := ⟨3, ![8, 16, 16]⟩
abbrev S1x1x512 : Shape := ⟨3, ![1, 1, 512]⟩
abbrev S_ : Shape := ⟨0, ![]⟩
abbrev S128x512 : Shape := ⟨2, ![128, 512]⟩
abbrev S128x1024 : Shape := ⟨2, ![128, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1024x6672, .f32⟩
  | .hbm, ⟨2, _⟩ => ⟨S16x512, .f32⟩
  | .hbm, ⟨3, _⟩ => ⟨S512, .f32⟩
  | .hbm, ⟨4, _⟩ => ⟨S8x16x6672, .f32⟩
  | .hbm, ⟨5, _⟩ => ⟨S8x16x512, .f32⟩
  | .hbm, ⟨6, _⟩ => ⟨S8x16x512, .f32⟩
  | .hbm, ⟨7, _⟩ => ⟨S8x16x512, .f32⟩
  | .hbm, ⟨8, _⟩ => ⟨S8x16x512, .f32⟩
  | .hbm, ⟨9, _⟩ => ⟨S8x16x512, .f32⟩
  | .hbm, ⟨10, _⟩ => ⟨S8x16x1024, .f32⟩
  | .hbm, ⟨11, _⟩ => ⟨S8x16x1024, .f32⟩
  | .hbm, ⟨12, _⟩ => ⟨S8x16x16, .f32⟩
  | .hbm, ⟨13, _⟩ => ⟨S8x16x1024, .f32⟩
  | .hbm, ⟨14, _⟩ => ⟨S8x16x1024, .f32⟩
  | .hbm, ⟨15, _⟩ => ⟨S8x16x512, .f32⟩
  | .hbm, ⟨16, _⟩ => ⟨S1x1x512, .f32⟩
  | .hbm, ⟨17, _⟩ => ⟨S8x16x512, .f32⟩
  | .hbm, ⟨18, _⟩ => ⟨S8x16x512, .f32⟩
  | .hbm, ⟨19, _⟩ => ⟨S8x16x512, .f32⟩
  | .hbm, ⟨20, _⟩ => ⟨S_, .f32⟩
  | .hbm, ⟨21, _⟩ => ⟨S8x16x512, .f32⟩
  | .hbm, ⟨22, _⟩ => ⟨S8x16x512, .f32⟩
  | .hbm, ⟨23, _⟩ => ⟨S8x16x512, .f32⟩
  | .hbm, ⟨24, _⟩ => ⟨S8x16x512, .f32⟩
  | .hbm, ⟨25, _⟩ => ⟨S8x16x512, .i1⟩
  | .hbm, ⟨26, _⟩ => ⟨S8x16x512, .f32⟩
  | .hbm, ⟨27, _⟩ => ⟨S8x16x512, .f32⟩
  | .hbm, ⟨28, _⟩ => ⟨S8x16x512, .f32⟩
  | .hbm, ⟨29, _⟩ => ⟨S8x16x512, .f32⟩
  | .hbm, ⟨30, _⟩ => ⟨S8x16x512, .f32⟩
  | .hbm, ⟨31, _⟩ => ⟨S8x16x512, .f32⟩
  | .hbm, ⟨32, _⟩ => ⟨S8x16x512, .f32⟩
  | .hbm, ⟨33, _⟩ => ⟨S8x16x512, .f32⟩
  | .hbm, ⟨34, _⟩ => ⟨S8x16x512, .f32⟩
  | .hbm, ⟨35, _⟩ => ⟨S_, .f32⟩
  | .hbm, ⟨36, _⟩ => ⟨S8x16x512, .f32⟩
  | .hbm, ⟨37, _⟩ => ⟨S8x16x512, .f32⟩
  | .hbm, ⟨38, _⟩ => ⟨S_, .f32⟩
  | .hbm, ⟨39, _⟩ => ⟨S8x16x512, .f32⟩
  | .hbm, ⟨40, _⟩ => ⟨S8x16x512, .f32⟩
  | .hbm, ⟨41, _⟩ => ⟨S128x512, .f32⟩
  | .hbm, ⟨42, _⟩ => ⟨S128x512, .bf16⟩
  | .hbm, ⟨43, _⟩ => ⟨S128x512, .f32⟩
  | .hbm, ⟨44, _⟩ => ⟨S128x512, .bf16⟩
  | .hbm, ⟨45, _⟩ => ⟨S128x512, .f32⟩
  | .hbm, ⟨46, _⟩ => ⟨S128x512, .bf16⟩
  | .hbm, ⟨47, _⟩ => ⟨S128x512, .f32⟩
  | .hbm, ⟨48, _⟩ => ⟨S128x512, .f32⟩
  | .hbm, ⟨49, _⟩ => ⟨S_, .f32⟩
  | .hbm, ⟨50, _⟩ => ⟨S8x16x512, .f32⟩
  | .hbm, ⟨51, _⟩ => ⟨S8x16x512, .f32⟩
  | .hbm, ⟨52, _⟩ => ⟨S128x512, .f32⟩
  | .hbm, ⟨53, _⟩ => ⟨S128x512, .f32⟩
  | .hbm, ⟨54, _⟩ => ⟨S128x1024, .f32⟩
  | .hbm, ⟨55, _⟩ => ⟨S128x1024, .bf16⟩
  | .hbm, ⟨56, _⟩ => ⟨S128x512, .f32⟩
  | .hbm, ⟨57, _⟩ => ⟨S8x16x1024, .f32⟩
  | .hbm, ⟨58, _⟩ => ⟨S8x16x1024, .f32⟩
  | .hbm, ⟨59, _⟩ => ⟨S_, .f32⟩
  | .hbm, ⟨60, _⟩ => ⟨S8x16x1024, .f32⟩
  | .hbm, ⟨61, _⟩ => ⟨S8x16x1024, .f32⟩
  | .hbm, ⟨62, _⟩ => ⟨S_, .f32⟩
  | .hbm, ⟨63, _⟩ => ⟨S8x16x1024, .f32⟩
  | .hbm, ⟨64, _⟩ => ⟨S8x16x1024, .f32⟩
  | .hbm, ⟨65, _⟩ => ⟨S8x16x1024, .f32⟩
  | .hbm, ⟨66, _⟩ => ⟨S128x1024, .f32⟩
  | .hbm, ⟨67, _⟩ => ⟨S128x1024, .bf16⟩
  | .hbm, ⟨68, _⟩ => ⟨S8x16x1024, .f32⟩
  | .hbm, ⟨69, _⟩ => ⟨S8x16x1024, .f32⟩
  | .hbm, ⟨70, _⟩ => ⟨S_, .f32⟩
  | .hbm, ⟨71, _⟩ => ⟨S8x16x1024, .f32⟩
  | .hbm, ⟨72, _⟩ => ⟨S8x16x1024, .f32⟩
  | .hbm, ⟨73, _⟩ => ⟨S_, .f32⟩
  | .hbm, ⟨74, _⟩ => ⟨S8x16x1024, .f32⟩
  | .hbm, ⟨75, _⟩ => ⟨S8x16x1024, .f32⟩
  | .hbm, ⟨76, _⟩ => ⟨S128x1024, .f32⟩
  | .hbm, ⟨77, _⟩ => ⟨S128x1024, .bf16⟩
  | .hbm, ⟨78, _⟩ => ⟨S8x16x1024, .f32⟩
  | .hbm, ⟨79, _⟩ => ⟨S8x16x1024, .f32⟩
  | .hbm, ⟨80, _⟩ => ⟨S_, .f32⟩
  | .hbm, ⟨81, _⟩ => ⟨S8x16x1024, .f32⟩
  | .hbm, ⟨82, _⟩ => ⟨S8x16x1024, .f32⟩
  | .hbm, ⟨83, _⟩ => ⟨S_, .f32⟩
  | .hbm, ⟨84, _⟩ => ⟨S8x16x1024, .f32⟩
  | .hbm, ⟨85, _⟩ => ⟨S8x16x1024, .f32⟩
  | .hbm, ⟨86, _⟩ => ⟨S128x1024, .f32⟩
  | .hbm, ⟨87, _⟩ => ⟨S128x1024, .bf16⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_2 : Ref sig .tc := ⟨.hbm, 70, rfl⟩
abbrev main_v40 : Ref sig .tc := ⟨.hbm, 71, rfl⟩
abbrev main_v41 : Ref sig .tc := ⟨.hbm, 72, rfl⟩
abbrev main_cst_3 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_4 : Ref sig .tc := ⟨.hbm, 80, rfl⟩
abbrev main_v48 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩

abbrev nD : Nat := 1
abbrev τ : Topo := Topo.v7x

variable {F : FTy → Type} [FloatOps F]
-- ==== Merge.lean ====
abbrev S8x8208x1024 : Shape := ⟨3, ![8, 8208, 1024]⟩
abbrev S8x8208x8x64 : Shape := ⟨4, ![8, 8208, 8, 64]⟩
abbrev S8x8208x4x256 : Shape := ⟨4, ![8, 8208, 4, 256]⟩
abbrev S256 : Shape := ⟨1, ![256]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x8320x1024 : Shape := ⟨3, ![8, 8320, 1024]⟩
abbrev S66560x1024 : Shape := ⟨2, ![66560, 1024]⟩
abbrev S8x8320x8x64 : Shape := ⟨4, ![8, 8320, 8, 64]⟩
abbrev S66560x512 : Shape := ⟨2, ![66560, 512]⟩
abbrev S8x8320x4x256 : Shape := ⟨4, ![8, 8320, 4, 256]⟩
abbrev S1x256 : Shape := ⟨2, ![1, 256]⟩
abbrev S1x1024 : Shape := ⟨2, ![1, 1024]⟩
abbrev S256x1024 : Shape := ⟨2, ![256, 1024]⟩
abbrev S256x512 : Shape := ⟨2, ![256, 512]⟩
abbrev S256x256 : Shape := ⟨2, ![256, 256]⟩
abbrev S256x1 : Shape := ⟨2, ![256, 1]⟩

abbrev nBuf : Space → Nat
  | .hbm => 72
  | .vmem => 20
  | .smem => 0
  | _ => 0

abbrev bufTy : (tb : Table) → Fin (tcTables nBuf tb) → BufTy
  | .hbm, ⟨0, _⟩ => ⟨S8x8208x1024, .f32⟩
  | .hbm, ⟨1, _⟩ => ⟨S8x8208x8x64, .f32⟩
  | .hbm, ⟨2, _⟩ => ⟨S8x8208x4x256, .f32⟩
  | .hbm, ⟨3, _⟩ => ⟨S8x8208x1024, .f32⟩
  | .hbm, ⟨4, _⟩ => ⟨S8x8208x1024, .f32⟩
  | .hbm, ⟨5, _⟩ => ⟨S8x8208x1024, .f32⟩
  | .hbm, ⟨6, _⟩ => ⟨S256, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S_, .i32⟩
  | .hbm, ⟨13, _⟩ => ⟨S_, .f32⟩
  | .hbm, ⟨14, _⟩ => ⟨S8x8320x1024, .f32⟩
  | .hbm, ⟨15, _⟩ => ⟨S66560x1024, .f32⟩
  | .hbm, ⟨16, _⟩ => ⟨S_, .i32⟩
  | .hbm, ⟨17, _⟩ => ⟨S_, .f32⟩
  | .hbm, ⟨18, _⟩ => ⟨S8x8320x1024, .f32⟩
  | .hbm, ⟨19, _⟩ => ⟨S66560x1024, .f32⟩
  | .hbm, ⟨20, _⟩ => ⟨S_, .i32⟩
  | .hbm, ⟨21, _⟩ => ⟨S_, .f32⟩
  | .hbm, ⟨22, _⟩ => ⟨S8x8320x8x64, .f32⟩
  | .hbm, ⟨23, _⟩ => ⟨S66560x512, .f32⟩
  | .hbm, ⟨24, _⟩ => ⟨S66560x512, .bf16⟩
  | .hbm, ⟨25, _⟩ => ⟨S_, .i32⟩
  | .hbm, ⟨26, _⟩ => ⟨S_, .f32⟩
  | .hbm, ⟨27, _⟩ => ⟨S8x8320x4x256, .f32⟩
  | .hbm, ⟨28, _⟩ => ⟨S66560x1024, .f32⟩
  | .hbm, ⟨29, _⟩ => ⟨S66560x1024, .f32⟩
  | .hbm, ⟨30, _⟩ => ⟨S66560x1024, .f32⟩
  | .hbm, ⟨31, _⟩ => ⟨S_, .f32⟩
  | .hbm, ⟨32, _⟩ => ⟨S66560x1024, .f32⟩
  | .hbm, ⟨33, _⟩ => ⟨S66560x1024, .f32⟩
  | .hbm, ⟨34, _⟩ => ⟨S_, .f32⟩
  | .hbm, ⟨35, _⟩ => ⟨S66560x1024, .f32⟩
  | .hbm, ⟨36, _⟩ => ⟨S66560x1024, .f32⟩
  | .hbm, ⟨37, _⟩ => ⟨S66560x1024, .f32⟩
  | .hbm, ⟨38, _⟩ => ⟨S66560x1024, .bf16⟩
  | .hbm, ⟨39, _⟩ => ⟨S_, .i32⟩
  | .hbm, ⟨40, _⟩ => ⟨S_, .f32⟩
  | .hbm, ⟨41, _⟩ => ⟨S8x8320x1024, .f32⟩
  | .hbm, ⟨42, _⟩ => ⟨S66560x1024, .f32⟩
  | .hbm, ⟨43, _⟩ => ⟨S66560x1024, .f32⟩
  | .hbm, ⟨44, _⟩ => ⟨S66560x1024, .f32⟩
  | .hbm, ⟨45, _⟩ => ⟨S_, .f32⟩
  | .hbm, ⟨46, _⟩ => ⟨S66560x1024, .f32⟩
  | .hbm, ⟨47, _⟩ => ⟨S66560x1024, .f32⟩
  | .hbm, ⟨48, _⟩ => ⟨S_, .f32⟩
  | .hbm, ⟨49, _⟩ => ⟨S66560x1024, .f32⟩
  | .hbm, ⟨50, _⟩ => ⟨S66560x1024, .f32⟩
  | .hbm, ⟨51, _⟩ => ⟨S66560x1024, .bf16⟩
  | .hbm, ⟨52, _⟩ => ⟨S_, .i32⟩
  | .hbm, ⟨53, _⟩ => ⟨S_, .f32⟩
  | .hbm, ⟨54, _⟩ => ⟨S8x8320x1024, .f32⟩
  | .hbm, ⟨55, _⟩ => ⟨S66560x1024, .f32⟩
  | .hbm, ⟨56, _⟩ => ⟨S66560x1024, .f32⟩
  | .hbm, ⟨57, _⟩ => ⟨S66560x1024, .f32⟩
  | .hbm, ⟨58, _⟩ => ⟨S_, .f32⟩
  | .hbm, ⟨59, _⟩ => ⟨S66560x1024, .f32⟩
  | .hbm, ⟨60, _⟩ => ⟨S66560x1024, .f32⟩
  | .hbm, ⟨61, _⟩ => ⟨S_, .f32⟩
  | .hbm, ⟨62, _⟩ => ⟨S66560x1024, .f32⟩
  | .hbm, ⟨63, _⟩ => ⟨S66560x1024, .f32⟩
  | .hbm, ⟨64, _⟩ => ⟨S66560x1024, .bf16⟩
  | .hbm, ⟨65, _⟩ => ⟨S1x256, .f32⟩
  | .hbm, ⟨66, _⟩ => ⟨S512x1024, .bf16⟩
  | .hbm, ⟨67, _⟩ => ⟨S1024x1024, .bf16⟩
  | .hbm, ⟨68, _⟩ => ⟨S1024x1024, .bf16⟩
  | .hbm, ⟨69, _⟩ => ⟨S1x1024, .f32⟩
  | .hbm, ⟨70, _⟩ => ⟨S1x1024, .f32⟩
  | .hbm, ⟨71, _⟩ => ⟨S66560x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x256, .f32⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_call1_v0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_call2_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_2 : Ref sig .tc := ⟨.hbm, 25, rfl⟩
abbrev main_call3_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_call4_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_call5_v0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_v31 : Ref sig .tc := ⟨.hbm, 60, rfl⟩
abbrev main_cst_9 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![260], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S8x8208x1024 : Shape := ⟨3, ![8, 8208, 1024]⟩
abbrev S8x8208x8x64 : Shape := ⟨4, ![8, 8208, 8, 64]⟩
abbrev S8x8208x4x256 : Shape := ⟨4, ![8, 8208, 4, 256]⟩
abbrev S256 : Shape := ⟨1, ![256]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x8320x1024 : Shape := ⟨3, ![8, 8320, 1024]⟩
abbrev S8x8320x8x64 : Shape := ⟨4, ![8, 8320, 8, 64]⟩
abbrev S8x8320x4x256 : Shape := ⟨4, ![8, 8320, 4, 256]⟩
abbrev S8x8320x4 : Shape := ⟨3, ![8, 8320, 4]⟩
abbrev S8x8320x4x1 : Shape := ⟨4, ![8, 8320, 4, 1]⟩
abbrev S1x1x1x256 : Shape := ⟨4, ![1, 1, 1, 256]⟩
abbrev S8x8320x512 : Shape := ⟨3, ![8, 8320, 512]⟩
abbrev S8x8320 : Shape := ⟨2, ![8, 8320]⟩
abbrev S8x8320x1 : Shape := ⟨3, ![8, 8320, 1]⟩
abbrev S1x1x1024 : Shape := ⟨3, ![1, 1, 1024]⟩
abbrev S66560x1024 : Shape := ⟨2, ![66560, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8x8208x1024, .f32⟩
  | .hbm, ⟨1, _⟩ => ⟨S8x8208x8x64, .f32⟩
  | .hbm, ⟨2, _⟩ => ⟨S8x8208x4x256, .f32⟩
  | .hbm, ⟨3, _⟩ => ⟨S8x8208x1024, .f32⟩
  | .hbm, ⟨4, _⟩ => ⟨S8x8208x1024, .f32⟩
  | .hbm, ⟨5, _⟩ => ⟨S8x8208x1024, .f32⟩
  | .hbm, ⟨6, _⟩ => ⟨S256, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S_, .i32⟩
  | .hbm, ⟨13, _⟩ => ⟨S_, .f32⟩
  | .hbm, ⟨14, _⟩ => ⟨S8x8320x1024, .f32⟩
  | .hbm, ⟨15, _⟩ => ⟨S_, .i32⟩
  | .hbm, ⟨16, _⟩ => ⟨S_, .f32⟩
  | .hbm, ⟨17, _⟩ => ⟨S8x8320x8x64, .f32⟩
  | .hbm, ⟨18, _⟩ => ⟨S_, .i32⟩
  | .hbm, ⟨19, _⟩ => ⟨S_, .f32⟩
  | .hbm, ⟨20, _⟩ => ⟨S8x8320x4x256, .f32⟩
  | .hbm, ⟨21, _⟩ => ⟨S_, .i32⟩
  | .hbm, ⟨22, _⟩ => ⟨S_, .f32⟩
  | .hbm, ⟨23, _⟩ => ⟨S8x8320x1024, .f32⟩
  | .hbm, ⟨24, _⟩ => ⟨S_, .i32⟩
  | .hbm, ⟨25, _⟩ => ⟨S_, .f32⟩
  | .hbm, ⟨26, _⟩ => ⟨S8x8320x1024, .f32⟩
  | .hbm, ⟨27, _⟩ => ⟨S_, .i32⟩
  | .hbm, ⟨28, _⟩ => ⟨S_, .f32⟩
  | .hbm, ⟨29, _⟩ => ⟨S8x8320x1024, .f32⟩
  | .hbm, ⟨30, _⟩ => ⟨S8x8320x4x256, .f32⟩
  | .hbm, ⟨31, _⟩ => ⟨S_, .f32⟩
  | .hbm, ⟨32, _⟩ => ⟨S8x8320x4, .f32⟩
  | .hbm, ⟨33, _⟩ => ⟨S8x8320x4x1, .f32⟩
  | .hbm, ⟨34, _⟩ => ⟨S_, .f32⟩
  | .hbm, ⟨35, _⟩ => ⟨S8x8320x4x1, .f32⟩
  | .hbm, ⟨36, _⟩ => ⟨S8x8320x4x1, .f32⟩
  | .hbm, ⟨37, _⟩ => ⟨S_, .f32⟩
  | .hbm, ⟨38, _⟩ => ⟨S8x8320x4x1, .f32⟩
  | .hbm, ⟨39, _⟩ => ⟨S8x8320x4x1, .f32⟩
  | .hbm, ⟨40, _⟩ => ⟨S8x8320x4x1, .f32⟩
  | .hbm, ⟨41, _⟩ => ⟨S8x8320x4x256, .f32⟩
  | .hbm, ⟨42, _⟩ => ⟨S8x8320x4x256, .f32⟩
  | .hbm, ⟨43, _⟩ => ⟨S1x1x1x256, .f32⟩
  | .hbm, ⟨44, _⟩ => ⟨S8x8320x4x256, .f32⟩
  | .hbm, ⟨45, _⟩ => ⟨S8x8320x4x256, .f32⟩
  | .hbm, ⟨46, _⟩ => ⟨S8x8320x1024, .f32⟩
  | .hbm, ⟨47, _⟩ => ⟨S8x8320x1024, .f32⟩
  | .hbm, ⟨48, _⟩ => ⟨S8x8320x1024, .f32⟩
  | .hbm, ⟨49, _⟩ => ⟨S_, .f32⟩
  | .hbm, ⟨50, _⟩ => ⟨S8x8320x1024, .f32⟩
  | .hbm, ⟨51, _⟩ => ⟨S8x8320x1024, .f32⟩
  | .hbm, ⟨52, _⟩ => ⟨S_, .f32⟩
  | .hbm, ⟨53, _⟩ => ⟨S8x8320x1024, .f32⟩
  | .hbm, ⟨54, _⟩ => ⟨S8x8320x1024, .f32⟩
  | .hbm, ⟨55, _⟩ => ⟨S8x8320x1024, .f32⟩
  | .hbm, ⟨56, _⟩ => ⟨S8x8320x1024, .f32⟩
  | .hbm, ⟨57, _⟩ => ⟨S8x8320x1024, .f32⟩
  | .hbm, ⟨58, _⟩ => ⟨S8x8320x512, .f32⟩
  | .hbm, ⟨59, _⟩ => ⟨S8x8320x1024, .f32⟩
  | .hbm, ⟨60, _⟩ => ⟨S8x8320x1024, .f32⟩
  | .hbm, ⟨61, _⟩ => ⟨S8x8320x1024, .f32⟩
  | .hbm, ⟨62, _⟩ => ⟨S_, .f32⟩
  | .hbm, ⟨63, _⟩ => ⟨S8x8320x1024, .f32⟩
  | .hbm, ⟨64, _⟩ => ⟨S8x8320x1024, .f32⟩
  | .hbm, ⟨65, _⟩ => ⟨S_, .f32⟩
  | .hbm, ⟨66, _⟩ => ⟨S8x8320x1024, .f32⟩
  | .hbm, ⟨67, _⟩ => ⟨S8x8320x1024, .f32⟩
  | .hbm, ⟨68, _⟩ => ⟨S8x8320x1024, .f32⟩
  | .hbm, ⟨69, _⟩ => ⟨S8x8320x1024, .f32⟩
  | .hbm, ⟨70, _⟩ => ⟨S8x8320x1024, .f32⟩
  | .hbm, ⟨71, _⟩ => ⟨S_, .f32⟩
  | .hbm, ⟨72, _⟩ => ⟨S8x8320x1024, .f32⟩
  | .hbm, ⟨73, _⟩ => ⟨S8x8320x1024, .f32⟩
  | .hbm, ⟨74, _⟩ => ⟨S_, .f32⟩
  | .hbm, ⟨75, _⟩ => ⟨S8x8320x1024, .f32⟩
  | .hbm, ⟨76, _⟩ => ⟨S8x8320x1024, .f32⟩
  | .hbm, ⟨77, _⟩ => ⟨S8x8320x1024, .f32⟩
  | .hbm, ⟨78, _⟩ => ⟨S8x8320x1024, .f32⟩
  | .hbm, ⟨79, _⟩ => ⟨S8x8320x1024, .f32⟩
  | .hbm, ⟨80, _⟩ => ⟨S_, .f32⟩
  | .hbm, ⟨81, _⟩ => ⟨S8x8320x1024, .f32⟩
  | .hbm, ⟨82, _⟩ => ⟨S8x8320x1024, .f32⟩
  | .hbm, ⟨83, _⟩ => ⟨S8x8320x1024, .f32⟩
  | .hbm, ⟨84, _⟩ => ⟨S_, .f32⟩
  | .hbm, ⟨85, _⟩ => ⟨S8x8320, .f32⟩
  | .hbm, ⟨86, _⟩ => ⟨S8x8320x1, .f32⟩
  | .hbm, ⟨87, _⟩ => ⟨S_, .f32⟩
  | .hbm, ⟨88, _⟩ => ⟨S8x8320x1, .f32⟩
  | .hbm, ⟨89, _⟩ => ⟨S8x8320x1, .f32⟩
  | .hbm, ⟨90, _⟩ => ⟨S8x8320x1024, .f32⟩
  | .hbm, ⟨91, _⟩ => ⟨S8x8320x1024, .f32⟩
  | .hbm, ⟨92, _⟩ => ⟨S8x8320x1024, .f32⟩
  | .hbm, ⟨93, _⟩ => ⟨S_, .f32⟩
  | .hbm, ⟨94, _⟩ => ⟨S8x8320, .f32⟩
  | .hbm, ⟨95, _⟩ => ⟨S8x8320x1, .f32⟩
  | .hbm, ⟨96, _⟩ => ⟨S_, .f32⟩
  | .hbm, ⟨97, _⟩ => ⟨S8x8320x1, .f32⟩
  | .hbm, ⟨98, _⟩ => ⟨S8x8320x1, .f32⟩
  | .hbm, ⟨99, _⟩ => ⟨S8x8320x1024, .f32⟩
  | .hbm, ⟨100, _⟩ => ⟨S8x8320x1024, .f32⟩
  | .hbm, ⟨101, _⟩ => ⟨S_, .f32⟩
  | .hbm, ⟨102, _⟩ => ⟨S8x8320x1, .f32⟩
  | .hbm, ⟨103, _⟩ => ⟨S8x8320x1, .f32⟩
  | .hbm, ⟨104, _⟩ => ⟨S8x8320x1, .f32⟩
  | .hbm, ⟨105, _⟩ => ⟨S8x8320x1024, .f32⟩
  | .hbm, ⟨106, _⟩ => ⟨S8x8320x1024, .f32⟩
  | .hbm, ⟨107, _⟩ => ⟨S1x1x1024, .f32⟩
  | .hbm, ⟨108, _⟩ => ⟨S8x8320x1024, .f32⟩
  | .hbm, ⟨109, _⟩ => ⟨S8x8320x1024, .f32⟩
  | .hbm, ⟨110, _⟩ => ⟨S1x1x1024, .f32⟩
  | .hbm, ⟨111, _⟩ => ⟨S8x8320x1024, .f32⟩
  | .hbm, ⟨112, _⟩ => ⟨S8x8320x1024, .f32⟩
  | .hbm, ⟨113, _⟩ => ⟨S66560x1024, .f32⟩
  | _, _ => ⟨S8x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_c_1 : Ref sig .tc := ⟨.hbm, 18, rfl⟩
abbrev main_call2_v0 : Ref sig .tc := ⟨.hbm, 19, rfl⟩
abbrev main_v2 : Ref sig .tc := ⟨.hbm, 20, rfl⟩
abbrev main_c_2 : Ref sig .tc := ⟨.hbm, 21, rfl⟩
abbrev main_call3_v0 : Ref sig .tc := ⟨.hbm, 22, rfl⟩
abbrev main_v3 : Ref sig .tc := ⟨.hbm, 23, rfl⟩
abbrev main_c_3 : Ref sig .tc := ⟨.hbm, 24, rfl⟩
abbrev main_call4_v0 : Ref sig .tc := ⟨.hbm, 25, rfl⟩
abbrev main_v4 : Ref sig .tc := ⟨.hbm, 26, rfl⟩
abbrev main_c_4 : Ref sig .tc := ⟨.hbm, 27, rfl⟩
abbrev main_call5_v0 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_cst_5 : Ref sig .tc := ⟨.hbm, 34, rfl⟩
abbrev main_v9 : Ref sig .tc := ⟨.hbm, 35, rfl⟩
abbrev main_v10 : Ref sig .tc := ⟨.hbm, 36, rfl⟩
abbrev main_cst_6 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call6_v0 : Ref sig .tc := ⟨.hbm, 47, rfl⟩
abbrev main_call6_v1 : Ref sig .tc := ⟨.hbm, 48, rfl⟩
abbrev main_call6_cst : Ref sig .tc := ⟨.hbm, 49, rfl⟩
abbrev main_call6_v2 : Ref sig .tc := ⟨.hbm, 50, rfl⟩
abbrev main_call6_v3 : Ref sig .tc := ⟨.hbm, 51, rfl⟩
abbrev main_call6_cst_0 : Ref sig .tc := ⟨.hbm, 52, rfl⟩
abbrev main_call6_v4 : Ref sig .tc := ⟨.hbm, 53, rfl⟩
abbrev main_call6_v5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_7 : Ref sig .tc := ⟨.hbm, 62, rfl⟩
abbrev main_v27 : Ref sig .tc := ⟨.hbm, 63, rfl⟩
abbrev main_v28 : Ref sig .tc := ⟨.hbm, 64, rfl⟩
abbrev main_cst_8 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_9 : Ref sig .tc := ⟨.hbm, 71, rfl⟩
abbrev main_v34 : Ref sig .tc := ⟨.hbm, 72, rfl⟩
abbrev main_v35 : Ref sig .tc := ⟨.hbm, 73, rfl⟩
abbrev main_cst_10 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_11 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_12 : Ref sig .tc := ⟨.hbm, 84, rfl⟩
abbrev main_v44 : Ref sig .tc := ⟨.hbm, 85, rfl⟩
abbrev main_v45 : Ref sig .tc := ⟨.hbm, 86, rfl⟩
abbrev main_cst_13 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_14 : Ref sig .tc := ⟨.hbm, 93, rfl⟩
abbrev main_v51 : Ref sig .tc := ⟨.hbm, 94, rfl⟩
abbrev main_v52 : Ref sig .tc := ⟨.hbm, 95, rfl⟩
abbrev main_cst_15 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_16 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩

abbrev nD : Nat := 1
abbrev τ : Topo := Topo.v7x

variable {F : FTy → Type} [FloatOps F]
-- ==== Attend.lean ====
abbrev S8x8208x8x64 : Shape := ⟨4, ![8, 8208, 8, 64]⟩
abbrev S_ : Shape := ⟨0, ![]⟩
abbrev S8x8208x512 : Shape := ⟨3, ![8, 8208, 512]⟩
abbrev S8x8320x512 : Shape := ⟨3, ![8, 8320, 512]⟩
abbrev S1x128x512 : Shape := ⟨3, ![1, 128, 512]⟩
abbrev S1x8320x512 : Shape := ⟨3, ![1, 8320, 512]⟩
abbrev S8x128x128 : Shape := ⟨3, ![8, 128, 128]⟩
abbrev S4x128x128 : Shape := ⟨3, ![4, 128, 128]⟩
abbrev S128x128 : Shape := ⟨2, ![128, 128]⟩
abbrev S128x256 : Shape := ⟨2, ![128, 256]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 22
  | .vmem => 10
  | .smem => 0
  | _ => 0

abbrev bufTy : (tb : Table) → Fin (tcTables nBuf tb) → BufTy
  | .hbm, ⟨0, _⟩ => ⟨S8x8208x8x64, .f32⟩
  | .hbm, ⟨1, _⟩ => ⟨S8x8208x8x64, .f32⟩
  | .hbm, ⟨2, _⟩ => ⟨S8x8208x8x64, .f32⟩
  | .hbm, ⟨3, _⟩ => ⟨S_, .f32⟩
  | .hbm, ⟨4, _⟩ => ⟨S8x8208x8x64, .f32⟩
  | .hbm, ⟨5, _⟩ => ⟨S8x8208x8x64, .f32⟩
  | .hbm, ⟨6, _⟩ => ⟨S8x8208x512, .f32⟩
  | .hbm, ⟨7, _⟩ => ⟨S_, .i32⟩
  | .hbm, ⟨8, _⟩ => ⟨S_, .f32⟩
  | .hbm, ⟨9, _⟩ => ⟨S8x8320x512, .f32⟩
  | .hbm, ⟨10, _⟩ => ⟨S8x8320x512, .bf16⟩
  | .hbm, ⟨11, _⟩ => ⟨S8x8208x512, .f32⟩
  | .hbm, ⟨12, _⟩ => ⟨S_, .i32⟩
  | .hbm, ⟨13, _⟩ => ⟨S_, .f32⟩
  | .hbm, ⟨14, _⟩ => ⟨S8x8320x512, .f32⟩
  | .hbm, ⟨15, _⟩ => ⟨S8x8320x512, .bf16⟩
  | .hbm, ⟨16, _⟩ => ⟨S8x8208x512, .f32⟩
  | .hbm, ⟨17, _⟩ => ⟨S_, .i32⟩
  | .hbm, ⟨18, _⟩ => ⟨S_, .f32⟩
  | .hbm, ⟨19, _⟩ => ⟨S8x8320x512, .f32⟩
  | .hbm, ⟨20, _⟩ => ⟨S8x8320x512, .bf16⟩
  | .hbm, ⟨21, _⟩ => ⟨S8x8320x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x8320x512, .bf16⟩
  | .local _ .vmem, ⟨3, _⟩ => ⟨S1x8320x512, .bf16⟩
  | .local _ .vmem, ⟨4, _⟩ => ⟨S1x8320x512, .bf16⟩
  | .local _ .vmem, ⟨5, _⟩ => ⟨S1x8320x512, .bf16⟩
  | .local _ .vmem, ⟨6, _⟩ => ⟨S1x128x512, .bf16⟩
  | .local _ .vmem, ⟨7, _⟩ => ⟨S1x128x512, .bf16⟩
  | .local _ .vmem, ⟨8, _⟩ => ⟨S8x128x128, .f32⟩
  | .local _ .vmem, ⟨9, _⟩ => ⟨S4x128x128, .f32⟩
  | _, _ => ⟨S8x8208x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 65], ![false, false]⟩

def k0_mult1 (arg8 : BitVec 32) : BitVec 32 :=
  let c128_i32_35 : BitVec 32 := 128#32
  let v68 : BitVec 32 := Scalar.muli arg8 c128_i32_35
  v68

def k0_off1 (arg8 : BitVec 32) : Fin 3 → Nat :=
  let c0_41 : Index := 0#32
  let c128_i32_35 : BitVec 32 := 128#32
  let v68 : BitVec 32 := Scalar.muli arg8 c128_i32_35
  let v69 : BitVec 32 := v68
  let v79 : Index := Scalar.indexCast v69
  let c0_42 : Index := 0#32
  ![0, v79.toNat, 0]
def k0_off2 (arg8 : BitVec 32) : Fin 3 → Nat :=
  let c0_57 : Index := 0#32
  let c128_i32_35 : BitVec 32 := 128#32
  let v68 : BitVec 32 := Scalar.muli arg8 c128_i32_35
  let v69 : BitVec 32 := v68
  let v99 : Index := Scalar.indexCast v69
  let c128_58 : Index := 128#32
  ![0, v99.toNat, 128]
def k0_off3 (arg8 : BitVec 32) : Fin 3 → Nat :=
  let c0_73 : Index := 0#32
  let c128_i32_35 : BitVec 32 := 128#32
  let v68 : BitVec 32 := Scalar.muli arg8 c128_i32_35
  let v69 : BitVec 32 := v68
  let v119 : Index := Scalar.indexCast v69
  let c256_74 : Index := 256#32
  ![0, v119.toNat, 256]
def k0_off4 (arg8 : BitVec 32) : Fin 3 → Nat :=
  let c0_89 : Index := 0#32
  let c128_i32_35 : BitVec 32 := 128#32
  let v68 : BitVec 32 := Scalar.muli arg8 c128_i32_35
  let v69 : BitVec 32 := v68
  let v139 : Index := Scalar.indexCast v69
  let c384_90 : Index := 384#32
  ![0, v139.toNat, 384]

def k0_chk1 (arg8 : BitVec 32) : Prop :=
  (128 ∣ (k0_mult1 arg8).toNat) ∧
  (∀ a, (k0_off1 arg8) a + S1x128x128.size a ≤ S1x8320x512.size a) ∧
  (∀ a, (k0_off2 arg8) a + S1x128x128.size a ≤ S1x8320x512.size a) ∧
  (∀ a, (k0_off3 arg8) a + S1x128x128.size a ≤ S1x8320x512.size a) ∧
  (∀ a, (k0_off4 arg8) a + S1x128x128.size a ≤ S1x8320x512.size a)
theorem k0_mult1_dvd : ∀ (arg8 : BitVec 32) (k0_hw1 : k0_chk1 arg8), 128 ∣ (k0_mult1 arg8).toNat := fun arg8 k0_hw1 => k0_hw1.1
theorem k0_off1_inb : ∀ (arg8 : BitVec 32) (k0_hw1 : k0_chk1 arg8), ∀ a, (k0_off1 arg8) a + S1x128x128.size a ≤ S1x8320x512.size a := fun arg8 k0_hw1 => k0_hw1.2.1
theorem k0_off2_inb : ∀ (arg8 : BitVec 32) (k0_hw1 : k0_chk1 arg8), ∀ a, (k0_off2 arg8) a + S1x128x128.size a ≤ S1x8320x512.size a := fun arg8 k0_hw1 => k0_hw1.2.2.1
theorem k0_off3_inb : ∀ (arg8 : BitVec 32) (k0_hw1 : k0_chk1 arg8), ∀ a, (k0_off3 arg8) a + S1x128x128.size a ≤ S1x8320x512.size a := fun arg8 k0_hw1 => k0_hw1.2.2.2.1
theorem k0_off4_inb : ∀ (arg8 : BitVec 32) (k0_hw1 : k0_chk1 arg8), ∀ a, (k0_off4 arg8) a + S1x128x128.size a ≤ S1x8320x512.size a := fun arg8 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttendIdeal.lean ====
variable {F : FTy → Type} [FloatOps F] [Named F]
def κ : String → Option EReal := fun
  | "zero_below" => some ⊥
  | _ => none
-- ==== AttendReferenceIdeal.lean ====
abbrev S8x8208x8x64 : Shape := ⟨4, ![8, 8208, 8, 64]⟩
abbrev S_ : Shape := ⟨0, ![]⟩
abbrev S8x8320x8x64 : Shape := ⟨4, ![8, 8320, 8, 64]⟩
abbrev S8320 : Shape := ⟨1, ![8320]⟩
abbrev S8x8x8320x8320 : Shape := ⟨4, ![8, 8, 8320, 8320]⟩
abbrev S1x8320 : Shape := ⟨2, ![1, 8320]⟩
abbrev S8320x1 : Shape := ⟨2, ![8320, 1]⟩
abbrev S8320x8320 : Shape := ⟨2, ![8320, 8320]⟩
abbrev S8x8x64x8320 : Shape := ⟨4, ![8, 8, 64, 8320]⟩
abbrev S8x8320x512 : Shape := ⟨3, ![8, 8320, 512]⟩

abbrev nBuf : Space → Nat
  | .hbm => 75
  | .vmem => 0
  | .smem => 0
  | _ => 0

abbrev bufTy : (tb : Table) → Fin (tcTables nBuf tb) → BufTy
  | .hbm, ⟨0, _⟩ => ⟨S8x8208x8x64, .f32⟩
  | .hbm, ⟨1, _⟩ => ⟨S8x8208x8x64, .f32⟩
  | .hbm, ⟨2, _⟩ => ⟨S8x8208x8x64, .f32⟩
  | .hbm, ⟨3, _⟩ => ⟨S_, .i32⟩
  | .hbm, ⟨4, _⟩ => ⟨S_, .f32⟩
  | .hbm, ⟨5, _⟩ => ⟨S8x8320x8x64, .f32⟩
  | .hbm, ⟨6, _⟩ => ⟨S_, .i32⟩
  | .hbm, ⟨7, _⟩ => ⟨S_, .f32⟩
  | .hbm, ⟨8, _⟩ => ⟨S8x8320x8x64, .f32⟩
  | .hbm, ⟨9, _⟩ => ⟨S_, .i32⟩
  | .hbm, ⟨10, _⟩ => ⟨S_, .f32⟩
  | .hbm, ⟨11, _⟩ => ⟨S8x8320x8x64, .f32⟩
  | .hbm, ⟨12, _⟩ => ⟨S8320, .i32⟩
  | .hbm, ⟨13, _⟩ => ⟨S8x8x8320x8320, .f32⟩
  | .hbm, ⟨14, _⟩ => ⟨S_, .f32⟩
  | .hbm, ⟨15, _⟩ => ⟨S8x8x8320x8320, .f32⟩
  | .hbm, ⟨16, _⟩ => ⟨S8x8x8320x8320, .f32⟩
  | .hbm, ⟨17, _⟩ => ⟨S1x8320, .i32⟩
  | .hbm, ⟨18, _⟩ => ⟨S8320x1, .i32⟩
  | .hbm, ⟨19, _⟩ => ⟨S8320x8320, .i32⟩
  | .hbm, ⟨20, _⟩ => ⟨S8320x8320, .i32⟩
  | .hbm, ⟨21, _⟩ => ⟨S8320x8320, .i1⟩
  | .hbm, ⟨22, _⟩ => ⟨S8x8x8320x8320, .f32⟩
  | .hbm, ⟨23, _⟩ => ⟨S8x8x8320x8320, .f32⟩
  | .hbm, ⟨24, _⟩ => ⟨S_, .f32⟩
  | .hbm, ⟨25, _⟩ => ⟨S8x8x8320x8320, .f32⟩
  | .hbm, ⟨26, _⟩ => ⟨S8x8x8320x8320, .f32⟩
  | .hbm, ⟨27, _⟩ => ⟨S8x8x8320x8320, .f32⟩
  | .hbm, ⟨28, _⟩ => ⟨S8x8x8320x8320, .f32⟩
  | .hbm, ⟨29, _⟩ => ⟨S8x8x8320x8320, .i1⟩
  | .hbm, ⟨30, _⟩ => ⟨S8x8x8320x8320, .f32⟩
  | .hbm, ⟨31, _⟩ => ⟨S8x8x8320x8320, .f32⟩
  | .hbm, ⟨32, _⟩ => ⟨S8x8x8320x8320, .f32⟩
  | .hbm, ⟨33, _⟩ => ⟨S8x8x8320x8320, .f32⟩
  | .hbm, ⟨34, _⟩ => ⟨S8x8x8320x8320, .f32⟩
  | .hbm, ⟨35, _⟩ => ⟨S8x8x8320x8320, .f32⟩
  | .hbm, ⟨36, _⟩ => ⟨S8x8x8320x8320, .f32⟩
  | .hbm, ⟨37, _⟩ => ⟨S8x8x8320x8320, .f32⟩
  | .hbm, ⟨38, _⟩ => ⟨S8x8x8320x8320, .f32⟩
  | .hbm, ⟨39, _⟩ => ⟨S_, .f32⟩
  | .hbm, ⟨40, _⟩ => ⟨S_, .f32⟩
  | .hbm, ⟨41, _⟩ => ⟨S8x8x8320x8320, .i1⟩
  | .hbm, ⟨42, _⟩ => ⟨S8x8x8320x8320, .f32⟩
  | .hbm, ⟨43, _⟩ => ⟨S8x8x8320x8320, .f32⟩
  | .hbm, ⟨44, _⟩ => ⟨S_, .f32⟩
  | .hbm, ⟨45, _⟩ => ⟨S_, .f32⟩
  | .hbm, ⟨46, _⟩ => ⟨S8x8x8320x8320, .f32⟩
  | .hbm, ⟨47, _⟩ => ⟨S8x8x8320x8320, .f32⟩
  | .hbm, ⟨48, _⟩ => ⟨S8x8x8320x8320, .f32⟩
  | .hbm, ⟨49, _⟩ => ⟨S_, .f32⟩
  | .hbm, ⟨50, _⟩ => ⟨S8x8x8320x8320, .f32⟩
  | .hbm, ⟨51, _⟩ => ⟨S8x8x8320x8320, .f32⟩
  | .hbm, ⟨52, _⟩ => ⟨S8x8x8320x8320, .f32⟩
  | .hbm, ⟨53, _⟩ => ⟨S8x8x8320x8320, .f32⟩
  | .hbm, ⟨54, _⟩ => ⟨S8x8x8320x8320, .i1⟩
  | .hbm, ⟨55, _⟩ => ⟨S8x8x8320x8320, .f32⟩
  | .hbm, ⟨56, _⟩ => ⟨S8x8x8320x8320, .f32⟩
  | .hbm, ⟨57, _⟩ => ⟨S8x8x8320x8320, .f32⟩
  | .hbm, ⟨58, _⟩ => ⟨S8x8x8320x8320, .f32⟩
  | .hbm, ⟨59, _⟩ => ⟨S8x8x8320x8320, .f32⟩
  | .hbm, ⟨60, _⟩ => ⟨S8x8x8320x8320, .f32⟩
  | .hbm, ⟨61, _⟩ => ⟨S8x8x8320x8320, .f32⟩
  | .hbm, ⟨62, _⟩ => ⟨S8x8x8320x8320, .f32⟩
  | .hbm, ⟨63, _⟩ => ⟨S8x8x8320x8320, .f32⟩
  | .hbm, ⟨64, _⟩ => ⟨S8x8x8320x8320, .f32⟩
  | .hbm, ⟨65, _⟩ => ⟨S8x8x8320x8320, .f32⟩
  | .hbm, ⟨66, _⟩ => ⟨S_, .f32⟩
  | .hbm, ⟨67, _⟩ => ⟨S_, .f32⟩
  | .hbm, ⟨68, _⟩ => ⟨S8x8x8320x8320, .i1⟩
  | .hbm, ⟨69, _⟩ => ⟨S8x8x8320x8320, .f32⟩
  | .hbm, ⟨70, _⟩ => ⟨S8x8x8320x8320, .f32⟩
  | .hbm, ⟨71, _⟩ => ⟨S8x8x64x8320, .f32⟩
  | .hbm, ⟨72, _⟩ => ⟨S8x8320x8x64, .f32⟩
  | .hbm, ⟨73, _⟩ => ⟨S8x8320x512, .f32⟩
  | .hbm, ⟨74, _⟩ => ⟨S8x8320x512, .bf16⟩
  | _, _ => ⟨S8x8208x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call3_v0 : Ref sig .tc := ⟨.hbm, 23, rfl⟩
abbrev main_call3_call0_cst : Ref sig .tc := ⟨.hbm, 24, rfl⟩
abbrev main_call3_call0_v0 : Ref sig .tc := ⟨.hbm, 25, rfl⟩
abbrev main_call3_call0_v1 : Ref sig .tc := ⟨.hbm, 26, rfl⟩
abbrev main_call3_call0_v2 : Ref sig .tc := ⟨.hbm, 27, rfl⟩
abbrev main_call3_call0_v3 : Ref sig .tc := ⟨.hbm, 28, rfl⟩
abbrev main_call3_call0_v4 : Ref sig .tc := ⟨.hbm, 29, rfl⟩
abbrev main_call3_call0_v5 : Ref sig .tc := ⟨.hbm, 30, rfl⟩
abbrev main_call3_call0_v6 : Ref sig .tc := ⟨.hbm, 31, rfl⟩
abbrev main_call3_call0_v7 : Ref sig .tc := ⟨.hbm, 32, rfl⟩
abbrev main_call3_call0_v8 : Ref sig .tc := ⟨.hbm, 33, rfl⟩
abbrev main_call3_call0_v9 : Ref sig .tc := ⟨.hbm, 34, rfl⟩
abbrev main_call3_call0_v10 : Ref sig .tc := ⟨.hbm, 35, rfl⟩
abbrev main_call3_call0_v11 : Ref sig .tc := ⟨.hbm, 36, rfl⟩
abbrev main_call3_v1 : Ref sig .tc := ⟨.hbm, 37, rfl⟩
abbrev main_v13 : Ref sig .tc := ⟨.hbm, 38, rfl⟩
abbrev main_cst_2 : Ref sig .tc := ⟨.hbm, 39, rfl⟩
abbrev main_call4_v0 : Ref sig .tc := ⟨.hbm, 40, rfl⟩
abbrev main_call4_v1 : Ref sig .tc := ⟨.hbm, 41, rfl⟩
abbrev main_call4_v2 : Ref sig .tc := ⟨.hbm, 42, rfl⟩
abbrev main_v14 : Ref sig .tc := ⟨.hbm, 43, rfl⟩
abbrev main_call5_cst : Ref sig .tc := ⟨.hbm, 44, rfl⟩
abbrev main_call5_v0 : Ref sig .tc := ⟨.hbm, 45, rfl⟩
abbrev main_v15 : Ref sig .tc := ⟨.hbm, 46, rfl⟩
abbrev main_v16 : Ref sig .tc := ⟨.hbm, 47, rfl⟩
abbrev main_call6_v0 : Ref sig .tc := ⟨.hbm, 48, rfl⟩
abbrev main_call6_call0_cst : Ref sig .tc := ⟨.hbm, 49, rfl⟩
abbrev main_call6_call0_v0 : Ref sig .tc := ⟨.hbm, 50, rfl⟩
abbrev main_call6_call0_v1 : Ref sig .tc := ⟨.hbm, 51, rfl⟩
abbrev main_call6_call0_v2 : Ref sig .tc := ⟨.hbm, 52, rfl⟩
abbrev main_call6_call0_v3 : Ref sig .tc := ⟨.hbm, 53, rfl⟩
abbrev main_call6_call0_v4 : Ref sig .tc := ⟨.hbm, 54, rfl⟩
abbrev main_call6_call0_v5 : Ref sig .tc := ⟨.hbm, 55, rfl⟩
abbrev main_call6_call0_v6 : Ref sig .tc := ⟨.hbm, 56, rfl⟩
abbrev main_call6_call0_v7 : Ref sig .tc := ⟨.hbm, 57, rfl⟩
abbrev main_call6_call0_v8 : Ref sig .tc := ⟨.hbm, 58, rfl⟩
abbrev main_call6_call0_v9 : Ref sig .tc := ⟨.hbm, 59, rfl⟩
abbrev main_call6_call0_v10 : Ref sig .tc := ⟨.hbm, 60, rfl⟩
abbrev main_call6_call0_v11 : Ref sig .tc := ⟨.hbm, 61, rfl⟩
abbrev main_call6_v1 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_cst_3 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩

abbrev nD : Nat := 1
abbrev τ : Topo := Topo.v7x

variable {F : FTy → Type} [FloatOps F]
-- ==== Proof.RefTrips.lean ====
module

public import proofs.«01_k».proof.Proof.Gen.ReferenceIdeal.Run
public import proofs.«01_k».proof.Proof.Gen.ReferenceIdeal.Step

/-! The prompt reference's loop, followed trip by trip: a valuation that carries the state of the generated step module
keeps carrying it through one trip, so the results of a run are fields of the state after the last trip. -/

@[expose] public section

set_option maxRecDepth 16384

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers carry the state `s`, the causal mask and the trip's number `j`. -/
structure Carries (V : Valuation τ sig (Elt F)) (s : State F) (j : ℕ) : Prop where
  state : V (Proc.devRef .tc main_v17_6) = s.main_v17_6
  outs : V (Proc.devRef .tc main_v17_7) = s.main_v17_7
  q : V (Proc.devRef .tc main_v17_0) = s.main_v17_0
  k : V (Proc.devRef .tc main_v17_1) = s.main_v17_1
  v : V (Proc.devRef .tc main_v17_2) = s.main_v17_2
  la : V (Proc.devRef .tc main_v17_3) = s.main_v17_3
  trip : V (Proc.devRef .tc main_v17_5) = constantI S_ 32 (BitVec.ofNat 32 j)
  mask : V (Proc.devRef .tc main_v17_4) = Cert.ReferenceIdeal.Step.K_main_v7 (F := F)

variable {V : Valuation τ sig (Elt F)} {s : State F} {j : ℕ}

/-- The carried state of the next trip. -/
theorem state_next (h : Carries V s j) : step_main_v17_6 V = (step j s).main_v17_6 := by
  unfold step_main_v17_6 res_main_while0b_v49 res_main_while0b_v28 res_main_while0b_v26 res_main_while0b_v25
  simp only [h.state, h.outs, h.q, h.k, h.v, h.la, h.trip, h.mask]
  rfl

/-- The stacked results after the next trip. -/
theorem outs_next (h : Carries V s j) : step_main_v17_7 V = (step j s).main_v17_7 := by
  unfold step_main_v17_7 res_main_while0b_v28 res_main_while0b_v26 res_main_while0b_v25 res_main_while0b_v24
  simp only [h.state, h.outs, h.q, h.k, h.v, h.la, h.trip, h.mask]
  rfl

/-- The counter of the next trip. -/
theorem trip_next (h : Carries V s j) : step_main_v17_5 V = constantI S_ 32 (BitVec.ofNat 32 (j + 1)) := by
  unfold step_main_v17_5
  rw [h.trip]
  funext i
  change BitVec.ofNat 32 j + 1#32 = BitVec.ofNat 32 (j + 1)
  rw [BitVec.ofNat_add]

/-- One trip carries the next state. -/
theorem carries_next (h : Carries V s j) : Carries (STEP V) (step j s) (j + 1) where
  state := (STEP_main_v17_6 V).trans (state_next h)
  outs := (STEP_main_v17_7 V).trans (outs_next h)
  q := (STEP_main_v17_0 V).trans h.q
  k := (STEP_main_v17_1 V).trans h.k
  v := (STEP_main_v17_2 V).trans h.v
  la := (STEP_main_v17_3 V).trans h.la
  trip := (STEP_main_v17_5 V).trans (trip_next h)
  mask := (STEP_main_v17_4 V).trans h.mask

/-- The state after `n` trips from `s`. -/
def after (s : State F) : ℕ → State F
  | 0 => s
  | n + 1 => step n (after s n)

variable (m : (ℓ : Loc nD τ sig) → Buf (Elt F) ℓ) (c : Dev nD)

/-- The state the loop starts from. -/
def start : State F := init (m ((c.tc : Thread nD τ).loc main_arg0)) (m ((c.tc : Thread nD τ).loc main_arg1)) (m ((c.tc : Thread nD τ).loc main_arg2)) (m ((c.tc : Thread nD τ).loc main_arg3))

set_option maxRecDepth 65536 in
set_option maxHeartbeats 800000 in
/-- The operations before the loop leave the starting state. -/
theorem carries_entry : Carries (entryContents preI m c) (start m c) 0 := by
  constructor <;> (simp only [entryContents, afterL_cons, afterL_nil]; after_reads_simp) <;> rfl

/-- Before every trip the loop carries the state of that trip. -/
theorem carries_after : ∀ n, Carries (STEP^[n] (entryContents preI m c)) (after (start m c) n) n
  | 0 => carries_entry m c
  | n + 1 => by
    rw [Function.iterate_succ_apply']
    exact carries_next (carries_after n)

/-- A run's results are read off the state after the last trip. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v22) = Cert.ReferenceIdeal.Step.R_main_v22 (after (start m c) 129)
      ∧ r.2.mem ((c.tc : Thread nD τ).loc main_v23) = Cert.ReferenceIdeal.Step.R_main_v23 (after (start m c) 129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (Value.run m ρ)
  have hk := carries_after m c 129
  refine ⟨(h c).1.trans ?_, (h c).2.1.trans ?_, (h c).2.2⟩
  · unfold out_main_v22 Cert.ReferenceIdeal.Step.R_main_v22
    simp only [hk.outs]
  · unfold out_main_v23 Cert.ReferenceIdeal.Step.R_main_v23
    simp only [hk.state]

end Cert.ReferenceIdeal.Trips

end
-- ==== Proof.PromptFrames.lean ====
module

public import proofs.«01_k».proof.Defs
public import proofs.«01_k».proof.Proof.RefTrips
public import proofs.«01_k».proof.Proof.Gen.Kernel.Frame
public import proofs.«01_k».proof.Proof.Gen.KernelIdeal.Frame
public import proofs.«01_k».proof.Proof.Gen.Pre_finite_gates

/-! The prompt's frames. -/

@[expose] public section

set_option maxRecDepth 16384

noncomputable section

namespace Cert.Gla

open Idealize.ShloMosaic Idealize.ShloMosaic.TcCoe Idealize.SL.Sem

theorem frame_prompt : Cert.quiescent_Kernel := fun m ρ _ => Cert.Kernel.Gen.frame m ρ
theorem frame_promptIdeal : Cert.quiescent_KernelIdeal := fun m ρ _ => Cert.KernelIdeal.Gen.frame m ρ
theorem frame_promptIdeal_gates : Cert.quiescent_KernelIdeal_pre_finite_gates := fun m ρ _ => Cert.KernelIdeal.Gen.frame m ρ

/-- The reference keeps its arguments, and declares no semaphore. -/
theorem frame_promptReference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Trips.run (F := Ideal) m ρ)

theorem frame_promptReference_gates : Cert.quiescent_ReferenceIdeal_pre_finite_gates := fun m ρ _ => frame_promptReference m ρ trivial

end Cert.Gla

end
-- ==== Proof.Body.lean ====
module

public import proofs.«01_k».proof.Proof.Gen.KernelIdeal.Skeleton
public import Idealize.ShloMosaic.Lib.Pipeline.Value

/-! The body of the gated linear attention kernel in its own words: one head of one chunk of 128 tokens. The printed
text writes the same operations out four times; each head's text is one of these definitions. -/

@[expose] public section

set_option maxRecDepth 16384

noncomputable section

namespace Cert.Gla

open Idealize.ShloMosaic Idealize.ShloMosaic.TcCoe
open Cert.KernelIdeal Cert.KernelIdeal.Gen

variable {F : FTy → Type} [FloatOps F]

/-- One row of a 128-by-128 array fits in it. -/
theorem slice_row {r : ℕ} (h : r < 128) : S128x128.Slices ![r, 0] S1x128 :=
  ⟨rfl, fun a => by
    match a with
    | ⟨0, _⟩ => exact h
    | ⟨1, _⟩ => exact Nat.le_refl _⟩

/-- Row `r` as a one-row array. -/
def rowOf (b : FVec F S128x128 .f32) (r : ℕ) (h : r < 128) : FVec F S1x128 .f32 :=
  shapeCast S1x128 (extractStridedSlice S1x128 ![r, 0] b (slice_row h)) shapeCasts_S1x128_S1x128

/-- The reference rows of the coarsest level: row 63 everywhere. -/
def refs64 (b : FVec F S128x128 .f32) : FVec F S128x128 .f32 :=
  broadcastTo S128x128 (rowOf b 63 (by decide)) broadcasts_S1x128_S128x128

/-- Reference rows for halves of 32: rows 31 and 95. -/
def refs32 (b : FVec F S128x128 .f32) : FVec F S128x128 .f32 :=
  concatenate S128x128 0
    (List.ofFn fun n : Fin 2 => (⟨S64x128, broadcastTo S64x128 (rowOf b (64 * n.val + 31) (by omega)) broadcasts_S1x128_S64x128⟩ :
      (s : Shape) × (s.Idx → F .f32)))
    concatenates_S64x128_S64x128_S128x128_d0

/-- Reference rows for halves of 16. -/
def refs16 (b : FVec F S128x128 .f32) : FVec F S128x128 .f32 :=
  concatenate S128x128 0
    (List.ofFn fun n : Fin 4 => (⟨S32x128, broadcastTo S32x128 (rowOf b (32 * n.val + 15) (by omega)) broadcasts_S1x128_S32x128⟩ :
      (s : Shape) × (s.Idx → F .f32)))
    concatenates_S32x128_S32x128_S32x128_S32x128_S128x128_d0

/-- Reference rows for halves of 8. -/
def refs8 (b : FVec F S128x128 .f32) : FVec F S128x128 .f32 :=
  concatenate S128x128 0
    (List.ofFn fun n : Fin 8 => (⟨S16x128, broadcastTo S16x128 (rowOf b (16 * n.val + 7) (by omega)) broadcasts_S1x128_S16x128⟩ :
      (s : Shape) × (s.Idx → F .f32)))
    concatenates_S16x128_S16x128_S16x128_S16x128_S16x128_S16x128_S16x128_S16x128_S128x128_d0

/-- Row `r` over a tile of eight rows. -/
def tileRow (b : FVec F S128x128 .f32) (r : ℕ) (h : r < 128) : FVec F S8x128 .f32 :=
  broadcastTo S8x128 (rowOf b r h) broadcasts_S1x128_S8x128

/-- A choice between two tiles: the first from row `c` of the tile on. -/
def tileFrom (c : BitVec 32) (x y : FVec F S8x128 .f32) : FVec F S8x128 .f32 :=
  select (cmpi .sge (iota .tc S8x128 32 [0] iota_S8x128_d0_w32) (broadcast S8x128 c)) x y

/-- Sixteen tiles, one under the other. -/
def tiles (f : Fin 16 → FVec F S8x128 .f32) : FVec F S128x128 .f32 :=
  concatenate S128x128 0
    (List.ofFn fun n : Fin 16 => (⟨S8x128, f n⟩ : (s : Shape) × (s.Idx → F .f32)))
    concatenates_S8x128_S8x128_S8x128_S8x128_S8x128_S8x128_S8x128_S8x128_S8x128_S8x128_S8x128_S8x128_S8x128_S8x128_S8x128_S8x128_S128x128_d0

/-- Reference rows for halves of 4. -/
def refs4 (b : FVec F S128x128 .f32) : FVec F S128x128 .f32 :=
  tiles fun n => tileRow b (8 * n.val + 3) (by omega)

/-- Reference rows for halves of 2. -/
def refs2 (b : FVec F S128x128 .f32) : FVec F S128x128 .f32 :=
  tiles fun n => tileFrom 4#32 (tileRow b (8 * n.val + 5) (by omega)) (tileRow b (8 * n.val + 1) (by omega))

/-- Reference rows for halves of 1. -/
def refs1 (b : FVec F S128x128 .f32) : FVec F S128x128 .f32 :=
  tiles fun n => tileFrom 6#32 (tileRow b (8 * n.val + 6) (by omega))
    (tileFrom 4#32 (tileRow b (8 * n.val + 4) (by omega))
      (tileFrom 2#32 (tileRow b (8 * n.val + 2) (by omega)) (tileRow b (8 * n.val) (by omega))))

/-- The zero array the clamps compare with. -/
def zeros : FVec F S128x128 .f32 := broadcast S128x128 (Scalar.ofBits .f32 0x00000000#32)

/-- Scores of the diagonal: plain products of queries and keys. -/
def diagScores (lev : IVec S128x128 32) (k q : FVec F S128x128 .f32) : FVec F S128x128 .f32 :=
  select (cmpi .eq lev (broadcast S128x128 4294967295#32))
    (matmul dot_S128x128_S128x128_S128x128_1_1_0_0_n_n none (truncf .bf16 q bitsLt_bf16_f32)
      (truncf .bf16 k bitsLt_bf16_f32) (constant S128x128 .f32 0x00000000#32))
    zeros

/-- One level: where the pair's level is `l`, the product of the queries decayed since the reference row and the keys
decayed up to it. -/
def levelScores (l : BitVec 32) (refs : FVec F S128x128 .f32) (lev : IVec S128x128 32)
    (k q b prev : FVec F S128x128 .f32) : FVec F S128x128 .f32 :=
  select (cmpi .eq lev (broadcast S128x128 l))
    (matmul dot_S128x128_S128x128_S128x128_1_1_0_0_n_n none
      (truncf .bf16 (mulf q (exp (minimumf (subf b refs) zeros))) bitsLt_bf16_f32)
      (truncf .bf16 (mulf k (exp (minimumf (subf refs b) zeros))) bitsLt_bf16_f32)
      (constant S128x128 .f32 0x00000000#32))
    prev

/-- All scores of a head. -/
def headScores (lev : IVec S128x128 32) (k q b : FVec F S128x128 .f32) : FVec F S128x128 .f32 :=
  levelScores 0#32 (refs1 b) lev k q b <| levelScores 1#32 (refs2 b) lev k q b <|
  levelScores 2#32 (refs4 b) lev k q b <| levelScores 3#32 (refs8 b) lev k q b <|
  levelScores 4#32 (refs16 b) lev k q b <| levelScores 5#32 (refs32 b) lev k q b <|
  levelScores 6#32 (refs64 b) lev k q b <| diagScores lev k q

/-- Rows past the valid ones set to zero. -/
def masked (valid : IVec S128x128 1) (x : Vec F S1x128x128 .f32) : FVec F S128x128 .f32 :=
  select valid (shapeCast S128x128 x shapeCasts_S1x128x128_S128x128) zeros

/-- The queries of a head. -/
def plainHead (x : Vec F S1x128x128 .f32) : FVec F S128x128 .f32 :=
  shapeCast S128x128 x shapeCasts_S1x128x128_S128x128

/-- What a cast to the narrow format loses. -/
def rest (x : FVec F S128x128 .f32) : FVec F S128x128 .f32 :=
  subf x (extf .f32 (truncf .bf16 x bitsLt_bf16_f32) bitsLt_bf16_f32)

/-- One triangular product. -/
def cumPart (tri : FVec F S128x128 .bf16) (x : FVec F S128x128 .f32) : FVec F S128x128 .f32 :=
  matmul dot_S128x128_S128x128_S128x128_1_0_0_1_n_n none tri (truncf .bf16 x bitsLt_bf16_f32)
    (constant S128x128 .f32 0x00000000#32)

/-- Running sums of the log decays, in three parts. -/
def runningSum (tri : FVec F S128x128 .bf16) (x : FVec F S128x128 .f32) : FVec F S128x128 .f32 :=
  addf (addf (cumPart tri x) (cumPart tri (rest x))) (cumPart tri (rest (rest x)))

/-- What the carried state gives a head's results. -/
def fromState (q b : FVec F S128x128 .f32) (S : Vec F S1x1x256x128 .f32) : FVec F S128x256 .f32 :=
  matmul dot_S128x128_S256x128_S128x256_1_1_0_0_n_n none (truncf .bf16 (mulf q (exp b)) bitsLt_bf16_f32)
    (truncf .bf16 (shapeCast S256x128 S shapeCasts_S1x1x256x128_S256x128) bitsLt_bf16_f32)
    (constant S128x256 .f32 0x00000000#32)

/-- A head's results: what the carried state gives and the scores' product with the values. -/
def headOut (inter : FVec F S128x256 .f32) (scores : FVec F S128x128 .f32) (v : Vec F S1x128x256 .bf16) :
    FVec F S1x128x256 .f32 :=
  shapeCast S1x128x256 (addf inter
    (matmul dot_S128x128_S128x256_S128x256_1_0_0_1_n_n none (truncf .bf16 scores bitsLt_bf16_f32)
      (shapeCast S128x256 v shapeCasts_S1x128x256_S128x256) (constant S128x256 .f32 0x00000000#32)))
    shapeCasts_S128x256_S1x128x256

/-- The last running sums, as one row. -/
def lastRow (b : FVec F S128x128 .f32) : FVec F S1x128 .f32 :=
  extractStridedSlice S1x128 ![127, 0] b slices_S128x128_o127_0_S1x128

/-- A head's state after the chunk. -/
def headState (k b : FVec F S128x128 .f32) (v : Vec F S1x128x256 .bf16) (S : Vec F S1x1x256x128 .f32) :
    FVec F S1x1x256x128 .f32 :=
  shapeCast S1x1x256x128
    (addf (mulf (shapeCast S256x128 S shapeCasts_S1x1x256x128_S256x128)
        (broadcastTo S256x128 (exp (lastRow b)) broadcasts_S1x128_S256x128))
      (matmul dot_S128x256_S128x128_S256x128_0_0_1_1_n_n none (shapeCast S128x256 v shapeCasts_S1x128x256_S128x256)
        (truncf .bf16 (mulf k (exp (subf (broadcastTo S128x128 (lastRow b) broadcasts_S1x128_S128x128) b))) bitsLt_bf16_f32)
        (constant S256x128 .f32 0x00000000#32)))
    shapeCasts_S256x128_S1x1x256x128

/-- A rectangle of 128 lanes inside a block of 512. -/
theorem lanes_in (h : Fin 4) : ∀ a : Fin S1x128x512.rank, (![0, 0, 128 * h.val] : Fin 3 → ℕ) a + S1x128x128.size a ≤ S1x128x512.size a := by
  revert h; decide

/-- A rectangle of 256 lanes inside a block of 1024. -/
theorem wide_in (h : Fin 4) : ∀ a : Fin S1x128x1024.rank, (![0, 0, 256 * h.val] : Fin 3 → ℕ) a + S1x128x256.size a ≤ S1x128x1024.size a := by
  revert h; decide

/-- One head's matrix inside a block of four. -/
theorem head_in (h : Fin 4) : ∀ a : Fin S1x4x256x128.rank, (![0, h.val, 0, 0] : Fin 4 → ℕ) a + S1x1x256x128.size a ≤ S1x4x256x128.size a := by
  revert h; decide

/-- Where a head's lanes lie in a block of queries, keys or decays. -/
abbrev laneRect (h : Fin 4) : Rect S1x128x512 := Rect.unit ![0, 0, 128 * h.val] S1x128x128.size (lanes_in h)
/-- Where a head's lanes lie in a block of values or results. -/
abbrev wideRect (h : Fin 4) : Rect S1x128x1024 := Rect.unit ![0, 0, 256 * h.val] S1x128x256.size (wide_in h)
/-- Where a head's matrix lies in a block of states. -/
abbrev headRect (h : Fin 4) : Rect S1x4x256x128 := Rect.unit ![0, h.val, 0, 0] S1x1x256x128.size (head_in h)

/-- Head `h`'s keys with the rows past the valid ones zero. -/
def keyOf (valid : IVec S128x128 1) (xk : Vec F S1x128x512 .f32) (h : Fin 4) : FVec F S128x128 .f32 :=
  masked valid (View.ld xk (laneRect h))

/-- Head `h`'s running sums. -/
def sumOf (valid : IVec S128x128 1) (xla : Vec F S1x128x512 .f32) (h : Fin 4) : FVec F S128x128 .f32 :=
  runningSum k0_pay4 (masked valid (View.ld xla (laneRect h)))

/-- Head `h`'s queries. -/
def queryOf (xq : Vec F S1x128x512 .f32) (h : Fin 4) : FVec F S128x128 .f32 := plainHead (View.ld xq (laneRect h))

/-- Head `h`'s results of a chunk. -/
def chunkOut (valid : IVec S128x128 1) (xq xk xla : Vec F S1x128x512 .f32) (xv : Vec F S1x128x1024 .bf16)
    (S : Vec F S1x4x256x128 .f32) (h : Fin 4) : FVec F S1x128x256 .f32 :=
  headOut (fromState (queryOf xq h) (sumOf valid xla h) (View.ld S (headRect h)))
    (headScores k0_pay5 (keyOf valid xk h) (queryOf xq h) (sumOf valid xla h)) (View.ld xv (wideRect h))

/-- Head `h`'s state after a chunk. -/
def chunkState (valid : IVec S128x128 1) (xk xla : Vec F S1x128x512 .f32) (xv : Vec F S1x128x1024 .bf16)
    (S : Vec F S1x4x256x128 .f32) (h : Fin 4) : FVec F S1x1x256x128 .f32 :=
  headState (keyOf valid xk h) (sumOf valid xla h) (View.ld xv (wideRect h)) (View.ld S (headRect h))

end Cert.Gla

end
-- ==== Proof.PromptBody.lean ====
module

public import proofs.«01_k».proof.Proof.Body
public import proofs.«01_k».proof.Proof.Gen.KernelIdeal.Value
public import Idealize.ShloMosaic.Lib.Pipeline.ReadBack

/-! What one run of the prompt kernel's body leaves in its two result blocks, in the words of the body: four heads'
results side by side, and four heads' states. -/

@[expose] public section

set_option maxRecDepth 16384

noncomputable section

namespace Cert.Gla.Prompt

open Idealize.ShloMosaic Idealize.ShloMosaic.TcCoe Idealize.ShloMosaic.Tactic
open Cert.KernelIdeal Cert.KernelIdeal.Gen

variable {F : FTy → Type} [FloatOps F]

/-- The block of results after one run of the body. -/
def outBlock (i : grid0.Coords) (x0 x1 x2 : Vec F S1x128x512 .f32) (x3 : Vec F S1x128x1024 .bf16)
    (S : Vec F S1x4x256x128 .f32) : Vec F S1x128x1024 .f32 :=
  View.canon [⟨wideRect 3, chunkOut (k0_pay6 i) x0 x1 x2 x3 S 3⟩, ⟨wideRect 2, chunkOut (k0_pay6 i) x0 x1 x2 x3 S 2⟩,
    ⟨wideRect 1, chunkOut (k0_pay6 i) x0 x1 x2 x3 S 1⟩, ⟨wideRect 0, chunkOut (k0_pay6 i) x0 x1 x2 x3 S 0⟩]

/-- The block of states after one run of the body, over the stores `L` made before. -/
def stateBlock (i : grid0.Coords) (x1 x2 : Vec F S1x128x512 .f32) (x3 : Vec F S1x128x1024 .bf16)
    (S : Vec F S1x4x256x128 .f32) (L : List (View.Piece (Elt F) S1x4x256x128 .f32)) : Vec F S1x4x256x128 .f32 :=
  View.canon (⟨headRect 3, chunkState (k0_pay6 i) x1 x2 x3 S 3⟩ :: ⟨headRect 2, chunkState (k0_pay6 i) x1 x2 x3 S 2⟩ ::
    ⟨headRect 1, chunkState (k0_pay6 i) x1 x2 x3 S 1⟩ :: ⟨headRect 0, chunkState (k0_pay6 i) x1 x2 x3 S 0⟩ :: L)

variable (c : Dev nD) (i : grid0.Coords)
  (a2 : Memref sig .tc .vmem S1x128x512 .f32) (h2 : a2.IsWhole) (a3 : Memref sig .tc .vmem S1x128x512 .f32) (h3 : a3.IsWhole)
  (a4 : Memref sig .tc .vmem S1x128x512 .f32) (h4 : a4.IsWhole) (a5 : Memref sig .tc .vmem S1x128x1024 .bf16) (h5 : a5.IsWhole)
  (a6 : Memref sig .tc .vmem S1x4x256x128 .f32) (h6 : a6.IsWhole) (a7 : Memref sig .tc .vmem S1x128x1024 .f32) (h7 : a7.IsWhole)
  (a8 : Memref sig .tc .vmem S1x4x256x128 .f32) (h8 : a8.IsWhole)
  (x0 x1 x2 : Vec F S1x128x512 .f32) (x3 : Vec F S1x128x1024 .bf16) (x4 : Vec F S1x4x256x128 .f32)

private theorem zero4 : (![0, 0, 0, 0] : Fin S1x4x256x128.rank → ℕ) = fun _ => 0 := by decide

private theorem at_zero4 : ∀ a, (![0, 0, 0, 0] : Fin S1x4x256x128.rank → ℕ) a = 0 := by decide

private theorem first_state (x : Vec F S1x4x256x128 .f32) : k0_pay3 x = x := shapeCast_self _ _

/-- The results a first chunk leaves. -/
theorem out5_A (hc : cond0_0 i) :
    out0_A_5 c i a2 h2 a3 h3 a4 h4 a5 h5 a6 h6 a7 h7 a8 h8 hc x0 x1 x2 x3 x4 = outBlock i x0 x1 x2 x3 x4 := by
  unfold out0_A_5 outBlock
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  simp (disch := first | exact at_zero4 | decide) only [↓View.readCov_skip, View.readCov_fill, View.readAt_eq_ld,
    h2.read_unread, h3.read_unread, h4.read_unread, h5.read_unread, h6.read_unread,
    View.ld_unit_zero (S := S1x4x256x128) zero4, first_state]
  rfl

/-- The states a first chunk leaves. -/
theorem out6_A (hc : cond0_0 i) :
    out0_A_6 c i a2 h2 a3 h3 a4 h4 a5 h5 a6 h6 a7 h7 a8 h8 hc x0 x1 x2 x3 x4 = stateBlock i x1 x2 x3 x4 [⟨Rect.unit ![0, 0, 0, 0] S1x4x256x128.size inb_S1x4x256x128_S1x4x256x128_0_0_0_0, x4⟩] := by
  unfold out0_A_6 stateBlock
  rw [View.read_writes_eq_canon _ _ _ (cover0_A_6 c i a2 h2 a3 h3 a4 h4 a5 h5 a6 h6 a7 h7 a8 h8 hc x0 x1 x2 x3 x4)]
  unfold kernelRun0_A
  dsimp only
  sl_unfold_words
  simp (disch := first | exact at_zero4 | decide) only [↓View.readCov_skip, View.readCov_fill, View.readAt_eq_ld,
    h2.read_unread, h3.read_unread, h4.read_unread, h5.read_unread, h6.read_unread,
    View.ld_unit_zero (S := S1x4x256x128) zero4, first_state]
  rfl

/-- The results a later chunk leaves. -/
theorem out5_B (hc : ¬cond0_0 i) (xo : Vec F S1x4x256x128 .f32) :
    out0_B_5 c i a2 h2 a3 h3 a4 h4 a5 h5 a6 h6 a7 h7 a8 h8 hc x0 x1 x2 x3 x4 xo = outBlock i x0 x1 x2 x3 xo := by
  unfold out0_B_5 outBlock
  rw [View.read_writes_eq_canon _ _ _ (cover0_B_5 c i a2 h2 a3 h3 a4 h4 a5 h5 a6 h6 a7 h7 a8 h8 hc x0 x1 x2 x3 x4 xo)]
  unfold kernelRun0_B
  dsimp only
  sl_unfold_words
  simp (disch := first | exact at_zero4 | decide) only [↓View.readCov_skip, View.readCov_fill, View.readAt_eq_ld,
    h2.read_unread, h3.read_unread, h4.read_unread, h5.read_unread, h6.read_unread, h8.read_unread,
    View.ld_unit_zero (S := S1x4x256x128) zero4, first_state]
  rfl

/-- The states a later chunk leaves. -/
theorem out6_B (hc : ¬cond0_0 i) (xo : Vec F S1x4x256x128 .f32) :
    out0_B_6 c i a2 h2 a3 h3 a4 h4 a5 h5 a6 h6 a7 h7 a8 h8 hc x0 x1 x2 x3 x4 xo = stateBlock i x1 x2 x3 xo [] := by
  unfold out0_B_6 stateBlock
  rw [View.read_writes_eq_canon _ _ _ (cover0_B_6 c i a2 h2 a3 h3 a4 h4 a5 h5 a6 h6 a7 h7 a8 h8 hc x0 x1 x2 x3 x4 xo)]
  unfold kernelRun0_B
  dsimp only
  sl_unfold_words
  simp (disch := first | exact at_zero4 | decide) only [↓View.readCov_skip, View.readCov_fill, View.readAt_eq_ld,
    h2.read_unread, h3.read_unread, h4.read_unread, h5.read_unread, h6.read_unread, h8.read_unread,
    View.ld_unit_zero (S := S1x4x256x128) zero4, first_state]
  rfl

end Cert.Gla.Prompt

end
-- ==== Proof.Read.lean ====
module

public import proofs.«01_k».proof.Proof.Body
public import Idealize.ShloMosaic.Lib.ValueIdx
public import Idealize.ShloMosaic.Lib.MatmulPlain
public import Idealize.ShloMosaic.Lib.Pipeline.Value

/-! The body's operations over the extended reals, read at one index. -/

@[expose] public section

set_option maxRecDepth 16384

noncomputable section

namespace Cert.Gla

open Idealize.ShloMosaic Idealize.ShloMosaic.TcCoe Idealize.ShloMosaic.ValueIdx
open Cert.KernelIdeal Cert.KernelIdeal.Gen
open scoped BigOperators

/-! ### Rows -/

/-- A row read at a lane. -/
theorem rowOf_apply (b : FVec Ideal S128x128 .f32) (r : ℕ) (h : r < 128) (z : Fin 1) (d : Fin 128) :
    rowOf b r h (ix2 z d) = b (ix2 ⟨r, h⟩ d) := by
  unfold rowOf
  rw [shapeCast_self]
  refine extractStridedSlice_apply _ _ _ _ _ fun a => ?_
  match a with
  | ⟨0, _⟩ => show r = r + z.val; omega
  | ⟨1, _⟩ => show d.val = 0 + d.val; omega

/-- A row repeated over `n` rows, read at an index. -/
theorem repeated_apply {n : ℕ} (x : FVec Ideal S1x128 .f32) (h : S1x128.Broadcasts ⟨2, ![n, 128]⟩) (t : Fin n) (d : Fin 128) :
    broadcastTo ⟨2, ![n, 128]⟩ x h (ix2 t d) = x (ix2 0 d) := by
  refine broadcastTo_apply _ _ _ _ fun a => ?_
  match a with
  | ⟨0, _⟩ => rfl
  | ⟨1, _⟩ => rfl

/-- The row a token's decay is measured from at the level of halves `2 ^ l`. -/
def refRow (l : ℕ) (t : Fin 128) : ℕ := t.val / (2 * 2 ^ l) * (2 * 2 ^ l) + 2 ^ l - 1

theorem refs64_apply (b : FVec Ideal S128x128 .f32) (t d : Fin 128) (h : refRow 6 t < 128) :
    refs64 b (ix2 t d) = b (ix2 ⟨refRow 6 t, h⟩ d) := by
  unfold refs64
  refine (repeated_apply _ _ t d).trans ((rowOf_apply _ _ _ _ _).trans (congrArg (fun r => b (ix2 r d)) (Fin.ext ?_)))
  show 63 = t.val / 128 * 128 + 64 - 1
  omega

theorem refs32_apply (b : FVec Ideal S128x128 .f32) (t d : Fin 128) (h : refRow 5 t < 128) :
    refs32 b (ix2 t d) = b (ix2 ⟨refRow 5 t, h⟩ d) := by
  unfold refs32
  refine (concatenate_ofFn_apply (s₁ := S64x128) (t := S128x128) 0 (fun n : Fin 2 => broadcastTo S64x128 (rowOf b (64 * n.val + 31) (by omega)) broadcasts_S1x128_S64x128)
    _ rfl 64 rfl (ix2 t d) ⟨t.val / 64, by omega⟩ rfl (ix2 (n0 := 64) ⟨t.val % 64, by omega⟩ d) rfl ?_).trans ?_
  · intro a ha
    match a with
    | ⟨0, _⟩ => exact absurd rfl ha
    | ⟨1, _⟩ => rfl
  · refine (repeated_apply _ _ _ d).trans ((rowOf_apply _ _ _ _ _).trans (congrArg (fun r => b (ix2 r d)) (Fin.ext ?_)))
    show 64 * (t.val / 64) + 31 = t.val / 64 * 64 + 32 - 1
    omega

theorem refs16_apply (b : FVec Ideal S128x128 .f32) (t d : Fin 128) (h : refRow 4 t < 128) :
    refs16 b (ix2 t d) = b (ix2 ⟨refRow 4 t, h⟩ d) := by
  unfold refs16
  refine (concatenate_ofFn_apply (s₁ := S32x128) (t := S128x128) 0 (fun n : Fin 4 => broadcastTo S32x128 (rowOf b (32 * n.val + 15) (by omega)) broadcasts_S1x128_S32x128)
    _ rfl 32 rfl (ix2 t d) ⟨t.val / 32, by omega⟩ rfl (ix2 (n0 := 32) ⟨t.val % 32, by omega⟩ d) rfl ?_).trans ?_
  · intro a ha
    match a with
    | ⟨0, _⟩ => exact absurd rfl ha
    | ⟨1, _⟩ => rfl
  · refine (repeated_apply _ _ _ d).trans ((rowOf_apply _ _ _ _ _).trans (congrArg (fun r => b (ix2 r d)) (Fin.ext ?_)))
    show 32 * (t.val / 32) + 15 = t.val / 32 * 32 + 16 - 1
    omega

theorem refs8_apply (b : FVec Ideal S128x128 .f32) (t d : Fin 128) (h : refRow 3 t < 128) :
    refs8 b (ix2 t d) = b (ix2 ⟨refRow 3 t, h⟩ d) := by
  unfold refs8
  refine (concatenate_ofFn_apply (s₁ := S16x128) (t := S128x128) 0 (fun n : Fin 8 => broadcastTo S16x128 (rowOf b (16 * n.val + 7) (by omega)) broadcasts_S1x128_S16x128)
    _ rfl 16 rfl (ix2 t d) ⟨t.val / 16, by omega⟩ rfl (ix2 (n0 := 16) ⟨t.val % 16, by omega⟩ d) rfl ?_).trans ?_
  · intro a ha
    match a with
    | ⟨0, _⟩ => exact absurd rfl ha
    | ⟨1, _⟩ => rfl
  · refine (repeated_apply _ _ _ d).trans ((rowOf_apply _ _ _ _ _).trans (congrArg (fun r => b (ix2 r d)) (Fin.ext ?_)))
    show 16 * (t.val / 16) + 7 = t.val / 16 * 16 + 8 - 1
    omega

/-- Sixteen tiles read at a row: tile `t / 8`, row `t % 8`. -/
theorem tiles_apply (f : Fin 16 → FVec Ideal S8x128 .f32) (t d : Fin 128) :
    tiles f (ix2 t d) = f ⟨t.val / 8, by omega⟩ (ix2 (n0 := 8) ⟨t.val % 8, by omega⟩ d) := by
  unfold tiles
  refine concatenate_ofFn_apply (s₁ := S8x128) (t := S128x128) 0 f _ rfl 8 rfl (ix2 t d) ⟨t.val / 8, by omega⟩ rfl
    (ix2 (n0 := 8) ⟨t.val % 8, by omega⟩ d) rfl ?_
  intro a ha
  match a with
  | ⟨0, _⟩ => exact absurd rfl ha
  | ⟨1, _⟩ => rfl

theorem tileRow_apply (b : FVec Ideal S128x128 .f32) (r : ℕ) (h : r < 128) (t : Fin 8) (d : Fin 128) :
    tileRow b r h (ix2 t d) = b (ix2 ⟨r, h⟩ d) :=
  (repeated_apply _ _ t d).trans (rowOf_apply _ _ _ _ _)

theorem tileFrom_apply (c : BitVec 32) (k : ℕ) (x y : FVec Ideal S8x128 .f32) (t : Fin 8) (d : Fin 128)
    (hc : ∀ n : Fin 8, IntOp.cmpi .sge (BitVec.ofNat 32 (0 * 8 + n.val)) c = if k ≤ n.val then 1#1 else 0#1) :
    tileFrom c x y (ix2 t d) = if k ≤ t.val then x (ix2 t d) else y (ix2 t d) := by
  show Scalar.select (IntOp.cmpi .sge (BitVec.ofNat 32 (0 * 8 + t.val)) c) (x (ix2 t d)) (y (ix2 t d)) = _
  rw [hc t]
  split <;> rfl

theorem refs4_apply (b : FVec Ideal S128x128 .f32) (t d : Fin 128) (h : refRow 2 t < 128) :
    refs4 b (ix2 t d) = b (ix2 ⟨refRow 2 t, h⟩ d) := by
  unfold refs4
  rw [tiles_apply, tileRow_apply]
  refine congrArg (fun r => b (ix2 r d)) (Fin.ext ?_)
  show 8 * (t.val / 8) + 3 = t.val / 8 * 8 + 4 - 1
  omega

theorem refs2_apply (b : FVec Ideal S128x128 .f32) (t d : Fin 128) (h : refRow 1 t < 128) :
    refs2 b (ix2 t d) = b (ix2 ⟨refRow 1 t, h⟩ d) := by
  unfold refs2
  rw [tiles_apply, tileFrom_apply 4#32 4 _ _ _ _ (by decide), tileRow_apply, tileRow_apply]
  have e : refRow 1 t = t.val / 4 * 4 + 2 - 1 := rfl
  split
  · rename_i hh
    refine congrArg (fun r => b (ix2 r d)) (Fin.ext ?_)
    have hh : 4 ≤ t.val % 8 := hh
    show 8 * (t.val / 8) + 5 = refRow 1 t
    omega
  · rename_i hh
    refine congrArg (fun r => b (ix2 r d)) (Fin.ext ?_)
    have hh : ¬ 4 ≤ t.val % 8 := hh
    show 8 * (t.val / 8) + 1 = refRow 1 t
    omega

theorem refs1_apply (b : FVec Ideal S128x128 .f32) (t d : Fin 128) (h : refRow 0 t < 128) :
    refs1 b (ix2 t d) = b (ix2 ⟨refRow 0 t, h⟩ d) := by
  unfold refs1
  rw [tiles_apply, tileFrom_apply 6#32 6 _ _ _ _ (by decide), tileFrom_apply 4#32 4 _ _ _ _ (by decide),
    tileFrom_apply 2#32 2 _ _ _ _ (by decide), tileRow_apply, tileRow_apply, tileRow_apply, tileRow_apply]
  have e : refRow 0 t = t.val / 2 * 2 + 1 - 1 := rfl
  have key : ∀ (r : ℕ) (hr : r < 128), r = refRow 0 t → b (ix2 ⟨r, hr⟩ d) = b (ix2 ⟨refRow 0 t, h⟩ d) :=
    fun r hr hh => congrArg (fun r => b (ix2 r d)) (Fin.ext hh)
  by_cases h6 : 6 ≤ t.val % 8
  · rw [if_pos h6]; exact key _ _ (by show 8 * (t.val / 8) + 6 = _; omega)
  rw [if_neg h6]
  by_cases h4 : 4 ≤ t.val % 8
  · rw [if_pos h4]; exact key _ _ (by show 8 * (t.val / 8) + 4 = _; omega)
  rw [if_neg h4]
  by_cases h2 : 2 ≤ t.val % 8
  · rw [if_pos h2]; exact key _ _ (by show 8 * (t.val / 8) + 2 = _; omega)
  rw [if_neg h2]
  exact key _ _ (by show 8 * (t.val / 8) = _; omega)

/-! ### Levels -/

/-- The level word of a pair of tokens: one less than the bit length of their difference's leading bit below the
diagonal, two marks on it and above it. -/
def levelWord (t s : Fin 128) : BitVec 32 :=
  if s.val < t.val then 31#32 - IntOp.ctlz (BitVec.ofNat 32 t.val ^^^ BitVec.ofNat 32 s.val)
  else if s.val = t.val then 4294967295#32 else 4294967294#32

private theorem cmp_slt : ∀ t s : Fin 128, IntOp.cmpi .slt (BitVec.ofNat 32 s.val) (BitVec.ofNat 32 t.val) = if s.val < t.val then 1#1 else 0#1 := by
  decide +kernel

private theorem cmp_eq : ∀ t s : Fin 128, IntOp.cmpi .eq (BitVec.ofNat 32 s.val) (BitVec.ofNat 32 t.val) = if s.val = t.val then 1#1 else 0#1 := by
  decide +kernel

theorem iota_row (h : S128x128.Iotas .tc 32 [0]) (t s : Fin 128) : iota .tc S128x128 32 [0] h (ix2 t s) = BitVec.ofNat 32 t.val := by
  show BitVec.ofNat 32 (0 * 128 + t.val) = _
  rw [Nat.zero_mul, Nat.zero_add]

theorem iota_col (h : S128x128.Iotas .tc 32 [1]) (t s : Fin 128) : iota .tc S128x128 32 [1] h (ix2 t s) = BitVec.ofNat 32 s.val := by
  show BitVec.ofNat 32 (0 * 128 + s.val) = _
  rw [Nat.zero_mul, Nat.zero_add]

theorem level_apply (t s : Fin 128) : k0_pay5 (ix2 t s) = levelWord t s := by
  unfold k0_pay5 levelWord
  show Scalar.select (IntOp.cmpi .slt (iota .tc S128x128 32 [1] _ (ix2 t s)) (iota .tc S128x128 32 [0] _ (ix2 t s)))
    (31#32 - IntOp.ctlz (iota .tc S128x128 32 [0] _ (ix2 t s) ^^^ iota .tc S128x128 32 [1] _ (ix2 t s)))
    (Scalar.select (IntOp.cmpi .eq (iota .tc S128x128 32 [1] _ (ix2 t s)) (iota .tc S128x128 32 [0] _ (ix2 t s)))
      4294967295#32 4294967294#32) = _
  rw [iota_row, iota_col, cmp_slt, cmp_eq]
  by_cases h1 : s.val < t.val
  · rw [if_pos h1, if_pos h1]; rfl
  rw [if_neg h1, if_neg h1]
  by_cases h2 : s.val = t.val
  · rw [if_pos h2, if_pos h2]; rfl
  · rw [if_neg h2, if_neg h2]; rfl

/-- Below the diagonal the level is one of seven, and its reference row is the same for both tokens and lies between
them. -/
theorem level_below : ∀ t s : Fin 128, s.val < t.val →
    ∃ l : Fin 7, levelWord t s = BitVec.ofNat 32 l.val ∧ refRow l.val s = refRow l.val t ∧
      s.val ≤ refRow l.val t ∧ refRow l.val t ≤ t.val := by
  decide +kernel

end Cert.Gla

end
-- ==== Proof.Scores.lean ====
module

public import proofs.«01_k».proof.Proof.Read
public import Mathlib.Data.EReal.Operations

/-! One head of one chunk over the extended reals: running sums, scores, results and the next state as formulas, when
the log decays are real and at most zero. -/

@[expose] public section

set_option maxRecDepth 16384

noncomputable section

namespace Cert.Gla

open Idealize.ShloMosaic Idealize.ShloMosaic.TcCoe Idealize.ShloMosaic.ValueIdx
open Cert.KernelIdeal Cert.KernelIdeal.Gen
open scoped BigOperators

theorem zero_word : Ideal.ofBits .f32 0x00000000#32 = 0 := by simp [Ideal.ofBits, Ideal.ieee]

theorem zeros_apply (i : S128x128.Idx) : zeros (F := Ideal) i = 0 := zero_word

theorem select_of (p : Prop) [Decidable p] (w : BitVec 1) (h : w = if p then 1#1 else 0#1) {α : Type} (x y : α) :
    Scalar.select w x y = if p then x else y := by
  subst h
  split <;> rfl

theorem cmpi_eq_word (x y : BitVec 32) : IntOp.cmpi .eq x y = if x = y then 1#1 else 0#1 := by
  unfold IntOp.cmpi
  by_cases h : x = y
  · subst h; simp
  · have e : (x == y) = false := by simp [h]
    simp [h, e]

/-! ### Products -/

/-- The product of two row-by-lane arrays over lanes. -/
theorem dotT_apply (x y : FVec Ideal S128x128 .bf16) (t s : Fin 128) :
    matmul dot_S128x128_S128x128_S128x128_1_1_0_0_n_n none x y (constant S128x128 .f32 0x00000000#32) (ix2 t s)
      = ∑ d : Fin 128, x (ix2 t d) * y (ix2 s d) := by
  refine (Ideal.matmul_transposedRhs_apply none x y _ t s).trans ?_
  rw [constant_apply, zero_word, zero_add]

theorem dotP_apply (x y : FVec Ideal S128x128 .bf16) (t d : Fin 128) :
    matmul dot_S128x128_S128x128_S128x128_1_0_0_1_n_n none x y (constant S128x128 .f32 0x00000000#32) (ix2 t d)
      = ∑ j : Fin 128, x (ix2 t j) * y (ix2 j d) := by
  refine (Ideal.matmul_plain_apply none x y _ t d).trans ?_
  rw [constant_apply, zero_word, zero_add]

theorem dotS_apply (x : FVec Ideal S128x128 .bf16) (y : FVec Ideal S256x128 .bf16) (t : Fin 128) (e : Fin 256) :
    matmul dot_S128x128_S256x128_S128x256_1_1_0_0_n_n none x y (constant S128x256 .f32 0x00000000#32) (ix2 t e)
      = ∑ d : Fin 128, x (ix2 t d) * y (ix2 e d) := by
  refine (Ideal.matmul_transposedRhs_apply none x y _ t e).trans ?_
  rw [constant_apply, zero_word, zero_add]

theorem dotV_apply (x : FVec Ideal S128x128 .bf16) (y : FVec Ideal S128x256 .bf16) (t : Fin 128) (e : Fin 256) :
    matmul dot_S128x128_S128x256_S128x256_1_0_0_1_n_n none x y (constant S128x256 .f32 0x00000000#32) (ix2 t e)
      = ∑ s : Fin 128, x (ix2 t s) * y (ix2 s e) := by
  refine (Ideal.matmul_plain_apply none x y _ t e).trans ?_
  rw [constant_apply, zero_word, zero_add]

/-- The product over rows of two row-by-lane arrays. -/
theorem dotK_apply (x : FVec Ideal S128x256 .bf16) (y : FVec Ideal S128x128 .bf16) (e : Fin 256) (d : Fin 128) :
    matmul dot_S128x256_S128x128_S256x128_0_0_1_1_n_n none x y (constant S256x128 .f32 0x00000000#32) (ix2 e d)
      = ∑ s : Fin 128, x (ix2 s e) * y (ix2 s d) := by
  show FloatOps.matmul dot_S128x256_S128x128_S256x128_0_0_1_1_n_n none x y _ (ix2 e d) = _
  have hr : dot_S128x256_S128x128_S256x128_0_0_1_1_n_n.contr.rank = 1 := rfl
  have hs : dot_S128x256_S128x128_S256x128_0_0_1_1_n_n.contr.size ⟨0, by omega⟩ = 128 := rfl
  rw [Ideal.matmul_apply, ← Equiv.sum_comp (contrEquiv1 _ 128 hr hs).symm, constant_apply, zero_word, zero_add]
  refine Finset.sum_congr rfl fun s _ => ?_
  have hk := contrEquiv1_symm_val dot_S128x256_S128x128_S256x128_0_0_1_1_n_n 128 hr hs s
  have el : dot_S128x256_S128x128_S256x128_0_0_1_1_n_n.lhsIdx (ix2 e d) ((contrEquiv1 _ 128 hr hs).symm s) = ix2 s e := by
    funext a; apply Fin.ext
    match a with
    | ⟨0, _⟩ => exact hk
    | ⟨1, _⟩ => rfl
  have er : dot_S128x256_S128x128_S256x128_0_0_1_1_n_n.rhsIdx (ix2 e d) ((contrEquiv1 _ 128 hr hs).symm s) = ix2 s d := by
    funext a; apply Fin.ext
    match a with
    | ⟨0, _⟩ => exact hk
    | ⟨1, _⟩ => rfl
  rw [el, er]

/-! ### Running sums -/

private theorem tri_word : ∀ t j : Fin 128, (IntOp.cmpi .sge (BitVec.ofNat 32 t.val) (BitVec.ofNat 32 j.val)).setWidth 32
    = if j.val ≤ t.val then 1#32 else 0#32 := by decide +kernel

theorem tri_apply (t j : Fin 128) : k0_pay4 (F := Ideal) (ix2 t j) = if j.val ≤ t.val then 1 else 0 := by
  unfold k0_pay4
  show FloatOps.sitofp (F := Ideal) .f32 ((IntOp.cmpi .sge (iota .tc S128x128 32 [0] _ (ix2 t j)) (iota .tc S128x128 32 [1] _ (ix2 t j))).setWidth 32) = _
  rw [iota_row, iota_col, tri_word]
  split
  · show (((1#32 : BitVec 32).toInt : ℝ) : EReal) = 1
    norm_num [BitVec.toInt]
  · show (((0#32 : BitVec 32).toInt : ℝ) : EReal) = 0
    norm_num [BitVec.toInt]

/-- The running sum of reals at token `t`. -/
def upTo (x : Fin 128 → Fin 128 → ℝ) (t d : Fin 128) : ℝ := ∑ j : Fin 128, if j.val ≤ t.val then x j d else 0

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem rest_real (x : FVec Ideal S128x128 .f32) (r : Fin 128 → Fin 128 → ℝ) (h : ∀ t d, x (ix2 t d) = (r t d : EReal))
    (t d : Fin 128) : rest x (ix2 t d) = ((0 : ℝ) : EReal) := by
  show x (ix2 t d) - x (ix2 t d) = _
  rw [h t d, ← EReal.coe_sub, sub_self]

theorem cumPart_real (x : FVec Ideal S128x128 .f32) (r : Fin 128 → Fin 128 → ℝ) (h : ∀ t d, x (ix2 t d) = (r t d : EReal))
    (t d : Fin 128) : cumPart k0_pay4 x (ix2 t d) = (upTo r t d : EReal) := by
  unfold cumPart upTo
  rw [dotP_apply, coe_sum]
  refine Finset.sum_congr rfl fun j _ => ?_
  rw [tri_apply, truncf_apply, h j d]
  split
  · rw [one_mul]
  · rw [zero_mul, EReal.coe_zero]

theorem upTo_zero (t d : Fin 128) : upTo (fun _ _ => 0) t d = 0 := by
  unfold upTo
  exact Finset.sum_eq_zero fun j _ => by split <;> rfl

theorem runningSum_real (x : FVec Ideal S128x128 .f32) (r : Fin 128 → Fin 128 → ℝ)
    (h : ∀ t d, x (ix2 t d) = (r t d : EReal)) (t d : Fin 128) :
    runningSum k0_pay4 x (ix2 t d) = (upTo r t d : EReal) := by
  unfold runningSum
  rw [addf_apply, addf_apply, cumPart_real x r h, cumPart_real _ (fun _ _ => 0) (rest_real x r h),
    cumPart_real _ (fun _ _ => 0) (rest_real _ (fun _ _ => 0) (rest_real x r h)), upTo_zero, EReal.coe_zero, add_zero,
    add_zero]

/-- Running sums of numbers at most zero go down. -/
theorem upTo_anti (r : Fin 128 → Fin 128 → ℝ) (hr : ∀ t d, r t d ≤ 0) (d : Fin 128) {s t : Fin 128} (h : s.val ≤ t.val) :
    upTo r t d ≤ upTo r s d := by
  unfold upTo
  refine Finset.sum_le_sum fun j _ => ?_
  by_cases h1 : j.val ≤ s.val
  · rw [if_pos h1, if_pos (h1.trans h)]
  · rw [if_neg h1]
    split
    · exact hr j d
    · exact le_refl _

/-! ### Scores -/

theorem levelScores_apply (l : BitVec 32) (refs : FVec Ideal S128x128 .f32) (lev : IVec S128x128 32)
    (k q b prev : FVec Ideal S128x128 .f32) (t s : Fin 128) :
    levelScores l refs lev k q b prev (ix2 t s) =
      if lev (ix2 t s) = l then
        ∑ d : Fin 128, q (ix2 t d) * Ideal.exp (min (b (ix2 t d) - refs (ix2 t d)) 0)
          * (k (ix2 s d) * Ideal.exp (min (refs (ix2 s d) - b (ix2 s d)) 0))
      else prev (ix2 t s) := by
  unfold levelScores
  rw [select_apply]
  refine (select_of (lev (ix2 t s) = l) _ (cmpi_eq_word _ _) _ _).trans ?_
  rw [dotT_apply]
  refine if_congr Iff.rfl (Finset.sum_congr rfl fun d _ => ?_) rfl
  rw [truncf_apply, truncf_apply, mulf_apply, mulf_apply]
  show q (ix2 t d) * Ideal.exp (min (b (ix2 t d) - refs (ix2 t d)) (zeros (F := Ideal) (ix2 t d)))
    * (k (ix2 s d) * Ideal.exp (min (refs (ix2 s d) - b (ix2 s d)) (zeros (F := Ideal) (ix2 s d)))) = _
  rw [zeros_apply, zeros_apply]

theorem diagScores_apply (lev : IVec S128x128 32) (k q : FVec Ideal S128x128 .f32) (t s : Fin 128) :
    diagScores lev k q (ix2 t s) =
      if lev (ix2 t s) = 4294967295#32 then ∑ d : Fin 128, q (ix2 t d) * k (ix2 s d) else 0 := by
  unfold diagScores
  rw [select_apply]
  refine (select_of (lev (ix2 t s) = 4294967295#32) _ (cmpi_eq_word _ _) _ _).trans ?_
  rw [dotT_apply, zeros_apply]
  rfl

/-- A pair's score: queries against keys, decayed from the key's token to the query's; nothing from later tokens. -/
def score (q k : Fin 128 → Fin 128 → EReal) (β : Fin 128 → Fin 128 → ℝ) (t s : Fin 128) : EReal :=
  if s.val ≤ t.val then ∑ d : Fin 128, q t d * k s d * (Real.exp (β t d - β s d) : EReal) else 0

/-- Decays on either side of a reference row make up the whole decay. -/
theorem split_decay (x y : EReal) (bt r bs : ℝ) (h1 : bt ≤ r) (h2 : r ≤ bs) :
    x * Ideal.exp (min ((bt : EReal) - r) 0) * (y * Ideal.exp (min ((r : EReal) - bs) 0))
      = x * y * (Real.exp (bt - bs) : EReal) := by
  rw [← EReal.coe_sub, ← EReal.coe_sub, min_eq_left (by exact_mod_cast sub_nonpos.mpr h1),
    min_eq_left (by exact_mod_cast sub_nonpos.mpr h2), Ideal.exp_coe, Ideal.exp_coe, mul_mul_mul_comm, ← EReal.coe_mul,
    ← Real.exp_add, sub_add_sub_cancel]

theorem headScores_real (k q b : FVec Ideal S128x128 .f32) (β : Fin 128 → Fin 128 → ℝ)
    (hb : ∀ t d, b (ix2 t d) = (β t d : EReal)) (anti : ∀ d {s t : Fin 128}, s.val ≤ t.val → β t d ≤ β s d) (t s : Fin 128) :
    headScores k0_pay5 k q b (ix2 t s) = score (fun t d => q (ix2 t d)) (fun s d => k (ix2 s d)) β t s := by
  have lev := level_apply t s
  unfold headScores score
  rcases Nat.lt_trichotomy s.val t.val with h | h | h
  · obtain ⟨l, hl, hrs, h1, h2⟩ := level_below t s h
    have hlt : refRow l.val t < 128 := lt_of_le_of_lt h2 t.isLt
    have hls : refRow l.val s < 128 := hrs ▸ hlt
    rw [if_pos (le_of_lt h)]
    have fin : ∀ (refs : FVec Ideal S128x128 .f32), (∀ (x d : Fin 128) (hx : refRow l.val x < 128), refs (ix2 x d) = b (ix2 ⟨refRow l.val x, hx⟩ d)) →
        (∑ d : Fin 128, q (ix2 t d) * Ideal.exp (min (b (ix2 t d) - refs (ix2 t d)) 0)
          * (k (ix2 s d) * Ideal.exp (min (refs (ix2 s d) - b (ix2 s d)) 0)))
        = ∑ d : Fin 128, q (ix2 t d) * k (ix2 s d) * (Real.exp (β t d - β s d) : EReal) := by
      intro refs hrefs
      refine Finset.sum_congr rfl fun d _ => ?_
      have es : (⟨refRow l.val s, hls⟩ : Fin 128) = ⟨refRow l.val t, hlt⟩ := Fin.ext hrs
      rw [hrefs t d hlt, hrefs s d hls, es, hb, hb, hb]
      exact split_decay _ _ _ _ _ (anti d h2) (anti d h1)
    rw [hl] at lev
    simp only [levelScores_apply, lev]
    match l, fin with
    | ⟨0, _⟩, fin => exact fin _ (refs1_apply b)
    | ⟨1, _⟩, fin => exact fin _ (refs2_apply b)
    | ⟨2, _⟩, fin => exact fin _ (refs4_apply b)
    | ⟨3, _⟩, fin => exact fin _ (refs8_apply b)
    | ⟨4, _⟩, fin => exact fin _ (refs16_apply b)
    | ⟨5, _⟩, fin => exact fin _ (refs32_apply b)
    | ⟨6, _⟩, fin => exact fin _ (refs64_apply b)
  · have e : s = t := Fin.ext h
    subst e
    have hw : levelWord s s = 4294967295#32 := by unfold levelWord; rw [if_neg (lt_irrefl _), if_pos rfl]
    rw [hw] at lev
    rw [if_pos le_rfl]
    simp only [levelScores_apply, diagScores_apply, lev]
    show (∑ d : Fin 128, q (ix2 s d) * k (ix2 s d)) = _
    refine Finset.sum_congr rfl fun d _ => ?_
    rw [sub_self, Real.exp_zero, EReal.coe_one, mul_one]
  · have hw : levelWord t s = 4294967294#32 := by
      unfold levelWord; rw [if_neg (by omega), if_neg (by omega)]
    rw [hw] at lev
    rw [if_neg (by omega)]
    simp only [levelScores_apply, diagScores_apply, lev]
    rfl

end Cert.Gla

end
-- ==== Proof.Chunk.lean ====
module

public import proofs.«01_k».proof.Proof.Scores
public import Idealize.ShloMosaic.Lib.Pipeline.ValueKit.Tiles

/-! A head's results and next state of one chunk over the extended reals. -/

@[expose] public section

set_option maxRecDepth 16384

noncomputable section

namespace Cert.Gla

open Idealize.ShloMosaic Idealize.ShloMosaic.TcCoe Idealize.ShloMosaic.ValueIdx
open Cert.KernelIdeal Cert.KernelIdeal.Gen
open scoped BigOperators

/-- A head's result at token `t`, lane `e`: from the carried state, and from the chunk's own tokens. -/
def outAt (q k : Fin 128 → Fin 128 → EReal) (β : Fin 128 → Fin 128 → ℝ) (v : Fin 128 → Fin 256 → EReal)
    (S : Fin 256 → Fin 128 → EReal) (t : Fin 128) (e : Fin 256) : EReal :=
  (∑ d : Fin 128, q t d * (Real.exp (β t d) : EReal) * S e d) + ∑ s : Fin 128, score q k β t s * v s e

/-- A head's state after a chunk. -/
def stateAt (k : Fin 128 → Fin 128 → EReal) (β : Fin 128 → Fin 128 → ℝ) (v : Fin 128 → Fin 256 → EReal)
    (S : Fin 256 → Fin 128 → EReal) (e : Fin 256) (d : Fin 128) : EReal :=
  S e d * (Real.exp (β 127 d) : EReal) + ∑ s : Fin 128, v s e * (k s d * (Real.exp (β 127 d - β s d) : EReal))

/-! ### Layouts of one head -/

theorem drop_lanes {α : Type} (x : S1x128x128.Idx → α) (h : S1x128x128.ShapeCasts S128x128) (t d : Fin 128) :
    shapeCast S128x128 x h (ix2 t d) = x (ix3 (n0 := 1) (n1 := 128) (n2 := 128) 0 t d) := by
  refine shapeCast_apply _ _ _ _ ?_
  rw [Shape.rowMajor_val_three, Shape.rowMajor_val_two]
  show (0 * 128 + t.val) * 128 + d.val = t.val * 128 + d.val
  omega

theorem drop_wide {α : Type} (x : S1x128x256.Idx → α) (h : S1x128x256.ShapeCasts S128x256) (t : Fin 128) (e : Fin 256) :
    shapeCast S128x256 x h (ix2 t e) = x (ix3 (n0 := 1) (n1 := 128) (n2 := 256) 0 t e) := by
  refine shapeCast_apply _ _ _ _ ?_
  rw [Shape.rowMajor_val_three, Shape.rowMajor_val_two]
  show (0 * 128 + t.val) * 256 + e.val = t.val * 256 + e.val
  omega

theorem add_wide {α : Type} (x : S128x256.Idx → α) (h : S128x256.ShapeCasts S1x128x256) (z : Fin 1) (t : Fin 128) (e : Fin 256) :
    shapeCast S1x128x256 x h (ix3 z t e) = x (ix2 t e) := by
  refine shapeCast_apply _ _ _ _ ?_
  rw [Shape.rowMajor_val_three, Shape.rowMajor_val_two]
  show t.val * 256 + e.val = (z.val * 128 + t.val) * 256 + e.val
  omega

theorem drop_head {α : Type} (x : S1x1x256x128.Idx → α) (h : S1x1x256x128.ShapeCasts S256x128) (e : Fin 256) (d : Fin 128) :
    shapeCast S256x128 x h (ix2 e d) = x (ix4 (n0 := 1) (n1 := 1) (n2 := 256) (n3 := 128) 0 0 e d) := by
  refine shapeCast_apply _ _ _ _ ?_
  rw [Shape.rowMajor_val_four, Shape.rowMajor_val_two]
  show ((0 * 1 + 0) * 256 + e.val) * 128 + d.val = e.val * 128 + d.val
  omega

theorem add_head {α : Type} (x : S256x128.Idx → α) (h : S256x128.ShapeCasts S1x1x256x128) (y z : Fin 1) (e : Fin 256) (d : Fin 128) :
    shapeCast S1x1x256x128 x h (ix4 y z e d) = x (ix2 e d) := by
  refine shapeCast_apply _ _ _ _ ?_
  rw [Shape.rowMajor_val_four, Shape.rowMajor_val_two]
  show e.val * 128 + d.val = ((y.val * 1 + z.val) * 256 + e.val) * 128 + d.val
  omega

/-- Lane `d` of head `h` among four heads of 128 lanes. -/
def lane (h : Fin 4) (d : Fin 128) : Fin 512 := ⟨128 * h.val + d.val, by omega⟩
/-- Lane `e` of head `h` among four heads of 256 lanes. -/
def wide (h : Fin 4) (e : Fin 256) : Fin 1024 := ⟨256 * h.val + e.val, by omega⟩

theorem ld_lane {e : EltTy} (x : Vec Ideal S1x128x512 e) (h : Fin 4) (t d : Fin 128) :
    View.ld x (laneRect h) (ix3 (n0 := 1) (n1 := 128) (n2 := 128) 0 t d) = x (ix3 0 t (lane h d)) := by
  refine View.ld_unit_apply_of x _ _ _ _ _ fun a => ?_
  match a with
  | ⟨0, _⟩ => rfl
  | ⟨1, _⟩ => show t.val = 0 + t.val; omega
  | ⟨2, _⟩ => rfl

theorem ld_wide {e' : EltTy} (x : Vec Ideal S1x128x1024 e') (h : Fin 4) (t : Fin 128) (e : Fin 256) :
    View.ld x (wideRect h) (ix3 (n0 := 1) (n1 := 128) (n2 := 256) 0 t e) = x (ix3 0 t (wide h e)) := by
  refine View.ld_unit_apply_of x _ _ _ _ _ fun a => ?_
  match a with
  | ⟨0, _⟩ => rfl
  | ⟨1, _⟩ => show t.val = 0 + t.val; omega
  | ⟨2, _⟩ => rfl

theorem ld_head {e' : EltTy} (x : Vec Ideal S1x4x256x128 e') (h : Fin 4) (e : Fin 256) (d : Fin 128) :
    View.ld x (headRect h) (ix4 (n0 := 1) (n1 := 1) (n2 := 256) (n3 := 128) 0 0 e d) = x (ix4 0 h e d) := by
  refine View.ld_unit_apply_of x _ _ _ _ _ fun a => ?_
  match a with
  | ⟨0, _⟩ => rfl
  | ⟨1, _⟩ => rfl
  | ⟨2, _⟩ => show e.val = 0 + e.val; omega
  | ⟨3, _⟩ => show d.val = 0 + d.val; omega

/-! ### The chunk -/

section

variable (valid : IVec S128x128 1) (n : ℕ) (xq xk xla : Vec Ideal S1x128x512 .f32) (xv : Vec Ideal S1x128x1024 .bf16)
  (S : Vec Ideal S1x4x256x128 .f32) (h : Fin 4) (r : Fin 128 → Fin 128 → ℝ)

/-- Numbers of the rows before `n`, zero from there on. -/
def before {α : Type} [Zero α] (n : ℕ) (x : Fin 128 → Fin 128 → α) (t d : Fin 128) : α := if t.val < n then x t d else 0

variable (hv : ∀ t d, valid (ix2 t d) = if t.val < n then 1#1 else 0#1)
  (hla : ∀ t d, t.val < n → xla (ix3 0 t (lane h d)) = (r t d : EReal)) (hr : ∀ t d, t.val < n → r t d ≤ 0)

include hv in
theorem masked_apply (x : Vec Ideal S1x128x512 .f32) (t d : Fin 128) :
    masked valid (View.ld x (laneRect h)) (ix2 t d) = before n (fun t d => x (ix3 0 t (lane h d))) t d := by
  unfold masked before
  rw [select_apply]
  refine (select_of (t.val < n) _ (hv t d) _ _).trans ?_
  rw [zeros_apply, drop_lanes, ld_lane]

include hv hla in
theorem sumOf_real (t d : Fin 128) : sumOf valid xla h (ix2 t d) = (upTo (before n r) t d : EReal) := by
  refine runningSum_real _ _ (fun t d => ?_) t d
  rw [masked_apply valid n h hv]
  unfold before
  split
  · exact hla t d ‹_›
  · exact EReal.coe_zero.symm

include hr in
theorem before_nonpos (t d : Fin 128) : before n r t d ≤ 0 := by
  unfold before
  split
  · exact hr t d ‹_›
  · exact le_rfl

theorem queryOf_apply (t d : Fin 128) : queryOf xq h (ix2 t d) = xq (ix3 0 t (lane h d)) := by
  unfold queryOf plainHead
  rw [drop_lanes, ld_lane]

include hv hla hr in
/-- Head `h`'s results. -/
theorem chunkOut_real (t : Fin 128) (e : Fin 256) :
    chunkOut valid xq xk xla xv S h (ix3 (n0 := 1) (n1 := 128) (n2 := 256) 0 t e)
      = outAt (fun t d => xq (ix3 0 t (lane h d))) (before n fun t d => xk (ix3 0 t (lane h d)))
          (upTo (before n r)) (fun t e => xv (ix3 0 t (wide h e))) (fun e d => S (ix4 0 h e d)) t e := by
  unfold chunkOut headOut outAt
  rw [add_wide, addf_apply, dotV_apply]
  refine congrArg₂ (fun x y : EReal => x + y) ?_ (Finset.sum_congr rfl fun s _ => ?_)
  · unfold fromState
    rw [dotS_apply]
    refine Finset.sum_congr rfl fun d _ => ?_
    rw [truncf_apply, truncf_apply, mulf_apply, drop_head, ld_head, queryOf_apply]
    show xq _ * Ideal.exp (sumOf valid xla h (ix2 t d)) * _ = _
    rw [sumOf_real valid n xla h r hv hla, Ideal.exp_coe]
  · rw [truncf_apply, drop_wide, ld_wide, headScores_real _ _ _ _ (sumOf_real valid n xla h r hv hla)
      (fun d _ _ hst => upTo_anti _ (before_nonpos n r hr) d hst)]
    have e1 : (fun t d => queryOf xq h (ix2 t d)) = fun t d => xq (ix3 0 t (lane h d)) :=
      funext fun t => funext fun d => queryOf_apply xq h t d
    have e2 : (fun s d => keyOf valid xk h (ix2 s d)) = before n fun t d => xk (ix3 0 t (lane h d)) :=
      funext fun t => funext fun d => masked_apply valid n h hv xk t d
    rw [e1, e2]

theorem lastRow_apply (b : FVec Ideal S128x128 .f32) (d : Fin 128) : lastRow b (ix2 (0 : Fin 1) d) = b (ix2 127 d) := by
  unfold lastRow
  refine extractStridedSlice_apply _ _ _ _ _ fun a => ?_
  match a with
  | ⟨0, _⟩ => rfl
  | ⟨1, _⟩ => show d.val = 0 + d.val; omega

include hv hla in
/-- Head `h`'s state after the chunk. -/
theorem chunkState_real (e : Fin 256) (d : Fin 128) :
    chunkState valid xk xla xv S h (ix4 (n0 := 1) (n1 := 1) (n2 := 256) (n3 := 128) 0 0 e d)
      = stateAt (before n fun t d => xk (ix3 0 t (lane h d))) (upTo (before n r))
          (fun t e => xv (ix3 0 t (wide h e))) (fun e d => S (ix4 0 h e d)) e d := by
  unfold chunkState headState stateAt
  rw [add_head, addf_apply, mulf_apply, drop_head, ld_head, dotK_apply, repeated_apply (n := 256)]
  refine congrArg₂ (fun x y : EReal => x + y) ?_ (Finset.sum_congr rfl fun s _ => ?_)
  · show _ * Ideal.exp (lastRow (F := Ideal) _ (ix2 (0 : Fin 1) d)) = _
    rw [lastRow_apply, sumOf_real valid n xla h r hv hla, Ideal.exp_coe]
  · rw [drop_wide, ld_wide, truncf_apply, mulf_apply]
    show _ * (_ * Ideal.exp (broadcastTo S128x128 (lastRow (F := Ideal) _) broadcasts_S1x128_S128x128 (ix2 s d) - sumOf valid xla h (ix2 s d))) = _
    rw [repeated_apply (n := 128), lastRow_apply, sumOf_real valid n xla h r hv hla,
      sumOf_real valid n xla h r hv hla, ← EReal.coe_sub, Ideal.exp_coe, show keyOf valid xk h (ix2 s d) = _ from masked_apply valid n h hv xk s d]

end

/-! ### The four heads' blocks -/

theorem wide_emb (h : Fin 4) (t : Fin 128) (e : Fin 256) :
    (wideRect h).emb (ix3 (n0 := 1) (n1 := 128) (n2 := 256) 0 t e) = ix3 (n0 := 1) (n1 := 128) (n2 := 1024) 0 t (wide h e) := by
  funext a; apply Fin.ext
  refine (Rect.idx_unit_val _ _ _ _ _).trans ?_
  match a with
  | ⟨0, _⟩ => rfl
  | ⟨1, _⟩ => show 0 + t.val = t.val; omega
  | ⟨2, _⟩ => rfl

theorem head_emb (h : Fin 4) (e : Fin 256) (d : Fin 128) :
    (headRect h).emb (ix4 (n0 := 1) (n1 := 1) (n2 := 256) (n3 := 128) 0 0 e d) = ix4 (n0 := 1) (n1 := 4) (n2 := 256) (n3 := 128) 0 h e d := by
  funext a; apply Fin.ext
  refine (Rect.idx_unit_val _ _ _ _ _).trans ?_
  match a with
  | ⟨0, _⟩ => rfl
  | ⟨1, _⟩ => show h.val + 0 = h.val; omega
  | ⟨2, _⟩ => show 0 + e.val = e.val; omega
  | ⟨3, _⟩ => show 0 + d.val = d.val; omega

theorem not_wide (h h' : Fin 4) (ne : h ≠ h') (t : Fin 128) (e : Fin 256) :
    ix3 (n0 := 1) (n1 := 128) (n2 := 1024) 0 t (wide h e) ∉ (wideRect h').set := fun hm => by
  have m := Rect.mem_set_unit.mp hm ⟨2, by decide⟩
  have m1 : 256 * h'.val ≤ 256 * h.val + e.val := m.1
  have m2 : 256 * h.val + e.val < 256 * h'.val + 256 := m.2
  exact ne (Fin.ext (by omega))

theorem not_head (h h' : Fin 4) (ne : h ≠ h') (e : Fin 256) (d : Fin 128) :
    ix4 (n0 := 1) (n1 := 4) (n2 := 256) (n3 := 128) 0 h e d ∉ (headRect h').set := fun hm => by
  have m := Rect.mem_set_unit.mp hm ⟨1, by decide⟩
  have m1 : h'.val ≤ h.val := m.1
  have m2 : h.val < h'.val + 1 := m.2
  exact ne (Fin.ext (by omega))

theorem first_wide (h : Fin 4) (w : FVec Ideal S1x128x256 .f32) (L : List (View.Piece (Elt Ideal) S1x128x1024 .f32)) (t : Fin 128) (e : Fin 256) :
    View.canon (Val := Elt Ideal) (s := S1x128x1024) (e := .f32) (⟨wideRect h, w⟩ :: L) (ix3 (n0 := 1) (n1 := 128) (n2 := 1024) 0 t (wide h e))
      = w (ix3 (n0 := 1) (n1 := 128) (n2 := 256) 0 t e) :=
  by rw [View.canon_cons, ← wide_emb h t e]; exact Rect.overlay_emb _ _ _ _

theorem first_head (h : Fin 4) (w : FVec Ideal S1x1x256x128 .f32) (L : List (View.Piece (Elt Ideal) S1x4x256x128 .f32)) (e : Fin 256) (d : Fin 128) :
    View.canon (Val := Elt Ideal) (s := S1x4x256x128) (e := .f32) (⟨headRect h, w⟩ :: L) (ix4 (n0 := 1) (n1 := 4) (n2 := 256) (n3 := 128) 0 h e d)
      = w (ix4 (n0 := 1) (n1 := 1) (n2 := 256) (n3 := 128) 0 0 e d) :=
  by rw [View.canon_cons, ← head_emb h e d]; exact Rect.overlay_emb _ _ _ _

theorem next_wide (h h' : Fin 4) (ne : h ≠ h') (w : FVec Ideal S1x128x256 .f32) (L : List (View.Piece (Elt Ideal) S1x128x1024 .f32)) (t : Fin 128) (e : Fin 256) :
    View.canon (Val := Elt Ideal) (s := S1x128x1024) (e := .f32) (⟨wideRect h', w⟩ :: L) (ix3 (n0 := 1) (n1 := 128) (n2 := 1024) 0 t (wide h e))
      = View.canon (Val := Elt Ideal) (s := S1x128x1024) (e := .f32) L (ix3 (n0 := 1) (n1 := 128) (n2 := 1024) 0 t (wide h e)) :=
  by rw [View.canon_cons]; exact Rect.overlay_of_not_mem _ _ _ (not_wide h h' ne t e)

theorem next_head (h h' : Fin 4) (ne : h ≠ h') (w : FVec Ideal S1x1x256x128 .f32) (L : List (View.Piece (Elt Ideal) S1x4x256x128 .f32)) (e : Fin 256) (d : Fin 128) :
    View.canon (Val := Elt Ideal) (s := S1x4x256x128) (e := .f32) (⟨headRect h', w⟩ :: L) (ix4 (n0 := 1) (n1 := 4) (n2 := 256) (n3 := 128) 0 h e d)
      = View.canon (Val := Elt Ideal) (s := S1x4x256x128) (e := .f32) L (ix4 (n0 := 1) (n1 := 4) (n2 := 256) (n3 := 128) 0 h e d) :=
  by rw [View.canon_cons]; exact Rect.overlay_of_not_mem _ _ _ (not_head h h' ne e d)

theorem four (h : Fin 4) : h = 3 ∨ h = 2 ∨ h = 1 ∨ h = 0 := by revert h; decide

/-- Four heads' results side by side, read at a head's lane. -/
theorem side_by_side (f : Fin 4 → FVec Ideal S1x128x256 .f32) (h : Fin 4) (t : Fin 128) (e : Fin 256) :
    View.canon (Val := Elt Ideal) (s := S1x128x1024) (e := .f32) [⟨wideRect 3, f 3⟩, ⟨wideRect 2, f 2⟩, ⟨wideRect 1, f 1⟩, ⟨wideRect 0, f 0⟩] (ix3 (n0 := 1) (n1 := 128) (n2 := 1024) 0 t (wide h e))
      = f h (ix3 (n0 := 1) (n1 := 128) (n2 := 256) 0 t e) := by
  rcases four h with rfl | rfl | rfl | rfl
  · exact first_wide 3 _ _ t e
  · rw [next_wide 2 3 (by decide)]
    exact first_wide 2 _ _ t e
  · rw [next_wide 1 3 (by decide), next_wide 1 2 (by decide)]
    exact first_wide 1 _ _ t e
  · rw [next_wide 0 3 (by decide), next_wide 0 2 (by decide), next_wide 0 1 (by decide)]
    exact first_wide 0 _ _ t e

/-- Four heads' states over one another, read at a head. -/
theorem stacked (f : Fin 4 → FVec Ideal S1x1x256x128 .f32) (L : List (View.Piece (Elt Ideal) S1x4x256x128 .f32)) (h : Fin 4)
    (e : Fin 256) (d : Fin 128) :
    View.canon (Val := Elt Ideal) (s := S1x4x256x128) (e := .f32) (⟨headRect 3, f 3⟩ :: ⟨headRect 2, f 2⟩ :: ⟨headRect 1, f 1⟩ :: ⟨headRect 0, f 0⟩ :: L) (ix4 (n0 := 1) (n1 := 4) (n2 := 256) (n3 := 128) 0 h e d)
      = f h (ix4 (n0 := 1) (n1 := 1) (n2 := 256) (n3 := 128) 0 0 e d) := by
  rcases four h with rfl | rfl | rfl | rfl
  · exact first_head 3 _ _ e d
  · rw [next_head 2 3 (by decide)]
    exact first_head 2 _ _ e d
  · rw [next_head 1 3 (by decide), next_head 1 2 (by decide)]
    exact first_head 1 _ _ e d
  · rw [next_head 0 3 (by decide), next_head 0 2 (by decide), next_head 0 1 (by decide)]
    exact first_head 0 _ _ e d

end Cert.Gla

end
-- ==== Proof.Layout.lean ====
module

public import proofs.«01_k».proof.Proof.Chunk
public import Idealize.ShloMosaic.Lib.KernelVsHost

/-! The arrays the call is given, from the layer's arrays: heads side by side in the lanes, and zero rows up to whole
chunks. -/

@[expose] public section

set_option maxRecDepth 16384

noncomputable section

namespace Cert.Gla

open Idealize.ShloMosaic Idealize.ShloMosaic.TcCoe Idealize.ShloMosaic.ValueIdx

/-- Four heads of 128 lanes and `n` tokens side by side, with zero rows from `n` to `N`. -/
theorem padded_lanes {n N p : ℕ} (x : FVec Ideal ⟨4, ![8, n, 4, 128]⟩ .f32) (hc : (⟨4, ![8, n, 4, 128]⟩ : Shape).ShapeCasts ⟨3, ![8, n, 512]⟩)
    (w : BitVec 32) (hw : w = 0#32)
    (hp : (⟨3, ![8, n, 512]⟩ : Shape).Pads ![0, 0, 0] ![0, p, 0] ![0, 0, 0] ⟨3, ![8, N, 512]⟩) (hu : 0 < (⟨0, ![]⟩ : Shape).numel)
    (b : Fin 8) (t : Fin N) (h : Fin 4) (d : Fin 128) :
    pad ⟨3, ![8, N, 512]⟩ ![0, 0, 0] ![0, p, 0] ![0, 0, 0] (shapeCast ⟨3, ![8, n, 512]⟩ x hc)
        (sitofp (F := Ideal) .f32 (constantI (⟨0, ![]⟩ : Shape) 32 w)) hp hu (ix3 b t (lane h d))
      = if ht : t.val < n then x (ix4 b ⟨t.val, ht⟩ h d) else 0 := by
  by_cases ht : t.val < n
  · rw [dif_pos ht, pad_apply_of_inside _ _ _ _ _ _ _ (ix3 b t (lane h d)) (ix3 (n0 := 8) (n1 := n) (n2 := 512) b ⟨t.val, ht⟩ (lane h d)) (fun a => by
      match a with
      | ⟨0, _⟩ => show b.val = 0 + b.val * (0 + 1); omega
      | ⟨1, _⟩ => show t.val = 0 + t.val * (0 + 1); omega
      | ⟨2, _⟩ => show (lane h d).val = 0 + (lane h d).val * (0 + 1); omega)]
    refine shapeCast_apply _ _ _ _ ?_
    rw [Shape.rowMajor_val_three, Shape.rowMajor_val_four]
    show ((b.val * n + t.val) * 4 + h.val) * 128 + d.val = (b.val * n + t.val) * 512 + (128 * h.val + d.val)
    omega
  · rw [dif_neg ht, pad_apply_of_not_inside _ _ _ _ _ _ _ (ix3 b t (lane h d)) ⟨1, by show 1 < 3; decide⟩ (fun hn => ht (by
      have h3 : (t.val - 0) / (0 + 1) < n := hn.2.2
      simpa using h3)), hw]
    show (((0#32 : BitVec 32).toInt : ℝ) : EReal) = 0
    norm_num [BitVec.toInt]

/-- The same for the values' 256 lanes a head. -/
theorem padded_wide {n N p : ℕ} (x : FVec Ideal ⟨4, ![8, n, 4, 256]⟩ .f32) (hc : (⟨4, ![8, n, 4, 256]⟩ : Shape).ShapeCasts ⟨3, ![8, n, 1024]⟩)
    (w : BitVec 32) (hw : w = 0#32)
    (hp : (⟨3, ![8, n, 1024]⟩ : Shape).Pads ![0, 0, 0] ![0, p, 0] ![0, 0, 0] ⟨3, ![8, N, 1024]⟩) (hu : 0 < (⟨0, ![]⟩ : Shape).numel)
    (b : Fin 8) (t : Fin N) (h : Fin 4) (e : Fin 256) :
    pad ⟨3, ![8, N, 1024]⟩ ![0, 0, 0] ![0, p, 0] ![0, 0, 0] (shapeCast ⟨3, ![8, n, 1024]⟩ x hc)
        (sitofp (F := Ideal) .f32 (constantI (⟨0, ![]⟩ : Shape) 32 w)) hp hu (ix3 b t (wide h e))
      = if ht : t.val < n then x (ix4 b ⟨t.val, ht⟩ h e) else 0 := by
  by_cases ht : t.val < n
  · rw [dif_pos ht, pad_apply_of_inside _ _ _ _ _ _ _ (ix3 b t (wide h e)) (ix3 (n0 := 8) (n1 := n) (n2 := 1024) b ⟨t.val, ht⟩ (wide h e)) (fun a => by
      match a with
      | ⟨0, _⟩ => show b.val = 0 + b.val * (0 + 1); omega
      | ⟨1, _⟩ => show t.val = 0 + t.val * (0 + 1); omega
      | ⟨2, _⟩ => show (wide h e).val = 0 + (wide h e).val * (0 + 1); omega)]
    refine shapeCast_apply _ _ _ _ ?_
    rw [Shape.rowMajor_val_three, Shape.rowMajor_val_four]
    show ((b.val * n + t.val) * 4 + h.val) * 256 + e.val = (b.val * n + t.val) * 1024 + (256 * h.val + e.val)
    omega
  · rw [dif_neg ht, pad_apply_of_not_inside _ _ _ _ _ _ _ (ix3 b t (wide h e)) ⟨1, by show 1 < 3; decide⟩ (fun hn => ht (by
      have h3 : (t.val - 0) / (0 + 1) < n := hn.2.2
      simpa using h3)), hw]
    show (((0#32 : BitVec 32).toInt : ℝ) : EReal) = 0
    norm_num [BitVec.toInt]

end Cert.Gla

end
-- ==== Proof.PromptBlocks.lean ====
module

public import proofs.«01_k».proof.Proof.PromptBody
public import proofs.«01_k».proof.Proof.Layout
public import Idealize.ShloMosaic.Lib.Claim

/-! What the prompt call's blocks hold, read from the program's arguments. -/

@[expose] public section

set_option maxRecDepth 16384

noncomputable section

namespace Cert.Gla.Prompt

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-- The batch row of a grid point. -/
def rowAt (t : Fin cfg0.N) : Fin 8 := ⟨t.val / 65, by have h : t.val < 520 := lt_of_lt_of_eq t.isLt N_0; omega⟩
/-- The token at row `i` of a grid point's block. -/
def tokAt (t : Fin cfg0.N) (i : Fin 128) : Fin 8320 := ⟨t.val % 65 * 128 + i.val, by omega⟩

/-- The queries. -/
def argQ : FVec Ideal S8x8208x4x128 .f32 := m ((c : Thread nD τ).loc main_arg0)
/-- The keys. -/
def argK : FVec Ideal S8x8208x4x128 .f32 := m ((c : Thread nD τ).loc main_arg1)
/-- The values. -/
def argV : FVec Ideal S8x8208x4x256 .f32 := m ((c : Thread nD τ).loc main_arg2)
/-- The log decays. -/
def argL : FVec Ideal S8x8208x4x128 .f32 := m ((c : Thread nD τ).loc main_arg3)

theorem entryQ : (V m c main_v2 : FVec Ideal S8x8320x512 .f32) =
    pad S8x8320x512 ![0, 0, 0] ![0, 112, 0] ![0, 0, 0] (shapeCast S8x8208x512 (argQ m c) shapeCasts_S8x8208x4x128_S8x8208x512)
      (sitofp .f32 (constantI S_ 32 0#32)) pads_S8x8208x512_S8x8320x512_000_01120_000 h_S_ := by
  unfold argQ
  entry_read
  rfl

theorem indexQ : ∀ t : Fin grid0.N, win0_0.index t 0 = t.val / 65 ∧ win0_0.index t 1 = t.val % 65 ∧ win0_0.index t 2 = 0 := by
  decide +kernel

/-- The block of queries. -/
theorem blockQ (t : Fin cfg0.N) (i : Fin 128) (h : Fin 4) (d : Fin 128) :
    iblk m c 0 t (ix3 (n0 := 1) (n1 := 128) (n2 := 512) 0 i (lane h d))
      = if ht : (tokAt t i).val < 8208 then argQ m c (ix4 (rowAt t) ⟨(tokAt t i).val, ht⟩ h d) else 0 := by
  have e : iblk m c 0 t (ix3 (n0 := 1) (n1 := 128) (n2 := 512) 0 i (lane h d))
      = V m c main_v2 (ix3 (rowAt t) (tokAt t i) (lane h d)) := by
    show V m c main_v2 _ = _
    refine congrArg (V m c main_v2) ?_
    obtain ⟨e0, e1, e2⟩ := indexQ t
    funext a
    apply Fin.ext
    match a with
    | ⟨0, _⟩ => show win0_0.index t 0 * 1 + 1 * 0 = t.val / 65; omega
    | ⟨1, _⟩ => show win0_0.index t 1 * 128 + 1 * i.val = t.val % 65 * 128 + i.val; omega
    | ⟨2, _⟩ => show win0_0.index t 2 * 512 + 1 * (lane h d).val = (lane h d).val; omega
  rw [e, entryQ]
  exact padded_lanes (p := 112) _ _ _ rfl pads_S8x8208x512_S8x8320x512_000_01120_000 _ _ _ _ _

theorem entryK : (V m c main_v4 : FVec Ideal S8x8320x512 .f32) =
    pad S8x8320x512 ![0, 0, 0] ![0, 112, 0] ![0, 0, 0] (shapeCast S8x8208x512 (argK m c) shapeCasts_S8x8208x4x128_S8x8208x512)
      (sitofp .f32 (constantI S_ 32 0#32)) pads_S8x8208x512_S8x8320x512_000_01120_000 h_S_ := by
  unfold argK
  entry_read
  rfl

theorem indexK : ∀ t : Fin grid0.N, win0_1.index t 0 = t.val / 65 ∧ win0_1.index t 1 = t.val % 65 ∧ win0_1.index t 2 = 0 := by
  decide +kernel

/-- The block of keys. -/
theorem blockK (t : Fin cfg0.N) (i : Fin 128) (h : Fin 4) (d : Fin 128) :
    iblk m c 1 t (ix3 (n0 := 1) (n1 := 128) (n2 := 512) 0 i (lane h d))
      = if ht : (tokAt t i).val < 8208 then argK m c (ix4 (rowAt t) ⟨(tokAt t i).val, ht⟩ h d) else 0 := by
  have e : iblk m c 1 t (ix3 (n0 := 1) (n1 := 128) (n2 := 512) 0 i (lane h d))
      = V m c main_v4 (ix3 (rowAt t) (tokAt t i) (lane h d)) := by
    show V m c main_v4 _ = _
    refine congrArg (V m c main_v4) ?_
    obtain ⟨e0, e1, e2⟩ := indexK t
    funext a
    apply Fin.ext
    match a with
    | ⟨0, _⟩ => show win0_1.index t 0 * 1 + 1 * 0 = t.val / 65; omega
    | ⟨1, _⟩ => show win0_1.index t 1 * 128 + 1 * i.val = t.val % 65 * 128 + i.val; omega
    | ⟨2, _⟩ => show win0_1.index t 2 * 512 + 1 * (lane h d).val = (lane h d).val; omega
  rw [e, entryK]
  exact padded_lanes (p := 112) _ _ _ rfl pads_S8x8208x512_S8x8320x512_000_01120_000 _ _ _ _ _

theorem entryL : (V m c main_v6 : FVec Ideal S8x8320x512 .f32) =
    pad S8x8320x512 ![0, 0, 0] ![0, 112, 0] ![0, 0, 0] (shapeCast S8x8208x512 (argL m c) shapeCasts_S8x8208x4x128_S8x8208x512)
      (sitofp .f32 (constantI S_ 32 0#32)) pads_S8x8208x512_S8x8320x512_000_01120_000 h_S_ := by
  unfold argL
  entry_read
  rfl

theorem indexL : ∀ t : Fin grid0.N, win0_2.index t 0 = t.val / 65 ∧ win0_2.index t 1 = t.val % 65 ∧ win0_2.index t 2 = 0 := by
  decide +kernel

/-- The block of log decays. -/
theorem blockL (t : Fin cfg0.N) (i : Fin 128) (h : Fin 4) (d : Fin 128) :
    iblk m c 2 t (ix3 (n0 := 1) (n1 := 128) (n2 := 512) 0 i (lane h d))
      = if ht : (tokAt t i).val < 8208 then argL m c (ix4 (rowAt t) ⟨(tokAt t i).val, ht⟩ h d) else 0 := by
  have e : iblk m c 2 t (ix3 (n0 := 1) (n1 := 128) (n2 := 512) 0 i (lane h d))
      = V m c main_v6 (ix3 (rowAt t) (tokAt t i) (lane h d)) := by
    show V m c main_v6 _ = _
    refine congrArg (V m c main_v6) ?_
    obtain ⟨e0, e1, e2⟩ := indexL t
    funext a
    apply Fin.ext
    match a with
    | ⟨0, _⟩ => show win0_2.index t 0 * 1 + 1 * 0 = t.val / 65; omega
    | ⟨1, _⟩ => show win0_2.index t 1 * 128 + 1 * i.val = t.val % 65 * 128 + i.val; omega
    | ⟨2, _⟩ => show win0_2.index t 2 * 512 + 1 * (lane h d).val = (lane h d).val; omega
  rw [e, entryL]
  exact padded_lanes (p := 112) _ _ _ rfl pads_S8x8208x512_S8x8320x512_000_01120_000 _ _ _ _ _

theorem entryV : (V m c main_v9 : FVec Ideal S8x8320x1024 .bf16) =
    truncf .bf16 (pad S8x8320x1024 ![0, 0, 0] ![0, 112, 0] ![0, 0, 0] (shapeCast S8x8208x1024 (argV m c) shapeCasts_S8x8208x4x256_S8x8208x1024)
      (sitofp .f32 (constantI S_ 32 0#32)) pads_S8x8208x1024_S8x8320x1024_000_01120_000 h_S_) bitsLt_bf16_f32 := by
  unfold argV
  entry_read
  rfl

theorem indexV : ∀ t : Fin grid0.N, win0_3.index t 0 = t.val / 65 ∧ win0_3.index t 1 = t.val % 65 ∧ win0_3.index t 2 = 0 := by
  decide +kernel

/-- The block of values. -/
theorem blockV (t : Fin cfg0.N) (i : Fin 128) (h : Fin 4) (d : Fin 256) :
    iblk m c 3 t (ix3 (n0 := 1) (n1 := 128) (n2 := 1024) 0 i (wide h d))
      = if ht : (tokAt t i).val < 8208 then argV m c (ix4 (rowAt t) ⟨(tokAt t i).val, ht⟩ h d) else 0 := by
  have e : iblk m c 3 t (ix3 (n0 := 1) (n1 := 128) (n2 := 1024) 0 i (wide h d))
      = V m c main_v9 (ix3 (rowAt t) (tokAt t i) (wide h d)) := by
    show V m c main_v9 _ = _
    refine congrArg (V m c main_v9) ?_
    obtain ⟨e0, e1, e2⟩ := indexV t
    funext a
    apply Fin.ext
    match a with
    | ⟨0, _⟩ => show win0_3.index t 0 * 1 + 1 * 0 = t.val / 65; omega
    | ⟨1, _⟩ => show win0_3.index t 1 * 128 + 1 * i.val = t.val % 65 * 128 + i.val; omega
    | ⟨2, _⟩ => show win0_3.index t 2 * 1024 + 1 * (wide h d).val = (wide h d).val; omega
  rw [e, entryV]
  exact padded_wide (p := 112) _ _ _ rfl pads_S8x8208x1024_S8x8320x1024_000_01120_000 _ _ _ _ _

theorem indexS : ∀ t : Fin grid0.N, win0_4.index t 0 = t.val / 65 ∧ win0_4.index t 1 = 0 ∧ win0_4.index t 2 = 0 ∧ win0_4.index t 3 = 0 := by
  decide +kernel

theorem entryS : (V m c main_v0 : FVec Ideal S8x4x256x128 .f32) =
    broadcastInDim S8x4x256x128 ![] bcast_S_S8x4x256x128 (constant (F := Ideal) S_ .f32 0x00000000#32) := by
  entry_read
  rfl

/-- The block of states before. -/
theorem blockS (t : Fin cfg0.N) (h : Fin 4) (e : Fin 256) (d : Fin 128) :
    iblk m c 4 t (ix4 (n0 := 1) (n1 := 4) (n2 := 256) (n3 := 128) 0 h e d) = (0 : EReal) := by
  have e : iblk m c 4 t (ix4 (n0 := 1) (n1 := 4) (n2 := 256) (n3 := 128) 0 h e d) = V m c main_v0 (ix4 (rowAt t) h e d) := by
    show V m c main_v0 _ = _
    refine congrArg (V m c main_v0) ?_
    obtain ⟨e0, e1, e2, e3⟩ := indexS t
    funext a
    apply Fin.ext
    match a with
    | ⟨0, _⟩ => show win0_4.index t 0 * 1 + 1 * 0 = t.val / 65; omega
    | ⟨1, _⟩ => show win0_4.index t 1 * 4 + 1 * h.val = h.val; omega
    | ⟨2, _⟩ => show win0_4.index t 2 * 256 + 1 * e.val = e.val; omega
    | ⟨3, _⟩ => show win0_4.index t 3 * 128 + 1 * d.val = d.val; omega
  rw [e, entryS]
  exact zero_word

theorem valid_word : ∀ (b : Fin 65) (i : Fin 128),
    IntOp.cmpi .slt (BitVec.ofNat 32 b.val * 128#32 + BitVec.ofNat 32 i.val) 8208#32 = if b.val * 128 + i.val < 8208 then 1#1 else 0#1 := by
  decide +kernel

theorem chunk_at : ∀ t : Fin grid0.N, (grid0.coords t 1).val = t.val % 65 := by decide +kernel

/-- Which rows of a block are tokens. -/
theorem valid_apply (t : Fin cfg0.N) (i j : Fin 128) :
    k0_pay6 (grid0.coords t) (ix2 i j) = if (tokAt t i).val < 8208 then 1#1 else 0#1 := by
  have e : k0_pay6 (grid0.coords t) (ix2 i j)
      = IntOp.cmpi .slt (BitVec.ofNat 32 (grid0.coords t 1).val * 128#32 + iota .tc S128x128 32 [0] iota_S128x128_d0_w32 (ix2 i j)) 8208#32 := rfl
  rw [e, iota_row, chunk_at t]
  exact valid_word ⟨t.val % 65, Nat.mod_lt _ (by decide)⟩ i

end Cert.Gla.Prompt

end
-- ==== Proof.Formula.lean ====
module

public import Mathlib.Data.EReal.Operations
public import Mathlib.Analysis.SpecialFunctions.Exp

/-! A chunk of gated linear attention as formulas over the extended reals, at any number of tokens and lanes. -/

@[expose] public section

noncomputable section

namespace Cert.Gla

open scoped BigOperators

variable {C n D E : ℕ}

/-- The running sum of reals at token `t`. -/
def upToG (x : Fin C → Fin D → ℝ) (t : Fin C) (d : Fin D) : ℝ := ∑ j : Fin C, if j.val ≤ t.val then x j d else 0

/-- A pair's score: queries against keys, decayed from the key's token to the query's; nothing from later tokens. -/
def scoreG (q k : Fin C → Fin D → EReal) (β : Fin C → Fin D → ℝ) (t s : Fin C) : EReal :=
  if s.val ≤ t.val then ∑ d : Fin D, q t d * k s d * (Real.exp (β t d - β s d) : EReal) else 0

/-- The result at token `t`, lane `e`: from the carried state, and from the chunk's own tokens. -/
def outG (q k : Fin C → Fin D → EReal) (β : Fin C → Fin D → ℝ) (v : Fin C → Fin E → EReal)
    (S : Fin E → Fin D → EReal) (t : Fin C) (e : Fin E) : EReal :=
  (∑ d : Fin D, q t d * (Real.exp (β t d) : EReal) * S e d) + ∑ s : Fin C, scoreG q k β t s * v s e

/-- The state after a chunk whose last token is `last`. -/
def stateG (last : Fin C) (k : Fin C → Fin D → EReal) (β : Fin C → Fin D → ℝ) (v : Fin C → Fin E → EReal)
    (S : Fin E → Fin D → EReal) (e : Fin E) (d : Fin D) : EReal :=
  S e d * (Real.exp (β last d) : EReal) + ∑ s : Fin C, v s e * (k s d * (Real.exp (β last d - β s d) : EReal))

/-! ### Zero rows after the tokens change nothing -/

/-- Zero from `n` on. -/
def grow {α : Type} [Zero α] (C : ℕ) (x : Fin n → Fin D → α) (t : Fin C) (d : Fin D) : α :=
  if h : t.val < n then x ⟨t.val, h⟩ d else 0

theorem sum_grow {M : Type} [AddCommMonoid M] (h : n ≤ C) (f : Fin C → M) (g : Fin n → M)
    (hin : ∀ (s : Fin n) (hs : s.val < C), f ⟨s.val, hs⟩ = g s) (hout : ∀ s : Fin C, n ≤ s.val → f s = 0) :
    ∑ s, f s = ∑ s, g s := by
  obtain ⟨k, rfl⟩ := Nat.exists_eq_add_of_le h
  rw [Fin.sum_univ_add, Finset.sum_eq_zero (s := Finset.univ) (f := fun i : Fin k => f (Fin.natAdd n i)) (fun i _ => hout _ (Nat.le_add_right _ _)), add_zero]
  exact Finset.sum_congr rfl fun s _ => hin s (lt_of_lt_of_le s.isLt h)

theorem upToG_grow (h : n ≤ C) (x : Fin n → Fin D → ℝ) (t : Fin C) (ht : t.val < n) (d : Fin D) :
    upToG (grow C x) t d = upToG x ⟨t.val, ht⟩ d := by
  unfold upToG grow
  refine sum_grow h _ _ (fun s hs => ?_) (fun s hs => ?_)
  · rw [dif_pos s.isLt]
  · rw [dif_neg (by omega)]
    split <;> rfl

theorem upToG_past (h : n ≤ C) (x : Fin n → Fin D → ℝ) (t : Fin C) (l : Fin n) (hl : l.val + 1 = n) (ht : l.val ≤ t.val) (d : Fin D) :
    upToG (grow C x) t d = upToG x l d := by
  unfold upToG grow
  refine sum_grow h _ _ (fun s hs => ?_) (fun s hs => ?_)
  · have := s.isLt
    rw [dif_pos s.isLt, if_pos (show s.val ≤ t.val by omega), if_pos (show s.val ≤ l.val by omega)]
  · rw [dif_neg (by omega)]
    split <;> rfl

theorem outG_grow (h : n ≤ C) (q k : Fin n → Fin D → EReal) (l : Fin n → Fin D → ℝ) (v : Fin n → Fin E → EReal)
    (S : Fin E → Fin D → EReal) (t : Fin C) (e : Fin E) :
    outG (grow C q) (grow C k) (upToG (grow C l)) (grow C v) S t e
      = if ht : t.val < n then outG q k (upToG l) v S ⟨t.val, ht⟩ e else 0 := by
  unfold outG
  by_cases ht : t.val < n
  · rw [dif_pos ht]
    have hq : ∀ d, grow C q t d = q ⟨t.val, ht⟩ d := fun d => by unfold grow; rw [dif_pos ht]
    refine congrArg₂ (fun x y : EReal => x + y) (Finset.sum_congr rfl fun d _ => ?_) (sum_grow h _ _ (fun s hs => ?_) (fun s hs => ?_))
    · rw [hq, upToG_grow h l t ht]
    · have hk : ∀ d, grow C k ⟨s.val, hs⟩ d = k s d := fun d => by unfold grow; rw [dif_pos s.isLt]
      have hv : grow C v ⟨s.val, hs⟩ e = v s e := by unfold grow; rw [dif_pos s.isLt]
      rw [hv]
      unfold scoreG
      simp only [hq, hk, upToG_grow h l t ht, upToG_grow h l ⟨s.val, hs⟩ s.isLt]
    · have hv : grow C v s e = 0 := by unfold grow; rw [dif_neg (by omega)]
      rw [hv, mul_zero]
  · rw [dif_neg ht]
    have hq : ∀ d, grow C q t d = 0 := fun d => by unfold grow; rw [dif_neg ht]
    have e1 : (∑ d : Fin D, grow C q t d * (Real.exp (upToG (grow C l) t d) : EReal) * S e d) = 0 :=
      Finset.sum_eq_zero fun d _ => by rw [hq, zero_mul, zero_mul]
    have e2 : (∑ s : Fin C, scoreG (grow C q) (grow C k) (upToG (grow C l)) t s * grow C v s e) = 0 :=
      Finset.sum_eq_zero fun s _ => by
        unfold scoreG
        rw [Finset.sum_eq_zero (s := Finset.univ) (fun d _ => by rw [hq, zero_mul, zero_mul])]
        simp
    rw [e1, e2, add_zero]

theorem stateG_grow (h : n ≤ C) (k : Fin n → Fin D → EReal) (l : Fin n → Fin D → ℝ) (v : Fin n → Fin E → EReal)
    (S : Fin E → Fin D → EReal) (last : Fin C) (ln : Fin n) (hl : ln.val + 1 = n) (hc : ln.val ≤ last.val) (e : Fin E) (d : Fin D) :
    stateG last (grow C k) (upToG (grow C l)) (grow C v) S e d = stateG ln k (upToG l) v S e d := by
  unfold stateG
  rw [upToG_past h l last ln hl hc]
  refine congrArg₂ (fun x y : EReal => x + y) rfl (sum_grow h _ _ (fun s hs => ?_) (fun s hs => ?_))
  · have hk : grow C k ⟨s.val, hs⟩ d = k s d := by unfold grow; rw [dif_pos s.isLt]
    have hv : grow C v ⟨s.val, hs⟩ e = v s e := by unfold grow; rw [dif_pos s.isLt]
    rw [hk, hv, upToG_grow h l ⟨s.val, hs⟩ s.isLt]
  · have hv : grow C v s e = 0 := by unfold grow; rw [dif_neg (by omega)]
    rw [hv, zero_mul]

end Cert.Gla

end
-- ==== Proof.Target.lean ====
module

public import proofs.«01_k».proof.Proof.Layout
public import proofs.«01_k».proof.Proof.Formula

/-! Results and states as arrays of one function each, and the kernel's formulas as the common ones. -/

@[expose] public section

set_option maxRecDepth 16384

noncomputable section

namespace Cert.Gla

open Idealize.ShloMosaic Idealize.ShloMosaic.ValueIdx

theorem wide_split (x : Fin 1024) : x = wide ⟨x.val / 256, by omega⟩ ⟨x.val % 256, by omega⟩ :=
  Fin.ext (by show x.val = 256 * (x.val / 256) + x.val % 256; omega)

/-- Results of batch row, token, head and lane, as the kernel lays them out. -/
def outArray {R : ℕ} (f : Fin 8 → Fin R → Fin 4 → Fin 256 → EReal) : FVec Ideal ⟨3, ![8, R, 1024]⟩ .f32 :=
  fun i => f (i 0) (i 1) ⟨(i 2).val / 256, by have : (i 2).val < 1024 := (i 2).isLt; omega⟩ ⟨(i 2).val % 256, by omega⟩

theorem outArray_apply {R : ℕ} (f : Fin 8 → Fin R → Fin 4 → Fin 256 → EReal) (b : Fin 8) (t : Fin R) (h : Fin 4) (e : Fin 256) :
    outArray f (ix3 b t (wide h e)) = f b t h e := by
  show f b t ⟨(256 * h.val + e.val) / 256, _⟩ ⟨(256 * h.val + e.val) % 256, _⟩ = _
  congr 1 <;> exact Fin.ext (by show _ = _; first | (show (256 * h.val + e.val) / 256 = h.val; omega) | (show (256 * h.val + e.val) % 256 = e.val; omega))

/-- States of batch row, head, value lane and key lane. -/
def stateArray (f : Fin 8 → Fin 4 → Fin 256 → Fin 128 → EReal) : FVec Ideal ⟨4, ![8, 4, 256, 128]⟩ .f32 :=
  fun i => f (i 0) (i 1) (i 2) (i 3)

theorem wide_ext {α : Type} {A R : ℕ} (x y : (⟨3, ![A, R, 1024]⟩ : Shape).Idx → α)
    (h : ∀ b t hd e, x (ix3 b t (wide hd e)) = y (ix3 b t (wide hd e))) : x = y := by
  funext i
  rw [eq_ix3 i]
  have e : (i 2 : Fin 1024) = _ := wide_split (i 2)
  refine (congrArg (fun w => x (ix3 (i 0) (i 1) w)) e).trans (Eq.trans (h _ _ _ _) (congrArg (fun w => y (ix3 (i 0) (i 1) w)) e).symm)

theorem state_ext {α : Type} {A B C D : ℕ} (x y : (⟨4, ![A, B, C, D]⟩ : Shape).Idx → α)
    (h : ∀ a b c d, x (ix4 a b c d) = y (ix4 a b c d)) : x = y := by
  funext i
  rw [eq_ix4 i]
  exact h _ _ _ _

theorem outAt_eq (q k : Fin 128 → Fin 128 → EReal) (β : Fin 128 → Fin 128 → ℝ) (v : Fin 128 → Fin 256 → EReal) (S : Fin 256 → Fin 128 → EReal) :
    outAt q k β v S = outG q k β v S := rfl

theorem stateAt_eq (k : Fin 128 → Fin 128 → EReal) (β : Fin 128 → Fin 128 → ℝ) (v : Fin 128 → Fin 256 → EReal) (S : Fin 256 → Fin 128 → EReal) :
    stateAt k β v S = stateG 127 k β v S := rfl

theorem upTo_eq (x : Fin 128 → Fin 128 → ℝ) : upTo x = upToG x := rfl

end Cert.Gla

end
-- ==== Proof.Recur.lean ====
module

public import proofs.«01_k».proof.Proof.Formula

/-! Gated linear attention token by token over the reals, and a chunk of any size as so many tokens of it. -/

@[expose] public section

noncomputable section

namespace Cert.Gla

open scoped BigOperators

variable {D E : ℕ} (q k l : ℕ → Fin D → ℝ) (v : ℕ → Fin E → ℝ)

/-- The state before token `n`: it decays, and takes in a token's value along its key. -/
def stateN : ℕ → Fin E → Fin D → ℝ
  | 0 => fun _ _ => 0
  | n + 1 => fun e d => stateN n e d * Real.exp (l n d) + v n e * k n d

/-- The result of token `n`. -/
def outN (n : ℕ) (e : Fin E) : ℝ := ∑ d : Fin D, q n d * stateN k l v (n + 1) e d

/-- The log decays of the `i` tokens from `n` on, added up. -/
def sumN (n i : ℕ) (d : Fin D) : ℝ := ∑ j ∈ Finset.range i, l (n + j) d

theorem sumN_succ (n i : ℕ) (d : Fin D) : sumN l n (i + 1) d = sumN l n i d + l (n + i) d := Finset.sum_range_succ _ _

/-- `i` tokens at once. -/
theorem stateN_add (n i : ℕ) (e : Fin E) (d : Fin D) :
    stateN k l v (n + i) e d = stateN k l v n e d * Real.exp (sumN l n i d)
      + ∑ s ∈ Finset.range i, v (n + s) e * (k (n + s) d * Real.exp (sumN l n i d - sumN l n (s + 1) d)) := by
  induction i with
  | zero => simp [sumN]
  | succ i ih =>
    rw [Finset.sum_range_succ, sub_self, Real.exp_zero, mul_one, ← add_assoc n i 1]
    show stateN k l v (n + i) e d * Real.exp (l (n + i) d) + v (n + i) e * k (n + i) d = _
    rw [ih, add_mul, mul_assoc, ← Real.exp_add, ← sumN_succ, Finset.sum_mul]
    refine (congrArg₂ (· + ·) (congrArg₂ (· + ·) rfl (Finset.sum_congr rfl fun s _ => ?_)) rfl).trans (add_assoc _ _ _)
    rw [mul_assoc, mul_assoc, ← Real.exp_add, sumN_succ l n i]
    congr 3
    ring

/-- A sum over a chunk's tokens up to one of them, counted from zero. -/
theorem sum_upTo {C : ℕ} (t : Fin C) (f : ℕ → ℝ) : (∑ j : Fin C, if j.val ≤ t.val then f j.val else 0) = ∑ j ∈ Finset.range (t.val + 1), f j := by
  rw [Fin.sum_univ_eq_sum_range (fun j => if j ≤ t.val then f j else 0) C, ← Finset.sum_filter]
  refine Finset.sum_congr (Finset.ext fun j => ?_) fun _ _ => rfl
  have := t.isLt
  simp only [Finset.mem_filter, Finset.mem_range]
  omega

theorem upToG_line {C : ℕ} (n : ℕ) (t : Fin C) (d : Fin D) : upToG (fun (t : Fin C) d => l (n + t.val) d) t d = sumN l n (t.val + 1) d :=
  sum_upTo t fun j => l (n + j) d

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A chunk's state, of a chunk that starts at token `n`. -/
theorem stateG_line {C : ℕ} (n : ℕ) (last : Fin C) (hl : last.val + 1 = C) (e : Fin E) (d : Fin D) :
    stateG last (fun (t : Fin C) d => (k (n + t.val) d : EReal)) (upToG fun (t : Fin C) d => l (n + t.val) d)
        (fun (t : Fin C) e => (v (n + t.val) e : EReal)) (fun e d => (stateN k l v n e d : EReal)) e d
      = (stateN k l v (n + C) e d : EReal) := by
  unfold stateG
  rw [stateN_add, EReal.coe_add, EReal.coe_mul, ← Fin.sum_univ_eq_sum_range (fun s => v (n + s) e * (k (n + s) d * Real.exp (sumN l n C d - sumN l n (s + 1) d))) C,
    coe_sum]
  simp only [upToG_line, hl, EReal.coe_mul]

/-- A chunk's results, of a chunk that starts at token `n`. -/
theorem outG_line {C : ℕ} (n : ℕ) (t : Fin C) (e : Fin E) :
    outG (fun (t : Fin C) d => (q (n + t.val) d : EReal)) (fun (t : Fin C) d => (k (n + t.val) d : EReal)) (upToG fun (t : Fin C) d => l (n + t.val) d)
        (fun (t : Fin C) e => (v (n + t.val) e : EReal)) (fun e d => (stateN k l v n e d : EReal)) t e
      = (outN q k l v (n + t.val) e : EReal) := by
  have hs : ∀ s : Fin C, scoreG (fun (t : Fin C) d => (q (n + t.val) d : EReal)) (fun (t : Fin C) d => (k (n + t.val) d : EReal))
      (upToG fun (t : Fin C) d => l (n + t.val) d) t s * (v (n + s.val) e : EReal)
      = ((if s.val ≤ t.val then (∑ d : Fin D, q (n + t.val) d * k (n + s.val) d * Real.exp (sumN l n (t.val + 1) d - sumN l n (s.val + 1) d)) * v (n + s.val) e else 0 : ℝ) : EReal) := fun s => by
    unfold scoreG
    split
    · rw [EReal.coe_mul, coe_sum]
      simp only [upToG_line, EReal.coe_mul]
    · rw [zero_mul, EReal.coe_zero]
  unfold outG
  simp only [hs, upToG_line, ← EReal.coe_mul, ← coe_sum, ← EReal.coe_add]
  rw [sum_upTo t fun s => (∑ d : Fin D, q (n + t.val) d * k (n + s) d * Real.exp (sumN l n (t.val + 1) d - sumN l n (s + 1) d)) * v (n + s) e]
  refine congrArg _ ?_
  unfold outN
  simp only [add_assoc n t.val 1, stateN_add k l v n (t.val + 1), mul_add, Finset.sum_add_distrib]
  refine congrArg₂ (· + ·) (Finset.sum_congr rfl fun d _ => by ring) ?_
  simp only [Finset.mul_sum, Finset.sum_mul]
  rw [Finset.sum_comm]
  exact Finset.sum_congr rfl fun d _ => Finset.sum_congr rfl fun s _ => by ring

/-! ### Tokens before the first and after the last -/

/-- An array's tokens as reals, zero after the last. -/
def line {n : ℕ} (x : Fin n → Fin D → EReal) (t : ℕ) (d : Fin D) : ℝ := if h : t < n then (x ⟨t, h⟩ d).toReal else 0

/-- `lo` zero tokens in front. -/
def late (lo : ℕ) (x : ℕ → Fin D → ℝ) (t : ℕ) (d : Fin D) : ℝ := if lo ≤ t then x (t - lo) d else 0

theorem late_add (lo : ℕ) (x : ℕ → Fin D → ℝ) (n : ℕ) (d : Fin D) : late lo x (lo + n) d = x n d := by
  unfold late
  rw [if_pos (Nat.le_add_right _ _), Nat.add_sub_cancel_left]

theorem stateN_front (lo : ℕ) : ∀ n ≤ lo, ∀ e d, stateN (late lo k) (late lo l) (late lo v) n e d = 0
  | 0, _, _, _ => rfl
  | n + 1, h, e, d => by
    show stateN _ _ _ n e d * Real.exp (late lo l n d) + late lo v n e * late lo k n d = 0
    have hv : late lo v n e = 0 := by unfold late; rw [if_neg (by omega)]
    rw [stateN_front lo n (by omega), hv, zero_mul, zero_mul, add_zero]

theorem stateN_late (lo : ℕ) : ∀ n e d, stateN (late lo k) (late lo l) (late lo v) (lo + n) e d = stateN k l v n e d
  | 0, e, d => stateN_front k l v lo lo le_rfl e d
  | n + 1, e, d => by
    show stateN _ _ _ (lo + n) e d * Real.exp (late lo l (lo + n) d) + late lo v (lo + n) e * late lo k (lo + n) d = _
    rw [stateN_late lo n, late_add, late_add, late_add]
    rfl

theorem outN_late (lo n : ℕ) (e : Fin E) : outN (late lo q) (late lo k) (late lo l) (late lo v) (lo + n) e = outN q k l v n e := by
  unfold outN
  simp only [late_add, add_assoc lo n 1, stateN_late]

/-- Tokens with no key, no value and no decay change nothing. -/
theorem stateN_past (n : ℕ) (hk : ∀ t d, n ≤ t → k t d = 0) (hl : ∀ t d, n ≤ t → l t d = 0) :
    ∀ i e d, stateN k l v (n + i) e d = stateN k l v n e d
  | 0, _, _ => rfl
  | i + 1, e, d => by
    show stateN k l v (n + i) e d * Real.exp (l (n + i) d) + v (n + i) e * k (n + i) d = _
    rw [stateN_past n hk hl i, hk _ _ (Nat.le_add_right _ _), hl _ _ (Nat.le_add_right _ _), Real.exp_zero, mul_one, mul_zero, add_zero]

theorem outN_past (n t : ℕ) (h : n ≤ t) (hq : ∀ t d, n ≤ t → q t d = 0) (e : Fin E) : outN q k l v t e = 0 :=
  Finset.sum_eq_zero fun d _ => by rw [hq t d h, zero_mul]

end Cert.Gla

end
-- ==== Proof.PromptTokens.lean ====
module

public import proofs.«01_k».proof.Proof.Target
public import proofs.«01_k».proof.Proof.Recur

/-! The prompt's arrays as lines of tokens, and its results in terms of the recurrence. -/

@[expose] public section

set_option maxRecDepth 16384

noncomputable section

namespace Cert.Gla

open Idealize.ShloMosaic Idealize.ShloMosaic.ValueIdx

/-- A batch row's and head's tokens as reals. -/
def tokens {W : ℕ} (x : FVec Ideal ⟨4, ![8, 8208, 4, W]⟩ .f32) (b : Fin 8) (h : Fin 4) : ℕ → Fin W → ℝ := line fun t d => x (ix4 b t h d)

/-- Entry by entry a real. -/
def Reals {W : ℕ} (x : FVec Ideal ⟨4, ![8, 8208, 4, W]⟩ .f32) : Prop := ∀ i, x i = (((x i).toReal : ℝ) : EReal)

theorem tokens_apply {W : ℕ} (x : FVec Ideal ⟨4, ![8, 8208, 4, W]⟩ .f32) (hx : Reals x) (b : Fin 8) (t : ℕ) (h : Fin 4) (d : Fin W) :
    (if ht : t < 8208 then x (ix4 b ⟨t, ht⟩ h d) else 0) = (tokens x b h t d : EReal) := by
  unfold tokens line
  by_cases ht : t < 8208
  · rw [dif_pos ht, dif_pos ht]
    exact hx _
  · rw [dif_neg ht, dif_neg ht]
    exact EReal.coe_zero.symm

theorem tokens_past {W : ℕ} (x : FVec Ideal ⟨4, ![8, 8208, 4, W]⟩ .f32) (b : Fin 8) (t : ℕ) (h : Fin 4) (d : Fin W) (ht : 8208 ≤ t) :
    tokens x b h t d = 0 := dif_neg (by omega)

variable (xq xk : FVec Ideal ⟨4, ![8, 8208, 4, 128]⟩ .f32) (xv : FVec Ideal ⟨4, ![8, 8208, 4, 256]⟩ .f32) (xl : FVec Ideal ⟨4, ![8, 8208, 4, 128]⟩ .f32)

/-- The results, token by token. -/
def outs : FVec Ideal ⟨3, ![8, 8320, 1024]⟩ .f32 :=
  outArray fun b t h e => (outN (tokens xq b h) (tokens xk b h) (tokens xl b h) (tokens xv b h) t.val e : EReal)

/-- The states after the last token. -/
def states : FVec Ideal ⟨4, ![8, 4, 256, 128]⟩ .f32 :=
  stateArray fun b h e d => (stateN (tokens xk b h) (tokens xl b h) (tokens xv b h) 8208 e d : EReal)

end Cert.Gla

end
-- ==== Proof.PromptValue.lean ====
module

public import proofs.«01_k».proof.Proof.PromptBlocks
public import proofs.«01_k».proof.Proof.PromptTokens
public import proofs.«01_k».proof.Proof.Gen.KernelIdeal.Value
public import Idealize.ShloMosaic.Lib.Pipeline.ValueKit.Geometry

/-! The prompt call's result arrays: its 65 chunks of 128 tokens are the recurrence, token by token. -/

@[expose] public section

set_option maxRecDepth 16384

noncomputable section

namespace Cert.Gla.Prompt

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

variable (hq : Reals (argQ m c)) (hk : Reals (argK m c)) (hv : Reals (argV m c)) (hl : Reals (argL m c)) (hn : ∀ i, (argL m c i).toReal ≤ 0)

/-- The tokens of a batch row before a grid point's block. -/
def startAt (t : Fin cfg0.N) : ℕ := t.val % 65 * 128

/-- The states before token `n` of a grid point's batch row. -/
def stateAt' (b : Fin 8) (h : Fin 4) (n : ℕ) : Fin 256 → Fin 128 → ℝ := stateN (tokens (argK m c) b h) (tokens (argL m c) b h) (tokens (argV m c) b h) n

include hq in
theorem rowQ (t : Fin cfg0.N) (h : Fin 4) : (fun (i : Fin 128) (d : Fin 128) => iblk m c 0 t (ix3 (n0 := 1) (n1 := 128) (n2 := 512) 0 i (lane h d)))
    = fun i d => (tokens (argQ m c) (rowAt t) h (startAt t + i.val) d : EReal) :=
  funext₂ fun i d => (blockQ m c t i h d).trans (tokens_apply _ hq _ _ _ _)

include hk in
theorem rowK (t : Fin cfg0.N) (h : Fin 4) : (fun (i : Fin 128) (d : Fin 128) => iblk m c 1 t (ix3 (n0 := 1) (n1 := 128) (n2 := 512) 0 i (lane h d)))
    = fun i d => (tokens (argK m c) (rowAt t) h (startAt t + i.val) d : EReal) :=
  funext₂ fun i d => (blockK m c t i h d).trans (tokens_apply _ hk _ _ _ _)

include hv in
theorem rowV (t : Fin cfg0.N) (h : Fin 4) : (fun (i : Fin 128) (d : Fin 256) => iblk m c 3 t (ix3 (n0 := 1) (n1 := 128) (n2 := 1024) 0 i (wide h d)))
    = fun i d => (tokens (argV m c) (rowAt t) h (startAt t + i.val) d : EReal) :=
  funext₂ fun i d => (blockV m c t i h d).trans (tokens_apply _ hv _ _ _ _)

include hl in
theorem rowL (t : Fin cfg0.N) (h : Fin 4) (i d : Fin 128) :
    iblk m c 2 t (ix3 (n0 := 1) (n1 := 128) (n2 := 512) 0 i (lane h d)) = (tokens (argL m c) (rowAt t) h (startAt t + i.val) d : EReal) :=
  (blockL m c t i h d).trans (tokens_apply _ hl _ _ _ _)

include hn in
theorem rowN (b : Fin 8) (h : Fin 4) (n : ℕ) (d : Fin 128) : tokens (argL m c) b h n d ≤ 0 := by
  unfold tokens line
  split
  · exact hn _
  · exact le_rfl

/-- The rows of a block that are tokens. -/
def validAt (t : Fin cfg0.N) : ℕ := 8208 - startAt t

theorem valid_rows (t : Fin cfg0.N) (i j : Fin 128) : k0_pay6 (grid0.coords t) (ix2 i j) = if i.val < validAt t then 1#1 else 0#1 := by
  have e : ((tokAt t i).val < 8208) = (i.val < validAt t) := propext (by
    show t.val % 65 * 128 + i.val < 8208 ↔ i.val < 8208 - t.val % 65 * 128
    omega)
  rw [valid_apply]
  exact if_congr (iff_of_eq e) rfl rfl

theorem before_tokens (x : FVec Ideal ⟨4, ![8, 8208, 4, 128]⟩ .f32) (t : Fin cfg0.N) (b : Fin 8) (h : Fin 4) :
    before (validAt t) (fun (i : Fin 128) (d : Fin 128) => (tokens x b h (startAt t + i.val) d : EReal)) = fun i d => (tokens x b h (startAt t + i.val) d : EReal) := by
  funext i d
  unfold before
  split
  · rfl
  · next hi =>
    rw [tokens_past x b _ h d (by unfold validAt at hi; omega)]
    exact EReal.coe_zero.symm

theorem before_tokens_real (x : FVec Ideal ⟨4, ![8, 8208, 4, 128]⟩ .f32) (t : Fin cfg0.N) (b : Fin 8) (h : Fin 4) :
    before (validAt t) (fun (i : Fin 128) (d : Fin 128) => tokens x b h (startAt t + i.val) d) = fun i d => tokens x b h (startAt t + i.val) d := by
  funext i d
  unfold before
  split
  · rfl
  · next hi => exact (tokens_past x b _ h d (by unfold validAt at hi; omega)).symm

variable (t : Fin cfg0.N) (S : Vec Ideal S1x4x256x128 .f32)
  (hS : ∀ (h : Fin 4) (e : Fin 256) (d : Fin 128), S (ix4 (n0 := 1) (n1 := 4) (n2 := 256) (n3 := 128) 0 h e d) = (stateAt' m c (rowAt t) h (startAt t) e d : EReal))

include hq hk hv hl hn hS in
/-- A block's results, from the states before its first token. -/
theorem outBlock_tokens (i : Fin 128) (h : Fin 4) (e : Fin 256) :
    outBlock (grid0.coords t) (iblk m c 0 t) (iblk m c 1 t) (iblk m c 2 t) (iblk m c 3 t) S (ix3 (n0 := 1) (n1 := 128) (n2 := 1024) 0 i (wide h e))
      = (outN (tokens (argQ m c) (rowAt t) h) (tokens (argK m c) (rowAt t) h) (tokens (argL m c) (rowAt t) h) (tokens (argV m c) (rowAt t) h) (startAt t + i.val) e : EReal) := by
  unfold outBlock
  refine (side_by_side (fun h => chunkOut (F := Ideal) (k0_pay6 (grid0.coords t)) (iblk m c 0 t) (iblk m c 1 t) (iblk m c 2 t) (iblk m c 3 t) S h) h i e).trans ?_
  refine (chunkOut_real _ (validAt t) _ _ _ _ _ h (fun i d => tokens (argL m c) (rowAt t) h (startAt t + i.val) d) (fun i j => valid_rows t i j)
    (fun i d _ => rowL m c hl t h i d) (fun i d _ => rowN m c hn (rowAt t) h _ d) i e).trans ?_
  rw [rowQ m c hq, rowK m c hk, rowV m c hv, before_tokens, before_tokens_real, outAt_eq, upTo_eq,
    show (fun (e : Fin 256) (d : Fin 128) => S (ix4 (n0 := 1) (n1 := 4) (n2 := 256) (n3 := 128) 0 h e d)) = fun e d => (stateAt' m c (rowAt t) h (startAt t) e d : EReal) from
      funext₂ fun e d => hS h e d]
  exact outG_line (C := 128) _ _ _ _ (startAt t) i e

include hk hv hl hS in
/-- A block's states, from the states before its first token. -/
theorem stateBlock_tokens (L : List (View.Piece (Elt Ideal) S1x4x256x128 .f32)) (h : Fin 4) (e : Fin 256) (d : Fin 128) :
    stateBlock (grid0.coords t) (iblk m c 1 t) (iblk m c 2 t) (iblk m c 3 t) S L (ix4 (n0 := 1) (n1 := 4) (n2 := 256) (n3 := 128) 0 h e d)
      = (stateAt' m c (rowAt t) h (startAt t + 128) e d : EReal) := by
  unfold stateBlock
  refine (stacked (fun h => chunkState (F := Ideal) (k0_pay6 (grid0.coords t)) (iblk m c 1 t) (iblk m c 2 t) (iblk m c 3 t) S h) _ h e d).trans ?_
  refine (chunkState_real _ (validAt t) _ _ _ _ h (fun i d => tokens (argL m c) (rowAt t) h (startAt t + i.val) d) (fun i j => valid_rows t i j)
    (fun i d _ => rowL m c hl t h i d) e d).trans ?_
  rw [rowK m c hk, rowV m c hv, before_tokens, before_tokens_real, stateAt_eq, upTo_eq,
    show (fun (e : Fin 256) (d : Fin 128) => S (ix4 (n0 := 1) (n1 := 4) (n2 := 256) (n3 := 128) 0 h e d)) = fun e d => (stateAt' m c (rowAt t) h (startAt t) e d : EReal) from
      funext₂ fun e d => hS h e d]
  exact stateG_line (C := 128) _ _ _ (startAt t) 127 rfl e d

theorem first_states (h0 : t.val % 65 = 0) (h : Fin 4) (e : Fin 256) (d : Fin 128) :
    iblk m c 4 t (ix4 (n0 := 1) (n1 := 4) (n2 := 256) (n3 := 128) 0 h e d) = (stateAt' m c (rowAt t) h (startAt t) e d : EReal) := by
  rw [blockS]
  unfold startAt stateAt'
  rw [h0]
  exact EReal.coe_zero.symm

include hk hv hl in
/-- What a grid point leaves as states: those after its block's last token. -/
theorem states_after : ∀ (n : ℕ) (ht : n < cfg0.N) (h : Fin 4) (e : Fin 256) (d : Fin 128),
    (outsAt0 m c n ht).2 (ix4 (n0 := 1) (n1 := 4) (n2 := 256) (n3 := 128) 0 h e d)
      = (stateAt' m c (rowAt ⟨n, ht⟩) h (startAt ⟨n, ht⟩ + 128) e d : EReal)
  | n, ht => fun h e d => by
    by_cases h0 : n % 65 = 0
    · have e1 : (outsAt0 m c n ht).2 = stateBlock (grid0.coords ⟨n, ht⟩) (iblk m c 1 ⟨n, ht⟩) (iblk m c 2 ⟨n, ht⟩) (iblk m c 3 ⟨n, ht⟩) (iblk m c 4 ⟨n, ht⟩)
          [⟨Rect.unit ![0, 0, 0, 0] S1x4x256x128.size inb_S1x4x256x128_S1x4x256x128_0_0_0_0, iblk m c 4 ⟨n, ht⟩⟩] := by
        refine (congrArg Prod.snd (outsAt0_A m c ⟨n, ht⟩ h0)).trans ?_
        dsimp only
        rw [out6_A]
      rw [e1]
      exact stateBlock_tokens m c hk hv hl ⟨n, ht⟩ _ (first_states m c ⟨n, ht⟩ h0) _ h e d
    · have e1 : (outsAt0 m c n ht).2 = stateBlock (grid0.coords ⟨n, ht⟩) (iblk m c 1 ⟨n, ht⟩) (iblk m c 2 ⟨n, ht⟩) (iblk m c 3 ⟨n, ht⟩)
          (outsAt0 m c (n - 1) (Nat.lt_of_le_of_lt (Nat.sub_le _ _) ht)).2 [] := by
        refine (congrArg Prod.snd (outsAt0_B m c ⟨n, ht⟩ h0)).trans ?_
        dsimp only
        rw [out6_B]
      rw [e1]
      have hp : n - 1 < n := by omega
      refine stateBlock_tokens m c hk hv hl ⟨n, ht⟩ _ (fun h e d => (states_after (n - 1) (Nat.lt_of_le_of_lt (Nat.sub_le _ _) ht) h e d).trans ?_) _ h e d
      have er : rowAt ⟨n - 1, Nat.lt_of_le_of_lt (Nat.sub_le _ _) ht⟩ = rowAt ⟨n, ht⟩ := Fin.ext (by show (n - 1) / 65 = n / 65; omega)
      have es : startAt ⟨n - 1, Nat.lt_of_le_of_lt (Nat.sub_le _ _) ht⟩ + 128 = startAt ⟨n, ht⟩ := by
        show (n - 1) % 65 * 128 + 128 = n % 65 * 128
        omega
      rw [er, es]
  termination_by n => n

include hq hk hv hl hn in
/-- What a grid point leaves as results. -/
theorem outs_at (i : Fin 128) (h : Fin 4) (e : Fin 256) :
    (outsAt0 m c t.val t.isLt).1 (ix3 (n0 := 1) (n1 := 128) (n2 := 1024) 0 i (wide h e))
      = (outN (tokens (argQ m c) (rowAt t) h) (tokens (argK m c) (rowAt t) h) (tokens (argL m c) (rowAt t) h) (tokens (argV m c) (rowAt t) h) (startAt t + i.val) e : EReal) := by
  by_cases h0 : t.val % 65 = 0
  · have e1 : (outsAt0 m c t.val t.isLt).1 = outBlock (grid0.coords t) (iblk m c 0 t) (iblk m c 1 t) (iblk m c 2 t) (iblk m c 3 t) (iblk m c 4 t) := by
      refine (congrArg Prod.fst (outsAt0_A m c t h0)).trans ?_
      dsimp only
      rw [out5_A]
    rw [e1]
    exact outBlock_tokens m c hq hk hv hl hn t _ (first_states m c t h0) i h e
  · have e1 : (outsAt0 m c t.val t.isLt).1 = outBlock (grid0.coords t) (iblk m c 0 t) (iblk m c 1 t) (iblk m c 2 t) (iblk m c 3 t)
        (outsAt0 m c (t.val - 1) (Nat.lt_of_le_of_lt (Nat.sub_le _ _) t.isLt)).2 := by
      refine (congrArg Prod.fst (outsAt0_B m c t h0)).trans ?_
      dsimp only
      rw [out5_B]
    rw [e1]
    refine outBlock_tokens m c hq hk hv hl hn t _ (fun h e d => (states_after m c hk hv hl (t.val - 1) (Nat.lt_of_le_of_lt (Nat.sub_le _ _) t.isLt) h e d).trans ?_) i h e
    have er : rowAt ⟨t.val - 1, Nat.lt_of_le_of_lt (Nat.sub_le _ _) t.isLt⟩ = rowAt t := Fin.ext (by show (t.val - 1) / 65 = t.val / 65; omega)
    have es : startAt ⟨t.val - 1, Nat.lt_of_le_of_lt (Nat.sub_le _ _) t.isLt⟩ + 128 = startAt t := by
      show (t.val - 1) % 65 * 128 + 128 = t.val % 65 * 128
      omega
    rw [er, es]

theorem indexO : ∀ t : Fin grid0.N, win0_5.index t 0 = t.val / 65 ∧ win0_5.index t 1 = t.val % 65 ∧ win0_5.index t 2 = 0 := by
  decide +kernel

theorem indexF : ∀ t : Fin grid0.N, win0_6.index t 0 = t.val / 65 ∧ win0_6.index t 1 = 0 ∧ win0_6.index t 2 = 0 ∧ win0_6.index t 3 = 0 := by
  decide +kernel

include hq hk hv hl hn in
/-- The array of results. -/
theorem final_out : (dats m 0 c).arrAt 5 cfg0.N = outs (argQ m c) (argK m c) (argV m c) (argL m c) := by
  refine (dats m 0 c).arrAt_eq_of_covers 5 _ (by decide +kernel) fun t hf y => ?_
  blk_simp
  rw [after0_5]
  obtain ⟨e0, e1, e2⟩ := indexO t
  have key : ∀ (i : Fin 128) (h : Fin 4) (e : Fin 256),
      (win0_5.blk t).view.emb (ix3 (n0 := 1) (n1 := 128) (n2 := 1024) 0 i (wide h e)) = ix3 (rowAt t) (tokAt t i) (wide h e) := fun i h e => by
    funext a
    apply Fin.ext
    match a with
    | ⟨0, _⟩ => show win0_5.index t 0 * 1 + 1 * 0 = t.val / 65; omega
    | ⟨1, _⟩ => show win0_5.index t 1 * 128 + 1 * i.val = t.val % 65 * 128 + i.val; omega
    | ⟨2, _⟩ => show win0_5.index t 2 * 1024 + 1 * (wide h e).val = (wide h e).val; omega
  refine congrFun (wide_ext (A := 1) (R := 128) (outsAt0 m c t.val t.isLt).1 (fun z => outs (argQ m c) (argK m c) (argV m c) (argL m c) ((win0_5.blk t).view.emb z)) fun z i h e => ?_) y
  rw [Subsingleton.elim z 0]
  refine (outs_at m c hq hk hv hl hn t i h e).trans (Eq.trans ?_ (congrArg (outs _ _ _ _) (key i h e)).symm)
  unfold outs
  rw [outArray_apply]
  rfl

/-- The states leave after a batch row's last block. -/
theorem flush_last : ∀ t : Fin grid0.N, win0_6.flush t = true → t.val % 65 = 64 := by
  decide +kernel

include hk hv hl in
/-- The array of states. -/
theorem final_state : (dats m 0 c).arrAt 6 cfg0.N = states (argK m c) (argV m c) (argL m c) := by
  refine (dats m 0 c).arrAt_eq_of_covers 6 _ (by decide +kernel) fun t hf y => ?_
  have h64 : t.val % 65 = 64 := flush_last t hf
  blk_simp
  rw [after0_6]
  obtain ⟨e0, e1, e2, e3⟩ := indexF t
  have key : ∀ (h : Fin 4) (e : Fin 256) (d : Fin 128),
      (win0_6.blk t).view.emb (ix4 (n0 := 1) (n1 := 4) (n2 := 256) (n3 := 128) 0 h e d) = ix4 (rowAt t) h e d := fun h e d => by
    funext a
    apply Fin.ext
    match a with
    | ⟨0, _⟩ => show win0_6.index t 0 * 1 + 1 * 0 = t.val / 65; omega
    | ⟨1, _⟩ => show win0_6.index t 1 * 4 + 1 * h.val = h.val; omega
    | ⟨2, _⟩ => show win0_6.index t 2 * 256 + 1 * e.val = e.val; omega
    | ⟨3, _⟩ => show win0_6.index t 3 * 128 + 1 * d.val = d.val; omega
  refine congrFun (state_ext (A := 1) (B := 4) (C := 256) (D := 128) (outsAt0 m c t.val t.isLt).2 (fun z => states (argK m c) (argV m c) (argL m c) ((win0_6.blk t).view.emb z)) fun z h e d => ?_) y
  rw [Subsingleton.elim z 0]
  refine (states_after m c hk hv hl t.val t.isLt h e d).trans (Eq.trans ?_ (congrArg (states _ _ _) (key h e d)).symm)
  have es : startAt ⟨t.val, t.isLt⟩ + 128 = 8208 + 112 := by
    show t.val % 65 * 128 + 128 = 8320
    omega
  rw [es]
  refine congrArg _ (stateN_past _ _ _ 8208 (fun n d hn => tokens_past _ _ _ _ _ hn) (fun n d hn => tokens_past _ _ _ _ _ hn) 112 e d)

end Cert.Gla.Prompt

end
-- ==== Proof.SampleBody.lean ====
module

public import proofs.«01_k».proof.Proof.Body
public import proofs.«01_k».proof.Proof.Gen.SampleIdeal.Value
public import Idealize.ShloMosaic.Lib.Pipeline.ReadBack

/-! What one run of the sample kernel's body leaves in its two result blocks, in the words of the body: four heads'
results side by side, and four heads' states. -/

@[expose] public section

set_option maxRecDepth 16384

noncomputable section

namespace Cert.Gla.Sample

open Idealize.ShloMosaic Idealize.ShloMosaic.TcCoe Idealize.ShloMosaic.Tactic
open Cert.SampleIdeal Cert.SampleIdeal.Gen

variable {F : FTy → Type} [FloatOps F]

/-- The block of results after one run of the body. -/
def outBlock (i : grid0.Coords) (x0 x1 x2 : Vec F S1x128x512 .f32) (x3 : Vec F S1x128x1024 .bf16)
    (S : Vec F S1x4x256x128 .f32) : Vec F S1x128x1024 .f32 :=
  View.canon [⟨wideRect 3, chunkOut (k0_pay6 i) x0 x1 x2 x3 S 3⟩, ⟨wideRect 2, chunkOut (k0_pay6 i) x0 x1 x2 x3 S 2⟩,
    ⟨wideRect 1, chunkOut (k0_pay6 i) x0 x1 x2 x3 S 1⟩, ⟨wideRect 0, chunkOut (k0_pay6 i) x0 x1 x2 x3 S 0⟩]

/-- The block of states after one run of the body, over the stores `L` made before. -/
def stateBlock (i : grid0.Coords) (x1 x2 : Vec F S1x128x512 .f32) (x3 : Vec F S1x128x1024 .bf16)
    (S : Vec F S1x4x256x128 .f32) (L : List (View.Piece (Elt F) S1x4x256x128 .f32)) : Vec F S1x4x256x128 .f32 :=
  View.canon (⟨headRect 3, chunkState (k0_pay6 i) x1 x2 x3 S 3⟩ :: ⟨headRect 2, chunkState (k0_pay6 i) x1 x2 x3 S 2⟩ ::
    ⟨headRect 1, chunkState (k0_pay6 i) x1 x2 x3 S 1⟩ :: ⟨headRect 0, chunkState (k0_pay6 i) x1 x2 x3 S 0⟩ :: L)

variable (c : Dev nD) (i : grid0.Coords)
  (a2 : Memref sig .tc .vmem S1x128x512 .f32) (h2 : a2.IsWhole) (a3 : Memref sig .tc .vmem S1x128x512 .f32) (h3 : a3.IsWhole)
  (a4 : Memref sig .tc .vmem S1x128x512 .f32) (h4 : a4.IsWhole) (a5 : Memref sig .tc .vmem S1x128x1024 .bf16) (h5 : a5.IsWhole)
  (a6 : Memref sig .tc .vmem S1x4x256x128 .f32) (h6 : a6.IsWhole) (a7 : Memref sig .tc .vmem S1x128x1024 .f32) (h7 : a7.IsWhole)
  (a8 : Memref sig .tc .vmem S1x4x256x128 .f32) (h8 : a8.IsWhole)
  (x0 x1 x2 : Vec F S1x128x512 .f32) (x3 : Vec F S1x128x1024 .bf16) (x4 : Vec F S1x4x256x128 .f32)

private theorem zero4 : (![0, 0, 0, 0] : Fin S1x4x256x128.rank → ℕ) = fun _ => 0 := by decide

private theorem at_zero4 : ∀ a, (![0, 0, 0, 0] : Fin S1x4x256x128.rank → ℕ) a = 0 := by decide

private theorem first_state (x : Vec F S1x4x256x128 .f32) : k0_pay3 x = x := shapeCast_self _ _

/-- The results a run leaves. -/
theorem out5_A (hc : cond0_0 i) :
    out0_A_5 c i a2 h2 a3 h3 a4 h4 a5 h5 a6 h6 a7 h7 a8 h8 hc x0 x1 x2 x3 x4 = outBlock i x0 x1 x2 x3 x4 := by
  unfold out0_A_5 outBlock
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  simp (disch := first | exact at_zero4 | decide) only [↓View.readCov_skip, View.readCov_fill, View.readAt_eq_ld,
    h2.read_unread, h3.read_unread, h4.read_unread, h5.read_unread, h6.read_unread,
    View.ld_unit_zero (S := S1x4x256x128) zero4, first_state]
  rfl

/-- The states a run leaves. -/
theorem out6_A (hc : cond0_0 i) :
    out0_A_6 c i a2 h2 a3 h3 a4 h4 a5 h5 a6 h6 a7 h7 a8 h8 hc x0 x1 x2 x3 x4 = stateBlock i x1 x2 x3 x4 [⟨Rect.unit ![0, 0, 0, 0] S1x4x256x128.size inb_S1x4x256x128_S1x4x256x128_0_0_0_0, x4⟩] := by
  unfold out0_A_6 stateBlock
  rw [View.read_writes_eq_canon _ _ _ (cover0_A_6 c i a2 h2 a3 h3 a4 h4 a5 h5 a6 h6 a7 h7 a8 h8 hc x0 x1 x2 x3 x4)]
  unfold kernelRun0_A
  dsimp only
  sl_unfold_words
  simp (disch := first | exact at_zero4 | decide) only [↓View.readCov_skip, View.readCov_fill, View.readAt_eq_ld,
    h2.read_unread, h3.read_unread, h4.read_unread, h5.read_unread, h6.read_unread,
    View.ld_unit_zero (S := S1x4x256x128) zero4, first_state]
  rfl

end Cert.Gla.Sample

end
-- ==== Proof.SampleBlocks.lean ====
module

public import proofs.«01_k».proof.Proof.SampleBody
public import proofs.«01_k».proof.Proof.Layout
public import Idealize.ShloMosaic.Lib.Claim

/-! What the sample call's blocks hold, read from the program's arguments. -/

@[expose] public section

set_option maxRecDepth 16384

noncomputable section

namespace Cert.Gla.Sample

open Idealize.ShloMosaic Idealize.ShloMosaic.TcCoe Idealize.ShloMosaic.ValueIdx
open Cert.SampleIdeal Cert.SampleIdeal.Gen

variable (m : (ℓ : Loc nD τ sig) → Buf (Elt Ideal) ℓ) (c : Dev nD)

/-- Batch row `t` of the grid. -/
def rowAt (t : Fin cfg0.N) : Fin 8 := ⟨t.val, lt_of_lt_of_eq t.isLt N_0⟩
/-- The token at row `i` of a block. -/
def tokAt (_ : Fin cfg0.N) (i : Fin 128) : Fin 128 := i

/-- The queries. -/
def argQ : FVec Ideal S8x16x4x128 .f32 := m ((c : Thread nD τ).loc main_arg0)
/-- The keys. -/
def argK : FVec Ideal S8x16x4x128 .f32 := m ((c : Thread nD τ).loc main_arg1)
/-- The values. -/
def argV : FVec Ideal S8x16x4x256 .f32 := m ((c : Thread nD τ).loc main_arg2)
/-- The log decays. -/
def argL : FVec Ideal S8x16x4x128 .f32 := m ((c : Thread nD τ).loc main_arg3)
/-- The states before. -/
def argS : FVec Ideal S8x4x128x256 .f32 := m ((c : Thread nD τ).loc main_arg4)

theorem entryQ : (V m c main_v1 : FVec Ideal S8x128x512 .f32) =
    pad S8x128x512 ![0, 0, 0] ![0, 112, 0] ![0, 0, 0] (shapeCast S8x16x512 (argQ m c) shapeCasts_S8x16x4x128_S8x16x512)
      (sitofp .f32 (constantI S_ 32 0#32)) pads_S8x16x512_S8x128x512_000_01120_000 h_S_ := by
  unfold argQ
  entry_read
  rfl

theorem indexQ : ∀ t : Fin grid0.N, win0_0.index t 0 = t.val ∧ win0_0.index t 1 = 0 ∧ win0_0.index t 2 = 0 := by
  decide +kernel

/-- The block of queries. -/
theorem blockQ (t : Fin cfg0.N) (i : Fin 128) (h : Fin 4) (d : Fin 128) :
    iblk m c 0 t (ix3 (n0 := 1) (n1 := 128) (n2 := 512) 0 i (lane h d))
      = if ht : (tokAt t i).val < 16 then argQ m c (ix4 (rowAt t) ⟨(tokAt t i).val, ht⟩ h d) else 0 := by
  have e : iblk m c 0 t (ix3 (n0 := 1) (n1 := 128) (n2 := 512) 0 i (lane h d))
      = V m c main_v1 (ix3 (rowAt t) (tokAt t i) (lane h d)) := by
    show V m c main_v1 _ = _
    refine congrArg (V m c main_v1) ?_
    obtain ⟨e0, e1, e2⟩ := indexQ t
    funext a
    apply Fin.ext
    match a with
    | ⟨0, _⟩ => show win0_0.index t 0 * 1 + 1 * 0 = t.val; omega
    | ⟨1, _⟩ => show win0_0.index t 1 * 128 + 1 * i.val = i.val; omega
    | ⟨2, _⟩ => show win0_0.index t 2 * 512 + 1 * (lane h d).val = (lane h d).val; omega
  rw [e, entryQ]
  exact padded_lanes (p := 112) _ _ _ rfl pads_S8x16x512_S8x128x512_000_01120_000 _ _ _ _ _

theorem entryK : (V m c main_v3 : FVec Ideal S8x128x512 .f32) =
    pad S8x128x512 ![0, 0, 0] ![0, 112, 0] ![0, 0, 0] (shapeCast S8x16x512 (argK m c) shapeCasts_S8x16x4x128_S8x16x512)
      (sitofp .f32 (constantI S_ 32 0#32)) pads_S8x16x512_S8x128x512_000_01120_000 h_S_ := by
  unfold argK
  entry_read
  rfl

theorem indexK : ∀ t : Fin grid0.N, win0_1.index t 0 = t.val ∧ win0_1.index t 1 = 0 ∧ win0_1.index t 2 = 0 := by
  decide +kernel

/-- The block of keys. -/
theorem blockK (t : Fin cfg0.N) (i : Fin 128) (h : Fin 4) (d : Fin 128) :
    iblk m c 1 t (ix3 (n0 := 1) (n1 := 128) (n2 := 512) 0 i (lane h d))
      = if ht : (tokAt t i).val < 16 then argK m c (ix4 (rowAt t) ⟨(tokAt t i).val, ht⟩ h d) else 0 := by
  have e : iblk m c 1 t (ix3 (n0 := 1) (n1 := 128) (n2 := 512) 0 i (lane h d))
      = V m c main_v3 (ix3 (rowAt t) (tokAt t i) (lane h d)) := by
    show V m c main_v3 _ = _
    refine congrArg (V m c main_v3) ?_
    obtain ⟨e0, e1, e2⟩ := indexK t
    funext a
    apply Fin.ext
    match a with
    | ⟨0, _⟩ => show win0_1.index t 0 * 1 + 1 * 0 = t.val; omega
    | ⟨1, _⟩ => show win0_1.index t 1 * 128 + 1 * i.val = i.val; omega
    | ⟨2, _⟩ => show win0_1.index t 2 * 512 + 1 * (lane h d).val = (lane h d).val; omega
  rw [e, entryK]
  exact padded_lanes (p := 112) _ _ _ rfl pads_S8x16x512_S8x128x512_000_01120_000 _ _ _ _ _

theorem entryL : (V m c main_v5 : FVec Ideal S8x128x512 .f32) =
    pad S8x128x512 ![0, 0, 0] ![0, 112, 0] ![0, 0, 0] (shapeCast S8x16x512 (argL m c) shapeCasts_S8x16x4x128_S8x16x512)
      (sitofp .f32 (constantI S_ 32 0#32)) pads_S8x16x512_S8x128x512_000_01120_000 h_S_ := by
  unfold argL
  entry_read
  rfl

theorem indexL : ∀ t : Fin grid0.N, win0_2.index t 0 = t.val ∧ win0_2.index t 1 = 0 ∧ win0_2.index t 2 = 0 := by
  decide +kernel

/-- The block of log decays. -/
theorem blockL (t : Fin cfg0.N) (i : Fin 128) (h : Fin 4) (d : Fin 128) :
    iblk m c 2 t (ix3 (n0 := 1) (n1 := 128) (n2 := 512) 0 i (lane h d))
      = if ht : (tokAt t i).val < 16 then argL m c (ix4 (rowAt t) ⟨(tokAt t i).val, ht⟩ h d) else 0 := by
  have e : iblk m c 2 t (ix3 (n0 := 1) (n1 := 128) (n2 := 512) 0 i (lane h d))
      = V m c main_v5 (ix3 (rowAt t) (tokAt t i) (lane h d)) := by
    show V m c main_v5 _ = _
    refine congrArg (V m c main_v5) ?_
    obtain ⟨e0, e1, e2⟩ := indexL t
    funext a
    apply Fin.ext
    match a with
    | ⟨0, _⟩ => show win0_2.index t 0 * 1 + 1 * 0 = t.val; omega
    | ⟨1, _⟩ => show win0_2.index t 1 * 128 + 1 * i.val = i.val; omega
    | ⟨2, _⟩ => show win0_2.index t 2 * 512 + 1 * (lane h d).val = (lane h d).val; omega
  rw [e, entryL]
  exact padded_lanes (p := 112) _ _ _ rfl pads_S8x16x512_S8x128x512_000_01120_000 _ _ _ _ _

theorem entryV : (V m c main_v8 : FVec Ideal S8x128x1024 .bf16) =
    truncf .bf16 (pad S8x128x1024 ![0, 0, 0] ![0, 112, 0] ![0, 0, 0] (shapeCast S8x16x1024 (argV m c) shapeCasts_S8x16x4x256_S8x16x1024)
      (sitofp .f32 (constantI S_ 32 0#32)) pads_S8x16x1024_S8x128x1024_000_01120_000 h_S_) bitsLt_bf16_f32 := by
  unfold argV
  entry_read
  rfl

theorem indexV : ∀ t : Fin grid0.N, win0_3.index t 0 = t.val ∧ win0_3.index t 1 = 0 ∧ win0_3.index t 2 = 0 := by
  decide +kernel

/-- The block of values. -/
theorem blockV (t : Fin cfg0.N) (i : Fin 128) (h : Fin 4) (d : Fin 256) :
    iblk m c 3 t (ix3 (n0 := 1) (n1 := 128) (n2 := 1024) 0 i (wide h d))
      = if ht : (tokAt t i).val < 16 then argV m c (ix4 (rowAt t) ⟨(tokAt t i).val, ht⟩ h d) else 0 := by
  have e : iblk m c 3 t (ix3 (n0 := 1) (n1 := 128) (n2 := 1024) 0 i (wide h d))
      = V m c main_v8 (ix3 (rowAt t) (tokAt t i) (wide h d)) := by
    show V m c main_v8 _ = _
    refine congrArg (V m c main_v8) ?_
    obtain ⟨e0, e1, e2⟩ := indexV t
    funext a
    apply Fin.ext
    match a with
    | ⟨0, _⟩ => show win0_3.index t 0 * 1 + 1 * 0 = t.val; omega
    | ⟨1, _⟩ => show win0_3.index t 1 * 128 + 1 * i.val = i.val; omega
    | ⟨2, _⟩ => show win0_3.index t 2 * 1024 + 1 * (wide h d).val = (wide h d).val; omega
  rw [e, entryV]
  exact padded_wide (p := 112) _ _ _ rfl pads_S8x16x1024_S8x128x1024_000_01120_000 _ _ _ _ _

theorem indexS : ∀ t : Fin grid0.N, win0_4.index t 0 = t.val ∧ win0_4.index t 1 = 0 ∧ win0_4.index t 2 = 0 ∧ win0_4.index t 3 = 0 := by
  decide +kernel

theorem entryS : (V m c main_v9 : FVec Ideal S8x4x256x128 .f32) =
    transpose S8x4x256x128 [0, 1, 3, 2] (argS m c) transposes_S8x4x128x256_S8x4x256x128_0_1_3_2 := by
  unfold argS
  entry_read
  rfl

/-- The block of states before. -/
theorem blockS (t : Fin cfg0.N) (h : Fin 4) (e : Fin 256) (d : Fin 128) :
    iblk m c 4 t (ix4 (n0 := 1) (n1 := 4) (n2 := 256) (n3 := 128) 0 h e d) = (argS m c (ix4 (rowAt t) h d e) : EReal) := by
  have e : iblk m c 4 t (ix4 (n0 := 1) (n1 := 4) (n2 := 256) (n3 := 128) 0 h e d) = V m c main_v9 (ix4 (rowAt t) h e d) := by
    show V m c main_v9 _ = _
    refine congrArg (V m c main_v9) ?_
    obtain ⟨e0, e1, e2, e3⟩ := indexS t
    funext a
    apply Fin.ext
    match a with
    | ⟨0, _⟩ => show win0_4.index t 0 * 1 + 1 * 0 = t.val; omega
    | ⟨1, _⟩ => show win0_4.index t 1 * 4 + 1 * h.val = h.val; omega
    | ⟨2, _⟩ => show win0_4.index t 2 * 256 + 1 * e.val = e.val; omega
    | ⟨3, _⟩ => show win0_4.index t 3 * 128 + 1 * d.val = d.val; omega
  rw [e, entryS]
  refine congrArg (argS m c) (funext fun a => Fin.ext ?_)
  match a with
  | ⟨0, _⟩ => rfl
  | ⟨1, _⟩ => rfl
  | ⟨2, _⟩ => rfl
  | ⟨3, _⟩ => rfl

theorem valid_word : ∀ (b : Fin 1) (i : Fin 128),
    IntOp.cmpi .slt (BitVec.ofNat 32 b.val * 128#32 + BitVec.ofNat 32 i.val) 16#32 = if b.val * 128 + i.val < 16 then 1#1 else 0#1 := by
  decide +kernel

theorem chunk_at : ∀ t : Fin grid0.N, (grid0.coords t 1).val = 0 := by decide +kernel

/-- Which rows of a block are tokens. -/
theorem valid_apply (t : Fin cfg0.N) (i j : Fin 128) :
    k0_pay6 (grid0.coords t) (ix2 i j) = if (tokAt t i).val < 16 then 1#1 else 0#1 := by
  have e : k0_pay6 (grid0.coords t) (ix2 i j)
      = IntOp.cmpi .slt (BitVec.ofNat 32 (grid0.coords t 1).val * 128#32 + iota .tc S128x128 32 [0] iota_S128x128_d0_w32 (ix2 i j)) 16#32 := rfl
  rw [e, iota_row, chunk_at t]
  exact (valid_word 0 i).trans (by show (if 0 * 128 + i.val < 16 then 1#1 else 0#1) = if i.val < 16 then 1#1 else 0#1; rw [Nat.zero_mul, Nat.zero_add])

end Cert.Gla.Sample

end
-- ==== Proof.SamplePre.lean ====
module

public import proofs.«01_k».proof.Proof.SampleBlocks
public import proofs.«01_k».proof.Proof.Gen.Pre_gates
public import proofs.«01_k».proof.Defs

/-! What the sample's precondition says: every log decay is a real and none is above zero. -/

@[expose] public section

set_option maxRecDepth 16384

noncomputable section

namespace Cert.Gla

open Idealize.ShloMosaic Idealize.ShloMosaic.ValueIdx

theorem and_one {a b : BitVec 1} (h : a &&& b = 1#1) : a = 1#1 ∧ b = 1#1 := by
  revert a b
  decide

theorem word_true {p : Prop} [Decidable p] (h : BitVec.ofBool (decide p) = 1#1) : p := by
  by_contra hn
  rw [decide_eq_false hn] at h
  exact absurd h (by decide)

theorem inf_word : Ideal.ofBits .f32 0x7F800000#32 = (⊤ : EReal) := by simp [Ideal.ofBits, Ideal.ieee]
theorem neg_inf_word : Ideal.ofBits .f32 0xFF800000#32 = (⊥ : EReal) := by simp [Ideal.ofBits, Ideal.ieee]
theorem zero_f32 : Ideal.ofBits .f32 0x00000000#32 = (0 : EReal) := by simp [Ideal.ofBits, Ideal.ieee]

/-- A log decay above minus infinity and not above zero is a real not above zero. -/
theorem real_of_gate {x : EReal} (h1 : ⊥ < x) (h2 : x ≤ 0) : x = ((x.toReal : ℝ) : EReal) ∧ x.toReal ≤ 0 := by
  have e := EReal.coe_toReal (x := x) (fun h => by rw [h] at h2; exact absurd h2 (by decide)) h1.ne'
  refine ⟨e.symm, ?_⟩
  rw [← e] at h2
  exact_mod_cast h2

theorem gates_apply (x0 x1 : FVec Ideal Cert.Pre_gates.S8x16x4x128 .f32) (x2 : FVec Ideal Cert.Pre_gates.S8x16x4x256 .f32)
    (x3 : FVec Ideal Cert.Pre_gates.S8x16x4x128 .f32) (x4 : FVec Ideal Cert.Pre_gates.S8x4x128x256 .f32)
    (h : Cert.Pre_gates.fn (F := Ideal) x0 x1 x2 x3 x4 = fun _ => 1#1) (i : Cert.Pre_gates.S8x16x4x128.Idx) :
    x3 i = (((x3 i).toReal : ℝ) : EReal) ∧ (x3 i).toReal ≤ 0 := by
  have e := congrFun h i
  obtain ⟨e1, e2⟩ := and_one e
  have h1 : Ideal.ofBits .f32 0xFF800000#32 < x3 i := word_true e1
  have h2 : x3 i ≤ Ideal.ofBits .f32 0x00000000#32 := word_true e2
  rw [neg_inf_word] at h1
  rw [zero_f32] at h2
  exact real_of_gate h1 h2

end Cert.Gla

end
-- ==== Proof.RefLayout.lean ====
module

public import proofs.«01_k».proof.Proof.Layout
public import Idealize.ShloMosaic.Lib.Pointwise.ShapeOpsCore

/-! How the reference lays out its chunks: zero tokens in front or behind, 64 tokens a chunk, chunks first. -/

@[expose] public section

set_option maxRecDepth 16384

noncomputable section

namespace Cert.Gla

open Idealize.ShloMosaic hiding ix1 ix2 ix3 ix4 ix5
open Idealize.ShloMosaic.ValueIdx

section

variable {α : Type} {N W : ℕ}

theorem start_chunk {start : Fin 5 → Int} {j : ℕ} {s t : Shape} (hs : s = ⟨5, ![N, 8, 64, 4, W]⟩) (ht' : t = ⟨5, ![1, 8, 64, 4, W]⟩)
    (hr : s.rank = 5) (ht : t.rank = s.rank) (hj : j < N) (h0 : start 0 = j) (h : ∀ a, a ≠ 0 → start a = 0) (a : Fin s.rank) :
    Host.clampedStart s t ht (fun a => start (a.cast hr)) a = if (a.cast hr) = 0 then j else 0 := by
  subst hs ht'
  split
  · next e =>
    refine Host.clampedStart_of_le _ _ _ _ ((congrArg start e).trans h0) ?_
    have ea : a = 0 := e
    subst ea
    show j + 1 ≤ N
    omega
  · next e =>
    refine Host.clampedStart_of_le _ _ _ _ (h _ e) ?_
    have ea : a ≠ 0 := e
    match a, ea with
    | ⟨1, _⟩, _ => show 0 + 8 ≤ 8; omega
    | ⟨2, _⟩, _ => show 0 + 64 ≤ 64; omega
    | ⟨3, _⟩, _ => show 0 + 4 ≤ 4; omega
    | ⟨4, _⟩, _ => show 0 + W ≤ W; omega

/-- Chunk `j` cut out of the stack. -/
theorem slice_chunk (x : (⟨5, ![N, 8, 64, 4, W]⟩ : Shape).Idx → α) (start : Fin 5 → Int)
    (hs : (⟨5, ![N, 8, 64, 4, W]⟩ : Shape).Slices (fun _ => 0) ⟨5, ![1, 8, 64, 4, W]⟩) (j : Fin N)
    (h0 : start 0 = j.val) (h : ∀ a, a ≠ 0 → start a = 0) (b : Fin 8) (t : Fin 64) (hd : Fin 4) (d : Fin W) :
    Host.dynamicSlice ⟨5, ![1, 8, 64, 4, W]⟩ x start hs (ix5 0 b t hd d) = x (ix5 j b t hd d) := by
  have hst := start_chunk (N := N) (W := W) rfl rfl rfl hs.1 j.isLt h0 h
  rw [Host.dynamicSlice_apply]
  refine congrArg x (funext fun a => Fin.ext ?_)
  show Host.clampedStart _ _ _ start a + _ = _
  refine (congrArg (fun n => n + _) (hst a)).trans ?_
  match a with
  | ⟨0, _⟩ => show j.val + 0 = j.val; omega
  | ⟨1, _⟩ => show 0 + b.val = b.val; omega
  | ⟨2, _⟩ => show 0 + t.val = t.val; omega
  | ⟨3, _⟩ => show 0 + hd.val = hd.val; omega
  | ⟨4, _⟩ => show 0 + d.val = d.val; omega

/-- Chunk `j` of the stack replaced. -/
theorem update_chunk (x : (⟨5, ![N, 8, 64, 4, W]⟩ : Shape).Idx → α) (y : (⟨5, ![1, 8, 64, 4, W]⟩ : Shape).Idx → α) (start : Fin 5 → Int)
    (hs : (⟨5, ![N, 8, 64, 4, W]⟩ : Shape).Slices (fun _ => 0) ⟨5, ![1, 8, 64, 4, W]⟩) (j : Fin N)
    (h0 : start 0 = j.val) (h : ∀ a, a ≠ 0 → start a = 0) (n : Fin N) (b : Fin 8) (t : Fin 64) (hd : Fin 4) (d : Fin W) :
    Host.dynamicUpdateSlice x y start hs (ix5 n b t hd d) = if n = j then y (ix5 0 b t hd d) else x (ix5 n b t hd d) := by
  have hst := start_chunk (N := N) (W := W) rfl rfl rfl hs.1 j.isLt h0 h
  have c0 : Host.clampedStart _ _ hs.1 start 0 = j.val := hst 0
  have c1 : Host.clampedStart _ _ hs.1 start 1 = 0 := hst 1
  have c2 : Host.clampedStart _ _ hs.1 start 2 = 0 := hst 2
  have c3 : Host.clampedStart _ _ hs.1 start 3 = 0 := hst 3
  have c4 : Host.clampedStart _ _ hs.1 start 4 = 0 := hst 4
  rw [Host.dynamicUpdateSlice_apply]
  by_cases e : n = j
  · rw [if_pos e]
    subst e
    refine (dif_pos fun a => ?_).trans ?_
    · match a with
      | ⟨0, _⟩ => show Host.clampedStart _ _ hs.1 start 0 ≤ n.val ∧ n.val < Host.clampedStart _ _ hs.1 start 0 + 1; rw [c0]; omega
      | ⟨1, _⟩ => show Host.clampedStart _ _ hs.1 start 1 ≤ b.val ∧ b.val < Host.clampedStart _ _ hs.1 start 1 + 8; rw [c1]; omega
      | ⟨2, _⟩ => show Host.clampedStart _ _ hs.1 start 2 ≤ t.val ∧ t.val < Host.clampedStart _ _ hs.1 start 2 + 64; rw [c2]; omega
      | ⟨3, _⟩ => show Host.clampedStart _ _ hs.1 start 3 ≤ hd.val ∧ hd.val < Host.clampedStart _ _ hs.1 start 3 + 4; rw [c3]; omega
      | ⟨4, _⟩ => show Host.clampedStart _ _ hs.1 start 4 ≤ d.val ∧ d.val < Host.clampedStart _ _ hs.1 start 4 + W; rw [c4]; omega
    · refine congrArg y (funext fun a => Fin.ext ?_)
      match a with
      | ⟨0, _⟩ => show n.val - Host.clampedStart _ _ hs.1 start 0 = 0; rw [c0]; omega
      | ⟨1, _⟩ => show b.val - Host.clampedStart _ _ hs.1 start 1 = b.val; rw [c1]; omega
      | ⟨2, _⟩ => show t.val - Host.clampedStart _ _ hs.1 start 2 = t.val; rw [c2]; omega
      | ⟨3, _⟩ => show hd.val - Host.clampedStart _ _ hs.1 start 3 = hd.val; rw [c3]; omega
      | ⟨4, _⟩ => show d.val - Host.clampedStart _ _ hs.1 start 4 = d.val; rw [c4]; omega
  · rw [if_neg e]
    refine dif_neg fun hin => e (Fin.ext ?_)
    have h1 : Host.clampedStart _ _ hs.1 start 0 ≤ n.val ∧ n.val < Host.clampedStart _ _ hs.1 start 0 + 1 := hin 0
    rw [c0] at h1
    omega

end

/-- The stack of chunks of a padded array: token `64 j + t` is `lo` behind. -/
theorem chunked {N n M lo hi W : ℕ} (x : FVec Ideal ⟨4, ![8, n, 4, W]⟩ .f32) (w : BitVec 32) (hw : w = 0#32)
    (hp : (⟨4, ![8, n, 4, W]⟩ : Shape).Pads ![0, lo, 0, 0] ![0, hi, 0, 0] ![0, 0, 0, 0] ⟨4, ![8, M, 4, W]⟩) (hu : 0 < (⟨0, ![]⟩ : Shape).numel)
    (hM : M = N * 64) (hc : (⟨4, ![8, M, 4, W]⟩ : Shape).ShapeCasts ⟨5, ![8, N, 64, 4, W]⟩)
    (ht : (⟨5, ![8, N, 64, 4, W]⟩ : Shape).Transposes [1, 0, 2, 3, 4] ⟨5, ![N, 8, 64, 4, W]⟩)
    (j : Fin N) (b : Fin 8) (t : Fin 64) (h : Fin 4) (d : Fin W) :
    transpose ⟨5, ![N, 8, 64, 4, W]⟩ [1, 0, 2, 3, 4] (shapeCast ⟨5, ![8, N, 64, 4, W]⟩
        (pad ⟨4, ![8, M, 4, W]⟩ ![0, lo, 0, 0] ![0, hi, 0, 0] ![0, 0, 0, 0] x (sitofp (F := Ideal) .f32 (constantI (⟨0, ![]⟩ : Shape) 32 w)) hp hu) hc) ht
        (ix5 j b t h d)
      = if hin : lo ≤ j.val * 64 + t.val ∧ j.val * 64 + t.val - lo < n then x (ix4 b ⟨j.val * 64 + t.val - lo, hin.2⟩ h d) else 0 := by
  have hlt : j.val * 64 + t.val < M := by have := j.isLt; have := t.isLt; omega
  have e1 : ∀ y : FVec Ideal ⟨5, ![8, N, 64, 4, W]⟩ .f32, transpose ⟨5, ![N, 8, 64, 4, W]⟩ [1, 0, 2, 3, 4] y ht (ix5 j b t h d) = y (ix5 b j t h d) :=
    fun y => congrArg y (funext fun a => Fin.ext (by
      match a with
      | ⟨0, _⟩ => rfl
      | ⟨1, _⟩ => rfl
      | ⟨2, _⟩ => rfl
      | ⟨3, _⟩ => rfl
      | ⟨4, _⟩ => rfl))
  rw [e1]
  refine (shapeCast_apply _ hc (ix5 b j t h d) (ix4 (n0 := 8) (n1 := M) (n2 := 4) (n3 := W) b ⟨j.val * 64 + t.val, hlt⟩ h d) ?_).trans ?_
  · rw [Shape.rowMajor_val_four, Shape.rowMajor_val_five]
    show ((b.val * M + (j.val * 64 + t.val)) * 4 + h.val) * W + d.val = (((b.val * N + j.val) * 64 + t.val) * 4 + h.val) * W + d.val
    rw [hM]
    ring
  · by_cases hin : lo ≤ j.val * 64 + t.val ∧ j.val * 64 + t.val - lo < n
    · rw [dif_pos hin]
      refine pad_apply_of_inside _ _ _ _ _ _ _ _ _ fun a => ?_
      match a with
      | ⟨0, _⟩ => show b.val = 0 + b.val * (0 + 1); omega
      | ⟨1, _⟩ => show j.val * 64 + t.val = lo + (j.val * 64 + t.val - lo) * (0 + 1); omega
      | ⟨2, _⟩ => show h.val = 0 + h.val * (0 + 1); omega
      | ⟨3, _⟩ => show d.val = 0 + d.val * (0 + 1); omega
    · rw [dif_neg hin, pad_apply_of_not_inside _ _ _ _ _ _ _ _ ⟨1, by show 1 < 4; decide⟩ (fun hn => hin (by
        have h1 : lo ≤ j.val * 64 + t.val := hn.1
        have h3 : (j.val * 64 + t.val - lo) / (0 + 1) < n := hn.2.2
        simp only [Nat.zero_add, Nat.div_one] at h3
        exact ⟨h1, h3⟩)), hw]
      show (((0#32 : BitVec 32).toInt : ℝ) : EReal) = 0
      norm_num [BitVec.toInt]

/-- The results laid out as the kernel lays them out: token `t` is token `lo + t` of the stack. -/
theorem unchunked {N n M lo p R : ℕ} (x : FVec Ideal ⟨5, ![N, 8, 64, 4, 256]⟩ .f32) (w : BitVec 32) (hw : w = 0#32) (hM : M = N * 64) (hlo : lo + n ≤ M)
    (ht : (⟨5, ![N, 8, 64, 4, 256]⟩ : Shape).Transposes [1, 0, 2, 3, 4] ⟨5, ![8, N, 64, 4, 256]⟩)
    (hc : (⟨5, ![8, N, 64, 4, 256]⟩ : Shape).ShapeCasts ⟨4, ![8, M, 4, 256]⟩)
    (hs : (⟨4, ![8, M, 4, 256]⟩ : Shape).Slices ![0, lo, 0, 0] ⟨4, ![8, n, 4, 256]⟩)
    (hf : (⟨4, ![8, n, 4, 256]⟩ : Shape).ShapeCasts ⟨3, ![8, n, 1024]⟩)
    (hp : (⟨3, ![8, n, 1024]⟩ : Shape).Pads ![0, 0, 0] ![0, p, 0] ![0, 0, 0] ⟨3, ![8, R, 1024]⟩) (hu : 0 < (⟨0, ![]⟩ : Shape).numel)
    (b : Fin 8) (t : Fin R) (h : Fin 4) (e : Fin 256) :
    pad ⟨3, ![8, R, 1024]⟩ ![0, 0, 0] ![0, p, 0] ![0, 0, 0] (shapeCast ⟨3, ![8, n, 1024]⟩ (extractStridedSlice ⟨4, ![8, n, 4, 256]⟩ ![0, lo, 0, 0]
        (shapeCast ⟨4, ![8, M, 4, 256]⟩ (transpose ⟨5, ![8, N, 64, 4, 256]⟩ [1, 0, 2, 3, 4] x ht) hc) hs) hf)
        (sitofp (F := Ideal) .f32 (constantI (⟨0, ![]⟩ : Shape) 32 w)) hp hu (ix3 b t (wide h e))
      = if htn : t.val < n then x (ix5 (⟨(lo + t.val) / 64, by omega⟩ : Fin N) b (⟨(lo + t.val) % 64, by omega⟩ : Fin 64) h e) else 0 := by
  rw [padded_wide (p := p) _ hf w hw hp hu]
  by_cases htn : t.val < n
  · rw [dif_pos htn, dif_pos htn]
    refine (extractStridedSlice_apply _ _ hs _ (ix4 (n0 := 8) (n1 := M) (n2 := 4) (n3 := 256) b ⟨lo + t.val, by omega⟩ h e) fun a => ?_).trans ?_
    · match a with
      | ⟨0, _⟩ => show b.val = 0 + b.val; omega
      | ⟨1, _⟩ => rfl
      | ⟨2, _⟩ => show h.val = 0 + h.val; omega
      | ⟨3, _⟩ => show e.val = 0 + e.val; omega
    refine (shapeCast_apply _ hc _ (ix5 (n0 := 8) (n1 := N) (n2 := 64) (n3 := 4) (n4 := 256) b ⟨(lo + t.val) / 64, by omega⟩ ⟨(lo + t.val) % 64, by omega⟩ h e) ?_).trans ?_
    · rw [Shape.rowMajor_val_four, Shape.rowMajor_val_five]
      show (((b.val * N + (lo + t.val) / 64) * 64 + (lo + t.val) % 64) * 4 + h.val) * 256 + e.val = ((b.val * M + (lo + t.val)) * 4 + h.val) * 256 + e.val
      have hd := Nat.div_add_mod (lo + t.val) 64
      have hb : b.val * M = b.val * N * 64 := by rw [hM]; ring
      omega
    · refine congrArg x (funext fun a => Fin.ext (by
        match a with
        | ⟨0, _⟩ => rfl
        | ⟨1, _⟩ => rfl
        | ⟨2, _⟩ => rfl
        | ⟨3, _⟩ => rfl
        | ⟨4, _⟩ => rfl))
  · rw [dif_neg htn, dif_neg htn]

end Cert.Gla

end
-- ==== Proof.PromptPre.lean ====
module

public import proofs.«01_k».proof.Proof.SamplePre
public import proofs.«01_k».proof.Proof.PromptTokens
public import proofs.«01_k».proof.Proof.RefLayout
public import proofs.«01_k».proof.Proof.Gen.Pre_finite_gates

/-! What the prompt's precondition says: every activation is a real and no log decay is above zero. -/

@[expose] public section

set_option maxRecDepth 16384

noncomputable section

namespace Cert.Gla

open Idealize.ShloMosaic hiding ix1 ix2 ix3 ix4 ix5
open Idealize.ShloMosaic.ValueIdx

/-- A number of finite size is a real. -/
theorem real_of_abs {x : EReal} (h : BitVec.ofBool (decide (max x (-x) < Ideal.ofBits .f32 0x7F800000#32)) = 1#1) : x = ((x.toReal : ℝ) : EReal) := by
  have h1 := word_true h
  rw [inf_word] at h1
  refine (EReal.coe_toReal (fun e => ?_) (fun e => ?_)).symm
  · rw [e] at h1; exact absurd h1 (by simp)
  · rw [e] at h1; exact absurd h1 (by simp)

variable (xq xk : FVec Ideal Cert.Pre_finite_gates.S8x8208x4x128 .f32) (xv : FVec Ideal Cert.Pre_finite_gates.S8x8208x4x256 .f32)
  (xl : FVec Ideal Cert.Pre_finite_gates.S8x8208x4x128 .f32) (h : Cert.Pre_finite_gates.fn (F := Ideal) xq xk xv xl = fun _ => 1#1)

include h in
/-- The precondition at an entry. -/
theorem finite_at (i : Cert.Pre_finite_gates.S8x8208x4x128.Idx) :
    xq i = (((xq i).toReal : ℝ) : EReal) ∧ xk i = (((xk i).toReal : ℝ) : EReal)
      ∧ (xv (ix4 (n0 := 8) (n1 := 8208) (n2 := 4) (n3 := 256) (i 0) (i 1) (i 2) ⟨(i 3).val, by have : (i 3).val < 128 := (i 3).isLt; omega⟩)
          = (((xv (ix4 (n0 := 8) (n1 := 8208) (n2 := 4) (n3 := 256) (i 0) (i 1) (i 2) ⟨(i 3).val, by have : (i 3).val < 128 := (i 3).isLt; omega⟩)).toReal : ℝ) : EReal))
      ∧ (xv (ix4 (n0 := 8) (n1 := 8208) (n2 := 4) (n3 := 256) (i 0) (i 1) (i 2) ⟨128 + (i 3).val, by have : (i 3).val < 128 := (i 3).isLt; omega⟩)
          = (((xv (ix4 (n0 := 8) (n1 := 8208) (n2 := 4) (n3 := 256) (i 0) (i 1) (i 2) ⟨128 + (i 3).val, by have : (i 3).val < 128 := (i 3).isLt; omega⟩)).toReal : ℝ) : EReal))
      ∧ xl i = (((xl i).toReal : ℝ) : EReal) ∧ (xl i).toReal ≤ 0 := by
  obtain ⟨e1, e2⟩ := and_one (congrFun h i)
  obtain ⟨e3, el⟩ := and_one e1
  obtain ⟨e4, e5⟩ := and_one e3
  obtain ⟨eq, ek⟩ := and_one e4
  obtain ⟨ev, ew⟩ := and_one e5
  have hl := real_of_abs (x := xl i) el
  have h2 : xl i ≤ Ideal.ofBits .f32 0x00000000#32 := word_true e2
  rw [zero_f32, hl] at h2
  have a1 : ∀ hs : Cert.Pre_finite_gates.S8x8208x4x256.Slices ![0, 0, 0, 0] Cert.Pre_finite_gates.S8x8208x4x128,
      extractStridedSlice Cert.Pre_finite_gates.S8x8208x4x128 ![0, 0, 0, 0] xv hs i
      = xv (ix4 (n0 := 8) (n1 := 8208) (n2 := 4) (n3 := 256) (i 0) (i 1) (i 2) ⟨(i 3).val, by have : (i 3).val < 128 := (i 3).isLt; omega⟩) := fun hs =>
    extractStridedSlice_apply _ _ hs _ _ fun a => by
      match a with
      | ⟨0, _⟩ => show (i 0).val = 0 + (i 0).val; omega
      | ⟨1, _⟩ => show (i 1).val = 0 + (i 1).val; omega
      | ⟨2, _⟩ => show (i 2).val = 0 + (i 2).val; omega
      | ⟨3, _⟩ => show (i 3).val = 0 + (i 3).val; omega
  have a2 : ∀ hs : Cert.Pre_finite_gates.S8x8208x4x256.Slices ![0, 0, 0, 128] Cert.Pre_finite_gates.S8x8208x4x128,
      extractStridedSlice Cert.Pre_finite_gates.S8x8208x4x128 ![0, 0, 0, 128] xv hs i
      = xv (ix4 (n0 := 8) (n1 := 8208) (n2 := 4) (n3 := 256) (i 0) (i 1) (i 2) ⟨128 + (i 3).val, by have : (i 3).val < 128 := (i 3).isLt; omega⟩) := fun hs =>
    extractStridedSlice_apply _ _ hs _ _ fun a => by
      match a with
      | ⟨0, _⟩ => show (i 0).val = 0 + (i 0).val; omega
      | ⟨1, _⟩ => show (i 1).val = 0 + (i 1).val; omega
      | ⟨2, _⟩ => show (i 2).val = 0 + (i 2).val; omega
      | ⟨3, _⟩ => show 128 + (i 3).val = 128 + (i 3).val; rfl
  have v1 := real_of_abs ev
  have v2 := real_of_abs ew
  beta_reduce at v1 v2
  rw [a1] at v1
  rw [a2] at v2
  exact ⟨real_of_abs eq, real_of_abs ek, v1, v2, hl, by exact_mod_cast h2⟩

include h in
theorem finite_q : Reals xq := fun i => (finite_at xq xk xv xl h i).1

include h in
theorem finite_k : Reals xk := fun i => (finite_at xq xk xv xl h i).2.1

include h in
theorem finite_l : Reals xl := fun i => (finite_at xq xk xv xl h i).2.2.2.2.1

include h in
theorem gates_l (i : Cert.Pre_finite_gates.S8x8208x4x128.Idx) : (xl i).toReal ≤ 0 := (finite_at xq xk xv xl h i).2.2.2.2.2

include h in
theorem finite_v : Reals xv := fun i => by
  rw [ValueIdx.eq_ix4 i]
  have h3 : (i 3).val < 256 := (i 3).isLt
  by_cases h1 : (i 3).val < 128
  · exact (finite_at xq xk xv xl h (ix4 (n0 := 8) (n1 := 8208) (n2 := 4) (n3 := 128) (i 0) (i 1) (i 2) ⟨(i 3).val, h1⟩)).2.2.1
  · have e := (finite_at xq xk xv xl h (ix4 (n0 := 8) (n1 := 8208) (n2 := 4) (n3 := 128) (i 0) (i 1) (i 2) ⟨(i 3).val - 128, by omega⟩)).2.2.2.1
    have e3 : (i 3 : Fin 256) = ⟨128 + ((i 3).val - 128), by omega⟩ := Fin.ext (by show (i 3).val = 128 + ((i 3).val - 128); omega)
    rw [e3]
    exact e

end Cert.Gla

end
-- ==== Proof.RefChunk.lean ====
module

public import proofs.«01_k».proof.Proof.Formula
public import proofs.«01_k».proof.Proof.Gen.ReferenceIdeal.Step
public import Idealize.ShloMosaic.Lib.ValueIdx
public import Idealize.ShloMosaic.Lib.MatmulPlain
public import Idealize.ShloMosaic.Lib.Pipeline.Value
public import Idealize.ShloMosaic.Lib.Pointwise.ShapeOpsCore

/-! One chunk of the reference over the extended reals: running sums, results and the next state as formulas. -/

@[expose] public section

set_option maxRecDepth 16384

noncomputable section

namespace Cert.Gla.Ref

open Idealize.ShloMosaic hiding ix1 ix2 ix3 ix4 ix5
open Idealize.ShloMosaic.ValueIdx
open Cert.ReferenceIdeal Cert.ReferenceIdeal.Gen
open scoped BigOperators

/-- A zero. -/
def zero0 : FVec Ideal S_ .f32 := constant S_ .f32 0x00000000#32

/-- Running sums inside the chunk. -/
def cum (g : FVec Ideal S8x64x4x128 .f32) : FVec Ideal S8x64x4x128 .f32 :=
  Host.reduceWindowAdd ![1, 64, 1, 1] ![1, 1, 1, 1] ![0, 63, 0, 0] ![0, 0, 0, 0] g (broadcastInDim S_ ![] bcast_S_S_ zero0)
    reduceWindows_S8x64x4x128_S8x64x4x128_w1s1p0_0_w64s1p63_0_w1s1p0_0_w1s1p0_0 h_S_

/-- Which pairs count: the key's token is not after the query's. -/
def causal : IVec S8x64x64x4x128 1 :=
  broadcastInDim S8x64x64x4x128 ![0, 1, 2, 3, 4] bcast_S1x64x64x1x1_S8x64x64x4x128_0_1_2_3_4 (Step.K_main_v7 (F := Ideal))

def zeros5 : FVec Ideal S8x64x64x4x128 .f32 := broadcastInDim S8x64x64x4x128 ![] bcast_S_S8x64x64x4x128 zero0

/-- The decay from the key's token to the query's. -/
def decay (b : FVec Ideal S8x64x4x128 .f32) : FVec Ideal S8x64x64x4x128 .f32 :=
  select causal (Host.exp (select causal
    (subf (broadcastInDim S8x64x64x4x128 ![0, 1, 2, 3, 4] bcast_S8x64x1x4x128_S8x64x64x4x128_0_1_2_3_4
        (broadcastInDim S8x64x1x4x128 ![0, 1, 3, 4] bcast_S8x64x4x128_S8x64x1x4x128_0_1_3_4 b))
      (broadcastInDim S8x64x64x4x128 ![0, 1, 2, 3, 4] bcast_S8x1x64x4x128_S8x64x64x4x128_0_1_2_3_4
        (broadcastInDim S8x1x64x4x128 ![0, 2, 3, 4] bcast_S8x64x4x128_S8x1x64x4x128_0_2_3_4 b))) zeros5)) zeros5

/-- The scores, keys by queries. -/
def scores (q k b : FVec Ideal S8x64x4x128 .f32) : FVec Ideal S8x4x64x64 .f32 :=
  Host.dotGeneral dot_S8x64x4x128_S8x64x64x4x128_S8x4x64x64_3_4_n_1_021_032 none k
    (mulf (broadcastInDim S8x64x64x4x128 ![0, 1, 2, 3, 4] bcast_S8x64x1x4x128_S8x64x64x4x128_0_1_2_3_4
      (broadcastInDim S8x64x1x4x128 ![0, 1, 3, 4] bcast_S8x64x4x128_S8x64x1x4x128_0_1_3_4 q)) (decay b))

/-- The chunk's results. -/
def out (q k : FVec Ideal S8x64x4x128 .f32) (v : FVec Ideal S8x64x4x256 .f32) (g : FVec Ideal S8x64x4x128 .f32)
    (S : FVec Ideal S8x4x128x256 .f32) : FVec Ideal S8x64x4x256 .f32 :=
  addf (transpose S8x64x4x256 [0, 3, 1, 2] (Host.dotGeneral dot_S8x4x128x256_S8x64x4x128_S8x4x256x64_2_3_3_1_01_02 none S
      (mulf q (Host.exp (cum g)))) transposes_S8x4x256x64_S8x64x4x256_0_3_1_2)
    (transpose S8x64x4x256 [0, 3, 1, 2] (Host.dotGeneral dot_S8x64x4x256_S8x4x64x64_S8x4x256x64_1_3_3_2_02_01 none v
      (transpose S8x4x64x64 [0, 1, 3, 2] (scores q k (cum g)) transposes_S8x4x64x64_S8x4x64x64_0_1_3_2))
      transposes_S8x4x256x64_S8x64x4x256_0_3_1_2)

/-- The chunk's last running sums. -/
def lastSum (b : FVec Ideal S8x64x4x128 .f32) : FVec Ideal S8x4x128 .f32 :=
  shapeCast S8x4x128 (extractStridedSlice S8x1x4x128 ![0, 63, 0, 0] b slices_S8x64x4x128_S8x1x4x128_0_63_0_0)
    shapeCasts_S8x1x4x128_S8x4x128

/-- The state after the chunk. -/
def state (k : FVec Ideal S8x64x4x128 .f32) (v : FVec Ideal S8x64x4x256 .f32) (g : FVec Ideal S8x64x4x128 .f32)
    (S : FVec Ideal S8x4x128x256 .f32) : FVec Ideal S8x4x128x256 .f32 :=
  addf (mulf (broadcastInDim S8x4x128x256 ![0, 1, 2, 3] bcast_S8x4x128x1_S8x4x128x256_0_1_2_3
      (broadcastInDim S8x4x128x1 ![0, 1, 2] bcast_S8x4x128_S8x4x128x1_0_1_2 (Host.exp (lastSum (cum g))))) S)
    (Host.dotGeneral dot_S8x64x4x128_S8x64x4x256_S8x4x128x256_1_1_3_3_02_02 none
      (mulf k (Host.exp (subf (broadcastInDim S8x64x4x128 ![0, 1, 2, 3] bcast_S8x1x4x128_S8x64x4x128_0_1_2_3
        (broadcastInDim S8x1x4x128 ![0, 2, 3] bcast_S8x4x128_S8x1x4x128_0_2_3 (lastSum (cum g)))) (cum g)))) v)

/-! ### Running sums -/

theorem numel_window : (⟨4, ![1, 64, 1, 1]⟩ : Shape).numel = 64 := by decide

theorem window_pos (n : Fin (⟨4, ![1, 64, 1, 1]⟩ : Shape).numel) :
    (⟨4, ![1, 64, 1, 1]⟩ : Shape).rowMajor.symm n = ix4 (n0 := 1) (n1 := 64) (n2 := 1) (n3 := 1) 0 (n.cast numel_window) 0 0 :=
  ((⟨4, ![1, 64, 1, 1]⟩ : Shape).rowMajor.symm_apply_eq).2 (Fin.ext (by
    rw [Shape.rowMajor_val_four]
    show n.val = ((0 * 64 + n.val) * 1 + 0) * 1 + 0
    omega))

theorem foldl_sum {N : ℕ} (f : Fin N → EReal) : (List.finRange N).foldl (fun r n => r + f n) 0 = ∑ n, f n := by
  rw [Fin.sum_univ_def, List.sum_eq_foldl, List.foldl_map]

/-- A window of 64 reaching back from token `t` sums the tokens up to `t`. -/
theorem window_sum (x : Fin 64 → EReal) (t : Fin 64) :
    (∑ n : Fin 64, if h : 63 ≤ t.val + n.val then x ⟨t.val + n.val - 63, by omega⟩ else 0) = ∑ j : Fin 64, if j.val ≤ t.val then x j else 0 := by
  rw [← Equiv.sum_comp (Equiv.addRight (t + 1)) (fun j : Fin 64 => if j.val ≤ t.val then x j else 0)]
  refine Finset.sum_congr rfl fun n _ => ?_
  have hv : ((Equiv.addRight (t + 1)) n).val = (n.val + (t.val + 1) % 64) % 64 := by
    show (n + (t + 1)).val = _
    rw [Fin.val_add, Fin.val_add]; rfl
  by_cases h : 63 ≤ t.val + n.val
  · rw [dif_pos h, if_pos (by rw [hv]; omega)]
    exact congrArg x (Fin.ext (by rw [hv]; show t.val + n.val - 63 = _; omega))
  · rw [dif_neg h, if_neg (by rw [hv]; omega)]

theorem zero_at (i : S_.Idx) : zero0 i = (0 : EReal) := by
  show Ideal.ofBits .f32 0x00000000#32 = 0
  simp [Ideal.ofBits, Ideal.ieee]

theorem cum_apply (g : FVec Ideal S8x64x4x128 .f32) (b : Fin 8) (t : Fin 64) (h : Fin 4) (d : Fin 128) :
    cum g (ix4 b t h d) = ∑ j : Fin 64, if j.val ≤ t.val then g (ix4 b j h d) else 0 := by
  rw [← window_sum (fun j => g (ix4 b j h d)) t]
  unfold cum
  show Host.reduceWindow (fun x y : EReal => x + y) ![1, 64, 1, 1] ![1, 1, 1, 1] ![0, 63, 0, 0] ![0, 0, 0, 0] g
    (fun _ => broadcastInDim S_ ![] bcast_S_S_ zero0 (Shape.Idx.first h_S_))
    reduceWindows_S8x64x4x128_S8x64x4x128_w1s1p0_0_w64s1p63_0_w1s1p0_0_w1s1p0_0 h_S_ (ix4 b t h d) = _
  unfold Host.reduceWindow
  have hz : (broadcastInDim S_ ![] bcast_S_S_ zero0) (Shape.Idx.first h_S_) = (0 : EReal) := zero_at _
  dsimp only
  rw [hz, foldl_sum, ← Equiv.sum_comp (finCongr numel_window)]
  refine Finset.sum_congr rfl fun n _ => ?_
  have w0 : ((⟨4, ![1, 64, 1, 1]⟩ : Shape).rowMajor.symm n 0).val = 0 := by rw [window_pos]; rfl
  have w1 : ((⟨4, ![1, 64, 1, 1]⟩ : Shape).rowMajor.symm n 1).val = n.val := by rw [window_pos]; rfl
  have w2 : ((⟨4, ![1, 64, 1, 1]⟩ : Shape).rowMajor.symm n 2).val = 0 := by rw [window_pos]; rfl
  have w3 : ((⟨4, ![1, 64, 1, 1]⟩ : Shape).rowMajor.symm n 3).val = 0 := by rw [window_pos]; rfl
  have hn : n.val < 64 := (n.cast numel_window).isLt
  by_cases hh : 63 ≤ t.val + n.val
  · have hin : ∀ a : Fin 4, (![0, 63, 0, 0] : Fin 4 → ℕ) a ≤ (ix4 b t h d a).val * (![1, 1, 1, 1] : Fin 4 → ℕ) a + ((⟨4, ![1, 64, 1, 1]⟩ : Shape).rowMajor.symm n a).val
        ∧ (ix4 b t h d a).val * (![1, 1, 1, 1] : Fin 4 → ℕ) a + ((⟨4, ![1, 64, 1, 1]⟩ : Shape).rowMajor.symm n a).val - (![0, 63, 0, 0] : Fin 4 → ℕ) a < S8x64x4x128.size a := by
      intro a
      match a with
      | ⟨0, _⟩ => show 0 ≤ b.val * 1 + _ ∧ b.val * 1 + ((⟨4, ![1, 64, 1, 1]⟩ : Shape).rowMajor.symm n 0).val - 0 < 8; rw [w0]; omega
      | ⟨1, _⟩ => show 63 ≤ t.val * 1 + ((⟨4, ![1, 64, 1, 1]⟩ : Shape).rowMajor.symm n 1).val ∧ t.val * 1 + ((⟨4, ![1, 64, 1, 1]⟩ : Shape).rowMajor.symm n 1).val - 63 < 64; rw [w1]; omega
      | ⟨2, _⟩ => show 0 ≤ h.val * 1 + _ ∧ h.val * 1 + ((⟨4, ![1, 64, 1, 1]⟩ : Shape).rowMajor.symm n 2).val - 0 < 4; rw [w2]; omega
      | ⟨3, _⟩ => show 0 ≤ d.val * 1 + _ ∧ d.val * 1 + ((⟨4, ![1, 64, 1, 1]⟩ : Shape).rowMajor.symm n 3).val - 0 < 128; rw [w3]; omega
    refine (dif_pos hin).trans ?_
    refine Eq.trans ?_ (dif_pos (c := 63 ≤ t.val + ((finCongr numel_window) n).val) hh).symm
    refine congrArg g (funext fun a => Fin.ext ?_)
    match a with
    | ⟨0, _⟩ => show b.val * 1 + ((⟨4, ![1, 64, 1, 1]⟩ : Shape).rowMajor.symm n 0).val - 0 = b.val; rw [w0]; omega
    | ⟨1, _⟩ => show t.val * 1 + ((⟨4, ![1, 64, 1, 1]⟩ : Shape).rowMajor.symm n 1).val - 63 = t.val + n.val - 63; rw [w1]; omega
    | ⟨2, _⟩ => show h.val * 1 + ((⟨4, ![1, 64, 1, 1]⟩ : Shape).rowMajor.symm n 2).val - 0 = h.val; rw [w2]; omega
    | ⟨3, _⟩ => show d.val * 1 + ((⟨4, ![1, 64, 1, 1]⟩ : Shape).rowMajor.symm n 3).val - 0 = d.val; rw [w3]; omega
  · have hr : ∀ y : 63 ≤ t.val + ((finCongr numel_window) n).val → EReal, (if h : 63 ≤ t.val + ((finCongr numel_window) n).val then y h else 0) = 0 := fun y => dif_neg hh
    rw [hr]
    refine dif_neg fun hin => hh ?_
    have h1 : 63 ≤ t.val * 1 + ((⟨4, ![1, 64, 1, 1]⟩ : Shape).rowMajor.symm n 1).val := (hin 1).1
    rw [w1] at h1
    omega

theorem cum_real (g : FVec Ideal S8x64x4x128 .f32) (l : Fin 8 → Fin 64 → Fin 4 → Fin 128 → ℝ)
    (hg : ∀ b t h d, g (ix4 b t h d) = (l b t h d : EReal)) (b : Fin 8) (t : Fin 64) (h : Fin 4) (d : Fin 128) :
    cum g (ix4 b t h d) = (upToG (fun t d => l b t h d) t d : EReal) := by
  have cs : ∀ f : Fin 64 → ℝ, ((∑ i, f i : ℝ) : EReal) = ∑ i, (f i : EReal) := fun f => by
    rw [Fin.sum_univ_def, Fin.sum_univ_def]
    induction List.finRange 64 with
    | nil => rfl
    | cons a s ih => simp only [List.map_cons, List.sum_cons, EReal.coe_add, ih]
  rw [cum_apply]
  unfold upToG
  rw [cs]
  refine Finset.sum_congr rfl fun j _ => ?_
  rw [hg]
  split
  · rfl
  · rfl

/-! ### Products -/

theorem dot_state (S : FVec Ideal S8x4x128x256 .f32) (y : FVec Ideal S8x64x4x128 .f32) (b : Fin 8) (h : Fin 4) (e : Fin 256) (t : Fin 64) :
    Host.dotGeneral dot_S8x4x128x256_S8x64x4x128_S8x4x256x64_2_3_3_1_01_02 none S y (ix4 b h e t)
      = ∑ d : Fin 128, S (ix4 b h d e) * y (ix4 b t h d) := by
  have hr : dot_S8x4x128x256_S8x64x4x128_S8x4x256x64_2_3_3_1_01_02.contr.rank = 1 := rfl
  have hs : dot_S8x4x128x256_S8x64x4x128_S8x4x256x64_2_3_3_1_01_02.contr.size ⟨0, by omega⟩ = 128 := rfl
  refine (Ideal.dotGeneral_apply _ _ _ _ _ _).trans ?_
  rw [← Equiv.sum_comp (contrEquiv1 _ 128 hr hs).symm]
  refine Finset.sum_congr rfl fun s _ => ?_
  have hk := contrEquiv1_symm_val dot_S8x4x128x256_S8x64x4x128_S8x4x256x64_2_3_3_1_01_02 128 hr hs s
  refine congrArg₂ (fun x y : EReal => x * y) (congrArg S (funext fun a => Fin.ext ?_)) (congrArg y (funext fun a => Fin.ext ?_))
  · match a with
    | ⟨0, _⟩ => rfl
    | ⟨1, _⟩ => rfl
    | ⟨2, _⟩ => exact hk
    | ⟨3, _⟩ => rfl
  · match a with
    | ⟨0, _⟩ => rfl
    | ⟨1, _⟩ => rfl
    | ⟨2, _⟩ => rfl
    | ⟨3, _⟩ => exact hk

theorem dot_scores (k : FVec Ideal S8x64x4x128 .f32) (y : FVec Ideal S8x64x64x4x128 .f32) (b : Fin 8) (h : Fin 4) (s t : Fin 64) :
    Host.dotGeneral dot_S8x64x4x128_S8x64x64x4x128_S8x4x64x64_3_4_n_1_021_032 none k y (ix4 b h s t)
      = ∑ d : Fin 128, k (ix4 b s h d) * y (ix5 b t s h d) := by
  have hr : dot_S8x64x4x128_S8x64x64x4x128_S8x4x64x64_3_4_n_1_021_032.contr.rank = 1 := rfl
  have hs : dot_S8x64x4x128_S8x64x64x4x128_S8x4x64x64_3_4_n_1_021_032.contr.size ⟨0, by omega⟩ = 128 := rfl
  refine (Ideal.dotGeneral_apply _ _ _ _ _ _).trans ?_
  rw [← Equiv.sum_comp (contrEquiv1 _ 128 hr hs).symm]
  refine Finset.sum_congr rfl fun d _ => ?_
  have hk := contrEquiv1_symm_val dot_S8x64x4x128_S8x64x64x4x128_S8x4x64x64_3_4_n_1_021_032 128 hr hs d
  refine congrArg₂ (fun x y : EReal => x * y) (congrArg k (funext fun a => Fin.ext ?_)) (congrArg y (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => rfl
    | ⟨4, _⟩ => exact hk

theorem dot_values (v : FVec Ideal S8x64x4x256 .f32) (y : FVec Ideal S8x4x64x64 .f32) (b : Fin 8) (h : Fin 4) (e : Fin 256) (t : Fin 64) :
    Host.dotGeneral dot_S8x64x4x256_S8x4x64x64_S8x4x256x64_1_3_3_2_02_01 none v y (ix4 b h e t)
      = ∑ s : Fin 64, v (ix4 b s h e) * y (ix4 b h t s) := by
  have hr : dot_S8x64x4x256_S8x4x64x64_S8x4x256x64_1_3_3_2_02_01.contr.rank = 1 := rfl
  have hs : dot_S8x64x4x256_S8x4x64x64_S8x4x256x64_1_3_3_2_02_01.contr.size ⟨0, by omega⟩ = 64 := rfl
  refine (Ideal.dotGeneral_apply _ _ _ _ _ _).trans ?_
  rw [← Equiv.sum_comp (contrEquiv1 _ 64 hr hs).symm]
  refine Finset.sum_congr rfl fun d _ => ?_
  have hk := contrEquiv1_symm_val dot_S8x64x4x256_S8x4x64x64_S8x4x256x64_1_3_3_2_02_01 64 hr hs d
  refine congrArg₂ (fun x y : EReal => x * y) (congrArg v (funext fun a => Fin.ext ?_)) (congrArg y (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

theorem dot_update (x : FVec Ideal S8x64x4x128 .f32) (v : FVec Ideal S8x64x4x256 .f32) (b : Fin 8) (h : Fin 4) (d : Fin 128) (e : Fin 256) :
    Host.dotGeneral dot_S8x64x4x128_S8x64x4x256_S8x4x128x256_1_1_3_3_02_02 none x v (ix4 b h d e)
      = ∑ s : Fin 64, x (ix4 b s h d) * v (ix4 b s h e) := by
  have hr : dot_S8x64x4x128_S8x64x4x256_S8x4x128x256_1_1_3_3_02_02.contr.rank = 1 := rfl
  have hs : dot_S8x64x4x128_S8x64x4x256_S8x4x128x256_1_1_3_3_02_02.contr.size ⟨0, by omega⟩ = 64 := rfl
  refine (Ideal.dotGeneral_apply _ _ _ _ _ _).trans ?_
  rw [← Equiv.sum_comp (contrEquiv1 _ 64 hr hs).symm]
  refine Finset.sum_congr rfl fun s _ => ?_
  have hk := contrEquiv1_symm_val dot_S8x64x4x128_S8x64x4x256_S8x4x128x256_1_1_3_3_02_02 64 hr hs s
  refine congrArg₂ (fun x y : EReal => x * y) (congrArg x (funext fun a => Fin.ext ?_)) (congrArg v (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => exact hk
    | ⟨2, _⟩ => rfl
    | ⟨3, _⟩ => rfl

/-! ### Decays -/

private theorem mask_word : ∀ t s : Fin 64, Scalar.select (IntOp.cmpi .sge (BitVec.ofNat 32 t.val + 0#32) (BitVec.ofNat 32 s.val)) 1#1 0#1
    = if s.val ≤ t.val then 1#1 else 0#1 := by decide +kernel

theorem causal_apply (b : Fin 8) (t s : Fin 64) (h : Fin 4) (d : Fin 128) :
    causal (ix5 b t s h d) = if s.val ≤ t.val then 1#1 else 0#1 := mask_word t s

theorem decay_real (x : FVec Ideal S8x64x4x128 .f32) (β : Fin 8 → Fin 64 → Fin 4 → Fin 128 → ℝ)
    (hx : ∀ b t h d, x (ix4 b t h d) = (β b t h d : EReal)) (b : Fin 8) (t s : Fin 64) (h : Fin 4) (d : Fin 128) :
    decay x (ix5 b t s h d) = if s.val ≤ t.val then (Real.exp (β b t h d - β b s h d) : EReal) else 0 := by
  have z : ∀ i, zeros5 i = (0 : EReal) := fun i => zero_at (Shape.Idx.first h_S_)
  have e1 : broadcastInDim S8x64x64x4x128 ![0, 1, 2, 3, 4] bcast_S8x64x1x4x128_S8x64x64x4x128_0_1_2_3_4
      (broadcastInDim S8x64x1x4x128 ![0, 1, 3, 4] bcast_S8x64x4x128_S8x64x1x4x128_0_1_3_4 x) (ix5 b t s h d) = x (ix4 b t h d) :=
    congrArg x (funext fun a => Fin.ext (by
      match a with
      | ⟨0, _⟩ => rfl
      | ⟨1, _⟩ => rfl
      | ⟨2, _⟩ => rfl
      | ⟨3, _⟩ => rfl))
  have e2 : broadcastInDim S8x64x64x4x128 ![0, 1, 2, 3, 4] bcast_S8x1x64x4x128_S8x64x64x4x128_0_1_2_3_4
      (broadcastInDim S8x1x64x4x128 ![0, 2, 3, 4] bcast_S8x64x4x128_S8x1x64x4x128_0_2_3_4 x) (ix5 b t s h d) = x (ix4 b s h d) :=
    congrArg x (funext fun a => Fin.ext (by
      match a with
      | ⟨0, _⟩ => rfl
      | ⟨1, _⟩ => rfl
      | ⟨2, _⟩ => rfl
      | ⟨3, _⟩ => rfl))
  unfold decay
  rw [select_apply, causal_apply, z]
  by_cases hs : s.val ≤ t.val
  · rw [if_pos hs, if_pos hs]
    show Ideal.exp (Scalar.select (causal (ix5 b t s h d)) (_ - _) _) = _
    rw [causal_apply, if_pos hs, e1, e2, hx, hx]
    show Ideal.exp ((β b t h d : EReal) - (β b s h d : EReal)) = _
    rw [← EReal.coe_sub, Ideal.exp_coe]
  · rw [if_neg hs, if_neg hs]
    rfl

/-! ### The chunk -/

section

variable (q k : FVec Ideal S8x64x4x128 .f32) (v : FVec Ideal S8x64x4x256 .f32) (g : FVec Ideal S8x64x4x128 .f32)
  (S : FVec Ideal S8x4x128x256 .f32) (l : Fin 8 → Fin 64 → Fin 4 → Fin 128 → ℝ)
  (hg : ∀ b t h d, g (ix4 b t h d) = (l b t h d : EReal))

include hg in
/-- The chunk's results. -/
theorem out_real (b : Fin 8) (t : Fin 64) (h : Fin 4) (e : Fin 256) :
    out q k v g S (ix4 b t h e) = outG (fun t d => q (ix4 b t h d)) (fun s d => k (ix4 b s h d)) (upToG fun t d => l b t h d)
      (fun s e => v (ix4 b s h e)) (fun e d => S (ix4 b h d e)) t e := by
  have hc := cum_real g l hg
  have e1 : transpose S8x64x4x256 [0, 3, 1, 2] (Host.dotGeneral dot_S8x4x128x256_S8x64x4x128_S8x4x256x64_2_3_3_1_01_02 none S
      (mulf q (Host.exp (cum g)))) transposes_S8x4x256x64_S8x64x4x256_0_3_1_2 (ix4 b t h e)
      = Host.dotGeneral dot_S8x4x128x256_S8x64x4x128_S8x4x256x64_2_3_3_1_01_02 none S (mulf q (Host.exp (cum g))) (ix4 b h e t) :=
    congrArg (Host.dotGeneral dot_S8x4x128x256_S8x64x4x128_S8x4x256x64_2_3_3_1_01_02 none S (mulf q (Host.exp (cum g)))) (funext fun a => Fin.ext (by
      match a with
      | ⟨0, _⟩ => rfl
      | ⟨1, _⟩ => rfl
      | ⟨2, _⟩ => rfl
      | ⟨3, _⟩ => rfl))
  have e2 : ∀ y : FVec Ideal S8x4x256x64 .f32, transpose S8x64x4x256 [0, 3, 1, 2] y transposes_S8x4x256x64_S8x64x4x256_0_3_1_2 (ix4 b t h e) = y (ix4 b h e t) :=
    fun y => congrArg y (funext fun a => Fin.ext (by
      match a with
      | ⟨0, _⟩ => rfl
      | ⟨1, _⟩ => rfl
      | ⟨2, _⟩ => rfl
      | ⟨3, _⟩ => rfl))
  have e3 : ∀ (y : FVec Ideal S8x4x64x64 .f32) (s : Fin 64), transpose S8x4x64x64 [0, 1, 3, 2] y transposes_S8x4x64x64_S8x4x64x64_0_1_3_2 (ix4 b h t s) = y (ix4 b h s t) :=
    fun y s => congrArg y (funext fun a => Fin.ext (by
      match a with
      | ⟨0, _⟩ => rfl
      | ⟨1, _⟩ => rfl
      | ⟨2, _⟩ => rfl
      | ⟨3, _⟩ => rfl))
  unfold out outG
  rw [addf_apply, e1, e2, dot_state, dot_values]
  refine congrArg₂ (fun x y : EReal => x + y) (Finset.sum_congr rfl fun d _ => ?_) (Finset.sum_congr rfl fun s _ => ?_)
  · rw [mulf_apply]
    show S (ix4 b h d e) * (q (ix4 b t h d) * Ideal.exp (cum g (ix4 b t h d))) = _
    rw [hc, Ideal.exp_coe, mul_comm]
  · rw [e3, mul_comm]
    refine congrArg (fun x : EReal => x * v (ix4 b s h e)) ?_
    unfold scores scoreG
    rw [dot_scores]
    by_cases hs : s.val ≤ t.val
    · rw [if_pos hs]
      refine Finset.sum_congr rfl fun d _ => ?_
      rw [mulf_apply, decay_real (cum g) _ hc, if_pos hs, mul_comm, mul_right_comm]
      refine congrArg (fun x : EReal => x * _ * _) (congrArg q (funext fun a => Fin.ext (by
        match a with
        | ⟨0, _⟩ => rfl
        | ⟨1, _⟩ => rfl
        | ⟨2, _⟩ => rfl
        | ⟨3, _⟩ => rfl)))
    · rw [if_neg hs]
      refine Finset.sum_eq_zero fun d _ => ?_
      rw [mulf_apply, decay_real (cum g) _ hc, if_neg hs, mul_zero, mul_zero]

theorem lastSum_apply (x : FVec Ideal S8x64x4x128 .f32) (b : Fin 8) (h : Fin 4) (d : Fin 128) :
    lastSum x (ix3 b h d) = x (ix4 b 63 h d) := by
  unfold lastSum
  refine (shapeCast_apply _ _ _ (ix4 (n0 := 8) (n1 := 1) (n2 := 4) (n3 := 128) b 0 h d) ?_).trans ?_
  · rw [Shape.rowMajor_val_three, Shape.rowMajor_val_four]
    show ((b.val * 1 + 0) * 4 + h.val) * 128 + d.val = (b.val * 4 + h.val) * 128 + d.val
    omega
  · refine extractStridedSlice_apply _ _ _ _ _ fun a => ?_
    match a with
    | ⟨0, _⟩ => show b.val = 0 + b.val; omega
    | ⟨1, _⟩ => rfl
    | ⟨2, _⟩ => show h.val = 0 + h.val; omega
    | ⟨3, _⟩ => show d.val = 0 + d.val; omega

include hg in
/-- The state after the chunk. -/
theorem state_real (b : Fin 8) (h : Fin 4) (d : Fin 128) (e : Fin 256) :
    state k v g S (ix4 b h d e) = stateG 63 (fun s d => k (ix4 b s h d)) (upToG fun t d => l b t h d)
      (fun s e => v (ix4 b s h e)) (fun e d => S (ix4 b h d e)) e d := by
  have hc := cum_real g l hg
  have e1 : ∀ y : FVec Ideal S8x4x128 .f32, broadcastInDim S8x4x128x256 ![0, 1, 2, 3] bcast_S8x4x128x1_S8x4x128x256_0_1_2_3
      (broadcastInDim S8x4x128x1 ![0, 1, 2] bcast_S8x4x128_S8x4x128x1_0_1_2 y) (ix4 b h d e) = y (ix3 b h d) :=
    fun y => congrArg y (funext fun a => Fin.ext (by
      match a with
      | ⟨0, _⟩ => rfl
      | ⟨1, _⟩ => rfl
      | ⟨2, _⟩ => rfl))
  have e2 : ∀ (y : FVec Ideal S8x4x128 .f32) (s : Fin 64), broadcastInDim S8x64x4x128 ![0, 1, 2, 3] bcast_S8x1x4x128_S8x64x4x128_0_1_2_3
        (broadcastInDim S8x1x4x128 ![0, 2, 3] bcast_S8x4x128_S8x1x4x128_0_2_3 y) (ix4 b s h d) = y (ix3 b h d) :=
    fun y s => congrArg y (funext fun a => Fin.ext (by
      match a with
      | ⟨0, _⟩ => rfl
      | ⟨1, _⟩ => rfl
      | ⟨2, _⟩ => rfl))
  unfold state stateG
  rw [addf_apply, mulf_apply, e1, dot_update, mul_comm]
  refine congrArg₂ (fun x y : EReal => x + y) ?_ (Finset.sum_congr rfl fun s _ => ?_)
  · show S (ix4 b h d e) * Ideal.exp (lastSum (cum g) (ix3 b h d)) = _
    rw [lastSum_apply, hc, Ideal.exp_coe]
  · rw [mulf_apply, mul_comm]
    show v (ix4 b s h e) * (k (ix4 b s h d) * Ideal.exp (broadcastInDim S8x64x4x128 _ _ _ (ix4 b s h d) - cum g (ix4 b s h d))) = _
    rw [e2, lastSum_apply, hc, hc, ← EReal.coe_sub, Ideal.exp_coe]

end

end Cert.Gla.Ref

end
-- ==== Proof.PromptRef.lean ====
module

public import proofs.«01_k».proof.Proof.RefTrips
public import proofs.«01_k».proof.Proof.RefChunk
public import proofs.«01_k».proof.Proof.RefLayout
public import proofs.«01_k».proof.Proof.PromptTokens

/-! The prompt's reference: its 129 chunks of 64 tokens are the recurrence, token by token. -/

@[expose] public section

set_option maxRecDepth 16384

noncomputable section

namespace Cert.Gla.PromptRef

open Idealize.ShloMosaic hiding ix1 ix2 ix3 ix4 ix5
open Idealize.ShloMosaic.ValueIdx
open Cert.ReferenceIdeal Cert.ReferenceIdeal.Gen Cert.ReferenceIdeal.Step

variable (xq xk : FVec Ideal S8x8208x4x128 .f32) (xv : FVec Ideal S8x8208x4x256 .f32) (xl : FVec Ideal S8x8208x4x128 .f32)

/-- The loop's first state. -/
def first : State Ideal := init xq xk xv xl

/-- The loop's state before trip `n`. -/
def before (n : ℕ) : State Ideal := Trips.after (first xq xk xv xl) n

/-- What the trips don't change. -/
theorem kept : ∀ n, (before xq xk xv xl n).main_v17_0 = A_main_v9 xq xk xv xl ∧ (before xq xk xv xl n).main_v17_1 = A_main_v11 xq xk xv xl
    ∧ (before xq xk xv xl n).main_v17_2 = A_main_v13 xq xk xv xl ∧ (before xq xk xv xl n).main_v17_3 = A_main_v15 xq xk xv xl
  | 0 => ⟨rfl, rfl, rfl, rfl⟩
  | n + 1 => kept n

theorem trip_word : ∀ j : Fin 129, (BitVec.ofNat 32 j.val).toInt = j.val := by decide

theorem chunk_at (x : S129x8x64x4x128.Idx → EReal) (j : Fin 129) (b : Fin 8) (t : Fin 64) (h : Fin 4) (d : Fin 128)
    (start : Fin 5 → Int) (h0 : start 0 = j.val) (hs : ∀ a, a ≠ 0 → start a = 0) :
    shapeCast S8x64x4x128 (Host.dynamicSlice S1x8x64x4x128 x start sliceFits_S129x8x64x4x128_S1x8x64x4x128) shapeCasts_S1x8x64x4x128_S8x64x4x128
      (ix4 b t h d) = x (ix5 j b t h d) := by
  refine (shapeCast_apply _ _ _ (ix5 (n0 := 1) (n1 := 8) (n2 := 64) (n3 := 4) (n4 := 128) 0 b t h d) ?_).trans ?_
  · rw [Shape.rowMajor_val_four, Shape.rowMajor_val_five]
    show (((0 * 8 + b.val) * 64 + t.val) * 4 + h.val) * 128 + d.val = ((b.val * 64 + t.val) * 4 + h.val) * 128 + d.val
    omega
  · exact slice_chunk (N := 129) (W := 128) x start _ j h0 hs b t h d

theorem wide_chunk_at (x : S129x8x64x4x256.Idx → EReal) (j : Fin 129) (b : Fin 8) (t : Fin 64) (h : Fin 4) (d : Fin 256)
    (start : Fin 5 → Int) (h0 : start 0 = j.val) (hs : ∀ a, a ≠ 0 → start a = 0) :
    shapeCast S8x64x4x256 (Host.dynamicSlice S1x8x64x4x256 x start sliceFits_S129x8x64x4x256_S1x8x64x4x256) shapeCasts_S1x8x64x4x256_S8x64x4x256
      (ix4 b t h d) = x (ix5 j b t h d) := by
  refine (shapeCast_apply _ _ _ (ix5 (n0 := 1) (n1 := 8) (n2 := 64) (n3 := 4) (n4 := 256) 0 b t h d) ?_).trans ?_
  · rw [Shape.rowMajor_val_four, Shape.rowMajor_val_five]
    show (((0 * 8 + b.val) * 64 + t.val) * 4 + h.val) * 256 + d.val = ((b.val * 64 + t.val) * 4 + h.val) * 256 + d.val
    omega
  · exact slice_chunk (N := 129) (W := 256) x start _ j h0 hs b t h d

variable (j : Fin 129) (s : State Ideal)

theorem atQ (b : Fin 8) (t : Fin 64) (h : Fin 4) (d : Fin 128) : b5 j.val s (ix4 b t h d) = s.main_v17_0 (ix5 j b t h d) := by
  refine chunk_at s.main_v17_0 j b t h d _ (trip_word j) fun a ha => ?_
  fin_cases a <;> first | rfl | exact absurd rfl ha

theorem atK (b : Fin 8) (t : Fin 64) (h : Fin 4) (d : Fin 128) : b11 j.val s (ix4 b t h d) = s.main_v17_1 (ix5 j b t h d) := by
  refine chunk_at s.main_v17_1 j b t h d _ (trip_word j) fun a ha => ?_
  fin_cases a <;> first | rfl | exact absurd rfl ha

theorem atV (b : Fin 8) (t : Fin 64) (h : Fin 4) (d : Fin 256) : b17 j.val s (ix4 b t h d) = s.main_v17_2 (ix5 j b t h d) := by
  refine wide_chunk_at s.main_v17_2 j b t h d _ (trip_word j) fun a ha => ?_
  fin_cases a <;> first | rfl | exact absurd rfl ha

theorem atL (b : Fin 8) (t : Fin 64) (h : Fin 4) (d : Fin 128) : b23 j.val s (ix4 b t h d) = s.main_v17_3 (ix5 j b t h d) := by
  refine chunk_at s.main_v17_3 j b t h d _ (trip_word j) fun a ha => ?_
  fin_cases a <;> first | rfl | exact absurd rfl ha

/-- A trip writes one chunk of the stacked results. -/
theorem replaced (i : Fin 129) (b : Fin 8) (t : Fin 64) (h : Fin 4) (e : Fin 256) : b73 j.val s (ix5 i b t h e)
    = if i = j then b68 j.val s (ix5 0 b t h e) else s.main_v17_7 (ix5 i b t h e) := by
  refine update_chunk (N := 129) (W := 256) s.main_v17_7 (b68 j.val s) _ _ j (trip_word j) (fun a ha => ?_) i b t h e
  fin_cases a <;> first | rfl | exact absurd rfl ha

/-- A batch row's and head's tokens as reals, 48 zero tokens in front. -/
def shifted {W : ℕ} (x : FVec Ideal ⟨4, ![8, 8208, 4, W]⟩ .f32) (b : Fin 8) (h : Fin 4) : ℕ → Fin W → ℝ := late 48 (tokens x b h)

theorem shifted_apply {W : ℕ} (x : FVec Ideal ⟨4, ![8, 8208, 4, W]⟩ .f32) (hx : Reals x) (b : Fin 8) (t : Fin 64) (h : Fin 4) (d : Fin W) :
    (if hin : 48 ≤ j.val * 64 + t.val ∧ j.val * 64 + t.val - 48 < 8208 then x (ix4 b ⟨j.val * 64 + t.val - 48, hin.2⟩ h d) else 0)
      = (shifted x b h (j.val * 64 + t.val) d : EReal) := by
  unfold shifted late tokens line
  by_cases h1 : 48 ≤ j.val * 64 + t.val
  · rw [if_pos h1]
    by_cases h2 : j.val * 64 + t.val - 48 < 8208
    · rw [dif_pos ⟨h1, h2⟩, dif_pos h2]
      exact hx _
    · rw [dif_neg fun h => h2 h.2, dif_neg h2]
      exact EReal.coe_zero.symm
  · rw [if_neg h1, dif_neg fun h => h1 h.1]
    exact EReal.coe_zero.symm

variable (hq : Reals xq) (hk : Reals xk) (hv : Reals xv) (hl : Reals xl)

include hq in
theorem lineQ (b : Fin 8) (t : Fin 64) (h : Fin 4) (d : Fin 128) :
    b5 j.val (before xq xk xv xl j.val) (ix4 b t h d) = (shifted xq b h (j.val * 64 + t.val) d : EReal) := by
  rw [atQ, (kept xq xk xv xl j.val).1]
  exact (chunked (N := 129) (n := 8208) (M := 8256) (lo := 48) (hi := 0) (W := 128) xq _ rfl _ _ rfl _ _ j b t h d).trans (shifted_apply j xq hq b t h d)

include hk in
theorem lineK (b : Fin 8) (t : Fin 64) (h : Fin 4) (d : Fin 128) :
    b11 j.val (before xq xk xv xl j.val) (ix4 b t h d) = (shifted xk b h (j.val * 64 + t.val) d : EReal) := by
  rw [atK, (kept xq xk xv xl j.val).2.1]
  exact (chunked (N := 129) (n := 8208) (M := 8256) (lo := 48) (hi := 0) (W := 128) xk _ rfl _ _ rfl _ _ j b t h d).trans (shifted_apply j xk hk b t h d)

include hv in
theorem lineV (b : Fin 8) (t : Fin 64) (h : Fin 4) (d : Fin 256) :
    b17 j.val (before xq xk xv xl j.val) (ix4 b t h d) = (shifted xv b h (j.val * 64 + t.val) d : EReal) := by
  rw [atV, (kept xq xk xv xl j.val).2.2.1]
  exact (chunked (N := 129) (n := 8208) (M := 8256) (lo := 48) (hi := 0) (W := 256) xv _ rfl _ _ rfl _ _ j b t h d).trans (shifted_apply j xv hv b t h d)

include hl in
theorem lineL (b : Fin 8) (t : Fin 64) (h : Fin 4) (d : Fin 128) :
    b23 j.val (before xq xk xv xl j.val) (ix4 b t h d) = (shifted xl b h (j.val * 64 + t.val) d : EReal) := by
  rw [atL, (kept xq xk xv xl j.val).2.2.2]
  exact (chunked (N := 129) (n := 8208) (M := 8256) (lo := 48) (hi := 0) (W := 128) xl _ rfl _ _ rfl _ _ j b t h d).trans (shifted_apply j xl hl b t h d)

include hk hv hl in
/-- Before trip `n` the carried state is the state before token `64 n`. -/
theorem carried : ∀ n ≤ 129, ∀ (b : Fin 8) (h : Fin 4) (d : Fin 128) (e : Fin 256), (before xq xk xv xl n).main_v17_6 (ix4 b h d e)
    = (stateN (shifted xk b h) (shifted xl b h) (shifted xv b h) (n * 64) e d : EReal)
  | 0, _, b, h, d, e => (show (before xq xk xv xl 0).main_v17_6 (ix4 b h d e) = Ideal.ofBits .f32 0x00000000#32 from rfl).trans
      (zero_word.trans (by rw [Nat.zero_mul]; exact EReal.coe_zero.symm))
  | n + 1, hn, b, h, d, e => by
    have ih := carried n (by omega)
    refine (Ref.state_real (b11 n (before xq xk xv xl n)) (b17 n (before xq xk xv xl n)) (b23 n (before xq xk xv xl n)) (before xq xk xv xl n).main_v17_6
      (fun b t h d => shifted xl b h (n * 64 + t.val) d) (fun b t h d => lineL xq xk xv xl ⟨n, by omega⟩ hl b t h d) b h d e).trans ?_
    rw [show (fun (s : Fin 64) (d : Fin 128) => b11 n (before xq xk xv xl n) (ix4 b s h d)) = fun s d => (shifted xk b h (n * 64 + s.val) d : EReal) from
        funext₂ fun s d => lineK xq xk xv xl ⟨n, by omega⟩ hk b s h d,
      show (fun (s : Fin 64) (e : Fin 256) => b17 n (before xq xk xv xl n) (ix4 b s h e)) = fun s e => (shifted xv b h (n * 64 + s.val) e : EReal) from
        funext₂ fun s e => lineV xq xk xv xl ⟨n, by omega⟩ hv b s h e,
      show (fun (e : Fin 256) (d : Fin 128) => (before xq xk xv xl n).main_v17_6 (ix4 b h d e)) = fun e d => (stateN (shifted xk b h) (shifted xl b h) (shifted xv b h) (n * 64) e d : EReal) from
        funext₂ fun e d => ih b h d e]
    refine (stateG_line (C := 64) (shifted xk b h) (shifted xl b h) (shifted xv b h) (n * 64) 63 rfl e d).trans ?_
    rw [Nat.succ_mul]

include hq hk hv hl in
/-- A trip's results. -/
theorem made (b : Fin 8) (t : Fin 64) (h : Fin 4) (e : Fin 256) : b67 j.val (before xq xk xv xl j.val) (ix4 b t h e)
    = (outN (shifted xq b h) (shifted xk b h) (shifted xl b h) (shifted xv b h) (j.val * 64 + t.val) e : EReal) := by
  refine (Ref.out_real (b5 j.val (before xq xk xv xl j.val)) (b11 j.val (before xq xk xv xl j.val)) (b17 j.val (before xq xk xv xl j.val)) (b23 j.val (before xq xk xv xl j.val))
    (before xq xk xv xl j.val).main_v17_6 (fun b t h d => shifted xl b h (j.val * 64 + t.val) d) (fun b t h d => lineL xq xk xv xl j hl b t h d) b t h e).trans ?_
  rw [show (fun (s : Fin 64) (d : Fin 128) => b5 j.val (before xq xk xv xl j.val) (ix4 b s h d)) = fun s d => (shifted xq b h (j.val * 64 + s.val) d : EReal) from
      funext₂ fun s d => lineQ xq xk xv xl j hq b s h d,
    show (fun (s : Fin 64) (d : Fin 128) => b11 j.val (before xq xk xv xl j.val) (ix4 b s h d)) = fun s d => (shifted xk b h (j.val * 64 + s.val) d : EReal) from
      funext₂ fun s d => lineK xq xk xv xl j hk b s h d,
    show (fun (s : Fin 64) (e : Fin 256) => b17 j.val (before xq xk xv xl j.val) (ix4 b s h e)) = fun s e => (shifted xv b h (j.val * 64 + s.val) e : EReal) from
      funext₂ fun s e => lineV xq xk xv xl j hv b s h e,
    show (fun (e : Fin 256) (d : Fin 128) => (before xq xk xv xl j.val).main_v17_6 (ix4 b h d e)) = fun e d => (stateN (shifted xk b h) (shifted xl b h) (shifted xv b h) (j.val * 64) e d : EReal) from
      funext₂ fun e d => carried xq xk xv xl hk hv hl j.val (by omega) b h d e]
  exact outG_line (C := 64) (shifted xq b h) (shifted xk b h) (shifted xl b h) (shifted xv b h) (j.val * 64) t e

include hq hk hv hl in
/-- Before trip `n` the chunks below `n` hold their results. -/
theorem stacked : ∀ n ≤ 129, ∀ (i : Fin 129), i.val < n → ∀ (b : Fin 8) (t : Fin 64) (h : Fin 4) (e : Fin 256), (before xq xk xv xl n).main_v17_7 (ix5 i b t h e)
    = (outN (shifted xq b h) (shifted xk b h) (shifted xl b h) (shifted xv b h) (i.val * 64 + t.val) e : EReal)
  | 0, _, i, hi, _, _, _, _ => absurd hi (Nat.not_lt_zero _)
  | n + 1, hn, i, hi, b, t, h, e => by
    have ih := stacked n (by omega) i
    have hn' : n < 129 := by omega
    refine (replaced ⟨n, hn'⟩ (before xq xk xv xl n) i b t h e).trans ?_
    by_cases e0 : i = ⟨n, hn'⟩
    · subst e0
      rw [if_pos rfl]
      have e2 : b68 n (before xq xk xv xl n) (ix5 0 b t h e) = b67 n (before xq xk xv xl n) (ix4 b t h e) :=
        congrArg (b67 n (before xq xk xv xl n)) (funext fun a => Fin.ext (by
          match a with
          | ⟨0, _⟩ => rfl
          | ⟨1, _⟩ => rfl
          | ⟨2, _⟩ => rfl
          | ⟨3, _⟩ => rfl))
      exact e2.trans (made xq xk xv xl ⟨n, hn'⟩ hq hk hv hl b t h e)
    · rw [if_neg e0]
      have e3 : i.val ≠ n := fun h' => e0 (Fin.ext h')
      exact ih (by omega) b t h e

include hk hv hl in
/-- The last states. -/
theorem final_state : R_main_v23 (Trips.after (first xq xk xv xl) 129)
    = states xk xv xl := by
  refine state_ext _ _ fun b h e d => ?_
  have e1 : R_main_v23 (Trips.after (first xq xk xv xl) 129) (ix4 b h e d) = (before xq xk xv xl 129).main_v17_6 (ix4 b h d e) :=
    congrArg (before xq xk xv xl 129).main_v17_6 (funext fun a => Fin.ext (by
      match a with
      | ⟨0, _⟩ => rfl
      | ⟨1, _⟩ => rfl
      | ⟨2, _⟩ => rfl
      | ⟨3, _⟩ => rfl))
  refine e1.trans ((carried xq xk xv xl hk hv hl 129 le_rfl b h d e).trans ?_)
  exact congrArg _ (stateN_late (tokens xk b h) (tokens xl b h) (tokens xv b h) 48 8208 e d)

include hq hk hv hl in
/-- The results. -/
theorem final_out : R_main_v22 (Trips.after (first xq xk xv xl) 129)
    = outs xq xk xv xl := by
  refine wide_ext _ _ fun b t h e => ?_
  unfold outs
  rw [outArray_apply]
  refine (unchunked (N := 129) (n := 8208) (M := 8256) (lo := 48) (p := 112) (R := 8320) (before xq xk xv xl 129).main_v17_7 _ rfl rfl (by decide) _ _ _ _ _ _ b t h e).trans ?_
  by_cases ht : t.val < 8208
  · rw [dif_pos ht]
    refine (stacked xq xk xv xl hq hk hv hl 129 le_rfl _ (Fin.isLt _) b _ h e).trans ?_
    rw [show (48 + t.val) / 64 * 64 + (48 + t.val) % 64 = 48 + t.val from Nat.div_add_mod' _ _]
    exact congrArg _ (outN_late (tokens xq b h) (tokens xk b h) (tokens xl b h) (tokens xv b h) 48 t.val e)
  · rw [dif_neg ht, outN_past _ _ _ _ 8208 t.val (by omega) (fun s d hs => dif_neg (by omega)) e]
    exact EReal.coe_zero.symm

end Cert.Gla.PromptRef

end
-- ==== Proof.PromptClaim.lean ====
module

public import proofs.«01_k».proof.Proof.PromptValue
public import proofs.«01_k».proof.Proof.PromptPre
public import proofs.«01_k».proof.Proof.PromptRef
public import proofs.«01_k».proof.Proof.RefTrips

/-! The prompt's value claim: kernel and reference end with equal results. -/

@[expose] public section

set_option maxRecDepth 16384

noncomputable section

namespace Cert.Gla

open Idealize.ShloMosaic hiding ix1 ix2 ix3 ix4 ix5
open Idealize.ShloMosaic.TcCoe Idealize.ShloMosaic.ValueIdx Idealize.SL.Sem

/-- From equal finite arguments with gates in (0, 1], the two programs end with equal results. -/
theorem algebraic_prompt : Cert.algebraic_KernelIdeal_ReferenceIdeal_pre_finite_gates := by
  intro m ρ m' ρ' hp ha
  have hq : ∀ c, Reals (Prompt.argQ m c) := fun c => finite_q _ _ _ _ (hp c)
  have hk : ∀ c, Reals (Prompt.argK m c) := fun c => finite_k _ _ _ _ (hp c)
  have hv : ∀ c, Reals (Prompt.argV m c) := fun c => finite_v _ _ _ _ (hp c)
  have hl : ∀ c, Reals (Prompt.argL m c) := fun c => finite_l _ _ _ _ (hp c)
  have hn : ∀ c i, (Prompt.argL m c i).toReal ≤ 0 := fun c => gates_l _ _ _ _ (hp c)
  have hs : ∀ c, Cert.ReferenceIdeal.Trips.start m' c
      = PromptRef.first (Prompt.argQ m c) (Prompt.argK m c) (Prompt.argV m c) (Prompt.argL m c) := fun c => by
    unfold Cert.ReferenceIdeal.Trips.start PromptRef.first
    rw [(ha c).1, (ha c).2.1, (ha c).2.2.1, (ha c).2.2.2]
    rfl
  refine ⟨fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m ρ, ?_⟩
  refine (θ_run Cert.ReferenceIdeal.defs _ _).mono (fun r h c => ⟨(h c).1.trans ?_, (h c).2.1.trans ?_, (h c).2.2⟩)
    (Cert.ReferenceIdeal.Trips.run (F := Ideal) m' ρ')
  · rw [hs c]
    exact (PromptRef.final_out _ _ _ _ (hq c) (hk c) (hv c) (hl c)).trans (Prompt.final_out m c (hq c) (hk c) (hv c) (hl c) (hn c)).symm
  · rw [hs c]
    exact (PromptRef.final_state _ _ _ _ (hk c) (hv c) (hl c)).trans (Prompt.final_state m c (hk c) (hv c) (hl c)).symm

end Cert.Gla

end
-- ==== Proof.SampleValue.lean ====
module

public import proofs.«01_k».proof.Proof.SampleBlocks
public import proofs.«01_k».proof.Proof.Target
public import proofs.«01_k».proof.Proof.Gen.SampleIdeal.Value
public import Idealize.ShloMosaic.Lib.Pipeline.ValueKit.Geometry

/-! The sample call's result arrays, of its arguments. -/

@[expose] public section

set_option maxRecDepth 16384

noncomputable section

namespace Cert.Gla.Sample

open Idealize.ShloMosaic Idealize.ShloMosaic.TcCoe Idealize.ShloMosaic.ValueIdx
open Cert.SampleIdeal Cert.SampleIdeal.Gen

variable (m : (ℓ : Loc nD τ sig) → Buf (Elt Ideal) ℓ) (c : Dev nD)

variable (l : Fin 8 → Fin 16 → Fin 4 → Fin 128 → ℝ) (hl : ∀ b t h d, argL m c (ix4 b t h d) = (l b t h d : EReal))
  (hn : ∀ b t h d, l b t h d ≤ 0)

theorem before_grow (x : Fin 16 → Fin 128 → EReal) : before 16 (grow 128 x) = grow 128 x := by
  funext t d
  unfold before grow
  split
  · rfl
  · rfl

theorem before_grow_real (x : Fin 16 → Fin 128 → ℝ) : before 16 (grow 128 x) = grow 128 x := by
  funext t d
  unfold before grow
  split
  · rfl
  · rfl

theorem rowQ (t : Fin cfg0.N) (h : Fin 4) : (fun (i : Fin 128) (d : Fin 128) => iblk m c 0 t (ix3 (n0 := 1) (n1 := 128) (n2 := 512) 0 i (lane h d)))
    = grow 128 fun i d => argQ m c (ix4 (rowAt t) i h d) :=
  funext₂ fun i d => blockQ m c t i h d

theorem rowK (t : Fin cfg0.N) (h : Fin 4) : (fun (i : Fin 128) (d : Fin 128) => iblk m c 1 t (ix3 (n0 := 1) (n1 := 128) (n2 := 512) 0 i (lane h d)))
    = grow 128 fun i d => argK m c (ix4 (rowAt t) i h d) :=
  funext₂ fun i d => blockK m c t i h d

theorem rowV (t : Fin cfg0.N) (h : Fin 4) : (fun (i : Fin 128) (d : Fin 256) => iblk m c 3 t (ix3 (n0 := 1) (n1 := 128) (n2 := 1024) 0 i (wide h d)))
    = grow 128 fun i d => argV m c (ix4 (rowAt t) i h d) :=
  funext₂ fun i d => blockV m c t i h d

include hl in
theorem rowL (t : Fin cfg0.N) (h : Fin 4) (i d : Fin 128) (hi : i.val < 16) :
    iblk m c 2 t (ix3 (n0 := 1) (n1 := 128) (n2 := 512) 0 i (lane h d)) = ((grow 128 (fun i d => l (rowAt t) i h d) i d : ℝ) : EReal) := by
  refine (blockL m c t i h d).trans ?_
  unfold grow
  rw [dif_pos (show (tokAt t i).val < 16 from hi), dif_pos hi]
  exact hl _ _ _ _

include hn in
theorem rowN (b : Fin 8) (h : Fin 4) (i d : Fin 128) (hi : i.val < 16) : grow 128 (fun i d => l b i h d) i d ≤ 0 := by
  unfold grow
  rw [dif_pos hi]
  exact hn _ _ _ _

include hl hn in
/-- A grid point's results. -/
theorem out_block (t : Fin cfg0.N) (i : Fin 128) (h : Fin 4) (e : Fin 256) :
    (outsAt0 m c t).1 (ix3 (n0 := 1) (n1 := 128) (n2 := 1024) 0 i (wide h e))
      = if ht : i.val < 16 then outG (fun t' d => argQ m c (ix4 (rowAt t) t' h d)) (fun t' d => argK m c (ix4 (rowAt t) t' h d))
          (upToG fun t' d => l (rowAt t) t' h d) (fun t' e => argV m c (ix4 (rowAt t) t' h e)) (fun e d => argS m c (ix4 (rowAt t) h d e)) ⟨i.val, ht⟩ e
        else 0 := by
  have e1 : (outsAt0 m c t).1 = outBlock (grid0.coords t) (iblk m c 0 t) (iblk m c 1 t) (iblk m c 2 t) (iblk m c 3 t) (iblk m c 4 t) := by
    unfold outsAt0
    dsimp only
    rw [out5_A]
  rw [e1]
  unfold outBlock
  refine (side_by_side (fun h => chunkOut (F := Ideal) (k0_pay6 (grid0.coords t)) (iblk m c 0 t) (iblk m c 1 t) (iblk m c 2 t) (iblk m c 3 t) (iblk m c 4 t) h) h i e).trans ?_
  refine (chunkOut_real _ 16 _ _ _ _ _ h (grow 128 fun i d => l (rowAt t) i h d) (fun i j => valid_apply t i j)
    (fun i d hi => rowL m c l hl t h i d hi) (fun i d hi => rowN l hn (rowAt t) h i d hi) i e).trans ?_
  rw [rowQ, rowK, rowV, before_grow, before_grow_real, outAt_eq, upTo_eq,
    show (fun (e : Fin 256) (d : Fin 128) => iblk m c 4 t (ix4 (n0 := 1) (n1 := 4) (n2 := 256) (n3 := 128) 0 h e d)) = fun e d => argS m c (ix4 (rowAt t) h d e) from
      funext₂ fun e d => blockS m c t h e d]
  exact outG_grow (n := 16) (C := 128) (by decide) _ _ (fun t' d => l (rowAt t) t' h d) _ _ i e

include hl in
/-- A grid point's states. -/
theorem state_block (t : Fin cfg0.N) (h : Fin 4) (e : Fin 256) (d : Fin 128) :
    (outsAt0 m c t).2 (ix4 (n0 := 1) (n1 := 4) (n2 := 256) (n3 := 128) 0 h e d)
      = stateG 15 (fun t' d => argK m c (ix4 (rowAt t) t' h d))
          (upToG fun t' d => l (rowAt t) t' h d) (fun t' e => argV m c (ix4 (rowAt t) t' h e)) (fun e d => argS m c (ix4 (rowAt t) h d e)) e d := by
  have e1 : (outsAt0 m c t).2 = stateBlock (grid0.coords t) (iblk m c 1 t) (iblk m c 2 t) (iblk m c 3 t) (iblk m c 4 t)
      [⟨Rect.unit ![0, 0, 0, 0] S1x4x256x128.size inb_S1x4x256x128_S1x4x256x128_0_0_0_0, iblk m c 4 t⟩] := by
    unfold outsAt0
    dsimp only
    rw [out6_A]
  rw [e1]
  unfold stateBlock
  refine (stacked (fun h => chunkState (F := Ideal) (k0_pay6 (grid0.coords t)) (iblk m c 1 t) (iblk m c 2 t) (iblk m c 3 t) (iblk m c 4 t) h) _ h e d).trans ?_
  refine (chunkState_real _ 16 _ _ _ _ h (grow 128 fun i d => l (rowAt t) i h d) (fun i j => valid_apply t i j)
    (fun i d hi => rowL m c l hl t h i d hi) e d).trans ?_
  rw [rowK, rowV, before_grow, before_grow_real, stateAt_eq, upTo_eq,
    show (fun (e : Fin 256) (d : Fin 128) => iblk m c 4 t (ix4 (n0 := 1) (n1 := 4) (n2 := 256) (n3 := 128) 0 h e d)) = fun e d => argS m c (ix4 (rowAt t) h d e) from
      funext₂ fun e d => blockS m c t h e d]
  exact stateG_grow (n := 16) (C := 128) (by decide) _ (fun t' d => l (rowAt t) t' h d) _ _ 127 15 rfl (by decide) e d

theorem indexO : ∀ t : Fin grid0.N, win0_5.index t 0 = t.val ∧ win0_5.index t 1 = 0 ∧ win0_5.index t 2 = 0 := by
  decide +kernel

theorem indexF : ∀ t : Fin grid0.N, win0_6.index t 0 = t.val ∧ win0_6.index t 1 = 0 ∧ win0_6.index t 2 = 0 ∧ win0_6.index t 3 = 0 := by
  decide +kernel

include hl hn in
/-- The array of results. -/
theorem final_out : (dats m 0 c).arrAt 5 cfg0.N
    = outArray fun b t h e => if ht : t.val < 16 then outG (fun t d => argQ m c (ix4 b t h d)) (fun t d => argK m c (ix4 b t h d)) (upToG fun t d => l b t h d)
        (fun t e => argV m c (ix4 b t h e)) (fun e d => argS m c (ix4 b h d e)) ⟨t.val, ht⟩ e else 0 := by
  refine (dats m 0 c).arrAt_eq_of_covers 5 _ (by decide +kernel) fun t hf y => ?_
  blk_simp
  rw [after0_5]
  obtain ⟨e0, e1, e2⟩ := indexO t
  have key : ∀ (i : Fin 128) (h : Fin 4) (e : Fin 256),
      (win0_5.blk t).view.emb (ix3 (n0 := 1) (n1 := 128) (n2 := 1024) 0 i (wide h e)) = ix3 (rowAt t) i (wide h e) := fun i h e => by
    funext a
    apply Fin.ext
    match a with
    | ⟨0, _⟩ => show win0_5.index t 0 * 1 + 1 * 0 = t.val; omega
    | ⟨1, _⟩ => show win0_5.index t 1 * 128 + 1 * i.val = i.val; omega
    | ⟨2, _⟩ => show win0_5.index t 2 * 1024 + 1 * (wide h e).val = (wide h e).val; omega
  refine congrFun (wide_ext (A := 1) (R := 128) (outsAt0 m c t).1 (fun z => outArray _ ((win0_5.blk t).view.emb z)) fun z i h e => ?_) y
  rw [Subsingleton.elim z 0]
  refine (out_block m c l hl hn t i h e).trans (Eq.trans ?_ (congrArg (outArray _) (key i h e)).symm)
  rw [outArray_apply]

include hl in
/-- The array of states. -/
theorem final_state : (dats m 0 c).arrAt 6 cfg0.N
    = stateArray fun b h e d => stateG 15 (fun t d => argK m c (ix4 b t h d)) (upToG fun t d => l b t h d)
        (fun t e => argV m c (ix4 b t h e)) (fun e d => argS m c (ix4 b h d e)) e d := by
  refine (dats m 0 c).arrAt_eq_of_covers 6 _ (by decide +kernel) fun t hf y => ?_
  blk_simp
  rw [after0_6]
  obtain ⟨e0, e1, e2, e3⟩ := indexF t
  have key : ∀ (h : Fin 4) (e : Fin 256) (d : Fin 128),
      (win0_6.blk t).view.emb (ix4 (n0 := 1) (n1 := 4) (n2 := 256) (n3 := 128) 0 h e d) = ix4 (rowAt t) h e d := fun h e d => by
    funext a
    apply Fin.ext
    match a with
    | ⟨0, _⟩ => show win0_6.index t 0 * 1 + 1 * 0 = t.val; omega
    | ⟨1, _⟩ => show win0_6.index t 1 * 4 + 1 * h.val = h.val; omega
    | ⟨2, _⟩ => show win0_6.index t 2 * 256 + 1 * e.val = e.val; omega
    | ⟨3, _⟩ => show win0_6.index t 3 * 128 + 1 * d.val = d.val; omega
  refine congrFun (state_ext (A := 1) (B := 4) (C := 256) (D := 128) (outsAt0 m c t).2 (fun z => stateArray _ ((win0_6.blk t).view.emb z)) fun z h e d => ?_) y
  rw [Subsingleton.elim z 0]
  refine (state_block m c l hl t h e d).trans (Eq.trans ?_ (congrArg (stateArray _) (key h e d)).symm)
  rfl

end Cert.Gla.Sample

end
-- ==== Proof.SampleTrips.lean ====
module

public import proofs.«01_k».proof.Proof.Gen.SampleReferenceIdeal.Run
public import proofs.«01_k».proof.Proof.Gen.SampleReferenceIdeal.Step

/-! The sample reference's loop, followed trip by trip: a valuation that carries the state of the generated step module
keeps carrying it through one trip, so the results of a run are fields of the state after the last trip. -/

@[expose] public section

set_option maxRecDepth 16384

noncomputable section

namespace Cert.SampleReferenceIdeal.Trips

open Idealize.ShloMosaic Idealize.ShloMosaic.TcCoe Idealize.SL.Sem Idealize.ShloMosaic.StableHlo
open Cert.SampleReferenceIdeal Cert.SampleReferenceIdeal.Gen Cert.SampleReferenceIdeal.Value
open Cert.SampleReferenceIdeal.Step (State step init)

variable {F : FTy → Type} [FloatOps F]

/-- The loop's buffers carry the state `s`, the causal mask and the trip's number `j`. -/
structure Carries (V : Valuation τ sig (Elt F)) (s : State F) (j : ℕ) : Prop where
  state : V (Proc.devRef .tc main_v16_6) = s.main_v16_6
  outs : V (Proc.devRef .tc main_v16_7) = s.main_v16_7
  q : V (Proc.devRef .tc main_v16_0) = s.main_v16_0
  k : V (Proc.devRef .tc main_v16_1) = s.main_v16_1
  v : V (Proc.devRef .tc main_v16_2) = s.main_v16_2
  la : V (Proc.devRef .tc main_v16_3) = s.main_v16_3
  trip : V (Proc.devRef .tc main_v16_5) = constantI S_ 32 (BitVec.ofNat 32 j)
  mask : V (Proc.devRef .tc main_v16_4) = Cert.SampleReferenceIdeal.Step.K_main_v6 (F := F)

variable {V : Valuation τ sig (Elt F)} {s : State F} {j : ℕ}

/-- The carried state of the next trip. -/
theorem state_next (h : Carries V s j) : step_main_v16_6 V = (step j s).main_v16_6 := by
  unfold step_main_v16_6 res_main_while0b_v48 res_main_while0b_v27 res_main_while0b_v25 res_main_while0b_v24
  simp only [h.state, h.outs, h.q, h.k, h.v, h.la, h.trip, h.mask]
  rfl

/-- The stacked results after the next trip. -/
theorem outs_next (h : Carries V s j) : step_main_v16_7 V = (step j s).main_v16_7 := by
  unfold step_main_v16_7 res_main_while0b_v27 res_main_while0b_v25 res_main_while0b_v24 res_main_while0b_v23
  simp only [h.state, h.outs, h.q, h.k, h.v, h.la, h.trip, h.mask]
  rfl

/-- The counter of the next trip. -/
theorem trip_next (h : Carries V s j) : step_main_v16_5 V = constantI S_ 32 (BitVec.ofNat 32 (j + 1)) := by
  unfold step_main_v16_5
  rw [h.trip]
  funext i
  change BitVec.ofNat 32 j + 1#32 = BitVec.ofNat 32 (j + 1)
  rw [BitVec.ofNat_add]

/-- One trip carries the next state. -/
theorem carries_next (h : Carries V s j) : Carries (STEP V) (step j s) (j + 1) where
  state := (STEP_main_v16_6 V).trans (state_next h)
  outs := (STEP_main_v16_7 V).trans (outs_next h)
  q := (STEP_main_v16_0 V).trans h.q
  k := (STEP_main_v16_1 V).trans h.k
  v := (STEP_main_v16_2 V).trans h.v
  la := (STEP_main_v16_3 V).trans h.la
  trip := (STEP_main_v16_5 V).trans (trip_next h)
  mask := (STEP_main_v16_4 V).trans h.mask

/-- The state after `n` trips from `s`. -/
def after (s : State F) : ℕ → State F
  | 0 => s
  | n + 1 => step n (after s n)

variable (m : (ℓ : Loc nD τ sig) → Buf (Elt F) ℓ) (c : Dev nD)

/-- The state the loop starts from. -/
def start : State F := init (m ((c.tc : Thread nD τ).loc main_arg4)) (m ((c.tc : Thread nD τ).loc main_arg0)) (m ((c.tc : Thread nD τ).loc main_arg1)) (m ((c.tc : Thread nD τ).loc main_arg2)) (m ((c.tc : Thread nD τ).loc main_arg3))

set_option maxRecDepth 65536 in
set_option maxHeartbeats 800000 in
/-- The operations before the loop leave the starting state. -/
theorem carries_entry : Carries (entryContents preI m c) (start m c) 0 := by
  constructor <;> (simp only [entryContents, afterL_cons, afterL_nil]; after_reads_simp) <;> rfl

/-- Before every trip the loop carries the state of that trip. -/
theorem carries_after : ∀ n, Carries (STEP^[n] (entryContents preI m c)) (after (start m c) n) n
  | 0 => carries_entry m c
  | n + 1 => by
    rw [Function.iterate_succ_apply']
    exact carries_next (carries_after n)

/-- A run's results are read off the state after the last trip. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v21) = Cert.SampleReferenceIdeal.Step.R_main_v21 (after (start m c) 1)
      ∧ r.2.mem ((c.tc : Thread nD τ).loc main_v22) = Cert.SampleReferenceIdeal.Step.R_main_v22 (after (start m c) 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  have hk := carries_after m c 1
  refine ⟨(h c).1.trans ?_, (h c).2.1.trans ?_, (h c).2.2⟩
  · unfold out_main_v21 Cert.SampleReferenceIdeal.Step.R_main_v21
    simp only [hk.outs]
  · unfold out_main_v22 Cert.SampleReferenceIdeal.Step.R_main_v22
    simp only [hk.state]

end Cert.SampleReferenceIdeal.Trips

end
-- ==== Proof.SampleRef.lean ====
module

public import proofs.«01_k».proof.Proof.SampleTrips
public import proofs.«01_k».proof.Proof.RefChunk
public import proofs.«01_k».proof.Proof.RefLayout
public import proofs.«01_k».proof.Proof.Target

/-! The sample's reference: what it computes, of its arguments. -/

@[expose] public section

set_option maxRecDepth 16384

noncomputable section

namespace Cert.Gla.SampleRef

open Idealize.ShloMosaic hiding ix1 ix2 ix3 ix4 ix5
open Idealize.ShloMosaic.ValueIdx
open Cert.SampleReferenceIdeal Cert.SampleReferenceIdeal.Gen Cert.SampleReferenceIdeal.Step

variable (xS : FVec Ideal S8x4x128x256 .f32) (xq xk : FVec Ideal S8x16x4x128 .f32) (xv : FVec Ideal S8x16x4x256 .f32) (xl : FVec Ideal S8x16x4x128 .f32)

/-- The loop's first state. -/
def first : State Ideal := init xS xq xk xv xl

theorem chunk_at (x : S1x8x64x4x128.Idx → EReal) (b : Fin 8) (t : Fin 64) (h : Fin 4) (d : Fin 128)
    (start : Fin 5 → Int) (hs : start = fun _ => 0) :
    shapeCast S8x64x4x128 (Host.dynamicSlice S1x8x64x4x128 x start sliceFits_S1x8x64x4x128_S1x8x64x4x128) shapeCasts_S1x8x64x4x128_S8x64x4x128
      (ix4 b t h d) = x (ix5 0 b t h d) := by
  refine (shapeCast_apply _ _ _ (ix5 (n0 := 1) (n1 := 8) (n2 := 64) (n3 := 4) (n4 := 128) 0 b t h d) ?_).trans ?_
  · rw [Shape.rowMajor_val_four, Shape.rowMajor_val_five]
    show (((0 * 8 + b.val) * 64 + t.val) * 4 + h.val) * 128 + d.val = ((b.val * 64 + t.val) * 4 + h.val) * 128 + d.val
    omega
  · exact slice_chunk (N := 1) (W := 128) x start _ 0 (by rw [hs]; rfl) (fun a _ => by rw [hs]) b t h d

theorem wide_chunk_at (x : S1x8x64x4x256.Idx → EReal) (b : Fin 8) (t : Fin 64) (h : Fin 4) (d : Fin 256)
    (start : Fin 5 → Int) (hs : start = fun _ => 0) :
    shapeCast S8x64x4x256 (Host.dynamicSlice S1x8x64x4x256 x start sliceFits_S1x8x64x4x256_S1x8x64x4x256) shapeCasts_S1x8x64x4x256_S8x64x4x256
      (ix4 b t h d) = x (ix5 0 b t h d) := by
  refine (shapeCast_apply _ _ _ (ix5 (n0 := 1) (n1 := 8) (n2 := 64) (n3 := 4) (n4 := 256) 0 b t h d) ?_).trans ?_
  · rw [Shape.rowMajor_val_four, Shape.rowMajor_val_five]
    show (((0 * 8 + b.val) * 64 + t.val) * 4 + h.val) * 256 + d.val = ((b.val * 64 + t.val) * 4 + h.val) * 256 + d.val
    omega
  · exact slice_chunk (N := 1) (W := 256) x start _ 0 (by rw [hs]; rfl) (fun a _ => by rw [hs]) b t h d

theorem atQ (b : Fin 8) (t : Fin 64) (h : Fin 4) (d : Fin 128) :
    b5 0 (first xS xq xk xv xl) (ix4 b t h d) = A_main_v8 xq xk xv xl (ix5 0 b t h d) := by
  refine chunk_at (A_main_v8 (F := Ideal) xq xk xv xl) b t h d _ ?_
  funext k
  match k with
  | ⟨0, _⟩ => rfl
  | ⟨1, _⟩ => rfl
  | ⟨2, _⟩ => rfl
  | ⟨3, _⟩ => rfl
  | ⟨4, _⟩ => rfl

theorem rowQ (b : Fin 8) (h : Fin 4) :
    (fun (t : Fin 64) (d : Fin 128) => b5 0 (first xS xq xk xv xl) (ix4 b t h d)) = grow 64 fun t d => xq (ix4 b t h d) := by
  funext t d
  rw [atQ]
  refine (chunked (N := 1) (n := 16) (M := 64) (lo := 0) (hi := 48) (W := 128) xq _ rfl _ _ rfl _ _ 0 b t h d).trans ?_
  unfold grow
  by_cases ht : t.val < 16
  · rw [dif_pos ⟨by omega, by show 0 * 64 + t.val - 0 < 16; omega⟩, dif_pos ht]
    exact congrArg (fun s => xq (ix4 b s h d)) (Fin.ext (by show 0 * 64 + t.val - 0 = t.val; omega))
  · rw [dif_neg (by show ¬(0 ≤ 0 * 64 + t.val ∧ 0 * 64 + t.val - 0 < 16); omega), dif_neg ht]

theorem atK (b : Fin 8) (t : Fin 64) (h : Fin 4) (d : Fin 128) :
    b11 0 (first xS xq xk xv xl) (ix4 b t h d) = A_main_v10 xq xk xv xl (ix5 0 b t h d) := by
  refine chunk_at (A_main_v10 (F := Ideal) xq xk xv xl) b t h d _ ?_
  funext k
  match k with
  | ⟨0, _⟩ => rfl
  | ⟨1, _⟩ => rfl
  | ⟨2, _⟩ => rfl
  | ⟨3, _⟩ => rfl
  | ⟨4, _⟩ => rfl

theorem rowK (b : Fin 8) (h : Fin 4) :
    (fun (t : Fin 64) (d : Fin 128) => b11 0 (first xS xq xk xv xl) (ix4 b t h d)) = grow 64 fun t d => xk (ix4 b t h d) := by
  funext t d
  rw [atK]
  refine (chunked (N := 1) (n := 16) (M := 64) (lo := 0) (hi := 48) (W := 128) xk _ rfl _ _ rfl _ _ 0 b t h d).trans ?_
  unfold grow
  by_cases ht : t.val < 16
  · rw [dif_pos ⟨by omega, by show 0 * 64 + t.val - 0 < 16; omega⟩, dif_pos ht]
    exact congrArg (fun s => xk (ix4 b s h d)) (Fin.ext (by show 0 * 64 + t.val - 0 = t.val; omega))
  · rw [dif_neg (by show ¬(0 ≤ 0 * 64 + t.val ∧ 0 * 64 + t.val - 0 < 16); omega), dif_neg ht]

theorem atL (b : Fin 8) (t : Fin 64) (h : Fin 4) (d : Fin 128) :
    b23 0 (first xS xq xk xv xl) (ix4 b t h d) = A_main_v14 xq xk xv xl (ix5 0 b t h d) := by
  refine chunk_at (A_main_v14 (F := Ideal) xq xk xv xl) b t h d _ ?_
  funext k
  match k with
  | ⟨0, _⟩ => rfl
  | ⟨1, _⟩ => rfl
  | ⟨2, _⟩ => rfl
  | ⟨3, _⟩ => rfl
  | ⟨4, _⟩ => rfl

theorem rowL (b : Fin 8) (h : Fin 4) :
    (fun (t : Fin 64) (d : Fin 128) => b23 0 (first xS xq xk xv xl) (ix4 b t h d)) = grow 64 fun t d => xl (ix4 b t h d) := by
  funext t d
  rw [atL]
  refine (chunked (N := 1) (n := 16) (M := 64) (lo := 0) (hi := 48) (W := 128) xl _ rfl _ _ rfl _ _ 0 b t h d).trans ?_
  unfold grow
  by_cases ht : t.val < 16
  · rw [dif_pos ⟨by omega, by show 0 * 64 + t.val - 0 < 16; omega⟩, dif_pos ht]
    exact congrArg (fun s => xl (ix4 b s h d)) (Fin.ext (by show 0 * 64 + t.val - 0 = t.val; omega))
  · rw [dif_neg (by show ¬(0 ≤ 0 * 64 + t.val ∧ 0 * 64 + t.val - 0 < 16); omega), dif_neg ht]

theorem atV (b : Fin 8) (t : Fin 64) (h : Fin 4) (d : Fin 256) :
    b17 0 (first xS xq xk xv xl) (ix4 b t h d) = A_main_v12 xq xk xv xl (ix5 0 b t h d) := by
  refine wide_chunk_at (A_main_v12 (F := Ideal) xq xk xv xl) b t h d _ ?_
  funext k
  match k with
  | ⟨0, _⟩ => rfl
  | ⟨1, _⟩ => rfl
  | ⟨2, _⟩ => rfl
  | ⟨3, _⟩ => rfl
  | ⟨4, _⟩ => rfl

theorem rowV (b : Fin 8) (h : Fin 4) :
    (fun (t : Fin 64) (d : Fin 256) => b17 0 (first xS xq xk xv xl) (ix4 b t h d)) = grow 64 fun t d => xv (ix4 b t h d) := by
  funext t d
  rw [atV]
  refine (chunked (N := 1) (n := 16) (M := 64) (lo := 0) (hi := 48) (W := 256) xv _ rfl _ _ rfl _ _ 0 b t h d).trans ?_
  unfold grow
  by_cases ht : t.val < 16
  · rw [dif_pos ⟨by omega, by show 0 * 64 + t.val - 0 < 16; omega⟩, dif_pos ht]
    exact congrArg (fun s => xv (ix4 b s h d)) (Fin.ext (by show 0 * 64 + t.val - 0 = t.val; omega))
  · rw [dif_neg (by show ¬(0 ≤ 0 * 64 + t.val ∧ 0 * 64 + t.val - 0 < 16); omega), dif_neg ht]

variable (l : Fin 8 → Fin 16 → Fin 4 → Fin 128 → ℝ) (hl : ∀ b t h d, xl (ix4 b t h d) = (l b t h d : EReal))

/-- The log decays of the chunk as reals. -/
def logs (b : Fin 8) (t : Fin 64) (h : Fin 4) (d : Fin 128) : ℝ := grow 64 (fun t d => l b t h d) t d

include hl in
theorem logs_eq (b : Fin 8) (t : Fin 64) (h : Fin 4) (d : Fin 128) :
    b23 0 (first xS xq xk xv xl) (ix4 b t h d) = (logs l b t h d : EReal) := by
  refine (congrFun (congrFun (rowL xS xq xk xv xl b h) t) d).trans ?_
  unfold logs grow
  by_cases ht : t.val < 16
  · rw [dif_pos ht, dif_pos ht]
    exact hl _ _ _ _
  · rw [dif_neg ht, dif_neg ht]
    rfl

include hl in
/-- The new states. -/
theorem final_state : R_main_v22 (Trips.after (first xS xq xk xv xl) 1)
    = stateArray fun b h e d => stateG 15 (fun t d => xk (ix4 b t h d)) (upToG fun t d => l b t h d) (fun t e => xv (ix4 b t h e)) (fun e d => xS (ix4 b h d e)) e d := by
  refine state_ext _ _ fun b h e d => ?_
  have e1 : R_main_v22 (Trips.after (first xS xq xk xv xl) 1) (ix4 b h e d) = b66 0 (first xS xq xk xv xl) (ix4 b h d e) :=
    congrArg (b66 0 (first xS xq xk xv xl)) (funext fun a => Fin.ext (by
      match a with
      | ⟨0, _⟩ => rfl
      | ⟨1, _⟩ => rfl
      | ⟨2, _⟩ => rfl
      | ⟨3, _⟩ => rfl))
  refine e1.trans ?_
  refine (Ref.state_real (b11 0 (first xS xq xk xv xl)) (b17 0 (first xS xq xk xv xl)) (b23 0 (first xS xq xk xv xl)) xS (logs l)
    (logs_eq xS xq xk xv xl l hl) b h d e).trans ?_
  rw [rowK, rowV]
  exact stateG_grow (n := 16) (C := 64) (by decide) _ (fun t d => l b t h d) _ _ 63 15 rfl (by decide) e d

include hl in
/-- The results. -/
theorem final_out : R_main_v21 (Trips.after (first xS xq xk xv xl) 1)
    = outArray fun b t h e => if ht : t.val < 16 then outG (fun t d => xq (ix4 b t h d)) (fun t d => xk (ix4 b t h d)) (upToG fun t d => l b t h d)
        (fun t e => xv (ix4 b t h e)) (fun e d => xS (ix4 b h d e)) ⟨t.val, ht⟩ e else 0 := by
  refine wide_ext _ _ fun b t h e => ?_
  rw [outArray_apply]
  refine (unchunked (N := 1) (n := 16) (M := 64) (lo := 0) (p := 112) (R := 128) (b73 0 (first xS xq xk xv xl)) _ rfl rfl (by decide) _ _ _ _ _ _ b t h e).trans ?_
  by_cases ht : t.val < 16
  · rw [dif_pos ht, dif_pos ht]
    have e0 : (⟨(0 + t.val) / 64, by omega⟩ : Fin 1) = 0 := Subsingleton.elim _ _
    have e1 : (⟨(0 + t.val) % 64, by omega⟩ : Fin 64) = ⟨t.val, by omega⟩ := Fin.ext (by show (0 + t.val) % 64 = t.val; omega)
    rw [e0, e1]
    refine (update_chunk (N := 1) (W := 256) (K_main_v15 (F := Ideal)) (b68 0 (first xS xq xk xv xl)) _ _ 0 rfl (fun a ha => by fin_cases a <;> first | rfl | exact absurd rfl ha) 0 b _ h e).trans ?_
    rw [if_pos rfl]
    have e2 : b68 0 (first xS xq xk xv xl) (ix5 0 b ⟨t.val, by omega⟩ h e) = b67 0 (first xS xq xk xv xl) (ix4 b ⟨t.val, by omega⟩ h e) :=
      congrArg (b67 0 (first xS xq xk xv xl)) (funext fun a => Fin.ext (by
        match a with
        | ⟨0, _⟩ => rfl
        | ⟨1, _⟩ => rfl
        | ⟨2, _⟩ => rfl
        | ⟨3, _⟩ => rfl))
    refine e2.trans ?_
    refine (Ref.out_real (b5 0 (first xS xq xk xv xl)) (b11 0 (first xS xq xk xv xl)) (b17 0 (first xS xq xk xv xl)) (b23 0 (first xS xq xk xv xl)) xS (logs l)
      (logs_eq xS xq xk xv xl l hl) b ⟨t.val, by omega⟩ h e).trans ?_
    rw [rowQ, rowK, rowV]
    exact (outG_grow (n := 16) (C := 64) (by decide) _ _ (fun t d => l b t h d) _ _ ⟨t.val, by omega⟩ e).trans (dif_pos ht)
  · rw [dif_neg ht, dif_neg ht]

end Cert.Gla.SampleRef

end
-- ==== Proof.SampleClaim.lean ====
module

public import proofs.«01_k».proof.Proof.SampleValue
public import proofs.«01_k».proof.Proof.SamplePre
public import proofs.«01_k».proof.Proof.SampleRef
public import proofs.«01_k».proof.Proof.SampleTrips
public import proofs.«01_k».proof.Proof.Gen.Sample.Frame
public import proofs.«01_k».proof.Proof.Gen.SampleIdeal.Frame

/-! The sample's claims: the frames, and kernel and reference end with equal results. -/

@[expose] public section

set_option maxRecDepth 16384

noncomputable section

namespace Cert.Gla

open Idealize.ShloMosaic hiding ix1 ix2 ix3 ix4 ix5
open Idealize.ShloMosaic.TcCoe Idealize.ShloMosaic.ValueIdx Idealize.SL.Sem

theorem frame_sample : Cert.quiescent_Sample := fun m ρ _ => Cert.Sample.Gen.frame m ρ
theorem frame_sampleIdeal : Cert.quiescent_SampleIdeal := fun m ρ _ => Cert.SampleIdeal.Gen.frame m ρ
theorem frame_sampleIdeal_gates : Cert.quiescent_SampleIdeal_pre_gates := fun m ρ _ => Cert.SampleIdeal.Gen.frame m ρ

/-- The reference keeps its arguments, and declares no semaphore. -/
theorem frame_sampleReference : Cert.quiescent_SampleReferenceIdeal := fun m ρ _ =>
  (θ_run Cert.SampleReferenceIdeal.defs _ _).mono (fun r h => ⟨fun c => (h c).2.2, sem_eq_zero_of_no_sems (by decide) r.2⟩)
    (Cert.SampleReferenceIdeal.Trips.run (F := Ideal) m ρ)

theorem frame_sampleReference_gates : Cert.quiescent_SampleReferenceIdeal_pre_gates := fun m ρ _ => frame_sampleReference m ρ trivial

/-- From equal arguments with gates in (0, 1], the two programs end with equal results. -/
theorem algebraic_sample : Cert.algebraic_SampleIdeal_SampleReferenceIdeal_pre_gates := by
  intro m ρ m' ρ' hp ha
  have hl : ∀ c (b : Fin 8) (t : Fin 16) (h : Fin 4) (d : Fin 128),
      Sample.argL m c (ix4 b t h d) = (((Sample.argL m c (ix4 b t h d)).toReal : ℝ) : EReal) := fun c b t h d =>
    (gates_apply _ _ _ _ _ (hp c) (ix4 b t h d)).1
  have hn : ∀ c (b : Fin 8) (t : Fin 16) (h : Fin 4) (d : Fin 128), (Sample.argL m c (ix4 b t h d)).toReal ≤ 0 := fun c b t h d =>
    (gates_apply _ _ _ _ _ (hp c) (ix4 b t h d)).2
  have hs : ∀ c, Cert.SampleReferenceIdeal.Trips.start m' c
      = SampleRef.first (Sample.argS m c) (Sample.argQ m c) (Sample.argK m c) (Sample.argV m c) (Sample.argL m c) := fun c => by
    unfold Cert.SampleReferenceIdeal.Trips.start SampleRef.first
    rw [(ha c).1, (ha c).2.1, (ha c).2.2.1, (ha c).2.2.2.1, (ha c).2.2.2.2]
    rfl
  refine ⟨fun c => (Cert.SampleIdeal.Gen.dats m 0 c).arrAt 5 Cert.SampleIdeal.cfg0.N,
    fun c => (Cert.SampleIdeal.Gen.dats m 0 c).arrAt 6 Cert.SampleIdeal.cfg0.N, Cert.SampleIdeal.Value.run_blocks m ρ, ?_⟩
  refine (θ_run Cert.SampleReferenceIdeal.defs _ _).mono (fun r h c => ⟨(h c).1.trans ?_, (h c).2.1.trans ?_, (h c).2.2⟩)
    (Cert.SampleReferenceIdeal.Trips.run (F := Ideal) m' ρ')
  · rw [hs c]
    exact (SampleRef.final_out _ _ _ _ _ _ (hl c)).trans (Sample.final_out m c _ (hl c) (hn c)).symm
  · rw [hs c]
    exact (SampleRef.final_state _ _ _ _ _ _ (hl c)).trans (Sample.final_state m c _ (hl c)).symm

end Cert.Gla

end
-- ==== Proof.ProjectMath.lean ====
module

public import Idealize.ShloMosaic.Lib.ValueIdx
public import Idealize.ShloMosaic.Lib.IdealHost
public import Idealize.ShloMosaic.Lib.KernelVsHost
public import Idealize.ShloMosaic.Lib.Pipeline.Value
public import Idealize.ShloMosaic.Lib.Pipeline.ValueKit.Geometry

/-! The input projection as a formula: one product of a token's features with each column of the weights, and the three
pointwise maps behind it. A launch sees the tokens of eight streams in one list of rows. -/

@[expose] public section

set_option maxRecDepth 16384

noncomputable section

namespace Cert.Proj

open Idealize.ShloMosaic Idealize.ShloMosaic.ValueIdx
open scoped BigOperators

variable {T R : ℕ}

theorem tokens_pos (hR : R = 8 * T) (r : Fin R) : 0 < T := by
  rcases Nat.eq_zero_or_pos T with h | h
  · exact absurd r.isLt (by omega)
  · exact h

/-- The stream a row belongs to. -/
def streamOf (hR : R = 8 * T) (r : Fin R) : Fin 8 :=
  ⟨r.val / T, Nat.div_lt_of_lt_mul (lt_of_lt_of_eq r.isLt (hR.trans (Nat.mul_comm 8 T)))⟩
/-- The place of a row's token in its stream. -/
def placeOf (hR : R = 8 * T) (r : Fin R) : Fin T := ⟨r.val % T, Nat.mod_lt _ (tokens_pos hR r)⟩

/-- The product of a row's features with column `j` of the weights. -/
def proj (hR : R = 8 * T) (h : FVec Ideal ⟨3, ![8, T, 1024]⟩ .f32) (w : FVec Ideal ⟨2, ![1024, 6672]⟩ .f32) (r : Fin R) (j : Fin 6672) : EReal :=
  ∑ k : Fin 1024, h (ix3 (streamOf hR r) (placeOf hR r) k) * w (ix2 k j)

/-- `N` columns from column `o` on. -/
def cols (o N : ℕ) (ho : o + N ≤ 6672) (hR : R = 8 * T) (h : FVec Ideal ⟨3, ![8, T, 1024]⟩ .f32) (w : FVec Ideal ⟨2, ![1024, 6672]⟩ .f32)
    (r : Fin R) (j : Fin N) : EReal := proj hR h w r ⟨o + j.val, by omega⟩

/-- The sixteen low-rank columns through the second weights, with the bias. -/
def lowRank (hR : R = 8 * T) (h : FVec Ideal ⟨3, ![8, T, 1024]⟩ .f32) (w : FVec Ideal ⟨2, ![1024, 6672]⟩ .f32)
    (w2 : FVec Ideal ⟨2, ![16, 512]⟩ .f32) (bias : FVec Ideal ⟨1, ![512]⟩ .f32) (r : Fin R) (j : Fin 512) : EReal :=
  (∑ s : Fin 16, cols 4608 16 (by omega) hR h w r s * w2 (ix2 s j)) + bias (ix1 j)

/-- An array of rows and columns from its entries. -/
def table {N : ℕ} (f : Fin R → Fin N → EReal) : (⟨2, ![R, N]⟩ : Shape).Idx → EReal := fun i => f (i 0) (i 1)

/-- The constant one, as the programs spell it. -/
def one : EReal := Ideal.ofBits .f32 0x3F800000#32

/-- The logistic function. -/
def logistic (x : EReal) : EReal := Ideal.div one (one + Ideal.exp (-x))

/-- `log (1 + exp y)`, the larger part taken out. -/
def softplus (y : EReal) : EReal := max y 0 + Ideal.log (one + Ideal.exp (-(max y (-y))))

/-- A sixteenth of the log of the logistic function. -/
def logDecay (x : EReal) : EReal := -softplus (-x) * Ideal.ofBits .f32 0x3D800000#32

theorem word_zero : Ideal.ofBits .f32 0x00000000#32 = 0 := by simp [Ideal.ofBits, Ideal.ieee]

theorem word_one : Ideal.ofBits .f32 0x3F800000#32 = 1 := by
  simp [Ideal.ofBits, Ideal.ieee]
  rw [← EReal.coe_mul, ← EReal.coe_one]
  norm_num

theorem word_sixteen : Ideal.ofBits .f32 0x41800000#32 = ((16 : ℝ) : EReal) := by
  simp [Ideal.ofBits, Ideal.ieee]
  rw [← EReal.coe_mul]
  norm_num

theorem word_sixteenth : Ideal.ofBits .f32 0x3D800000#32 = ((16 : ℝ)⁻¹ : ℝ) := by
  simp [Ideal.ofBits, Ideal.ieee]
  rw [← EReal.coe_mul]
  norm_num

/-- Dividing by sixteen multiplies by a sixteenth. -/
theorem div_sixteen (x : EReal) : Ideal.div x (Ideal.ofBits .f32 0x41800000#32) = x * Ideal.ofBits .f32 0x3D800000#32 := by
  rw [word_sixteen, word_sixteenth]
  unfold Ideal.div
  rw [if_neg (by exact_mod_cast (by norm_num : (16 : ℝ) ≠ 0)), EReal.coe_inv]

/-- A list of rows read by stream and place. -/
theorem flat_apply {N : ℕ} {α : Type} (hR : R = 8 * T) (x : (⟨3, ![8, T, N]⟩ : Shape).Idx → α)
    (hc : (⟨3, ![8, T, N]⟩ : Shape).ShapeCasts ⟨2, ![R, N]⟩) (r : Fin R) (j : Fin N) :
    shapeCast ⟨2, ![R, N]⟩ x hc (ix2 r j) = x (ix3 (streamOf hR r) (placeOf hR r) j) := by
  refine shapeCast_apply _ _ _ _ ?_
  rw [Shape.rowMajor_val_three, Shape.rowMajor_val_two]
  show (r.val / T * T + r.val % T) * N + j.val = r.val * N + j.val
  rw [Nat.div_add_mod']

/-- Columns cut out of an array of tokens. -/
theorem slice_apply {N M : ℕ} {α : Type} (o : ℕ) (ho : o + N ≤ M) (x : (⟨3, ![8, T, M]⟩ : Shape).Idx → α)
    (hs : (⟨3, ![8, T, M]⟩ : Shape).Slices ![0, 0, o] ⟨3, ![8, T, N]⟩) (b : Fin 8) (t : Fin T) (j : Fin N) :
    extractStridedSlice ⟨3, ![8, T, N]⟩ ![0, 0, o] x hs (ix3 b t j) = x (ix3 b t ⟨o + j.val, by omega⟩) :=
  extractStridedSlice_apply _ _ _ _ _ fun a => by
    match a with
    | ⟨0, _⟩ => show b.val = 0 + b.val; omega
    | ⟨1, _⟩ => show t.val = 0 + t.val; omega
    | ⟨2, _⟩ => rfl

/-! ### Weights laid out for the launch -/

/-- Where a column of the main weights stands among all columns: sixteen columns are left out after the first 4608. -/
def mainCol (j : Fin 6656) : Fin 6672 := ⟨if j.val < 4608 then j.val else j.val + 16, by split <;> omega⟩

/-- The main weights: all columns but the sixteen low-rank ones. -/
theorem main_weights (w : FVec Ideal ⟨2, ![1024, 6672]⟩ .f32)
    (h1 : (⟨2, ![1024, 6672]⟩ : Shape).Slices ![0, 0] ⟨2, ![1024, 4608]⟩)
    (h2 : (⟨2, ![1024, 6672]⟩ : Shape).Slices ![0, 4624] ⟨2, ![1024, 2048]⟩)
    (hc : Shape.Concatenates [(⟨2, ![1024, 4608]⟩ : Shape), ⟨2, ![1024, 2048]⟩] ⟨2, ![1024, 6656]⟩ 1) (k : Fin 1024) (j : Fin 6656) :
    concatenate ⟨2, ![1024, 6656]⟩ 1 [⟨⟨2, ![1024, 4608]⟩, extractStridedSlice ⟨2, ![1024, 4608]⟩ ![0, 0] w h1⟩,
        ⟨⟨2, ![1024, 2048]⟩, extractStridedSlice ⟨2, ![1024, 2048]⟩ ![0, 4624] w h2⟩] hc (ix2 k j) = w (ix2 k (mainCol j)) := by
  by_cases hj : j.val < 4608
  · refine (concatenate_pair_apply_left (t := ⟨2, ![1024, 6656]⟩) (s₁ := ⟨2, ![1024, 4608]⟩) (s₂ := ⟨2, ![1024, 2048]⟩) 1 _ _ hc (ix2 k j) rfl
      (ix2 (n0 := 1024) (n1 := 4608) k ⟨j.val, hj⟩) (fun a => by
        match a with
        | ⟨0, _⟩ => rfl
        | ⟨1, _⟩ => rfl)).trans ?_
    refine extractStridedSlice_apply _ _ _ _ _ fun a => ?_
    match a with
    | ⟨0, _⟩ => show k.val = 0 + k.val; omega
    | ⟨1, _⟩ => show (if j.val < 4608 then j.val else j.val + 16) = 0 + j.val; rw [if_pos hj]; omega
  · refine (concatenate_pair_apply_right (t := ⟨2, ![1024, 6656]⟩) (s₁ := ⟨2, ![1024, 4608]⟩) (s₂ := ⟨2, ![1024, 2048]⟩) 1 _ _ hc (ix2 k j) rfl rfl
      (ix2 (n0 := 1024) (n1 := 2048) k ⟨j.val - 4608, by omega⟩) (fun a ha => by
        match a, ha with
        | ⟨0, _⟩, _ => rfl
        | ⟨1, _⟩, ha => exact absurd rfl ha) (by show j.val - 4608 + 4608 = j.val; omega)).trans ?_
    refine extractStridedSlice_apply _ _ _ _ _ fun a => ?_
    match a with
    | ⟨0, _⟩ => show k.val = 0 + k.val; omega
    | ⟨1, _⟩ => show (if j.val < 4608 then j.val else j.val + 16) = 4624 + (j.val - 4608); rw [if_neg hj]; omega

/-- The low-rank weights: sixteen columns, then columns of zeros. -/
theorem low_weights (w : FVec Ideal ⟨2, ![1024, 6672]⟩ .f32) (z : BitVec 32) (hz : z = 0#32)
    (h1 : (⟨2, ![1024, 6672]⟩ : Shape).Slices ![0, 4608] ⟨2, ![1024, 16]⟩)
    (hp : (⟨2, ![1024, 16]⟩ : Shape).Pads ![0, 0] ![0, 112] ![0, 0] ⟨2, ![1024, 128]⟩) (hu : 0 < (⟨0, ![]⟩ : Shape).numel)
    (k : Fin 1024) (j : Fin 128) :
    pad ⟨2, ![1024, 128]⟩ ![0, 0] ![0, 112] ![0, 0] (extractStridedSlice ⟨2, ![1024, 16]⟩ ![0, 4608] w h1)
        (sitofp (F := Ideal) .f32 (constantI (⟨0, ![]⟩ : Shape) 32 z)) hp hu (ix2 k j)
      = if hj : j.val < 16 then w (ix2 k ⟨4608 + j.val, by omega⟩) else 0 := by
  by_cases hj : j.val < 16
  · rw [dif_pos hj, pad_apply_of_inside _ _ _ _ _ _ _ (ix2 k j) (ix2 (n0 := 1024) (n1 := 16) k ⟨j.val, hj⟩) (fun a => by
      match a with
      | ⟨0, _⟩ => show k.val = 0 + k.val * (0 + 1); omega
      | ⟨1, _⟩ => show j.val = 0 + j.val * (0 + 1); omega)]
    refine extractStridedSlice_apply _ _ _ _ _ fun a => ?_
    match a with
    | ⟨0, _⟩ => show k.val = 0 + k.val; omega
    | ⟨1, _⟩ => rfl
  · rw [dif_neg hj, pad_apply_of_not_inside _ _ _ _ _ _ _ (ix2 k j) ⟨1, by show 1 < 2; decide⟩ (fun hn => hj (by
      have h3 : (j.val - 0) / (0 + 1) < 16 := hn.2.2
      simpa using h3)), hz]
    show (((0#32 : BitVec 32).toInt : ℝ) : EReal) = 0
    norm_num [BitVec.toInt]

/-- The second weights: sixteen rows, then rows of zeros. -/
theorem second_weights (w2 : FVec Ideal ⟨2, ![16, 512]⟩ .f32) (z : BitVec 32) (hz : z = 0#32)
    (hp : (⟨2, ![16, 512]⟩ : Shape).Pads ![0, 0] ![112, 0] ![0, 0] ⟨2, ![128, 512]⟩) (hu : 0 < (⟨0, ![]⟩ : Shape).numel)
    (s : Fin 128) (j : Fin 512) :
    pad ⟨2, ![128, 512]⟩ ![0, 0] ![112, 0] ![0, 0] w2 (sitofp (F := Ideal) .f32 (constantI (⟨0, ![]⟩ : Shape) 32 z)) hp hu (ix2 s j)
      = if hs : s.val < 16 then w2 (ix2 ⟨s.val, hs⟩ j) else 0 := by
  by_cases hs : s.val < 16
  · rw [dif_pos hs, pad_apply_of_inside _ _ _ _ _ _ _ (ix2 s j) (ix2 (n0 := 16) (n1 := 512) ⟨s.val, hs⟩ j) (fun a => by
      match a with
      | ⟨0, _⟩ => show s.val = 0 + s.val * (0 + 1); omega
      | ⟨1, _⟩ => show j.val = 0 + j.val * (0 + 1); omega)]
  · rw [dif_neg hs, pad_apply_of_not_inside _ _ _ _ _ _ _ (ix2 s j) ⟨0, by show 0 < 2; decide⟩ (fun hn => hs (by
      have h3 : (s.val - 0) / (0 + 1) < 16 := hn.2.2
      simpa using h3)), hz]
    show (((0#32 : BitVec 32).toInt : ℝ) : EReal) = 0
    norm_num [BitVec.toInt]

/-- A sum over 128 places whose terms vanish from the sixteenth on. -/
theorem sum_first {f : Fin 128 → EReal} {g : Fin 16 → EReal} (h0 : ∀ s : Fin 128, ¬ s.val < 16 → f s = 0)
    (h1 : ∀ s : Fin 16, f ⟨s.val, by omega⟩ = g s) : ∑ s : Fin 128, f s = ∑ s : Fin 16, g s := by
  have e := Fin.sum_univ_add (a := 16) (b := 112) f
  refine e.trans ?_
  rw [Finset.sum_eq_zero (s := Finset.univ) (f := fun i : Fin 112 => f (Fin.natAdd 16 i)) (fun i _ => h0 _ (by show ¬ 16 + i.val < 16; omega)), add_zero]
  exact Finset.sum_congr rfl fun s _ => h1 s

/-! ### Blocks -/

/-- Columns before the low-rank ones stand where they stood. -/
theorem early {o : ℕ} (N : ℕ) (h : o + N ≤ 4608) (j : Fin N) : (mainCol ⟨o + j.val, by omega⟩).val = o + j.val :=
  if_pos (by show o + j.val < 4608; omega)
/-- Columns behind them have moved up by sixteen. -/
theorem late {o : ℕ} (N : ℕ) (h : 4608 ≤ o) (h' : o + N ≤ 6656) (j : Fin N) : (mainCol ⟨o + j.val, by omega⟩).val = (o + 16) + j.val := by
  refine (if_neg (by show ¬ o + j.val < 4608; omega)).trans ?_
  show o + j.val + 16 = o + 16 + j.val
  omega

/-- A block's columns from column `o` on. -/
theorem ld_cols {K M N o : ℕ} {e : EltTy} (x : Vec Ideal ⟨2, ![K, M]⟩ e)
    (inb : ∀ a, (![0, o] : Fin 2 → ℕ) a + (⟨2, ![K, N]⟩ : Shape).size a ≤ (⟨2, ![K, M]⟩ : Shape).size a)
    (hs : (⟨2, ![K, N]⟩ : Shape).ShapeCasts ⟨2, ![K, N]⟩) (ho : o + N ≤ M) (k : Fin K) (j : Fin N) :
    shapeCast ⟨2, ![K, N]⟩ (View.ld (Val := Elt Ideal) (e' := e) x (Rect.unit (s := ⟨2, ![K, M]⟩) ![0, o] (⟨2, ![K, N]⟩ : Shape).size inb)) hs (ix2 k j)
      = x (ix2 k ⟨o + j.val, by omega⟩) := by
  refine (shapeCast_apply _ _ _ (ix2 k j) rfl).trans ?_
  refine congrArg x (funext fun a => Fin.ext ?_)
  match a with
  | ⟨0, _⟩ => show 0 + 1 * k.val = k.val; omega
  | ⟨1, _⟩ => show o + 1 * j.val = o + j.val; omega

/-- A whole block. -/
theorem ld_whole {K N : ℕ} {e : EltTy} (x : Vec Ideal ⟨2, ![K, N]⟩ e)
    (inb : ∀ a, (![0, 0] : Fin 2 → ℕ) a + (⟨2, ![K, N]⟩ : Shape).size a ≤ (⟨2, ![K, N]⟩ : Shape).size a)
    (hs : (⟨2, ![K, N]⟩ : Shape).ShapeCasts ⟨2, ![K, N]⟩) (k : Fin K) (j : Fin N) :
    shapeCast ⟨2, ![K, N]⟩ (View.ld (Val := Elt Ideal) (e' := e) x (Rect.unit (s := ⟨2, ![K, N]⟩) ![0, 0] (⟨2, ![K, N]⟩ : Shape).size inb)) hs (ix2 k j)
      = x (ix2 k j) := by
  refine (ld_cols x inb hs (by omega) k j).trans (congrArg x (funext fun a => Fin.ext ?_))
  match a with
  | ⟨0, _⟩ => rfl
  | ⟨1, _⟩ => show 0 + j.val = j.val; omega

theorem origin : (![0, 0] : Fin 2 → ℕ) = fun _ => 0 := by
  funext a
  match a with
  | ⟨0, _⟩ => rfl
  | ⟨1, _⟩ => rfl

/-- A block array is its entries. -/
theorem block_ext {M N : ℕ} (f g : (⟨2, ![M, N]⟩ : Shape).Idx → EReal) (h : ∀ (i : Fin M) (j : Fin N), f (ix2 i j) = g (ix2 i j))
    (y : (⟨2, ![M, N]⟩ : Shape).Idx) : f y = g y := by
  rw [ValueIdx.eq_ix2 y]
  exact h _ _

/-! ### The reference's pointwise maps -/

theorem cmp_self (x : EReal) : Ideal.cmp .une x x = 0#1 := by
  unfold Ideal.cmp
  simp

/-- The reference's log of the logistic function, divided by sixteen. -/
theorem logDecay_host (x : EReal) :
    Ideal.div (-(Scalar.select (Ideal.cmp .une (-x - 0) (-x - 0)) (-x + 0) (max (-x) 0 + Ideal.log1p (Ideal.exp (-(max (-x - 0) (-(-x - 0))))))))
      (Ideal.ofBits .f32 0x41800000#32) = logDecay x := by
  rw [cmp_self, sub_zero, div_sixteen]
  show -(max (-x) 0 + Ideal.log (1 + Ideal.exp (-(max (-x) (-(-x)))))) * _ = _
  unfold logDecay softplus one
  rw [word_one]

end Cert.Proj

end
-- ==== Proof.ProjectBlocks.lean ====
module

public import proofs.«01_k».proof.Proof.ProjectMath
public import proofs.«01_k».proof.Proof.Gen.ProjectIdeal.Frame
public import Idealize.ShloMosaic.Lib.Claim
public import Idealize.ShloMosaic.Lib.MatmulPlain
public import Idealize.ShloMosaic.Lib.Pipeline.ValueKit.Geometry

/-! What the prompt's input projection leaves in a block of rows, of the program's arguments. -/

@[expose] public section

set_option maxRecDepth 16384

noncomputable section

namespace Cert.Proj.Prompt

open Idealize.ShloMosaic Idealize.ShloMosaic.TcCoe Idealize.ShloMosaic.ValueIdx
open Cert.ProjectIdeal Cert.ProjectIdeal.Gen
open scoped BigOperators

variable (m : (ℓ : Loc nD τ sig) → Buf (Elt Ideal) ℓ) (c : Dev nD)

/-- The normalised features. -/
def argH : FVec Ideal S8x8208x1024 .f32 := m ((c : Thread nD τ).loc main_arg0)
/-- The projection's weights. -/
def argW : FVec Ideal S1024x6672 .f32 := m ((c : Thread nD τ).loc main_arg1)
/-- The second weights of the log decays. -/
def argW2 : FVec Ideal S16x512 .f32 := m ((c : Thread nD τ).loc main_arg2)
/-- The bias of the log decays. -/
def argB : FVec Ideal S512 .f32 := m ((c : Thread nD τ).loc main_arg3)

/-- The features with zero rows up to whole blocks. -/
def tokens : FVec Ideal S8x8320x1024 .f32 :=
  pad S8x8320x1024 ![0, 0, 0] ![0, 112, 0] ![0, 0, 0] (argH m c) (sitofp .f32 (constantI S_ 32 0#32)) pads_S8x8208x1024_S8x8320x1024_000_01120_000 h_S_

theorem rows_eq : 66560 = 8 * 8320 := rfl

/-- The row at place `i` of a grid point's block. -/
def rowAt (t : Fin cfg0.N) (i : Fin 256) : Fin 66560 := ⟨t.val * 256 + i.val, by have h : t.val < 260 := lt_of_lt_of_eq t.isLt N_0; omega⟩

/-! ### The blocks -/

theorem entryH : (V m c main_v1 : FVec Ideal S66560x1024 .f32) = shapeCast S66560x1024 (tokens m c) shapeCasts_S8x8320x1024_S66560x1024 := by
  unfold tokens argH
  entry_read
  rfl

theorem entryW : (V m c main_v5 : FVec Ideal S1024x6656 .bf16) =
    truncf .bf16 (concatenate S1024x6656 1 [⟨S1024x4608, extractStridedSlice S1024x4608 ![0, 0] (argW m c) slices_S1024x6672_S1024x4608_0_0⟩,
      ⟨S1024x2048, extractStridedSlice S1024x2048 ![0, 4624] (argW m c) slices_S1024x6672_S1024x2048_0_4624⟩] concatenates_S1024x4608_S1024x2048_S1024x6656_d1) bitsLt_bf16_f32 := by
  unfold argW
  entry_read
  rfl

theorem entryL : (V m c main_v8 : FVec Ideal S1024x128 .bf16) =
    truncf .bf16 (pad S1024x128 ![0, 0] ![0, 112] ![0, 0] (extractStridedSlice S1024x16 ![0, 4608] (argW m c) slices_S1024x6672_S1024x16_0_4608)
      (sitofp .f32 (constantI S_ 32 0#32)) pads_S1024x16_S1024x128_000_01120 h_S_) bitsLt_bf16_f32 := by
  unfold argW
  entry_read
  rfl

theorem entryW2 : (V m c main_v9 : FVec Ideal S128x512 .f32) =
    pad S128x512 ![0, 0] ![112, 0] ![0, 0] (argW2 m c) (sitofp .f32 (constantI S_ 32 0#32)) pads_S16x512_S128x512_01120_000 h_S_ := by
  unfold argW2
  entry_read
  rfl

theorem entryB : (V m c main_v10 : FVec Ideal S1x512 .f32) = shapeCast S1x512 (argB m c) shapeCasts_S512_S1x512 := by
  unfold argB
  entry_read
  rfl

theorem indexH : ∀ t : Fin grid0.N, win0_0.index t 0 = t.val ∧ win0_0.index t 1 = 0 := by decide +kernel
theorem indexW : ∀ t : Fin grid0.N, win0_1.index t 0 = 0 ∧ win0_1.index t 1 = 0 := by decide +kernel
theorem indexL : ∀ t : Fin grid0.N, win0_2.index t 0 = 0 ∧ win0_2.index t 1 = 0 := by decide +kernel
theorem indexW2 : ∀ t : Fin grid0.N, win0_3.index t 0 = 0 ∧ win0_3.index t 1 = 0 := by decide +kernel
theorem indexB : ∀ t : Fin grid0.N, win0_4.index t 0 = 0 ∧ win0_4.index t 1 = 0 := by decide +kernel

theorem blockH (t : Fin cfg0.N) (i : Fin 256) (k : Fin 1024) :
    iblk m c 0 t (ix2 (n0 := 256) (n1 := 1024) i k)
      = tokens m c (ix3 (streamOf rows_eq (rowAt t i)) (placeOf rows_eq (rowAt t i)) k) := by
  have e : iblk m c 0 t (ix2 (n0 := 256) (n1 := 1024) i k) = V m c main_v1 (ix2 (rowAt t i) k) := by
    show V m c main_v1 _ = _
    refine congrArg (V m c main_v1) ?_
    obtain ⟨e0, e1⟩ := indexH t
    funext a
    apply Fin.ext
    match a with
    | ⟨0, _⟩ => show win0_0.index t 0 * 256 + 1 * i.val = t.val * 256 + i.val; omega
    | ⟨1, _⟩ => show win0_0.index t 1 * 1024 + 1 * k.val = k.val; omega
  rw [e, entryH]
  exact flat_apply rows_eq _ _ _ _

theorem blockW (t : Fin cfg0.N) (k : Fin 1024) (j : Fin 6656) :
    iblk m c 1 t (ix2 (n0 := 1024) (n1 := 6656) k j) = argW m c (ix2 k (mainCol j)) := by
  have e : iblk m c 1 t (ix2 (n0 := 1024) (n1 := 6656) k j) = V m c main_v5 (ix2 k j) := by
    show V m c main_v5 _ = _
    refine congrArg (V m c main_v5) ?_
    obtain ⟨e0, e1⟩ := indexW t
    funext a
    apply Fin.ext
    match a with
    | ⟨0, _⟩ => show win0_1.index t 0 * 1024 + 1 * k.val = k.val; omega
    | ⟨1, _⟩ => show win0_1.index t 1 * 6656 + 1 * j.val = j.val; omega
  rw [e, entryW]
  exact main_weights (argW m c) slices_S1024x6672_S1024x4608_0_0 slices_S1024x6672_S1024x2048_0_4624 concatenates_S1024x4608_S1024x2048_S1024x6656_d1 k j

theorem blockL (t : Fin cfg0.N) (k : Fin 1024) (s : Fin 128) :
    iblk m c 2 t (ix2 (n0 := 1024) (n1 := 128) k s) = if hs : s.val < 16 then argW m c (ix2 k ⟨4608 + s.val, by omega⟩) else 0 := by
  have e : iblk m c 2 t (ix2 (n0 := 1024) (n1 := 128) k s) = V m c main_v8 (ix2 k s) := by
    show V m c main_v8 _ = _
    refine congrArg (V m c main_v8) ?_
    obtain ⟨e0, e1⟩ := indexL t
    funext a
    apply Fin.ext
    match a with
    | ⟨0, _⟩ => show win0_2.index t 0 * 1024 + 1 * k.val = k.val; omega
    | ⟨1, _⟩ => show win0_2.index t 1 * 128 + 1 * s.val = s.val; omega
  rw [e, entryL]
  exact low_weights (argW m c) _ rfl slices_S1024x6672_S1024x16_0_4608 pads_S1024x16_S1024x128_000_01120 h_S_ k s

theorem blockW2 (t : Fin cfg0.N) (s : Fin 128) (j : Fin 512) :
    iblk m c 3 t (ix2 (n0 := 128) (n1 := 512) s j) = if hs : s.val < 16 then argW2 m c (ix2 ⟨s.val, hs⟩ j) else 0 := by
  have e : iblk m c 3 t (ix2 (n0 := 128) (n1 := 512) s j) = V m c main_v9 (ix2 s j) := by
    show V m c main_v9 _ = _
    refine congrArg (V m c main_v9) ?_
    obtain ⟨e0, e1⟩ := indexW2 t
    funext a
    apply Fin.ext
    match a with
    | ⟨0, _⟩ => show win0_3.index t 0 * 128 + 1 * s.val = s.val; omega
    | ⟨1, _⟩ => show win0_3.index t 1 * 512 + 1 * j.val = j.val; omega
  rw [e, entryW2]
  exact second_weights (argW2 m c) _ rfl pads_S16x512_S128x512_01120_000 h_S_ s j

theorem blockB (t : Fin cfg0.N) (j : Fin 512) :
    iblk m c 4 t (ix2 (n0 := 1) (n1 := 512) 0 j) = argB m c (ix1 j) := by
  have e : iblk m c 4 t (ix2 (n0 := 1) (n1 := 512) 0 j) = V m c main_v10 (ix2 0 j) := by
    show V m c main_v10 _ = _
    refine congrArg (V m c main_v10) ?_
    obtain ⟨e0, e1⟩ := indexB t
    funext a
    apply Fin.ext
    match a with
    | ⟨0, _⟩ => show win0_4.index t 0 * 1 + 1 * 0 = 0; omega
    | ⟨1, _⟩ => show win0_4.index t 1 * 512 + 1 * j.val = j.val; omega
  rw [e, entryB]
  refine shapeCast_apply _ _ _ _ ?_
  rw [Shape.rowMajor_val_two, Shape.rowMajor_val_one]
  show j.val = 0 * 512 + j.val
  omega

/-! ### Products -/

theorem feature (t : Fin cfg0.N) (i : Fin 256) (k : Fin 1024) :
    k0_pay2 (View.ld (iblk m c 0 t) r0_0) (ix2 (n0 := 256) (n1 := 1024) i k)
      = tokens m c (ix3 (streamOf rows_eq (rowAt t i)) (placeOf rows_eq (rowAt t i)) k) :=
  (ld_whole (K := 256) (N := 1024) (e := .f32) (iblk m c 0 t) _ _ i k).trans (blockH m c t i k)

theorem narrow (t : Fin cfg0.N) (o o' : ℕ) (ho : o + 512 ≤ 6656) (ho' : o' + 512 ≤ 6672)
    (hc : ∀ j : Fin 512, (mainCol ⟨o + j.val, by omega⟩).val = o' + j.val)
    (inb : ∀ a, (![0, o] : Fin 2 → ℕ) a + S1024x512.size a ≤ S1024x6656.size a) (i : Fin 256) (j : Fin 512) :
    matmul (φ₁ := .bf16) dot_S256x1024_S1024x512_S256x512_1_0_0_1_n_n none (k0_pay2 (View.ld (iblk m c 0 t) r0_0))
        (shapeCast S1024x512 (View.ld (iblk m c 1 t) (Rect.unit (s := S1024x6656) ![0, o] S1024x512.size inb)) shapeCasts_S1024x512_S1024x512 : FVec Ideal S1024x512 .bf16)
        (constant S256x512 .f32 0x00000000#32) (ix2 i j)
      = cols o' 512 ho' rows_eq (tokens m c) (argW m c) (rowAt t i) j := by
  refine (Ideal.matmul_plain_apply none _ _ _ i j).trans ?_
  rw [constant_apply, word_zero, zero_add]
  unfold cols proj
  refine Finset.sum_congr rfl fun k _ => ?_
  refine congrArg₂ (fun x y : EReal => x * y) (feature m c t i k) ?_
  refine (ld_cols (K := 1024) (M := 6656) (N := 512) (e := .bf16) (iblk m c 1 t) inb _ ho k j).trans ?_
  refine (blockW m c t k _).trans ?_
  exact congrArg (fun q => argW m c (ix2 k q)) (Fin.ext (hc j))

theorem broad (t : Fin cfg0.N) (o o' : ℕ) (ho : o + 1024 ≤ 6656) (ho' : o' + 1024 ≤ 6672)
    (hc : ∀ j : Fin 1024, (mainCol ⟨o + j.val, by omega⟩).val = o' + j.val)
    (inb : ∀ a, (![0, o] : Fin 2 → ℕ) a + S1024x1024.size a ≤ S1024x6656.size a) (i : Fin 256) (j : Fin 1024) :
    matmul (φ₁ := .bf16) dot_S256x1024_S1024x1024_S256x1024_1_0_0_1_n_n none (k0_pay2 (View.ld (iblk m c 0 t) r0_0))
        (shapeCast S1024x1024 (View.ld (iblk m c 1 t) (Rect.unit (s := S1024x6656) ![0, o] S1024x1024.size inb)) shapeCasts_S1024x1024_S1024x1024 : FVec Ideal S1024x1024 .bf16)
        (constant S256x1024 .f32 0x00000000#32) (ix2 i j)
      = cols o' 1024 ho' rows_eq (tokens m c) (argW m c) (rowAt t i) j := by
  refine (Ideal.matmul_plain_apply none _ _ _ i j).trans ?_
  rw [constant_apply, word_zero, zero_add]
  unfold cols proj
  refine Finset.sum_congr rfl fun k _ => ?_
  refine congrArg₂ (fun x y : EReal => x * y) (feature m c t i k) ?_
  refine (ld_cols (K := 1024) (M := 6656) (N := 1024) (e := .bf16) (iblk m c 1 t) inb _ ho k j).trans ?_
  refine (blockW m c t k _).trans ?_
  exact congrArg (fun q => argW m c (ix2 k q)) (Fin.ext (hc j))

/-! ### The log decays -/

theorem low (t : Fin cfg0.N) (i : Fin 256) (s : Fin 128) :
    matmul (φ₁ := .bf16) dot_S256x1024_S1024x128_S256x128_1_0_0_1_n_n none (k0_pay2 (View.ld (iblk m c 0 t) r0_0))
        (shapeCast S1024x128 (View.ld (iblk m c 2 t) r0_11) shapeCasts_S1024x128_S1024x128 : FVec Ideal S1024x128 .bf16) (constant S256x128 .f32 0x00000000#32) (ix2 i s)
      = ∑ k : Fin 1024, tokens m c (ix3 (streamOf rows_eq (rowAt t i)) (placeOf rows_eq (rowAt t i)) k)
          * (if hs : s.val < 16 then argW m c (ix2 k ⟨4608 + s.val, by omega⟩) else 0) := by
  refine (Ideal.matmul_plain_apply none _ _ _ i s).trans ?_
  rw [constant_apply, word_zero, zero_add]
  refine Finset.sum_congr rfl fun k _ => ?_
  exact congrArg₂ (fun x y : EReal => x * y) (feature m c t i k)
    ((ld_whole (K := 1024) (N := 128) (e := .bf16) (iblk m c 2 t) _ _ k s).trans (blockL m c t k s))

theorem gate (t : Fin cfg0.N) (i : Fin 256) (j : Fin 512) :
    k0_pay15 (k0_pay2 (View.ld (iblk m c 0 t) r0_0)) (View.ld (iblk m c 2 t) r0_11) (View.ld (iblk m c 3 t) r0_12) (View.ld (iblk m c 4 t) r0_13) (ix2 i j)
      = -(lowRank rows_eq (tokens m c) (argW m c) (argW2 m c) (argB m c) (rowAt t i) j) := by
  show (Ideal.ofBits .f32 0x00000000#32 : EReal) - _ = _
  rw [word_zero, zero_sub]
  refine congrArg (fun x : EReal => -x) ?_
  unfold lowRank
  show (_ : EReal) + _ = _
  refine congrArg₂ (fun x y : EReal => x + y) ?_ ?_
  · refine (Ideal.matmul_plain_apply none _ _ _ i j).trans ?_
    rw [constant_apply, word_zero, zero_add]
    have w2 : ∀ s : Fin 128, shapeCast S128x512 (View.ld (iblk m c 3 t) r0_12) shapeCasts_S128x512_S128x512 (ix2 s j)
        = if hs : s.val < 16 then argW2 m c (ix2 ⟨s.val, hs⟩ j) else 0 := fun s =>
      (ld_whole (K := 128) (N := 512) (e := .f32) (iblk m c 3 t) _ _ s j).trans (blockW2 m c t s j)
    refine sum_first (fun s hs => ?_) fun s => ?_
    · rw [w2, dif_neg hs]
      exact mul_zero _
    · rw [w2, dif_pos s.isLt]
      refine congrArg (fun x : EReal => x * argW2 m c (ix2 s j)) ((low m c t i _).trans ?_)
      unfold cols proj
      refine Finset.sum_congr rfl fun k _ => ?_
      rw [dif_pos s.isLt]
  · refine (broadcastTo_apply _ _ _ (ix2 (n0 := 1) (n1 := 512) 0 j) fun a => by
      match a with
      | ⟨0, _⟩ => rfl
      | ⟨1, _⟩ => rfl).trans ?_
    exact (ld_whole (K := 1) (N := 512) (e := .f32) (iblk m c 4 t) _ _ 0 j).trans (blockB m c t j)

end Cert.Proj.Prompt

end
-- ==== Proof.ProjectValue.lean ====
module

public import proofs.«01_k».proof.Proof.ProjectBlocks
public import proofs.«01_k».proof.Proof.Gen.ProjectIdeal.Value

/-! The prompt's input projection: its twelve result arrays, of its arguments. -/

@[expose] public section

set_option maxRecDepth 16384

noncomputable section

namespace Cert.Proj.Prompt

open Idealize.ShloMosaic Idealize.ShloMosaic.TcCoe Idealize.ShloMosaic.ValueIdx
open Cert.ProjectIdeal Cert.ProjectIdeal.Gen

variable (m : (ℓ : Loc nD τ sig) → Buf (Elt Ideal) ℓ) (c : Dev nD)

/-- `N` columns from column `o` on, of this launch's arguments. -/
abbrev part (o N : ℕ) (ho : o + N ≤ 6672) : Fin 66560 → Fin N → EReal := cols o N ho rows_eq (tokens m c) (argW m c)

theorem index5 : ∀ t : Fin grid0.N, win0_5.index t 0 = t.val ∧ win0_5.index t 1 = 0 := by decide +kernel

theorem leaves5 (t : Fin cfg0.N) (i : Fin 256) (j : Fin 512) :
    out0_5 (iblk m c 0 t) (iblk m c 1 t) (iblk m c 2 t) (iblk m c 3 t) (iblk m c 4 t) (ix2 (n0 := 256) (n1 := 512) i j)
      = part m c 0 512 (by omega) (rowAt t i) j * Ideal.ofBits .f32 0x3E000000#32 := by
  unfold out0_5
  rw [View.canon_unit_zero origin]
  exact congrArg (fun x : EReal => x * _) (narrow m c t 0 0 (by omega) (by omega) (early 512 (by omega)) inb_S1024x6656_S1024x512_0_0 i j)

/-- The queries of the attention heads, scaled. -/
theorem final5 : (dats m 0 c).arrAt 5 cfg0.N = table (fun r j => part m c 0 512 (by omega) r j * Ideal.ofBits .f32 0x3E000000#32) := by
  refine (dats m 0 c).arrAt_eq_of_covers 5 _ (by decide +kernel) fun t hf y => ?_
  blk_simp
  rw [after0_5]
  have key : ∀ (i : Fin 256) (j : Fin 512), (win0_5.blk t).view.emb (ix2 (n0 := 256) (n1 := 512) i j) = ix2 (rowAt t i) j := fun i j => by
    obtain ⟨e0, e1⟩ := index5 t
    funext a
    apply Fin.ext
    match a with
    | ⟨0, _⟩ => show win0_5.index t 0 * 256 + 1 * i.val = t.val * 256 + i.val; omega
    | ⟨1, _⟩ => show win0_5.index t 1 * 512 + 1 * j.val = j.val; omega
  refine block_ext (M := 256) (N := 512) _ (fun z => table (fun r j => part m c 0 512 (by omega) r j * Ideal.ofBits .f32 0x3E000000#32) ((win0_5.blk t).view.emb z)) (fun i j => ?_) y
  refine (leaves5 m c t i j).trans (Eq.trans ?_ (congrArg (table (fun r j => part m c 0 512 (by omega) r j * Ideal.ofBits .f32 0x3E000000#32)) (key i j)).symm)
  rfl

theorem index6 : ∀ t : Fin grid0.N, win0_6.index t 0 = t.val ∧ win0_6.index t 1 = 0 := by decide +kernel

theorem leaves6 (t : Fin cfg0.N) (i : Fin 256) (j : Fin 512) :
    out0_6 (iblk m c 0 t) (iblk m c 1 t) (iblk m c 2 t) (iblk m c 3 t) (iblk m c 4 t) (ix2 (n0 := 256) (n1 := 512) i j)
      = part m c 512 512 (by omega) (rowAt t i) j := by
  unfold out0_6
  rw [View.canon_unit_zero origin]
  exact narrow m c t 512 512 (by omega) (by omega) (early 512 (by omega)) inb_S1024x6656_S1024x512_0_512 i j

/-- The keys of the attention heads. -/
theorem final6 : (dats m 0 c).arrAt 6 cfg0.N = table (part m c 512 512 (by omega)) := by
  refine (dats m 0 c).arrAt_eq_of_covers 6 _ (by decide +kernel) fun t hf y => ?_
  blk_simp
  rw [after0_6]
  have key : ∀ (i : Fin 256) (j : Fin 512), (win0_6.blk t).view.emb (ix2 (n0 := 256) (n1 := 512) i j) = ix2 (rowAt t i) j := fun i j => by
    obtain ⟨e0, e1⟩ := index6 t
    funext a
    apply Fin.ext
    match a with
    | ⟨0, _⟩ => show win0_6.index t 0 * 256 + 1 * i.val = t.val * 256 + i.val; omega
    | ⟨1, _⟩ => show win0_6.index t 1 * 512 + 1 * j.val = j.val; omega
  refine block_ext (M := 256) (N := 512) _ (fun z => table (part m c 512 512 (by omega)) ((win0_6.blk t).view.emb z)) (fun i j => ?_) y
  refine (leaves6 m c t i j).trans (Eq.trans ?_ (congrArg (table (part m c 512 512 (by omega))) (key i j)).symm)
  rfl

theorem index7 : ∀ t : Fin grid0.N, win0_7.index t 0 = t.val ∧ win0_7.index t 1 = 0 := by decide +kernel

theorem leaves7 (t : Fin cfg0.N) (i : Fin 256) (j : Fin 512) :
    out0_7 (iblk m c 0 t) (iblk m c 1 t) (iblk m c 2 t) (iblk m c 3 t) (iblk m c 4 t) (ix2 (n0 := 256) (n1 := 512) i j)
      = part m c 1024 512 (by omega) (rowAt t i) j := by
  unfold out0_7
  rw [View.canon_unit_zero origin]
  exact narrow m c t 1024 1024 (by omega) (by omega) (early 512 (by omega)) inb_S1024x6656_S1024x512_0_1024 i j

/-- The values of the attention heads. -/
theorem final7 : (dats m 0 c).arrAt 7 cfg0.N = table (part m c 1024 512 (by omega)) := by
  refine (dats m 0 c).arrAt_eq_of_covers 7 _ (by decide +kernel) fun t hf y => ?_
  blk_simp
  rw [after0_7]
  have key : ∀ (i : Fin 256) (j : Fin 512), (win0_7.blk t).view.emb (ix2 (n0 := 256) (n1 := 512) i j) = ix2 (rowAt t i) j := fun i j => by
    obtain ⟨e0, e1⟩ := index7 t
    funext a
    apply Fin.ext
    match a with
    | ⟨0, _⟩ => show win0_7.index t 0 * 256 + 1 * i.val = t.val * 256 + i.val; omega
    | ⟨1, _⟩ => show win0_7.index t 1 * 512 + 1 * j.val = j.val; omega
  refine block_ext (M := 256) (N := 512) _ (fun z => table (part m c 1024 512 (by omega)) ((win0_7.blk t).view.emb z)) (fun i j => ?_) y
  refine (leaves7 m c t i j).trans (Eq.trans ?_ (congrArg (table (part m c 1024 512 (by omega))) (key i j)).symm)
  rfl

theorem index8 : ∀ t : Fin grid0.N, win0_8.index t 0 = t.val ∧ win0_8.index t 1 = 0 := by decide +kernel

theorem leaves8 (t : Fin cfg0.N) (i : Fin 256) (j : Fin 512) :
    out0_8 (iblk m c 0 t) (iblk m c 1 t) (iblk m c 2 t) (iblk m c 3 t) (iblk m c 4 t) (ix2 (n0 := 256) (n1 := 512) i j)
      = part m c 512 512 (by omega) (rowAt t i) j := by
  unfold out0_8
  rw [View.canon_unit_zero origin]
  exact narrow m c t 512 512 (by omega) (by omega) (early 512 (by omega)) inb_S1024x6656_S1024x512_0_512 i j

/-- The keys in full precision. -/
theorem final8 : (dats m 0 c).arrAt 8 cfg0.N = table (part m c 512 512 (by omega)) := by
  refine (dats m 0 c).arrAt_eq_of_covers 8 _ (by decide +kernel) fun t hf y => ?_
  blk_simp
  rw [after0_8]
  have key : ∀ (i : Fin 256) (j : Fin 512), (win0_8.blk t).view.emb (ix2 (n0 := 256) (n1 := 512) i j) = ix2 (rowAt t i) j := fun i j => by
    obtain ⟨e0, e1⟩ := index8 t
    funext a
    apply Fin.ext
    match a with
    | ⟨0, _⟩ => show win0_8.index t 0 * 256 + 1 * i.val = t.val * 256 + i.val; omega
    | ⟨1, _⟩ => show win0_8.index t 1 * 512 + 1 * j.val = j.val; omega
  refine block_ext (M := 256) (N := 512) _ (fun z => table (part m c 512 512 (by omega)) ((win0_8.blk t).view.emb z)) (fun i j => ?_) y
  refine (leaves8 m c t i j).trans (Eq.trans ?_ (congrArg (table (part m c 512 512 (by omega))) (key i j)).symm)
  rfl

theorem index9 : ∀ t : Fin grid0.N, win0_9.index t 0 = t.val ∧ win0_9.index t 1 = 0 := by decide +kernel

theorem leaves9 (t : Fin cfg0.N) (i : Fin 256) (j : Fin 512) :
    out0_9 (iblk m c 0 t) (iblk m c 1 t) (iblk m c 2 t) (iblk m c 3 t) (iblk m c 4 t) (ix2 (n0 := 256) (n1 := 512) i j)
      = part m c 1024 512 (by omega) (rowAt t i) j := by
  unfold out0_9
  rw [View.canon_unit_zero origin]
  exact narrow m c t 1024 1024 (by omega) (by omega) (early 512 (by omega)) inb_S1024x6656_S1024x512_0_1024 i j

/-- The values in full precision. -/
theorem final9 : (dats m 0 c).arrAt 9 cfg0.N = table (part m c 1024 512 (by omega)) := by
  refine (dats m 0 c).arrAt_eq_of_covers 9 _ (by decide +kernel) fun t hf y => ?_
  blk_simp
  rw [after0_9]
  have key : ∀ (i : Fin 256) (j : Fin 512), (win0_9.blk t).view.emb (ix2 (n0 := 256) (n1 := 512) i j) = ix2 (rowAt t i) j := fun i j => by
    obtain ⟨e0, e1⟩ := index9 t
    funext a
    apply Fin.ext
    match a with
    | ⟨0, _⟩ => show win0_9.index t 0 * 256 + 1 * i.val = t.val * 256 + i.val; omega
    | ⟨1, _⟩ => show win0_9.index t 1 * 512 + 1 * j.val = j.val; omega
  refine block_ext (M := 256) (N := 512) _ (fun z => table (part m c 1024 512 (by omega)) ((win0_9.blk t).view.emb z)) (fun i j => ?_) y
  refine (leaves9 m c t i j).trans (Eq.trans ?_ (congrArg (table (part m c 1024 512 (by omega))) (key i j)).symm)
  rfl

theorem index10 : ∀ t : Fin grid0.N, win0_10.index t 0 = t.val ∧ win0_10.index t 1 = 0 := by decide +kernel

theorem leaves10 (t : Fin cfg0.N) (i : Fin 256) (j : Fin 512) :
    out0_10 (iblk m c 0 t) (iblk m c 1 t) (iblk m c 2 t) (iblk m c 3 t) (iblk m c 4 t) (ix2 (n0 := 256) (n1 := 512) i j)
      = part m c 1536 512 (by omega) (rowAt t i) j * Ideal.ofBits .f32 0x3DB504F3#32 := by
  unfold out0_10
  rw [View.canon_unit_zero origin]
  exact congrArg (fun x : EReal => x * _) (narrow m c t 1536 1536 (by omega) (by omega) (early 512 (by omega)) inb_S1024x6656_S1024x512_0_1536 i j)

/-- The queries of the recurrence, scaled. -/
theorem final10 : (dats m 0 c).arrAt 10 cfg0.N = table (fun r j => part m c 1536 512 (by omega) r j * Ideal.ofBits .f32 0x3DB504F3#32) := by
  refine (dats m 0 c).arrAt_eq_of_covers 10 _ (by decide +kernel) fun t hf y => ?_
  blk_simp
  rw [after0_10]
  have key : ∀ (i : Fin 256) (j : Fin 512), (win0_10.blk t).view.emb (ix2 (n0 := 256) (n1 := 512) i j) = ix2 (rowAt t i) j := fun i j => by
    obtain ⟨e0, e1⟩ := index10 t
    funext a
    apply Fin.ext
    match a with
    | ⟨0, _⟩ => show win0_10.index t 0 * 256 + 1 * i.val = t.val * 256 + i.val; omega
    | ⟨1, _⟩ => show win0_10.index t 1 * 512 + 1 * j.val = j.val; omega
  refine block_ext (M := 256) (N := 512) _ (fun z => table (fun r j => part m c 1536 512 (by omega) r j * Ideal.ofBits .f32 0x3DB504F3#32) ((win0_10.blk t).view.emb z)) (fun i j => ?_) y
  refine (leaves10 m c t i j).trans (Eq.trans ?_ (congrArg (table (fun r j => part m c 1536 512 (by omega) r j * Ideal.ofBits .f32 0x3DB504F3#32)) (key i j)).symm)
  rfl

theorem index11 : ∀ t : Fin grid0.N, win0_11.index t 0 = t.val ∧ win0_11.index t 1 = 0 := by decide +kernel

theorem leaves11 (t : Fin cfg0.N) (i : Fin 256) (j : Fin 512) :
    out0_11 (iblk m c 0 t) (iblk m c 1 t) (iblk m c 2 t) (iblk m c 3 t) (iblk m c 4 t) (ix2 (n0 := 256) (n1 := 512) i j)
      = part m c 2048 512 (by omega) (rowAt t i) j := by
  unfold out0_11
  rw [View.canon_unit_zero origin]
  exact narrow m c t 2048 2048 (by omega) (by omega) (early 512 (by omega)) inb_S1024x6656_S1024x512_0_2048 i j

/-- The keys of the recurrence. -/
theorem final11 : (dats m 0 c).arrAt 11 cfg0.N = table (part m c 2048 512 (by omega)) := by
  refine (dats m 0 c).arrAt_eq_of_covers 11 _ (by decide +kernel) fun t hf y => ?_
  blk_simp
  rw [after0_11]
  have key : ∀ (i : Fin 256) (j : Fin 512), (win0_11.blk t).view.emb (ix2 (n0 := 256) (n1 := 512) i j) = ix2 (rowAt t i) j := fun i j => by
    obtain ⟨e0, e1⟩ := index11 t
    funext a
    apply Fin.ext
    match a with
    | ⟨0, _⟩ => show win0_11.index t 0 * 256 + 1 * i.val = t.val * 256 + i.val; omega
    | ⟨1, _⟩ => show win0_11.index t 1 * 512 + 1 * j.val = j.val; omega
  refine block_ext (M := 256) (N := 512) _ (fun z => table (part m c 2048 512 (by omega)) ((win0_11.blk t).view.emb z)) (fun i j => ?_) y
  refine (leaves11 m c t i j).trans (Eq.trans ?_ (congrArg (table (part m c 2048 512 (by omega))) (key i j)).symm)
  rfl

theorem index12 : ∀ t : Fin grid0.N, win0_12.index t 0 = t.val ∧ win0_12.index t 1 = 0 := by decide +kernel

theorem leaves12 (t : Fin cfg0.N) (i : Fin 256) (j : Fin 1024) :
    out0_12 (iblk m c 0 t) (iblk m c 1 t) (iblk m c 2 t) (iblk m c 3 t) (iblk m c 4 t) (ix2 (n0 := 256) (n1 := 1024) i j)
      = part m c 2560 1024 (by omega) (rowAt t i) j := by
  unfold out0_12
  rw [View.canon_unit_zero origin]
  exact broad m c t 2560 2560 (by omega) (by omega) (early 1024 (by omega)) inb_S1024x6656_S1024x1024_0_2560 i j

/-- The values of the recurrence. -/
theorem final12 : (dats m 0 c).arrAt 12 cfg0.N = table (part m c 2560 1024 (by omega)) := by
  refine (dats m 0 c).arrAt_eq_of_covers 12 _ (by decide +kernel) fun t hf y => ?_
  blk_simp
  rw [after0_12]
  have key : ∀ (i : Fin 256) (j : Fin 1024), (win0_12.blk t).view.emb (ix2 (n0 := 256) (n1 := 1024) i j) = ix2 (rowAt t i) j := fun i j => by
    obtain ⟨e0, e1⟩ := index12 t
    funext a
    apply Fin.ext
    match a with
    | ⟨0, _⟩ => show win0_12.index t 0 * 256 + 1 * i.val = t.val * 256 + i.val; omega
    | ⟨1, _⟩ => show win0_12.index t 1 * 1024 + 1 * j.val = j.val; omega
  refine block_ext (M := 256) (N := 1024) _ (fun z => table (part m c 2560 1024 (by omega)) ((win0_12.blk t).view.emb z)) (fun i j => ?_) y
  refine (leaves12 m c t i j).trans (Eq.trans ?_ (congrArg (table (part m c 2560 1024 (by omega))) (key i j)).symm)
  rfl

theorem index13 : ∀ t : Fin grid0.N, win0_13.index t 0 = t.val ∧ win0_13.index t 1 = 0 := by decide +kernel

theorem leaves13 (t : Fin cfg0.N) (i : Fin 256) (j : Fin 512) :
    out0_13 (iblk m c 0 t) (iblk m c 1 t) (iblk m c 2 t) (iblk m c 3 t) (iblk m c 4 t) (ix2 (n0 := 256) (n1 := 512) i j)
      = logDecay (lowRank rows_eq (tokens m c) (argW m c) (argW2 m c) (argB m c) (rowAt t i) j) := by
  unfold out0_13
  rw [View.canon_unit_zero origin]
  have e := gate m c t i j
  have shape : ∀ y : EReal, (Ideal.ofBits .f32 0x00000000#32 - (max y (Ideal.ofBits .f32 0x00000000#32)
      + Ideal.log (one + Ideal.exp (Ideal.ofBits .f32 0x00000000#32 - max y (-y))))) * Ideal.ofBits .f32 0x3D800000#32
      = -softplus y * Ideal.ofBits .f32 0x3D800000#32 := fun y => by
    unfold softplus
    rw [word_zero, zero_sub, zero_sub]
  refine (shape _).trans ?_
  unfold logDecay
  exact congrArg (fun y : EReal => -softplus y * Ideal.ofBits .f32 0x3D800000#32) e

/-- The log decays. -/
theorem final13 : (dats m 0 c).arrAt 13 cfg0.N = table (fun r j => logDecay (lowRank rows_eq (tokens m c) (argW m c) (argW2 m c) (argB m c) r j)) := by
  refine (dats m 0 c).arrAt_eq_of_covers 13 _ (by decide +kernel) fun t hf y => ?_
  blk_simp
  rw [after0_13]
  have key : ∀ (i : Fin 256) (j : Fin 512), (win0_13.blk t).view.emb (ix2 (n0 := 256) (n1 := 512) i j) = ix2 (rowAt t i) j := fun i j => by
    obtain ⟨e0, e1⟩ := index13 t
    funext a
    apply Fin.ext
    match a with
    | ⟨0, _⟩ => show win0_13.index t 0 * 256 + 1 * i.val = t.val * 256 + i.val; omega
    | ⟨1, _⟩ => show win0_13.index t 1 * 512 + 1 * j.val = j.val; omega
  refine block_ext (M := 256) (N := 512) _ (fun z => table (fun r j => logDecay (lowRank rows_eq (tokens m c) (argW m c) (argW2 m c) (argB m c) r j)) ((win0_13.blk t).view.emb z)) (fun i j => ?_) y
  refine (leaves13 m c t i j).trans (Eq.trans ?_ (congrArg (table (fun r j => logDecay (lowRank rows_eq (tokens m c) (argW m c) (argW2 m c) (argB m c) r j))) (key i j)).symm)
  rfl

theorem index14 : ∀ t : Fin grid0.N, win0_14.index t 0 = t.val ∧ win0_14.index t 1 = 0 := by decide +kernel

theorem leaves14 (t : Fin cfg0.N) (i : Fin 256) (j : Fin 1024) :
    out0_14 (iblk m c 0 t) (iblk m c 1 t) (iblk m c 2 t) (iblk m c 3 t) (iblk m c 4 t) (ix2 (n0 := 256) (n1 := 1024) i j)
      = part m c 3584 1024 (by omega) (rowAt t i) j * logistic (part m c 3584 1024 (by omega) (rowAt t i) j) := by
  unfold out0_14
  rw [View.canon_unit_zero origin]
  have e := broad m c t 3584 3584 (by omega) (by omega) (early 1024 (by omega)) inb_S1024x6656_S1024x1024_0_3584 i j
  show (_ : EReal) * Ideal.div one (one + Ideal.exp (Ideal.ofBits .f32 0x00000000#32 - _)) = _
  unfold k0_pay18 logistic
  rw [word_zero, zero_sub]
  exact congrArg (fun x : EReal => x * Ideal.div one (one + Ideal.exp (-x))) e

/-- The output gates of the recurrence. -/
theorem final14 : (dats m 0 c).arrAt 14 cfg0.N = table (fun r j => part m c 3584 1024 (by omega) r j * logistic (part m c 3584 1024 (by omega) r j)) := by
  refine (dats m 0 c).arrAt_eq_of_covers 14 _ (by decide +kernel) fun t hf y => ?_
  blk_simp
  rw [after0_14]
  have key : ∀ (i : Fin 256) (j : Fin 1024), (win0_14.blk t).view.emb (ix2 (n0 := 256) (n1 := 1024) i j) = ix2 (rowAt t i) j := fun i j => by
    obtain ⟨e0, e1⟩ := index14 t
    funext a
    apply Fin.ext
    match a with
    | ⟨0, _⟩ => show win0_14.index t 0 * 256 + 1 * i.val = t.val * 256 + i.val; omega
    | ⟨1, _⟩ => show win0_14.index t 1 * 1024 + 1 * j.val = j.val; omega
  refine block_ext (M := 256) (N := 1024) _ (fun z => table (fun r j => part m c 3584 1024 (by omega) r j * logistic (part m c 3584 1024 (by omega) r j)) ((win0_14.blk t).view.emb z)) (fun i j => ?_) y
  refine (leaves14 m c t i j).trans (Eq.trans ?_ (congrArg (table (fun r j => part m c 3584 1024 (by omega) r j * logistic (part m c 3584 1024 (by omega) r j))) (key i j)).symm)
  rfl

theorem index15 : ∀ t : Fin grid0.N, win0_15.index t 0 = t.val ∧ win0_15.index t 1 = 0 := by decide +kernel

theorem leaves15 (t : Fin cfg0.N) (i : Fin 256) (j : Fin 1024) :
    out0_15 (iblk m c 0 t) (iblk m c 1 t) (iblk m c 2 t) (iblk m c 3 t) (iblk m c 4 t) (ix2 (n0 := 256) (n1 := 1024) i j)
      = logistic (part m c 4624 1024 (by omega) (rowAt t i) j) := by
  unfold out0_15
  rw [View.canon_unit_zero origin]
  have e := broad m c t 4608 4624 (by omega) (by omega) (late 1024 (by omega) (by omega)) inb_S1024x6656_S1024x1024_0_4608 i j
  show Ideal.div one (one + Ideal.exp (Ideal.ofBits .f32 0x00000000#32 - _)) = _
  unfold logistic
  rw [word_zero, zero_sub]
  exact congrArg (fun x : EReal => Ideal.div one (one + Ideal.exp (-x))) e

/-- The first mixing gates. -/
theorem final15 : (dats m 0 c).arrAt 15 cfg0.N = table (fun r j => logistic (part m c 4624 1024 (by omega) r j)) := by
  refine (dats m 0 c).arrAt_eq_of_covers 15 _ (by decide +kernel) fun t hf y => ?_
  blk_simp
  rw [after0_15]
  have key : ∀ (i : Fin 256) (j : Fin 1024), (win0_15.blk t).view.emb (ix2 (n0 := 256) (n1 := 1024) i j) = ix2 (rowAt t i) j := fun i j => by
    obtain ⟨e0, e1⟩ := index15 t
    funext a
    apply Fin.ext
    match a with
    | ⟨0, _⟩ => show win0_15.index t 0 * 256 + 1 * i.val = t.val * 256 + i.val; omega
    | ⟨1, _⟩ => show win0_15.index t 1 * 1024 + 1 * j.val = j.val; omega
  refine block_ext (M := 256) (N := 1024) _ (fun z => table (fun r j => logistic (part m c 4624 1024 (by omega) r j)) ((win0_15.blk t).view.emb z)) (fun i j => ?_) y
  refine (leaves15 m c t i j).trans (Eq.trans ?_ (congrArg (table (fun r j => logistic (part m c 4624 1024 (by omega) r j))) (key i j)).symm)
  rfl

theorem index16 : ∀ t : Fin grid0.N, win0_16.index t 0 = t.val ∧ win0_16.index t 1 = 0 := by decide +kernel

theorem leaves16 (t : Fin cfg0.N) (i : Fin 256) (j : Fin 1024) :
    out0_16 (iblk m c 0 t) (iblk m c 1 t) (iblk m c 2 t) (iblk m c 3 t) (iblk m c 4 t) (ix2 (n0 := 256) (n1 := 1024) i j)
      = logistic (part m c 5648 1024 (by omega) (rowAt t i) j) := by
  unfold out0_16
  rw [View.canon_unit_zero origin]
  have e := broad m c t 5632 5648 (by omega) (by omega) (late 1024 (by omega) (by omega)) inb_S1024x6656_S1024x1024_0_5632 i j
  show Ideal.div one (one + Ideal.exp (Ideal.ofBits .f32 0x00000000#32 - _)) = _
  unfold logistic
  rw [word_zero, zero_sub]
  exact congrArg (fun x : EReal => Ideal.div one (one + Ideal.exp (-x))) e

/-- The second mixing gates. -/
theorem final16 : (dats m 0 c).arrAt 16 cfg0.N = table (fun r j => logistic (part m c 5648 1024 (by omega) r j)) := by
  refine (dats m 0 c).arrAt_eq_of_covers 16 _ (by decide +kernel) fun t hf y => ?_
  blk_simp
  rw [after0_16]
  have key : ∀ (i : Fin 256) (j : Fin 1024), (win0_16.blk t).view.emb (ix2 (n0 := 256) (n1 := 1024) i j) = ix2 (rowAt t i) j := fun i j => by
    obtain ⟨e0, e1⟩ := index16 t
    funext a
    apply Fin.ext
    match a with
    | ⟨0, _⟩ => show win0_16.index t 0 * 256 + 1 * i.val = t.val * 256 + i.val; omega
    | ⟨1, _⟩ => show win0_16.index t 1 * 1024 + 1 * j.val = j.val; omega
  refine block_ext (M := 256) (N := 1024) _ (fun z => table (fun r j => logistic (part m c 5648 1024 (by omega) r j)) ((win0_16.blk t).view.emb z)) (fun i j => ?_) y
  refine (leaves16 m c t i j).trans (Eq.trans ?_ (congrArg (table (fun r j => logistic (part m c 5648 1024 (by omega) r j))) (key i j)).symm)
  rfl

end Cert.Proj.Prompt

end
-- ==== Proof.ProjectRef.lean ====
module

public import proofs.«01_k».proof.Proof.ProjectMath
public import proofs.«01_k».proof.Proof.Gen.ProjectReferenceIdeal.Run
public import Idealize.ShloMosaic.Lib.MatmulPlain

/-! The reference of the prompt's input projection: its results as tables of the formula. -/

@[expose] public section

set_option maxRecDepth 16384

noncomputable section

namespace Cert.Proj.PromptRef

open Idealize.ShloMosaic Idealize.ShloMosaic.TcCoe Idealize.ShloMosaic.ValueIdx
open Cert.ProjectReferenceIdeal Cert.ProjectReferenceIdeal.Gen
open scoped BigOperators

theorem rows_eq : 66560 = 8 * 8320 := rfl

/-- The whole projection. -/
def whole (h : FVec Ideal S8x8320x1024 .f32) (w : FVec Ideal S1024x6672 .f32) : FVec Ideal S8x8320x6672 .f32 :=
  Host.dotGeneral dot_S8x8320x1024_S1024x6672_S8x8320x6672_2_0_01_1_n_n none h w

theorem whole_apply (h : FVec Ideal S8x8320x1024 .f32) (w : FVec Ideal S1024x6672 .f32) (b : Fin 8) (t : Fin 8320) (j : Fin 6672) :
    whole h w (ix3 b t j) = ∑ k : Fin 1024, h (ix3 b t k) * w (ix2 k j) := by
  have hr : dot_S8x8320x1024_S1024x6672_S8x8320x6672_2_0_01_1_n_n.contr.rank = 1 := rfl
  have hs : dot_S8x8320x1024_S1024x6672_S8x8320x6672_2_0_01_1_n_n.contr.size ⟨0, by omega⟩ = 1024 := rfl
  refine (Ideal.dotGeneral_apply _ _ _ _ _ _).trans ?_
  rw [← Equiv.sum_comp (contrEquiv1 _ 1024 hr hs).symm]
  refine Finset.sum_congr rfl fun s _ => ?_
  have hk := contrEquiv1_symm_val dot_S8x8320x1024_S1024x6672_S8x8320x6672_2_0_01_1_n_n 1024 hr hs s
  refine congrArg₂ (fun x y : EReal => x * y) (congrArg h (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem second_apply (x : FVec Ideal S8x8320x16 .f32) (w : FVec Ideal S16x512 .f32) (b : Fin 8) (t : Fin 8320) (j : Fin 512) :
    Host.dotGeneral dot_S8x8320x16_S16x512_S8x8320x512_2_0_01_1_n_n none x w (ix3 b t j) = ∑ k : Fin 16, x (ix3 b t k) * w (ix2 k j) := by
  have hr : dot_S8x8320x16_S16x512_S8x8320x512_2_0_01_1_n_n.contr.rank = 1 := rfl
  have hs : dot_S8x8320x16_S16x512_S8x8320x512_2_0_01_1_n_n.contr.size ⟨0, by omega⟩ = 16 := rfl
  refine (Ideal.dotGeneral_apply _ _ _ _ _ _).trans ?_
  rw [← Equiv.sum_comp (contrEquiv1 _ 16 hr hs).symm]
  refine Finset.sum_congr rfl fun s _ => ?_
  have hk := contrEquiv1_symm_val dot_S8x8320x16_S16x512_S8x8320x512_2_0_01_1_n_n 16 hr hs s
  refine congrArg₂ (fun x y : EReal => x * y) (congrArg x (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

variable (h : FVec Ideal S8x8320x1024 .f32) (w : FVec Ideal S1024x6672 .f32)

/-- `N` columns of the whole projection at a row's stream and place. -/
theorem cut (o N : ℕ) (ho : o + N ≤ 6672) (hs : (⟨3, ![8, 8320, 6672]⟩ : Shape).Slices ![0, 0, o] ⟨3, ![8, 8320, N]⟩) (r : Fin 66560) (j : Fin N) :
    extractStridedSlice ⟨3, ![8, 8320, N]⟩ ![0, 0, o] (whole h w) hs (ix3 (streamOf rows_eq r) (placeOf rows_eq r) j)
      = cols o N ho rows_eq h w r j :=
  (slice_apply o ho (whole h w) hs _ _ _).trans (whole_apply h w _ _ _)

/-- A flattened array of tokens is a table once its entries are known. -/
theorem flat_table {N : ℕ} (x : (⟨3, ![8, 8320, N]⟩ : Shape).Idx → EReal) (hc : (⟨3, ![8, 8320, N]⟩ : Shape).ShapeCasts ⟨2, ![66560, N]⟩)
    (f : Fin 66560 → Fin N → EReal) (hx : ∀ (r : Fin 66560) (j : Fin N), x (ix3 (streamOf rows_eq r) (placeOf rows_eq r) j) = f r j) :
    shapeCast ⟨2, ![66560, N]⟩ x hc = table f := by
  funext i
  rw [ValueIdx.eq_ix2 i]
  exact (flat_apply rows_eq x hc _ _).trans (hx _ _)

theorem plain512 (o : ℕ) (ho : o + 512 ≤ 6672) (hs : S8x8320x6672.Slices ![0, 0, o] S8x8320x512) :
    (shapeCast S66560x512 (extractStridedSlice S8x8320x512 ![0, 0, o] (whole h w) hs) shapeCasts_S8x8320x512_S66560x512 : FVec Ideal S66560x512 .f32)
      = table (cols o 512 ho rows_eq h w) :=
  flat_table _ _ _ fun r j => cut h w o 512 ho hs r j

theorem plain1024 (o : ℕ) (ho : o + 1024 ≤ 6672) (hs : S8x8320x6672.Slices ![0, 0, o] S8x8320x1024) :
    (shapeCast S66560x1024 (extractStridedSlice S8x8320x1024 ![0, 0, o] (whole h w) hs) shapeCasts_S8x8320x1024_S66560x1024 : FVec Ideal S66560x1024 .f32)
      = table (cols o 1024 ho rows_eq h w) :=
  flat_table _ _ _ fun r j => cut h w o 1024 ho hs r j

theorem scaled512 (o : ℕ) (ho : o + 512 ≤ 6672) (hs : S8x8320x6672.Slices ![0, 0, o] S8x8320x512) (z : BitVec 32) :
    (shapeCast S66560x512 (mulf (extractStridedSlice S8x8320x512 ![0, 0, o] (whole h w) hs)
        (broadcastInDim S8x8320x512 ![] bcast_S_S8x8320x512 (constant (F := Ideal) S_ .f32 z))) shapeCasts_S8x8320x512_S66560x512 : FVec Ideal S66560x512 .f32)
      = table fun r j => cols o 512 ho rows_eq h w r j * Ideal.ofBits .f32 z :=
  flat_table _ _ _ fun r j => congrArg (fun x : EReal => x * Ideal.ofBits .f32 z) (cut h w o 512 ho hs r j)

theorem logistic1024 (o : ℕ) (ho : o + 1024 ≤ 6672) (hs : S8x8320x6672.Slices ![0, 0, o] S8x8320x1024) :
    (shapeCast S66560x1024 (Host.divf (broadcastInDim S8x8320x1024 ![] bcast_S_S8x8320x1024 (constant (F := Ideal) S_ .f32 0x3F800000#32))
        (addf (broadcastInDim S8x8320x1024 ![] bcast_S_S8x8320x1024 (constant (F := Ideal) S_ .f32 0x3F800000#32))
          (Host.exp (Host.negf (extractStridedSlice S8x8320x1024 ![0, 0, o] (whole h w) hs))))) shapeCasts_S8x8320x1024_S66560x1024 : FVec Ideal S66560x1024 .f32)
      = table fun r j => logistic (cols o 1024 ho rows_eq h w r j) :=
  flat_table _ _ _ fun r j => congrArg logistic (cut h w o 1024 ho hs r j)

theorem gated1024 (o : ℕ) (ho : o + 1024 ≤ 6672) (hs : S8x8320x6672.Slices ![0, 0, o] S8x8320x1024) :
    (shapeCast S66560x1024 (mulf (extractStridedSlice S8x8320x1024 ![0, 0, o] (whole h w) hs)
        (Host.divf (broadcastInDim S8x8320x1024 ![] bcast_S_S8x8320x1024 (constant (F := Ideal) S_ .f32 0x3F800000#32))
        (addf (broadcastInDim S8x8320x1024 ![] bcast_S_S8x8320x1024 (constant (F := Ideal) S_ .f32 0x3F800000#32))
          (Host.exp (Host.negf (extractStridedSlice S8x8320x1024 ![0, 0, o] (whole h w) hs)))))) shapeCasts_S8x8320x1024_S66560x1024 : FVec Ideal S66560x1024 .f32)
      = table fun r j => cols o 1024 ho rows_eq h w r j * logistic (cols o 1024 ho rows_eq h w r j) :=
  flat_table _ _ _ fun r j => congrArg (fun x : EReal => x * logistic x) (cut h w o 1024 ho hs r j)

/-- The low-rank product with its bias. -/
def gate (w2 : FVec Ideal S16x512 .f32) (bias : FVec Ideal S512 .f32) : FVec Ideal S8x8320x512 .f32 :=
  addf (Host.dotGeneral dot_S8x8320x16_S16x512_S8x8320x512_2_0_01_1_n_n none
      (extractStridedSlice S8x8320x16 ![0, 0, 4608] (whole h w) slices_S8x8320x6672_S8x8320x16_0_0_4608) w2)
    (broadcastInDim S8x8320x512 ![0, 1, 2] bcast_S1x1x512_S8x8320x512_0_1_2 (broadcastInDim S1x1x512 ![2] bcast_S512_S1x1x512_2 bias))

theorem gate_apply (w2 : FVec Ideal S16x512 .f32) (bias : FVec Ideal S512 .f32) (r : Fin 66560) (j : Fin 512) :
    gate h w w2 bias (ix3 (streamOf rows_eq r) (placeOf rows_eq r) j) = lowRank rows_eq h w w2 bias r j := by
  unfold gate lowRank
  rw [addf_apply, second_apply]
  refine congrArg₂ (fun x y : EReal => x + y) (Finset.sum_congr rfl fun s _ => ?_) ?_
  · exact congrArg (fun x : EReal => x * w2 (ix2 s j)) (cut h w 4608 16 _ _ r s)
  · refine (broadcastInDim_apply _ _ _ _ (ix3 (n0 := 1) (n1 := 1) (n2 := 512) 0 0 j) fun a => by
      match a with
      | ⟨0, _⟩ => rfl
      | ⟨1, _⟩ => rfl
      | ⟨2, _⟩ => rfl).trans ?_
    exact broadcastInDim_apply _ _ _ _ (ix1 j) fun a => by
      match a with
      | ⟨0, _⟩ => rfl

/-- The log of the logistic function of an array, divided by sixteen, as the reference computes it. -/
def decayArray (x : FVec Ideal S8x8320x512 .f32) : FVec Ideal S8x8320x512 .f32 :=
  Host.divf (Host.negf (select (cmpf .une (subf (Host.negf x) (broadcastInDim S8x8320x512 ![] bcast_S_S8x8320x512 (constant S_ .f32 0x00000000#32)))
      (subf (Host.negf x) (broadcastInDim S8x8320x512 ![] bcast_S_S8x8320x512 (constant S_ .f32 0x00000000#32))))
      (addf (Host.negf x) (broadcastInDim S8x8320x512 ![] bcast_S_S8x8320x512 (constant S_ .f32 0x00000000#32)))
      (addf (maximumf (Host.negf x) (broadcastInDim S8x8320x512 ![] bcast_S_S8x8320x512 (constant S_ .f32 0x00000000#32)))
        (Host.log1p (Host.exp (Host.negf (Host.absf (subf (Host.negf x) (broadcastInDim S8x8320x512 ![] bcast_S_S8x8320x512 (constant S_ .f32 0x00000000#32))))))))))
    (broadcastInDim S8x8320x512 ![] bcast_S_S8x8320x512 (constant S_ .f32 0x41800000#32))

theorem decayArray_apply (x : FVec Ideal S8x8320x512 .f32) (i : S8x8320x512.Idx) : decayArray x i = logDecay (x i) := by
  refine Eq.trans ?_ (logDecay_host (x i))
  show Ideal.div (-(Scalar.select (Ideal.cmp .une (-(x i) - Ideal.ofBits .f32 0x00000000#32) (-(x i) - Ideal.ofBits .f32 0x00000000#32))
    (-(x i) + Ideal.ofBits .f32 0x00000000#32) (max (-(x i)) (Ideal.ofBits .f32 0x00000000#32)
      + Ideal.log1p (Ideal.exp (-(max (-(x i) - Ideal.ofBits .f32 0x00000000#32) (-(-(x i) - Ideal.ofBits .f32 0x00000000#32))))))))
    (Ideal.ofBits .f32 0x41800000#32) = _
  rw [word_zero]

theorem decays (w2 : FVec Ideal S16x512 .f32) (bias : FVec Ideal S512 .f32) :
    (shapeCast S66560x512 (decayArray (gate h w w2 bias)) shapeCasts_S8x8320x512_S66560x512 : FVec Ideal S66560x512 .f32)
      = table fun r j => logDecay (lowRank rows_eq h w w2 bias r j) :=
  flat_table _ _ _ fun r j => (decayArray_apply _ _).trans (congrArg logDecay (gate_apply h w w2 bias r j))

end Cert.Proj.PromptRef

end
-- ==== Proof.ProjectClaim.lean ====
module

public import proofs.«01_k».proof.Defs
public import proofs.«01_k».proof.Proof.ProjectValue
public import proofs.«01_k».proof.Proof.ProjectRef
public import proofs.«01_k».proof.Proof.Gen.Project.Frame
public import proofs.«01_k».proof.Proof.Gen.ProjectIdeal.Frame

/-! The claims of the prompt's input projection: the frames, and kernel and reference end with equal results. -/

@[expose] public section

set_option maxRecDepth 16384

noncomputable section

namespace Cert.Proj

open Idealize.ShloMosaic
open Idealize.ShloMosaic.TcCoe Idealize.ShloMosaic.ValueIdx Idealize.SL.Sem

theorem frame_prompt : Cert.quiescent_Project := fun m ρ _ => Cert.Project.Gen.frame m ρ
theorem frame_promptIdeal : Cert.quiescent_ProjectIdeal := fun m ρ _ => Cert.ProjectIdeal.Gen.frame m ρ

/-- The reference keeps its arguments, and declares no semaphore. -/
theorem frame_promptReference : Cert.quiescent_ProjectReferenceIdeal := fun m ρ _ =>
  (θ_run Cert.ProjectReferenceIdeal.defs _ _).mono
    (fun r h => ⟨fun c => (h c).2.2.2.2.2.2.2.2.2.2.2.2, sem_eq_zero_of_no_sems (by decide) r.2⟩)
    (Cert.ProjectReferenceIdeal.Value.run (F := Ideal) m ρ)

set_option maxHeartbeats 2000000 in
/-- From equal arguments, whatever they hold, the two programs end with equal results. -/
theorem algebraic_prompt : Cert.algebraic_ProjectIdeal_ProjectReferenceIdeal := by
  intro m ρ m' ρ' _ ha
  refine ⟨fun c => (Cert.ProjectIdeal.Gen.dats m 0 c).arrAt 5 Cert.ProjectIdeal.cfg0.N,
    fun c => (Cert.ProjectIdeal.Gen.dats m 0 c).arrAt 6 Cert.ProjectIdeal.cfg0.N,
    fun c => (Cert.ProjectIdeal.Gen.dats m 0 c).arrAt 7 Cert.ProjectIdeal.cfg0.N,
    fun c => (Cert.ProjectIdeal.Gen.dats m 0 c).arrAt 8 Cert.ProjectIdeal.cfg0.N,
    fun c => (Cert.ProjectIdeal.Gen.dats m 0 c).arrAt 9 Cert.ProjectIdeal.cfg0.N,
    fun c => (Cert.ProjectIdeal.Gen.dats m 0 c).arrAt 10 Cert.ProjectIdeal.cfg0.N,
    fun c => (Cert.ProjectIdeal.Gen.dats m 0 c).arrAt 11 Cert.ProjectIdeal.cfg0.N,
    fun c => (Cert.ProjectIdeal.Gen.dats m 0 c).arrAt 12 Cert.ProjectIdeal.cfg0.N,
    fun c => (Cert.ProjectIdeal.Gen.dats m 0 c).arrAt 13 Cert.ProjectIdeal.cfg0.N,
    fun c => (Cert.ProjectIdeal.Gen.dats m 0 c).arrAt 14 Cert.ProjectIdeal.cfg0.N,
    fun c => (Cert.ProjectIdeal.Gen.dats m 0 c).arrAt 15 Cert.ProjectIdeal.cfg0.N,
    fun c => (Cert.ProjectIdeal.Gen.dats m 0 c).arrAt 16 Cert.ProjectIdeal.cfg0.N,
    Cert.ProjectIdeal.Value.run_blocks m ρ, ?_⟩
  refine (θ_run Cert.ProjectReferenceIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
    (Cert.ProjectReferenceIdeal.Value.run (F := Ideal) m' ρ')
  · rw [(ha c).1, (ha c).2.1]
    exact (PromptRef.scaled512 (Prompt.tokens m c) (Prompt.argW m c) 0 (by omega) Cert.ProjectReferenceIdeal.Gen.slices_S8x8320x6672_S8x8320x512_0_0_0 _).trans (Prompt.final5 m c).symm
  · rw [(ha c).1, (ha c).2.1]
    exact (PromptRef.plain512 (Prompt.tokens m c) (Prompt.argW m c) 512 (by omega) Cert.ProjectReferenceIdeal.Gen.slices_S8x8320x6672_S8x8320x512_0_0_512).trans (Prompt.final6 m c).symm
  · rw [(ha c).1, (ha c).2.1]
    exact (PromptRef.plain512 (Prompt.tokens m c) (Prompt.argW m c) 1024 (by omega) Cert.ProjectReferenceIdeal.Gen.slices_S8x8320x6672_S8x8320x512_0_0_1024).trans (Prompt.final7 m c).symm
  · rw [(ha c).1, (ha c).2.1]
    exact (PromptRef.plain512 (Prompt.tokens m c) (Prompt.argW m c) 512 (by omega) Cert.ProjectReferenceIdeal.Gen.slices_S8x8320x6672_S8x8320x512_0_0_512).trans (Prompt.final8 m c).symm
  · rw [(ha c).1, (ha c).2.1]
    exact (PromptRef.plain512 (Prompt.tokens m c) (Prompt.argW m c) 1024 (by omega) Cert.ProjectReferenceIdeal.Gen.slices_S8x8320x6672_S8x8320x512_0_0_1024).trans (Prompt.final9 m c).symm
  · rw [(ha c).1, (ha c).2.1]
    exact (PromptRef.scaled512 (Prompt.tokens m c) (Prompt.argW m c) 1536 (by omega) Cert.ProjectReferenceIdeal.Gen.slices_S8x8320x6672_S8x8320x512_0_0_1536 _).trans (Prompt.final10 m c).symm
  · rw [(ha c).1, (ha c).2.1]
    exact (PromptRef.plain512 (Prompt.tokens m c) (Prompt.argW m c) 2048 (by omega) Cert.ProjectReferenceIdeal.Gen.slices_S8x8320x6672_S8x8320x512_0_0_2048).trans (Prompt.final11 m c).symm
  · rw [(ha c).1, (ha c).2.1]
    exact (PromptRef.plain1024 (Prompt.tokens m c) (Prompt.argW m c) 2560 (by omega) Cert.ProjectReferenceIdeal.Gen.slices_S8x8320x6672_S8x8320x1024_0_0_2560).trans (Prompt.final12 m c).symm
  · unfold Cert.ProjectReferenceIdeal.Value.res_main_v35
    rw [(ha c).1, (ha c).2.1, (ha c).2.2.1, (ha c).2.2.2]
    exact (PromptRef.decays (Prompt.tokens m c) (Prompt.argW m c) (Prompt.argW2 m c) (Prompt.argB m c)).trans (Prompt.final13 m c).symm
  · rw [(ha c).1, (ha c).2.1]
    exact (PromptRef.gated1024 (Prompt.tokens m c) (Prompt.argW m c) 3584 (by omega) Cert.ProjectReferenceIdeal.Gen.slices_S8x8320x6672_S8x8320x1024_0_0_3584).trans (Prompt.final14 m c).symm
  · rw [(ha c).1, (ha c).2.1]
    exact (PromptRef.logistic1024 (Prompt.tokens m c) (Prompt.argW m c) 4624 (by omega) Cert.ProjectReferenceIdeal.Gen.slices_S8x8320x6672_S8x8320x1024_0_0_4624).trans (Prompt.final15 m c).symm
  · rw [(ha c).1, (ha c).2.1]
    exact (PromptRef.logistic1024 (Prompt.tokens m c) (Prompt.argW m c) 5648 (by omega) Cert.ProjectReferenceIdeal.Gen.slices_S8x8320x6672_S8x8320x1024_0_0_5648).trans (Prompt.final16 m c).symm

end Cert.Proj

end
-- ==== Proof.ProjectSampleBlocks.lean ====
module

public import proofs.«01_k».proof.Proof.ProjectMath
public import proofs.«01_k».proof.Proof.Gen.ProjectSampleIdeal.Frame
public import Idealize.ShloMosaic.Lib.Claim
public import Idealize.ShloMosaic.Lib.MatmulPlain
public import Idealize.ShloMosaic.Lib.Pipeline.ValueKit.Geometry

/-! What the sample's input projection leaves in a block of rows, of the program's arguments. -/

@[expose] public section

set_option maxRecDepth 16384

noncomputable section

namespace Cert.Proj.Sample

open Idealize.ShloMosaic Idealize.ShloMosaic.TcCoe Idealize.ShloMosaic.ValueIdx
open Cert.ProjectSampleIdeal Cert.ProjectSampleIdeal.Gen
open scoped BigOperators

variable (m : (ℓ : Loc nD τ sig) → Buf (Elt Ideal) ℓ) (c : Dev nD)

/-- The normalised features. -/
def argH : FVec Ideal S8x16x1024 .f32 := m ((c : Thread nD τ).loc main_arg0)
/-- The projection's weights. -/
def argW : FVec Ideal S1024x6672 .f32 := m ((c : Thread nD τ).loc main_arg1)
/-- The second weights of the log decays. -/
def argW2 : FVec Ideal S16x512 .f32 := m ((c : Thread nD τ).loc main_arg2)
/-- The bias of the log decays. -/
def argB : FVec Ideal S512 .f32 := m ((c : Thread nD τ).loc main_arg3)

theorem rows_eq : 128 = 8 * 16 := rfl

/-- The row at place `i` of a grid point's block. -/
def rowAt (t : Fin cfg0.N) (i : Fin 128) : Fin 128 := ⟨t.val * 128 + i.val, by have h : t.val < 1 := lt_of_lt_of_eq t.isLt N_0; omega⟩

/-! ### The blocks -/

theorem entryH : (V m c main_v0 : FVec Ideal S128x1024 .f32) = shapeCast S128x1024 (argH m c) shapeCasts_S8x16x1024_S128x1024 := by
  unfold argH
  entry_read
  rfl

theorem entryW : (V m c main_v4 : FVec Ideal S1024x6656 .bf16) =
    truncf .bf16 (concatenate S1024x6656 1 [⟨S1024x4608, extractStridedSlice S1024x4608 ![0, 0] (argW m c) slices_S1024x6672_S1024x4608_0_0⟩,
      ⟨S1024x2048, extractStridedSlice S1024x2048 ![0, 4624] (argW m c) slices_S1024x6672_S1024x2048_0_4624⟩] concatenates_S1024x4608_S1024x2048_S1024x6656_d1) bitsLt_bf16_f32 := by
  unfold argW
  entry_read
  rfl

theorem entryL : (V m c main_v7 : FVec Ideal S1024x128 .bf16) =
    truncf .bf16 (pad S1024x128 ![0, 0] ![0, 112] ![0, 0] (extractStridedSlice S1024x16 ![0, 4608] (argW m c) slices_S1024x6672_S1024x16_0_4608)
      (sitofp .f32 (constantI S_ 32 0#32)) pads_S1024x16_S1024x128_000_01120 h_S_) bitsLt_bf16_f32 := by
  unfold argW
  entry_read
  rfl

theorem entryW2 : (V m c main_v8 : FVec Ideal S128x512 .f32) =
    pad S128x512 ![0, 0] ![112, 0] ![0, 0] (argW2 m c) (sitofp .f32 (constantI S_ 32 0#32)) pads_S16x512_S128x512_01120_000 h_S_ := by
  unfold argW2
  entry_read
  rfl

theorem entryB : (V m c main_v9 : FVec Ideal S1x512 .f32) = shapeCast S1x512 (argB m c) shapeCasts_S512_S1x512 := by
  unfold argB
  entry_read
  rfl

theorem indexH : ∀ t : Fin grid0.N, win0_0.index t 0 = t.val ∧ win0_0.index t 1 = 0 := by decide +kernel
theorem indexW : ∀ t : Fin grid0.N, win0_1.index t 0 = 0 ∧ win0_1.index t 1 = 0 := by decide +kernel
theorem indexL : ∀ t : Fin grid0.N, win0_2.index t 0 = 0 ∧ win0_2.index t 1 = 0 := by decide +kernel
theorem indexW2 : ∀ t : Fin grid0.N, win0_3.index t 0 = 0 ∧ win0_3.index t 1 = 0 := by decide +kernel
theorem indexB : ∀ t : Fin grid0.N, win0_4.index t 0 = 0 ∧ win0_4.index t 1 = 0 := by decide +kernel

theorem blockH (t : Fin cfg0.N) (i : Fin 128) (k : Fin 1024) :
    iblk m c 0 t (ix2 (n0 := 128) (n1 := 1024) i k)
      = argH m c (ix3 (streamOf rows_eq (rowAt t i)) (placeOf rows_eq (rowAt t i)) k) := by
  have e : iblk m c 0 t (ix2 (n0 := 128) (n1 := 1024) i k) = V m c main_v0 (ix2 (rowAt t i) k) := by
    show V m c main_v0 _ = _
    refine congrArg (V m c main_v0) ?_
    obtain ⟨e0, e1⟩ := indexH t
    funext a
    apply Fin.ext
    match a with
    | ⟨0, _⟩ => show win0_0.index t 0 * 128 + 1 * i.val = t.val * 128 + i.val; omega
    | ⟨1, _⟩ => show win0_0.index t 1 * 1024 + 1 * k.val = k.val; omega
  rw [e, entryH]
  exact flat_apply rows_eq _ _ _ _

theorem blockW (t : Fin cfg0.N) (k : Fin 1024) (j : Fin 6656) :
    iblk m c 1 t (ix2 (n0 := 1024) (n1 := 6656) k j) = argW m c (ix2 k (mainCol j)) := by
  have e : iblk m c 1 t (ix2 (n0 := 1024) (n1 := 6656) k j) = V m c main_v4 (ix2 k j) := by
    show V m c main_v4 _ = _
    refine congrArg (V m c main_v4) ?_
    obtain ⟨e0, e1⟩ := indexW t
    funext a
    apply Fin.ext
    match a with
    | ⟨0, _⟩ => show win0_1.index t 0 * 1024 + 1 * k.val = k.val; omega
    | ⟨1, _⟩ => show win0_1.index t 1 * 6656 + 1 * j.val = j.val; omega
  rw [e, entryW]
  exact main_weights (argW m c) slices_S1024x6672_S1024x4608_0_0 slices_S1024x6672_S1024x2048_0_4624 concatenates_S1024x4608_S1024x2048_S1024x6656_d1 k j

theorem blockL (t : Fin cfg0.N) (k : Fin 1024) (s : Fin 128) :
    iblk m c 2 t (ix2 (n0 := 1024) (n1 := 128) k s) = if hs : s.val < 16 then argW m c (ix2 k ⟨4608 + s.val, by omega⟩) else 0 := by
  have e : iblk m c 2 t (ix2 (n0 := 1024) (n1 := 128) k s) = V m c main_v7 (ix2 k s) := by
    show V m c main_v7 _ = _
    refine congrArg (V m c main_v7) ?_
    obtain ⟨e0, e1⟩ := indexL t
    funext a
    apply Fin.ext
    match a with
    | ⟨0, _⟩ => show win0_2.index t 0 * 1024 + 1 * k.val = k.val; omega
    | ⟨1, _⟩ => show win0_2.index t 1 * 128 + 1 * s.val = s.val; omega
  rw [e, entryL]
  exact low_weights (argW m c) _ rfl slices_S1024x6672_S1024x16_0_4608 pads_S1024x16_S1024x128_000_01120 h_S_ k s

theorem blockW2 (t : Fin cfg0.N) (s : Fin 128) (j : Fin 512) :
    iblk m c 3 t (ix2 (n0 := 128) (n1 := 512) s j) = if hs : s.val < 16 then argW2 m c (ix2 ⟨s.val, hs⟩ j) else 0 := by
  have e : iblk m c 3 t (ix2 (n0 := 128) (n1 := 512) s j) = V m c main_v8 (ix2 s j) := by
    show V m c main_v8 _ = _
    refine congrArg (V m c main_v8) ?_
    obtain ⟨e0, e1⟩ := indexW2 t
    funext a
    apply Fin.ext
    match a with
    | ⟨0, _⟩ => show win0_3.index t 0 * 128 + 1 * s.val = s.val; omega
    | ⟨1, _⟩ => show win0_3.index t 1 * 512 + 1 * j.val = j.val; omega
  rw [e, entryW2]
  exact second_weights (argW2 m c) _ rfl pads_S16x512_S128x512_01120_000 h_S_ s j

theorem blockB (t : Fin cfg0.N) (j : Fin 512) :
    iblk m c 4 t (ix2 (n0 := 1) (n1 := 512) 0 j) = argB m c (ix1 j) := by
  have e : iblk m c 4 t (ix2 (n0 := 1) (n1 := 512) 0 j) = V m c main_v9 (ix2 0 j) := by
    show V m c main_v9 _ = _
    refine congrArg (V m c main_v9) ?_
    obtain ⟨e0, e1⟩ := indexB t
    funext a
    apply Fin.ext
    match a with
    | ⟨0, _⟩ => show win0_4.index t 0 * 1 + 1 * 0 = 0; omega
    | ⟨1, _⟩ => show win0_4.index t 1 * 512 + 1 * j.val = j.val; omega
  rw [e, entryB]
  refine shapeCast_apply _ _ _ _ ?_
  rw [Shape.rowMajor_val_two, Shape.rowMajor_val_one]
  show j.val = 0 * 512 + j.val
  omega

/-! ### Products -/

theorem feature (t : Fin cfg0.N) (i : Fin 128) (k : Fin 1024) :
    k0_pay2 (View.ld (iblk m c 0 t) r0_0) (ix2 (n0 := 128) (n1 := 1024) i k)
      = argH m c (ix3 (streamOf rows_eq (rowAt t i)) (placeOf rows_eq (rowAt t i)) k) :=
  (ld_whole (K := 128) (N := 1024) (e := .f32) (iblk m c 0 t) _ _ i k).trans (blockH m c t i k)

theorem narrow (t : Fin cfg0.N) (o o' : ℕ) (ho : o + 512 ≤ 6656) (ho' : o' + 512 ≤ 6672)
    (hc : ∀ j : Fin 512, (mainCol ⟨o + j.val, by omega⟩).val = o' + j.val)
    (inb : ∀ a, (![0, o] : Fin 2 → ℕ) a + S1024x512.size a ≤ S1024x6656.size a) (i : Fin 128) (j : Fin 512) :
    matmul (φ₁ := .bf16) dot_S128x1024_S1024x512_S128x512_1_0_0_1_n_n none (k0_pay2 (View.ld (iblk m c 0 t) r0_0))
        (shapeCast S1024x512 (View.ld (iblk m c 1 t) (Rect.unit (s := S1024x6656) ![0, o] S1024x512.size inb)) shapeCasts_S1024x512_S1024x512 : FVec Ideal S1024x512 .bf16)
        (constant S128x512 .f32 0x00000000#32) (ix2 i j)
      = cols o' 512 ho' rows_eq (argH m c) (argW m c) (rowAt t i) j := by
  refine (Ideal.matmul_plain_apply none _ _ _ i j).trans ?_
  rw [constant_apply, word_zero, zero_add]
  unfold cols proj
  refine Finset.sum_congr rfl fun k _ => ?_
  refine congrArg₂ (fun x y : EReal => x * y) (feature m c t i k) ?_
  refine (ld_cols (K := 1024) (M := 6656) (N := 512) (e := .bf16) (iblk m c 1 t) inb _ ho k j).trans ?_
  refine (blockW m c t k _).trans ?_
  exact congrArg (fun q => argW m c (ix2 k q)) (Fin.ext (hc j))

theorem broad (t : Fin cfg0.N) (o o' : ℕ) (ho : o + 1024 ≤ 6656) (ho' : o' + 1024 ≤ 6672)
    (hc : ∀ j : Fin 1024, (mainCol ⟨o + j.val, by omega⟩).val = o' + j.val)
    (inb : ∀ a, (![0, o] : Fin 2 → ℕ) a + S1024x1024.size a ≤ S1024x6656.size a) (i : Fin 128) (j : Fin 1024) :
    matmul (φ₁ := .bf16) dot_S128x1024_S1024x1024_S128x1024_1_0_0_1_n_n none (k0_pay2 (View.ld (iblk m c 0 t) r0_0))
        (shapeCast S1024x1024 (View.ld (iblk m c 1 t) (Rect.unit (s := S1024x6656) ![0, o] S1024x1024.size inb)) shapeCasts_S1024x1024_S1024x1024 : FVec Ideal S1024x1024 .bf16)
        (constant S128x1024 .f32 0x00000000#32) (ix2 i j)
      = cols o' 1024 ho' rows_eq (argH m c) (argW m c) (rowAt t i) j := by
  refine (Ideal.matmul_plain_apply none _ _ _ i j).trans ?_
  rw [constant_apply, word_zero, zero_add]
  unfold cols proj
  refine Finset.sum_congr rfl fun k _ => ?_
  refine congrArg₂ (fun x y : EReal => x * y) (feature m c t i k) ?_
  refine (ld_cols (K := 1024) (M := 6656) (N := 1024) (e := .bf16) (iblk m c 1 t) inb _ ho k j).trans ?_
  refine (blockW m c t k _).trans ?_
  exact congrArg (fun q => argW m c (ix2 k q)) (Fin.ext (hc j))

/-! ### The log decays -/

theorem low (t : Fin cfg0.N) (i : Fin 128) (s : Fin 128) :
    matmul (φ₁ := .bf16) dot_S128x1024_S1024x128_S128x128_1_0_0_1_n_n none (k0_pay2 (View.ld (iblk m c 0 t) r0_0))
        (shapeCast S1024x128 (View.ld (iblk m c 2 t) r0_11) shapeCasts_S1024x128_S1024x128 : FVec Ideal S1024x128 .bf16) (constant S128x128 .f32 0x00000000#32) (ix2 i s)
      = ∑ k : Fin 1024, argH m c (ix3 (streamOf rows_eq (rowAt t i)) (placeOf rows_eq (rowAt t i)) k)
          * (if hs : s.val < 16 then argW m c (ix2 k ⟨4608 + s.val, by omega⟩) else 0) := by
  refine (Ideal.matmul_plain_apply none _ _ _ i s).trans ?_
  rw [constant_apply, word_zero, zero_add]
  refine Finset.sum_congr rfl fun k _ => ?_
  exact congrArg₂ (fun x y : EReal => x * y) (feature m c t i k)
    ((ld_whole (K := 1024) (N := 128) (e := .bf16) (iblk m c 2 t) _ _ k s).trans (blockL m c t k s))

theorem gate (t : Fin cfg0.N) (i : Fin 128) (j : Fin 512) :
    k0_pay15 (k0_pay2 (View.ld (iblk m c 0 t) r0_0)) (View.ld (iblk m c 2 t) r0_11) (View.ld (iblk m c 3 t) r0_2) (View.ld (iblk m c 4 t) r0_12) (ix2 i j)
      = -(lowRank rows_eq (argH m c) (argW m c) (argW2 m c) (argB m c) (rowAt t i) j) := by
  show (Ideal.ofBits .f32 0x00000000#32 : EReal) - _ = _
  rw [word_zero, zero_sub]
  refine congrArg (fun x : EReal => -x) ?_
  unfold lowRank
  show (_ : EReal) + _ = _
  refine congrArg₂ (fun x y : EReal => x + y) ?_ ?_
  · refine (Ideal.matmul_plain_apply none _ _ _ i j).trans ?_
    rw [constant_apply, word_zero, zero_add]
    have w2 : ∀ s : Fin 128, shapeCast S128x512 (View.ld (iblk m c 3 t) r0_2) shapeCasts_S128x512_S128x512 (ix2 s j)
        = if hs : s.val < 16 then argW2 m c (ix2 ⟨s.val, hs⟩ j) else 0 := fun s =>
      (ld_whole (K := 128) (N := 512) (e := .f32) (iblk m c 3 t) _ _ s j).trans (blockW2 m c t s j)
    refine sum_first (fun s hs => ?_) fun s => ?_
    · rw [w2, dif_neg hs]
      exact mul_zero _
    · rw [w2, dif_pos s.isLt]
      refine congrArg (fun x : EReal => x * argW2 m c (ix2 s j)) ((low m c t i _).trans ?_)
      unfold cols proj
      refine Finset.sum_congr rfl fun k _ => ?_
      rw [dif_pos s.isLt]
  · refine (broadcastTo_apply _ _ _ (ix2 (n0 := 1) (n1 := 512) 0 j) fun a => by
      match a with
      | ⟨0, _⟩ => rfl
      | ⟨1, _⟩ => rfl).trans ?_
    exact (ld_whole (K := 1) (N := 512) (e := .f32) (iblk m c 4 t) _ _ 0 j).trans (blockB m c t j)

end Cert.Proj.Sample

end
-- ==== Proof.ProjectSampleValue.lean ====
module

public import proofs.«01_k».proof.Proof.ProjectSampleBlocks
public import proofs.«01_k».proof.Proof.Gen.ProjectSampleIdeal.Value

/-! The sample's input projection: its twelve result arrays, of its arguments. -/

@[expose] public section

set_option maxRecDepth 16384

noncomputable section

namespace Cert.Proj.Sample

open Idealize.ShloMosaic Idealize.ShloMosaic.TcCoe Idealize.ShloMosaic.ValueIdx
open Cert.ProjectSampleIdeal Cert.ProjectSampleIdeal.Gen

variable (m : (ℓ : Loc nD τ sig) → Buf (Elt Ideal) ℓ) (c : Dev nD)

/-- `N` columns from column `o` on, of this launch's arguments. -/
abbrev part (o N : ℕ) (ho : o + N ≤ 6672) : Fin 128 → Fin N → EReal := cols o N ho rows_eq (argH m c) (argW m c)

theorem index5 : ∀ t : Fin grid0.N, win0_5.index t 0 = t.val ∧ win0_5.index t 1 = 0 := by decide +kernel

theorem leaves5 (t : Fin cfg0.N) (i : Fin 128) (j : Fin 512) :
    out0_5 (iblk m c 0 t) (iblk m c 1 t) (iblk m c 2 t) (iblk m c 3 t) (iblk m c 4 t) (ix2 (n0 := 128) (n1 := 512) i j)
      = part m c 0 512 (by omega) (rowAt t i) j * Ideal.ofBits .f32 0x3E000000#32 := by
  unfold out0_5
  rw [View.canon_unit_zero origin]
  exact congrArg (fun x : EReal => x * _) (narrow m c t 0 0 (by omega) (by omega) (early 512 (by omega)) inb_S1024x6656_S1024x512_0_0 i j)

/-- The queries of the attention heads, scaled. -/
theorem final5 : (dats m 0 c).arrAt 5 cfg0.N = table (fun r j => part m c 0 512 (by omega) r j * Ideal.ofBits .f32 0x3E000000#32) := by
  refine (dats m 0 c).arrAt_eq_of_covers 5 _ (by decide +kernel) fun t hf y => ?_
  blk_simp
  rw [after0_5]
  have key : ∀ (i : Fin 128) (j : Fin 512), (win0_5.blk t).view.emb (ix2 (n0 := 128) (n1 := 512) i j) = ix2 (rowAt t i) j := fun i j => by
    obtain ⟨e0, e1⟩ := index5 t
    funext a
    apply Fin.ext
    match a with
    | ⟨0, _⟩ => show win0_5.index t 0 * 128 + 1 * i.val = t.val * 128 + i.val; omega
    | ⟨1, _⟩ => show win0_5.index t 1 * 512 + 1 * j.val = j.val; omega
  refine block_ext (M := 128) (N := 512) _ (fun z => table (fun r j => part m c 0 512 (by omega) r j * Ideal.ofBits .f32 0x3E000000#32) ((win0_5.blk t).view.emb z)) (fun i j => ?_) y
  refine (leaves5 m c t i j).trans (Eq.trans ?_ (congrArg (table (fun r j => part m c 0 512 (by omega) r j * Ideal.ofBits .f32 0x3E000000#32)) (key i j)).symm)
  rfl

theorem index6 : ∀ t : Fin grid0.N, win0_6.index t 0 = t.val ∧ win0_6.index t 1 = 0 := by decide +kernel

theorem leaves6 (t : Fin cfg0.N) (i : Fin 128) (j : Fin 512) :
    out0_6 (iblk m c 0 t) (iblk m c 1 t) (iblk m c 2 t) (iblk m c 3 t) (iblk m c 4 t) (ix2 (n0 := 128) (n1 := 512) i j)
      = part m c 512 512 (by omega) (rowAt t i) j := by
  unfold out0_6
  rw [View.canon_unit_zero origin]
  exact narrow m c t 512 512 (by omega) (by omega) (early 512 (by omega)) inb_S1024x6656_S1024x512_0_512 i j

/-- The keys of the attention heads. -/
theorem final6 : (dats m 0 c).arrAt 6 cfg0.N = table (part m c 512 512 (by omega)) := by
  refine (dats m 0 c).arrAt_eq_of_covers 6 _ (by decide +kernel) fun t hf y => ?_
  blk_simp
  rw [after0_6]
  have key : ∀ (i : Fin 128) (j : Fin 512), (win0_6.blk t).view.emb (ix2 (n0 := 128) (n1 := 512) i j) = ix2 (rowAt t i) j := fun i j => by
    obtain ⟨e0, e1⟩ := index6 t
    funext a
    apply Fin.ext
    match a with
    | ⟨0, _⟩ => show win0_6.index t 0 * 128 + 1 * i.val = t.val * 128 + i.val; omega
    | ⟨1, _⟩ => show win0_6.index t 1 * 512 + 1 * j.val = j.val; omega
  refine block_ext (M := 128) (N := 512) _ (fun z => table (part m c 512 512 (by omega)) ((win0_6.blk t).view.emb z)) (fun i j => ?_) y
  refine (leaves6 m c t i j).trans (Eq.trans ?_ (congrArg (table (part m c 512 512 (by omega))) (key i j)).symm)
  rfl

theorem index7 : ∀ t : Fin grid0.N, win0_7.index t 0 = t.val ∧ win0_7.index t 1 = 0 := by decide +kernel

theorem leaves7 (t : Fin cfg0.N) (i : Fin 128) (j : Fin 512) :
    out0_7 (iblk m c 0 t) (iblk m c 1 t) (iblk m c 2 t) (iblk m c 3 t) (iblk m c 4 t) (ix2 (n0 := 128) (n1 := 512) i j)
      = part m c 1024 512 (by omega) (rowAt t i) j := by
  unfold out0_7
  rw [View.canon_unit_zero origin]
  exact narrow m c t 1024 1024 (by omega) (by omega) (early 512 (by omega)) inb_S1024x6656_S1024x512_0_1024 i j

/-- The values of the attention heads. -/
theorem final7 : (dats m 0 c).arrAt 7 cfg0.N = table (part m c 1024 512 (by omega)) := by
  refine (dats m 0 c).arrAt_eq_of_covers 7 _ (by decide +kernel) fun t hf y => ?_
  blk_simp
  rw [after0_7]
  have key : ∀ (i : Fin 128) (j : Fin 512), (win0_7.blk t).view.emb (ix2 (n0 := 128) (n1 := 512) i j) = ix2 (rowAt t i) j := fun i j => by
    obtain ⟨e0, e1⟩ := index7 t
    funext a
    apply Fin.ext
    match a with
    | ⟨0, _⟩ => show win0_7.index t 0 * 128 + 1 * i.val = t.val * 128 + i.val; omega
    | ⟨1, _⟩ => show win0_7.index t 1 * 512 + 1 * j.val = j.val; omega
  refine block_ext (M := 128) (N := 512) _ (fun z => table (part m c 1024 512 (by omega)) ((win0_7.blk t).view.emb z)) (fun i j => ?_) y
  refine (leaves7 m c t i j).trans (Eq.trans ?_ (congrArg (table (part m c 1024 512 (by omega))) (key i j)).symm)
  rfl

theorem index8 : ∀ t : Fin grid0.N, win0_8.index t 0 = t.val ∧ win0_8.index t 1 = 0 := by decide +kernel

theorem leaves8 (t : Fin cfg0.N) (i : Fin 128) (j : Fin 512) :
    out0_8 (iblk m c 0 t) (iblk m c 1 t) (iblk m c 2 t) (iblk m c 3 t) (iblk m c 4 t) (ix2 (n0 := 128) (n1 := 512) i j)
      = part m c 512 512 (by omega) (rowAt t i) j := by
  unfold out0_8
  rw [View.canon_unit_zero origin]
  exact narrow m c t 512 512 (by omega) (by omega) (early 512 (by omega)) inb_S1024x6656_S1024x512_0_512 i j

/-- The keys in full precision. -/
theorem final8 : (dats m 0 c).arrAt 8 cfg0.N = table (part m c 512 512 (by omega)) := by
  refine (dats m 0 c).arrAt_eq_of_covers 8 _ (by decide +kernel) fun t hf y => ?_
  blk_simp
  rw [after0_8]
  have key : ∀ (i : Fin 128) (j : Fin 512), (win0_8.blk t).view.emb (ix2 (n0 := 128) (n1 := 512) i j) = ix2 (rowAt t i) j := fun i j => by
    obtain ⟨e0, e1⟩ := index8 t
    funext a
    apply Fin.ext
    match a with
    | ⟨0, _⟩ => show win0_8.index t 0 * 128 + 1 * i.val = t.val * 128 + i.val; omega
    | ⟨1, _⟩ => show win0_8.index t 1 * 512 + 1 * j.val = j.val; omega
  refine block_ext (M := 128) (N := 512) _ (fun z => table (part m c 512 512 (by omega)) ((win0_8.blk t).view.emb z)) (fun i j => ?_) y
  refine (leaves8 m c t i j).trans (Eq.trans ?_ (congrArg (table (part m c 512 512 (by omega))) (key i j)).symm)
  rfl

theorem index9 : ∀ t : Fin grid0.N, win0_9.index t 0 = t.val ∧ win0_9.index t 1 = 0 := by decide +kernel

theorem leaves9 (t : Fin cfg0.N) (i : Fin 128) (j : Fin 512) :
    out0_9 (iblk m c 0 t) (iblk m c 1 t) (iblk m c 2 t) (iblk m c 3 t) (iblk m c 4 t) (ix2 (n0 := 128) (n1 := 512) i j)
      = part m c 1024 512 (by omega) (rowAt t i) j := by
  unfold out0_9
  rw [View.canon_unit_zero origin]
  exact narrow m c t 1024 1024 (by omega) (by omega) (early 512 (by omega)) inb_S1024x6656_S1024x512_0_1024 i j

/-- The values in full precision. -/
theorem final9 : (dats m 0 c).arrAt 9 cfg0.N = table (part m c 1024 512 (by omega)) := by
  refine (dats m 0 c).arrAt_eq_of_covers 9 _ (by decide +kernel) fun t hf y => ?_
  blk_simp
  rw [after0_9]
  have key : ∀ (i : Fin 128) (j : Fin 512), (win0_9.blk t).view.emb (ix2 (n0 := 128) (n1 := 512) i j) = ix2 (rowAt t i) j := fun i j => by
    obtain ⟨e0, e1⟩ := index9 t
    funext a
    apply Fin.ext
    match a with
    | ⟨0, _⟩ => show win0_9.index t 0 * 128 + 1 * i.val = t.val * 128 + i.val; omega
    | ⟨1, _⟩ => show win0_9.index t 1 * 512 + 1 * j.val = j.val; omega
  refine block_ext (M := 128) (N := 512) _ (fun z => table (part m c 1024 512 (by omega)) ((win0_9.blk t).view.emb z)) (fun i j => ?_) y
  refine (leaves9 m c t i j).trans (Eq.trans ?_ (congrArg (table (part m c 1024 512 (by omega))) (key i j)).symm)
  rfl

theorem index10 : ∀ t : Fin grid0.N, win0_10.index t 0 = t.val ∧ win0_10.index t 1 = 0 := by decide +kernel

theorem leaves10 (t : Fin cfg0.N) (i : Fin 128) (j : Fin 512) :
    out0_10 (iblk m c 0 t) (iblk m c 1 t) (iblk m c 2 t) (iblk m c 3 t) (iblk m c 4 t) (ix2 (n0 := 128) (n1 := 512) i j)
      = part m c 1536 512 (by omega) (rowAt t i) j * Ideal.ofBits .f32 0x3DB504F3#32 := by
  unfold out0_10
  rw [View.canon_unit_zero origin]
  exact congrArg (fun x : EReal => x * _) (narrow m c t 1536 1536 (by omega) (by omega) (early 512 (by omega)) inb_S1024x6656_S1024x512_0_1536 i j)

/-- The queries of the recurrence, scaled. -/
theorem final10 : (dats m 0 c).arrAt 10 cfg0.N = table (fun r j => part m c 1536 512 (by omega) r j * Ideal.ofBits .f32 0x3DB504F3#32) := by
  refine (dats m 0 c).arrAt_eq_of_covers 10 _ (by decide +kernel) fun t hf y => ?_
  blk_simp
  rw [after0_10]
  have key : ∀ (i : Fin 128) (j : Fin 512), (win0_10.blk t).view.emb (ix2 (n0 := 128) (n1 := 512) i j) = ix2 (rowAt t i) j := fun i j => by
    obtain ⟨e0, e1⟩ := index10 t
    funext a
    apply Fin.ext
    match a with
    | ⟨0, _⟩ => show win0_10.index t 0 * 128 + 1 * i.val = t.val * 128 + i.val; omega
    | ⟨1, _⟩ => show win0_10.index t 1 * 512 + 1 * j.val = j.val; omega
  refine block_ext (M := 128) (N := 512) _ (fun z => table (fun r j => part m c 1536 512 (by omega) r j * Ideal.ofBits .f32 0x3DB504F3#32) ((win0_10.blk t).view.emb z)) (fun i j => ?_) y
  refine (leaves10 m c t i j).trans (Eq.trans ?_ (congrArg (table (fun r j => part m c 1536 512 (by omega) r j * Ideal.ofBits .f32 0x3DB504F3#32)) (key i j)).symm)
  rfl

theorem index11 : ∀ t : Fin grid0.N, win0_11.index t 0 = t.val ∧ win0_11.index t 1 = 0 := by decide +kernel

theorem leaves11 (t : Fin cfg0.N) (i : Fin 128) (j : Fin 512) :
    out0_11 (iblk m c 0 t) (iblk m c 1 t) (iblk m c 2 t) (iblk m c 3 t) (iblk m c 4 t) (ix2 (n0 := 128) (n1 := 512) i j)
      = part m c 2048 512 (by omega) (rowAt t i) j := by
  unfold out0_11
  rw [View.canon_unit_zero origin]
  exact narrow m c t 2048 2048 (by omega) (by omega) (early 512 (by omega)) inb_S1024x6656_S1024x512_0_2048 i j

/-- The keys of the recurrence. -/
theorem final11 : (dats m 0 c).arrAt 11 cfg0.N = table (part m c 2048 512 (by omega)) := by
  refine (dats m 0 c).arrAt_eq_of_covers 11 _ (by decide +kernel) fun t hf y => ?_
  blk_simp
  rw [after0_11]
  have key : ∀ (i : Fin 128) (j : Fin 512), (win0_11.blk t).view.emb (ix2 (n0 := 128) (n1 := 512) i j) = ix2 (rowAt t i) j := fun i j => by
    obtain ⟨e0, e1⟩ := index11 t
    funext a
    apply Fin.ext
    match a with
    | ⟨0, _⟩ => show win0_11.index t 0 * 128 + 1 * i.val = t.val * 128 + i.val; omega
    | ⟨1, _⟩ => show win0_11.index t 1 * 512 + 1 * j.val = j.val; omega
  refine block_ext (M := 128) (N := 512) _ (fun z => table (part m c 2048 512 (by omega)) ((win0_11.blk t).view.emb z)) (fun i j => ?_) y
  refine (leaves11 m c t i j).trans (Eq.trans ?_ (congrArg (table (part m c 2048 512 (by omega))) (key i j)).symm)
  rfl

theorem index12 : ∀ t : Fin grid0.N, win0_12.index t 0 = t.val ∧ win0_12.index t 1 = 0 := by decide +kernel

theorem leaves12 (t : Fin cfg0.N) (i : Fin 128) (j : Fin 1024) :
    out0_12 (iblk m c 0 t) (iblk m c 1 t) (iblk m c 2 t) (iblk m c 3 t) (iblk m c 4 t) (ix2 (n0 := 128) (n1 := 1024) i j)
      = part m c 2560 1024 (by omega) (rowAt t i) j := by
  unfold out0_12
  rw [View.canon_unit_zero origin]
  exact broad m c t 2560 2560 (by omega) (by omega) (early 1024 (by omega)) inb_S1024x6656_S1024x1024_0_2560 i j

/-- The values of the recurrence. -/
theorem final12 : (dats m 0 c).arrAt 12 cfg0.N = table (part m c 2560 1024 (by omega)) := by
  refine (dats m 0 c).arrAt_eq_of_covers 12 _ (by decide +kernel) fun t hf y => ?_
  blk_simp
  rw [after0_12]
  have key : ∀ (i : Fin 128) (j : Fin 1024), (win0_12.blk t).view.emb (ix2 (n0 := 128) (n1 := 1024) i j) = ix2 (rowAt t i) j := fun i j => by
    obtain ⟨e0, e1⟩ := index12 t
    funext a
    apply Fin.ext
    match a with
    | ⟨0, _⟩ => show win0_12.index t 0 * 128 + 1 * i.val = t.val * 128 + i.val; omega
    | ⟨1, _⟩ => show win0_12.index t 1 * 1024 + 1 * j.val = j.val; omega
  refine block_ext (M := 128) (N := 1024) _ (fun z => table (part m c 2560 1024 (by omega)) ((win0_12.blk t).view.emb z)) (fun i j => ?_) y
  refine (leaves12 m c t i j).trans (Eq.trans ?_ (congrArg (table (part m c 2560 1024 (by omega))) (key i j)).symm)
  rfl

theorem index13 : ∀ t : Fin grid0.N, win0_13.index t 0 = t.val ∧ win0_13.index t 1 = 0 := by decide +kernel

theorem leaves13 (t : Fin cfg0.N) (i : Fin 128) (j : Fin 512) :
    out0_13 (iblk m c 0 t) (iblk m c 1 t) (iblk m c 2 t) (iblk m c 3 t) (iblk m c 4 t) (ix2 (n0 := 128) (n1 := 512) i j)
      = logDecay (lowRank rows_eq (argH m c) (argW m c) (argW2 m c) (argB m c) (rowAt t i) j) := by
  unfold out0_13
  rw [View.canon_unit_zero origin]
  have e := gate m c t i j
  have shape : ∀ y : EReal, (Ideal.ofBits .f32 0x00000000#32 - (max y (Ideal.ofBits .f32 0x00000000#32)
      + Ideal.log (one + Ideal.exp (Ideal.ofBits .f32 0x00000000#32 - max y (-y))))) * Ideal.ofBits .f32 0x3D800000#32
      = -softplus y * Ideal.ofBits .f32 0x3D800000#32 := fun y => by
    unfold softplus
    rw [word_zero, zero_sub, zero_sub]
  refine (shape _).trans ?_
  unfold logDecay
  exact congrArg (fun y : EReal => -softplus y * Ideal.ofBits .f32 0x3D800000#32) e

/-- The log decays. -/
theorem final13 : (dats m 0 c).arrAt 13 cfg0.N = table (fun r j => logDecay (lowRank rows_eq (argH m c) (argW m c) (argW2 m c) (argB m c) r j)) := by
  refine (dats m 0 c).arrAt_eq_of_covers 13 _ (by decide +kernel) fun t hf y => ?_
  blk_simp
  rw [after0_13]
  have key : ∀ (i : Fin 128) (j : Fin 512), (win0_13.blk t).view.emb (ix2 (n0 := 128) (n1 := 512) i j) = ix2 (rowAt t i) j := fun i j => by
    obtain ⟨e0, e1⟩ := index13 t
    funext a
    apply Fin.ext
    match a with
    | ⟨0, _⟩ => show win0_13.index t 0 * 128 + 1 * i.val = t.val * 128 + i.val; omega
    | ⟨1, _⟩ => show win0_13.index t 1 * 512 + 1 * j.val = j.val; omega
  refine block_ext (M := 128) (N := 512) _ (fun z => table (fun r j => logDecay (lowRank rows_eq (argH m c) (argW m c) (argW2 m c) (argB m c) r j)) ((win0_13.blk t).view.emb z)) (fun i j => ?_) y
  refine (leaves13 m c t i j).trans (Eq.trans ?_ (congrArg (table (fun r j => logDecay (lowRank rows_eq (argH m c) (argW m c) (argW2 m c) (argB m c) r j))) (key i j)).symm)
  rfl

theorem index14 : ∀ t : Fin grid0.N, win0_14.index t 0 = t.val ∧ win0_14.index t 1 = 0 := by decide +kernel

theorem leaves14 (t : Fin cfg0.N) (i : Fin 128) (j : Fin 1024) :
    out0_14 (iblk m c 0 t) (iblk m c 1 t) (iblk m c 2 t) (iblk m c 3 t) (iblk m c 4 t) (ix2 (n0 := 128) (n1 := 1024) i j)
      = part m c 3584 1024 (by omega) (rowAt t i) j * logistic (part m c 3584 1024 (by omega) (rowAt t i) j) := by
  unfold out0_14
  rw [View.canon_unit_zero origin]
  have e := broad m c t 3584 3584 (by omega) (by omega) (early 1024 (by omega)) inb_S1024x6656_S1024x1024_0_3584 i j
  show (_ : EReal) * Ideal.div one (one + Ideal.exp (Ideal.ofBits .f32 0x00000000#32 - _)) = _
  unfold k0_pay18 logistic
  rw [word_zero, zero_sub]
  exact congrArg (fun x : EReal => x * Ideal.div one (one + Ideal.exp (-x))) e

/-- The output gates of the recurrence. -/
theorem final14 : (dats m 0 c).arrAt 14 cfg0.N = table (fun r j => part m c 3584 1024 (by omega) r j * logistic (part m c 3584 1024 (by omega) r j)) := by
  refine (dats m 0 c).arrAt_eq_of_covers 14 _ (by decide +kernel) fun t hf y => ?_
  blk_simp
  rw [after0_14]
  have key : ∀ (i : Fin 128) (j : Fin 1024), (win0_14.blk t).view.emb (ix2 (n0 := 128) (n1 := 1024) i j) = ix2 (rowAt t i) j := fun i j => by
    obtain ⟨e0, e1⟩ := index14 t
    funext a
    apply Fin.ext
    match a with
    | ⟨0, _⟩ => show win0_14.index t 0 * 128 + 1 * i.val = t.val * 128 + i.val; omega
    | ⟨1, _⟩ => show win0_14.index t 1 * 1024 + 1 * j.val = j.val; omega
  refine block_ext (M := 128) (N := 1024) _ (fun z => table (fun r j => part m c 3584 1024 (by omega) r j * logistic (part m c 3584 1024 (by omega) r j)) ((win0_14.blk t).view.emb z)) (fun i j => ?_) y
  refine (leaves14 m c t i j).trans (Eq.trans ?_ (congrArg (table (fun r j => part m c 3584 1024 (by omega) r j * logistic (part m c 3584 1024 (by omega) r j))) (key i j)).symm)
  rfl

theorem index15 : ∀ t : Fin grid0.N, win0_15.index t 0 = t.val ∧ win0_15.index t 1 = 0 := by decide +kernel

theorem leaves15 (t : Fin cfg0.N) (i : Fin 128) (j : Fin 1024) :
    out0_15 (iblk m c 0 t) (iblk m c 1 t) (iblk m c 2 t) (iblk m c 3 t) (iblk m c 4 t) (ix2 (n0 := 128) (n1 := 1024) i j)
      = logistic (part m c 4624 1024 (by omega) (rowAt t i) j) := by
  unfold out0_15
  rw [View.canon_unit_zero origin]
  have e := broad m c t 4608 4624 (by omega) (by omega) (late 1024 (by omega) (by omega)) inb_S1024x6656_S1024x1024_0_4608 i j
  show Ideal.div one (one + Ideal.exp (Ideal.ofBits .f32 0x00000000#32 - _)) = _
  unfold logistic
  rw [word_zero, zero_sub]
  exact congrArg (fun x : EReal => Ideal.div one (one + Ideal.exp (-x))) e

/-- The first mixing gates. -/
theorem final15 : (dats m 0 c).arrAt 15 cfg0.N = table (fun r j => logistic (part m c 4624 1024 (by omega) r j)) := by
  refine (dats m 0 c).arrAt_eq_of_covers 15 _ (by decide +kernel) fun t hf y => ?_
  blk_simp
  rw [after0_15]
  have key : ∀ (i : Fin 128) (j : Fin 1024), (win0_15.blk t).view.emb (ix2 (n0 := 128) (n1 := 1024) i j) = ix2 (rowAt t i) j := fun i j => by
    obtain ⟨e0, e1⟩ := index15 t
    funext a
    apply Fin.ext
    match a with
    | ⟨0, _⟩ => show win0_15.index t 0 * 128 + 1 * i.val = t.val * 128 + i.val; omega
    | ⟨1, _⟩ => show win0_15.index t 1 * 1024 + 1 * j.val = j.val; omega
  refine block_ext (M := 128) (N := 1024) _ (fun z => table (fun r j => logistic (part m c 4624 1024 (by omega) r j)) ((win0_15.blk t).view.emb z)) (fun i j => ?_) y
  refine (leaves15 m c t i j).trans (Eq.trans ?_ (congrArg (table (fun r j => logistic (part m c 4624 1024 (by omega) r j))) (key i j)).symm)
  rfl

theorem index16 : ∀ t : Fin grid0.N, win0_16.index t 0 = t.val ∧ win0_16.index t 1 = 0 := by decide +kernel

theorem leaves16 (t : Fin cfg0.N) (i : Fin 128) (j : Fin 1024) :
    out0_16 (iblk m c 0 t) (iblk m c 1 t) (iblk m c 2 t) (iblk m c 3 t) (iblk m c 4 t) (ix2 (n0 := 128) (n1 := 1024) i j)
      = logistic (part m c 5648 1024 (by omega) (rowAt t i) j) := by
  unfold out0_16
  rw [View.canon_unit_zero origin]
  have e := broad m c t 5632 5648 (by omega) (by omega) (late 1024 (by omega) (by omega)) inb_S1024x6656_S1024x1024_0_5632 i j
  show Ideal.div one (one + Ideal.exp (Ideal.ofBits .f32 0x00000000#32 - _)) = _
  unfold logistic
  rw [word_zero, zero_sub]
  exact congrArg (fun x : EReal => Ideal.div one (one + Ideal.exp (-x))) e

/-- The second mixing gates. -/
theorem final16 : (dats m 0 c).arrAt 16 cfg0.N = table (fun r j => logistic (part m c 5648 1024 (by omega) r j)) := by
  refine (dats m 0 c).arrAt_eq_of_covers 16 _ (by decide +kernel) fun t hf y => ?_
  blk_simp
  rw [after0_16]
  have key : ∀ (i : Fin 128) (j : Fin 1024), (win0_16.blk t).view.emb (ix2 (n0 := 128) (n1 := 1024) i j) = ix2 (rowAt t i) j := fun i j => by
    obtain ⟨e0, e1⟩ := index16 t
    funext a
    apply Fin.ext
    match a with
    | ⟨0, _⟩ => show win0_16.index t 0 * 128 + 1 * i.val = t.val * 128 + i.val; omega
    | ⟨1, _⟩ => show win0_16.index t 1 * 1024 + 1 * j.val = j.val; omega
  refine block_ext (M := 128) (N := 1024) _ (fun z => table (fun r j => logistic (part m c 5648 1024 (by omega) r j)) ((win0_16.blk t).view.emb z)) (fun i j => ?_) y
  refine (leaves16 m c t i j).trans (Eq.trans ?_ (congrArg (table (fun r j => logistic (part m c 5648 1024 (by omega) r j))) (key i j)).symm)
  rfl

end Cert.Proj.Sample

end
-- ==== Proof.ProjectSampleRef.lean ====
module

public import proofs.«01_k».proof.Proof.ProjectMath
public import proofs.«01_k».proof.Proof.Gen.ProjectSampleReferenceIdeal.Run
public import Idealize.ShloMosaic.Lib.MatmulPlain

/-! The reference of the sample's input projection: its results as tables of the formula. -/

@[expose] public section

set_option maxRecDepth 16384

noncomputable section

namespace Cert.Proj.SampleRef

open Idealize.ShloMosaic Idealize.ShloMosaic.TcCoe Idealize.ShloMosaic.ValueIdx
open Cert.ProjectSampleReferenceIdeal Cert.ProjectSampleReferenceIdeal.Gen
open scoped BigOperators

theorem rows_eq : 128 = 8 * 16 := rfl

/-- The whole projection. -/
def whole (h : FVec Ideal S8x16x1024 .f32) (w : FVec Ideal S1024x6672 .f32) : FVec Ideal S8x16x6672 .f32 :=
  Host.dotGeneral dot_S8x16x1024_S1024x6672_S8x16x6672_2_0_01_1_n_n none h w

theorem whole_apply (h : FVec Ideal S8x16x1024 .f32) (w : FVec Ideal S1024x6672 .f32) (b : Fin 8) (t : Fin 16) (j : Fin 6672) :
    whole h w (ix3 b t j) = ∑ k : Fin 1024, h (ix3 b t k) * w (ix2 k j) := by
  have hr : dot_S8x16x1024_S1024x6672_S8x16x6672_2_0_01_1_n_n.contr.rank = 1 := rfl
  have hs : dot_S8x16x1024_S1024x6672_S8x16x6672_2_0_01_1_n_n.contr.size ⟨0, by omega⟩ = 1024 := rfl
  refine (Ideal.dotGeneral_apply _ _ _ _ _ _).trans ?_
  rw [← Equiv.sum_comp (contrEquiv1 _ 1024 hr hs).symm]
  refine Finset.sum_congr rfl fun s _ => ?_
  have hk := contrEquiv1_symm_val dot_S8x16x1024_S1024x6672_S8x16x6672_2_0_01_1_n_n 1024 hr hs s
  refine congrArg₂ (fun x y : EReal => x * y) (congrArg h (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem second_apply (x : FVec Ideal S8x16x16 .f32) (w : FVec Ideal S16x512 .f32) (b : Fin 8) (t : Fin 16) (j : Fin 512) :
    Host.dotGeneral dot_S8x16x16_S16x512_S8x16x512_2_0_01_1_n_n none x w (ix3 b t j) = ∑ k : Fin 16, x (ix3 b t k) * w (ix2 k j) := by
  have hr : dot_S8x16x16_S16x512_S8x16x512_2_0_01_1_n_n.contr.rank = 1 := rfl
  have hs : dot_S8x16x16_S16x512_S8x16x512_2_0_01_1_n_n.contr.size ⟨0, by omega⟩ = 16 := rfl
  refine (Ideal.dotGeneral_apply _ _ _ _ _ _).trans ?_
  rw [← Equiv.sum_comp (contrEquiv1 _ 16 hr hs).symm]
  refine Finset.sum_congr rfl fun s _ => ?_
  have hk := contrEquiv1_symm_val dot_S8x16x16_S16x512_S8x16x512_2_0_01_1_n_n 16 hr hs s
  refine congrArg₂ (fun x y : EReal => x * y) (congrArg x (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

variable (h : FVec Ideal S8x16x1024 .f32) (w : FVec Ideal S1024x6672 .f32)

/-- `N` columns of the whole projection at a row's stream and place. -/
theorem cut (o N : ℕ) (ho : o + N ≤ 6672) (hs : (⟨3, ![8, 16, 6672]⟩ : Shape).Slices ![0, 0, o] ⟨3, ![8, 16, N]⟩) (r : Fin 128) (j : Fin N) :
    extractStridedSlice ⟨3, ![8, 16, N]⟩ ![0, 0, o] (whole h w) hs (ix3 (streamOf rows_eq r) (placeOf rows_eq r) j)
      = cols o N ho rows_eq h w r j :=
  (slice_apply o ho (whole h w) hs _ _ _).trans (whole_apply h w _ _ _)

/-- A flattened array of tokens is a table once its entries are known. -/
theorem flat_table {N : ℕ} (x : (⟨3, ![8, 16, N]⟩ : Shape).Idx → EReal) (hc : (⟨3, ![8, 16, N]⟩ : Shape).ShapeCasts ⟨2, ![128, N]⟩)
    (f : Fin 128 → Fin N → EReal) (hx : ∀ (r : Fin 128) (j : Fin N), x (ix3 (streamOf rows_eq r) (placeOf rows_eq r) j) = f r j) :
    shapeCast ⟨2, ![128, N]⟩ x hc = table f := by
  funext i
  rw [ValueIdx.eq_ix2 i]
  exact (flat_apply rows_eq x hc _ _).trans (hx _ _)

theorem plain512 (o : ℕ) (ho : o + 512 ≤ 6672) (hs : S8x16x6672.Slices ![0, 0, o] S8x16x512) :
    (shapeCast S128x512 (extractStridedSlice S8x16x512 ![0, 0, o] (whole h w) hs) shapeCasts_S8x16x512_S128x512 : FVec Ideal S128x512 .f32)
      = table (cols o 512 ho rows_eq h w) :=
  flat_table _ _ _ fun r j => cut h w o 512 ho hs r j

theorem plain1024 (o : ℕ) (ho : o + 1024 ≤ 6672) (hs : S8x16x6672.Slices ![0, 0, o] S8x16x1024) :
    (shapeCast S128x1024 (extractStridedSlice S8x16x1024 ![0, 0, o] (whole h w) hs) shapeCasts_S8x16x1024_S128x1024 : FVec Ideal S128x1024 .f32)
      = table (cols o 1024 ho rows_eq h w) :=
  flat_table _ _ _ fun r j => cut h w o 1024 ho hs r j

theorem scaled512 (o : ℕ) (ho : o + 512 ≤ 6672) (hs : S8x16x6672.Slices ![0, 0, o] S8x16x512) (z : BitVec 32) :
    (shapeCast S128x512 (mulf (extractStridedSlice S8x16x512 ![0, 0, o] (whole h w) hs)
        (broadcastInDim S8x16x512 ![] bcast_S_S8x16x512 (constant (F := Ideal) S_ .f32 z))) shapeCasts_S8x16x512_S128x512 : FVec Ideal S128x512 .f32)
      = table fun r j => cols o 512 ho rows_eq h w r j * Ideal.ofBits .f32 z :=
  flat_table _ _ _ fun r j => congrArg (fun x : EReal => x * Ideal.ofBits .f32 z) (cut h w o 512 ho hs r j)

theorem logistic1024 (o : ℕ) (ho : o + 1024 ≤ 6672) (hs : S8x16x6672.Slices ![0, 0, o] S8x16x1024) :
    (shapeCast S128x1024 (Host.divf (broadcastInDim S8x16x1024 ![] bcast_S_S8x16x1024 (constant (F := Ideal) S_ .f32 0x3F800000#32))
        (addf (broadcastInDim S8x16x1024 ![] bcast_S_S8x16x1024 (constant (F := Ideal) S_ .f32 0x3F800000#32))
          (Host.exp (Host.negf (extractStridedSlice S8x16x1024 ![0, 0, o] (whole h w) hs))))) shapeCasts_S8x16x1024_S128x1024 : FVec Ideal S128x1024 .f32)
      = table fun r j => logistic (cols o 1024 ho rows_eq h w r j) :=
  flat_table _ _ _ fun r j => congrArg logistic (cut h w o 1024 ho hs r j)

theorem gated1024 (o : ℕ) (ho : o + 1024 ≤ 6672) (hs : S8x16x6672.Slices ![0, 0, o] S8x16x1024) :
    (shapeCast S128x1024 (mulf (extractStridedSlice S8x16x1024 ![0, 0, o] (whole h w) hs)
        (Host.divf (broadcastInDim S8x16x1024 ![] bcast_S_S8x16x1024 (constant (F := Ideal) S_ .f32 0x3F800000#32))
        (addf (broadcastInDim S8x16x1024 ![] bcast_S_S8x16x1024 (constant (F := Ideal) S_ .f32 0x3F800000#32))
          (Host.exp (Host.negf (extractStridedSlice S8x16x1024 ![0, 0, o] (whole h w) hs)))))) shapeCasts_S8x16x1024_S128x1024 : FVec Ideal S128x1024 .f32)
      = table fun r j => cols o 1024 ho rows_eq h w r j * logistic (cols o 1024 ho rows_eq h w r j) :=
  flat_table _ _ _ fun r j => congrArg (fun x : EReal => x * logistic x) (cut h w o 1024 ho hs r j)

/-- The low-rank product with its bias. -/
def gate (w2 : FVec Ideal S16x512 .f32) (bias : FVec Ideal S512 .f32) : FVec Ideal S8x16x512 .f32 :=
  addf (Host.dotGeneral dot_S8x16x16_S16x512_S8x16x512_2_0_01_1_n_n none
      (extractStridedSlice S8x16x16 ![0, 0, 4608] (whole h w) slices_S8x16x6672_S8x16x16_0_0_4608) w2)
    (broadcastInDim S8x16x512 ![0, 1, 2] bcast_S1x1x512_S8x16x512_0_1_2 (broadcastInDim S1x1x512 ![2] bcast_S512_S1x1x512_2 bias))

theorem gate_apply (w2 : FVec Ideal S16x512 .f32) (bias : FVec Ideal S512 .f32) (r : Fin 128) (j : Fin 512) :
    gate h w w2 bias (ix3 (streamOf rows_eq r) (placeOf rows_eq r) j) = lowRank rows_eq h w w2 bias r j := by
  unfold gate lowRank
  rw [addf_apply, second_apply]
  refine congrArg₂ (fun x y : EReal => x + y) (Finset.sum_congr rfl fun s _ => ?_) ?_
  · exact congrArg (fun x : EReal => x * w2 (ix2 s j)) (cut h w 4608 16 _ _ r s)
  · refine (broadcastInDim_apply _ _ _ _ (ix3 (n0 := 1) (n1 := 1) (n2 := 512) 0 0 j) fun a => by
      match a with
      | ⟨0, _⟩ => rfl
      | ⟨1, _⟩ => rfl
      | ⟨2, _⟩ => rfl).trans ?_
    exact broadcastInDim_apply _ _ _ _ (ix1 j) fun a => by
      match a with
      | ⟨0, _⟩ => rfl

/-- The log of the logistic function of an array, divided by sixteen, as the reference computes it. -/
def decayArray (x : FVec Ideal S8x16x512 .f32) : FVec Ideal S8x16x512 .f32 :=
  Host.divf (Host.negf (select (cmpf .une (subf (Host.negf x) (broadcastInDim S8x16x512 ![] bcast_S_S8x16x512 (constant S_ .f32 0x00000000#32)))
      (subf (Host.negf x) (broadcastInDim S8x16x512 ![] bcast_S_S8x16x512 (constant S_ .f32 0x00000000#32))))
      (addf (Host.negf x) (broadcastInDim S8x16x512 ![] bcast_S_S8x16x512 (constant S_ .f32 0x00000000#32)))
      (addf (maximumf (Host.negf x) (broadcastInDim S8x16x512 ![] bcast_S_S8x16x512 (constant S_ .f32 0x00000000#32)))
        (Host.log1p (Host.exp (Host.negf (Host.absf (subf (Host.negf x) (broadcastInDim S8x16x512 ![] bcast_S_S8x16x512 (constant S_ .f32 0x00000000#32))))))))))
    (broadcastInDim S8x16x512 ![] bcast_S_S8x16x512 (constant S_ .f32 0x41800000#32))

theorem decayArray_apply (x : FVec Ideal S8x16x512 .f32) (i : S8x16x512.Idx) : decayArray x i = logDecay (x i) := by
  refine Eq.trans ?_ (logDecay_host (x i))
  show Ideal.div (-(Scalar.select (Ideal.cmp .une (-(x i) - Ideal.ofBits .f32 0x00000000#32) (-(x i) - Ideal.ofBits .f32 0x00000000#32))
    (-(x i) + Ideal.ofBits .f32 0x00000000#32) (max (-(x i)) (Ideal.ofBits .f32 0x00000000#32)
      + Ideal.log1p (Ideal.exp (-(max (-(x i) - Ideal.ofBits .f32 0x00000000#32) (-(-(x i) - Ideal.ofBits .f32 0x00000000#32))))))))
    (Ideal.ofBits .f32 0x41800000#32) = _
  rw [word_zero]

theorem decays (w2 : FVec Ideal S16x512 .f32) (bias : FVec Ideal S512 .f32) :
    (shapeCast S128x512 (decayArray (gate h w w2 bias)) shapeCasts_S8x16x512_S128x512 : FVec Ideal S128x512 .f32)
      = table fun r j => logDecay (lowRank rows_eq h w w2 bias r j) :=
  flat_table _ _ _ fun r j => (decayArray_apply _ _).trans (congrArg logDecay (gate_apply h w w2 bias r j))

end Cert.Proj.SampleRef

end
-- ==== Proof.ProjectSampleClaim.lean ====
module

public import proofs.«01_k».proof.Defs
public import proofs.«01_k».proof.Proof.ProjectSampleValue
public import proofs.«01_k».proof.Proof.ProjectSampleRef
public import proofs.«01_k».proof.Proof.Gen.ProjectSample.Frame
public import proofs.«01_k».proof.Proof.Gen.ProjectSampleIdeal.Frame

/-! The claims of the sample's input projection: the frames, and kernel and reference end with equal results. -/

@[expose] public section

set_option maxRecDepth 16384

noncomputable section

namespace Cert.Proj

open Idealize.ShloMosaic
open Idealize.ShloMosaic.TcCoe Idealize.ShloMosaic.ValueIdx Idealize.SL.Sem

theorem frame_sample : Cert.quiescent_ProjectSample := fun m ρ _ => Cert.ProjectSample.Gen.frame m ρ
theorem frame_sampleIdeal : Cert.quiescent_ProjectSampleIdeal := fun m ρ _ => Cert.ProjectSampleIdeal.Gen.frame m ρ

/-- The reference keeps its arguments, and declares no semaphore. -/
theorem frame_sampleReference : Cert.quiescent_ProjectSampleReferenceIdeal := fun m ρ _ =>
  (θ_run Cert.ProjectSampleReferenceIdeal.defs _ _).mono
    (fun r h => ⟨fun c => (h c).2.2.2.2.2.2.2.2.2.2.2.2, sem_eq_zero_of_no_sems (by decide) r.2⟩)
    (Cert.ProjectSampleReferenceIdeal.Value.run (F := Ideal) m ρ)

set_option maxHeartbeats 2000000 in
/-- From equal arguments, whatever they hold, the two programs end with equal results. -/
theorem algebraic_sample : Cert.algebraic_ProjectSampleIdeal_ProjectSampleReferenceIdeal := by
  intro m ρ m' ρ' _ ha
  refine ⟨fun c => (Cert.ProjectSampleIdeal.Gen.dats m 0 c).arrAt 5 Cert.ProjectSampleIdeal.cfg0.N,
    fun c => (Cert.ProjectSampleIdeal.Gen.dats m 0 c).arrAt 6 Cert.ProjectSampleIdeal.cfg0.N,
    fun c => (Cert.ProjectSampleIdeal.Gen.dats m 0 c).arrAt 7 Cert.ProjectSampleIdeal.cfg0.N,
    fun c => (Cert.ProjectSampleIdeal.Gen.dats m 0 c).arrAt 8 Cert.ProjectSampleIdeal.cfg0.N,
    fun c => (Cert.ProjectSampleIdeal.Gen.dats m 0 c).arrAt 9 Cert.ProjectSampleIdeal.cfg0.N,
    fun c => (Cert.ProjectSampleIdeal.Gen.dats m 0 c).arrAt 10 Cert.ProjectSampleIdeal.cfg0.N,
    fun c => (Cert.ProjectSampleIdeal.Gen.dats m 0 c).arrAt 11 Cert.ProjectSampleIdeal.cfg0.N,
    fun c => (Cert.ProjectSampleIdeal.Gen.dats m 0 c).arrAt 12 Cert.ProjectSampleIdeal.cfg0.N,
    fun c => (Cert.ProjectSampleIdeal.Gen.dats m 0 c).arrAt 13 Cert.ProjectSampleIdeal.cfg0.N,
    fun c => (Cert.ProjectSampleIdeal.Gen.dats m 0 c).arrAt 14 Cert.ProjectSampleIdeal.cfg0.N,
    fun c => (Cert.ProjectSampleIdeal.Gen.dats m 0 c).arrAt 15 Cert.ProjectSampleIdeal.cfg0.N,
    fun c => (Cert.ProjectSampleIdeal.Gen.dats m 0 c).arrAt 16 Cert.ProjectSampleIdeal.cfg0.N,
    Cert.ProjectSampleIdeal.Value.run_blocks m ρ, ?_⟩
  refine (θ_run Cert.ProjectSampleReferenceIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
    (Cert.ProjectSampleReferenceIdeal.Value.run (F := Ideal) m' ρ')
  · rw [(ha c).1, (ha c).2.1]
    exact (SampleRef.scaled512 (Sample.argH m c) (Sample.argW m c) 0 (by omega) Cert.ProjectSampleReferenceIdeal.Gen.slices_S8x16x6672_S8x16x512_0_0_0 _).trans (Sample.final5 m c).symm
  · rw [(ha c).1, (ha c).2.1]
    exact (SampleRef.plain512 (Sample.argH m c) (Sample.argW m c) 512 (by omega) Cert.ProjectSampleReferenceIdeal.Gen.slices_S8x16x6672_S8x16x512_0_0_512).trans (Sample.final6 m c).symm
  · rw [(ha c).1, (ha c).2.1]
    exact (SampleRef.plain512 (Sample.argH m c) (Sample.argW m c) 1024 (by omega) Cert.ProjectSampleReferenceIdeal.Gen.slices_S8x16x6672_S8x16x512_0_0_1024).trans (Sample.final7 m c).symm
  · rw [(ha c).1, (ha c).2.1]
    exact (SampleRef.plain512 (Sample.argH m c) (Sample.argW m c) 512 (by omega) Cert.ProjectSampleReferenceIdeal.Gen.slices_S8x16x6672_S8x16x512_0_0_512).trans (Sample.final8 m c).symm
  · rw [(ha c).1, (ha c).2.1]
    exact (SampleRef.plain512 (Sample.argH m c) (Sample.argW m c) 1024 (by omega) Cert.ProjectSampleReferenceIdeal.Gen.slices_S8x16x6672_S8x16x512_0_0_1024).trans (Sample.final9 m c).symm
  · rw [(ha c).1, (ha c).2.1]
    exact (SampleRef.scaled512 (Sample.argH m c) (Sample.argW m c) 1536 (by omega) Cert.ProjectSampleReferenceIdeal.Gen.slices_S8x16x6672_S8x16x512_0_0_1536 _).trans (Sample.final10 m c).symm
  · rw [(ha c).1, (ha c).2.1]
    exact (SampleRef.plain512 (Sample.argH m c) (Sample.argW m c) 2048 (by omega) Cert.ProjectSampleReferenceIdeal.Gen.slices_S8x16x6672_S8x16x512_0_0_2048).trans (Sample.final11 m c).symm
  · rw [(ha c).1, (ha c).2.1]
    exact (SampleRef.plain1024 (Sample.argH m c) (Sample.argW m c) 2560 (by omega) Cert.ProjectSampleReferenceIdeal.Gen.slices_S8x16x6672_S8x16x1024_0_0_2560).trans (Sample.final12 m c).symm
  · rw [(ha c).1, (ha c).2.1, (ha c).2.2.1, (ha c).2.2.2]
    exact (SampleRef.decays (Sample.argH m c) (Sample.argW m c) (Sample.argW2 m c) (Sample.argB m c)).trans (Sample.final13 m c).symm
  · rw [(ha c).1, (ha c).2.1]
    exact (SampleRef.gated1024 (Sample.argH m c) (Sample.argW m c) 3584 (by omega) Cert.ProjectSampleReferenceIdeal.Gen.slices_S8x16x6672_S8x16x1024_0_0_3584).trans (Sample.final14 m c).symm
  · rw [(ha c).1, (ha c).2.1]
    exact (SampleRef.logistic1024 (Sample.argH m c) (Sample.argW m c) 4624 (by omega) Cert.ProjectSampleReferenceIdeal.Gen.slices_S8x16x6672_S8x16x1024_0_0_4624).trans (Sample.final15 m c).symm
  · rw [(ha c).1, (ha c).2.1]
    exact (SampleRef.logistic1024 (Sample.argH m c) (Sample.argW m c) 5648 (by omega) Cert.ProjectSampleReferenceIdeal.Gen.slices_S8x16x6672_S8x16x1024_0_0_5648).trans (Sample.final16 m c).symm

end Cert.Proj

end
-- ==== Proof.MergeMath.lean ====
module

public import proofs.«01_k».proof.Proof.ProjectMath
public import Idealize.ShloMosaic.Lib.Pointwise
public import Idealize.ShloMosaic.Lib.MatmulPlain

/-! The merge of a layer's two branches as a formula: each head of the linear attention over its root mean square, both
branches through their gates and products, one product of the two together, and the norm behind the residual. Then the
parts of it that a block of rows computes. -/

@[expose] public section

set_option maxRecDepth 16384

noncomputable section

namespace Cert.Merge

open Idealize.ShloMosaic hiding ix1 ix2 ix3 ix4 ix5
open Idealize.ShloMosaic.ValueIdx
open Cert.Proj
open scoped BigOperators

/-- A head's values over their root mean square, times the gains. -/
def normed (x g : Fin 256 → EReal) (k : Fin 256) : EReal :=
  x k * Ideal.rsqrt (Ideal.div (∑ d : Fin 256, x d * x d) (Ideal.ofBits .f32 0x43800000#32) + Ideal.ofBits .f32 0x358637BD#32) * g k

/-- Which of four heads a column belongs to. -/
def headOf (j : Fin 1024) : Fin 4 := ⟨j.val / 256, by omega⟩
/-- A column's place in its head. -/
def laneOf (j : Fin 1024) : Fin 256 := ⟨j.val % 256, by omega⟩

/-- The four normed heads side by side, gated. -/
def gated (x : Fin 4 → Fin 256 → EReal) (g : Fin 256 → EReal) (gate : Fin 1024 → EReal) (j : Fin 1024) : EReal :=
  normed (x (headOf j)) g (laneOf j) * gate j

/-- A row times a matrix. -/
def times {K N : ℕ} (x : Fin K → EReal) (w : Fin K → Fin N → EReal) (n : Fin N) : EReal := ∑ k : Fin K, x k * w k n

/-- The two branches through their gates. -/
def mixed (ga gb a b : Fin 1024 → EReal) (n : Fin 1024) : EReal := ga n * a n + gb n * b n

/-- The residual, scaled, and the branches. -/
def summed (h y : Fin 1024 → EReal) (n : Fin 1024) : EReal := Ideal.ofBits .f32 0x3FB504F3#32 * h n + y n

/-- The mean of a row of 1024. -/
def mean (x : Fin 1024 → EReal) : EReal := Ideal.div (∑ n : Fin 1024, x n) (Ideal.ofBits .f32 0x44800000#32)

/-- A row less its mean. -/
def centred (x : Fin 1024 → EReal) (n : Fin 1024) : EReal := x n - mean x

/-- The norm of a row: less its mean, over its deviation, times gains, plus offsets. -/
def layerNorm (x g b : Fin 1024 → EReal) (n : Fin 1024) : EReal :=
  centred x n * Ideal.rsqrt (mean (fun k => centred x k * centred x k) + Ideal.ofBits .f32 0x3727C5AC#32) * g n + b n

/-- A row of the merge. -/
def row (h : Fin 1024 → EReal) (sb : Fin 512 → EReal) (go : Fin 4 → Fin 256 → EReal) (rb ga gb : Fin 1024 → EReal) (gn : Fin 256 → EReal)
    (wa : Fin 512 → Fin 1024 → EReal) (wb wo : Fin 1024 → Fin 1024 → EReal) (g b : Fin 1024 → EReal) : Fin 1024 → EReal :=
  layerNorm (summed h (times (mixed ga gb (times sb wa) (times (gated go gn rb) wb)) wo)) g b

/-! ### Lanes of a block of 256 rows -/

section Lanes

variable {N : ℕ}

theorem lane_sum (h : (⟨2, ![256, N]⟩ : Shape).Reduces [1] ⟨1, ![256]⟩) (x : FVec Ideal ⟨2, ![256, N]⟩ .f32) (acc : BitVec (FTy.f32).bits)
    (hφ : FKind.Formats .f32) (hacc : acc = FKind.add.neutral .f32 hφ) (i : Fin 256) :
    multiReduction .add [1] ⟨1, ![256]⟩ x acc h hφ hacc (ix1 i) = ∑ k : Fin N, x (ix2 i k) :=
  (multiReduction_add_apply x acc h hφ hacc (ix1 i)).trans (Ideal.reduceAdd_r2_a1 h x (ix1 i))

theorem upright (x : (⟨1, ![256]⟩ : Shape).Idx → EReal) (hc : (⟨1, ![256]⟩ : Shape).ShapeCasts ⟨2, ![256, 1]⟩) (i : Fin 256) :
    shapeCast ⟨2, ![256, 1]⟩ x hc (ix2 i 0) = x (ix1 i) := by
  refine shapeCast_apply _ _ _ _ ?_
  rw [Shape.rowMajor_val_two, Shape.rowMajor_val_one]
  show i.val = i.val * 1 + 0
  omega

theorem across (x : (⟨2, ![256, 1]⟩ : Shape).Idx → EReal) (hb : (⟨2, ![256, 1]⟩ : Shape).Broadcasts ⟨2, ![256, N]⟩) (i : Fin 256) (k : Fin N) :
    broadcastTo ⟨2, ![256, N]⟩ x hb (ix2 i k) = x (ix2 i 0) :=
  broadcastTo_apply _ _ _ _ fun a => by
    match a with
    | ⟨0, _⟩ => rfl
    | ⟨1, _⟩ => rfl

theorem down (hN : N ≠ 1) (x : (⟨2, ![1, N]⟩ : Shape).Idx → EReal) (hb : (⟨2, ![1, N]⟩ : Shape).Broadcasts ⟨2, ![256, N]⟩) (i : Fin 256) (k : Fin N) :
    broadcastTo ⟨2, ![256, N]⟩ x hb (ix2 i k) = x (ix2 0 k) :=
  broadcastTo_apply _ _ _ _ fun a => by
    match a with
    | ⟨0, _⟩ => rfl
    | ⟨1, _⟩ => exact (if_neg hN).symm

end Lanes

/-! ### The parts a block computes -/

/-- One head of a block, over its root mean square. -/
theorem head_apply (o : ℕ) (x : FVec Ideal ⟨2, ![256, 1024]⟩ .f32) (g : FVec Ideal ⟨2, ![1, 256]⟩ .f32)
    (hs : (⟨2, ![256, 1024]⟩ : Shape).Slices ![0, o] ⟨2, ![256, 256]⟩) (hr : (⟨2, ![256, 256]⟩ : Shape).Reduces [1] ⟨1, ![256]⟩)
    (hc : (⟨1, ![256]⟩ : Shape).ShapeCasts ⟨2, ![256, 1]⟩) (hb : (⟨2, ![256, 1]⟩ : Shape).Broadcasts ⟨2, ![256, 256]⟩)
    (hb' : (⟨2, ![1, 256]⟩ : Shape).Broadcasts ⟨2, ![256, 256]⟩) (hφ : FKind.Formats .f32) (hacc : (0x00000000#32 : BitVec (FTy.f32).bits) = FKind.add.neutral .f32 hφ)
    (i : Fin 256) (f gn : Fin 256 → EReal) (ho : o + 256 ≤ 1024) (hx : ∀ k : Fin 256, x (ix2 i ⟨o + k.val, by omega⟩) = f k)
    (hg : ∀ k : Fin 256, g (ix2 0 k) = gn k) (k : Fin 256) :
    mulf (mulf (extractStridedSlice ⟨2, ![256, 256]⟩ ![0, o] x hs)
        (broadcastTo ⟨2, ![256, 256]⟩ (rsqrt (addf (divf (shapeCast ⟨2, ![256, 1]⟩
            (multiReduction .add [1] ⟨1, ![256]⟩ (mulf (extractStridedSlice ⟨2, ![256, 256]⟩ ![0, o] x hs) (extractStridedSlice ⟨2, ![256, 256]⟩ ![0, o] x hs))
              0x00000000#32 hr hφ hacc) hc)
          (broadcast ⟨2, ![256, 1]⟩ (Scalar.ofBits (F := Ideal) .f32 0x43800000#32))) (broadcast ⟨2, ![256, 1]⟩ (Scalar.ofBits (F := Ideal) .f32 0x358637BD#32)))) hb))
      (broadcastTo ⟨2, ![256, 256]⟩ g hb') (ix2 i k) = normed f gn k := by
  have hcut : ∀ k : Fin 256, extractStridedSlice ⟨2, ![256, 256]⟩ ![0, o] x hs (ix2 i k) = f k := fun k =>
    (extractStridedSlice_apply _ _ _ _ (ix2 i ⟨o + k.val, by omega⟩) fun a => by
      match a with
      | ⟨0, _⟩ => show i.val = 0 + i.val; omega
      | ⟨1, _⟩ => rfl).trans (hx k)
  unfold normed
  rw [mulf_apply, mulf_apply, down (by omega), across, hcut, hg]
  refine congrArg (fun s : EReal => f k * Ideal.rsqrt (Ideal.div s _ + _) * gn k) ?_
  refine (upright _ hc i).trans ((lane_sum hr _ _ hφ hacc i).trans (Finset.sum_congr rfl fun d _ => ?_))
  exact congrArg (fun e : EReal => e * e) (hcut d)

/-- Four heads side by side. -/
theorem beside (f : Fin 4 → Fin 256 → EReal) (a0 a1 a2 a3 : (⟨2, ![256, 256]⟩ : Shape).Idx → EReal) (i : Fin 256)
    (h0 : ∀ k : Fin 256, a0 (ix2 i k) = f 0 k) (h1 : ∀ k : Fin 256, a1 (ix2 i k) = f 1 k) (h2 : ∀ k : Fin 256, a2 (ix2 i k) = f 2 k)
    (h3 : ∀ k : Fin 256, a3 (ix2 i k) = f 3 k)
    (hc : Shape.Concatenates [(⟨2, ![256, 256]⟩ : Shape), ⟨2, ![256, 256]⟩, ⟨2, ![256, 256]⟩, ⟨2, ![256, 256]⟩] ⟨2, ![256, 1024]⟩ 1) (j : Fin 1024) :
    concatenate ⟨2, ![256, 1024]⟩ 1 [⟨⟨2, ![256, 256]⟩, a0⟩, ⟨⟨2, ![256, 256]⟩, a1⟩, ⟨⟨2, ![256, 256]⟩, a2⟩, ⟨⟨2, ![256, 256]⟩, a3⟩] hc (ix2 i j)
      = f (headOf j) (laneOf j) := by
  have off : ∀ b : Fin 2, b ≠ 1 → (ix2 (n0 := 256) (n1 := 256) i (laneOf j) b).val = (ix2 (n0 := 256) (n1 := 1024) i j b).val := fun b hb => by
    match b, hb with
    | ⟨0, _⟩, _ => rfl
    | ⟨1, _⟩, hb => exact absurd rfl hb
  have hj : j.val = 256 * (headOf j).val + (laneOf j).val := (Nat.div_add_mod _ _).symm
  have piece : ∀ (q : Fin 4), headOf j = q → j.val = 256 * q.val + (laneOf j).val := fun q hq => by rw [← hq]; exact hj
  have cases4 : headOf j = 0 ∨ headOf j = 1 ∨ headOf j = 2 ∨ headOf j = 3 := by
    generalize headOf j = q
    revert q
    decide
  rcases cases4 with hq | hq | hq | hq
  · rw [hq, ← h0]
    exact concatenate_apply_piece (t := ⟨2, ![256, 1024]⟩) 1 [⟨⟨2, ![256, 256]⟩, a0⟩, ⟨⟨2, ![256, 256]⟩, a1⟩, ⟨⟨2, ![256, 256]⟩, a2⟩, ⟨⟨2, ![256, 256]⟩, a3⟩] hc (ix2 i j) 0 (by show 0 < 4; omega) ⟨2, ![256, 256]⟩ a0 rfl rfl 0 rfl (ix2 i (laneOf j)) off (by have := piece 0 hq; show 0 + (laneOf j).val = j.val; omega)
  · rw [hq, ← h1]
    exact concatenate_apply_piece (t := ⟨2, ![256, 1024]⟩) 1 [⟨⟨2, ![256, 256]⟩, a0⟩, ⟨⟨2, ![256, 256]⟩, a1⟩, ⟨⟨2, ![256, 256]⟩, a2⟩, ⟨⟨2, ![256, 256]⟩, a3⟩] hc (ix2 i j) 1 (by show 1 < 4; omega) ⟨2, ![256, 256]⟩ a1 rfl rfl 256 rfl (ix2 i (laneOf j)) off (by have := piece 1 hq; show 256 + (laneOf j).val = j.val; omega)
  · rw [hq, ← h2]
    exact concatenate_apply_piece (t := ⟨2, ![256, 1024]⟩) 1 [⟨⟨2, ![256, 256]⟩, a0⟩, ⟨⟨2, ![256, 256]⟩, a1⟩, ⟨⟨2, ![256, 256]⟩, a2⟩, ⟨⟨2, ![256, 256]⟩, a3⟩] hc (ix2 i j) 2 (by show 2 < 4; omega) ⟨2, ![256, 256]⟩ a2 rfl rfl 512 rfl (ix2 i (laneOf j)) off (by have := piece 2 hq; show 512 + (laneOf j).val = j.val; omega)
  · rw [hq, ← h3]
    exact concatenate_apply_piece (t := ⟨2, ![256, 1024]⟩) 1 [⟨⟨2, ![256, 256]⟩, a0⟩, ⟨⟨2, ![256, 256]⟩, a1⟩, ⟨⟨2, ![256, 256]⟩, a2⟩, ⟨⟨2, ![256, 256]⟩, a3⟩] hc (ix2 i j) 3 (by show 3 < 4; omega) ⟨2, ![256, 256]⟩ a3 rfl rfl 768 rfl (ix2 i (laneOf j)) off (by have := piece 3 hq; show 768 + (laneOf j).val = j.val; omega)

section Norm

variable (x : FVec Ideal ⟨2, ![256, 1024]⟩ .f32) (hr : (⟨2, ![256, 1024]⟩ : Shape).Reduces [1] ⟨1, ![256]⟩)
  (hc : (⟨1, ![256]⟩ : Shape).ShapeCasts ⟨2, ![256, 1]⟩) (hb : (⟨2, ![256, 1]⟩ : Shape).Broadcasts ⟨2, ![256, 1024]⟩)
  (hφ : FKind.Formats .f32) (hacc : (0x00000000#32 : BitVec (FTy.f32).bits) = FKind.add.neutral .f32 hφ)

/-- The means of a block's rows, as a block computes them. -/
def means : FVec Ideal ⟨2, ![256, 1]⟩ .f32 :=
  divf (shapeCast ⟨2, ![256, 1]⟩ (multiReduction .add [1] ⟨1, ![256]⟩ x 0x00000000#32 hr hφ hacc) hc)
    (broadcast ⟨2, ![256, 1]⟩ (Scalar.ofBits (F := Ideal) .f32 0x44800000#32))

theorem means_apply (i : Fin 256) (f : Fin 1024 → EReal) (hx : ∀ n : Fin 1024, x (ix2 i n) = f n) :
    means x hr hc hφ hacc (ix2 i 0) = mean f := by
  unfold means mean
  refine congrArg (fun s : EReal => Ideal.div s _) ?_
  exact (upright _ hc i).trans ((lane_sum hr _ _ hφ hacc i).trans (Finset.sum_congr rfl fun n _ => hx n))

/-- A block's rows less their means. -/
def centreds : FVec Ideal ⟨2, ![256, 1024]⟩ .f32 := subf x (broadcastTo ⟨2, ![256, 1024]⟩ (means x hr hc hφ hacc) hb)

theorem centreds_apply (i : Fin 256) (f : Fin 1024 → EReal) (hx : ∀ n : Fin 1024, x (ix2 i n) = f n) (n : Fin 1024) :
    centreds x hr hc hb hφ hacc (ix2 i n) = centred f n := by
  unfold centreds centred
  rw [subf_apply, across, hx, means_apply x hr hc hφ hacc i f hx]

/-- A block's rows normed. -/
theorem norm_apply (g b : FVec Ideal ⟨2, ![1, 1024]⟩ .f32) (hb' : (⟨2, ![1, 1024]⟩ : Shape).Broadcasts ⟨2, ![256, 1024]⟩)
    (i : Fin 256) (f gs bs : Fin 1024 → EReal) (hx : ∀ n : Fin 1024, x (ix2 i n) = f n) (hg : ∀ n : Fin 1024, g (ix2 0 n) = gs n)
    (hbs : ∀ n : Fin 1024, b (ix2 0 n) = bs n) (n : Fin 1024) :
    addf (mulf (mulf (centreds x hr hc hb hφ hacc)
        (broadcastTo ⟨2, ![256, 1024]⟩ (rsqrt (addf (means (mulf (centreds x hr hc hb hφ hacc) (centreds x hr hc hb hφ hacc)) hr hc hφ hacc)
          (broadcast ⟨2, ![256, 1]⟩ (Scalar.ofBits (F := Ideal) .f32 0x3727C5AC#32)))) hb))
      (broadcastTo ⟨2, ![256, 1024]⟩ g hb')) (broadcastTo ⟨2, ![256, 1024]⟩ b hb') (ix2 i n) = layerNorm f gs bs n := by
  unfold layerNorm
  rw [addf_apply, mulf_apply, mulf_apply, across, down (by omega), down (by omega), centreds_apply x hr hc hb hφ hacc i f hx, hg, hbs]
  refine congrArg (fun s : EReal => centred f n * Ideal.rsqrt (s + _) * gs n + bs n) ?_
  refine means_apply _ hr hc hφ hacc i _ fun k => ?_
  exact congrArg (fun e : EReal => e * e) (centreds_apply x hr hc hb hφ hacc i f hx k)

end Norm

/-- A block's rows times a matrix. -/
theorem times_apply {K N : ℕ} {φ₁ φ₂ : FTy} (x : FVec Ideal ⟨2, ![256, K]⟩ φ₁) (w : FVec Ideal ⟨2, ![K, N]⟩ φ₂) (i : Fin 256)
    (f : Fin K → EReal) (ws : Fin K → Fin N → EReal) (hx : ∀ k : Fin K, x (ix2 i k) = f k) (hw : ∀ (k : Fin K) (n : Fin N), w (ix2 k n) = ws k n) (n : Fin N) :
    matmul (DotDims.plain 256 K N) none x w (constant ⟨2, ![256, N]⟩ .f32 0x00000000#32) (ix2 i n) = times f ws n := by
  refine (Ideal.matmul_plain_apply none x w _ i n).trans ?_
  rw [constant_apply, word_zero, zero_add]
  unfold times
  exact Finset.sum_congr rfl fun k _ => congrArg₂ (fun p q : EReal => p * q) (hx k) (hw k n)

/-! ### Rows laid out by stream, place and head -/

/-- A list of rows of heads read by stream, place, head and lane. -/
theorem flat_heads {T R A B N : ℕ} {α : Type} (hR : R = 8 * T) (hN : N = A * B) (hB : 0 < B) (x : (⟨4, ![8, T, A, B]⟩ : Shape).Idx → α)
    (hc : (⟨4, ![8, T, A, B]⟩ : Shape).ShapeCasts ⟨2, ![R, N]⟩) (r : Fin R) (j : Fin N) :
    shapeCast ⟨2, ![R, N]⟩ x hc (ix2 r j)
      = x (ix4 (streamOf hR r) (placeOf hR r) ⟨j.val / B, Nat.div_lt_of_lt_mul (lt_of_lt_of_eq j.isLt (hN.trans (Nat.mul_comm A B)))⟩ ⟨j.val % B, Nat.mod_lt _ hB⟩) := by
  refine shapeCast_apply _ _ _ _ ?_
  rw [Shape.rowMajor_val_four, Shape.rowMajor_val_two]
  show ((r.val / T * T + r.val % T) * A + j.val / B) * B + j.val % B = r.val * N + j.val
  rw [Nat.div_add_mod']
  have e : r.val * N = r.val * A * B := by rw [hN, Nat.mul_assoc]
  rw [e, Nat.add_mul, Nat.add_assoc, Nat.div_add_mod']

/-- Heads side by side at a stream and place. -/
theorem flat_lanes {T A B N : ℕ} {α : Type} (hN : N = A * B) (hB : 0 < B) (x : (⟨4, ![8, T, A, B]⟩ : Shape).Idx → α)
    (hc : (⟨4, ![8, T, A, B]⟩ : Shape).ShapeCasts ⟨3, ![8, T, N]⟩) (b : Fin 8) (t : Fin T) (j : Fin N) :
    shapeCast ⟨3, ![8, T, N]⟩ x hc (ix3 b t j)
      = x (ix4 b t ⟨j.val / B, Nat.div_lt_of_lt_mul (lt_of_lt_of_eq j.isLt (hN.trans (Nat.mul_comm A B)))⟩ ⟨j.val % B, Nat.mod_lt _ hB⟩) := by
  refine shapeCast_apply _ _ _ _ ?_
  rw [Shape.rowMajor_val_four, Shape.rowMajor_val_three]
  show ((b.val * T + t.val) * A + j.val / B) * B + j.val % B = (b.val * T + t.val) * N + j.val
  have e : (b.val * T + t.val) * N = (b.val * T + t.val) * A * B := by rw [hN, Nat.mul_assoc]
  rw [e, Nat.add_mul _ (j.val / B) B, Nat.add_assoc, Nat.div_add_mod']

/-! ### The whole merge -/

section Whole

variable {T R : ℕ} (hR : R = 8 * T)

/-- A row of an array of tokens. -/
def rowOf (x : FVec Ideal ⟨3, ![8, T, 1024]⟩ .f32) (r : Fin R) (j : Fin 1024) : EReal := x (ix3 (streamOf hR r) (placeOf hR r) j)
/-- A row's four heads. -/
def headsOf (x : FVec Ideal ⟨4, ![8, T, 4, 256]⟩ .f32) (r : Fin R) (a : Fin 4) (k : Fin 256) : EReal := x (ix4 (streamOf hR r) (placeOf hR r) a k)
/-- A row's eight heads side by side. -/
def lanesOf (x : FVec Ideal ⟨4, ![8, T, 8, 64]⟩ .f32) (r : Fin R) (k : Fin 512) : EReal :=
  x (ix4 (streamOf hR r) (placeOf hR r) ⟨k.val / 64, by omega⟩ ⟨k.val % 64, by omega⟩)
/-- A matrix by its entries. -/
def entries {K N : ℕ} (w : FVec Ideal ⟨2, ![K, N]⟩ .f32) (k : Fin K) (n : Fin N) : EReal := w (ix2 k n)
/-- A list by its entries. -/
def items {N : ℕ} (x : FVec Ideal ⟨1, ![N]⟩ .f32) (n : Fin N) : EReal := x (ix1 n)

/-- The merge of every row. -/
def merge (h : FVec Ideal ⟨3, ![8, T, 1024]⟩ .f32) (sb : FVec Ideal ⟨4, ![8, T, 8, 64]⟩ .f32) (go : FVec Ideal ⟨4, ![8, T, 4, 256]⟩ .f32)
    (rb ga gb : FVec Ideal ⟨3, ![8, T, 1024]⟩ .f32) (gn : FVec Ideal ⟨1, ![256]⟩ .f32) (wa : FVec Ideal ⟨2, ![512, 1024]⟩ .f32)
    (wb wo : FVec Ideal ⟨2, ![1024, 1024]⟩ .f32) (g b : FVec Ideal ⟨1, ![1024]⟩ .f32) (r : Fin R) : Fin 1024 → EReal :=
  row (rowOf hR h r) (lanesOf hR sb r) (headsOf hR go r) (fun j => rowOf hR rb r j * logistic (rowOf hR rb r j))
    (fun j => logistic (rowOf hR ga r j)) (fun j => logistic (rowOf hR gb r j)) (items gn) (entries wa) (entries wb) (entries wo) (items g) (items b)

end Whole

end Cert.Merge

end
-- ==== Proof.MergeBlocks.lean ====
module

public import proofs.«01_k».proof.Proof.MergeMath
public import proofs.«01_k».proof.Proof.Gen.MergeIdeal.Frame
public import Idealize.ShloMosaic.Lib.Claim
public import Idealize.ShloMosaic.Lib.MatmulPlain
public import Idealize.ShloMosaic.Lib.Pipeline.ValueKit.Geometry

/-! The blocks of the prompt's merge, of the program's arguments. -/

@[expose] public section

set_option maxRecDepth 16384

noncomputable section

namespace Cert.Merge.Prompt

open Idealize.ShloMosaic hiding ix1 ix2 ix3 ix4 ix5
open Idealize.ShloMosaic.TcCoe Idealize.ShloMosaic.ValueIdx
open Cert.MergeIdeal Cert.MergeIdeal.Gen
open Cert.Proj
open scoped BigOperators

variable (m : (ℓ : Loc nD τ sig) → Buf (Elt Ideal) ℓ) (c : Dev nD)

/-- The normalised features. -/
def argH : FVec Ideal S8x8208x1024 .f32 := m ((c : Thread nD τ).loc main_arg0)
/-- The outputs of the attention heads. -/
def argS : FVec Ideal S8x8208x8x64 .f32 := m ((c : Thread nD τ).loc main_arg1)
/-- The outputs of the linear attention's heads. -/
def argG : FVec Ideal S8x8208x4x256 .f32 := m ((c : Thread nD τ).loc main_arg2)
/-- The linear attention's gates. -/
def argR : FVec Ideal S8x8208x1024 .f32 := m ((c : Thread nD τ).loc main_arg3)
/-- The gates of the attention branch. -/
def argGa : FVec Ideal S8x8208x1024 .f32 := m ((c : Thread nD τ).loc main_arg4)
/-- The gates of the linear attention branch. -/
def argGb : FVec Ideal S8x8208x1024 .f32 := m ((c : Thread nD τ).loc main_arg5)
/-- The gains of a head's norm. -/
def argN : FVec Ideal S256 .f32 := m ((c : Thread nD τ).loc main_arg6)
/-- The weights of the attention branch. -/
def argWa : FVec Ideal S512x1024 .f32 := m ((c : Thread nD τ).loc main_arg7)
/-- The weights of the linear attention branch. -/
def argWb : FVec Ideal S1024x1024 .f32 := m ((c : Thread nD τ).loc main_arg8)
/-- The weights behind the merge. -/
def argWo : FVec Ideal S1024x1024 .f32 := m ((c : Thread nD τ).loc main_arg9)
/-- The gains of the norm behind. -/
def argLg : FVec Ideal S1024 .f32 := m ((c : Thread nD τ).loc main_arg10)
/-- The offsets of the norm behind. -/
def argLb : FVec Ideal S1024 .f32 := m ((c : Thread nD τ).loc main_arg11)

/-- An array of tokens with zero rows up to whole blocks. -/
def tokens (x : FVec Ideal S8x8208x1024 .f32) : FVec Ideal S8x8320x1024 .f32 :=
  pad S8x8320x1024 ![0, 0, 0] ![0, 112, 0] ![0, 0, 0] x (sitofp .f32 (constantI S_ 32 0#32)) pads_S8x8208x1024_S8x8320x1024_000_01120_000 h_S_
/-- The attention heads' outputs likewise. -/
def tokensS : FVec Ideal S8x8320x8x64 .f32 :=
  pad S8x8320x8x64 ![0, 0, 0, 0] ![0, 112, 0, 0] ![0, 0, 0, 0] (argS m c) (sitofp .f32 (constantI S_ 32 0#32)) pads_S8x8208x8x64_S8x8320x8x64_000_01120_000_000 h_S_
/-- The linear attention heads' outputs likewise. -/
def tokensG : FVec Ideal S8x8320x4x256 .f32 :=
  pad S8x8320x4x256 ![0, 0, 0, 0] ![0, 112, 0, 0] ![0, 0, 0, 0] (argG m c) (sitofp .f32 (constantI S_ 32 0#32)) pads_S8x8208x4x256_S8x8320x4x256_000_01120_000_000 h_S_

theorem rows_eq : 66560 = 8 * 8320 := rfl

/-- An array of tokens as a list of rows. -/
def flat (x : FVec Ideal S8x8320x1024 .f32) : FVec Ideal S66560x1024 .f32 := shapeCast S66560x1024 x shapeCasts_S8x8320x1024_S66560x1024

theorem flat_row (x : FVec Ideal S8x8320x1024 .f32) (r : Fin 66560) (j : Fin 1024) : flat x (ix2 r j) = rowOf rows_eq x r j :=
  flat_apply rows_eq x _ r j

/-- The logistic function of a list of rows. -/
def gates (x : FVec Ideal S66560x1024 .f32) : FVec Ideal S66560x1024 .f32 :=
  Host.divf (broadcastInDim S66560x1024 ![] bcast_S_S66560x1024 (constant S_ .f32 0x3F800000#32))
    (addf (broadcastInDim S66560x1024 ![] bcast_S_S66560x1024 (constant S_ .f32 0x3F800000#32)) (Host.exp (Host.negf x)))

theorem gates_apply (x : FVec Ideal S66560x1024 .f32) (i : S66560x1024.Idx) : gates x i = logistic (x i) := rfl

/-- The row at place `i` of a grid point's block. -/
def rowAt (t : Fin cfg0.N) (i : Fin 256) : Fin 66560 := ⟨t.val * 256 + i.val, by have h : t.val < 260 := lt_of_lt_of_eq t.isLt N_0; omega⟩

theorem entryH : (V m c main_v3 : FVec Ideal S66560x1024 .f32) = flat (tokens (argH m c)) := by
  unfold flat tokens argH
  entry_read
  rfl

theorem indexH : ∀ t : Fin grid0.N, win0_0.index t 0 = t.val ∧ win0_0.index t 1 = 0 := by decide +kernel

theorem blockH (t : Fin cfg0.N) (i : Fin 256) (k : Fin 1024) :
    iblk m c 0 t (ix2 (n0 := 256) (n1 := 1024) i k) = rowOf rows_eq (tokens (argH m c)) (rowAt t i) k := by
  have e : iblk m c 0 t (ix2 (n0 := 256) (n1 := 1024) i k) = V m c main_v3 (ix2 (rowAt t i) k) := by
    show V m c main_v3 _ = _
    refine congrArg (V m c main_v3) ?_
    obtain ⟨e0, e1⟩ := indexH t
    funext a
    apply Fin.ext
    match a with
    | ⟨0, _⟩ => show win0_0.index t 0 * 256 + 1 * i.val = t.val * 256 + i.val; omega
    | ⟨1, _⟩ => show win0_0.index t 1 * 1024 + 1 * k.val = k.val; omega
  rw [e, entryH]
  exact flat_row _ _ _

theorem entryS : (V m c main_v6 : FVec Ideal S66560x512 .bf16) = truncf .bf16 (shapeCast S66560x512 (tokensS m c) shapeCasts_S8x8320x8x64_S66560x512) bitsLt_bf16_f32 := by
  unfold tokensS argS
  entry_read
  rfl

theorem indexS : ∀ t : Fin grid0.N, win0_1.index t 0 = t.val ∧ win0_1.index t 1 = 0 := by decide +kernel

theorem blockS (t : Fin cfg0.N) (i : Fin 256) (k : Fin 512) :
    iblk m c 1 t (ix2 (n0 := 256) (n1 := 512) i k) = lanesOf rows_eq (tokensS m c) (rowAt t i) k := by
  have e : iblk m c 1 t (ix2 (n0 := 256) (n1 := 512) i k) = V m c main_v6 (ix2 (rowAt t i) k) := by
    show V m c main_v6 _ = _
    refine congrArg (V m c main_v6) ?_
    obtain ⟨e0, e1⟩ := indexS t
    funext a
    apply Fin.ext
    match a with
    | ⟨0, _⟩ => show win0_1.index t 0 * 256 + 1 * i.val = t.val * 256 + i.val; omega
    | ⟨1, _⟩ => show win0_1.index t 1 * 512 + 1 * k.val = k.val; omega
  rw [e, entryS]
  exact flat_heads (A := 8) (B := 64) rows_eq (by omega) (by omega) (tokensS m c) shapeCasts_S8x8320x8x64_S66560x512 (rowAt t i) k

theorem entryG : (V m c main_v8 : FVec Ideal S66560x1024 .f32) = shapeCast S66560x1024 (tokensG m c) shapeCasts_S8x8320x4x256_S66560x1024 := by
  unfold tokensG argG
  entry_read
  rfl

theorem indexG : ∀ t : Fin grid0.N, win0_2.index t 0 = t.val ∧ win0_2.index t 1 = 0 := by decide +kernel

theorem blockG (t : Fin cfg0.N) (i : Fin 256) (k : Fin 1024) :
    iblk m c 2 t (ix2 (n0 := 256) (n1 := 1024) i k) = headsOf rows_eq (tokensG m c) (rowAt t i) (headOf k) (laneOf k) := by
  have e : iblk m c 2 t (ix2 (n0 := 256) (n1 := 1024) i k) = V m c main_v8 (ix2 (rowAt t i) k) := by
    show V m c main_v8 _ = _
    refine congrArg (V m c main_v8) ?_
    obtain ⟨e0, e1⟩ := indexG t
    funext a
    apply Fin.ext
    match a with
    | ⟨0, _⟩ => show win0_2.index t 0 * 256 + 1 * i.val = t.val * 256 + i.val; omega
    | ⟨1, _⟩ => show win0_2.index t 1 * 1024 + 1 * k.val = k.val; omega
  rw [e, entryG]
  exact flat_heads (A := 4) (B := 256) rows_eq (by omega) (by omega) (tokensG m c) shapeCasts_S8x8320x4x256_S66560x1024 (rowAt t i) k

theorem entryR : (V m c main_v16 : FVec Ideal S66560x1024 .bf16) = truncf .bf16 (mulf (flat (tokens (argR m c))) (gates (flat (tokens (argR m c))))) bitsLt_bf16_f32 := by
  unfold gates flat tokens argR
  entry_read
  rfl

theorem indexR : ∀ t : Fin grid0.N, win0_3.index t 0 = t.val ∧ win0_3.index t 1 = 0 := by decide +kernel

theorem blockR (t : Fin cfg0.N) (i : Fin 256) (k : Fin 1024) :
    iblk m c 3 t (ix2 (n0 := 256) (n1 := 1024) i k) = rowOf rows_eq (tokens (argR m c)) (rowAt t i) k * logistic (rowOf rows_eq (tokens (argR m c)) (rowAt t i) k) := by
  have e : iblk m c 3 t (ix2 (n0 := 256) (n1 := 1024) i k) = V m c main_v16 (ix2 (rowAt t i) k) := by
    show V m c main_v16 _ = _
    refine congrArg (V m c main_v16) ?_
    obtain ⟨e0, e1⟩ := indexR t
    funext a
    apply Fin.ext
    match a with
    | ⟨0, _⟩ => show win0_3.index t 0 * 256 + 1 * i.val = t.val * 256 + i.val; omega
    | ⟨1, _⟩ => show win0_3.index t 1 * 1024 + 1 * k.val = k.val; omega
  rw [e, entryR]
  exact congrArg (fun x : EReal => x * logistic x) (flat_row _ _ _)

theorem entryGa : (V m c main_v25 : FVec Ideal S66560x1024 .bf16) = truncf .bf16 (gates (flat (tokens (argGa m c)))) bitsLt_bf16_f32 := by
  unfold gates flat tokens argGa
  entry_read
  rfl

theorem indexGa : ∀ t : Fin grid0.N, win0_4.index t 0 = t.val ∧ win0_4.index t 1 = 0 := by decide +kernel

theorem blockGa (t : Fin cfg0.N) (i : Fin 256) (k : Fin 1024) :
    iblk m c 4 t (ix2 (n0 := 256) (n1 := 1024) i k) = logistic (rowOf rows_eq (tokens (argGa m c)) (rowAt t i) k) := by
  have e : iblk m c 4 t (ix2 (n0 := 256) (n1 := 1024) i k) = V m c main_v25 (ix2 (rowAt t i) k) := by
    show V m c main_v25 _ = _
    refine congrArg (V m c main_v25) ?_
    obtain ⟨e0, e1⟩ := indexGa t
    funext a
    apply Fin.ext
    match a with
    | ⟨0, _⟩ => show win0_4.index t 0 * 256 + 1 * i.val = t.val * 256 + i.val; omega
    | ⟨1, _⟩ => show win0_4.index t 1 * 1024 + 1 * k.val = k.val; omega
  rw [e, entryGa]
  exact congrArg logistic (flat_row _ _ _)

theorem entryGb : (V m c main_v34 : FVec Ideal S66560x1024 .bf16) = truncf .bf16 (gates (flat (tokens (argGb m c)))) bitsLt_bf16_f32 := by
  unfold gates flat tokens argGb
  entry_read
  rfl

theorem indexGb : ∀ t : Fin grid0.N, win0_5.index t 0 = t.val ∧ win0_5.index t 1 = 0 := by decide +kernel

theorem blockGb (t : Fin cfg0.N) (i : Fin 256) (k : Fin 1024) :
    iblk m c 5 t (ix2 (n0 := 256) (n1 := 1024) i k) = logistic (rowOf rows_eq (tokens (argGb m c)) (rowAt t i) k) := by
  have e : iblk m c 5 t (ix2 (n0 := 256) (n1 := 1024) i k) = V m c main_v34 (ix2 (rowAt t i) k) := by
    show V m c main_v34 _ = _
    refine congrArg (V m c main_v34) ?_
    obtain ⟨e0, e1⟩ := indexGb t
    funext a
    apply Fin.ext
    match a with
    | ⟨0, _⟩ => show win0_5.index t 0 * 256 + 1 * i.val = t.val * 256 + i.val; omega
    | ⟨1, _⟩ => show win0_5.index t 1 * 1024 + 1 * k.val = k.val; omega
  rw [e, entryGb]
  exact congrArg logistic (flat_row _ _ _)

theorem entryN : (V m c main_v35 : FVec Ideal S1x256 .f32) = shapeCast S1x256 (argN m c) shapeCasts_S256_S1x256 := by
  unfold argN
  entry_read
  rfl

theorem indexN : ∀ t : Fin grid0.N, win0_6.index t 0 = 0 ∧ win0_6.index t 1 = 0 := by decide +kernel

theorem blockN (t : Fin cfg0.N) (k : Fin 256) :
    iblk m c 6 t (ix2 (n0 := 1) (n1 := 256) 0 k) = items (argN m c) k := by
  have e : iblk m c 6 t (ix2 (n0 := 1) (n1 := 256) 0 k) = V m c main_v35 (ix2 0 k) := by
    show V m c main_v35 _ = _
    refine congrArg (V m c main_v35) ?_
    obtain ⟨e0, e1⟩ := indexN t
    funext a
    apply Fin.ext
    match a with
    | ⟨0, _⟩ => show win0_6.index t 0 * 1 + 1 * 0 = 0; omega
    | ⟨1, _⟩ => show win0_6.index t 1 * 256 + 1 * k.val = k.val; omega
  rw [e, entryN]
  refine shapeCast_apply _ _ _ (ix1 k) ?_
  rw [Shape.rowMajor_val_two, Shape.rowMajor_val_one]
  show k.val = 0 * 256 + k.val
  omega

theorem entryWa : (V m c main_v36 : FVec Ideal S512x1024 .bf16) = truncf .bf16 (argWa m c) bitsLt_bf16_f32 := by
  unfold argWa
  entry_read
  rfl

theorem indexWa : ∀ t : Fin grid0.N, win0_7.index t 0 = 0 ∧ win0_7.index t 1 = 0 := by decide +kernel

theorem blockWa (t : Fin cfg0.N) (i : Fin 512) (k : Fin 1024) :
    iblk m c 7 t (ix2 (n0 := 512) (n1 := 1024) i k) = entries (argWa m c) i k := by
  have e : iblk m c 7 t (ix2 (n0 := 512) (n1 := 1024) i k) = V m c main_v36 (ix2 i k) := by
    show V m c main_v36 _ = _
    refine congrArg (V m c main_v36) ?_
    obtain ⟨e0, e1⟩ := indexWa t
    funext a
    apply Fin.ext
    match a with
    | ⟨0, _⟩ => show win0_7.index t 0 * 512 + 1 * i.val = i.val; omega
    | ⟨1, _⟩ => show win0_7.index t 1 * 1024 + 1 * k.val = k.val; omega
  rw [e, entryWa]
  rfl

theorem entryWb : (V m c main_v37 : FVec Ideal S1024x1024 .bf16) = truncf .bf16 (argWb m c) bitsLt_bf16_f32 := by
  unfold argWb
  entry_read
  rfl

theorem indexWb : ∀ t : Fin grid0.N, win0_8.index t 0 = 0 ∧ win0_8.index t 1 = 0 := by decide +kernel

theorem blockWb (t : Fin cfg0.N) (i : Fin 1024) (k : Fin 1024) :
    iblk m c 8 t (ix2 (n0 := 1024) (n1 := 1024) i k) = entries (argWb m c) i k := by
  have e : iblk m c 8 t (ix2 (n0 := 1024) (n1 := 1024) i k) = V m c main_v37 (ix2 i k) := by
    show V m c main_v37 _ = _
    refine congrArg (V m c main_v37) ?_
    obtain ⟨e0, e1⟩ := indexWb t
    funext a
    apply Fin.ext
    match a with
    | ⟨0, _⟩ => show win0_8.index t 0 * 1024 + 1 * i.val = i.val; omega
    | ⟨1, _⟩ => show win0_8.index t 1 * 1024 + 1 * k.val = k.val; omega
  rw [e, entryWb]
  rfl

theorem entryWo : (V m c main_v38 : FVec Ideal S1024x1024 .bf16) = truncf .bf16 (argWo m c) bitsLt_bf16_f32 := by
  unfold argWo
  entry_read
  rfl

theorem indexWo : ∀ t : Fin grid0.N, win0_9.index t 0 = 0 ∧ win0_9.index t 1 = 0 := by decide +kernel

theorem blockWo (t : Fin cfg0.N) (i : Fin 1024) (k : Fin 1024) :
    iblk m c 9 t (ix2 (n0 := 1024) (n1 := 1024) i k) = entries (argWo m c) i k := by
  have e : iblk m c 9 t (ix2 (n0 := 1024) (n1 := 1024) i k) = V m c main_v38 (ix2 i k) := by
    show V m c main_v38 _ = _
    refine congrArg (V m c main_v38) ?_
    obtain ⟨e0, e1⟩ := indexWo t
    funext a
    apply Fin.ext
    match a with
    | ⟨0, _⟩ => show win0_9.index t 0 * 1024 + 1 * i.val = i.val; omega
    | ⟨1, _⟩ => show win0_9.index t 1 * 1024 + 1 * k.val = k.val; omega
  rw [e, entryWo]
  rfl

theorem entryLg : (V m c main_v39 : FVec Ideal S1x1024 .f32) = shapeCast S1x1024 (argLg m c) shapeCasts_S1024_S1x1024 := by
  unfold argLg
  entry_read
  rfl

theorem indexLg : ∀ t : Fin grid0.N, win0_10.index t 0 = 0 ∧ win0_10.index t 1 = 0 := by decide +kernel

theorem blockLg (t : Fin cfg0.N) (k : Fin 1024) :
    iblk m c 10 t (ix2 (n0 := 1) (n1 := 1024) 0 k) = items (argLg m c) k := by
  have e : iblk m c 10 t (ix2 (n0 := 1) (n1 := 1024) 0 k) = V m c main_v39 (ix2 0 k) := by
    show V m c main_v39 _ = _
    refine congrArg (V m c main_v39) ?_
    obtain ⟨e0, e1⟩ := indexLg t
    funext a
    apply Fin.ext
    match a with
    | ⟨0, _⟩ => show win0_10.index t 0 * 1 + 1 * 0 = 0; omega
    | ⟨1, _⟩ => show win0_10.index t 1 * 1024 + 1 * k.val = k.val; omega
  rw [e, entryLg]
  refine shapeCast_apply _ _ _ (ix1 k) ?_
  rw [Shape.rowMajor_val_two, Shape.rowMajor_val_one]
  show k.val = 0 * 1024 + k.val
  omega

theorem entryLb : (V m c main_v40 : FVec Ideal S1x1024 .f32) = shapeCast S1x1024 (argLb m c) shapeCasts_S1024_S1x1024 := by
  unfold argLb
  entry_read
  rfl

theorem indexLb : ∀ t : Fin grid0.N, win0_11.index t 0 = 0 ∧ win0_11.index t 1 = 0 := by decide +kernel

theorem blockLb (t : Fin cfg0.N) (k : Fin 1024) :
    iblk m c 11 t (ix2 (n0 := 1) (n1 := 1024) 0 k) = items (argLb m c) k := by
  have e : iblk m c 11 t (ix2 (n0 := 1) (n1 := 1024) 0 k) = V m c main_v40 (ix2 0 k) := by
    show V m c main_v40 _ = _
    refine congrArg (V m c main_v40) ?_
    obtain ⟨e0, e1⟩ := indexLb t
    funext a
    apply Fin.ext
    match a with
    | ⟨0, _⟩ => show win0_11.index t 0 * 1 + 1 * 0 = 0; omega
    | ⟨1, _⟩ => show win0_11.index t 1 * 1024 + 1 * k.val = k.val; omega
  rw [e, entryLb]
  refine shapeCast_apply _ _ _ (ix1 k) ?_
  rw [Shape.rowMajor_val_two, Shape.rowMajor_val_one]
  show k.val = 0 * 1024 + k.val
  omega

end Cert.Merge.Prompt

end
-- ==== Proof.MergeValue.lean ====
module

public import proofs.«01_k».proof.Proof.MergeBlocks
public import proofs.«01_k».proof.Proof.Gen.MergeIdeal.Value

/-! The prompt's merge: its result array, of its arguments. -/

@[expose] public section

set_option maxRecDepth 16384

noncomputable section

namespace Cert.Merge.Prompt

open Idealize.ShloMosaic hiding ix1 ix2 ix3 ix4 ix5
open Idealize.ShloMosaic.TcCoe Idealize.ShloMosaic.ValueIdx
open Cert.MergeIdeal Cert.MergeIdeal.Gen
open Cert.Proj

variable (m : (ℓ : Loc nD τ sig) → Buf (Elt Ideal) ℓ) (c : Dev nD)

/-- A row's linear attention heads. -/
abbrev heads (t : Fin cfg0.N) (i : Fin 256) : Fin 4 → Fin 256 → EReal := headsOf rows_eq (tokensG m c) (rowAt t i)
/-- A row's linear attention gates, applied to themselves. -/
abbrev gateR (t : Fin cfg0.N) (i : Fin 256) (j : Fin 1024) : EReal :=
  rowOf rows_eq (tokens (argR m c)) (rowAt t i) j * logistic (rowOf rows_eq (tokens (argR m c)) (rowAt t i) j)

theorem values (t : Fin cfg0.N) (i : Fin 256) (j : Fin 1024) :
    k0_pay2 (View.ld (iblk m c 2 t) r0_0) (ix2 (n0 := 256) (n1 := 1024) i j) = heads m c t i (headOf j) (laneOf j) :=
  (ld_whole (K := 256) (N := 1024) (e := .f32) (iblk m c 2 t) _ _ i j).trans (blockG m c t i j)

/-- The same, a head at a time. -/
theorem valuesAt (t : Fin cfg0.N) (i : Fin 256) (a : Fin 4) (o : ℕ) (ho : o = 256 * a.val) (ho' : o + 256 ≤ 1024) (k : Fin 256) :
    k0_pay2 (View.ld (iblk m c 2 t) r0_0) (ix2 (n0 := 256) (n1 := 1024) i ⟨o + k.val, by omega⟩) = heads m c t i a k := by
  refine (values m c t i _).trans ?_
  have e0 : headOf ⟨o + k.val, by omega⟩ = a := Fin.ext (by show (o + k.val) / 256 = a.val; omega)
  have e1 : laneOf ⟨o + k.val, by omega⟩ = k := Fin.ext (by show (o + k.val) % 256 = k.val; omega)
  rw [e0, e1]

theorem gains (t : Fin cfg0.N) (k : Fin 256) :
    shapeCast S1x256 (View.ld (iblk m c 6 t) r0_1) shapeCasts_S1x256_S1x256 (ix2 0 k) = items (argN m c) k :=
  (ld_whole (K := 1) (N := 256) (e := .f32) (iblk m c 6 t) _ _ 0 k).trans (blockN m c t k)

/-- The linear attention branch behind its product. -/
theorem branchB (t : Fin cfg0.N) (i : Fin 256) (n : Fin 1024) :
    k0_pay6 (k0_pay2 (View.ld (iblk m c 2 t) r0_0)) (k0_pay3 (View.ld (iblk m c 2 t) r0_0) (View.ld (iblk m c 6 t) r0_1))
        (k0_pay4 (View.ld (iblk m c 2 t) r0_0) (View.ld (iblk m c 6 t) r0_1)) (k0_pay5 (View.ld (iblk m c 2 t) r0_0)) (View.ld (iblk m c 6 t) r0_1)
        (View.ld (iblk m c 6 t) r0_1) (View.ld (iblk m c 3 t) r0_0) (View.ld (iblk m c 8 t) r0_2) (ix2 i n)
      = times (gated (heads m c t i) (items (argN m c)) (gateR m c t i)) (entries (argWb m c)) n := by
  refine times_apply (K := 1024) (N := 1024) (φ₁ := .bf16) (φ₂ := .bf16) _ _ i _ _ (fun j => ?_) (fun k n => ?_) n
  · unfold gated
    refine congrArg₂ (fun x y : EReal => x * y) ?_ ?_
    · refine beside (fun a => normed (heads m c t i a) (items (argN m c))) _ _ _ _ i (fun k => ?_) (fun k => ?_) (fun k => ?_) (fun k => ?_)
        concatenates_S256x256_S256x256_S256x256_S256x256_S256x1024_d1 j
      · exact head_apply 0 (k0_pay2 (View.ld (iblk m c 2 t) r0_0)) (shapeCast S1x256 (View.ld (iblk m c 6 t) r0_1) shapeCasts_S1x256_S1x256)
          slices_S256x1024_o0_0_S256x256 reduces_S256x256_S256 shapeCasts_S256_S256x1 broadcasts_S256x1_S256x256 broadcasts_S1x256_S256x256 (.inl rfl) rfl
          i _ _ (by omega) (valuesAt m c t i 0 0 rfl (by omega)) (gains m c t) k
      · exact head_apply 256 (k0_pay2 (View.ld (iblk m c 2 t) r0_0)) (shapeCast S1x256 (View.ld (iblk m c 6 t) r0_1) shapeCasts_S1x256_S1x256)
          slices_S256x1024_o0_256_S256x256 reduces_S256x256_S256 shapeCasts_S256_S256x1 broadcasts_S256x1_S256x256 broadcasts_S1x256_S256x256 (.inl rfl) rfl
          i _ _ (by omega) (valuesAt m c t i 1 256 rfl (by omega)) (gains m c t) k
      · exact head_apply 512 (k0_pay2 (View.ld (iblk m c 2 t) r0_0)) (shapeCast S1x256 (View.ld (iblk m c 6 t) r0_1) shapeCasts_S1x256_S1x256)
          slices_S256x1024_o0_512_S256x256 reduces_S256x256_S256 shapeCasts_S256_S256x1 broadcasts_S256x1_S256x256 broadcasts_S1x256_S256x256 (.inl rfl) rfl
          i _ _ (by omega) (valuesAt m c t i 2 512 rfl (by omega)) (gains m c t) k
      · exact head_apply 768 (k0_pay2 (View.ld (iblk m c 2 t) r0_0)) (shapeCast S1x256 (View.ld (iblk m c 6 t) r0_1) shapeCasts_S1x256_S1x256)
          slices_S256x1024_o0_768_S256x256 reduces_S256x256_S256 shapeCasts_S256_S256x1 broadcasts_S256x1_S256x256 broadcasts_S1x256_S256x256 (.inl rfl) rfl
          i _ _ (by omega) (valuesAt m c t i 3 768 rfl (by omega)) (gains m c t) k
    · exact (ld_whole (K := 256) (N := 1024) (e := .bf16) (iblk m c 3 t) _ _ i j).trans (blockR m c t i j)
  · exact (ld_whole (K := 1024) (N := 1024) (e := .bf16) (iblk m c 8 t) _ _ k n).trans (blockWb m c t k n)

/-- The attention branch behind its product and its gates. -/
theorem branchA (t : Fin cfg0.N) (i : Fin 256) (n : Fin 1024) :
    k0_pay7 (View.ld (iblk m c 1 t) r0_3) (View.ld (iblk m c 7 t) r0_4) (View.ld (iblk m c 4 t) r0_0) (ix2 i n)
      = logistic (rowOf rows_eq (tokens (argGa m c)) (rowAt t i) n) * times (lanesOf rows_eq (tokensS m c) (rowAt t i)) (entries (argWa m c)) n := by
  refine congrArg₂ (fun x y : EReal => x * y) ?_ ?_
  · exact (ld_whole (K := 256) (N := 1024) (e := .bf16) (iblk m c 4 t) _ _ i n).trans (blockGa m c t i n)
  · exact times_apply (K := 512) (N := 1024) (φ₁ := .bf16) (φ₂ := .bf16) _ _ i _ _
      (fun k => (ld_whole (K := 256) (N := 512) (e := .bf16) (iblk m c 1 t) _ _ i k).trans (blockS m c t i k))
      (fun k n => (ld_whole (K := 512) (N := 1024) (e := .bf16) (iblk m c 7 t) _ _ k n).trans (blockWa m c t k n)) n

theorem index12 : ∀ t : Fin grid0.N, win0_12.index t 0 = t.val ∧ win0_12.index t 1 = 0 := by decide +kernel

/-- The merge, of this launch's arguments. -/
abbrev result : Fin 66560 → Fin 1024 → EReal :=
  merge rows_eq (tokens (argH m c)) (tokensS m c) (tokensG m c) (tokens (argR m c)) (tokens (argGa m c)) (tokens (argGb m c)) (argN m c)
    (argWa m c) (argWb m c) (argWo m c) (argLg m c) (argLb m c)

theorem leaves12 (t : Fin cfg0.N) (i : Fin 256) (n : Fin 1024) :
    out0_12 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 (n0 := 256) (n1 := 1024) i n)
      = result m c (rowAt t i) n := by
  unfold out0_12
  rw [View.canon_unit_zero origin]
  unfold result merge row k0_pay1
  refine norm_apply _ reduces_S256x1024_S256 shapeCasts_S256_S256x1 broadcasts_S256x1_S256x1024 (.inl rfl) rfl _ _ broadcasts_S1x1024_S256x1024 i _ _ _
    (fun n => ?_) (fun n => ?_) (fun n => ?_) n
  · unfold summed
    refine congrArg₂ (fun x y : EReal => _ * x + y) ?_ ?_
    · exact (ld_whole (K := 256) (N := 1024) (e := .f32) (iblk m c 0 t) _ _ i n).trans (blockH m c t i n)
    · refine times_apply (K := 1024) (N := 1024) (φ₁ := .bf16) (φ₂ := .bf16) _ _ i _ _ (fun j => ?_)
        (fun k n => (ld_whole (K := 1024) (N := 1024) (e := .bf16) (iblk m c 9 t) _ _ k n).trans (blockWo m c t k n)) n
      unfold mixed
      refine congrArg₂ (fun x y : EReal => x + y) (branchA m c t i j) (congrArg₂ (fun x y : EReal => x * y) ?_ (branchB m c t i j))
      exact (ld_whole (K := 256) (N := 1024) (e := .bf16) (iblk m c 5 t) _ _ i j).trans (blockGb m c t i j)
  · exact (ld_whole (K := 1) (N := 1024) (e := .f32) (iblk m c 10 t) _ _ 0 n).trans (blockLg m c t n)
  · exact (ld_whole (K := 1) (N := 1024) (e := .f32) (iblk m c 11 t) _ _ 0 n).trans (blockLb m c t n)

/-- The merged and normed rows. -/
theorem final12 : (dats m 0 c).arrAt 12 cfg0.N = table (result m c) := by
  refine (dats m 0 c).arrAt_eq_of_covers 12 _ (by decide +kernel) fun t hf y => ?_
  blk_simp
  rw [after0_12]
  have key : ∀ (i : Fin 256) (j : Fin 1024), (win0_12.blk t).view.emb (ix2 (n0 := 256) (n1 := 1024) i j) = ix2 (rowAt t i) j := fun i j => by
    obtain ⟨e0, e1⟩ := index12 t
    funext a
    apply Fin.ext
    match a with
    | ⟨0, _⟩ => show win0_12.index t 0 * 256 + 1 * i.val = t.val * 256 + i.val; omega
    | ⟨1, _⟩ => show win0_12.index t 1 * 1024 + 1 * j.val = j.val; omega
  refine block_ext (M := 256) (N := 1024) _ (fun z => table (result m c) ((win0_12.blk t).view.emb z)) (fun i j => ?_) y
  refine (leaves12 m c t i j).trans (Eq.trans ?_ (congrArg (table (result m c)) (key i j)).symm)
  rfl

end Cert.Merge.Prompt

end
-- ==== Proof.MergeRef.lean ====
module

public import proofs.«01_k».proof.Proof.MergeMath
public import proofs.«01_k».proof.Proof.Gen.MergeReferenceIdeal.Run
public import Idealize.ShloMosaic.Lib.MatmulPlain

/-! The reference of the prompt's merge: its result as a table of the formula. -/

@[expose] public section

set_option maxRecDepth 16384

noncomputable section

namespace Cert.Merge.PromptRef

open Idealize.ShloMosaic hiding ix1 ix2 ix3 ix4 ix5
open Idealize.ShloMosaic.TcCoe Idealize.ShloMosaic.ValueIdx
open Cert.MergeReferenceIdeal Cert.MergeReferenceIdeal.Gen
open Cert.Proj
open scoped BigOperators

theorem rows_eq : 66560 = 8 * 8320 := rfl

/-! ### Products -/

theorem broad_apply (x : FVec Ideal S8x8320x1024 .f32) (w : FVec Ideal S1024x1024 .f32) (b : Fin 8) (t : Fin 8320) (f : Fin 1024 → EReal)
    (hx : ∀ k : Fin 1024, x (ix3 b t k) = f k) (n : Fin 1024) :
    Host.dotGeneral dot_S8x8320x1024_S1024x1024_S8x8320x1024_2_0_01_1_n_n none x w (ix3 b t n) = times f (entries w) n := by
  have hr : dot_S8x8320x1024_S1024x1024_S8x8320x1024_2_0_01_1_n_n.contr.rank = 1 := rfl
  have hs : dot_S8x8320x1024_S1024x1024_S8x8320x1024_2_0_01_1_n_n.contr.size ⟨0, by omega⟩ = 1024 := rfl
  refine (Ideal.dotGeneral_apply _ _ _ _ _ _).trans ?_
  rw [← Equiv.sum_comp (contrEquiv1 _ 1024 hr hs).symm]
  unfold times entries
  refine Finset.sum_congr rfl fun s _ => ?_
  have hk := contrEquiv1_symm_val dot_S8x8320x1024_S1024x1024_S8x8320x1024_2_0_01_1_n_n 1024 hr hs s
  refine congrArg₂ (fun x y : EReal => x * y) ((congrArg x (funext fun a => Fin.ext ?_)).trans (hx s)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

theorem narrow_apply (x : FVec Ideal S8x8320x512 .f32) (w : FVec Ideal S512x1024 .f32) (b : Fin 8) (t : Fin 8320) (f : Fin 512 → EReal)
    (hx : ∀ k : Fin 512, x (ix3 b t k) = f k) (n : Fin 1024) :
    Host.dotGeneral dot_S8x8320x512_S512x1024_S8x8320x1024_2_0_01_1_n_n none x w (ix3 b t n) = times f (entries w) n := by
  have hr : dot_S8x8320x512_S512x1024_S8x8320x1024_2_0_01_1_n_n.contr.rank = 1 := rfl
  have hs : dot_S8x8320x512_S512x1024_S8x8320x1024_2_0_01_1_n_n.contr.size ⟨0, by omega⟩ = 512 := rfl
  refine (Ideal.dotGeneral_apply _ _ _ _ _ _).trans ?_
  rw [← Equiv.sum_comp (contrEquiv1 _ 512 hr hs).symm]
  unfold times entries
  refine Finset.sum_congr rfl fun s _ => ?_
  have hk := contrEquiv1_symm_val dot_S8x8320x512_S512x1024_S8x8320x1024_2_0_01_1_n_n 512 hr hs s
  refine congrArg₂ (fun x y : EReal => x * y) ((congrArg x (funext fun a => Fin.ext ?_)).trans (hx s)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

/-! ### Heads -/

/-- The heads' mean squares, with the small constant. -/
def squares (x : FVec Ideal S8x8320x4x256 .f32) : FVec Ideal S8x8320x4x1 .f32 :=
  addf (Host.divf (broadcastInDim S8x8320x4x1 ![0, 1, 2] bcast_S8x8320x4_S8x8320x4x1_0_1_2
      (Host.reduceAdd (mulf x x) (constant S_ .f32 0x00000000#32) reducesTo_S8x8320x4x256_S8x8320x4_d3 h_S_))
    (broadcastInDim S8x8320x4x1 ![] bcast_S_S8x8320x4x1 (constant S_ .f32 0x43800000#32)))
  (broadcastInDim S8x8320x4x1 ![] bcast_S_S8x8320x4x1 (constant S_ .f32 0x358637BD#32))

theorem squares_apply (x : FVec Ideal S8x8320x4x256 .f32) (b : Fin 8) (t : Fin 8320) (a : Fin 4) :
    squares x (ix4 b t a 0) = Ideal.div (∑ d : Fin 256, x (ix4 b t a d) * x (ix4 b t a d)) (Ideal.ofBits .f32 0x43800000#32) + Ideal.ofBits .f32 0x358637BD#32 := by
  unfold squares
  refine congrArg (fun s : EReal => Ideal.div s _ + _) ?_
  refine (broadcastInDim_apply _ _ _ _ (ix3 (n0 := 8) (n1 := 8320) (n2 := 4) b t a) fun q => by
    match q with
    | ⟨0, _⟩ => rfl
    | ⟨1, _⟩ => rfl
    | ⟨2, _⟩ => rfl).trans ?_
  refine (Host.reduceAdd_apply _ _ _ _ _).trans ((Ideal.hostReduceAdd_r4_a3 _ _ _ _).trans ?_)
  rw [constant_apply, word_zero, zero_add]
  rfl

/-- The heads normed, side by side. -/
def heads (x : FVec Ideal S8x8320x4x256 .f32) (g : FVec Ideal S256 .f32) : FVec Ideal S8x8320x1024 .f32 :=
  shapeCast S8x8320x1024 (mulf (mulf x (broadcastInDim S8x8320x4x256 ![0, 1, 2, 3] bcast_S8x8320x4x1_S8x8320x4x256_0_1_2_3 (Host.rsqrt (squares x))))
    (broadcastInDim S8x8320x4x256 ![0, 1, 2, 3] bcast_S1x1x1x256_S8x8320x4x256_0_1_2_3 (broadcastInDim S1x1x1x256 ![3] bcast_S256_S1x1x1x256_3 g)))
    shapeCasts_S8x8320x4x256_S8x8320x1024

theorem heads_apply (x : FVec Ideal S8x8320x4x256 .f32) (g : FVec Ideal S256 .f32) (b : Fin 8) (t : Fin 8320) (j : Fin 1024) :
    heads x g (ix3 b t j) = normed (fun k => x (ix4 b t (headOf j) k)) (items g) (laneOf j) := by
  unfold heads
  refine (flat_lanes (A := 4) (B := 256) (by omega) (by omega) _ shapeCasts_S8x8320x4x256_S8x8320x1024 b t j).trans ?_
  show (x (ix4 b t (headOf j) (laneOf j)) * broadcastInDim S8x8320x4x256 ![0, 1, 2, 3] bcast_S8x8320x4x1_S8x8320x4x256_0_1_2_3 (Host.rsqrt (squares x)) (ix4 b t (headOf j) (laneOf j))
    * broadcastInDim S8x8320x4x256 ![0, 1, 2, 3] bcast_S1x1x1x256_S8x8320x4x256_0_1_2_3 (broadcastInDim S1x1x1x256 ![3] bcast_S256_S1x1x1x256_3 g) (ix4 b t (headOf j) (laneOf j)) : EReal) = _
  unfold normed items
  refine congrArg₂ (fun s q : EReal => x (ix4 b t (headOf j) (laneOf j)) * s * q) ?_ ?_
  · refine (broadcastInDim_apply _ _ _ _ (ix4 (n0 := 8) (n1 := 8320) (n2 := 4) (n3 := 1) b t (headOf j) 0) fun q => by
      match q with
      | ⟨0, _⟩ => rfl
      | ⟨1, _⟩ => rfl
      | ⟨2, _⟩ => rfl
      | ⟨3, _⟩ => rfl).trans ?_
    exact congrArg Ideal.rsqrt (squares_apply x b t (headOf j))
  · refine (broadcastInDim_apply _ _ _ _ (ix4 (n0 := 1) (n1 := 1) (n2 := 1) (n3 := 256) 0 0 0 (laneOf j)) fun q => by
      match q with
      | ⟨0, _⟩ => rfl
      | ⟨1, _⟩ => rfl
      | ⟨2, _⟩ => rfl
      | ⟨3, _⟩ => rfl).trans ?_
    exact broadcastInDim_apply _ _ _ _ (ix1 (laneOf j)) fun q => by
      match q with
      | ⟨0, _⟩ => rfl

/-! ### The norm behind -/

/-- The means of rows. -/
def means (x : FVec Ideal S8x8320x1024 .f32) : FVec Ideal S8x8320x1 .f32 :=
  Host.divf (broadcastInDim S8x8320x1 ![0, 1] bcast_S8x8320_S8x8320x1_0_1
      (Host.reduceAdd x (constant S_ .f32 0x00000000#32) reducesTo_S8x8320x1024_S8x8320_d2 h_S_))
    (broadcastInDim S8x8320x1 ![] bcast_S_S8x8320x1 (constant S_ .f32 0x44800000#32))

theorem means_apply (x : FVec Ideal S8x8320x1024 .f32) (b : Fin 8) (t : Fin 8320) (f : Fin 1024 → EReal) (hx : ∀ n : Fin 1024, x (ix3 b t n) = f n) :
    means x (ix3 b t 0) = mean f := by
  unfold means mean
  refine congrArg (fun s : EReal => Ideal.div s _) ?_
  refine (broadcastInDim_apply _ _ _ _ (ix2 (n0 := 8) (n1 := 8320) b t) fun q => by
    match q with
    | ⟨0, _⟩ => rfl
    | ⟨1, _⟩ => rfl).trans ?_
  refine (Host.reduceAdd_apply _ _ _ _ _).trans ((Ideal.hostReduceAdd_r3_a2 _ _ _ _).trans ?_)
  rw [constant_apply, word_zero, zero_add]
  exact Finset.sum_congr rfl fun n _ => hx n

/-- A column of one value a row, spread over the row. -/
theorem spread (x : FVec Ideal S8x8320x1 .f32) (b : Fin 8) (t : Fin 8320) (n : Fin 1024) :
    broadcastInDim S8x8320x1024 ![0, 1, 2] bcast_S8x8320x1_S8x8320x1024_0_1_2 x (ix3 b t n) = x (ix3 b t 0) :=
  broadcastInDim_apply _ _ _ _ (ix3 (n0 := 8) (n1 := 8320) (n2 := 1) b t 0) fun q => by
    match q with
    | ⟨0, _⟩ => rfl
    | ⟨1, _⟩ => rfl
    | ⟨2, _⟩ => rfl

/-- A list of 1024 values, repeated for every row. -/
theorem repeated (x : FVec Ideal S1024 .f32) (b : Fin 8) (t : Fin 8320) (n : Fin 1024) :
    broadcastInDim S8x8320x1024 ![0, 1, 2] bcast_S1x1x1024_S8x8320x1024_0_1_2 (broadcastInDim S1x1x1024 ![2] bcast_S1024_S1x1x1024_2 x) (ix3 b t n) = items x n := by
  refine (broadcastInDim_apply _ _ _ _ (ix3 (n0 := 1) (n1 := 1) (n2 := 1024) 0 0 n) fun q => by
    match q with
    | ⟨0, _⟩ => rfl
    | ⟨1, _⟩ => rfl
    | ⟨2, _⟩ => rfl).trans ?_
  exact broadcastInDim_apply _ _ _ _ (ix1 n) fun q => by
    match q with
    | ⟨0, _⟩ => rfl

/-- Rows less their means. -/
def centreds (x : FVec Ideal S8x8320x1024 .f32) : FVec Ideal S8x8320x1024 .f32 :=
  subf x (broadcastInDim S8x8320x1024 ![0, 1, 2] bcast_S8x8320x1_S8x8320x1024_0_1_2 (means x))

theorem centreds_apply (x : FVec Ideal S8x8320x1024 .f32) (b : Fin 8) (t : Fin 8320) (f : Fin 1024 → EReal) (hx : ∀ n : Fin 1024, x (ix3 b t n) = f n)
    (n : Fin 1024) : centreds x (ix3 b t n) = centred f n := by
  unfold centreds centred
  rw [subf_apply, spread, hx, means_apply x b t f hx]

/-- Rows normed. -/
def normeds (x : FVec Ideal S8x8320x1024 .f32) (g o : FVec Ideal S1024 .f32) : FVec Ideal S8x8320x1024 .f32 :=
  addf (mulf (mulf (centreds x) (broadcastInDim S8x8320x1024 ![0, 1, 2] bcast_S8x8320x1_S8x8320x1024_0_1_2
        (Host.rsqrt (addf (means (mulf (centreds x) (centreds x))) (broadcastInDim S8x8320x1 ![] bcast_S_S8x8320x1 (constant S_ .f32 0x3727C5AC#32))))))
      (broadcastInDim S8x8320x1024 ![0, 1, 2] bcast_S1x1x1024_S8x8320x1024_0_1_2 (broadcastInDim S1x1x1024 ![2] bcast_S1024_S1x1x1024_2 g)))
    (broadcastInDim S8x8320x1024 ![0, 1, 2] bcast_S1x1x1024_S8x8320x1024_0_1_2 (broadcastInDim S1x1x1024 ![2] bcast_S1024_S1x1x1024_2 o))

theorem normeds_apply (x : FVec Ideal S8x8320x1024 .f32) (g o : FVec Ideal S1024 .f32) (b : Fin 8) (t : Fin 8320) (f : Fin 1024 → EReal)
    (hx : ∀ n : Fin 1024, x (ix3 b t n) = f n) (n : Fin 1024) : normeds x g o (ix3 b t n) = layerNorm f (items g) (items o) n := by
  unfold normeds layerNorm
  rw [addf_apply, mulf_apply, mulf_apply, spread, repeated, repeated, centreds_apply x b t f hx]
  refine congrArg (fun s : EReal => centred f n * Ideal.rsqrt (s + _) * items g n + items o n) ?_
  refine means_apply _ b t _ fun k => ?_
  exact congrArg (fun e : EReal => e * e) (centreds_apply x b t f hx k)

/-! ### The whole -/

/-- The logistic function of an array. -/
def gates (x : FVec Ideal S8x8320x1024 .f32) : FVec Ideal S8x8320x1024 .f32 :=
  Host.divf (broadcastInDim S8x8320x1024 ![] bcast_S_S8x8320x1024 (constant S_ .f32 0x3F800000#32))
    (addf (broadcastInDim S8x8320x1024 ![] bcast_S_S8x8320x1024 (constant S_ .f32 0x3F800000#32)) (Host.exp (Host.negf x)))

variable (h : FVec Ideal S8x8320x1024 .f32) (sb : FVec Ideal S8x8320x8x64 .f32) (go : FVec Ideal S8x8320x4x256 .f32)
  (rb ga gb : FVec Ideal S8x8320x1024 .f32) (gn : FVec Ideal S256 .f32) (wa : FVec Ideal S512x1024 .f32) (wb wo : FVec Ideal S1024x1024 .f32)
  (g o : FVec Ideal S1024 .f32)

/-- The residual and the merged branches. -/
def sums : FVec Ideal S8x8320x1024 .f32 :=
  addf (mulf (broadcastInDim S8x8320x1024 ![] bcast_S_S8x8320x1024 (constant S_ .f32 0x3FB504F3#32)) h)
    (Host.dotGeneral dot_S8x8320x1024_S1024x1024_S8x8320x1024_2_0_01_1_n_n none
      (addf (mulf (gates ga) (Host.dotGeneral dot_S8x8320x512_S512x1024_S8x8320x1024_2_0_01_1_n_n none
          (shapeCast S8x8320x512 sb shapeCasts_S8x8320x8x64_S8x8320x512) wa))
        (mulf (gates gb) (Host.dotGeneral dot_S8x8320x1024_S1024x1024_S8x8320x1024_2_0_01_1_n_n none (mulf (heads go gn) (mulf rb (gates rb))) wb))) wo)

theorem sums_apply (r : Fin 66560) (n : Fin 1024) :
    sums h sb go rb ga gb gn wa wb wo (ix3 (streamOf rows_eq r) (placeOf rows_eq r) n)
      = summed (rowOf rows_eq h r) (times (mixed (fun j => logistic (rowOf rows_eq ga r j)) (fun j => logistic (rowOf rows_eq gb r j))
          (times (lanesOf rows_eq sb r) (entries wa))
          (times (gated (headsOf rows_eq go r) (items gn) (fun j => rowOf rows_eq rb r j * logistic (rowOf rows_eq rb r j))) (entries wb))) (entries wo)) n := by
  unfold sums summed
  refine congrArg (fun y : EReal => _ * h (ix3 (streamOf rows_eq r) (placeOf rows_eq r) n) + y) ?_
  refine broad_apply _ wo _ _ _ (fun j => ?_) n
  unfold mixed
  refine congrArg₂ (fun x y : EReal => logistic (ga (ix3 (streamOf rows_eq r) (placeOf rows_eq r) j)) * x
    + logistic (gb (ix3 (streamOf rows_eq r) (placeOf rows_eq r) j)) * y) ?_ ?_
  · exact narrow_apply _ wa _ _ _ (fun k => flat_lanes (A := 8) (B := 64) (by omega) (by omega) sb shapeCasts_S8x8320x8x64_S8x8320x512 _ _ k) j
  · refine broad_apply _ wb _ _ _ (fun k => ?_) j
    unfold gated
    exact congrArg (fun x : EReal => x * (rb (ix3 (streamOf rows_eq r) (placeOf rows_eq r) k) * logistic (rb (ix3 (streamOf rows_eq r) (placeOf rows_eq r) k))))
      (heads_apply go gn _ _ k)

/-- The reference's result is the formula's table. -/
theorem whole_table :
    (shapeCast S66560x1024 (normeds (sums h sb go rb ga gb gn wa wb wo) g o) shapeCasts_S8x8320x1024_S66560x1024 : FVec Ideal S66560x1024 .f32)
      = table (merge rows_eq h sb go rb ga gb gn wa wb wo g o) := by
  funext i
  rw [ValueIdx.eq_ix2 i]
  refine (flat_apply rows_eq _ shapeCasts_S8x8320x1024_S66560x1024 _ _).trans ?_
  exact normeds_apply _ g o _ _ _ (sums_apply h sb go rb ga gb gn wa wb wo _) _

end Cert.Merge.PromptRef

end
-- ==== Proof.MergeClaim.lean ====
module

public import proofs.«01_k».proof.Defs
public import proofs.«01_k».proof.Proof.MergeValue
public import proofs.«01_k».proof.Proof.MergeRef
public import proofs.«01_k».proof.Proof.Gen.Merge.Frame
public import proofs.«01_k».proof.Proof.Gen.MergeIdeal.Frame

/-! The claims of the prompt's merge: the frames, and kernel and reference end with equal results. -/

@[expose] public section

set_option maxRecDepth 16384

noncomputable section

namespace Cert.Merge

open Idealize.ShloMosaic hiding ix1 ix2 ix3 ix4 ix5
open Idealize.ShloMosaic.TcCoe Idealize.ShloMosaic.ValueIdx Idealize.SL.Sem

theorem frame_prompt : Cert.quiescent_Merge := fun m ρ _ => Cert.Merge.Gen.frame m ρ
theorem frame_promptIdeal : Cert.quiescent_MergeIdeal := fun m ρ _ => Cert.MergeIdeal.Gen.frame m ρ

/-- The reference keeps its arguments, and declares no semaphore. -/
theorem frame_promptReference : Cert.quiescent_MergeReferenceIdeal := fun m ρ _ =>
  (θ_run Cert.MergeReferenceIdeal.defs _ _).mono
    (fun r h => ⟨fun c => (h c).2, sem_eq_zero_of_no_sems (by decide) r.2⟩)
    (Cert.MergeReferenceIdeal.Value.run (F := Ideal) m ρ)

set_option maxHeartbeats 2000000 in
/-- From equal arguments, whatever they hold, the two programs end with equal results. -/
theorem algebraic_prompt : Cert.algebraic_MergeIdeal_MergeReferenceIdeal := by
  intro m ρ m' ρ' _ ha
  refine ⟨fun c => (Cert.MergeIdeal.Gen.dats m 0 c).arrAt 12 Cert.MergeIdeal.cfg0.N, Cert.MergeIdeal.Value.run_blocks m ρ, ?_⟩
  refine (θ_run Cert.MergeReferenceIdeal.defs _ _).mono (fun r h c => ⟨(h c).1.trans ?_, (h c).2⟩)
    (Cert.MergeReferenceIdeal.Value.run (F := Ideal) m' ρ')
  unfold Cert.MergeReferenceIdeal.Value.res_main_v68
  obtain ⟨h0, h1, h2, h3, h4, h5, h6, h7, h8, h9, h10, h11⟩ := ha c
  rw [h0, h1, h2, h3, h4, h5, h6, h7, h8, h9, h10, h11]
  exact (PromptRef.whole_table (Prompt.tokens (Prompt.argH m c)) (Prompt.tokensS m c) (Prompt.tokensG m c) (Prompt.tokens (Prompt.argR m c))
    (Prompt.tokens (Prompt.argGa m c)) (Prompt.tokens (Prompt.argGb m c)) (Prompt.argN m c) (Prompt.argWa m c) (Prompt.argWb m c) (Prompt.argWo m c)
    (Prompt.argLg m c) (Prompt.argLb m c)).trans (Prompt.final12 m c).symm

end Cert.Merge

end
-- ==== Proof.AttendStep.lean ====
/-
  Stick-breaking attention, one trip of the block loop: what the loop's body leaves in the two running buffers when its
  test passes, and the triple that says so. The body is straight-line but for the call of its own label at the next
  counter, which the triple hands to its continuation.
-/
module

public import proofs.«01_k».proof.Proof.Gen.AttendIdeal.Launch
public import proofs.«01_k».proof.Proof.Gen.AttendIdeal.Skeleton
public import proofs.«01_k».proof.Proof.Gen.AttendIdeal.Points
public import Idealize.ShloMosaic.Lib.Pipeline.FrameBody
public import Idealize.ShloMosaic.Lib.Claim
public import Idealize.ShloMosaic.Lib.Tactic
public import Idealize.ShloMosaic.Lib.WordCmp

@[expose] public section

set_option maxRecDepth 16384

noncomputable section

namespace Cert.Proof.AttendIdeal

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's test at a counter and a largest carry: the counter is not negative, and the carry is above the constant. -/
abbrev goesOn (j : BitVec 32) (cm : F .f32) : Prop :=
  Scalar.andi (Scalar.cmpi .sge j 0#32) (Scalar.cmpf .ogt cm (Named.named κ "zero_below" 0xC2D00000#32)) = 1#1

set_option maxHeartbeats 4000000 in
/-- What one trip's stores leave in the carries and in the sums, as pieces (last first), and the largest carry it hands
    on, with the proof that the loop's body, its test passed, runs to the call of the loop at the counter below. -/
noncomputable def stepRun (c : Dev nD) (i : grid0.Coords) (v0 v2 v12 : IVec S128x128 32) (v8 : FVec F S128x256 .bf16)
    (arg2 : Memref sig .tc .vmem S1x128x512 .bf16) (harg2 : arg2.IsWhole)
    (arg3 : Memref sig .tc .vmem S1x8320x512 .bf16) (harg3 : arg3.IsWhole)
    (arg4 : Memref sig .tc .vmem S1x8320x512 .bf16) (harg4 : arg4.IsWhole)
    (arg6 : Memref sig .tc .vmem S8x128x128 .f32) (harg6 : arg6.IsWhole)
    (arg7 : Memref sig .tc .vmem S4x128x128 .f32) (harg7 : arg7.IsWhole)
    (j : BitVec 32) (cm : F .f32) (hj : k0_chk1 j) (ht : goesOn j cm)
    (x2 : Vec F S1x128x512 .bf16) (x3 x4 : Vec F S1x8320x512 .bf16) (x6 : Vec F S8x128x128 .f32) (x7 : Vec F S4x128x128 .f32) :
    Σ' (L6 : List (View.Piece (Elt F) S8x128x128 .f32)) (L7 : List (View.Piece (Elt F) S4x128x128 .f32)), { cm' : F .f32 //
      ∀ (u : Option ℕ) (E : Set ℕ) (K : BitVec 32 × F .f32 → sProp 𝕄),
        iprop(owns (c : Thread nD τ) arg2 fullShare x2 ∗ owns (c : Thread nD τ) arg3 fullShare x3 ∗ owns (c : Thread nD τ) arg4 fullShare x4
            ∗ owns (c : Thread nD τ) arg6 fullShare x6 ∗ owns (c : Thread nD τ) arg7 fullShare x7
            ∗ (iprop(owns (c : Thread nD τ) arg2 fullShare x2 ∗ owns (c : Thread nD τ) arg3 fullShare x3 ∗ owns (c : Thread nD τ) arg4 fullShare x4
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7))
              -∗ wp frame (wpE (defs₀ (F := F)) Variants.nat c u) E
                  (Prog.op (.call (1 : (Λ₀ F).Label) ⟨i, v2, v12, arg2, harg2, v0, arg3, harg3, v8, arg6, harg6, arg4, harg4, arg7, harg7, Scalar.subi j 1#32, cm'⟩) Prog.ret) K))
          ⊢ wp frame (wpE (defs₀ (F := F)) Variants.nat c u) E
              (cc0_while1 i v2 v12 arg2 harg2 v0 arg3 harg3 v8 arg6 harg6 arg4 harg4 arg7 harg7 j cm) K } := by
  refine ⟨?_, ?_, ?_, fun u E K => ?run⟩
  case run =>
    simp only [cc0_while1_eq_skeleton]; unfold cc0_while1_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f6, %hf6, H6⟩, ⟨%f7, %hf7, H7⟩, Hk⟩
    obtain rfl := harg2.eq_unread hf2; obtain rfl := harg3.eq_unread hf3; obtain rfl := harg4.eq_unread hf4
    obtain rfl := harg6.eq_unread hf6; obtain rfl := harg7.eq_unread hf7
    sl_exec (disch := first | sl_exact ht | sl_exact hj)
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]; · iexists _; iexact H6
    iexists _; iexact H7

end Cert.Proof.AttendIdeal

end
-- ==== Proof.AttendLoop.lean ====
/-
  Stick-breaking attention, the block loop: its state as a function of the trips left, the loop's specification, and that
  its body meets it.
-/
module

public import proofs.«01_k».proof.Proof.AttendStep
public import Idealize.ShloMosaic.Lib.Ring

@[expose] public section

set_option maxRecDepth 16384

noncomputable section

namespace Cert.Proof.AttendIdeal

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The counter with `k` blocks left: the last of them. -/
def word (k : ℕ) : BitVec 32 := BitVec.ofNat 32 k - 1#32

theorem word_succ (k : ℕ) : word (k + 1) = BitVec.ofNat 32 k := by
  unfold word; rw [BitVec.ofNat_add]; exact BitVec.add_sub_cancel _ _

theorem word_pred (k : ℕ) : Scalar.subi (word (k + 1)) 1#32 = word k := by
  rw [word_succ]; rfl

/-- A block's tiles lie inside the keys and the values. -/
theorem inside (k : ℕ) (hk : k < 65) : k0_chk1 (word (k + 1)) := by
  rw [word_succ]
  have h : ∀ n : Fin 65, k0_chk1 (BitVec.ofNat 32 n.val) := by decide
  exact h ⟨k, hk⟩

/-- With no block left the loop's test fails. -/
theorem stops (cm : F .f32) : ¬goesOn (word 0) cm := by
  have h : Scalar.cmpi .sge (word 0) 0#32 = 0#1 := by decide
  unfold goesOn
  rw [h]
  generalize Scalar.cmpf .ogt cm (Named.named κ "zero_below" 0xC2D00000#32) = b
  revert b; decide

section Step

variable (c : Dev nD) (i : grid0.Coords) (v0 v2 v12 : IVec S128x128 32) (v8 : FVec F S128x256 .bf16)
  (arg2 : Memref sig .tc .vmem S1x128x512 .bf16) (harg2 : arg2.IsWhole)
  (arg3 : Memref sig .tc .vmem S1x8320x512 .bf16) (harg3 : arg3.IsWhole)
  (arg4 : Memref sig .tc .vmem S1x8320x512 .bf16) (harg4 : arg4.IsWhole)
  (arg6 : Memref sig .tc .vmem S8x128x128 .f32) (harg6 : arg6.IsWhole)
  (arg7 : Memref sig .tc .vmem S4x128x128 .f32) (harg7 : arg7.IsWhole)

/-- The carries after a trip. -/
def carries (j : BitVec 32) (cm : F .f32) (hj : k0_chk1 j) (ht : goesOn j cm) (x2 : Vec F S1x128x512 .bf16) (x3 x4 : Vec F S1x8320x512 .bf16) (x6 : Vec F S8x128x128 .f32) (x7 : Vec F S4x128x128 .f32) : Vec F S8x128x128 .f32 :=
  View.canon (stepRun c i v0 v2 v12 v8 arg2 harg2 arg3 harg3 arg4 harg4 arg6 harg6 arg7 harg7 j cm hj ht x2 x3 x4 x6 x7).1

/-- The sums after a trip. -/
def sums (j : BitVec 32) (cm : F .f32) (hj : k0_chk1 j) (ht : goesOn j cm) (x2 : Vec F S1x128x512 .bf16) (x3 x4 : Vec F S1x8320x512 .bf16) (x6 : Vec F S8x128x128 .f32) (x7 : Vec F S4x128x128 .f32) : Vec F S4x128x128 .f32 :=
  View.canon (stepRun c i v0 v2 v12 v8 arg2 harg2 arg3 harg3 arg4 harg4 arg6 harg6 arg7 harg7 j cm hj ht x2 x3 x4 x6 x7).2.1

/-- The largest carry after a trip. -/
def largest (j : BitVec 32) (cm : F .f32) (hj : k0_chk1 j) (ht : goesOn j cm) (x2 : Vec F S1x128x512 .bf16) (x3 x4 : Vec F S1x8320x512 .bf16) (x6 : Vec F S8x128x128 .f32) (x7 : Vec F S4x128x128 .f32) : F .f32 :=
  (stepRun c i v0 v2 v12 v8 arg2 harg2 arg3 harg3 arg4 harg4 arg6 harg6 arg7 harg7 j cm hj ht x2 x3 x4 x6 x7).2.2.1

theorem carries_cover (j : BitVec 32) (cm : F .f32) (hj : k0_chk1 j) (ht : goesOn j cm) (x2 : Vec F S1x128x512 .bf16) (x3 x4 : Vec F S1x8320x512 .bf16) (x6 : Vec F S8x128x128 .f32) (x7 : Vec F S4x128x128 .f32) (y : S8x128x128.Idx) :
    ∃ pc ∈ (stepRun c i v0 v2 v12 v8 arg2 harg2 arg3 harg3 arg4 harg4 arg6 harg6 arg7 harg7 j cm hj ht x2 x3 x4 x6 x7).1, y ∈ pc.1.set :=
  View.cover_of_tiledL (stepRun c i v0 v2 v12 v8 arg2 harg2 arg3 harg3 arg4 harg4 arg6 harg6 arg7 harg7 j cm hj ht x2 x3 x4 x6 x7).1 S1x128x128.size (by sl_kernel_rfl) y

theorem sums_cover (j : BitVec 32) (cm : F .f32) (hj : k0_chk1 j) (ht : goesOn j cm) (x2 : Vec F S1x128x512 .bf16) (x3 x4 : Vec F S1x8320x512 .bf16) (x6 : Vec F S8x128x128 .f32) (x7 : Vec F S4x128x128 .f32) (y : S4x128x128.Idx) :
    ∃ pc ∈ (stepRun c i v0 v2 v12 v8 arg2 harg2 arg3 harg3 arg4 harg4 arg6 harg6 arg7 harg7 j cm hj ht x2 x3 x4 x6 x7).2.1, y ∈ pc.1.set :=
  View.cover_of_tiledL (stepRun c i v0 v2 v12 v8 arg2 harg2 arg3 harg3 arg4 harg4 arg6 harg6 arg7 harg7 j cm hj ht x2 x3 x4 x6 x7).2.1 S1x128x128.size (by sl_kernel_rfl) y

theorem read_carries (j : BitVec 32) (cm : F .f32) (hj : k0_chk1 j) (ht : goesOn j cm) (x2 : Vec F S1x128x512 .bf16) (x3 x4 : Vec F S1x8320x512 .bf16) (x6 : Vec F S8x128x128 .f32) (x7 : Vec F S4x128x128 .f32) (f : arg6.view.ty.Contents (Elt F)) :
    arg6.view.read (Elt F) (arg6.view.writes (Elt F) f (stepRun c i v0 v2 v12 v8 arg2 harg2 arg3 harg3 arg4 harg4 arg6 harg6 arg7 harg7 j cm hj ht x2 x3 x4 x6 x7).1) = carries c i v0 v2 v12 v8 arg2 harg2 arg3 harg3 arg4 harg4 arg6 harg6 arg7 harg7 j cm hj ht x2 x3 x4 x6 x7 :=
  View.read_writes_eq_canon _ _ _ (carries_cover c i v0 v2 v12 v8 arg2 harg2 arg3 harg3 arg4 harg4 arg6 harg6 arg7 harg7 j cm hj ht x2 x3 x4 x6 x7)

theorem read_sums (j : BitVec 32) (cm : F .f32) (hj : k0_chk1 j) (ht : goesOn j cm) (x2 : Vec F S1x128x512 .bf16) (x3 x4 : Vec F S1x8320x512 .bf16) (x6 : Vec F S8x128x128 .f32) (x7 : Vec F S4x128x128 .f32) (f : arg7.view.ty.Contents (Elt F)) :
    arg7.view.read (Elt F) (arg7.view.writes (Elt F) f (stepRun c i v0 v2 v12 v8 arg2 harg2 arg3 harg3 arg4 harg4 arg6 harg6 arg7 harg7 j cm hj ht x2 x3 x4 x6 x7).2.1) = sums c i v0 v2 v12 v8 arg2 harg2 arg3 harg3 arg4 harg4 arg6 harg6 arg7 harg7 j cm hj ht x2 x3 x4 x6 x7 :=
  View.read_writes_eq_canon _ _ _ (sums_cover c i v0 v2 v12 v8 arg2 harg2 arg3 harg3 arg4 harg4 arg6 harg6 arg7 harg7 j cm hj ht x2 x3 x4 x6 x7)

open Classical in
/-- The carries and the sums when the loop ends, from `k` blocks left. -/
def ends (x2 : Vec F S1x128x512 .bf16) (x3 x4 : Vec F S1x8320x512 .bf16) : ℕ → F .f32 → Vec F S8x128x128 .f32 → Vec F S4x128x128 .f32 → Vec F S8x128x128 .f32 × Vec F S4x128x128 .f32
  | 0, _, x6, x7 => (x6, x7)
  | k + 1, cm, x6, x7 =>
    if h : k < 65 ∧ goesOn (word (k + 1)) cm then
      ends x2 x3 x4 k (largest c i v0 v2 v12 v8 arg2 harg2 arg3 harg3 arg4 harg4 arg6 harg6 arg7 harg7 (word (k + 1)) cm (inside k h.1) h.2 x2 x3 x4 x6 x7)
        (carries c i v0 v2 v12 v8 arg2 harg2 arg3 harg3 arg4 harg4 arg6 harg6 arg7 harg7 (word (k + 1)) cm (inside k h.1) h.2 x2 x3 x4 x6 x7)
        (sums c i v0 v2 v12 v8 arg2 harg2 arg3 harg3 arg4 harg4 arg6 harg6 arg7 harg7 (word (k + 1)) cm (inside k h.1) h.2 x2 x3 x4 x6 x7)
    else (x6, x7)

/-- What the loop holds: the queries, the keys, the values, the carries and the sums. -/
def held (x2 : Vec F S1x128x512 .bf16) (x3 x4 : Vec F S1x8320x512 .bf16) (s : Vec F S8x128x128 .f32 × Vec F S4x128x128 .f32) : sProp 𝕄 :=
  iprop(owns (c : Thread nD τ) arg2 fullShare x2 ∗ owns (c : Thread nD τ) arg3 fullShare x3 ∗ owns (c : Thread nD τ) arg4 fullShare x4
    ∗ owns (c : Thread nD τ) arg6 fullShare s.1 ∗ owns (c : Thread nD τ) arg7 fullShare s.2)

/-- The loop's specification from `k` blocks left: it ends with the two running buffers at `ends`. -/
def spec (x2 : Vec F S1x128x512 .bf16) (x3 x4 : Vec F S1x8320x512 .bf16) (k : ℕ) (cm : F .f32) (x6 : Vec F S8x128x128 .f32) (x7 : Vec F S4x128x128 .f32) : sWPT 𝕄 (BitVec 32 × F .f32) := do
  sWPT.consume (held c arg2 arg3 arg4 arg6 arg7 x2 x3 x4 (x6, x7))
  let r ← sWPT.arbitrary
  sWPT.produce (held c arg2 arg3 arg4 arg6 arg7 x2 x3 x4 (ends c i v0 v2 v12 v8 arg2 harg2 arg3 harg3 arg4 harg4 arg6 harg6 arg7 harg7 x2 x3 x4 k cm x6 x7))
  pure r

theorem spec_apply (x2 : Vec F S1x128x512 .bf16) (x3 x4 : Vec F S1x8320x512 .bf16) (k : ℕ) (cm : F .f32) (x6 : Vec F S8x128x128 .f32) (x7 : Vec F S4x128x128 .f32) (K : BitVec 32 × F .f32 → sProp 𝕄) :
    spec c i v0 v2 v12 v8 arg2 harg2 arg3 harg3 arg4 harg4 arg6 harg6 arg7 harg7 x2 x3 x4 k cm x6 x7 K
      = iprop(held c arg2 arg3 arg4 arg6 arg7 x2 x3 x4 (x6, x7) ∗ ∀ r : BitVec 32 × F .f32,
          (held c arg2 arg3 arg4 arg6 arg7 x2 x3 x4 (ends c i v0 v2 v12 v8 arg2 harg2 arg3 harg3 arg4 harg4 arg6 harg6 arg7 harg7 x2 x3 x4 k cm x6 x7) -∗ K r)) := rfl

set_option maxHeartbeats 2000000 in
/-- The loop's body meets the specification, by induction on the blocks left. -/
theorem spec_le (x2 : Vec F S1x128x512 .bf16) (x3 x4 : Vec F S1x8320x512 .bf16) (E : Set ℕ) :
    ∀ k, k ≤ 65 → ∀ (cm : F .f32) x6 x7 K, spec c i v0 v2 v12 v8 arg2 harg2 arg3 harg3 arg4 harg4 arg6 harg6 arg7 harg7 x2 x3 x4 k cm x6 x7 K
      ⊢ wp frame (wpE (defs₀ (F := F)) Variants.nat (c : Thread nD τ) (some k)) E
          (defs₀ (F := F) .tc 1 ⟨i, v2, v12, arg2, harg2, v0, arg3, harg3, v8, arg6, harg6, arg4, harg4, arg7, harg7, word k, cm⟩) K := by
  intro k
  induction k with
  | zero =>
    intro hk cm x6 x7 K
    rw [spec_apply]
    show _ ⊢ wp frame (wpE (defs₀ (F := F)) Variants.nat (c : Thread nD τ) (some 0)) E
      (cc0_while1 i v2 v12 arg2 harg2 v0 arg3 harg3 v8 arg6 harg6 arg4 harg4 arg7 harg7 (word 0) cm) K
    rw [cc0_while1_eq_skeleton]; unfold cc0_while1_skel
    have hs := stops cm
    unfold goesOn at hs
    simp only [hs, ↓reduceIte, Prog.pure_eq_ret]
    iintro ⟨H, Hk⟩
    rw [wp_ret]; imodintro
    iapply Hk
    simp only [ends]; iexact H
  | succ k ih =>
    intro hk cm x6 x7 K
    rw [spec_apply]
    show _ ⊢ wp frame (wpE (defs₀ (F := F)) Variants.nat (c : Thread nD τ) (some (k + 1))) E
      (cc0_while1 i v2 v12 arg2 harg2 v0 arg3 harg3 v8 arg6 harg6 arg4 harg4 arg7 harg7 (word (k + 1)) cm) K
    by_cases ht : goesOn (word (k + 1)) cm
    · have hc : k < 65 ∧ goesOn (word (k + 1)) cm := ⟨by omega, ht⟩
      rw [ends, dif_pos hc]
      unfold held
      iintro ⟨⟨H2, H3, H4, H6, H7⟩, Hk⟩
      iapply ((stepRun c i v0 v2 v12 v8 arg2 harg2 arg3 harg3 arg4 harg4 arg6 harg6 arg7 harg7 (word (k + 1)) cm (inside k hc.1) ht x2 x3 x4 x6 x7).2.2.2 (some (k + 1)) E K)
      isplitl [H2]; · iexact H2
      isplitl [H3]; · iexact H3
      isplitl [H4]; · iexact H4
      isplitl [H6]; · iexact H6
      isplitl [H7]; · iexact H7
      iintro ⟨H2, H3, H4, ⟨%f6, H6⟩, ⟨%f7, H7⟩⟩
      have ih' := ih (by omega)
      rw [← word_pred k] at ih'
      iapply (wp_call_spec Variants.nat (c : Thread nD τ) (some (k + 1)) E
        (spec c i v0 v2 v12 v8 arg2 harg2 arg3 harg3 arg4 harg4 arg6 harg6 arg7 harg7 x2 x3 x4 k (largest c i v0 v2 v12 v8 arg2 harg2 arg3 harg3 arg4 harg4 arg6 harg6 arg7 harg7 (word (k + 1)) cm (inside k hc.1) ht x2 x3 x4 x6 x7)
          (carries c i v0 v2 v12 v8 arg2 harg2 arg3 harg3 arg4 harg4 arg6 harg6 arg7 harg7 (word (k + 1)) cm (inside k hc.1) ht x2 x3 x4 x6 x7)
          (sums c i v0 v2 v12 v8 arg2 harg2 arg3 harg3 arg4 harg4 arg6 harg6 arg7 harg7 (word (k + 1)) cm (inside k hc.1) ht x2 x3 x4 x6 x7)) k
        (fun u hu => by cases hu; exact Nat.lt_succ_self k)
        (ih' _ _ _))
      rw [spec_apply]; unfold held
      isplitl [H2 H3 H4 H6 H7]
      · isplitl [H2]; · iexact H2
        isplitl [H3]; · iexact H3
        isplitl [H4]; · iexact H4
        isplitl [H6]
        · unfold owns; iexists _; isplitr; swap; · iexact H6
          ipureintro; exact read_carries c i v0 v2 v12 v8 arg2 harg2 arg3 harg3 arg4 harg4 arg6 harg6 arg7 harg7 (word (k + 1)) cm (inside k hc.1) ht x2 x3 x4 x6 x7 f6
        unfold owns; iexists _; isplitr; swap; · iexact H7
        ipureintro; exact read_sums c i v0 v2 v12 v8 arg2 harg2 arg3 harg3 arg4 harg4 arg6 harg6 arg7 harg7 (word (k + 1)) cm (inside k hc.1) ht x2 x3 x4 x6 x7 f7
      iintro %r H
      rw [wp_ret]; imodintro
      iapply Hk
      iexact H
    · have hc : ¬(k < 65 ∧ goesOn (word (k + 1)) cm) := fun h => ht h.2
      rw [ends, dif_neg hc]
      rw [cc0_while1_eq_skeleton]; unfold cc0_while1_skel
      unfold goesOn at ht
      simp only [ht, ↓reduceIte, Prog.pure_eq_ret]
      iintro ⟨H, Hk⟩
      rw [wp_ret]; imodintro
      iapply Hk
      iexact H

end Step

end Cert.Proof.AttendIdeal

end
-- ==== Proof.AttendBody.lean ====
/-
  Stick-breaking attention, the whole body at a grid point: the running buffers zeroed, the loop entered at the query
  block's own number, and the sums stored when it ends.
-/
module

public import proofs.«01_k».proof.Proof.AttendLoop

@[expose] public section

set_option maxRecDepth 16384

noncomputable section

namespace Cert.Proof.AttendIdeal

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block the loop starts at, as the kernel computes it. -/
def startWord (i : grid0.Coords) : BitVec 32 :=
  let v13 : BitVec 32 := Scalar.muli (BitVec.ofNat 32 (i 1).val) 128#32
  let v14 : BitVec 32 := Scalar.addi 0#32 v13
  let v15 : BitVec 32 := Scalar.addi v14 128#32
  let v16 : BitVec 32 := Scalar.subi v15 2#32
  let v17 : BitVec 32 := Scalar.divsi v16 128#32
  let v22 : BitVec 32 := Scalar.subi (Scalar.extui (Scalar.cmpi .sgt v16 0#32)) (Scalar.extui (Scalar.cmpi .slt v16 0#32))
  let v27 : BitVec 32 := Scalar.subi (Scalar.extui (Scalar.cmpi .sgt 128#32 0#32)) (Scalar.extui (Scalar.cmpi .slt 128#32 0#32))
  let v31 : BitVec 1 := Scalar.andi (Scalar.cmpi .ne v22 v27) (Scalar.cmpi .ne (Scalar.remsi v16 128#32) 0#32)
  Scalar.minsi (Scalar.select v31 (Scalar.subi v17 1#32) v17) 64#32

/-- It is the query block's own number. -/
theorem startWord_eq (i : grid0.Coords) : startWord i = word ((i 1).val + 1) := by
  rw [word_succ]
  have h : ∀ n : Fin 65, startWord (fun a => if h : a = 1 then ⟨n.val, by subst h; exact n.isLt⟩ else ⟨0, by fin_cases a <;> first | decide | exact absurd rfl h⟩) = BitVec.ofNat 32 n.val := by decide
  exact h ⟨(i 1).val, (i 1).isLt⟩

/-- The carries the loop starts from. -/
def carries0 : Vec F S8x128x128 .f32 :=
  View.canon [⟨Rect.unit (s := S8x128x128) ![0, 0, 0] S8x128x128.size inb_S8x128x128_S8x128x128_0_0_0, k0_pay7 (F := F)⟩]
/-- The sums the loop starts from. -/
def sums0 : Vec F S4x128x128 .f32 :=
  View.canon [⟨Rect.unit (s := S4x128x128) ![0, 0, 0] S4x128x128.size inb_S4x128x128_S4x128x128_0_0_0, k0_pay8 (F := F)⟩]

theorem whole6 (p : Vec F S8x128x128 .f32) (y : S8x128x128.Idx) :
    ∃ pc ∈ ([⟨Rect.unit (s := S8x128x128) ![0, 0, 0] S8x128x128.size inb_S8x128x128_S8x128x128_0_0_0, p⟩] : List (View.Piece (Elt F) S8x128x128 .f32)), y ∈ pc.1.set :=
  View.cover_of_tiledL _ S8x128x128.size (by rfl) y
theorem whole7 (p : Vec F S4x128x128 .f32) (y : S4x128x128.Idx) :
    ∃ pc ∈ ([⟨Rect.unit (s := S4x128x128) ![0, 0, 0] S4x128x128.size inb_S4x128x128_S4x128x128_0_0_0, p⟩] : List (View.Piece (Elt F) S4x128x128 .f32)), y ∈ pc.1.set :=
  View.cover_of_tiledL _ S4x128x128.size (by rfl) y

set_option maxHeartbeats 4000000 in
/-- What the body's stores leave in the output's buffer, as pieces (last first), with the proof that the body runs to
    the continuation holding them, the inputs as they were and the running buffers at some contents. -/
noncomputable def bodyRun (c : Dev nD) (i : grid0.Coords)
    (arg2 : Memref sig .tc .vmem S1x128x512 .bf16) (harg2 : arg2.IsWhole)
    (arg3 : Memref sig .tc .vmem S1x8320x512 .bf16) (harg3 : arg3.IsWhole)
    (arg4 : Memref sig .tc .vmem S1x8320x512 .bf16) (harg4 : arg4.IsWhole)
    (arg5 : Memref sig .tc .vmem S1x128x512 .bf16) (harg5 : arg5.IsWhole)
    (arg6 : Memref sig .tc .vmem S8x128x128 .f32) (harg6 : arg6.IsWhole)
    (arg7 : Memref sig .tc .vmem S4x128x128 .f32) (harg7 : arg7.IsWhole)
    (x2 : Vec F S1x128x512 .bf16) (x3 x4 : Vec F S1x8320x512 .bf16) :
    { L5 : List (View.Piece (Elt F) S1x128x512 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ d, owns (c : Thread nD τ) arg6 fullShare d) ∗ (∃ d, owns (c : Thread nD τ) arg7 fullShare d)) -∗ K ⟨⟩))
          ⊢ wp frame (wpE (defs₀ (F := F)) Variants.nat c none) E
              (cc0_sb_attn i arg2 harg2 arg3 harg3 arg4 harg4 arg5 harg5 arg6 harg6 arg7 harg7) K } := by
  have hi : (i 1).val + 1 ≤ 65 := (i 1).isLt
  refine ⟨?_, fun E K => ?run⟩
  case run =>
    simp only [cc0_sb_attn_eq_skeleton]; unfold cc0_sb_attn_skel
    simp only [k0_part1_eq_skeleton, k0_part2_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf2; obtain rfl := harg3.eq_unread hf3; obtain rfl := harg4.eq_unread hf4
    sl_exec
    have hs := spec_le (F := F) c i (iota .tc S128x128 32 [1] iota_S128x128_d1_w32) (iota .tc S128x128 32 [1] iota_S128x128_d1_w32) (k0_pay6 i) (k0_pay5 (F := F)) arg2 harg2 arg3 harg3 arg4 harg4 arg6 harg6 arg7 harg7 x2 x3 x4 E ((i 1).val + 1) hi (Scalar.ofBits .f32 0x00000000#32) carries0 sums0
    rw [← startWord_eq i] at hs
    iapply (wp_call_spec Variants.nat (c : Thread nD τ) none E
      (spec c i (iota .tc S128x128 32 [1] iota_S128x128_d1_w32) (iota .tc S128x128 32 [1] iota_S128x128_d1_w32) (k0_pay6 i) (k0_pay5 (F := F)) arg2 harg2 arg3 harg3 arg4 harg4 arg6 harg6 arg7 harg7 x2 x3 x4 ((i 1).val + 1) (Scalar.ofBits .f32 0x00000000#32) carries0 sums0)
      ((i 1).val + 1) (fun u hu => nomatch hu) hs)
    rw [spec_apply]; unfold held
    isplitl [H2 H3 H4 H6 H7]
    · isplitl [H2]
      · unfold owns; iexists _; isplitr; · ipureintro; exact harg2.read_unread _
        iexact H2
      isplitl [H3]
      · unfold owns; iexists _; isplitr; · ipureintro; exact harg3.read_unread _
        iexact H3
      isplitl [H4]
      · unfold owns; iexists _; isplitr; · ipureintro; exact harg4.read_unread _
        iexact H4
      isplitl [H6]
      · unfold owns; iexists _; isplitr; swap; · iexact H6
        ipureintro; exact View.read_writes_eq_canon _ _ _ (whole6 _)
      unfold owns; iexists _; isplitr; swap; · iexact H7
      ipureintro; exact View.read_writes_eq_canon _ _ _ (whole7 _)
    iintro %r
    unfold owns
    iintro ⟨⟨%f2, %hf2, H2⟩, ⟨%f3, %hf3, H3⟩, ⟨%f4, %hf4, H4⟩, ⟨%f6, %hf6, H6⟩, ⟨%f7, %hf7, H7⟩⟩
    obtain rfl := harg7.eq_unread hf7
    sl_exec
    sl_step
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; iexact H5
    isplitl [H6]
    · iexists _; iexists _; isplitr; swap; · iexact H6
      ipureintro; rfl
    iexists _; iexists _; isplitr; swap; · iexact H7
    ipureintro; rfl

end Cert.Proof.AttendIdeal

end
-- ==== Proof.AttendRun.lean ====
/-
  Stick-breaking attention, the run: the call's host prefix, its proof data, the body at every grid point, and the frame.
-/
module

public import proofs.«01_k».proof.Proof.AttendBody

@[expose] public section

set_option maxRecDepth 16384

noncomputable section

namespace Cert.Proof.AttendIdeal

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the call finds them, after the host's operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- The program up to the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- Argument 0 reaches the call as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.reshape_writes, Finset.mem_singleton,
      StableHlo.TRef.unary, StableHlo.TRef.binary]
    repeat' apply And.intro
    all_goals exact StableHlo.devRef_ne_of_ne (by decide)))
/-- Argument 1 reaches the call as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.reshape_writes, Finset.mem_singleton,
      StableHlo.TRef.unary, StableHlo.TRef.binary]
    repeat' apply And.intro
    all_goals exact StableHlo.devRef_ne_of_ne (by decide)))
/-- Argument 2 reaches the call as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.reshape_writes, Finset.mem_singleton,
      StableHlo.TRef.unary, StableHlo.TRef.binary]
    repeat' apply And.intro
    all_goals exact StableHlo.devRef_ne_of_ne (by decide)))

/-- A window's block at a grid point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pieces the body leaves in the output's buffer at a grid point. -/
def pieces (c : Dev nD) (t : Fin (cfg0 (F := F)).N) (x2 : Vec F S1x128x512 .bf16) (x3 x4 : Vec F S1x8320x512 .bf16) : List (View.Piece (Elt F) S1x128x512 .bf16) :=
  (bodyRun c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (Memref.whole cc0_scratch0) (Memref.isWhole_whole _) (Memref.whole cc0_scratch1) (Memref.isWhole_whole _) x2 x3 x4).1

theorem pieces_cover (c : Dev nD) (t : Fin (cfg0 (F := F)).N) (x2 : Vec F S1x128x512 .bf16) (x3 x4 : Vec F S1x8320x512 .bf16) (y : S1x128x512.Idx) :
    ∃ pc ∈ pieces c t x2 x3 x4, y ∈ pc.1.set :=
  View.cover_of_tiledL (pieces c t x2 x3 x4) S1x128x128.size (by sl_kernel_rfl) y

/-- The output's buffer after the body. -/
@[irreducible] def out (c : Dev nD) (t : Fin (cfg0 (F := F)).N) (x2 : Vec F S1x128x512 .bf16) (x3 x4 : Vec F S1x8320x512 .bf16) : Vec F S1x128x512 .bf16 :=
  View.canon (pieces c t x2 x3 x4)

/-- The call's proof data: the inputs' buffers at their blocks, the output's at `out` of them. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out c t (iblk m c 0 t) (iblk m c 1 t) (iblk m c 2 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = out c t (iblk m c 0 t) (iblk m c 1 t) (iblk m c 2 t) := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 2000000 in
/-- The body at any grid point, the running buffers taken from the region's own and given back. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  iintro ⟨⟨⟨⟨%g6, H6⟩, ⟨%g7, H7⟩⟩, Hg⟩, Ho, ⟨%d0, H0⟩, ⟨%d1, H1⟩, ⟨%d2, H2⟩, ⟨%d3, H3⟩⟩
  iapply ((bodyRun c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (Memref.whole cc0_scratch0) (Memref.isWhole_whole _) (Memref.whole cc0_scratch1) (Memref.isWhole_whole _) (iblk m c 0 t) (iblk m c 1 t) (iblk m c 2 t)).2 Set.univ _)
  isplitl [H0]; · iexact H0
  isplitl [H1]; · iexact H1
  isplitl [H2]; · iexact H2
  isplitl [H3]; · iexists _; iexact H3
  isplitl [H6]
  · iexists g6; rw [owns_whole_eq]; iexists g6; isplitr; · ipureintro; rfl
    iexact H6
  isplitl [H7]
  · iexists g7; rw [owns_whole_eq]; iexists g7; isplitr; · ipureintro; rfl
    iexact H7
  simp only [owns_whole_eq]
  iintro ⟨H0, H1, H2, ⟨%f3, H3⟩, ⟨%e6, %f6, -, H6⟩, ⟨%e7, %f7, -, H7⟩⟩
  isplitl [H6 H7 Hg]
  · isplitl [H6 H7]
    · isplitl [H6]
      · iexists _; iexact H6
      iexists _; iexact H7
    iexact Hg
  isplitl [Ho]; · iexact Ho
  isplitl [H0]; · iexact H0
  isplitl [H1]; · iexact H1
  isplitl [H2]; · iexact H2
  unfold owns
  iexists _; isplitr; swap; · iexact H3
  ipureintro
  unfold out
  exact View.read_writes_eq_canon _ _ _ (pieces_cover c t (iblk m c 0 t) (iblk m c 1 t) (iblk m c 2 t))

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
set_option maxHeartbeats 800000 in
/-- The run: it ends, the arrays at what the library computes from the proof data, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by show ∀ w : Fin 4, (spec0 w).arr.view.ref ≠ main_arg0; decide))).trans (V_main_arg0 m c),
      ((h.1 c).2 main_arg1 (Pipeline.mem_restRefs_of main_arg1 (by decide) (by show ∀ w : Fin 4, (spec0 w).arr.view.ref ≠ main_arg1; decide))).trans (V_main_arg1 m c),
      ((h.1 c).2 main_arg2 (Pipeline.mem_restRefs_of main_arg2 (by decide) (by show ∀ w : Fin 4, (spec0 w).arr.view.ref ≠ main_arg2; decide))).trans (V_main_arg2 m c)⟩, h.2⟩) (run_quiescent m ρ)

end Cert.Proof.AttendIdeal

end
-- ==== Proof.AttendFrames.lean ====
module

public import proofs.«01_k».proof.Defs
public import proofs.«01_k».proof.Proof.AttendRun
public import proofs.«01_k».proof.Proof.AttendBits.Run
public import proofs.«01_k».proof.Proof.Gen.AttendReferenceIdeal.Run

/-! The stick-breaking attention's frames, and the one named constant of its ideal program. -/

@[expose] public section

set_option maxRecDepth 16384

noncomputable section

namespace Cert.Sb

open Idealize.ShloMosaic Idealize.ShloMosaic.TcCoe Idealize.SL.Sem

theorem frame_prompt : Cert.quiescent_Attend := fun m ρ _ => Cert.Proof.Attend.frame m ρ
theorem frame_promptIdeal : Cert.quiescent_AttendIdeal := fun m ρ _ => Cert.Proof.AttendIdeal.frame m ρ

/-- The reference keeps its arguments, and declares no semaphore. -/
theorem frame_promptReference : Cert.quiescent_AttendReferenceIdeal := fun m ρ _ =>
  (θ_run Cert.AttendReferenceIdeal.defs _ _).mono
    (fun r h => ⟨fun c => (h c).2, sem_eq_zero_of_no_sems (by decide) r.2⟩)
    (Cert.AttendReferenceIdeal.Value.run (F := Ideal) m ρ)

/-- The name `"zero_below"` stands for −∞, below which nothing lies. -/
theorem preserves_prompt : Cert.preserves_Attend_AttendIdeal :=
  IdealRules.named_const.statement Cert.AttendIdeal.κ "zero_below" .f32 0xC2D00000#32 ⊥ rfl

end Cert.Sb

end
-- ==== Proof.AttendMath.lean ====
module

public import Mathlib.Analysis.SpecialFunctions.Log.Basic
public import Mathlib.Algebra.BigOperators.Intervals
public import Mathlib.Data.EReal.Operations

/-! Stick-breaking attention of one query as sums of reals: what a score keeps of the stick, what is left of it behind a
key, the keys' weights, and the sums a loop over blocks of 128 keys runs through from the last block down. -/

@[expose] public section

noncomputable section

namespace Cert.Sb

open Finset
open scoped BigOperators

/-- The softplus of a score, in the form that does not overflow. -/
def sp (x : ℝ) : ℝ := max x 0 + Real.log (1 + Real.exp (-(max x (-x))))

theorem sp_neg (x : ℝ) : x - sp x = -sp (-x) := by
  unfold sp
  rw [neg_neg, max_comm (-x) x]
  rcases le_total x 0 with h | h
  · rw [max_eq_right h, max_eq_left (by linarith : 0 ≤ -x)]; ring
  · rw [max_eq_left h, max_eq_right (by linarith : -x ≤ 0)]; ring

variable (z : ℕ → ℝ) (q : ℕ)

/-- The log of what key `s` leaves of the stick: nothing is taken from the query's own place on. -/
def keep (s : ℕ) : ℝ := if s < q then -sp (z s) else 0

/-- The log of what the keys behind `s` have left of it. -/
def behind (s : ℕ) : ℝ := ∑ u ∈ Ico (s + 1) 8320, keep z q u

/-- Key `s`'s weight. -/
def weight (s : ℕ) : ℝ := if s < q then Real.exp (z s - sp (z s) + behind z q s) else 0

/-- The log of what is left with `n` blocks still to come, -/
def carryAt (n : ℕ) : ℝ := ∑ u ∈ Ico (128 * n) 8320, keep z q u

/-- and the weighted values so far; a value may be infinite. -/
def sumAt (v : ℕ → EReal) (n : ℕ) : EReal := ∑ u ∈ Ico (128 * n) 8320, ((weight z q u : ℝ) : EReal) * v u

theorem block_split {M : Type} [AddCommMonoid M] (f : ℕ → M) (n : ℕ) (hn : n < 65) :
    ∑ u ∈ Ico (128 * n) 8320, f u = ∑ u ∈ Ico (128 * (n + 1)) 8320, f u + ∑ k : Fin 128, f (128 * n + k.val) := by
  rw [← sum_Ico_consecutive f (show 128 * n ≤ 128 * (n + 1) by omega) (show 128 * (n + 1) ≤ 8320 by omega), add_comm]
  congr 1
  rw [sum_Ico_eq_sum_range, show 128 * (n + 1) - 128 * n = 128 by omega, sum_range]

theorem carry_step (n : ℕ) (hn : n < 65) :
    carryAt z q (n + 1) + ∑ k : Fin 128, keep z q (128 * n + k.val) = carryAt z q n := (block_split _ n hn).symm

theorem sum_step (v : ℕ → EReal) (n : ℕ) (hn : n < 65) :
    sumAt z q v (n + 1) + ∑ k : Fin 128, ((weight z q (128 * n + k.val) : ℝ) : EReal) * v (128 * n + k.val) = sumAt z q v n :=
  (block_split (fun u => ((weight z q u : ℝ) : EReal) * v u) n hn).symm

/-- Behind a key of block `n`: the later keys of the block, and the blocks after it. -/
theorem behind_step (n : ℕ) (hn : n < 65) (c : Fin 128) :
    (∑ k : Fin 128, keep z q (128 * n + k.val) * (if c.val < k.val then 1 else 0)) + carryAt z q (n + 1) = behind z q (128 * n + c.val) := by
  unfold behind carryAt
  have hc := c.isLt
  rw [← sum_Ico_consecutive (keep z q) (show 128 * n + c.val + 1 ≤ 128 * (n + 1) by omega) (show 128 * (n + 1) ≤ 8320 by omega)]
  congr 1
  have e : ∑ k : Fin 128, keep z q (128 * n + k.val) * (if c.val < k.val then 1 else 0)
      = ∑ k ∈ range 128, keep z q (128 * n + k) * (if c.val < k then 1 else 0) :=
    (sum_range (fun k => keep z q (128 * n + k) * (if c.val < k then (1 : ℝ) else 0))).symm
  rw [e]
  simp only [mul_ite, mul_one, mul_zero]
  rw [← sum_filter]
  have e2 : (range 128).filter (fun k => c.val < k) = Ico (c.val + 1) 128 := by
    ext k; simp only [mem_filter, mem_range, mem_Ico]; omega
  rw [e2, sum_Ico_eq_sum_range, sum_Ico_eq_sum_range, show 128 * (n + 1) - (128 * n + c.val + 1) = 128 - (c.val + 1) by omega]
  refine sum_congr rfl fun k _ => ?_
  congr 1; omega

theorem keep_late {s : ℕ} (h : q ≤ s) : keep z q s = 0 := if_neg (by omega)
theorem weight_late {s : ℕ} (h : q ≤ s) : weight z q s = 0 := if_neg (by omega)

/-- From the query's own place on nothing is taken, -/
theorem carry_late {n : ℕ} (h : q ≤ 128 * n) : carryAt z q n = 0 :=
  sum_eq_zero fun u hu => keep_late z q (by have := (mem_Ico.mp hu).1; omega)

/-- and nothing is added. -/
theorem sum_late (v : ℕ → EReal) {n : ℕ} (h : q ≤ 128 * n) : sumAt z q v n = 0 :=
  sum_eq_zero fun u hu => by rw [weight_late z q (by have := (mem_Ico.mp hu).1; omega), EReal.coe_zero, zero_mul]

theorem sum_whole (v : ℕ → EReal) : sumAt z q v 0 = ∑ s : Fin 8320, ((weight z q s.val : ℝ) : EReal) * v s.val := by
  unfold sumAt
  rw [Nat.mul_zero, ← range_eq_Ico, sum_range]

/-- Behind a key: everything from it on, without it. -/
theorem behind_eq (s : ℕ) (hs : s < 8320) : (∑ u ∈ Ico s 8320, keep z q u) - keep z q s = behind z q s := by
  unfold behind
  rw [sum_eq_sum_Ico_succ_bot hs]; ring

end Cert.Sb

end
-- ==== Proof.AttendForm.lean ====
module

public import proofs.«01_k».proof.Proof.AttendMath
public import proofs.«01_k».proof.Proof.ProjectMath
public import proofs.«01_k».proof.Proof.Chunk
public import proofs.«01_k».proof.Proof.Gen.AttendIdeal.Skeleton

/-! One head of one block of keys over the reals: the kernel's scores, what they take of the stick, the running logs by a
product with ones behind the diagonal, the weights and the weighted values. -/

@[expose] public section

set_option maxRecDepth 16384

noncomputable section

namespace Cert.Sb

open Idealize.ShloMosaic Idealize.ShloMosaic.TcCoe Idealize.ShloMosaic.ValueIdx
open Cert.AttendIdeal Cert.AttendIdeal.Gen
open Cert.Gla (select_of drop_lanes coe_sum iota_row iota_col)
open Cert.Proj (word_zero word_one)
open scoped BigOperators

/-! ### Products -/

theorem dotT_apply (x y : FVec Ideal S128x128 .bf16) (t s : Fin 128) :
    matmul dot_S128x128_S128x128_S128x128_1_1_0_0_n_n none x y (constant S128x128 .f32 0x00000000#32) (ix2 t s)
      = ∑ d : Fin 128, x (ix2 t d) * y (ix2 s d) := by
  refine (Ideal.matmul_transposedRhs_apply none x y _ t s).trans ?_
  rw [constant_apply, word_zero, zero_add]

theorem dotP_apply (x y : FVec Ideal S128x128 .bf16) (t d : Fin 128) :
    matmul dot_S128x128_S128x128_S128x128_1_0_0_1_n_n none x y (constant S128x128 .f32 0x00000000#32) (ix2 t d)
      = ∑ j : Fin 128, x (ix2 t j) * y (ix2 j d) := by
  refine (Ideal.matmul_plain_apply none x y _ t d).trans ?_
  rw [constant_apply, word_zero, zero_add]

theorem dotV_apply (x : FVec Ideal S128x128 .bf16) (y : FVec Ideal S128x256 .bf16) (t : Fin 128) (e : Fin 256) :
    matmul dot_S128x128_S128x256_S128x256_1_0_0_1_n_n none x y (constant S128x256 .f32 0x00000000#32) (ix2 t e)
      = ∑ s : Fin 128, x (ix2 t s) * y (ix2 s e) := by
  refine (Ideal.matmul_plain_apply none x y _ t e).trans ?_
  rw [constant_apply, word_zero, zero_add]

theorem half_zero : Ideal.ofBits .bf16 0x0000#16 = 0 := by simp [Ideal.ofBits, Ideal.ieee]
theorem half_one : Ideal.ofBits .bf16 0x3F80#16 = 1 := by
  simp [Ideal.ofBits, Ideal.ieee]
  rw [← EReal.coe_mul, ← EReal.coe_one]
  norm_num

theorem coe_max (a b : ℝ) : max (a : EReal) (b : EReal) = ((max a b : ℝ) : EReal) :=
  (EReal.coe_strictMono.monotone.map_max).symm

theorem log_real {x : ℝ} (h : 0 < x) : Ideal.log ((x : ℝ) : EReal) = ((Real.log x : ℝ) : EReal) := by
  show (if x ≤ 0 then (⊥ : EReal) else (Real.log x : EReal)) = _
  rw [if_neg (by linarith)]

/-- The softplus as the kernel computes it. -/
theorem sp_word (x : ℝ) : max (x : EReal) 0 + Ideal.log (1 + Ideal.exp (0 - max (x : EReal) (-(x : EReal)))) = ((sp x : ℝ) : EReal) := by
  rw [← EReal.coe_neg, coe_max, ← EReal.coe_zero, coe_max, ← EReal.coe_sub, zero_sub]
  show ((max x 0 : ℝ) : EReal) + Ideal.log (1 + ((Real.exp (-(max x (-x))) : ℝ) : EReal)) = _
  rw [← EReal.coe_one, ← EReal.coe_add, log_real (by positivity), ← EReal.coe_add]
  rfl

/-! ### The ones behind the diagonal -/

private theorem tri_word : ∀ k c : Fin 128, (IntOp.cmpi .sgt (BitVec.ofNat 32 k.val) (BitVec.ofNat 32 c.val)).setWidth 32
    = if c.val < k.val then 1#32 else 0#32 := by decide +kernel

/-- Lane `c` of the first 128 sums the keys behind key `c`. -/
theorem ones_behind (k c : Fin 128) : k0_pay5 (F := Ideal) (ix2 (n0 := 128) (n1 := 256) k ⟨c.val, by omega⟩) = if c.val < k.val then 1 else 0 := by
  unfold k0_pay5
  refine (concatenate_apply_piece (t := S128x256) 1 [⟨S128x128, _⟩, ⟨S128x128, _⟩] concatenates_S128x128_S128x128_S128x256_d1 _ 0 (by show 0 < 2; omega) S128x128 _ rfl rfl 0 rfl (ix2 k c) (fun b hb => by
    match b, hb with
    | ⟨0, _⟩, _ => rfl
    | ⟨1, _⟩, hb => exact absurd rfl hb) (by show 0 + c.val = c.val; omega)).trans ?_
  show FloatOps.sitofp (F := Ideal) .f32 ((IntOp.cmpi .sgt (iota .tc S128x128 32 [0] _ (ix2 k c)) (iota .tc S128x128 32 [1] _ (ix2 k c))).setWidth 32) = _
  rw [iota_row, iota_col, tri_word]
  split
  · show (((1#32 : BitVec 32).toInt : ℝ) : EReal) = 1
    norm_num [BitVec.toInt]
  · show (((0#32 : BitVec 32).toInt : ℝ) : EReal) = 0
    norm_num [BitVec.toInt]

/-- The other lanes sum them all. -/
theorem ones_all (k c : Fin 128) : k0_pay5 (F := Ideal) (ix2 (n0 := 128) (n1 := 256) k ⟨128 + c.val, by omega⟩) = 1 := by
  unfold k0_pay5
  refine (concatenate_apply_piece (t := S128x256) 1 [⟨S128x128, _⟩, ⟨S128x128, _⟩] concatenates_S128x128_S128x128_S128x256_d1 _ 1 (by show 1 < 2; omega) S128x128 _ rfl rfl 128 rfl (ix2 k c) (fun b hb => by
    match b, hb with
    | ⟨0, _⟩, _ => rfl
    | ⟨1, _⟩, hb => exact absurd rfl hb) (by show 128 + c.val = 128 + c.val; rfl)).trans ?_
  exact half_one

/-! ### Scores -/

section Score

variable (xq xk : Vec Ideal S1x128x128 .bf16) (Q K : Fin 128 → Fin 128 → ℝ)
  (hq : ∀ r d, xq (ix3 (n0 := 1) (n1 := 128) (n2 := 128) 0 r d) = (Q r d : EReal))
  (hk : ∀ c d, xk (ix3 (n0 := 1) (n1 := 128) (n2 := 128) 0 c d) = (K c d : EReal))

private theorem low_word : ∀ d : Fin 128, IntOp.cmpi .slt (BitVec.ofNat 32 d.val) 64#32 = if d.val < 64 then 1#1 else 0#1 := by decide +kernel
private theorem high_word : ∀ d : Fin 128, IntOp.cmpi .sge (BitVec.ofNat 32 d.val) 64#32 = if 64 ≤ d.val then 1#1 else 0#1 := by decide +kernel

theorem halves (f : Fin 128 → ℝ) : ∑ d : Fin 128, f d = ∑ d : Fin 64, f ⟨d.val, by omega⟩ + ∑ d : Fin 64, f ⟨64 + d.val, by omega⟩ :=
  Fin.sum_univ_add (a := 64) (b := 64) f

include hq hk in
/-- A pair's first head: the product over the first 64 lanes. -/
theorem score_low (r c : Fin 128) :
    k0_pay14 (F := Ideal) (iota .tc S128x128 32 [1] iota_S128x128_d1_w32) xq xk (ix2 r c)
      = ((∑ d : Fin 64, Q r ⟨d.val, by omega⟩ * K c ⟨d.val, by omega⟩ : ℝ) : EReal) := by
  unfold k0_pay14
  dsimp only
  rw [dotT_apply]
  have e : ∀ d : Fin 128, select (cmpi .slt (iota .tc S128x128 32 [1] iota_S128x128_d1_w32) (broadcast S128x128 64#32)) (shapeCast S128x128 xq shapeCasts_S1x128x128_S128x128) (broadcast S128x128 (Scalar.ofBits (F := Ideal) .bf16 0x0000#16)) (ix2 r d)
        * shapeCast S128x128 xk shapeCasts_S1x128x128_S128x128 (ix2 c d) = (((if d.val < 64 then Q r d else 0) * K c d : ℝ) : EReal) := fun d => by
    rw [drop_lanes, hk, select_apply]
    have e1 := select_of (d.val < 64) _ ((congrArg (fun w => IntOp.cmpi .slt w 64#32) (iota_col iota_S128x128_d1_w32 r d)).trans (low_word d))
      (shapeCast S128x128 xq shapeCasts_S1x128x128_S128x128 (ix2 r d)) (broadcast S128x128 (Scalar.ofBits (F := Ideal) .bf16 0x0000#16) (ix2 r d))
    refine (congrArg (· * ((K c d : ℝ) : EReal)) e1).trans ?_
    rw [drop_lanes, hq, EReal.coe_mul]
    congr 1
    split
    · rfl
    · exact half_zero
  rw [Finset.sum_congr rfl fun d _ => e d, ← coe_sum, halves]
  congr 1
  rw [Finset.sum_congr rfl fun (d : Fin 64) _ => by rw [if_pos (show (⟨d.val, by omega⟩ : Fin 128).val < 64 from d.isLt)],
    Finset.sum_eq_zero (s := Finset.univ) (f := fun d : Fin 64 => (if (⟨64 + d.val, by omega⟩ : Fin 128).val < 64 then Q r ⟨64 + d.val, by omega⟩ else 0) * K c ⟨64 + d.val, by omega⟩) fun d _ => by
      rw [if_neg (by show ¬ 64 + d.val < 64; omega), zero_mul], add_zero]

include hq hk in
/-- A pair's second head: the product over the other 64 lanes. -/
theorem score_high (r c : Fin 128) :
    k0_pay15 (F := Ideal) (iota .tc S128x128 32 [1] iota_S128x128_d1_w32) xq xk (ix2 r c)
      = ((∑ d : Fin 64, Q r ⟨64 + d.val, by omega⟩ * K c ⟨64 + d.val, by omega⟩ : ℝ) : EReal) := by
  unfold k0_pay15
  dsimp only
  rw [dotT_apply]
  have e : ∀ d : Fin 128, select (cmpi .sge (iota .tc S128x128 32 [1] iota_S128x128_d1_w32) (broadcast S128x128 64#32)) (shapeCast S128x128 xq shapeCasts_S1x128x128_S128x128) (broadcast S128x128 (Scalar.ofBits (F := Ideal) .bf16 0x0000#16)) (ix2 r d)
        * shapeCast S128x128 xk shapeCasts_S1x128x128_S128x128 (ix2 c d) = (((if 64 ≤ d.val then Q r d else 0) * K c d : ℝ) : EReal) := fun d => by
    rw [drop_lanes, hk, select_apply]
    have e1 := select_of (64 ≤ d.val) _ ((congrArg (fun w => IntOp.cmpi .sge w 64#32) (iota_col iota_S128x128_d1_w32 r d)).trans (high_word d))
      (shapeCast S128x128 xq shapeCasts_S1x128x128_S128x128 (ix2 r d)) (broadcast S128x128 (Scalar.ofBits (F := Ideal) .bf16 0x0000#16) (ix2 r d))
    refine (congrArg (· * ((K c d : ℝ) : EReal)) e1).trans ?_
    rw [drop_lanes, hq, EReal.coe_mul]
    congr 1
    split
    · rfl
    · exact half_zero
  rw [Finset.sum_congr rfl fun d _ => e d, ← coe_sum, halves]
  congr 1
  have e0 : ∑ d : Fin 64, (if 64 ≤ (⟨d.val, by omega⟩ : Fin 128).val then Q r ⟨d.val, by omega⟩ else 0) * K c ⟨d.val, by omega⟩ = 0 :=
    Finset.sum_eq_zero fun d _ => by rw [if_neg (by show ¬ 64 ≤ d.val; omega), zero_mul]
  refine (congrArg (· + _) e0).trans ((zero_add _).trans (Finset.sum_congr rfl fun d _ => ?_))
  rw [if_pos (show 64 ≤ (⟨64 + d.val, by omega⟩ : Fin 128).val from Nat.le_add_right _ _)]

end Score

/-! ### A head -/

section Head

variable (n : ℕ) (hn : n < 65) (mask : IVec S128x128 1) (zz : FVec Ideal S128x128 .f32) (z : Fin 128 → ℕ → ℝ) (q : Fin 128 → ℕ)
  (hm : ∀ r c : Fin 128, mask (ix2 r c) = if 128 * n + c.val < q r then 1#1 else 0#1)
  (hz : ∀ r c : Fin 128, zz (ix2 r c) = ((z r (128 * n + c.val) : ℝ) : EReal))

include hz in
theorem softplus_apply (r c : Fin 128) : k0_pay25 zz (ix2 r c) = ((sp (z r (128 * n + c.val)) : ℝ) : EReal) := by
  rw [← sp_word, ← hz]
  unfold k0_pay25
  show max (zz (ix2 r c)) (Ideal.ofBits .f32 0x00000000#32) + Ideal.log (Ideal.ofBits .f32 0x3F800000#32 + Ideal.exp (Ideal.ofBits .f32 0x00000000#32 - max (zz (ix2 r c)) (-(zz (ix2 r c))))) = _
  rw [word_zero, word_one]

include hz in
theorem logBeta_apply (r c : Fin 128) : k0_pay26 zz (ix2 r c) = ((z r (128 * n + c.val) - sp (z r (128 * n + c.val)) : ℝ) : EReal) := by
  unfold k0_pay26
  show zz (ix2 r c) - k0_pay25 zz (ix2 r c) = _
  rw [softplus_apply n zz z hz, hz, EReal.coe_sub]

include hm hz in
theorem kept_apply (r c : Fin 128) :
    select mask (subf (broadcast S128x128 (Scalar.ofBits (F := Ideal) .f32 0x00000000#32)) (k0_pay25 zz)) (broadcast S128x128 (Scalar.ofBits (F := Ideal) .f32 0x00000000#32)) (ix2 r c)
      = ((keep (z r) (q r) (128 * n + c.val) : ℝ) : EReal) := by
  rw [select_apply]
  refine (select_of _ _ (hm r c) _ _).trans ?_
  unfold keep
  split
  · show Ideal.ofBits .f32 0x00000000#32 - k0_pay25 zz (ix2 r c) = _
    rw [softplus_apply n zz z hz, word_zero, ← EReal.coe_zero, ← EReal.coe_sub, zero_sub]
  · exact word_zero.trans EReal.coe_zero.symm

include hm hz in
/-- The product with the ones, lane by lane. -/
theorem logs_apply (r : Fin 128) (e : Fin 256) (t : Fin 128 → ℝ) (ht : ∀ k : Fin 128, k0_pay5 (F := Ideal) (ix2 k e) = ((t k : ℝ) : EReal)) :
    k0_pay27 k0_pay5 mask zz (ix2 r e) = ((∑ k : Fin 128, keep (z r) (q r) (128 * n + k.val) * t k : ℝ) : EReal) := by
  unfold k0_pay27
  rw [addf_apply]
  refine (congrArg₂ (· + ·) ((dotV_apply _ _ r e).trans (Finset.sum_congr rfl fun k _ =>
    show _ = ((keep (z r) (q r) (128 * n + k.val) * t k : ℝ) : EReal) from ?_)) ((dotV_apply _ _ r e).trans (Finset.sum_eq_zero fun k _ => ?_))).trans ?_
  · rw [truncf_apply, kept_apply n mask zz z q hm hz, ht, EReal.coe_mul]
  · rw [truncf_apply, subf_apply, extf_apply, truncf_apply, kept_apply n mask zz z q hm hz, ← EReal.coe_sub, sub_self, EReal.coe_zero, zero_mul]
  · rw [add_zero, coe_sum]

variable (carry : Vec Ideal S1x128x128 .f32)
  (hc : ∀ r c : Fin 128, carry (ix3 (n0 := 1) (n1 := 128) (n2 := 128) 0 r c) = ((carryAt (z r) (q r) (n + 1) : ℝ) : EReal))

include hn hm hz hc in
/-- The carry after a block. -/
theorem carry_apply (r c : Fin 128) : k0_pay57 (k0_pay27 k0_pay5 mask zz) carry (ix2 r c) = ((carryAt (z r) (q r) n : ℝ) : EReal) := by
  unfold k0_pay57 k0_pay55
  dsimp only
  rw [addf_apply, drop_lanes, hc, extractStridedSlice_apply _ _ slices_S128x256_o0_128_S128x128 (ix2 r c) (ix2 (n0 := 128) (n1 := 256) r ⟨128 + c.val, by omega⟩) (fun a => by
      match a with
      | ⟨0, _⟩ => show r.val = 0 + r.val; omega
      | ⟨1, _⟩ => rfl),
    logs_apply n mask zz z q hm hz r _ (fun _ => 1) (fun k => (ones_all k c).trans EReal.coe_one.symm), ← EReal.coe_add]
  simp only [mul_one]
  rw [carry_step _ _ n hn]

include hn hm hz hc in
/-- The block's weighted values. -/
theorem value_apply (v : Vec Ideal S1x128x128 .bf16) (V : Fin 128 → ℕ → EReal)
    (hv : ∀ c l : Fin 128, v (ix3 (n0 := 1) (n1 := 128) (n2 := 128) 0 c l) = V l (128 * n + c.val)) (r l : Fin 128) :
    k0_pay56 mask (k0_pay26 zz) (k0_pay27 k0_pay5 mask zz) carry v (ix2 r l)
      = ∑ k : Fin 128, ((weight (z r) (q r) (128 * n + k.val) : ℝ) : EReal) * V l (128 * n + k.val) := by
  unfold k0_pay56 k0_pay55
  dsimp only
  rw [dotP_apply]
  refine Finset.sum_congr rfl fun k _ => ?_
  rw [drop_lanes, hv, truncf_apply, select_apply]
  congr 1
  refine (select_of _ _ (hm r k) _ _).trans ?_
  unfold weight
  split
  · show Ideal.exp (k0_pay26 zz (ix2 r k) + extractStridedSlice S128x128 ![0, 0] (k0_pay27 k0_pay5 mask zz) slices_S128x256_o0_0_S128x128 (ix2 r k)
      + shapeCast S128x128 carry shapeCasts_S1x128x128_S128x128 (ix2 r k)) = _
    rw [drop_lanes, hc, logBeta_apply n zz z hz, extractStridedSlice_apply _ _ slices_S128x256_o0_0_S128x128 (ix2 r k) (ix2 (n0 := 128) (n1 := 256) r ⟨k.val, by omega⟩) (fun a => by
        match a with
        | ⟨0, _⟩ => show r.val = 0 + r.val; omega
        | ⟨1, _⟩ => show k.val = 0 + k.val; omega),
      logs_apply n mask zz z q hm hz r _ (fun k' => if k.val < k'.val then 1 else 0) (fun k' => (ones_behind k' k).trans (by split <;> simp)),
      ← EReal.coe_add, ← EReal.coe_add, add_assoc, behind_step _ _ n hn k]
    rfl
  · exact word_zero.trans EReal.coe_zero.symm

end Head

end Cert.Sb

end
-- ==== Proof.AttendTiles.lean ====
module

public import proofs.«01_k».proof.Proof.AttendForm
public import proofs.«01_k».proof.Proof.AttendRun
public import Idealize.ShloMosaic.Lib.Pipeline.ValueKit.Geometry
public import Idealize.ShloMosaic.Lib.WholeRead

/-! A trip of the loop over blocks of keys, head by head: the tiles it reads, and the carries, sums and largest carry it
leaves, all eight heads in one form. -/

@[expose] public section

set_option maxRecDepth 16384

noncomputable section

namespace Cert.Sb

open Idealize.ShloMosaic Idealize.ShloMosaic.TcCoe Idealize.ShloMosaic.ValueIdx
open Cert.AttendIdeal Cert.AttendIdeal.Gen Cert.Proof.AttendIdeal
open Cert.Gla (lane)

/-- Key `k` of block `n`. -/
def keyAt (n : ℕ) (hn : n < 65) (k : Fin 128) : Fin 8320 := ⟨128 * n + k.val, by omega⟩

theorem start_word (n : ℕ) (hn : n < 65) : (BitVec.ofNat 32 n * 128#32).toNat = 128 * n := by
  have h : ∀ n : Fin 65, (BitVec.ofNat 32 n.val * 128#32).toNat = 128 * n.val := by decide +kernel
  exact h ⟨n, hn⟩

section

variable (c : Dev nD) (i : grid0.Coords) (v0 v2 v12 : IVec S128x128 32) (v8 : FVec Ideal S128x256 .bf16)
  (arg2 : Memref sig .tc .vmem S1x128x512 .bf16) (harg2 : arg2.IsWhole)
  (arg3 : Memref sig .tc .vmem S1x8320x512 .bf16) (harg3 : arg3.IsWhole)
  (arg4 : Memref sig .tc .vmem S1x8320x512 .bf16) (harg4 : arg4.IsWhole)
  (arg6 : Memref sig .tc .vmem S8x128x128 .f32) (harg6 : arg6.IsWhole)
  (arg7 : Memref sig .tc .vmem S4x128x128 .f32) (harg7 : arg7.IsWhole)
  (j : BitVec 32) (cm : Ideal .f32) (hj : k0_chk1 j) (ht : goesOn j cm) (x2 : Vec Ideal S1x128x512 .bf16) (x3 x4 : Vec Ideal S1x8320x512 .bf16)
  (x6 : Vec Ideal S8x128x128 .f32) (x7 : Vec Ideal S4x128x128 .f32)

theorem row_in (h : Fin 8) : ∀ a, (![h.val, 0, 0] : Fin 3 → ℕ) a + S1x128x128.size a ≤ S8x128x128.size a := by revert h; decide
theorem pair_in (p : Fin 4) : ∀ a, (![p.val, 0, 0] : Fin 3 → ℕ) a + S1x128x128.size a ≤ S4x128x128.size a := by revert p; decide
theorem part_in (p : Fin 4) : ∀ a, (![0, 0, 128 * p.val] : Fin 3 → ℕ) a + S1x128x128.size a ≤ S1x128x512.size a := by revert p; decide

/-- Head `h` of the carries. -/
def rowRect (h : Fin 8) : Rect S8x128x128 := Rect.unit (s := S8x128x128) ![h.val, 0, 0] S1x128x128.size (row_in h)
/-- Pair `p` of the sums. -/
def pairRect (p : Fin 4) : Rect S4x128x128 := Rect.unit (s := S4x128x128) ![p.val, 0, 0] S1x128x128.size (pair_in p)
/-- Pair `p`'s lanes of a block of 128 rows. -/
def partRect (p : Fin 4) : Rect S1x128x512 := Rect.unit (s := S1x128x512) ![0, 0, 128 * p.val] S1x128x128.size (part_in p)

include hj in
theorem keys_inside (p : Fin 4) : ∀ a, (![0, (j * 128#32).toNat, 128 * p.val] : Fin 3 → ℕ) a + S1x128x128.size a ≤ S1x8320x512.size a := by
  obtain ⟨-, h1, h2, h3, h4⟩ := hj
  match p with
  | ⟨0, _⟩ => exact h1
  | ⟨1, _⟩ => exact h2
  | ⟨2, _⟩ => exact h3
  | ⟨3, _⟩ => exact h4

/-- Pair `p`'s lanes of a block's keys, or values. -/
def keyRect (p : Fin 4) : Rect S1x8320x512 := Rect.unit (s := S1x8320x512) ![0, (j * 128#32).toNat, 128 * p.val] S1x128x128.size (keys_inside j hj p)

/-- Pair `p`'s queries, -/
def qTile (p : Fin 4) : Vec Ideal S1x128x128 .bf16 := fun y => View.readAt (Elt Ideal) arg2.view (partRect p).toLoadRect (harg2.unread x2) y
/-- keys, -/
def kTile (p : Fin 4) : Vec Ideal S1x128x128 .bf16 := fun y => View.readAt (Elt Ideal) arg3.view (keyRect j hj p).toLoadRect (harg3.unread x3) y
/-- and values. -/
def vTile (p : Fin 4) : Vec Ideal S1x128x128 .bf16 := fun y => View.readAt (Elt Ideal) arg4.view (keyRect j hj p).toLoadRect (harg4.unread x4) y
/-- Head `h`'s carries. -/
def cTile (h : Fin 8) : Vec Ideal S1x128x128 .f32 := fun y => View.readAt (Elt Ideal) arg6.view (rowRect h).toLoadRect (harg6.unread x6) y
/-- Pair `p`'s sums. -/
def sTile (p : Fin 4) : Vec Ideal S1x128x128 .f32 := fun y => View.readAt (Elt Ideal) arg7.view (pairRect p).toLoadRect (harg7.unread x7) y

/-- The scores of a pair's first head, -/
def lowScore (p : Fin 4) : FVec Ideal S128x128 .f32 := k0_pay14 v0 (qTile arg2 harg2 x2 p) (kTile arg3 harg3 j hj x3 p)
/-- and of its second. -/
def highScore (p : Fin 4) : FVec Ideal S128x128 .f32 := k0_pay15 v0 (qTile arg2 harg2 x2 p) (kTile arg3 harg3 j hj x3 p)

/-- The heads' scores. -/
def scores : Fin 8 → FVec Ideal S128x128 .f32 :=
  ![lowScore v0 arg2 harg2 arg3 harg3 j hj x2 x3 0, highScore v0 arg2 harg2 arg3 harg3 j hj x2 x3 0,
    lowScore v0 arg2 harg2 arg3 harg3 j hj x2 x3 1, highScore v0 arg2 harg2 arg3 harg3 j hj x2 x3 1,
    lowScore v0 arg2 harg2 arg3 harg3 j hj x2 x3 2, highScore v0 arg2 harg2 arg3 harg3 j hj x2 x3 2,
    lowScore v0 arg2 harg2 arg3 harg3 j hj x2 x3 3, highScore v0 arg2 harg2 arg3 harg3 j hj x2 x3 3]

/-- Head `h`'s carries after the trip. -/
def newC (h : Fin 8) : FVec Ideal S1x128x128 .f32 :=
  k0_pay58 (k0_pay27 v8 (k0_pay13 v2 v12 j) (scores v0 arg2 harg2 arg3 harg3 j hj x2 x3 h)) (cTile arg6 harg6 x6 h)
/-- Head `h`'s weighted values of the trip, `p` its pair. -/
def newV (p : Fin 4) (h : Fin 8) : FVec Ideal S128x128 .f32 :=
  k0_pay56 (k0_pay13 v2 v12 j) (k0_pay26 (scores v0 arg2 harg2 arg3 harg3 j hj x2 x3 h)) (k0_pay27 v8 (k0_pay13 v2 v12 j) (scores v0 arg2 harg2 arg3 harg3 j hj x2 x3 h))
    (cTile arg6 harg6 x6 h) (vTile arg4 harg4 j hj x4 p)
/-- A pair's sums after the trip. -/
def newS (p : Fin 4) : FVec Ideal S1x128x128 .f32 :=
  k0_pay95 v0 (newV v0 v2 v12 v8 arg2 harg2 arg3 harg3 arg4 harg4 arg6 harg6 j hj x2 x3 x4 x6 p ⟨2 * p.val, by omega⟩)
    (newV v0 v2 v12 v8 arg2 harg2 arg3 harg3 arg4 harg4 arg6 harg6 j hj x2 x3 x4 x6 p ⟨2 * p.val + 1, by omega⟩) (sTile arg7 harg7 x7 p)

set_option maxHeartbeats 4000000 in
theorem carries_list : (stepRun c i v0 v2 v12 v8 arg2 harg2 arg3 harg3 arg4 harg4 arg6 harg6 arg7 harg7 j cm hj ht x2 x3 x4 x6 x7).1
    = [⟨rowRect 7, newC v0 v2 v12 v8 arg2 harg2 arg3 harg3 arg6 harg6 j hj x2 x3 x6 7⟩, ⟨rowRect 6, newC v0 v2 v12 v8 arg2 harg2 arg3 harg3 arg6 harg6 j hj x2 x3 x6 6⟩,
       ⟨rowRect 5, newC v0 v2 v12 v8 arg2 harg2 arg3 harg3 arg6 harg6 j hj x2 x3 x6 5⟩, ⟨rowRect 4, newC v0 v2 v12 v8 arg2 harg2 arg3 harg3 arg6 harg6 j hj x2 x3 x6 4⟩,
       ⟨rowRect 3, newC v0 v2 v12 v8 arg2 harg2 arg3 harg3 arg6 harg6 j hj x2 x3 x6 3⟩, ⟨rowRect 2, newC v0 v2 v12 v8 arg2 harg2 arg3 harg3 arg6 harg6 j hj x2 x3 x6 2⟩,
       ⟨rowRect 1, newC v0 v2 v12 v8 arg2 harg2 arg3 harg3 arg6 harg6 j hj x2 x3 x6 1⟩, ⟨rowRect 0, newC v0 v2 v12 v8 arg2 harg2 arg3 harg3 arg6 harg6 j hj x2 x3 x6 0⟩] := by
  unfold stepRun
  dsimp only
  rfl

set_option maxHeartbeats 4000000 in
theorem sums_list : (stepRun c i v0 v2 v12 v8 arg2 harg2 arg3 harg3 arg4 harg4 arg6 harg6 arg7 harg7 j cm hj ht x2 x3 x4 x6 x7).2.1
    = [⟨pairRect 3, newS v0 v2 v12 v8 arg2 harg2 arg3 harg3 arg4 harg4 arg6 harg6 arg7 harg7 j hj x2 x3 x4 x6 x7 3⟩,
       ⟨pairRect 2, newS v0 v2 v12 v8 arg2 harg2 arg3 harg3 arg4 harg4 arg6 harg6 arg7 harg7 j hj x2 x3 x4 x6 x7 2⟩,
       ⟨pairRect 1, newS v0 v2 v12 v8 arg2 harg2 arg3 harg3 arg4 harg4 arg6 harg6 arg7 harg7 j hj x2 x3 x4 x6 x7 1⟩,
       ⟨pairRect 0, newS v0 v2 v12 v8 arg2 harg2 arg3 harg3 arg4 harg4 arg6 harg6 arg7 harg7 j hj x2 x3 x4 x6 x7 0⟩] := by
  unfold stepRun
  dsimp only
  rfl

set_option maxHeartbeats 4000000 in
/-- The largest carry is taken over, among others, the last head's carries. -/
theorem largest_form : ∃ w : FVec Ideal S128x128 .f32, (stepRun c i v0 v2 v12 v8 arg2 harg2 arg3 harg3 arg4 harg4 arg6 harg6 arg7 harg7 j cm hj ht x2 x3 x4 x6 x7).2.2.1
    = k0_pay4 (maximumf w (k0_pay57 (k0_pay27 v8 (k0_pay13 v2 v12 j) (scores v0 arg2 harg2 arg3 harg3 j hj x2 x3 7)) (cTile arg6 harg6 x6 7))) := by
  unfold stepRun
  dsimp only
  exact ⟨_, rfl⟩

/-! ### The tiles, entry by entry -/

theorem q_entry (p : Fin 4) (r d : Fin 128) : qTile arg2 harg2 x2 p (ix3 (n0 := 1) (n1 := 128) (n2 := 128) 0 r d) = x2 (ix3 (n0 := 1) (n1 := 128) (n2 := 512) 0 r (lane p d)) := by
  refine (harg2.readAt_unread x2 _ _).trans (congrArg x2 ?_)
  funext a; apply Fin.ext
  match a with
  | ⟨0, _⟩ => rfl
  | ⟨1, _⟩ => show 0 + 1 * r.val = r.val; omega
  | ⟨2, _⟩ => show 128 * p.val + 1 * d.val = 128 * p.val + d.val; omega

theorem c_entry (h : Fin 8) (r d : Fin 128) : cTile arg6 harg6 x6 h (ix3 (n0 := 1) (n1 := 128) (n2 := 128) 0 r d) = x6 (ix3 (n0 := 8) (n1 := 128) (n2 := 128) h r d) := by
  refine (harg6.readAt_unread x6 _ _).trans (congrArg x6 ?_)
  funext a; apply Fin.ext
  match a with
  | ⟨0, _⟩ => show h.val + 1 * 0 = h.val; omega
  | ⟨1, _⟩ => show 0 + 1 * r.val = r.val; omega
  | ⟨2, _⟩ => show 0 + 1 * d.val = d.val; omega

theorem s_entry (p : Fin 4) (r d : Fin 128) : sTile arg7 harg7 x7 p (ix3 (n0 := 1) (n1 := 128) (n2 := 128) 0 r d) = x7 (ix3 (n0 := 4) (n1 := 128) (n2 := 128) p r d) := by
  refine (harg7.readAt_unread x7 _ _).trans (congrArg x7 ?_)
  funext a; apply Fin.ext
  match a with
  | ⟨0, _⟩ => show p.val + 1 * 0 = p.val; omega
  | ⟨1, _⟩ => show 0 + 1 * r.val = r.val; omega
  | ⟨2, _⟩ => show 0 + 1 * d.val = d.val; omega

variable (n : ℕ) (hn : n < 65) (hjn : j = BitVec.ofNat 32 n)

include hjn in
theorem key_entry (X : Vec Ideal S1x8320x512 .bf16) (p : Fin 4) (k d : Fin 128) (y : S1x8320x512.Idx)
    (hy : y = (keyRect j hj p).toLoadRect.idx (ix3 (n0 := 1) (n1 := 128) (n2 := 128) 0 k d)) :
    X y = X (ix3 (n0 := 1) (n1 := 8320) (n2 := 512) 0 (keyAt n hn k) (lane p d)) := by
  subst hy
  refine congrArg X ?_
  funext a; apply Fin.ext
  match a with
  | ⟨0, _⟩ => rfl
  | ⟨1, _⟩ =>
    have e := start_word n hn
    rw [← hjn] at e
    show (j * 128#32).toNat + 1 * k.val = 128 * n + k.val; omega
  | ⟨2, _⟩ => show 128 * p.val + 1 * d.val = 128 * p.val + d.val; omega

include hjn in
theorem k_entry (p : Fin 4) (k d : Fin 128) : kTile arg3 harg3 j hj x3 p (ix3 (n0 := 1) (n1 := 128) (n2 := 128) 0 k d) = x3 (ix3 (n0 := 1) (n1 := 8320) (n2 := 512) 0 (keyAt n hn k) (lane p d)) :=
  (harg3.readAt_unread x3 _ _).trans (key_entry j hj n hn hjn x3 p k d _ rfl)

include hjn in
theorem v_entry (p : Fin 4) (k d : Fin 128) : vTile arg4 harg4 j hj x4 p (ix3 (n0 := 1) (n1 := 128) (n2 := 128) 0 k d) = x4 (ix3 (n0 := 1) (n1 := 8320) (n2 := 512) 0 (keyAt n hn k) (lane p d)) :=
  (harg4.readAt_unread x4 _ _).trans (key_entry j hj n hn hjn x4 p k d _ rfl)

end

/-! ### Stacks of tiles -/

theorem row_emb (h : Fin 8) (r d : Fin 128) :
    (rowRect h).emb (ix3 (n0 := 1) (n1 := 128) (n2 := 128) 0 r d) = ix3 (n0 := 8) (n1 := 128) (n2 := 128) h r d := by
  funext a; apply Fin.ext
  refine (Rect.idx_unit_val _ _ _ _ _).trans ?_
  match a with
  | ⟨0, _⟩ => rfl
  | ⟨1, _⟩ => show 0 + r.val = r.val; omega
  | ⟨2, _⟩ => show 0 + d.val = d.val; omega

theorem row_first (h : Fin 8) (w : FVec Ideal S1x128x128 .f32) (L : List (View.Piece (Elt Ideal) S8x128x128 .f32)) (r d : Fin 128) :
    View.canon (Val := Elt Ideal) (s := S8x128x128) (e := .f32) (⟨rowRect h, w⟩ :: L) (ix3 (n0 := 8) (n1 := 128) (n2 := 128) h r d)
      = w (ix3 (n0 := 1) (n1 := 128) (n2 := 128) 0 r d) := by
  rw [View.canon_cons, ← row_emb h r d]; exact Rect.overlay_emb _ _ _ _

theorem row_next (h h' : Fin 8) (ne : h ≠ h') (w : FVec Ideal S1x128x128 .f32) (L : List (View.Piece (Elt Ideal) S8x128x128 .f32)) (r d : Fin 128) :
    View.canon (Val := Elt Ideal) (s := S8x128x128) (e := .f32) (⟨rowRect h', w⟩ :: L) (ix3 (n0 := 8) (n1 := 128) (n2 := 128) h r d)
      = View.canon (Val := Elt Ideal) (s := S8x128x128) (e := .f32) L (ix3 (n0 := 8) (n1 := 128) (n2 := 128) h r d) := by
  rw [View.canon_cons]
  refine Rect.overlay_of_not_mem _ _ _ fun hm => ?_
  have m := (Rect.mem_set_unit (inb := row_in h')).mp hm ⟨0, by decide⟩
  have m1 : h'.val ≤ h.val := m.1
  have m2 : h.val < h'.val + 1 := m.2
  exact ne (Fin.ext (by omega))

theorem rows_stacked (f : Fin 8 → FVec Ideal S1x128x128 .f32) (h : Fin 8) (r d : Fin 128) :
    View.canon (Val := Elt Ideal) (s := S8x128x128) (e := .f32) [⟨rowRect 7, f 7⟩, ⟨rowRect 6, f 6⟩, ⟨rowRect 5, f 5⟩, ⟨rowRect 4, f 4⟩, ⟨rowRect 3, f 3⟩, ⟨rowRect 2, f 2⟩, ⟨rowRect 1, f 1⟩, ⟨rowRect 0, f 0⟩]
        (ix3 (n0 := 8) (n1 := 128) (n2 := 128) h r d)
      = f h (ix3 (n0 := 1) (n1 := 128) (n2 := 128) 0 r d) := by
  by_cases e7 : h = 7
  · subst e7; exact row_first 7 _ _ r d
  rw [row_next h 7 e7]
  by_cases e6 : h = 6
  · subst e6; exact row_first 6 _ _ r d
  rw [row_next h 6 e6]
  by_cases e5 : h = 5
  · subst e5; exact row_first 5 _ _ r d
  rw [row_next h 5 e5]
  by_cases e4 : h = 4
  · subst e4; exact row_first 4 _ _ r d
  rw [row_next h 4 e4]
  by_cases e3 : h = 3
  · subst e3; exact row_first 3 _ _ r d
  rw [row_next h 3 e3]
  by_cases e2 : h = 2
  · subst e2; exact row_first 2 _ _ r d
  rw [row_next h 2 e2]
  by_cases e1 : h = 1
  · subst e1; exact row_first 1 _ _ r d
  rw [row_next h 1 e1]
  have e0 : h = 0 := by
    have all : ∀ h : Fin 8, h = 7 ∨ h = 6 ∨ h = 5 ∨ h = 4 ∨ h = 3 ∨ h = 2 ∨ h = 1 ∨ h = 0 := by decide
    rcases all h with e | e | e | e | e | e | e | e
    exacts [(e7 e).elim, (e6 e).elim, (e5 e).elim, (e4 e).elim, (e3 e).elim, (e2 e).elim, (e1 e).elim, e]
  subst e0; exact row_first 0 _ _ r d

theorem pair_emb (p : Fin 4) (r d : Fin 128) :
    (pairRect p).emb (ix3 (n0 := 1) (n1 := 128) (n2 := 128) 0 r d) = ix3 (n0 := 4) (n1 := 128) (n2 := 128) p r d := by
  funext a; apply Fin.ext
  refine (Rect.idx_unit_val _ _ _ _ _).trans ?_
  match a with
  | ⟨0, _⟩ => rfl
  | ⟨1, _⟩ => show 0 + r.val = r.val; omega
  | ⟨2, _⟩ => show 0 + d.val = d.val; omega

theorem pair_first (h : Fin 4) (w : FVec Ideal S1x128x128 .f32) (L : List (View.Piece (Elt Ideal) S4x128x128 .f32)) (r d : Fin 128) :
    View.canon (Val := Elt Ideal) (s := S4x128x128) (e := .f32) (⟨pairRect h, w⟩ :: L) (ix3 (n0 := 4) (n1 := 128) (n2 := 128) h r d)
      = w (ix3 (n0 := 1) (n1 := 128) (n2 := 128) 0 r d) := by
  rw [View.canon_cons, ← pair_emb h r d]; exact Rect.overlay_emb _ _ _ _

theorem pair_next (h h' : Fin 4) (ne : h ≠ h') (w : FVec Ideal S1x128x128 .f32) (L : List (View.Piece (Elt Ideal) S4x128x128 .f32)) (r d : Fin 128) :
    View.canon (Val := Elt Ideal) (s := S4x128x128) (e := .f32) (⟨pairRect h', w⟩ :: L) (ix3 (n0 := 4) (n1 := 128) (n2 := 128) h r d)
      = View.canon (Val := Elt Ideal) (s := S4x128x128) (e := .f32) L (ix3 (n0 := 4) (n1 := 128) (n2 := 128) h r d) := by
  rw [View.canon_cons]
  refine Rect.overlay_of_not_mem _ _ _ fun hm => ?_
  have m := (Rect.mem_set_unit (inb := pair_in h')).mp hm ⟨0, by decide⟩
  have m1 : h'.val ≤ h.val := m.1
  have m2 : h.val < h'.val + 1 := m.2
  exact ne (Fin.ext (by omega))

theorem pairs_stacked (f : Fin 4 → FVec Ideal S1x128x128 .f32) (h : Fin 4) (r d : Fin 128) :
    View.canon (Val := Elt Ideal) (s := S4x128x128) (e := .f32) [⟨pairRect 3, f 3⟩, ⟨pairRect 2, f 2⟩, ⟨pairRect 1, f 1⟩, ⟨pairRect 0, f 0⟩]
        (ix3 (n0 := 4) (n1 := 128) (n2 := 128) h r d)
      = f h (ix3 (n0 := 1) (n1 := 128) (n2 := 128) 0 r d) := by
  by_cases e3 : h = 3
  · subst e3; exact pair_first 3 _ _ r d
  rw [pair_next h 3 e3]
  by_cases e2 : h = 2
  · subst e2; exact pair_first 2 _ _ r d
  rw [pair_next h 2 e2]
  by_cases e1 : h = 1
  · subst e1; exact pair_first 1 _ _ r d
  rw [pair_next h 1 e1]
  have e0 : h = 0 := by revert h; decide
  subst e0; exact pair_first 0 _ _ r d

theorem part_emb (p : Fin 4) (r d : Fin 128) :
    (partRect p).emb (ix3 (n0 := 1) (n1 := 128) (n2 := 128) 0 r d) = ix3 (n0 := 1) (n1 := 128) (n2 := 512) 0 r (lane p d) := by
  funext a; apply Fin.ext
  refine (Rect.idx_unit_val _ _ _ _ _).trans ?_
  match a with
  | ⟨0, _⟩ => rfl
  | ⟨1, _⟩ => show 0 + r.val = r.val; omega
  | ⟨2, _⟩ => rfl

theorem part_first (h : Fin 4) (w : FVec Ideal S1x128x128 .bf16) (L : List (View.Piece (Elt Ideal) S1x128x512 .bf16)) (r d : Fin 128) :
    View.canon (Val := Elt Ideal) (s := S1x128x512) (e := .bf16) (⟨partRect h, w⟩ :: L) (ix3 (n0 := 1) (n1 := 128) (n2 := 512) 0 r (lane h d))
      = w (ix3 (n0 := 1) (n1 := 128) (n2 := 128) 0 r d) := by
  rw [View.canon_cons, ← part_emb h r d]; exact Rect.overlay_emb _ _ _ _

theorem part_next (h h' : Fin 4) (ne : h ≠ h') (w : FVec Ideal S1x128x128 .bf16) (L : List (View.Piece (Elt Ideal) S1x128x512 .bf16)) (r d : Fin 128) :
    View.canon (Val := Elt Ideal) (s := S1x128x512) (e := .bf16) (⟨partRect h', w⟩ :: L) (ix3 (n0 := 1) (n1 := 128) (n2 := 512) 0 r (lane h d))
      = View.canon (Val := Elt Ideal) (s := S1x128x512) (e := .bf16) L (ix3 (n0 := 1) (n1 := 128) (n2 := 512) 0 r (lane h d)) := by
  rw [View.canon_cons]
  refine Rect.overlay_of_not_mem _ _ _ fun hm => ?_
  have m := (Rect.mem_set_unit (inb := part_in h')).mp hm ⟨2, by decide⟩
  have m1 : 128 * h'.val ≤ 128 * h.val + d.val := m.1
  have m2 : 128 * h.val + d.val < 128 * h'.val + 128 := m.2
  exact ne (Fin.ext (by omega))

theorem parts_beside (f : Fin 4 → FVec Ideal S1x128x128 .bf16) (h : Fin 4) (r d : Fin 128) :
    View.canon (Val := Elt Ideal) (s := S1x128x512) (e := .bf16) [⟨partRect 3, f 3⟩, ⟨partRect 2, f 2⟩, ⟨partRect 1, f 1⟩, ⟨partRect 0, f 0⟩]
        (ix3 (n0 := 1) (n1 := 128) (n2 := 512) 0 r (lane h d))
      = f h (ix3 (n0 := 1) (n1 := 128) (n2 := 128) 0 r d) := by
  by_cases e3 : h = 3
  · subst e3; exact part_first 3 _ _ r d
  rw [part_next h 3 e3]
  by_cases e2 : h = 2
  · subst e2; exact part_first 2 _ _ r d
  rw [part_next h 2 e2]
  by_cases e1 : h = 1
  · subst e1; exact part_first 1 _ _ r d
  rw [part_next h 1 e1]
  have e0 : h = 0 := by revert h; decide
  subst e0; exact part_first 0 _ _ r d

end Cert.Sb

end
-- ==== Proof.AttendTrip.lean ====
module

public import proofs.«01_k».proof.Proof.AttendTiles
public import Idealize.ShloMosaic.PureOps.Ideal.Laws

/-! The block loop over the reals: what a trip leaves from what it finds, and what the loop leaves, for queries and
keys that are reals. The bound that would end the loop early is below every carry, so no trip is left out. -/

@[expose] public section

set_option maxRecDepth 16384

noncomputable section

namespace Cert.Sb

open Idealize.ShloMosaic Idealize.ShloMosaic.TcCoe Idealize.ShloMosaic.ValueIdx
open Cert.AttendIdeal Cert.AttendIdeal.Gen Cert.Proof.AttendIdeal
open Cert.Gla (lane select_of drop_lanes iota_row iota_col)
open Cert.Proj (word_zero)
open scoped BigOperators

/-! ### Words -/

/-- Words of numbers compare as the numbers. -/
theorem lt_word (a b : ℕ) (ha : a < 2 ^ 31) (hb : b < 2 ^ 31) :
    IntOp.cmpi .slt (BitVec.ofNat 32 a) (BitVec.ofNat 32 b) = if a < b then 1#1 else 0#1 := by
  have ea : (BitVec.ofNat 32 a).toInt = a := by rw [BitVec.toInt_eq_toNat_of_lt (by rw [BitVec.toNat_ofNat]; omega), BitVec.toNat_ofNat]; omega
  have eb : (BitVec.ofNat 32 b).toInt = b := by rw [BitVec.toInt_eq_toNat_of_lt (by rw [BitVec.toNat_ofNat]; omega), BitVec.toNat_ofNat]; omega
  show BitVec.ofBool ((BitVec.ofNat 32 a).slt (BitVec.ofNat 32 b)) = _
  rw [BitVec.slt, ea, eb]
  by_cases h : a < b
  · rw [if_pos h, decide_eq_true (by exact_mod_cast h)]; rfl
  · rw [if_neg h, decide_eq_false (by exact_mod_cast h)]; rfl

theorem lane_word (d : Fin 128) : IntOp.cmpi .slt (BitVec.ofNat 32 d.val) 64#32 = if d.val < 64 then 1#1 else 0#1 :=
  lt_word d.val 64 (by omega) (by omega)

theorem place_word (n k : ℕ) (hn : n < 65) (hk : k < 128) : BitVec.ofNat 32 n * 128#32 + BitVec.ofNat 32 k = BitVec.ofNat 32 (128 * n + k) := by
  apply BitVec.eq_of_toNat_eq
  simp only [BitVec.toNat_add, BitVec.toNat_mul, BitVec.toNat_ofNat]
  omega

/-- The lanes' numbers. -/
abbrev lanesW : IVec S128x128 32 := iota .tc S128x128 32 [1] iota_S128x128_d1_w32

/-- Which keys a query sees: those before it. -/
theorem mask_apply (i : grid0.Coords) (n : ℕ) (hn : n < 65) (j : BitVec 32) (hjn : j = BitVec.ofNat 32 n) (r k : Fin 128) :
    k0_pay13 lanesW (k0_pay6 i) j (ix2 r k) = if 128 * n + k.val < 128 * (i 1).val + r.val then 1#1 else 0#1 := by
  have hi : (i 1).val < 65 := (i 1).isLt
  have key := lt_word (128 * n + k.val) (128 * (i 1).val + r.val) (by omega) (by omega)
  refine Eq.trans ?_ key
  show IntOp.cmpi .slt (j * 128#32 + iota .tc S128x128 32 [1] iota_S128x128_d1_w32 (ix2 r k))
    (0#32 + BitVec.ofNat 32 (i 1).val * 128#32 + iota .tc S128x128 32 [0] iota_S128x128_d0_w32 (ix2 r k)) = _
  rw [iota_row, iota_col, hjn, BitVec.zero_add, place_word n k.val hn k.isLt, place_word (i 1).val r.val hi r.isLt]

theorem add_lanes {α : Type} (x : S128x128.Idx → α) (h : S128x128.ShapeCasts S1x128x128) (t d : Fin 128) :
    shapeCast S1x128x128 x h (ix3 (n0 := 1) (n1 := 128) (n2 := 128) 0 t d) = x (ix2 t d) := by
  refine shapeCast_apply _ _ _ _ ?_
  rw [Shape.rowMajor_val_three, Shape.rowMajor_val_two]
  show t.val * 128 + d.val = (0 * 128 + t.val) * 128 + d.val
  omega

/-! ### The largest carry -/

theorem largest_above (u : FVec Ideal S128x128 .f32) (r d : Fin 128) : u (ix2 r d) ≤ (k0_pay4 u : EReal) := by
  have key : ∀ j : S1.Idx, u (ix2 r d) ≤ (multiReduction .maximumf [1, 2] S1 (shapeCast S1x128x128 u shapeCasts_S128x128_S1x128x128) 0xFF800000#32 reduces_S1x128x128_S1 (.inl rfl) rfl j : EReal) := by
    intro j
    refine le_trans ?_ (le_of_eq (multiReduction_maximumf_eq_fold _ _ reduces_S1x128x128_S1 (.inl rfl) rfl j).symm)
    refine (Finset.le_fold_max _).mpr (Or.inr ⟨ix3 (n0 := 1) (n1 := 128) (n2 := 128) 0 r d, ?_, ?_⟩)
    · refine Finset.mem_filter.mpr ⟨Finset.mem_univ _, ?_⟩
      funext a
      apply Fin.ext
      match a with
      | ⟨0, _⟩ =>
        have h1 : (reduces_S1x128x128_S1.drop (ix3 (n0 := 1) (n1 := 128) (n2 := 128) 0 r d) ⟨0, by decide⟩).val < 1 := Fin.isLt _
        have h2 : (j ⟨0, by decide⟩).val < 1 := Fin.isLt _
        exact (Nat.lt_one_iff.mp h1).trans (Nat.lt_one_iff.mp h2).symm
    · rw [add_lanes]
  unfold k0_pay4 extractAt
  dsimp only
  unfold shapeCast
  exact key _

theorem goes (n : ℕ) (hn : n < 65) (cm : Ideal .f32) (h : (⊥ : EReal) < cm) : goesOn (word (n + 1)) cm := by
  have h1 : ∀ n : Fin 65, Scalar.cmpi .sge (BitVec.ofNat 32 n.val) 0#32 = 1#1 := by decide
  have h2 : Scalar.cmpf .ogt cm (Named.named κ "zero_below" 0xC2D00000#32) = 1#1 := by
    show BitVec.ofBool (decide ((⊥ : EReal) < cm)) = 1#1
    rw [decide_eq_true h]; rfl
  unfold goesOn
  rw [word_succ, h1 ⟨n, hn⟩, h2]
  rfl

/-! ### A trip -/

/-- Head `h`'s lane `d`. -/
def part (h : Fin 8) (d : Fin 64) : Fin 512 := ⟨64 * h.val + d.val, by omega⟩

/-- Pair `p`'s head of a lane. -/
def headOf (p : Fin 4) (l : Fin 128) : Fin 8 := ⟨2 * p.val + l.val / 64, by omega⟩

/-- A query row's score with a key. -/
def scoreOf (Q : Fin 512 → ℝ) (K : ℕ → Fin 512 → ℝ) (h : Fin 8) (s : ℕ) : ℝ := ∑ d : Fin 64, Q (part h d) * K s (part h d)

section Trip

variable (c : Dev nD) (i : grid0.Coords)
  (arg2 : Memref sig .tc .vmem S1x128x512 .bf16) (harg2 : arg2.IsWhole)
  (arg3 : Memref sig .tc .vmem S1x8320x512 .bf16) (harg3 : arg3.IsWhole)
  (arg4 : Memref sig .tc .vmem S1x8320x512 .bf16) (harg4 : arg4.IsWhole)
  (arg6 : Memref sig .tc .vmem S8x128x128 .f32) (harg6 : arg6.IsWhole)
  (arg7 : Memref sig .tc .vmem S4x128x128 .f32) (harg7 : arg7.IsWhole)
  (x2 : Vec Ideal S1x128x512 .bf16) (x3 x4 : Vec Ideal S1x8320x512 .bf16)
  (Q : Fin 128 → Fin 512 → ℝ) (K : ℕ → Fin 512 → ℝ) (V : ℕ → Fin 512 → EReal)
  (hx2 : ∀ r l, x2 (ix3 (n0 := 1) (n1 := 128) (n2 := 512) 0 r l) = ((Q r l : ℝ) : EReal))
  (hx3 : ∀ (s : Fin 8320) l, x3 (ix3 (n0 := 1) (n1 := 8320) (n2 := 512) 0 s l) = ((K s.val l : ℝ) : EReal))
  (hx4 : ∀ (s : Fin 8320) l, x4 (ix3 (n0 := 1) (n1 := 8320) (n2 := 512) 0 s l) = V s.val l)

/-- The number of a query row among all. -/
def rowNo (r : Fin 128) : ℕ := 128 * (i 1).val + r.val

/-- The carries with `n` blocks to come, -/
def CarriesAt (n : ℕ) (x6 : Vec Ideal S8x128x128 .f32) : Prop :=
  ∀ (h : Fin 8) (r k : Fin 128), x6 (ix3 (n0 := 8) (n1 := 128) (n2 := 128) h r k) = ((carryAt (scoreOf (Q r) K h) (rowNo i r) n : ℝ) : EReal)
/-- and the sums. -/
def SumsAt (n : ℕ) (x7 : Vec Ideal S4x128x128 .f32) : Prop :=
  ∀ (p : Fin 4) (r l : Fin 128), x7 (ix3 (n0 := 4) (n1 := 128) (n2 := 128) p r l)
    = sumAt (scoreOf (Q r) K (headOf p l)) (rowNo i r) (fun s => V s (lane p l)) n

section One

variable (n : ℕ) (hn : n < 65) (j : BitVec 32) (hjn : j = BitVec.ofNat 32 n) (hj : k0_chk1 j) (cm : Ideal .f32) (ht : goesOn j cm)
  (x6 : Vec Ideal S8x128x128 .f32) (x7 : Vec Ideal S4x128x128 .f32)
  (h6 : CarriesAt i Q K (n + 1) x6) (h7 : SumsAt i Q K V (n + 1) x7)

include hn hjn hx2 hx3 in
theorem low_apply (p : Fin 4) (h : Fin 8) (e : h.val = 2 * p.val) (r k : Fin 128) :
    lowScore lanesW arg2 harg2 arg3 harg3 j hj x2 x3 p (ix2 r k) = ((scoreOf (Q r) K h (128 * n + k.val) : ℝ) : EReal) := by
  refine (score_low _ _ (fun r d => Q r (lane p d)) (fun k d => K (128 * n + k.val) (lane p d))
    (fun r d => (q_entry arg2 harg2 x2 p r d).trans (hx2 r _)) (fun k d => (k_entry arg3 harg3 j hj x3 n hn hjn p k d).trans (hx3 _ _)) r k).trans ?_
  refine congrArg _ (Finset.sum_congr rfl fun d _ => ?_)
  have el : lane p ⟨d.val, by omega⟩ = part h d := Fin.ext (by show 128 * p.val + d.val = 64 * h.val + d.val; omega)
  rw [el]

include hn hjn hx2 hx3 in
theorem high_apply (p : Fin 4) (h : Fin 8) (e : h.val = 2 * p.val + 1) (r k : Fin 128) :
    highScore lanesW arg2 harg2 arg3 harg3 j hj x2 x3 p (ix2 r k) = ((scoreOf (Q r) K h (128 * n + k.val) : ℝ) : EReal) := by
  refine (score_high _ _ (fun r d => Q r (lane p d)) (fun k d => K (128 * n + k.val) (lane p d))
    (fun r d => (q_entry arg2 harg2 x2 p r d).trans (hx2 r _)) (fun k d => (k_entry arg3 harg3 j hj x3 n hn hjn p k d).trans (hx3 _ _)) r k).trans ?_
  refine congrArg _ (Finset.sum_congr rfl fun d _ => ?_)
  have el : lane p ⟨64 + d.val, by omega⟩ = part h d := Fin.ext (by show 128 * p.val + (64 + d.val) = 64 * h.val + d.val; omega)
  rw [el]

include hn hjn hx2 hx3 in
/-- The heads' scores with the block's keys. -/
theorem scores_apply (h : Fin 8) (r k : Fin 128) :
    scores lanesW arg2 harg2 arg3 harg3 j hj x2 x3 h (ix2 r k) = ((scoreOf (Q r) K h (128 * n + k.val) : ℝ) : EReal) := by
  match h with
  | ⟨0, h⟩ => exact low_apply arg2 harg2 arg3 harg3 x2 x3 Q K hx2 hx3 n hn j hjn hj 0 ⟨0, h⟩ rfl r k
  | ⟨1, h⟩ => exact high_apply arg2 harg2 arg3 harg3 x2 x3 Q K hx2 hx3 n hn j hjn hj 0 ⟨1, h⟩ rfl r k
  | ⟨2, h⟩ => exact low_apply arg2 harg2 arg3 harg3 x2 x3 Q K hx2 hx3 n hn j hjn hj 1 ⟨2, h⟩ rfl r k
  | ⟨3, h⟩ => exact high_apply arg2 harg2 arg3 harg3 x2 x3 Q K hx2 hx3 n hn j hjn hj 1 ⟨3, h⟩ rfl r k
  | ⟨4, h⟩ => exact low_apply arg2 harg2 arg3 harg3 x2 x3 Q K hx2 hx3 n hn j hjn hj 2 ⟨4, h⟩ rfl r k
  | ⟨5, h⟩ => exact high_apply arg2 harg2 arg3 harg3 x2 x3 Q K hx2 hx3 n hn j hjn hj 2 ⟨5, h⟩ rfl r k
  | ⟨6, h⟩ => exact low_apply arg2 harg2 arg3 harg3 x2 x3 Q K hx2 hx3 n hn j hjn hj 3 ⟨6, h⟩ rfl r k
  | ⟨7, h⟩ => exact high_apply arg2 harg2 arg3 harg3 x2 x3 Q K hx2 hx3 n hn j hjn hj 3 ⟨7, h⟩ rfl r k

include hn hjn hx2 hx3 h6 in
theorem carry57 (h : Fin 8) (r k : Fin 128) :
    k0_pay57 (k0_pay27 k0_pay5 (k0_pay13 lanesW (k0_pay6 i) j) (scores lanesW arg2 harg2 arg3 harg3 j hj x2 x3 h)) (cTile arg6 harg6 x6 h) (ix2 r k)
      = ((carryAt (scoreOf (Q r) K h) (rowNo i r) n : ℝ) : EReal) :=
  carry_apply n hn _ _ (fun r => scoreOf (Q r) K h) (rowNo i) (mask_apply i n hn j hjn)
    (scores_apply arg2 harg2 arg3 harg3 x2 x3 Q K hx2 hx3 n hn j hjn hj h) _
    (fun r k => (c_entry arg6 harg6 x6 h r k).trans (h6 h r k)) r k

include hn hjn hx2 hx3 h6 in
/-- The carries after the trip. -/
theorem carries_trip : CarriesAt i Q K n (carries c i lanesW lanesW (k0_pay6 i) k0_pay5 arg2 harg2 arg3 harg3 arg4 harg4 arg6 harg6 arg7 harg7 j cm hj ht x2 x3 x4 x6 x7) := by
  intro h r k
  unfold carries
  rw [carries_list]
  refine (rows_stacked (fun h => newC lanesW lanesW (k0_pay6 i) k0_pay5 arg2 harg2 arg3 harg3 arg6 harg6 j hj x2 x3 x6 h) h r k).trans ?_
  unfold newC k0_pay58
  rw [add_lanes]
  exact carry57 i arg2 harg2 arg3 harg3 arg6 harg6 x2 x3 Q K hx2 hx3 n hn j hjn hj x6 h6 h r k

include hn hjn hx2 hx3 hx4 h6 in
theorem value_trip (p : Fin 4) (h : Fin 8) (r l : Fin 128) :
    newV lanesW lanesW (k0_pay6 i) k0_pay5 arg2 harg2 arg3 harg3 arg4 harg4 arg6 harg6 j hj x2 x3 x4 x6 p h (ix2 r l)
      = ∑ k : Fin 128, ((weight (scoreOf (Q r) K h) (rowNo i r) (128 * n + k.val) : ℝ) : EReal) * V (128 * n + k.val) (lane p l) :=
  value_apply n hn _ _ (fun r => scoreOf (Q r) K h) (rowNo i) (mask_apply i n hn j hjn)
    (scores_apply arg2 harg2 arg3 harg3 x2 x3 Q K hx2 hx3 n hn j hjn hj h) _
    (fun r k => (c_entry arg6 harg6 x6 h r k).trans (h6 h r k)) _ (fun l s => V s (lane p l))
    (fun k l => (v_entry arg4 harg4 j hj x4 n hn hjn p k l).trans (hx4 _ _)) r l

include hn hjn hx2 hx3 hx4 h6 h7 in
/-- The sums after the trip. -/
theorem sums_trip : SumsAt i Q K V n (sums c i lanesW lanesW (k0_pay6 i) k0_pay5 arg2 harg2 arg3 harg3 arg4 harg4 arg6 harg6 arg7 harg7 j cm hj ht x2 x3 x4 x6 x7) := by
  intro p r l
  unfold sums
  rw [sums_list]
  refine (pairs_stacked (fun p => newS lanesW lanesW (k0_pay6 i) k0_pay5 arg2 harg2 arg3 harg3 arg4 harg4 arg6 harg6 arg7 harg7 j hj x2 x3 x4 x6 x7 p) p r l).trans ?_
  unfold newS k0_pay95
  rw [add_lanes, addf_apply, drop_lanes, s_entry, h7, select_apply, ← sum_step _ _ _ n hn]
  congr 1
  have hw : cmpi .slt lanesW (broadcast S128x128 64#32) (ix2 r l) = if l.val < 64 then 1#1 else 0#1 := by
    refine Eq.trans ?_ (lane_word l)
    show IntOp.cmpi .slt (iota .tc S128x128 32 [1] iota_S128x128_d1_w32 (ix2 r l)) 64#32 = _
    rw [iota_col]
  refine (select_of _ _ hw _ _).trans ?_
  have hl := l.isLt
  by_cases hlt : l.val < 64
  · have e : headOf p l = ⟨2 * p.val, by omega⟩ := Fin.ext (by show 2 * p.val + l.val / 64 = 2 * p.val; omega)
    rw [if_pos hlt, e]
    exact value_trip i arg2 harg2 arg3 harg3 arg4 harg4 arg6 harg6 x2 x3 x4 Q K V hx2 hx3 hx4 n hn j hjn hj x6 h6 p _ r l
  · have e : headOf p l = ⟨2 * p.val + 1, by omega⟩ := Fin.ext (by show 2 * p.val + l.val / 64 = 2 * p.val + 1; omega)
    rw [if_neg hlt, e]
    exact value_trip i arg2 harg2 arg3 harg3 arg4 harg4 arg6 harg6 x2 x3 x4 Q K V hx2 hx3 hx4 n hn j hjn hj x6 h6 p _ r l

include hn hjn hx2 hx3 h6 in
/-- The largest carry is a real or more. -/
theorem largest_trip : (⊥ : EReal) < largest c i lanesW lanesW (k0_pay6 i) k0_pay5 arg2 harg2 arg3 harg3 arg4 harg4 arg6 harg6 arg7 harg7 j cm hj ht x2 x3 x4 x6 x7 := by
  unfold largest
  obtain ⟨w, hw⟩ := largest_form c i lanesW lanesW (k0_pay6 i) k0_pay5 arg2 harg2 arg3 harg3 arg4 harg4 arg6 harg6 arg7 harg7 j cm hj ht x2 x3 x4 x6 x7
  rw [hw]
  refine lt_of_lt_of_le ?_ (largest_above _ 0 0)
  refine lt_of_lt_of_le ?_ (le_max_right _ _)
  rw [carry57 i arg2 harg2 arg3 harg3 arg6 harg6 x2 x3 Q K hx2 hx3 n hn j hjn hj x6 h6]
  exact EReal.bot_lt_coe _

end One

include hx2 hx3 hx4 in
/-- The loop to its end. -/
theorem ends_apply : ∀ (n : ℕ) (hn : n ≤ 65) (cm : Ideal .f32) (hcm : (⊥ : EReal) < cm) (x6 : Vec Ideal S8x128x128 .f32) (x7 : Vec Ideal S4x128x128 .f32)
    (h6 : CarriesAt i Q K n x6) (h7 : SumsAt i Q K V n x7),
    SumsAt i Q K V 0 (ends c i lanesW lanesW (k0_pay6 i) k0_pay5 arg2 harg2 arg3 harg3 arg4 harg4 arg6 harg6 arg7 harg7 x2 x3 x4 n cm x6 x7).2
  | 0, _, _, _, _, _, _, h7 => h7
  | n + 1, hn, cm, hcm, x6, x7, h6, h7 => by
    have hk : n < 65 := by omega
    rw [ends, dif_pos ⟨hk, goes n hk cm hcm⟩]
    exact ends_apply n (by omega) _
      (largest_trip c i arg2 harg2 arg3 harg3 arg4 harg4 arg6 harg6 arg7 harg7 x2 x3 x4 Q K hx2 hx3 n hk _ (word_succ n) _ cm _ x6 x7 h6) _ _
      (carries_trip c i arg2 harg2 arg3 harg3 arg4 harg4 arg6 harg6 arg7 harg7 x2 x3 x4 Q K hx2 hx3 n hk _ (word_succ n) _ cm _ x6 x7 h6)
      (sums_trip c i arg2 harg2 arg3 harg3 arg4 harg4 arg6 harg6 arg7 harg7 x2 x3 x4 Q K V hx2 hx3 hx4 n hk _ (word_succ n) _ cm _ x6 x7 h6 h7)

end Trip

/-! ### The body -/

theorem zeros6 (y : S8x128x128.Idx) : carries0 (F := Ideal) y = (0 : EReal) := by
  unfold carries0
  rw [View.canon_unit_zero (by funext a; match a with | ⟨0, _⟩ => rfl | ⟨1, _⟩ => rfl | ⟨2, _⟩ => rfl)]
  exact word_zero

theorem zeros7 (y : S4x128x128.Idx) : sums0 (F := Ideal) y = (0 : EReal) := by
  unfold sums0
  rw [View.canon_unit_zero (by funext a; match a with | ⟨0, _⟩ => rfl | ⟨1, _⟩ => rfl | ⟨2, _⟩ => rfl)]
  exact word_zero

section Body

variable (c : Dev nD) (i : grid0.Coords)
  (arg2 : Memref sig .tc .vmem S1x128x512 .bf16) (harg2 : arg2.IsWhole)
  (arg3 : Memref sig .tc .vmem S1x8320x512 .bf16) (harg3 : arg3.IsWhole)
  (arg4 : Memref sig .tc .vmem S1x8320x512 .bf16) (harg4 : arg4.IsWhole)
  (arg5 : Memref sig .tc .vmem S1x128x512 .bf16) (harg5 : arg5.IsWhole)
  (arg6 : Memref sig .tc .vmem S8x128x128 .f32) (harg6 : arg6.IsWhole)
  (arg7 : Memref sig .tc .vmem S4x128x128 .f32) (harg7 : arg7.IsWhole)
  (x2 : Vec Ideal S1x128x512 .bf16) (x3 x4 : Vec Ideal S1x8320x512 .bf16)

/-- The sums when the loop has ended. -/
def lastSums : Vec Ideal S4x128x128 .f32 :=
  (ends c i lanesW lanesW (k0_pay6 i) k0_pay5 arg2 harg2 arg3 harg3 arg4 harg4 arg6 harg6 arg7 harg7 x2 x3 x4 ((i 1).val + 1) (Scalar.ofBits .f32 0x00000000#32) carries0 sums0).2

set_option maxHeartbeats 4000000 in
theorem body_list : (bodyRun c i arg2 harg2 arg3 harg3 arg4 harg4 arg5 harg5 arg6 harg6 arg7 harg7 x2 x3 x4).1
    = [⟨partRect 3, k0_pay9 (sTile arg7 harg7 (lastSums c i arg2 harg2 arg3 harg3 arg4 harg4 arg6 harg6 arg7 harg7 x2 x3 x4) 3)⟩,
       ⟨partRect 2, k0_pay9 (sTile arg7 harg7 (lastSums c i arg2 harg2 arg3 harg3 arg4 harg4 arg6 harg6 arg7 harg7 x2 x3 x4) 2)⟩,
       ⟨partRect 1, k0_pay9 (sTile arg7 harg7 (lastSums c i arg2 harg2 arg3 harg3 arg4 harg4 arg6 harg6 arg7 harg7 x2 x3 x4) 1)⟩,
       ⟨partRect 0, k0_pay9 (sTile arg7 harg7 (lastSums c i arg2 harg2 arg3 harg3 arg4 harg4 arg6 harg6 arg7 harg7 x2 x3 x4) 0)⟩] := by
  unfold bodyRun
  dsimp only
  rfl

variable (Q : Fin 128 → Fin 512 → ℝ) (K : ℕ → Fin 512 → ℝ) (V : ℕ → Fin 512 → EReal)
  (hx2 : ∀ r l, x2 (ix3 (n0 := 1) (n1 := 128) (n2 := 512) 0 r l) = ((Q r l : ℝ) : EReal))
  (hx3 : ∀ (s : Fin 8320) l, x3 (ix3 (n0 := 1) (n1 := 8320) (n2 := 512) 0 s l) = ((K s.val l : ℝ) : EReal))
  (hx4 : ∀ (s : Fin 8320) l, x4 (ix3 (n0 := 1) (n1 := 8320) (n2 := 512) 0 s l) = V s.val l)

include hx2 hx3 hx4 in
/-- The output's block: each lane the weighted sum over all keys. -/
theorem body_apply (p : Fin 4) (r l : Fin 128) :
    View.canon (Val := Elt Ideal) (s := S1x128x512) (e := .bf16) (bodyRun c i arg2 harg2 arg3 harg3 arg4 harg4 arg5 harg5 arg6 harg6 arg7 harg7 x2 x3 x4).1
        (ix3 (n0 := 1) (n1 := 128) (n2 := 512) 0 r (lane p l))
      = sumAt (scoreOf (Q r) K (headOf p l)) (rowNo i r) (fun s => V s (lane p l)) 0 := by
  rw [body_list]
  refine (parts_beside (fun p => k0_pay9 (sTile arg7 harg7 (lastSums c i arg2 harg2 arg3 harg3 arg4 harg4 arg6 harg6 arg7 harg7 x2 x3 x4) p)) p r l).trans ?_
  unfold k0_pay9
  rw [add_lanes, truncf_apply, drop_lanes, s_entry]
  have hi : (i 1).val < 65 := (i 1).isLt
  refine ends_apply c i arg2 harg2 arg3 harg3 arg4 harg4 arg6 harg6 arg7 harg7 x2 x3 x4 Q K V hx2 hx3 hx4 ((i 1).val + 1) (by omega) _ ?_ _ _ ?_ ?_ p r l
  · show (⊥ : EReal) < Ideal.ofBits .f32 0x00000000#32
    rw [word_zero]; exact EReal.bot_lt_zero
  · intro h r k
    rw [zeros6, carry_late _ _ (by unfold rowNo; omega)]; rfl
  · intro p r l
    rw [zeros7, sum_late _ _ _ (by unfold rowNo; omega)]

end Body

end Cert.Sb

end
-- ==== Proof.AttendData.lean ====
module

public import proofs.«01_k».proof.Proof.AttendTrip
public import proofs.«01_k».proof.Proof.PromptPre

/-! The attention's arguments, padded, and its result as one formula. -/

@[expose] public section

set_option maxRecDepth 16384

noncomputable section

namespace Cert.Sb

open Idealize.ShloMosaic hiding ix1 ix2 ix3 ix4 ix5
open Idealize.ShloMosaic.ValueIdx
open Cert.Gla (lane)
open scoped BigOperators

/-- The arguments' shape. -/
abbrev Arg : Type := FVec Ideal ⟨4, ![8, 8208, 8, 64]⟩ .f32

/-- Every entry is a real. -/
def Reals (x : Arg) : Prop := ∀ i, x i = (((x i).toReal : ℝ) : EReal)

/-- A lane's head and its place in the head. -/
def headLane (l : Fin 512) : Fin 8 := ⟨l.val / 64, by omega⟩
def inHead (l : Fin 512) : Fin 64 := ⟨l.val % 64, by omega⟩

/-- An argument's entry, zero past the last token. -/
def padE (x : Arg) (b : Fin 8) (s : ℕ) (l : Fin 512) : EReal := if h : s < 8208 then x (ix4 b ⟨s, h⟩ (headLane l) (inHead l)) else 0
def padR (x : Arg) (b : Fin 8) (s : ℕ) (l : Fin 512) : ℝ := if h : s < 8208 then (x (ix4 b ⟨s, h⟩ (headLane l) (inHead l))).toReal else 0

theorem padE_real (x : Arg) (hx : Reals x) (b : Fin 8) (s : ℕ) (l : Fin 512) : padE x b s l = ((padR x b s l : ℝ) : EReal) := by
  unfold padE padR
  by_cases h : s < 8208
  · rw [dif_pos h, dif_pos h]; exact hx _
  · rw [dif_neg h, dif_neg h]; rfl

theorem word_eighth : Ideal.ofBits .f32 0x3E000000#32 = ((1 / 8 : ℝ) : EReal) := by
  simp [Ideal.ofBits, Ideal.ieee]
  rw [← EReal.coe_mul]
  norm_num

/-- The queries, an eighth of the argument. -/
def query (q : Arg) (b : Fin 8) (t : ℕ) (l : Fin 512) : ℝ := padR q b t l * (1 / 8)

/-- The attention's result. -/
def result (q k v : Arg) (b : Fin 8) (t : ℕ) (l : Fin 512) : EReal :=
  sumAt (scoreOf (query q b t) (padR k b) (headLane l)) t (fun s => padE v b s l) 0

/-- The array of results. -/
def results (q k v : Arg) : FVec Ideal ⟨3, ![8, 8320, 512]⟩ .bf16 := fun y => result q k v (y 0) (y 1).val (y 2)

/-- An argument with its heads side by side and rows of zeros behind the last token. -/
theorem padded_rows (x : Arg) (hc : (⟨4, ![8, 8208, 8, 64]⟩ : Shape).ShapeCasts ⟨3, ![8, 8208, 512]⟩)
    (hp : (⟨3, ![8, 8208, 512]⟩ : Shape).Pads ![0, 0, 0] ![0, 112, 0] ![0, 0, 0] ⟨3, ![8, 8320, 512]⟩) (hu : 0 < (⟨0, ![]⟩ : Shape).numel)
    (b : Fin 8) (t : Fin 8320) (l : Fin 512) :
    pad ⟨3, ![8, 8320, 512]⟩ ![0, 0, 0] ![0, 112, 0] ![0, 0, 0] (shapeCast ⟨3, ![8, 8208, 512]⟩ x hc)
        (sitofp (F := Ideal) .f32 (constantI (⟨0, ![]⟩ : Shape) 32 0#32)) hp hu (ix3 b t l) = padE x b t.val l := by
  unfold padE
  by_cases ht : t.val < 8208
  · rw [dif_pos ht, pad_apply_of_inside _ _ _ _ _ _ _ (ix3 b t l) (ix3 (n0 := 8) (n1 := 8208) (n2 := 512) b ⟨t.val, ht⟩ l) (fun a => by
      match a with
      | ⟨0, _⟩ => show b.val = 0 + b.val * (0 + 1); omega
      | ⟨1, _⟩ => show t.val = 0 + t.val * (0 + 1); omega
      | ⟨2, _⟩ => show l.val = 0 + l.val * (0 + 1); omega)]
    refine shapeCast_apply _ _ _ _ ?_
    rw [Shape.rowMajor_val_three, Shape.rowMajor_val_four]
    show ((b.val * 8208 + t.val) * 8 + l.val / 64) * 64 + l.val % 64 = (b.val * 8208 + t.val) * 512 + l.val
    omega
  · rw [dif_neg ht, pad_apply_of_not_inside _ _ _ _ _ _ _ (ix3 b t l) ⟨1, by show 1 < 3; decide⟩ (fun hn => ht (by
      have h3 : (t.val - 0) / (0 + 1) < 8208 := hn.2.2
      simpa using h3))]
    show (((0#32 : BitVec 32).toInt : ℝ) : EReal) = 0
    norm_num [BitVec.toInt]

/-- The reference's padding, the heads on an axis of their own. -/
theorem padded_heads (x : Arg) (hp : (⟨4, ![8, 8208, 8, 64]⟩ : Shape).Pads ![0, 0, 0, 0] ![0, 112, 0, 0] ![0, 0, 0, 0] ⟨4, ![8, 8320, 8, 64]⟩)
    (hu : 0 < (⟨0, ![]⟩ : Shape).numel) (b : Fin 8) (t : Fin 8320) (h : Fin 8) (d : Fin 64) :
    pad ⟨4, ![8, 8320, 8, 64]⟩ ![0, 0, 0, 0] ![0, 112, 0, 0] ![0, 0, 0, 0] x
        (sitofp (F := Ideal) .f32 (constantI (⟨0, ![]⟩ : Shape) 32 0#32)) hp hu (ix4 b t h d) = padE x b t.val (part h d) := by
  have e1 : headLane (part h d) = h := Fin.ext (by show (64 * h.val + d.val) / 64 = h.val; omega)
  have e2 : inHead (part h d) = d := Fin.ext (by show (64 * h.val + d.val) % 64 = d.val; omega)
  unfold padE
  rw [e1, e2]
  by_cases ht : t.val < 8208
  · rw [dif_pos ht, pad_apply_of_inside _ _ _ _ _ _ _ (ix4 b t h d) (ix4 (n0 := 8) (n1 := 8208) (n2 := 8) (n3 := 64) b ⟨t.val, ht⟩ h d) (fun a => by
      match a with
      | ⟨0, _⟩ => show b.val = 0 + b.val * (0 + 1); omega
      | ⟨1, _⟩ => show t.val = 0 + t.val * (0 + 1); omega
      | ⟨2, _⟩ => show h.val = 0 + h.val * (0 + 1); omega
      | ⟨3, _⟩ => show d.val = 0 + d.val * (0 + 1); omega)]
  · rw [dif_neg ht, pad_apply_of_not_inside _ _ _ _ _ _ _ (ix4 b t h d) ⟨1, by show 1 < 4; decide⟩ (fun hn => ht (by
      have h3 : (t.val - 0) / (0 + 1) < 8208 := hn.2.2
      simpa using h3))]
    show (((0#32 : BitVec 32).toInt : ℝ) : EReal) = 0
    norm_num [BitVec.toInt]

end Cert.Sb

end
-- ==== Proof.AttendValue.lean ====
module

public import proofs.«01_k».proof.Proof.AttendData
public import Idealize.ShloMosaic.Lib.Claim

/-! What the attention's blocks hold, read from the program's arguments, and the array it leaves. -/

@[expose] public section

set_option maxRecDepth 16384

noncomputable section

namespace Cert.Sb

open Idealize.ShloMosaic hiding ix1 ix2 ix3 ix4 ix5 eq_ix3
open Idealize.ShloMosaic.TcCoe Idealize.ShloMosaic.ValueIdx
open Cert.AttendIdeal Cert.AttendIdeal.Gen Cert.Proof.AttendIdeal
open Cert.Gla (lane)
open scoped BigOperators

variable (m : (ℓ : Loc nD τ sig) → Buf (Elt Ideal) ℓ) (c : Dev nD)

/-- The batch row of a grid point. -/
def rowAt (t : Fin grid0.N) : Fin 8 := ⟨t.val / 65, by have h : t.val < 520 := lt_of_lt_of_eq t.isLt N_0; omega⟩
/-- The token at row `i` of a grid point's block. -/
def tokAt (t : Fin grid0.N) (i : Fin 128) : Fin 8320 := ⟨t.val % 65 * 128 + i.val, by omega⟩

def argQ : Arg := m ((c : Thread nD τ).loc main_arg0)
def argK : Arg := m ((c : Thread nD τ).loc main_arg1)
def argV : Arg := m ((c : Thread nD τ).loc main_arg2)

theorem entryQ : (V m c main_v4 : FVec Ideal S8x8320x512 .bf16) =
    truncf .bf16 (pad S8x8320x512 ![0, 0, 0] ![0, 112, 0] ![0, 0, 0]
      (shapeCast S8x8208x512 (mulf (argQ m c) (broadcastInDim S8x8208x8x64 ![] bcast_S_S8x8208x8x64 (constant S_ .f32 0x3E000000#32))) shapeCasts_S8x8208x8x64_S8x8208x512)
      (sitofp .f32 (constantI S_ 32 0#32)) pads_S8x8208x512_S8x8320x512_000_01120_000 h_S_) bitsLt_bf16_f32 := by
  unfold argQ
  entry_read
  rfl

theorem entryK : (V m c main_v7 : FVec Ideal S8x8320x512 .bf16) =
    truncf .bf16 (pad S8x8320x512 ![0, 0, 0] ![0, 112, 0] ![0, 0, 0]
      (shapeCast S8x8208x512 (argK m c) shapeCasts_S8x8208x8x64_S8x8208x512)
      (sitofp .f32 (constantI S_ 32 0#32)) pads_S8x8208x512_S8x8320x512_000_01120_000 h_S_) bitsLt_bf16_f32 := by
  unfold argK
  entry_read
  rfl

theorem entryV : (V m c main_v10 : FVec Ideal S8x8320x512 .bf16) =
    truncf .bf16 (pad S8x8320x512 ![0, 0, 0] ![0, 112, 0] ![0, 0, 0]
      (shapeCast S8x8208x512 (argV m c) shapeCasts_S8x8208x8x64_S8x8208x512)
      (sitofp .f32 (constantI S_ 32 0#32)) pads_S8x8208x512_S8x8320x512_000_01120_000 h_S_) bitsLt_bf16_f32 := by
  unfold argV
  entry_read
  rfl

theorem indexQ : ∀ t : Fin grid0.N, win0_0.index t 0 = t.val / 65 ∧ win0_0.index t 1 = t.val % 65 ∧ win0_0.index t 2 = 0 := by
  decide +kernel
theorem indexK : ∀ t : Fin grid0.N, win0_1.index t 0 = t.val / 65 ∧ win0_1.index t 1 = 0 ∧ win0_1.index t 2 = 0 := by
  decide +kernel
theorem indexV : ∀ t : Fin grid0.N, win0_2.index t 0 = t.val / 65 ∧ win0_2.index t 1 = 0 ∧ win0_2.index t 2 = 0 := by
  decide +kernel
theorem indexO : ∀ t : Fin grid0.N, win0_3.index t 0 = t.val / 65 ∧ win0_3.index t 1 = t.val % 65 ∧ win0_3.index t 2 = 0 := by
  decide +kernel
theorem coord_one : ∀ t : Fin grid0.N, (grid0.coords t 1).val = t.val % 65 := by
  decide +kernel

section Blocks

variable (t : Fin grid0.N)

/-- The block of queries. -/
theorem blockQ (hq : Reals (argQ m c)) (i : Fin 128) (l : Fin 512) :
    iblk m c 0 t (ix3 (n0 := 1) (n1 := 128) (n2 := 512) 0 i l) = ((query (argQ m c) (rowAt t) (tokAt t i).val l : ℝ) : EReal) := by
  have e : iblk m c 0 t (ix3 (n0 := 1) (n1 := 128) (n2 := 512) 0 i l) = V m c main_v4 (ix3 (rowAt t) (tokAt t i) l) := by
    show V m c main_v4 _ = _
    refine congrArg (V m c main_v4) ?_
    obtain ⟨e0, e1, e2⟩ := indexQ t
    funext a
    apply Fin.ext
    match a with
    | ⟨0, _⟩ => show win0_0.index t 0 * 1 + 1 * 0 = t.val / 65; omega
    | ⟨1, _⟩ => show win0_0.index t 1 * 128 + 1 * i.val = t.val % 65 * 128 + i.val; omega
    | ⟨2, _⟩ => show win0_0.index t 2 * 512 + 1 * l.val = l.val; omega
  rw [e, entryQ, truncf_apply]
  refine (padded_rows (mulf (argQ m c) (broadcastInDim S8x8208x8x64 ![] bcast_S_S8x8208x8x64 (constant S_ .f32 0x3E000000#32))) _ _ _ _ _ _).trans ?_
  unfold padE query padR
  by_cases h : (tokAt t i).val < 8208
  · rw [dif_pos h, dif_pos h]
    show argQ m c _ * Ideal.ofBits .f32 0x3E000000#32 = _
    rw [word_eighth, hq, ← EReal.coe_mul]
    rfl
  · rw [dif_neg h, dif_neg h, zero_mul]; rfl

/-- The keys, all of a batch row. -/
theorem blockK (hk : Reals (argK m c)) (s : Fin 8320) (l : Fin 512) :
    iblk m c 1 t (ix3 (n0 := 1) (n1 := 8320) (n2 := 512) 0 s l) = ((padR (argK m c) (rowAt t) s.val l : ℝ) : EReal) := by
  have e : iblk m c 1 t (ix3 (n0 := 1) (n1 := 8320) (n2 := 512) 0 s l) = V m c main_v7 (ix3 (rowAt t) s l) := by
    show V m c main_v7 _ = _
    refine congrArg (V m c main_v7) ?_
    obtain ⟨e0, e1, e2⟩ := indexK t
    funext a
    apply Fin.ext
    match a with
    | ⟨0, _⟩ => show win0_1.index t 0 * 1 + 1 * 0 = t.val / 65; omega
    | ⟨1, _⟩ => show win0_1.index t 1 * 8320 + 1 * s.val = s.val; omega
    | ⟨2, _⟩ => show win0_1.index t 2 * 512 + 1 * l.val = l.val; omega
  rw [e, entryK, truncf_apply]
  exact (padded_rows (argK m c) _ _ _ _ _ _).trans (padE_real _ hk _ _ _)

/-- The values. -/
theorem blockV (s : Fin 8320) (l : Fin 512) :
    iblk m c 2 t (ix3 (n0 := 1) (n1 := 8320) (n2 := 512) 0 s l) = padE (argV m c) (rowAt t) s.val l := by
  have e : iblk m c 2 t (ix3 (n0 := 1) (n1 := 8320) (n2 := 512) 0 s l) = V m c main_v10 (ix3 (rowAt t) s l) := by
    show V m c main_v10 _ = _
    refine congrArg (V m c main_v10) ?_
    obtain ⟨e0, e1, e2⟩ := indexV t
    funext a
    apply Fin.ext
    match a with
    | ⟨0, _⟩ => show win0_2.index t 0 * 1 + 1 * 0 = t.val / 65; omega
    | ⟨1, _⟩ => show win0_2.index t 1 * 8320 + 1 * s.val = s.val; omega
    | ⟨2, _⟩ => show win0_2.index t 2 * 512 + 1 * l.val = l.val; omega
  rw [e, entryV, truncf_apply]
  exact padded_rows (argV m c) _ _ _ _ _ _

set_option maxHeartbeats 1000000 in
/-- The block of results. -/
theorem leaves (hq : Reals (argQ m c)) (hk : Reals (argK m c)) (i : Fin 128) (p : Fin 4) (d : Fin 128) :
    out c t (iblk m c 0 t) (iblk m c 1 t) (iblk m c 2 t) (ix3 (n0 := 1) (n1 := 128) (n2 := 512) 0 i (lane p d))
      = result (argQ m c) (argK m c) (argV m c) (rowAt t) (tokAt t i).val (lane p d) := by
  have e1 : rowNo (grid0.coords t) i = (tokAt t i).val := by
    show 128 * (grid0.coords t 1).val + i.val = t.val % 65 * 128 + i.val
    rw [coord_one]; omega
  have e2 : headOf p d = headLane (lane p d) := Fin.ext (by show 2 * p.val + d.val / 64 = (128 * p.val + d.val) / 64; omega)
  unfold out pieces result
  rw [← e1, ← e2]
  exact body_apply c (grid0.coords t) (st0_0 t) (hstage0_0 (((cfg0 (F := Ideal)).slots t 0).cast nbuf0_0)) (st0_1 t) (hstage0_1 (((cfg0 (F := Ideal)).slots t 1).cast nbuf0_1))
    (st0_2 t) (hstage0_2 (((cfg0 (F := Ideal)).slots t 2).cast nbuf0_2)) (st0_3 t) (hstage0_3 (((cfg0 (F := Ideal)).slots t 3).cast nbuf0_3))
    (Memref.whole cc0_scratch0) (Memref.isWhole_whole _) (Memref.whole cc0_scratch1) (Memref.isWhole_whole _) (iblk m c 0 t) (iblk m c 1 t) (iblk m c 2 t)
    (fun r l => query (argQ m c) (rowAt t) (rowNo (grid0.coords t) r) l) (padR (argK m c) (rowAt t)) (padE (argV m c) (rowAt t))
    (fun r l => (blockQ m c t hq r l).trans (by
      have e3 : rowNo (grid0.coords t) r = (tokAt t r).val := by
        show 128 * (grid0.coords t 1).val + r.val = t.val % 65 * 128 + r.val
        rw [coord_one]; omega
      rw [e3])) (blockK m c t hk) (blockV m c t) p i d

end Blocks

/-- The array of results. -/
theorem final_out (hq : Reals (argQ m c)) (hk : Reals (argK m c)) :
    (dats m 0 c).arrAt 3 (cfg0 (F := Ideal)).N = results (argQ m c) (argK m c) (argV m c) := by
  refine (dats m 0 c).arrAt_eq_of_covers 3 _ (by decide +kernel) fun t hf y => ?_
  blk_simp
  rw [after0_3]
  have key : ∀ (i : Fin 128) (l : Fin 512), (win0_3.blk t).view.emb (ix3 (n0 := 1) (n1 := 128) (n2 := 512) 0 i l) = ix3 (rowAt t) (tokAt t i) l := fun i l => by
    obtain ⟨e0, e1, e2⟩ := indexO t
    funext a
    apply Fin.ext
    match a with
    | ⟨0, _⟩ => show win0_3.index t 0 * 1 + 1 * 0 = t.val / 65; omega
    | ⟨1, _⟩ => show win0_3.index t 1 * 128 + 1 * i.val = t.val % 65 * 128 + i.val; omega
    | ⟨2, _⟩ => show win0_3.index t 2 * 512 + 1 * l.val = l.val; omega
  have all : ∀ z : S1x128x512.Idx, out c t (iblk m c 0 t) (iblk m c 1 t) (iblk m c 2 t) z
      = results (argQ m c) (argK m c) (argV m c) ((win0_3.blk t).view.emb z) := fun z => by
    obtain ⟨i, l, rfl⟩ : ∃ (i : Fin 128) (l : Fin 512), z = ix3 (n0 := 1) (n1 := 128) (n2 := 512) 0 i l :=
      ⟨z 1, z 2, (eq_ix3 z).trans (congrArg (fun x : Fin 1 => ix3 (n0 := 1) (n1 := 128) (n2 := 512) x (z 1) (z 2)) (Subsingleton.elim (α := Fin 1) _ _))⟩
    obtain ⟨p, d, rfl⟩ : ∃ (p : Fin 4) (d : Fin 128), l = lane p d :=
      ⟨⟨l.val / 128, by omega⟩, ⟨l.val % 128, by omega⟩, Fin.ext (by show l.val = 128 * (l.val / 128) + l.val % 128; omega)⟩
    rw [key]
    exact leaves m c t hq hk i p d
  exact all y

end Cert.Sb

end
-- ==== Proof.AttendRef.lean ====
module

public import proofs.«01_k».proof.Proof.AttendData
public import proofs.«01_k».proof.Proof.RefChunk
public import proofs.«01_k».proof.Proof.Gen.AttendReferenceIdeal.Run

/-! The attention's reference over the extended reals: for real queries and keys its result is the same formula. -/

@[expose] public section

set_option maxRecDepth 16384

noncomputable section

namespace Cert.Sb.Ref

open Idealize.ShloMosaic hiding ix1 ix2 ix3 ix4 ix5 eq_ix3
open Idealize.ShloMosaic.ValueIdx
open Cert.AttendReferenceIdeal Cert.AttendReferenceIdeal.Gen
open Cert.Gla (coe_sum select_of)
open Cert.Gla.Ref (foldl_sum)
open Cert.Proj (word_zero cmp_self)
open scoped BigOperators

/-- An array of scores' shape. -/
abbrev Sc : Type := FVec Ideal S8x8x8320x8320 .f32

def padded (x : Arg) : FVec Ideal S8x8320x8x64 .f32 :=
  pad S8x8320x8x64 ![0, 0, 0, 0] ![0, 112, 0, 0] ![0, 0, 0, 0] x (sitofp .f32 (constantI S_ 32 0#32)) pads_S8x8208x8x64_S8x8320x8x64_000_01120_000_000 h_S_

def zeros : Sc := broadcastInDim S8x8x8320x8320 ![] bcast_S_S8x8x8320x8320 (constant S_ .f32 0x00000000#32)

/-- The scaled scores. -/
def zs (q k : Arg) : Sc :=
  mulf (Host.dotGeneral dot_S8x8320x8x64_S8x8320x8x64_S8x8x8320x8320_3_3_1_1_02_02 none (padded q) (padded k))
    (broadcastInDim S8x8x8320x8320 ![] bcast_S_S8x8x8320x8320 (constant S_ .f32 0x3E000000#32))

/-- The log of the logistic function. -/
def logSig (x : Sc) : Sc :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- Which keys a query sees. -/
def before : IVec S8x8x8320x8320 1 :=
  broadcastInDim S8x8x8320x8320 ![2, 3] bcast_S8320x8320_S8x8x8320x8320_2_3
    (cmpi .slt (broadcastInDim S8320x8320 ![0, 1] bcast_S1x8320_S8320x8320_0_1 (broadcastInDim S1x8320 ![1] bcast_S8320_S1x8320_1 (iotaInDim S8320 32 0)))
      (broadcastInDim S8320x8320 ![0, 1] bcast_S8320x1_S8320x8320_0_1 (broadcastInDim S8320x1 ![0] bcast_S8320_S8320x1_0 (iotaInDim S8320 32 0))))

/-- What each key leaves of the stick, as a log, -/
def logKeep (z : Sc) : Sc := select before (logSig (Host.negf z)) (broadcastInDim S8x8x8320x8320 ![] bcast_S_S8x8x8320x8320 (id (constant S_ .f32 0x00000000#32)))
/-- summed over a key and all behind it, -/
def fromKey (L : Sc) : Sc :=
  Host.reduceWindowAdd ![1, 1, 1, 8320] ![1, 1, 1, 1] ![0, 0, 0, 0] ![0, 0, 0, 8319] L (broadcastInDim S_ ![] bcast_S_S_ (constant S_ .f32 0x00000000#32))
    reduceWindows_S8x8x8320x8320_S8x8x8320x8320_w1s1p0_0_w1s1p0_0_w1s1p0_0_w8320s1p0_8319 h_S_
/-- and each key's weight. -/
def weights (z : Sc) : Sc :=
  select before (Host.exp (addf (logSig z) (subf (fromKey (logKeep z)) (logKeep z)))) (broadcastInDim S8x8x8320x8320 ![] bcast_S_S8x8x8320x8320 (id (constant S_ .f32 0x00000000#32)))

def whole (q k v : Arg) : FVec Ideal S8x8320x512 .bf16 :=
  truncf .bf16 (shapeCast S8x8320x512 (transpose S8x8320x8x64 [0, 3, 1, 2]
    (Host.dotGeneral dot_S8x8320x8x64_S8x8x8320x8320_S8x8x64x8320_1_3_3_2_02_01 none (padded v) (weights (zs q k)))
    transposes_S8x8x64x8320_S8x8320x8x64_0_3_1_2) shapeCasts_S8x8320x8x64_S8x8320x512) bitsLt_bf16_f32

/-! ### Products -/

theorem dot_scores (q k : FVec Ideal S8x8320x8x64 .f32) (b h : Fin 8) (t s : Fin 8320) :
    Host.dotGeneral dot_S8x8320x8x64_S8x8320x8x64_S8x8x8320x8320_3_3_1_1_02_02 none q k (ix4 b h t s)
      = ∑ d : Fin 64, q (ix4 b t h d) * k (ix4 b s h d) := by
  have hr : dot_S8x8320x8x64_S8x8320x8x64_S8x8x8320x8320_3_3_1_1_02_02.contr.rank = 1 := rfl
  have hs : dot_S8x8320x8x64_S8x8320x8x64_S8x8x8320x8320_3_3_1_1_02_02.contr.size ⟨0, by omega⟩ = 64 := rfl
  refine (Ideal.dotGeneral_apply _ _ _ _ _ _).trans ?_
  rw [← Equiv.sum_comp (contrEquiv1 _ 64 hr hs).symm]
  refine Finset.sum_congr rfl fun d _ => ?_
  have hk := contrEquiv1_symm_val dot_S8x8320x8x64_S8x8320x8x64_S8x8x8320x8320_3_3_1_1_02_02 64 hr hs d
  refine congrArg₂ (fun x y : EReal => x * y) (congrArg q (funext fun a => Fin.ext ?_)) (congrArg k (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

theorem dot_values (v : FVec Ideal S8x8320x8x64 .f32) (w : Sc) (b h : Fin 8) (d : Fin 64) (t : Fin 8320) :
    Host.dotGeneral dot_S8x8320x8x64_S8x8x8320x8320_S8x8x64x8320_1_3_3_2_02_01 none v w (ix4 b h d t)
      = ∑ s : Fin 8320, v (ix4 b s h d) * w (ix4 b h t s) := by
  have hr : dot_S8x8320x8x64_S8x8x8320x8320_S8x8x64x8320_1_3_3_2_02_01.contr.rank = 1 := rfl
  have hs : dot_S8x8320x8x64_S8x8x8320x8320_S8x8x64x8320_1_3_3_2_02_01.contr.size ⟨0, by omega⟩ = 8320 := rfl
  refine (Ideal.dotGeneral_apply _ _ _ _ _ _).trans ?_
  rw [← Equiv.sum_comp (contrEquiv1 _ 8320 hr hs).symm]
  refine Finset.sum_congr rfl fun s _ => ?_
  have hk := contrEquiv1_symm_val dot_S8x8320x8x64_S8x8x8320x8320_S8x8x64x8320_1_3_3_2_02_01 8320 hr hs s
  refine congrArg₂ (fun x y : EReal => x * y) (congrArg v (funext fun a => Fin.ext ?_)) (congrArg w (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-! ### Sums over the keys behind -/

theorem numel_window : (⟨4, ![1, 1, 1, 8320]⟩ : Shape).numel = 8320 := by decide

theorem window_pos (n : Fin (⟨4, ![1, 1, 1, 8320]⟩ : Shape).numel) :
    (⟨4, ![1, 1, 1, 8320]⟩ : Shape).rowMajor.symm n = ix4 (n0 := 1) (n1 := 1) (n2 := 1) (n3 := 8320) 0 0 0 (n.cast numel_window) :=
  ((⟨4, ![1, 1, 1, 8320]⟩ : Shape).rowMajor.symm_apply_eq).2 (Fin.ext (by
    rw [Shape.rowMajor_val_four]
    show n.val = ((0 * 1 + 0) * 1 + 0) * 8320 + n.val
    omega))

/-- Over the extended reals a window's sum adds in the row's order. -/
theorem windowAdd_eq {s t u : Shape} (window strides lo hi : Fin s.rank → ℕ) (x : FVec Ideal s .f32) (init : FVec Ideal u .f32)
    (h : s.ReduceWindows window strides lo hi t) (hu : 0 < u.numel) :
    Host.reduceWindowAdd window strides lo hi x init h hu
      = Host.reduceWindow (fun x y : EReal => x + y) window strides lo hi x (fun _ => init (Shape.Idx.first hu)) h hu := rfl

theorem fromKey_sum (L : Sc) (b h : Fin 8) (t s : Fin 8320) :
    fromKey L (ix4 b h t s) = ∑ n : Fin 8320, if hn : s.val + n.val < 8320 then L (ix4 b h t ⟨s.val + n.val, hn⟩) else 0 := by
  unfold fromKey
  rw [windowAdd_eq]
  unfold Host.reduceWindow
  have hz : (broadcastInDim S_ ![] bcast_S_S_ (constant (F := Ideal) S_ .f32 0x00000000#32)) (Shape.Idx.first h_S_) = (0 : EReal) := word_zero
  dsimp only
  rw [hz, foldl_sum, ← Equiv.sum_comp (finCongr numel_window)]
  refine Finset.sum_congr rfl fun n _ => ?_
  have w0 : ((⟨4, ![1, 1, 1, 8320]⟩ : Shape).rowMajor.symm n 0).val = 0 := by rw [window_pos]; rfl
  have w1 : ((⟨4, ![1, 1, 1, 8320]⟩ : Shape).rowMajor.symm n 1).val = 0 := by rw [window_pos]; rfl
  have w2 : ((⟨4, ![1, 1, 1, 8320]⟩ : Shape).rowMajor.symm n 2).val = 0 := by rw [window_pos]; rfl
  have w3 : ((⟨4, ![1, 1, 1, 8320]⟩ : Shape).rowMajor.symm n 3).val = n.val := by rw [window_pos]; rfl
  have hn : n.val < 8320 := (n.cast numel_window).isLt
  by_cases hh : s.val + n.val < 8320
  · have hin : ∀ a : Fin 4, (![0, 0, 0, 0] : Fin 4 → ℕ) a ≤ (ix4 b h t s a).val * (![1, 1, 1, 1] : Fin 4 → ℕ) a + ((⟨4, ![1, 1, 1, 8320]⟩ : Shape).rowMajor.symm n a).val
        ∧ (ix4 b h t s a).val * (![1, 1, 1, 1] : Fin 4 → ℕ) a + ((⟨4, ![1, 1, 1, 8320]⟩ : Shape).rowMajor.symm n a).val - (![0, 0, 0, 0] : Fin 4 → ℕ) a < S8x8x8320x8320.size a := by
      intro a
      match a with
      | ⟨0, _⟩ => show 0 ≤ b.val * 1 + _ ∧ b.val * 1 + ((⟨4, ![1, 1, 1, 8320]⟩ : Shape).rowMajor.symm n 0).val - 0 < 8; rw [w0]; omega
      | ⟨1, _⟩ => show 0 ≤ h.val * 1 + _ ∧ h.val * 1 + ((⟨4, ![1, 1, 1, 8320]⟩ : Shape).rowMajor.symm n 1).val - 0 < 8; rw [w1]; omega
      | ⟨2, _⟩ => show 0 ≤ t.val * 1 + _ ∧ t.val * 1 + ((⟨4, ![1, 1, 1, 8320]⟩ : Shape).rowMajor.symm n 2).val - 0 < 8320; rw [w2]; omega
      | ⟨3, _⟩ => show 0 ≤ s.val * 1 + _ ∧ s.val * 1 + ((⟨4, ![1, 1, 1, 8320]⟩ : Shape).rowMajor.symm n 3).val - 0 < 8320; rw [w3]; omega
    refine (dif_pos hin).trans ?_
    refine Eq.trans ?_ (dif_pos (c := s.val + ((finCongr numel_window) n).val < 8320) hh).symm
    refine congrArg L (funext fun a => Fin.ext ?_)
    match a with
    | ⟨0, _⟩ => show b.val * 1 + ((⟨4, ![1, 1, 1, 8320]⟩ : Shape).rowMajor.symm n 0).val - 0 = b.val; rw [w0]; omega
    | ⟨1, _⟩ => show h.val * 1 + ((⟨4, ![1, 1, 1, 8320]⟩ : Shape).rowMajor.symm n 1).val - 0 = h.val; rw [w1]; omega
    | ⟨2, _⟩ => show t.val * 1 + ((⟨4, ![1, 1, 1, 8320]⟩ : Shape).rowMajor.symm n 2).val - 0 = t.val; rw [w2]; omega
    | ⟨3, _⟩ => show s.val * 1 + ((⟨4, ![1, 1, 1, 8320]⟩ : Shape).rowMajor.symm n 3).val - 0 = s.val + n.val; rw [w3]; omega
  · have hr : ∀ y : s.val + ((finCongr numel_window) n).val < 8320 → EReal, (if h : s.val + ((finCongr numel_window) n).val < 8320 then y h else 0) = 0 := fun y => dif_neg hh
    rw [hr]
    refine dif_neg fun hin => hh ?_
    have h1 : s.val * 1 + ((⟨4, ![1, 1, 1, 8320]⟩ : Shape).rowMajor.symm n 3).val - 0 < 8320 := (hin 3).2
    rw [w3] at h1
    omega

/-- The sum over a key and all behind it. -/
theorem fromKey_apply (L : Sc) (b h : Fin 8) (t s : Fin 8320) (f : ℕ → ℝ) (hL : ∀ u : Fin 8320, L (ix4 b h t u) = ((f u.val : ℝ) : EReal)) :
    fromKey L (ix4 b h t s) = ((∑ u ∈ Finset.Ico s.val 8320, f u : ℝ) : EReal) := by
  have e : ∀ n : Fin 8320, (if hn : s.val + n.val < 8320 then L (ix4 b h t ⟨s.val + n.val, hn⟩) else 0)
      = (((fun n : ℕ => if s.val + n < 8320 then f (s.val + n) else 0) n.val : ℝ) : EReal) := fun n => by
    dsimp only
    by_cases hn : s.val + n.val < 8320
    · rw [dif_pos hn, if_pos hn, hL]
    · rw [dif_neg hn, if_neg hn]; rfl
  rw [fromKey_sum, Finset.sum_congr rfl fun n _ => e n, ← coe_sum, Fin.sum_univ_eq_sum_range (fun n : ℕ => if s.val + n < 8320 then f (s.val + n) else 0) 8320]
  refine congrArg _ ?_
  rw [Finset.sum_Ico_eq_sum_range, ← Finset.sum_filter]
  refine Finset.sum_congr ?_ fun _ _ => rfl
  ext n
  have := s.isLt
  simp only [Finset.mem_filter, Finset.mem_range]
  omega

/-! ### Pointwise -/

theorem zeros_apply (i : S8x8x8320x8320.Idx) : zeros i = (0 : EReal) := word_zero

theorem logSig_apply (x : Sc) (i : S8x8x8320x8320.Idx) (r : ℝ) (hx : x i = (r : EReal)) : logSig x i = ((-sp (-r) : ℝ) : EReal) := by
  have e : logSig x i = -(Scalar.select (Ideal.cmp .une (-(x i) - zeros i) (-(x i) - zeros i)) (-(x i) + zeros i) (max (-(x i)) (zeros i)
      + Ideal.log1p (Ideal.exp (-(max (-(x i) - zeros i) (-(-(x i) - zeros i))))))) := rfl
  rw [e, zeros_apply, cmp_self, sub_zero, hx]
  show -(max (-(r : EReal)) 0 + Ideal.log (1 + Ideal.exp (-(max (-(r : EReal)) (-(-(r : EReal))))))) = _
  have key := sp_word (-r)
  rw [zero_sub, EReal.coe_neg] at key
  rw [key, ← EReal.coe_neg]

theorem before_apply (b h : Fin 8) (t s : Fin 8320) : before (ix4 b h t s) = if s.val < t.val then 1#1 else 0#1 := by
  refine Eq.trans ?_ (lt_word s.val t.val (by omega) (by omega))
  rfl

section Rows

variable (z : Sc) (b h : Fin 8) (t : Fin 8320) (f : ℕ → ℝ) (hz : ∀ s : Fin 8320, z (ix4 b h t s) = ((f s.val : ℝ) : EReal))

include hz in
theorem logKeep_apply (s : Fin 8320) : logKeep z (ix4 b h t s) = ((keep f t.val s.val : ℝ) : EReal) := by
  refine (select_of _ _ (before_apply b h t s) _ _).trans ?_
  unfold keep
  have e : (Host.negf z) (ix4 b h t s) = ((-f s.val : ℝ) : EReal) := by
    show -(z (ix4 b h t s)) = _
    rw [hz, EReal.coe_neg]
  rw [logSig_apply _ _ _ e, neg_neg]
  by_cases hs : s.val < t.val
  · rw [if_pos hs, if_pos hs]
  · rw [if_neg hs, if_neg hs]; exact word_zero

include hz in
theorem weights_apply (s : Fin 8320) : weights z (ix4 b h t s) = ((weight f t.val s.val : ℝ) : EReal) := by
  refine (select_of _ _ (before_apply b h t s) _ _).trans ?_
  unfold weight
  by_cases hs : s.val < t.val
  · rw [if_pos hs, if_pos hs]
    show Ideal.exp (logSig z (ix4 b h t s) + (fromKey (logKeep z) (ix4 b h t s) - logKeep z (ix4 b h t s))) = _
    rw [logSig_apply _ _ _ (hz s), fromKey_apply _ b h t s _ (logKeep_apply z b h t f hz), logKeep_apply z b h t f hz,
      ← EReal.coe_sub, behind_eq _ _ _ s.isLt, ← EReal.coe_add, ← sp_neg]
    rfl
  · rw [if_neg hs, if_neg hs]; exact word_zero

end Rows

theorem zs_apply (q k : Arg) (hq : Reals q) (hk : Reals k) (b h : Fin 8) (t s : Fin 8320) :
    zs q k (ix4 b h t s) = ((scoreOf (query q b t.val) (padR k b) h s.val : ℝ) : EReal) := by
  have e : ∀ d : Fin 64, padded q (ix4 b t h d) * padded k (ix4 b s h d) = ((padR q b t.val (part h d) * padR k b s.val (part h d) : ℝ) : EReal) := fun d => by
    rw [EReal.coe_mul, ← padE_real q hq, ← padE_real k hk]
    exact congrArg₂ (fun x y : EReal => x * y) (padded_heads q _ _ b t h d) (padded_heads k _ _ b s h d)
  show Host.dotGeneral dot_S8x8320x8x64_S8x8320x8x64_S8x8x8320x8320_3_3_1_1_02_02 none (padded q) (padded k) (ix4 b h t s) * Ideal.ofBits .f32 0x3E000000#32 = _
  rw [dot_scores, Finset.sum_congr rfl fun d _ => e d, ← coe_sum, word_eighth, ← EReal.coe_mul]
  refine congrArg _ ?_
  unfold scoreOf query
  rw [Finset.sum_mul]
  exact Finset.sum_congr rfl fun d _ => by ring

theorem whole_eq (q k v : Arg) (hq : Reals q) (hk : Reals k) : whole q k v = results q k v := by
  funext y
  obtain ⟨b, t, l, rfl⟩ : ∃ (b : Fin 8) (t : Fin 8320) (l : Fin 512), y = ix3 b t l := ⟨y 0, y 1, y 2, eq_ix3 y⟩
  show whole q k v (ix3 b t l) = result q k v b t.val l
  have el : l = part (headLane l) (inHead l) := Fin.ext (by show l.val = 64 * (l.val / 64) + l.val % 64; omega)
  unfold whole
  rw [truncf_apply]
  refine (shapeCast_apply _ _ _ (ix4 b t (headLane l) (inHead l)) ?_).trans ?_
  · rw [Shape.rowMajor_val_three, Shape.rowMajor_val_four]
    show ((b.val * 8320 + t.val) * 8 + l.val / 64) * 64 + l.val % 64 = (b.val * 8320 + t.val) * 512 + l.val
    omega
  refine (transpose_apply _ _ _ _ (ix4 b (headLane l) (inHead l) t) fun a => by
    match a with
    | ⟨0, _⟩ => rfl
    | ⟨1, _⟩ => rfl
    | ⟨2, _⟩ => rfl
    | ⟨3, _⟩ => rfl).trans ?_
  have e : ∀ s : Fin 8320, padded v (ix4 b s (headLane l) (inHead l)) * weights (zs q k) (ix4 b (headLane l) t s)
      = ((weight (scoreOf (query q b t.val) (padR k b) (headLane l)) t.val s.val : ℝ) : EReal) * padE v b s.val l := fun s => by
    rw [weights_apply _ b (headLane l) t _ (fun s => zs_apply q k hq hk b (headLane l) t s), mul_comm]
    refine congrArg₂ (fun x y : EReal => x * y) rfl ?_
    refine (padded_heads v _ _ b s _ _).trans ?_
    rw [← el]
  rw [dot_values, Finset.sum_congr rfl fun s _ => e s]
  unfold result
  rw [sum_whole]

end Cert.Sb.Ref

end
-- ==== Proof.AttendClaim.lean ====
module

public import proofs.«01_k».proof.Defs
public import proofs.«01_k».proof.Proof.AttendFrames
public import proofs.«01_k».proof.Proof.AttendValue
public import proofs.«01_k».proof.Proof.AttendRef
public import proofs.«01_k».proof.Proof.Gen.Pre_finite

/-! The claims of the stick-breaking attention that its precondition is for: from finite queries and keys kernel and reference end
with equal results. -/

@[expose] public section

set_option maxRecDepth 16384

noncomputable section

namespace Cert.Sb

open Idealize.ShloMosaic hiding ix1 ix2 ix3 ix4 ix5 eq_ix3
open Idealize.ShloMosaic.TcCoe Idealize.ShloMosaic.ValueIdx Idealize.SL.Sem
open Cert.Gla (real_of_abs and_one)

theorem frame_promptIdeal_finite : @Cert.quiescent_AttendIdeal_pre_finite Cert.AttendIdeal.Gen.facts Cert.Pre_finite.Gen.facts :=
  fun m ρ _ => Cert.Proof.AttendIdeal.frame m ρ
theorem frame_promptReference_finite : @Cert.quiescent_AttendReferenceIdeal_pre_finite Cert.AttendReferenceIdeal.Gen.facts Cert.Pre_finite.Gen.facts :=
  fun m ρ _ => frame_promptReference m ρ trivial

/-- What the precondition says: every query and every key is a real. -/
theorem finite_all (q k v : Arg) (h : Cert.Pre_finite.fn (F := Ideal) q k v = fun _ => 1#1) : Reals q ∧ Reals k := by
  have key : ∀ i, q i = (((q i).toReal : ℝ) : EReal) ∧ k i = (((k i).toReal : ℝ) : EReal) := fun i => by
    obtain ⟨eq, ek⟩ := and_one (congrFun h i)
    exact ⟨real_of_abs eq, real_of_abs ek⟩
  exact ⟨fun i => (key i).1, fun i => (key i).2⟩

section Kernel

open Cert.AttendIdeal Cert.AttendIdeal.Gen Cert.Proof.AttendIdeal

/-- The kernel's run, its array of results named. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = (dats m 0 c).arrAt 3 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1 3,
    ((h c).2 main_arg0 (Pipeline.mem_restRefs_of main_arg0 (by decide) (by show ∀ w : Fin 4, (spec0 w).arr.view.ref ≠ main_arg0; decide))).trans (V_main_arg0 m c),
    ((h c).2 main_arg1 (Pipeline.mem_restRefs_of main_arg1 (by decide) (by show ∀ w : Fin 4, (spec0 w).arr.view.ref ≠ main_arg1; decide))).trans (V_main_arg1 m c),
    ((h c).2 main_arg2 (Pipeline.mem_restRefs_of main_arg2 (by decide) (by show ∀ w : Fin 4, (spec0 w).arr.view.ref ≠ main_arg2; decide))).trans (V_main_arg2 m c)⟩) (run_main m ρ)

end Kernel

set_option maxHeartbeats 4000000 in
/-- From equal arguments, the queries and keys finite, the two programs end with equal results. -/
theorem algebraic_prompt : Cert.algebraic_AttendIdeal_AttendReferenceIdeal_pre_finite := by
  intro m ρ m' ρ' hp ha
  refine ⟨fun c => (Cert.Proof.AttendIdeal.dats m 0 c).arrAt 3 (Cert.AttendIdeal.cfg0 (F := Ideal)).N, run_blocks m ρ, ?_⟩
  refine (θ_run Cert.AttendReferenceIdeal.defs _ _).mono (fun r h c => ⟨(h c).1.trans ?_, (h c).2⟩)
    (Cert.AttendReferenceIdeal.Value.run (F := Ideal) m' ρ')
  unfold Cert.AttendReferenceIdeal.Value.res_main_v24
  obtain ⟨h0, h1, h2⟩ := ha c
  obtain ⟨hq, hk⟩ := finite_all _ _ _ (hp c)
  rw [h0, h1, h2]
  exact (Ref.whole_eq (argQ m c) (argK m c) (argV m c) hq hk).trans (final_out m c hq hk).symm

end Cert.Sb

end
-- ==== Proof.lean ====
module

public import proofs.«01_k».proof.Defs
public import proofs.«01_k».proof.Proof.PromptFrames
public import proofs.«01_k».proof.Proof.PromptClaim
public import proofs.«01_k».proof.Proof.SampleClaim
public import proofs.«01_k».proof.Proof.ProjectClaim
public import proofs.«01_k».proof.Proof.ProjectSampleClaim
public import proofs.«01_k».proof.Proof.MergeClaim
public import proofs.«01_k».proof.Proof.AttendFrames
public import proofs.«01_k».proof.Proof.AttendClaim
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Sample
public import proofs.«01_k».proof.Proof.Gen.SampleIdeal
public import proofs.«01_k».proof.Proof.Gen.SampleReferenceIdeal
public import proofs.«01_k».proof.Proof.Gen.SampleReferenceIdeal.Run
public import proofs.«01_k».proof.Proof.Gen.SampleReferenceIdeal.Step
public import proofs.«01_k».proof.Proof.Gen.Project
public import proofs.«01_k».proof.Proof.Gen.Project.Frame
public import proofs.«01_k».proof.Proof.Gen.ProjectIdeal
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectSample
public import proofs.«01_k».proof.Proof.Gen.ProjectSample.Frame
public import proofs.«01_k».proof.Proof.Gen.ProjectSampleIdeal
public import proofs.«01_k».proof.Proof.Gen.ProjectSampleIdeal.Value
public import proofs.«01_k».proof.Proof.Gen.ProjectSampleReferenceIdeal
public import proofs.«01_k».proof.Proof.Gen.ProjectSampleReferenceIdeal.Run
public import proofs.«01_k».proof.Proof.Gen.Merge
public import proofs.«01_k».proof.Proof.Gen.Merge.Frame
public import proofs.«01_k».proof.Proof.Gen.Attend
public import proofs.«01_k».proof.Proof.Gen.AttendIdeal
public import proofs.«01_k».proof.Proof.Gen.AttendIdeal.Launch
public import proofs.«01_k».proof.Proof.Gen.AttendIdeal.Skeleton
public import proofs.«01_k».proof.Proof.Gen.AttendIdeal.Points
public import proofs.«01_k».proof.Proof.Gen.Attend.Launch
public import proofs.«01_k».proof.Proof.Gen.Attend.Points
public import proofs.«01_k».proof.Proof.Gen.Attend.Skeleton
public import proofs.«01_k».proof.Proof.Gen.AttendReferenceIdeal
public import proofs.«01_k».proof.Proof.Gen.AttendReferenceIdeal.Run
public import proofs.«01_k».proof.Proof.Gen.Pre_finite
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Pre_gates
public import proofs.«01_k».proof.Proof.Gen.Pre_finite_gates
public import proofs.«01_k».proof.Proof.Gen.KernelIdeal.Value
public import proofs.«01_k».proof.Proof.Gen.SampleIdeal.Value
public import Idealize.ShloMosaic.Adequacy
public import Idealize.ShloMosaic.Init

/-! One layer's gated linear attention, chunk by chunk, and its input projection, each in the prompt's call and the sample's
call; the merge of the layer's two branches, with the norm behind it, in the prompt's call; and the stick-breaking attention in
the prompt's call.

The claims, one conjunct each:

* the frames: every program ends, its arguments unchanged and every semaphore counter at zero;
* `preserves`: the ideal program is the program's own text, so there is nothing to rewrite, but for the attention's one named
  constant;
* `algebraic`: over the extended reals the kernel and the reference end with equal results, for the gated attention from gates
  in (0, 1], for the stick-breaking attention from finite queries and keys, for the projection and the merge from any arguments.

`Proof/PromptFrames.lean`, `Proof/PromptClaim.lean`, `Proof/SampleClaim.lean`, `Proof/ProjectClaim.lean`,
`Proof/ProjectSampleClaim.lean`, `Proof/MergeClaim.lean`, `Proof/AttendFrames.lean` and `Proof/AttendClaim.lean` hold the
conjuncts. -/

@[expose] public section

noncomputable section

namespace Cert.Proof

theorem claim : Cert.Claim :=
  ⟨Cert.Kernel.Gen.facts, Cert.KernelIdeal.Gen.facts, Cert.ReferenceIdeal.Gen.facts, Cert.Sample.Gen.facts, Cert.SampleIdeal.Gen.facts,
    Cert.SampleReferenceIdeal.Gen.facts, Cert.Project.Gen.facts, Cert.ProjectIdeal.Gen.facts, Cert.ProjectReferenceIdeal.Gen.facts,
    Cert.ProjectSample.Gen.facts, Cert.ProjectSampleIdeal.Gen.facts, Cert.ProjectSampleReferenceIdeal.Gen.facts,
    Cert.Merge.Gen.facts, Cert.MergeIdeal.Gen.facts, Cert.MergeReferenceIdeal.Gen.facts,
    Cert.Attend.Gen.facts, Cert.AttendIdeal.Gen.facts, Cert.AttendReferenceIdeal.Gen.facts,
    Cert.Pre_finite_gates.Gen.facts, Cert.Pre_gates.Gen.facts, Cert.Pre_finite.Gen.facts,
    Cert.Gla.frame_prompt, Cert.Gla.frame_promptIdeal, Cert.Gla.frame_promptIdeal_gates,
    Cert.Gla.frame_promptReference, Cert.Gla.frame_promptReference_gates,
    Cert.Gla.frame_sample, Cert.Gla.frame_sampleIdeal, Cert.Gla.frame_sampleIdeal_gates,
    Cert.Gla.frame_sampleReference, Cert.Gla.frame_sampleReference_gates,
    Cert.Proj.frame_prompt, Cert.Proj.frame_promptIdeal, Cert.Proj.frame_promptReference,
    Cert.Proj.frame_sample, Cert.Proj.frame_sampleIdeal, Cert.Proj.frame_sampleReference,
    Cert.Merge.frame_prompt, Cert.Merge.frame_promptIdeal, Cert.Merge.frame_promptReference,
    Cert.Sb.frame_prompt, Cert.Sb.frame_promptIdeal, Cert.Sb.frame_promptIdeal_finite,
    Cert.Sb.frame_promptReference, Cert.Sb.frame_promptReference_finite,
    trivial, Cert.Gla.algebraic_prompt, trivial, Cert.Gla.algebraic_sample, trivial, Cert.Proj.algebraic_prompt,
    trivial, Cert.Proj.algebraic_sample, trivial, Cert.Merge.algebraic_prompt,
    Cert.Sb.preserves_prompt, Cert.Sb.algebraic_prompt⟩

end Cert.Proof

end
